-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_mlp [hPre_finite_mlp : Cert.Pre_finite_mlp.Facts] (m : (ℓ : Loc Cert.KernelIdeal.nD Cert.KernelIdeal.τ Cert.KernelIdeal.sig) → Buf (Elt Ideal) ℓ) : Prop :=
  ∀ c : Dev Cert.KernelIdeal.nD,
    (Cert.Pre_finite_mlp.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_mlp [hPre_finite_mlp : Cert.Pre_finite_mlp.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_mlp.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Fox (m : (ℓ : Loc Cert.Fox.nD Cert.Fox.τ Cert.Fox.sig) → Buf (Elt Bits) ℓ) : Prop :=
  True

def Pre_FoxIdeal (m : (ℓ : Loc Cert.FoxIdeal.nD Cert.FoxIdeal.τ Cert.FoxIdeal.sig) → Buf (Elt Ideal) ℓ) : Prop :=
  True

def Pre_FoxIdeal_finite_fox [hPre_finite_fox : Cert.Pre_finite_fox.Facts] (m : (ℓ : Loc Cert.FoxIdeal.nD Cert.FoxIdeal.τ Cert.FoxIdeal.sig) → Buf (Elt Ideal) ℓ) : Prop :=
  ∀ c : Dev Cert.FoxIdeal.nD,
    (Cert.Pre_finite_fox.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1)) (m ((c.tc : Thread Cert.FoxIdeal.nD Cert.FoxIdeal.τ).loc Cert.FoxIdeal.main_arg2)) (m ((c.tc : Thread Cert.FoxIdeal.nD Cert.FoxIdeal.τ).loc Cert.FoxIdeal.main_arg3)) (m ((c.tc : Thread Cert.FoxIdeal.nD Cert.FoxIdeal.τ).loc Cert.FoxIdeal.main_arg4))) = (fun _ => 1#1)

def Pre_FoxReferenceIdeal (m : (ℓ : Loc Cert.FoxReferenceIdeal.nD Cert.FoxReferenceIdeal.τ Cert.FoxReferenceIdeal.sig) → Buf (Elt Ideal) ℓ) : Prop :=
  True

def Pre_FoxReferenceIdeal_finite_fox [hPre_finite_fox : Cert.Pre_finite_fox.Facts] (m : (ℓ : Loc Cert.FoxReferenceIdeal.nD Cert.FoxReferenceIdeal.τ Cert.FoxReferenceIdeal.sig) → Buf (Elt Ideal) ℓ) : Prop :=
  ∀ c : Dev Cert.FoxReferenceIdeal.nD,
    (Cert.Pre_finite_fox.fn (F := Ideal) (m ((c.tc : Thread Cert.FoxReferenceIdeal.nD Cert.FoxReferenceIdeal.τ).loc Cert.FoxReferenceIdeal.main_arg0)) (m ((c.tc : Thread Cert.FoxReferenceIdeal.nD Cert.FoxReferenceIdeal.τ).loc Cert.FoxReferenceIdeal.main_arg1)) (m ((c.tc : Thread Cert.FoxReferenceIdeal.nD Cert.FoxReferenceIdeal.τ).loc Cert.FoxReferenceIdeal.main_arg2)) (m ((c.tc : Thread Cert.FoxReferenceIdeal.nD Cert.FoxReferenceIdeal.τ).loc Cert.FoxReferenceIdeal.main_arg3)) (m ((c.tc : Thread Cert.FoxReferenceIdeal.nD Cert.FoxReferenceIdeal.τ).loc Cert.FoxReferenceIdeal.main_arg4))) = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_Swa (m : (ℓ : Loc Cert.Swa.nD Cert.Swa.τ Cert.Swa.sig) → Buf (Elt Bits) ℓ) : Prop :=
  True

def Pre_SwaIdeal (m : (ℓ : Loc Cert.SwaIdeal.nD Cert.SwaIdeal.τ Cert.SwaIdeal.sig) → Buf (Elt Ideal) ℓ) : Prop :=
  True

def Pre_SwaReferenceIdeal (m : (ℓ : Loc Cert.SwaReferenceIdeal.nD Cert.SwaReferenceIdeal.τ Cert.SwaReferenceIdeal.sig) → Buf (Elt Ideal) ℓ) : Prop :=
  True

def Pre_Ffw (m : (ℓ : Loc Cert.Ffw.nD Cert.Ffw.τ Cert.Ffw.sig) → Buf (Elt Bits) ℓ) : Prop :=
  True

def Pre_FfwIdeal (m : (ℓ : Loc Cert.FfwIdeal.nD Cert.FfwIdeal.τ Cert.FfwIdeal.sig) → Buf (Elt Ideal) ℓ) : Prop :=
  True

def Pre_FfwIdeal_finite_ffw [hPre_finite_ffw : Cert.Pre_finite_ffw.Facts] (m : (ℓ : Loc Cert.FfwIdeal.nD Cert.FfwIdeal.τ Cert.FfwIdeal.sig) → Buf (Elt Ideal) ℓ) : Prop :=
  ∀ c : Dev Cert.FfwIdeal.nD,
    (Cert.Pre_finite_ffw.fn (F := Ideal) (m ((c.tc : Thread Cert.FfwIdeal.nD Cert.FfwIdeal.τ).loc Cert.FfwIdeal.main_arg0)) (m ((c.tc : Thread Cert.FfwIdeal.nD Cert.FfwIdeal.τ).loc Cert.FfwIdeal.main_arg1)) (m ((c.tc : Thread Cert.FfwIdeal.nD Cert.FfwIdeal.τ).loc Cert.FfwIdeal.main_arg2)) (m ((c.tc : Thread Cert.FfwIdeal.nD Cert.FfwIdeal.τ).loc Cert.FfwIdeal.main_arg3))) = (fun _ => 1#1)

def Pre_FfwReferenceIdeal (m : (ℓ : Loc Cert.FfwReferenceIdeal.nD Cert.FfwReferenceIdeal.τ Cert.FfwReferenceIdeal.sig) → Buf (Elt Ideal) ℓ) : Prop :=
  True

def Pre_FfwReferenceIdeal_finite_ffw [hPre_finite_ffw : Cert.Pre_finite_ffw.Facts] (m : (ℓ : Loc Cert.FfwReferenceIdeal.nD Cert.FfwReferenceIdeal.τ Cert.FfwReferenceIdeal.sig) → Buf (Elt Ideal) ℓ) : Prop :=
  ∀ c : Dev Cert.FfwReferenceIdeal.nD,
    (Cert.Pre_finite_ffw.fn (F := Ideal) (m ((c.tc : Thread Cert.FfwReferenceIdeal.nD Cert.FfwReferenceIdeal.τ).loc Cert.FfwReferenceIdeal.main_arg0)) (m ((c.tc : Thread Cert.FfwReferenceIdeal.nD Cert.FfwReferenceIdeal.τ).loc Cert.FfwReferenceIdeal.main_arg1)) (m ((c.tc : Thread Cert.FfwReferenceIdeal.nD Cert.FfwReferenceIdeal.τ).loc Cert.FfwReferenceIdeal.main_arg2)) (m ((c.tc : Thread Cert.FfwReferenceIdeal.nD Cert.FfwReferenceIdeal.τ).loc Cert.FfwReferenceIdeal.main_arg3))) = (fun _ => 1#1)

def Pre_Xn (m : (ℓ : Loc Cert.Xn.nD Cert.Xn.τ Cert.Xn.sig) → Buf (Elt Bits) ℓ) : Prop :=
  True

def Pre_XnIdeal (m : (ℓ : Loc Cert.XnIdeal.nD Cert.XnIdeal.τ Cert.XnIdeal.sig) → Buf (Elt Ideal) ℓ) : Prop :=
  True

def Pre_XnReferenceIdeal (m : (ℓ : Loc Cert.XnReferenceIdeal.nD Cert.XnReferenceIdeal.τ Cert.XnReferenceIdeal.sig) → Buf (Elt Ideal) ℓ) : Prop :=
  True

def Pre_Mf (m : (ℓ : Loc Cert.Mf.nD Cert.Mf.τ Cert.Mf.sig) → Buf (Elt Bits) ℓ) : Prop :=
  True

def Pre_MfIdeal (m : (ℓ : Loc Cert.MfIdeal.nD Cert.MfIdeal.τ Cert.MfIdeal.sig) → Buf (Elt Ideal) ℓ) : Prop :=
  True

def Pre_MfReferenceIdeal (m : (ℓ : Loc Cert.MfReferenceIdeal.nD Cert.MfReferenceIdeal.τ Cert.MfReferenceIdeal.sig) → Buf (Elt Ideal) ℓ) : Prop :=
  True

def Pre_Np (m : (ℓ : Loc Cert.Np.nD Cert.Np.τ Cert.Np.sig) → Buf (Elt Bits) ℓ) : Prop :=
  True

def Pre_NpIdeal (m : (ℓ : Loc Cert.NpIdeal.nD Cert.NpIdeal.τ Cert.NpIdeal.sig) → Buf (Elt Ideal) ℓ) : Prop :=
  True

def Pre_NpReferenceIdeal (m : (ℓ : Loc Cert.NpReferenceIdeal.nD Cert.NpReferenceIdeal.τ Cert.NpReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_mlp [hKernelIdeal : Cert.KernelIdeal.Facts] [hPre_finite_mlp : Cert.Pre_finite_mlp.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_mlp m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_mlp [hReferenceIdeal : Cert.ReferenceIdeal.Facts] [hPre_finite_mlp : Cert.Pre_finite_mlp.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_mlp m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Fox [hFox : Cert.Fox.Facts] : Prop :=
  ∀ (m : (ℓ : Loc Cert.Fox.nD Cert.Fox.τ Cert.Fox.sig) → Buf (Elt Bits) ℓ) (g : Dev Cert.Fox.nD → PrngReg), Pre_Fox m →
    θ_run (Cert.Fox.defs (F := Bits)) (onTc (τ := Cert.Fox.τ) (Cert.Fox.main (F := Bits))) ⟨m, fun _ => 0, g⟩ (fun r => (∀ c : Dev Cert.Fox.nD,
      r.2.mem ((c.tc : Thread Cert.Fox.nD Cert.Fox.τ).loc Cert.Fox.main_arg0) = m ((c.tc : Thread Cert.Fox.nD Cert.Fox.τ).loc Cert.Fox.main_arg0)
      ∧ r.2.mem ((c.tc : Thread Cert.Fox.nD Cert.Fox.τ).loc Cert.Fox.main_arg1) = m ((c.tc : Thread Cert.Fox.nD Cert.Fox.τ).loc Cert.Fox.main_arg1)
      ∧ r.2.mem ((c.tc : Thread Cert.Fox.nD Cert.Fox.τ).loc Cert.Fox.main_arg2) = m ((c.tc : Thread Cert.Fox.nD Cert.Fox.τ).loc Cert.Fox.main_arg2)
      ∧ r.2.mem ((c.tc : Thread Cert.Fox.nD Cert.Fox.τ).loc Cert.Fox.main_arg3) = m ((c.tc : Thread Cert.Fox.nD Cert.Fox.τ).loc Cert.Fox.main_arg3)
      ∧ r.2.mem ((c.tc : Thread Cert.Fox.nD Cert.Fox.τ).loc Cert.Fox.main_arg4) = m ((c.tc : Thread Cert.Fox.nD Cert.Fox.τ).loc Cert.Fox.main_arg4))
      ∧ r.2.sem = fun _ => 0)

def quiescent_FoxIdeal [hFoxIdeal : Cert.FoxIdeal.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
      ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
      ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3)
      ∧ r.2.mem ((c.tc : Thread Cert.FoxIdeal.nD Cert.FoxIdeal.τ).loc Cert.FoxIdeal.main_arg4) = m ((c.tc : Thread Cert.FoxIdeal.nD Cert.FoxIdeal.τ).loc Cert.FoxIdeal.main_arg4))
      ∧ r.2.sem = fun _ => 0)

def quiescent_FoxIdeal_pre_finite_fox [hFoxIdeal : Cert.FoxIdeal.Facts] [hPre_finite_fox : Cert.Pre_finite_fox.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal_finite_fox m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
      ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
      ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3)
      ∧ r.2.mem ((c.tc : Thread Cert.FoxIdeal.nD Cert.FoxIdeal.τ).loc Cert.FoxIdeal.main_arg4) = m ((c.tc : Thread Cert.FoxIdeal.nD Cert.FoxIdeal.τ).loc Cert.FoxIdeal.main_arg4))
      ∧ r.2.sem = fun _ => 0)

def quiescent_FoxReferenceIdeal [hFoxReferenceIdeal : Cert.FoxReferenceIdeal.Facts] : Prop :=
  ∀ (m : (ℓ : Loc Cert.FoxReferenceIdeal.nD Cert.FoxReferenceIdeal.τ Cert.FoxReferenceIdeal.sig) → Buf (Elt Ideal) ℓ) (g : Dev Cert.FoxReferenceIdeal.nD → PrngReg), Pre_FoxReferenceIdeal m →
    θ_run (Cert.FoxReferenceIdeal.defs (F := Ideal)) (onTc (τ := Cert.FoxReferenceIdeal.τ) (Cert.FoxReferenceIdeal.main (F := Ideal))) ⟨m, fun _ => 0, g⟩ (fun r => (∀ c : Dev Cert.FoxReferenceIdeal.nD,
      r.2.mem ((c.tc : Thread Cert.FoxReferenceIdeal.nD Cert.FoxReferenceIdeal.τ).loc Cert.FoxReferenceIdeal.main_arg0) = m ((c.tc : Thread Cert.FoxReferenceIdeal.nD Cert.FoxReferenceIdeal.τ).loc Cert.FoxReferenceIdeal.main_arg0)
      ∧ r.2.mem ((c.tc : Thread Cert.FoxReferenceIdeal.nD Cert.FoxReferenceIdeal.τ).loc Cert.FoxReferenceIdeal.main_arg1) = m ((c.tc : Thread Cert.FoxReferenceIdeal.nD Cert.FoxReferenceIdeal.τ).loc Cert.FoxReferenceIdeal.main_arg1)
      ∧ r.2.mem ((c.tc : Thread Cert.FoxReferenceIdeal.nD Cert.FoxReferenceIdeal.τ).loc Cert.FoxReferenceIdeal.main_arg2) = m ((c.tc : Thread Cert.FoxReferenceIdeal.nD Cert.FoxReferenceIdeal.τ).loc Cert.FoxReferenceIdeal.main_arg2)
      ∧ r.2.mem ((c.tc : Thread Cert.FoxReferenceIdeal.nD Cert.FoxReferenceIdeal.τ).loc Cert.FoxReferenceIdeal.main_arg3) = m ((c.tc : Thread Cert.FoxReferenceIdeal.nD Cert.FoxReferenceIdeal.τ).loc Cert.FoxReferenceIdeal.main_arg3)
      ∧ r.2.mem ((c.tc : Thread Cert.FoxReferenceIdeal.nD Cert.FoxReferenceIdeal.τ).loc Cert.FoxReferenceIdeal.main_arg4) = m ((c.tc : Thread Cert.FoxReferenceIdeal.nD Cert.FoxReferenceIdeal.τ).loc Cert.FoxReferenceIdeal.main_arg4))
      ∧ r.2.sem = fun _ => 0)

def quiescent_FoxReferenceIdeal_pre_finite_fox [hFoxReferenceIdeal : Cert.FoxReferenceIdeal.Facts] [hPre_finite_fox : Cert.Pre_finite_fox.Facts] : Prop :=
  ∀ (m : (ℓ : Loc Cert.FoxReferenceIdeal.nD Cert.FoxReferenceIdeal.τ Cert.FoxReferenceIdeal.sig) → Buf (Elt Ideal) ℓ) (g : Dev Cert.FoxReferenceIdeal.nD → PrngReg), Pre_FoxReferenceIdeal_finite_fox m →
    θ_run (Cert.FoxReferenceIdeal.defs (F := Ideal)) (onTc (τ := Cert.FoxReferenceIdeal.τ) (Cert.FoxReferenceIdeal.main (F := Ideal))) ⟨m, fun _ => 0, g⟩ (fun r => (∀ c : Dev Cert.FoxReferenceIdeal.nD,
      r.2.mem ((c.tc : Thread Cert.FoxReferenceIdeal.nD Cert.FoxReferenceIdeal.τ).loc Cert.FoxReferenceIdeal.main_arg0) = m ((c.tc : Thread Cert.FoxReferenceIdeal.nD Cert.FoxReferenceIdeal.τ).loc Cert.FoxReferenceIdeal.main_arg0)
      ∧ r.2.mem ((c.tc : Thread Cert.FoxReferenceIdeal.nD Cert.FoxReferenceIdeal.τ).loc Cert.FoxReferenceIdeal.main_arg1) = m ((c.tc : Thread Cert.FoxReferenceIdeal.nD Cert.FoxReferenceIdeal.τ).loc Cert.FoxReferenceIdeal.main_arg1)
      ∧ r.2.mem ((c.tc : Thread Cert.FoxReferenceIdeal.nD Cert.FoxReferenceIdeal.τ).loc Cert.FoxReferenceIdeal.main_arg2) = m ((c.tc : Thread Cert.FoxReferenceIdeal.nD Cert.FoxReferenceIdeal.τ).loc Cert.FoxReferenceIdeal.main_arg2)
      ∧ r.2.mem ((c.tc : Thread Cert.FoxReferenceIdeal.nD Cert.FoxReferenceIdeal.τ).loc Cert.FoxReferenceIdeal.main_arg3) = m ((c.tc : Thread Cert.FoxReferenceIdeal.nD Cert.FoxReferenceIdeal.τ).loc Cert.FoxReferenceIdeal.main_arg3)
      ∧ r.2.mem ((c.tc : Thread Cert.FoxReferenceIdeal.nD Cert.FoxReferenceIdeal.τ).loc Cert.FoxReferenceIdeal.main_arg4) = m ((c.tc : Thread Cert.FoxReferenceIdeal.nD Cert.FoxReferenceIdeal.τ).loc Cert.FoxReferenceIdeal.main_arg4))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6)
      ∧ r.2.mem ((c.tc : Thread Cert.Proj.nD Cert.Proj.τ).loc Cert.Proj.main_arg7) = m ((c.tc : Thread Cert.Proj.nD Cert.Proj.τ).loc Cert.Proj.main_arg7)
      ∧ r.2.mem ((c.tc : Thread Cert.Proj.nD Cert.Proj.τ).loc Cert.Proj.main_arg8) = m ((c.tc : Thread Cert.Proj.nD Cert.Proj.τ).loc Cert.Proj.main_arg8)
      ∧ r.2.mem ((c.tc : Thread Cert.Proj.nD Cert.Proj.τ).loc Cert.Proj.main_arg9) = m ((c.tc : Thread Cert.Proj.nD Cert.Proj.τ).loc Cert.Proj.main_arg9)
      ∧ r.2.mem ((c.tc : Thread Cert.Proj.nD Cert.Proj.τ).loc Cert.Proj.main_arg10) = m ((c.tc : Thread Cert.Proj.nD Cert.Proj.τ).loc Cert.Proj.main_arg10)
      ∧ r.2.mem ((c.tc : Thread Cert.Proj.nD Cert.Proj.τ).loc Cert.Proj.main_arg11) = m ((c.tc : Thread Cert.Proj.nD Cert.Proj.τ).loc Cert.Proj.main_arg11)
      ∧ r.2.mem ((c.tc : Thread Cert.Proj.nD Cert.Proj.τ).loc Cert.Proj.main_arg12) = m ((c.tc : Thread Cert.Proj.nD Cert.Proj.τ).loc Cert.Proj.main_arg12)
      ∧ r.2.mem ((c.tc : Thread Cert.Proj.nD Cert.Proj.τ).loc Cert.Proj.main_arg13) = m ((c.tc : Thread Cert.Proj.nD Cert.Proj.τ).loc Cert.Proj.main_arg13)
      ∧ r.2.mem ((c.tc : Thread Cert.Proj.nD Cert.Proj.τ).loc Cert.Proj.main_arg14) = m ((c.tc : Thread Cert.Proj.nD Cert.Proj.τ).loc Cert.Proj.main_arg14)
      ∧ r.2.mem ((c.tc : Thread Cert.Proj.nD Cert.Proj.τ).loc Cert.Proj.main_arg15) = m ((c.tc : Thread Cert.Proj.nD Cert.Proj.τ).loc Cert.Proj.main_arg15)
      ∧ r.2.mem ((c.tc : Thread Cert.Proj.nD Cert.Proj.τ).loc Cert.Proj.main_arg16) = m ((c.tc : Thread Cert.Proj.nD Cert.Proj.τ).loc Cert.Proj.main_arg16))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
      ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
      ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8)
      ∧ r.2.mem ((c.tc : Thread Cert.ProjIdeal.nD Cert.ProjIdeal.τ).loc Cert.ProjIdeal.main_arg9) = m ((c.tc : Thread Cert.ProjIdeal.nD Cert.ProjIdeal.τ).loc Cert.ProjIdeal.main_arg9)
      ∧ r.2.mem ((c.tc : Thread Cert.ProjIdeal.nD Cert.ProjIdeal.τ).loc Cert.ProjIdeal.main_arg10) = m ((c.tc : Thread Cert.ProjIdeal.nD Cert.ProjIdeal.τ).loc Cert.ProjIdeal.main_arg10)
      ∧ r.2.mem ((c.tc : Thread Cert.ProjIdeal.nD Cert.ProjIdeal.τ).loc Cert.ProjIdeal.main_arg11) = m ((c.tc : Thread Cert.ProjIdeal.nD Cert.ProjIdeal.τ).loc Cert.ProjIdeal.main_arg11)
      ∧ r.2.mem ((c.tc : Thread Cert.ProjIdeal.nD Cert.ProjIdeal.τ).loc Cert.ProjIdeal.main_arg12) = m ((c.tc : Thread Cert.ProjIdeal.nD Cert.ProjIdeal.τ).loc Cert.ProjIdeal.main_arg12)
      ∧ r.2.mem ((c.tc : Thread Cert.ProjIdeal.nD Cert.ProjIdeal.τ).loc Cert.ProjIdeal.main_arg13) = m ((c.tc : Thread Cert.ProjIdeal.nD Cert.ProjIdeal.τ).loc Cert.ProjIdeal.main_arg13)
      ∧ r.2.mem ((c.tc : Thread Cert.ProjIdeal.nD Cert.ProjIdeal.τ).loc Cert.ProjIdeal.main_arg14) = m ((c.tc : Thread Cert.ProjIdeal.nD Cert.ProjIdeal.τ).loc Cert.ProjIdeal.main_arg14)
      ∧ r.2.mem ((c.tc : Thread Cert.ProjIdeal.nD Cert.ProjIdeal.τ).loc Cert.ProjIdeal.main_arg15) = m ((c.tc : Thread Cert.ProjIdeal.nD Cert.ProjIdeal.τ).loc Cert.ProjIdeal.main_arg15)
      ∧ r.2.mem ((c.tc : Thread Cert.ProjIdeal.nD Cert.ProjIdeal.τ).loc Cert.ProjIdeal.main_arg16) = m ((c.tc : Thread Cert.ProjIdeal.nD Cert.ProjIdeal.τ).loc Cert.ProjIdeal.main_arg16))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4)
      ∧ r.2.mem ((c.tc : Thread Cert.ProjReferenceIdeal.nD Cert.ProjReferenceIdeal.τ).loc Cert.ProjReferenceIdeal.main_arg5) = m ((c.tc : Thread Cert.ProjReferenceIdeal.nD Cert.ProjReferenceIdeal.τ).loc Cert.ProjReferenceIdeal.main_arg5)
      ∧ r.2.mem ((c.tc : Thread Cert.ProjReferenceIdeal.nD Cert.ProjReferenceIdeal.τ).loc Cert.ProjReferenceIdeal.main_arg6) = m ((c.tc : Thread Cert.ProjReferenceIdeal.nD Cert.ProjReferenceIdeal.τ).loc Cert.ProjReferenceIdeal.main_arg6)
      ∧ r.2.mem ((c.tc : Thread Cert.ProjReferenceIdeal.nD Cert.ProjReferenceIdeal.τ).loc Cert.ProjReferenceIdeal.main_arg7) = m ((c.tc : Thread Cert.ProjReferenceIdeal.nD Cert.ProjReferenceIdeal.τ).loc Cert.ProjReferenceIdeal.main_arg7)
      ∧ r.2.mem ((c.tc : Thread Cert.ProjReferenceIdeal.nD Cert.ProjReferenceIdeal.τ).loc Cert.ProjReferenceIdeal.main_arg8) = m ((c.tc : Thread Cert.ProjReferenceIdeal.nD Cert.ProjReferenceIdeal.τ).loc Cert.ProjReferenceIdeal.main_arg8)
      ∧ r.2.mem ((c.tc : Thread Cert.ProjReferenceIdeal.nD Cert.ProjReferenceIdeal.τ).loc Cert.ProjReferenceIdeal.main_arg9) = m ((c.tc : Thread Cert.ProjReferenceIdeal.nD Cert.ProjReferenceIdeal.τ).loc Cert.ProjReferenceIdeal.main_arg9)
      ∧ r.2.mem ((c.tc : Thread Cert.ProjReferenceIdeal.nD Cert.ProjReferenceIdeal.τ).loc Cert.ProjReferenceIdeal.main_arg10) = m ((c.tc : Thread Cert.ProjReferenceIdeal.nD Cert.ProjReferenceIdeal.τ).loc Cert.ProjReferenceIdeal.main_arg10)
      ∧ r.2.mem ((c.tc : Thread Cert.ProjReferenceIdeal.nD Cert.ProjReferenceIdeal.τ).loc Cert.ProjReferenceIdeal.main_arg11) = m ((c.tc : Thread Cert.ProjReferenceIdeal.nD Cert.ProjReferenceIdeal.τ).loc Cert.ProjReferenceIdeal.main_arg11)
      ∧ r.2.mem ((c.tc : Thread Cert.ProjReferenceIdeal.nD Cert.ProjReferenceIdeal.τ).loc Cert.ProjReferenceIdeal.main_arg12) = m ((c.tc : Thread Cert.ProjReferenceIdeal.nD Cert.ProjReferenceIdeal.τ).loc Cert.ProjReferenceIdeal.main_arg12)
      ∧ r.2.mem ((c.tc : Thread Cert.ProjReferenceIdeal.nD Cert.ProjReferenceIdeal.τ).loc Cert.ProjReferenceIdeal.main_arg13) = m ((c.tc : Thread Cert.ProjReferenceIdeal.nD Cert.ProjReferenceIdeal.τ).loc Cert.ProjReferenceIdeal.main_arg13)
      ∧ r.2.mem ((c.tc : Thread Cert.ProjReferenceIdeal.nD Cert.ProjReferenceIdeal.τ).loc Cert.ProjReferenceIdeal.main_arg14) = m ((c.tc : Thread Cert.ProjReferenceIdeal.nD Cert.ProjReferenceIdeal.τ).loc Cert.ProjReferenceIdeal.main_arg14)
      ∧ r.2.mem ((c.tc : Thread Cert.ProjReferenceIdeal.nD Cert.ProjReferenceIdeal.τ).loc Cert.ProjReferenceIdeal.main_arg15) = m ((c.tc : Thread Cert.ProjReferenceIdeal.nD Cert.ProjReferenceIdeal.τ).loc Cert.ProjReferenceIdeal.main_arg15)
      ∧ r.2.mem ((c.tc : Thread Cert.ProjReferenceIdeal.nD Cert.ProjReferenceIdeal.τ).loc Cert.ProjReferenceIdeal.main_arg16) = m ((c.tc : Thread Cert.ProjReferenceIdeal.nD Cert.ProjReferenceIdeal.τ).loc Cert.ProjReferenceIdeal.main_arg16))
      ∧ r.2.sem = fun _ => 0)

def quiescent_Swa [hSwa : Cert.Swa.Facts] : Prop :=
  ∀ (m : (ℓ : Loc Cert.Swa.nD Cert.Swa.τ Cert.Swa.sig) → Buf (Elt Bits) ℓ) (g : Dev Cert.Swa.nD → PrngReg), Pre_Swa m →
    θ_run (Cert.Swa.defs (F := Bits)) (onTc (τ := Cert.Swa.τ) (Cert.Swa.main (F := Bits))) ⟨m, fun _ => 0, g⟩ (fun r => (∀ c : Dev Cert.Swa.nD,
      r.2.mem ((c.tc : Thread Cert.Swa.nD Cert.Swa.τ).loc Cert.Swa.main_arg0) = m ((c.tc : Thread Cert.Swa.nD Cert.Swa.τ).loc Cert.Swa.main_arg0)
      ∧ r.2.mem ((c.tc : Thread Cert.Swa.nD Cert.Swa.τ).loc Cert.Swa.main_arg1) = m ((c.tc : Thread Cert.Swa.nD Cert.Swa.τ).loc Cert.Swa.main_arg1)
      ∧ r.2.mem ((c.tc : Thread Cert.Swa.nD Cert.Swa.τ).loc Cert.Swa.main_arg2) = m ((c.tc : Thread Cert.Swa.nD Cert.Swa.τ).loc Cert.Swa.main_arg2)
      ∧ r.2.mem ((c.tc : Thread Cert.Swa.nD Cert.Swa.τ).loc Cert.Swa.main_arg3) = m ((c.tc : Thread Cert.Swa.nD Cert.Swa.τ).loc Cert.Swa.main_arg3)
      ∧ r.2.mem ((c.tc : Thread Cert.Swa.nD Cert.Swa.τ).loc Cert.Swa.main_arg4) = m ((c.tc : Thread Cert.Swa.nD Cert.Swa.τ).loc Cert.Swa.main_arg4))
      ∧ r.2.sem = fun _ => 0)

def quiescent_SwaIdeal [hSwaIdeal : Cert.SwaIdeal.Facts] : Prop :=
  ∀ (m : (ℓ : Loc Cert.SwaIdeal.nD Cert.SwaIdeal.τ Cert.SwaIdeal.sig) → Buf (Elt Ideal) ℓ) (g : Dev Cert.SwaIdeal.nD → PrngReg), Pre_SwaIdeal m →
    θ_run (Cert.SwaIdeal.defs (F := Ideal)) (onTc (τ := Cert.SwaIdeal.τ) (Cert.SwaIdeal.main (F := Ideal))) ⟨m, fun _ => 0, g⟩ (fun r => (∀ c : Dev Cert.SwaIdeal.nD,
      r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
      ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1)
      ∧ r.2.mem ((c.tc : Thread Cert.SwaIdeal.nD Cert.SwaIdeal.τ).loc Cert.SwaIdeal.main_arg2) = m ((c.tc : Thread Cert.SwaIdeal.nD Cert.SwaIdeal.τ).loc Cert.SwaIdeal.main_arg2)
      ∧ r.2.mem ((c.tc : Thread Cert.SwaIdeal.nD Cert.SwaIdeal.τ).loc Cert.SwaIdeal.main_arg3) = m ((c.tc : Thread Cert.SwaIdeal.nD Cert.SwaIdeal.τ).loc Cert.SwaIdeal.main_arg3)
      ∧ r.2.mem ((c.tc : Thread Cert.SwaIdeal.nD Cert.SwaIdeal.τ).loc Cert.SwaIdeal.main_arg4) = m ((c.tc : Thread Cert.SwaIdeal.nD Cert.SwaIdeal.τ).loc Cert.SwaIdeal.main_arg4))
      ∧ r.2.sem = fun _ => 0)

def quiescent_SwaReferenceIdeal [hSwaReferenceIdeal : Cert.SwaReferenceIdeal.Facts] : Prop :=
  ∀ (m : (ℓ : Loc Cert.SwaReferenceIdeal.nD Cert.SwaReferenceIdeal.τ Cert.SwaReferenceIdeal.sig) → Buf (Elt Ideal) ℓ) (g : Dev Cert.SwaReferenceIdeal.nD → PrngReg), Pre_SwaReferenceIdeal m →
    θ_run (Cert.SwaReferenceIdeal.defs (F := Ideal)) (onTc (τ := Cert.SwaReferenceIdeal.τ) (Cert.SwaReferenceIdeal.main (F := Ideal))) ⟨m, fun _ => 0, g⟩ (fun r => (∀ c : Dev Cert.SwaReferenceIdeal.nD,
      r.2.mem ((c.tc : Thread Cert.SwaReferenceIdeal.nD Cert.SwaReferenceIdeal.τ).loc Cert.SwaReferenceIdeal.main_arg0) = m ((c.tc : Thread Cert.SwaReferenceIdeal.nD Cert.SwaReferenceIdeal.τ).loc Cert.SwaReferenceIdeal.main_arg0)
      ∧ r.2.mem ((c.tc : Thread Cert.SwaReferenceIdeal.nD Cert.SwaReferenceIdeal.τ).loc Cert.SwaReferenceIdeal.main_arg1) = m ((c.tc : Thread Cert.SwaReferenceIdeal.nD Cert.SwaReferenceIdeal.τ).loc Cert.SwaReferenceIdeal.main_arg1)
      ∧ r.2.mem ((c.tc : Thread Cert.SwaReferenceIdeal.nD Cert.SwaReferenceIdeal.τ).loc Cert.SwaReferenceIdeal.main_arg2) = m ((c.tc : Thread Cert.SwaReferenceIdeal.nD Cert.SwaReferenceIdeal.τ).loc Cert.SwaReferenceIdeal.main_arg2)
      ∧ r.2.mem ((c.tc : Thread Cert.SwaReferenceIdeal.nD Cert.SwaReferenceIdeal.τ).loc Cert.SwaReferenceIdeal.main_arg3) = m ((c.tc : Thread Cert.SwaReferenceIdeal.nD Cert.SwaReferenceIdeal.τ).loc Cert.SwaReferenceIdeal.main_arg3)
      ∧ r.2.mem ((c.tc : Thread Cert.SwaReferenceIdeal.nD Cert.SwaReferenceIdeal.τ).loc Cert.SwaReferenceIdeal.main_arg4) = m ((c.tc : Thread Cert.SwaReferenceIdeal.nD Cert.SwaReferenceIdeal.τ).loc Cert.SwaReferenceIdeal.main_arg4))
      ∧ r.2.sem = fun _ => 0)

def quiescent_Ffw [hFfw : Cert.Ffw.Facts] : Prop :=
  ∀ (m : (ℓ : Loc Cert.Ffw.nD Cert.Ffw.τ Cert.Ffw.sig) → Buf (Elt Bits) ℓ) (g : Dev Cert.Ffw.nD → PrngReg), Pre_Ffw m →
    θ_run (Cert.Ffw.defs (F := Bits)) (onTc (τ := Cert.Ffw.τ) (Cert.Ffw.main (F := Bits))) ⟨m, fun _ => 0, g⟩ (fun r => (∀ c : Dev Cert.Ffw.nD,
      r.2.mem ((c.tc : Thread Cert.Ffw.nD Cert.Ffw.τ).loc Cert.Ffw.main_arg0) = m ((c.tc : Thread Cert.Ffw.nD Cert.Ffw.τ).loc Cert.Ffw.main_arg0)
      ∧ r.2.mem ((c.tc : Thread Cert.Ffw.nD Cert.Ffw.τ).loc Cert.Ffw.main_arg1) = m ((c.tc : Thread Cert.Ffw.nD Cert.Ffw.τ).loc Cert.Ffw.main_arg1)
      ∧ r.2.mem ((c.tc : Thread Cert.Ffw.nD Cert.Ffw.τ).loc Cert.Ffw.main_arg2) = m ((c.tc : Thread Cert.Ffw.nD Cert.Ffw.τ).loc Cert.Ffw.main_arg2)
      ∧ r.2.mem ((c.tc : Thread Cert.Ffw.nD Cert.Ffw.τ).loc Cert.Ffw.main_arg3) = m ((c.tc : Thread Cert.Ffw.nD Cert.Ffw.τ).loc Cert.Ffw.main_arg3))
      ∧ r.2.sem = fun _ => 0)

def quiescent_FfwIdeal [hFfwIdeal : Cert.FfwIdeal.Facts] : Prop :=
  ∀ (m : (ℓ : Loc Cert.FfwIdeal.nD Cert.FfwIdeal.τ Cert.FfwIdeal.sig) → Buf (Elt Ideal) ℓ) (g : Dev Cert.FfwIdeal.nD → PrngReg), Pre_FfwIdeal m →
    θ_run (Cert.FfwIdeal.defs (F := Ideal)) (onTc (τ := Cert.FfwIdeal.τ) (Cert.FfwIdeal.main (F := Ideal))) ⟨m, fun _ => 0, g⟩ (fun r => (∀ c : Dev Cert.FfwIdeal.nD,
      r.2.mem ((c.tc : Thread Cert.FfwIdeal.nD Cert.FfwIdeal.τ).loc Cert.FfwIdeal.main_arg0) = m ((c.tc : Thread Cert.FfwIdeal.nD Cert.FfwIdeal.τ).loc Cert.FfwIdeal.main_arg0)
      ∧ r.2.mem ((c.tc : Thread Cert.FfwIdeal.nD Cert.FfwIdeal.τ).loc Cert.FfwIdeal.main_arg1) = m ((c.tc : Thread Cert.FfwIdeal.nD Cert.FfwIdeal.τ).loc Cert.FfwIdeal.main_arg1)
      ∧ r.2.mem ((c.tc : Thread Cert.FfwIdeal.nD Cert.FfwIdeal.τ).loc Cert.FfwIdeal.main_arg2) = m ((c.tc : Thread Cert.FfwIdeal.nD Cert.FfwIdeal.τ).loc Cert.FfwIdeal.main_arg2)
      ∧ r.2.mem ((c.tc : Thread Cert.FfwIdeal.nD Cert.FfwIdeal.τ).loc Cert.FfwIdeal.main_arg3) = m ((c.tc : Thread Cert.FfwIdeal.nD Cert.FfwIdeal.τ).loc Cert.FfwIdeal.main_arg3))
      ∧ r.2.sem = fun _ => 0)

def quiescent_FfwIdeal_pre_finite_ffw [hFfwIdeal : Cert.FfwIdeal.Facts] [hPre_finite_ffw : Cert.Pre_finite_ffw.Facts] : Prop :=
  ∀ (m : (ℓ : Loc Cert.FfwIdeal.nD Cert.FfwIdeal.τ Cert.FfwIdeal.sig) → Buf (Elt Ideal) ℓ) (g : Dev Cert.FfwIdeal.nD → PrngReg), Pre_FfwIdeal_finite_ffw m →
    θ_run (Cert.FfwIdeal.defs (F := Ideal)) (onTc (τ := Cert.FfwIdeal.τ) (Cert.FfwIdeal.main (F := Ideal))) ⟨m, fun _ => 0, g⟩ (fun r => (∀ c : Dev Cert.FfwIdeal.nD,
      r.2.mem ((c.tc : Thread Cert.FfwIdeal.nD Cert.FfwIdeal.τ).loc Cert.FfwIdeal.main_arg0) = m ((c.tc : Thread Cert.FfwIdeal.nD Cert.FfwIdeal.τ).loc Cert.FfwIdeal.main_arg0)
      ∧ r.2.mem ((c.tc : Thread Cert.FfwIdeal.nD Cert.FfwIdeal.τ).loc Cert.FfwIdeal.main_arg1) = m ((c.tc : Thread Cert.FfwIdeal.nD Cert.FfwIdeal.τ).loc Cert.FfwIdeal.main_arg1)
      ∧ r.2.mem ((c.tc : Thread Cert.FfwIdeal.nD Cert.FfwIdeal.τ).loc Cert.FfwIdeal.main_arg2) = m ((c.tc : Thread Cert.FfwIdeal.nD Cert.FfwIdeal.τ).loc Cert.FfwIdeal.main_arg2)
      ∧ r.2.mem ((c.tc : Thread Cert.FfwIdeal.nD Cert.FfwIdeal.τ).loc Cert.FfwIdeal.main_arg3) = m ((c.tc : Thread Cert.FfwIdeal.nD Cert.FfwIdeal.τ).loc Cert.FfwIdeal.main_arg3))
      ∧ r.2.sem = fun _ => 0)

def quiescent_FfwReferenceIdeal [hFfwReferenceIdeal : Cert.FfwReferenceIdeal.Facts] : Prop :=
  ∀ (m : (ℓ : Loc Cert.FfwReferenceIdeal.nD Cert.FfwReferenceIdeal.τ Cert.FfwReferenceIdeal.sig) → Buf (Elt Ideal) ℓ) (g : Dev Cert.FfwReferenceIdeal.nD → PrngReg), Pre_FfwReferenceIdeal m →
    θ_run (Cert.FfwReferenceIdeal.defs (F := Ideal)) (onTc (τ := Cert.FfwReferenceIdeal.τ) (Cert.FfwReferenceIdeal.main (F := Ideal))) ⟨m, fun _ => 0, g⟩ (fun r => (∀ c : Dev Cert.FfwReferenceIdeal.nD,
      r.2.mem ((c.tc : Thread Cert.FfwReferenceIdeal.nD Cert.FfwReferenceIdeal.τ).loc Cert.FfwReferenceIdeal.main_arg0) = m ((c.tc : Thread Cert.FfwReferenceIdeal.nD Cert.FfwReferenceIdeal.τ).loc Cert.FfwReferenceIdeal.main_arg0)
      ∧ r.2.mem ((c.tc : Thread Cert.FfwReferenceIdeal.nD Cert.FfwReferenceIdeal.τ).loc Cert.FfwReferenceIdeal.main_arg1) = m ((c.tc : Thread Cert.FfwReferenceIdeal.nD Cert.FfwReferenceIdeal.τ).loc Cert.FfwReferenceIdeal.main_arg1)
      ∧ r.2.mem ((c.tc : Thread Cert.FfwReferenceIdeal.nD Cert.FfwReferenceIdeal.τ).loc Cert.FfwReferenceIdeal.main_arg2) = m ((c.tc : Thread Cert.FfwReferenceIdeal.nD Cert.FfwReferenceIdeal.τ).loc Cert.FfwReferenceIdeal.main_arg2)
      ∧ r.2.mem ((c.tc : Thread Cert.FfwReferenceIdeal.nD Cert.FfwReferenceIdeal.τ).loc Cert.FfwReferenceIdeal.main_arg3) = m ((c.tc : Thread Cert.FfwReferenceIdeal.nD Cert.FfwReferenceIdeal.τ).loc Cert.FfwReferenceIdeal.main_arg3))
      ∧ r.2.sem = fun _ => 0)

def quiescent_FfwReferenceIdeal_pre_finite_ffw [hFfwReferenceIdeal : Cert.FfwReferenceIdeal.Facts] [hPre_finite_ffw : Cert.Pre_finite_ffw.Facts] : Prop :=
  ∀ (m : (ℓ : Loc Cert.FfwReferenceIdeal.nD Cert.FfwReferenceIdeal.τ Cert.FfwReferenceIdeal.sig) → Buf (Elt Ideal) ℓ) (g : Dev Cert.FfwReferenceIdeal.nD → PrngReg), Pre_FfwReferenceIdeal_finite_ffw m →
    θ_run (Cert.FfwReferenceIdeal.defs (F := Ideal)) (onTc (τ := Cert.FfwReferenceIdeal.τ) (Cert.FfwReferenceIdeal.main (F := Ideal))) ⟨m, fun _ => 0, g⟩ (fun r => (∀ c : Dev Cert.FfwReferenceIdeal.nD,
      r.2.mem ((c.tc : Thread Cert.FfwReferenceIdeal.nD Cert.FfwReferenceIdeal.τ).loc Cert.FfwReferenceIdeal.main_arg0) = m ((c.tc : Thread Cert.FfwReferenceIdeal.nD Cert.FfwReferenceIdeal.τ).loc Cert.FfwReferenceIdeal.main_arg0)
      ∧ r.2.mem ((c.tc : Thread Cert.FfwReferenceIdeal.nD Cert.FfwReferenceIdeal.τ).loc Cert.FfwReferenceIdeal.main_arg1) = m ((c.tc : Thread Cert.FfwReferenceIdeal.nD Cert.FfwReferenceIdeal.τ).loc Cert.FfwReferenceIdeal.main_arg1)
      ∧ r.2.mem ((c.tc : Thread Cert.FfwReferenceIdeal.nD Cert.FfwReferenceIdeal.τ).loc Cert.FfwReferenceIdeal.main_arg2) = m ((c.tc : Thread Cert.FfwReferenceIdeal.nD Cert.FfwReferenceIdeal.τ).loc Cert.FfwReferenceIdeal.main_arg2)
      ∧ r.2.mem ((c.tc : Thread Cert.FfwReferenceIdeal.nD Cert.FfwReferenceIdeal.τ).loc Cert.FfwReferenceIdeal.main_arg3) = m ((c.tc : Thread Cert.FfwReferenceIdeal.nD Cert.FfwReferenceIdeal.τ).loc Cert.FfwReferenceIdeal.main_arg3))
      ∧ r.2.sem = fun _ => 0)

def quiescent_Xn [hXn : Cert.Xn.Facts] : Prop :=
  ∀ (m : (ℓ : Loc Cert.Xn.nD Cert.Xn.τ Cert.Xn.sig) → Buf (Elt Bits) ℓ) (g : Dev Cert.Xn.nD → PrngReg), Pre_Xn m →
    θ_run (Cert.Xn.defs (F := Bits)) (onTc (τ := Cert.Xn.τ) (Cert.Xn.main (F := Bits))) ⟨m, fun _ => 0, g⟩ (fun r => (∀ c : Dev Cert.Xn.nD,
      r.2.mem ((c.tc : Thread Cert.Xn.nD Cert.Xn.τ).loc Cert.Xn.main_arg0) = m ((c.tc : Thread Cert.Xn.nD Cert.Xn.τ).loc Cert.Xn.main_arg0)
      ∧ r.2.mem ((c.tc : Thread Cert.Xn.nD Cert.Xn.τ).loc Cert.Xn.main_arg1) = m ((c.tc : Thread Cert.Xn.nD Cert.Xn.τ).loc Cert.Xn.main_arg1))
      ∧ r.2.sem = fun _ => 0)

def quiescent_XnIdeal [hXnIdeal : Cert.XnIdeal.Facts] : Prop :=
  ∀ (m : (ℓ : Loc Cert.XnIdeal.nD Cert.XnIdeal.τ Cert.XnIdeal.sig) → Buf (Elt Ideal) ℓ) (g : Dev Cert.XnIdeal.nD → PrngReg), Pre_XnIdeal m →
    θ_run (Cert.XnIdeal.defs (F := Ideal)) (onTc (τ := Cert.XnIdeal.τ) (Cert.XnIdeal.main (F := Ideal))) ⟨m, fun _ => 0, g⟩ (fun r => (∀ c : Dev Cert.XnIdeal.nD,
      r.2.mem ((c.tc : Thread Cert.XnIdeal.nD Cert.XnIdeal.τ).loc Cert.XnIdeal.main_arg0) = m ((c.tc : Thread Cert.XnIdeal.nD Cert.XnIdeal.τ).loc Cert.XnIdeal.main_arg0)
      ∧ r.2.mem ((c.tc : Thread Cert.XnIdeal.nD Cert.XnIdeal.τ).loc Cert.XnIdeal.main_arg1) = m ((c.tc : Thread Cert.XnIdeal.nD Cert.XnIdeal.τ).loc Cert.XnIdeal.main_arg1))
      ∧ r.2.sem = fun _ => 0)

def quiescent_XnReferenceIdeal [hXnReferenceIdeal : Cert.XnReferenceIdeal.Facts] : Prop :=
  ∀ (m : (ℓ : Loc Cert.XnReferenceIdeal.nD Cert.XnReferenceIdeal.τ Cert.XnReferenceIdeal.sig) → Buf (Elt Ideal) ℓ) (g : Dev Cert.XnReferenceIdeal.nD → PrngReg), Pre_XnReferenceIdeal m →
    θ_run (Cert.XnReferenceIdeal.defs (F := Ideal)) (onTc (τ := Cert.XnReferenceIdeal.τ) (Cert.XnReferenceIdeal.main (F := Ideal))) ⟨m, fun _ => 0, g⟩ (fun r => (∀ c : Dev Cert.XnReferenceIdeal.nD,
      r.2.mem ((c.tc : Thread Cert.XnReferenceIdeal.nD Cert.XnReferenceIdeal.τ).loc Cert.XnReferenceIdeal.main_arg0) = m ((c.tc : Thread Cert.XnReferenceIdeal.nD Cert.XnReferenceIdeal.τ).loc Cert.XnReferenceIdeal.main_arg0)
      ∧ r.2.mem ((c.tc : Thread Cert.XnReferenceIdeal.nD Cert.XnReferenceIdeal.τ).loc Cert.XnReferenceIdeal.main_arg1) = m ((c.tc : Thread Cert.XnReferenceIdeal.nD Cert.XnReferenceIdeal.τ).loc Cert.XnReferenceIdeal.main_arg1))
      ∧ r.2.sem = fun _ => 0)

def quiescent_Mf [hMf : Cert.Mf.Facts] : Prop :=
  ∀ (m : (ℓ : Loc Cert.Mf.nD Cert.Mf.τ Cert.Mf.sig) → Buf (Elt Bits) ℓ) (g : Dev Cert.Mf.nD → PrngReg), Pre_Mf m →
    θ_run (Cert.Mf.defs (F := Bits)) (onTc (τ := Cert.Mf.τ) (Cert.Mf.main (F := Bits))) ⟨m, fun _ => 0, g⟩ (fun r => (∀ c : Dev Cert.Mf.nD,
      r.2.mem ((c.tc : Thread Cert.Mf.nD Cert.Mf.τ).loc Cert.Mf.main_arg0) = m ((c.tc : Thread Cert.Mf.nD Cert.Mf.τ).loc Cert.Mf.main_arg0)
      ∧ r.2.mem ((c.tc : Thread Cert.Mf.nD Cert.Mf.τ).loc Cert.Mf.main_arg1) = m ((c.tc : Thread Cert.Mf.nD Cert.Mf.τ).loc Cert.Mf.main_arg1)
      ∧ r.2.mem ((c.tc : Thread Cert.Mf.nD Cert.Mf.τ).loc Cert.Mf.main_arg2) = m ((c.tc : Thread Cert.Mf.nD Cert.Mf.τ).loc Cert.Mf.main_arg2)
      ∧ r.2.mem ((c.tc : Thread Cert.Mf.nD Cert.Mf.τ).loc Cert.Mf.main_arg3) = m ((c.tc : Thread Cert.Mf.nD Cert.Mf.τ).loc Cert.Mf.main_arg3)
      ∧ r.2.mem ((c.tc : Thread Cert.Mf.nD Cert.Mf.τ).loc Cert.Mf.main_arg4) = m ((c.tc : Thread Cert.Mf.nD Cert.Mf.τ).loc Cert.Mf.main_arg4)
      ∧ r.2.mem ((c.tc : Thread Cert.Mf.nD Cert.Mf.τ).loc Cert.Mf.main_arg5) = m ((c.tc : Thread Cert.Mf.nD Cert.Mf.τ).loc Cert.Mf.main_arg5)
      ∧ r.2.mem ((c.tc : Thread Cert.Mf.nD Cert.Mf.τ).loc Cert.Mf.main_arg6) = m ((c.tc : Thread Cert.Mf.nD Cert.Mf.τ).loc Cert.Mf.main_arg6)
      ∧ r.2.mem ((c.tc : Thread Cert.Mf.nD Cert.Mf.τ).loc Cert.Mf.main_arg7) = m ((c.tc : Thread Cert.Mf.nD Cert.Mf.τ).loc Cert.Mf.main_arg7))
      ∧ r.2.sem = fun _ => 0)

def quiescent_MfIdeal [hMfIdeal : Cert.MfIdeal.Facts] : Prop :=
  ∀ (m : (ℓ : Loc Cert.MfIdeal.nD Cert.MfIdeal.τ Cert.MfIdeal.sig) → Buf (Elt Ideal) ℓ) (g : Dev Cert.MfIdeal.nD → PrngReg), Pre_MfIdeal m →
    θ_run (Cert.MfIdeal.defs (F := Ideal)) (onTc (τ := Cert.MfIdeal.τ) (Cert.MfIdeal.main (F := Ideal))) ⟨m, fun _ => 0, g⟩ (fun r => (∀ c : Dev Cert.MfIdeal.nD,
      r.2.mem ((c.tc : Thread Cert.MfIdeal.nD Cert.MfIdeal.τ).loc Cert.MfIdeal.main_arg0) = m ((c.tc : Thread Cert.MfIdeal.nD Cert.MfIdeal.τ).loc Cert.MfIdeal.main_arg0)
      ∧ r.2.mem ((c.tc : Thread Cert.MfIdeal.nD Cert.MfIdeal.τ).loc Cert.MfIdeal.main_arg1) = m ((c.tc : Thread Cert.MfIdeal.nD Cert.MfIdeal.τ).loc Cert.MfIdeal.main_arg1)
      ∧ r.2.mem ((c.tc : Thread Cert.MfIdeal.nD Cert.MfIdeal.τ).loc Cert.MfIdeal.main_arg2) = m ((c.tc : Thread Cert.MfIdeal.nD Cert.MfIdeal.τ).loc Cert.MfIdeal.main_arg2)
      ∧ r.2.mem ((c.tc : Thread Cert.MfIdeal.nD Cert.MfIdeal.τ).loc Cert.MfIdeal.main_arg3) = m ((c.tc : Thread Cert.MfIdeal.nD Cert.MfIdeal.τ).loc Cert.MfIdeal.main_arg3)
      ∧ r.2.mem ((c.tc : Thread Cert.MfIdeal.nD Cert.MfIdeal.τ).loc Cert.MfIdeal.main_arg4) = m ((c.tc : Thread Cert.MfIdeal.nD Cert.MfIdeal.τ).loc Cert.MfIdeal.main_arg4)
      ∧ r.2.mem ((c.tc : Thread Cert.MfIdeal.nD Cert.MfIdeal.τ).loc Cert.MfIdeal.main_arg5) = m ((c.tc : Thread Cert.MfIdeal.nD Cert.MfIdeal.τ).loc Cert.MfIdeal.main_arg5)
      ∧ r.2.mem ((c.tc : Thread Cert.MfIdeal.nD Cert.MfIdeal.τ).loc Cert.MfIdeal.main_arg6) = m ((c.tc : Thread Cert.MfIdeal.nD Cert.MfIdeal.τ).loc Cert.MfIdeal.main_arg6)
      ∧ r.2.mem ((c.tc : Thread Cert.MfIdeal.nD Cert.MfIdeal.τ).loc Cert.MfIdeal.main_arg7) = m ((c.tc : Thread Cert.MfIdeal.nD Cert.MfIdeal.τ).loc Cert.MfIdeal.main_arg7))
      ∧ r.2.sem = fun _ => 0)

def quiescent_MfReferenceIdeal [hMfReferenceIdeal : Cert.MfReferenceIdeal.Facts] : Prop :=
  ∀ (m : (ℓ : Loc Cert.MfReferenceIdeal.nD Cert.MfReferenceIdeal.τ Cert.MfReferenceIdeal.sig) → Buf (Elt Ideal) ℓ) (g : Dev Cert.MfReferenceIdeal.nD → PrngReg), Pre_MfReferenceIdeal m →
    θ_run (Cert.MfReferenceIdeal.defs (F := Ideal)) (onTc (τ := Cert.MfReferenceIdeal.τ) (Cert.MfReferenceIdeal.main (F := Ideal))) ⟨m, fun _ => 0, g⟩ (fun r => (∀ c : Dev Cert.MfReferenceIdeal.nD,
      r.2.mem ((c.tc : Thread Cert.MfReferenceIdeal.nD Cert.MfReferenceIdeal.τ).loc Cert.MfReferenceIdeal.main_arg0) = m ((c.tc : Thread Cert.MfReferenceIdeal.nD Cert.MfReferenceIdeal.τ).loc Cert.MfReferenceIdeal.main_arg0)
      ∧ r.2.mem ((c.tc : Thread Cert.MfReferenceIdeal.nD Cert.MfReferenceIdeal.τ).loc Cert.MfReferenceIdeal.main_arg1) = m ((c.tc : Thread Cert.MfReferenceIdeal.nD Cert.MfReferenceIdeal.τ).loc Cert.MfReferenceIdeal.main_arg1)
      ∧ r.2.mem ((c.tc : Thread Cert.MfReferenceIdeal.nD Cert.MfReferenceIdeal.τ).loc Cert.MfReferenceIdeal.main_arg2) = m ((c.tc : Thread Cert.MfReferenceIdeal.nD Cert.MfReferenceIdeal.τ).loc Cert.MfReferenceIdeal.main_arg2)
      ∧ r.2.mem ((c.tc : Thread Cert.MfReferenceIdeal.nD Cert.MfReferenceIdeal.τ).loc Cert.MfReferenceIdeal.main_arg3) = m ((c.tc : Thread Cert.MfReferenceIdeal.nD Cert.MfReferenceIdeal.τ).loc Cert.MfReferenceIdeal.main_arg3)
      ∧ r.2.mem ((c.tc : Thread Cert.MfReferenceIdeal.nD Cert.MfReferenceIdeal.τ).loc Cert.MfReferenceIdeal.main_arg4) = m ((c.tc : Thread Cert.MfReferenceIdeal.nD Cert.MfReferenceIdeal.τ).loc Cert.MfReferenceIdeal.main_arg4)
      ∧ r.2.mem ((c.tc : Thread Cert.MfReferenceIdeal.nD Cert.MfReferenceIdeal.τ).loc Cert.MfReferenceIdeal.main_arg5) = m ((c.tc : Thread Cert.MfReferenceIdeal.nD Cert.MfReferenceIdeal.τ).loc Cert.MfReferenceIdeal.main_arg5)
      ∧ r.2.mem ((c.tc : Thread Cert.MfReferenceIdeal.nD Cert.MfReferenceIdeal.τ).loc Cert.MfReferenceIdeal.main_arg6) = m ((c.tc : Thread Cert.MfReferenceIdeal.nD Cert.MfReferenceIdeal.τ).loc Cert.MfReferenceIdeal.main_arg6)
      ∧ r.2.mem ((c.tc : Thread Cert.MfReferenceIdeal.nD Cert.MfReferenceIdeal.τ).loc Cert.MfReferenceIdeal.main_arg7) = m ((c.tc : Thread Cert.MfReferenceIdeal.nD Cert.MfReferenceIdeal.τ).loc Cert.MfReferenceIdeal.main_arg7))
      ∧ r.2.sem = fun _ => 0)

def quiescent_Np [hNp : Cert.Np.Facts] : Prop :=
  ∀ (m : (ℓ : Loc Cert.Np.nD Cert.Np.τ Cert.Np.sig) → Buf (Elt Bits) ℓ) (g : Dev Cert.Np.nD → PrngReg), Pre_Np m →
    θ_run (Cert.Np.defs (F := Bits)) (onTc (τ := Cert.Np.τ) (Cert.Np.main (F := Bits))) ⟨m, fun _ => 0, g⟩ (fun r => (∀ c : Dev Cert.Np.nD,
      r.2.mem ((c.tc : Thread Cert.Np.nD Cert.Np.τ).loc Cert.Np.main_arg0) = m ((c.tc : Thread Cert.Np.nD Cert.Np.τ).loc Cert.Np.main_arg0)
      ∧ r.2.mem ((c.tc : Thread Cert.Np.nD Cert.Np.τ).loc Cert.Np.main_arg1) = m ((c.tc : Thread Cert.Np.nD Cert.Np.τ).loc Cert.Np.main_arg1)
      ∧ r.2.mem ((c.tc : Thread Cert.Np.nD Cert.Np.τ).loc Cert.Np.main_arg2) = m ((c.tc : Thread Cert.Np.nD Cert.Np.τ).loc Cert.Np.main_arg2)
      ∧ r.2.mem ((c.tc : Thread Cert.Np.nD Cert.Np.τ).loc Cert.Np.main_arg3) = m ((c.tc : Thread Cert.Np.nD Cert.Np.τ).loc Cert.Np.main_arg3)
      ∧ r.2.mem ((c.tc : Thread Cert.Np.nD Cert.Np.τ).loc Cert.Np.main_arg4) = m ((c.tc : Thread Cert.Np.nD Cert.Np.τ).loc Cert.Np.main_arg4)
      ∧ r.2.mem ((c.tc : Thread Cert.Np.nD Cert.Np.τ).loc Cert.Np.main_arg5) = m ((c.tc : Thread Cert.Np.nD Cert.Np.τ).loc Cert.Np.main_arg5)
      ∧ r.2.mem ((c.tc : Thread Cert.Np.nD Cert.Np.τ).loc Cert.Np.main_arg6) = m ((c.tc : Thread Cert.Np.nD Cert.Np.τ).loc Cert.Np.main_arg6)
      ∧ r.2.mem ((c.tc : Thread Cert.Np.nD Cert.Np.τ).loc Cert.Np.main_arg7) = m ((c.tc : Thread Cert.Np.nD Cert.Np.τ).loc Cert.Np.main_arg7))
      ∧ r.2.sem = fun _ => 0)

def quiescent_NpIdeal [hNpIdeal : Cert.NpIdeal.Facts] : Prop :=
  ∀ (m : (ℓ : Loc Cert.NpIdeal.nD Cert.NpIdeal.τ Cert.NpIdeal.sig) → Buf (Elt Ideal) ℓ) (g : Dev Cert.NpIdeal.nD → PrngReg), Pre_NpIdeal m →
    θ_run (Cert.NpIdeal.defs (F := Ideal)) (onTc (τ := Cert.NpIdeal.τ) (Cert.NpIdeal.main (F := Ideal))) ⟨m, fun _ => 0, g⟩ (fun r => (∀ c : Dev Cert.NpIdeal.nD,
      r.2.mem ((c.tc : Thread Cert.NpIdeal.nD Cert.NpIdeal.τ).loc Cert.NpIdeal.main_arg0) = m ((c.tc : Thread Cert.NpIdeal.nD Cert.NpIdeal.τ).loc Cert.NpIdeal.main_arg0)
      ∧ r.2.mem ((c.tc : Thread Cert.NpIdeal.nD Cert.NpIdeal.τ).loc Cert.NpIdeal.main_arg1) = m ((c.tc : Thread Cert.NpIdeal.nD Cert.NpIdeal.τ).loc Cert.NpIdeal.main_arg1)
      ∧ r.2.mem ((c.tc : Thread Cert.NpIdeal.nD Cert.NpIdeal.τ).loc Cert.NpIdeal.main_arg2) = m ((c.tc : Thread Cert.NpIdeal.nD Cert.NpIdeal.τ).loc Cert.NpIdeal.main_arg2)
      ∧ r.2.mem ((c.tc : Thread Cert.NpIdeal.nD Cert.NpIdeal.τ).loc Cert.NpIdeal.main_arg3) = m ((c.tc : Thread Cert.NpIdeal.nD Cert.NpIdeal.τ).loc Cert.NpIdeal.main_arg3)
      ∧ r.2.mem ((c.tc : Thread Cert.NpIdeal.nD Cert.NpIdeal.τ).loc Cert.NpIdeal.main_arg4) = m ((c.tc : Thread Cert.NpIdeal.nD Cert.NpIdeal.τ).loc Cert.NpIdeal.main_arg4)
      ∧ r.2.mem ((c.tc : Thread Cert.NpIdeal.nD Cert.NpIdeal.τ).loc Cert.NpIdeal.main_arg5) = m ((c.tc : Thread Cert.NpIdeal.nD Cert.NpIdeal.τ).loc Cert.NpIdeal.main_arg5)
      ∧ r.2.mem ((c.tc : Thread Cert.NpIdeal.nD Cert.NpIdeal.τ).loc Cert.NpIdeal.main_arg6) = m ((c.tc : Thread Cert.NpIdeal.nD Cert.NpIdeal.τ).loc Cert.NpIdeal.main_arg6)
      ∧ r.2.mem ((c.tc : Thread Cert.NpIdeal.nD Cert.NpIdeal.τ).loc Cert.NpIdeal.main_arg7) = m ((c.tc : Thread Cert.NpIdeal.nD Cert.NpIdeal.τ).loc Cert.NpIdeal.main_arg7))
      ∧ r.2.sem = fun _ => 0)

def quiescent_NpReferenceIdeal [hNpReferenceIdeal : Cert.NpReferenceIdeal.Facts] : Prop :=
  ∀ (m : (ℓ : Loc Cert.NpReferenceIdeal.nD Cert.NpReferenceIdeal.τ Cert.NpReferenceIdeal.sig) → Buf (Elt Ideal) ℓ) (g : Dev Cert.NpReferenceIdeal.nD → PrngReg), Pre_NpReferenceIdeal m →
    θ_run (Cert.NpReferenceIdeal.defs (F := Ideal)) (onTc (τ := Cert.NpReferenceIdeal.τ) (Cert.NpReferenceIdeal.main (F := Ideal))) ⟨m, fun _ => 0, g⟩ (fun r => (∀ c : Dev Cert.NpReferenceIdeal.nD,
      r.2.mem ((c.tc : Thread Cert.NpReferenceIdeal.nD Cert.NpReferenceIdeal.τ).loc Cert.NpReferenceIdeal.main_arg0) = m ((c.tc : Thread Cert.NpReferenceIdeal.nD Cert.NpReferenceIdeal.τ).loc Cert.NpReferenceIdeal.main_arg0)
      ∧ r.2.mem ((c.tc : Thread Cert.NpReferenceIdeal.nD Cert.NpReferenceIdeal.τ).loc Cert.NpReferenceIdeal.main_arg1) = m ((c.tc : Thread Cert.NpReferenceIdeal.nD Cert.NpReferenceIdeal.τ).loc Cert.NpReferenceIdeal.main_arg1)
      ∧ r.2.mem ((c.tc : Thread Cert.NpReferenceIdeal.nD Cert.NpReferenceIdeal.τ).loc Cert.NpReferenceIdeal.main_arg2) = m ((c.tc : Thread Cert.NpReferenceIdeal.nD Cert.NpReferenceIdeal.τ).loc Cert.NpReferenceIdeal.main_arg2)
      ∧ r.2.mem ((c.tc : Thread Cert.NpReferenceIdeal.nD Cert.NpReferenceIdeal.τ).loc Cert.NpReferenceIdeal.main_arg3) = m ((c.tc : Thread Cert.NpReferenceIdeal.nD Cert.NpReferenceIdeal.τ).loc Cert.NpReferenceIdeal.main_arg3)
      ∧ r.2.mem ((c.tc : Thread Cert.NpReferenceIdeal.nD Cert.NpReferenceIdeal.τ).loc Cert.NpReferenceIdeal.main_arg4) = m ((c.tc : Thread Cert.NpReferenceIdeal.nD Cert.NpReferenceIdeal.τ).loc Cert.NpReferenceIdeal.main_arg4)
      ∧ r.2.mem ((c.tc : Thread Cert.NpReferenceIdeal.nD Cert.NpReferenceIdeal.τ).loc Cert.NpReferenceIdeal.main_arg5) = m ((c.tc : Thread Cert.NpReferenceIdeal.nD Cert.NpReferenceIdeal.τ).loc Cert.NpReferenceIdeal.main_arg5)
      ∧ r.2.mem ((c.tc : Thread Cert.NpReferenceIdeal.nD Cert.NpReferenceIdeal.τ).loc Cert.NpReferenceIdeal.main_arg6) = m ((c.tc : Thread Cert.NpReferenceIdeal.nD Cert.NpReferenceIdeal.τ).loc Cert.NpReferenceIdeal.main_arg6)
      ∧ r.2.mem ((c.tc : Thread Cert.NpReferenceIdeal.nD Cert.NpReferenceIdeal.τ).loc Cert.NpReferenceIdeal.main_arg7) = m ((c.tc : Thread Cert.NpReferenceIdeal.nD Cert.NpReferenceIdeal.τ).loc Cert.NpReferenceIdeal.main_arg7))
      ∧ r.2.sem = fun _ => 0)

def preserves_Kernel_KernelIdeal : Prop :=
  True

def algebraic_KernelIdeal_ReferenceIdeal_pre_finite_mlp [hKernelIdeal : Cert.KernelIdeal.Facts] [hReferenceIdeal : Cert.ReferenceIdeal.Facts] [hPre_finite_mlp : Cert.Pre_finite_mlp.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_mlp m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v32_0)) (v1 : (c : Dev Cert.KernelIdeal.nD) → Buf (Elt Ideal) ((c.tc : Thread Cert.KernelIdeal.nD Cert.KernelIdeal.τ).loc Cert.KernelIdeal.main_v32_1)) (v2 : (c : Dev Cert.KernelIdeal.nD) → Buf (Elt Ideal) ((c.tc : Thread Cert.KernelIdeal.nD Cert.KernelIdeal.τ).loc Cert.KernelIdeal.main_v32_2)) (v3 : (c : Dev Cert.KernelIdeal.nD) → Buf (Elt Ideal) ((c.tc : Thread Cert.KernelIdeal.nD Cert.KernelIdeal.τ).loc Cert.KernelIdeal.main_v32_3)) (v4 : (c : Dev Cert.KernelIdeal.nD) → Buf (Elt Ideal) ((c.tc : Thread Cert.KernelIdeal.nD Cert.KernelIdeal.τ).loc Cert.KernelIdeal.main_v32_4)) (v5 : (c : Dev Cert.KernelIdeal.nD) → Buf (Elt Ideal) ((c.tc : Thread Cert.KernelIdeal.nD Cert.KernelIdeal.τ).loc Cert.KernelIdeal.main_v32_5)) (v6 : (c : Dev Cert.KernelIdeal.nD) → Buf (Elt Ideal) ((c.tc : Thread Cert.KernelIdeal.nD Cert.KernelIdeal.τ).loc Cert.KernelIdeal.main_v32_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32_0) = v0 c
          ∧ r.2.mem ((c.tc : Thread Cert.KernelIdeal.nD Cert.KernelIdeal.τ).loc Cert.KernelIdeal.main_v32_1) = v1 c
          ∧ r.2.mem ((c.tc : Thread Cert.KernelIdeal.nD Cert.KernelIdeal.τ).loc Cert.KernelIdeal.main_v32_2) = v2 c
          ∧ r.2.mem ((c.tc : Thread Cert.KernelIdeal.nD Cert.KernelIdeal.τ).loc Cert.KernelIdeal.main_v32_3) = v3 c
          ∧ r.2.mem ((c.tc : Thread Cert.KernelIdeal.nD Cert.KernelIdeal.τ).loc Cert.KernelIdeal.main_v32_4) = v4 c
          ∧ r.2.mem ((c.tc : Thread Cert.KernelIdeal.nD Cert.KernelIdeal.τ).loc Cert.KernelIdeal.main_v32_5) = v5 c
          ∧ r.2.mem ((c.tc : Thread Cert.KernelIdeal.nD Cert.KernelIdeal.τ).loc Cert.KernelIdeal.main_v32_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_v103) = v1 c
          ∧ r.2.mem ((c.tc : Thread Cert.ReferenceIdeal.nD Cert.ReferenceIdeal.τ).loc Cert.ReferenceIdeal.main_v105) = v2 c
          ∧ r.2.mem ((c.tc : Thread Cert.ReferenceIdeal.nD Cert.ReferenceIdeal.τ).loc Cert.ReferenceIdeal.main_v107) = v3 c
          ∧ r.2.mem ((c.tc : Thread Cert.ReferenceIdeal.nD Cert.ReferenceIdeal.τ).loc Cert.ReferenceIdeal.main_v109) = v4 c
          ∧ r.2.mem ((c.tc : Thread Cert.ReferenceIdeal.nD Cert.ReferenceIdeal.τ).loc Cert.ReferenceIdeal.main_v111) = v5 c
          ∧ r.2.mem ((c.tc : Thread Cert.ReferenceIdeal.nD Cert.ReferenceIdeal.τ).loc Cert.ReferenceIdeal.main_v112) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Fox_FoxIdeal : Prop :=
  True

def algebraic_FoxIdeal_FoxReferenceIdeal_pre_finite_fox [hFoxIdeal : Cert.FoxIdeal.Facts] [hFoxReferenceIdeal : Cert.FoxReferenceIdeal.Facts] [hPre_finite_fox : Cert.Pre_finite_fox.Facts] : Prop :=
  ∀ (m : (ℓ : Loc Cert.FoxIdeal.nD Cert.FoxIdeal.τ Cert.FoxIdeal.sig) → Buf (Elt Ideal) ℓ) (g : Dev Cert.FoxIdeal.nD → PrngReg)
    (m' : (ℓ : Loc Cert.FoxReferenceIdeal.nD Cert.FoxReferenceIdeal.τ Cert.FoxReferenceIdeal.sig) → Buf (Elt Ideal) ℓ) (g' : Dev Cert.FoxReferenceIdeal.nD → PrngReg), Pre_FoxIdeal_finite_fox m →
    (∀ c : Dev Cert.FoxIdeal.nD,
      m' ((c.tc : Thread Cert.FoxReferenceIdeal.nD Cert.FoxReferenceIdeal.τ).loc Cert.FoxReferenceIdeal.main_arg0) = m ((c.tc : Thread Cert.FoxIdeal.nD Cert.FoxIdeal.τ).loc Cert.FoxIdeal.main_arg0)
      ∧ m' ((c.tc : Thread Cert.FoxReferenceIdeal.nD Cert.FoxReferenceIdeal.τ).loc Cert.FoxReferenceIdeal.main_arg1) = m ((c.tc : Thread Cert.FoxIdeal.nD Cert.FoxIdeal.τ).loc Cert.FoxIdeal.main_arg1)
      ∧ m' ((c.tc : Thread Cert.FoxReferenceIdeal.nD Cert.FoxReferenceIdeal.τ).loc Cert.FoxReferenceIdeal.main_arg2) = m ((c.tc : Thread Cert.FoxIdeal.nD Cert.FoxIdeal.τ).loc Cert.FoxIdeal.main_arg2)
      ∧ m' ((c.tc : Thread Cert.FoxReferenceIdeal.nD Cert.FoxReferenceIdeal.τ).loc Cert.FoxReferenceIdeal.main_arg3) = m ((c.tc : Thread Cert.FoxIdeal.nD Cert.FoxIdeal.τ).loc Cert.FoxIdeal.main_arg3)
      ∧ m' ((c.tc : Thread Cert.FoxReferenceIdeal.nD Cert.FoxReferenceIdeal.τ).loc Cert.FoxReferenceIdeal.main_arg4) = m ((c.tc : Thread Cert.FoxIdeal.nD Cert.FoxIdeal.τ).loc Cert.FoxIdeal.main_arg4)) →
    ∃ (v0 : (c : Dev Cert.FoxIdeal.nD) → Buf (Elt Ideal) ((c.tc : Thread Cert.FoxIdeal.nD Cert.FoxIdeal.τ).loc Cert.FoxIdeal.main_v127)) (v1 : (c : Dev Cert.FoxIdeal.nD) → Buf (Elt Ideal) ((c.tc : Thread Cert.FoxIdeal.nD Cert.FoxIdeal.τ).loc Cert.FoxIdeal.main_v130)) (v2 : (c : Dev Cert.FoxIdeal.nD) → Buf (Elt Ideal) ((c.tc : Thread Cert.FoxIdeal.nD Cert.FoxIdeal.τ).loc Cert.FoxIdeal.main_v131)) (v3 : (c : Dev Cert.FoxIdeal.nD) → Buf (Elt Ideal) ((c.tc : Thread Cert.FoxIdeal.nD Cert.FoxIdeal.τ).loc Cert.FoxIdeal.main_v136)),
      θ_run (Cert.FoxIdeal.defs (F := Ideal)) (onTc (τ := Cert.FoxIdeal.τ) (Cert.FoxIdeal.main (F := Ideal))) ⟨m, fun _ => 0, g⟩ (fun r => ∀ c : Dev Cert.FoxIdeal.nD,
          r.2.mem ((c.tc : Thread Cert.FoxIdeal.nD Cert.FoxIdeal.τ).loc Cert.FoxIdeal.main_v127) = v0 c
          ∧ r.2.mem ((c.tc : Thread Cert.FoxIdeal.nD Cert.FoxIdeal.τ).loc Cert.FoxIdeal.main_v130) = v1 c
          ∧ r.2.mem ((c.tc : Thread Cert.FoxIdeal.nD Cert.FoxIdeal.τ).loc Cert.FoxIdeal.main_v131) = v2 c
          ∧ r.2.mem ((c.tc : Thread Cert.FoxIdeal.nD Cert.FoxIdeal.τ).loc Cert.FoxIdeal.main_v136) = v3 c
          ∧ r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
          ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
          ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
          ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3)
          ∧ r.2.mem ((c.tc : Thread Cert.FoxIdeal.nD Cert.FoxIdeal.τ).loc Cert.FoxIdeal.main_arg4) = m ((c.tc : Thread Cert.FoxIdeal.nD Cert.FoxIdeal.τ).loc Cert.FoxIdeal.main_arg4))
      ∧ θ_run (Cert.FoxReferenceIdeal.defs (F := Ideal)) (onTc (τ := Cert.FoxReferenceIdeal.τ) (Cert.FoxReferenceIdeal.main (F := Ideal))) ⟨m', fun _ => 0, g'⟩ (fun r => ∀ c : Dev Cert.FoxReferenceIdeal.nD,
          r.2.mem ((c.tc : Thread Cert.FoxReferenceIdeal.nD Cert.FoxReferenceIdeal.τ).loc Cert.FoxReferenceIdeal.main_v80) = v0 c
          ∧ r.2.mem ((c.tc : Thread Cert.FoxReferenceIdeal.nD Cert.FoxReferenceIdeal.τ).loc Cert.FoxReferenceIdeal.main_v78) = v1 c
          ∧ r.2.mem ((c.tc : Thread Cert.FoxReferenceIdeal.nD Cert.FoxReferenceIdeal.τ).loc Cert.FoxReferenceIdeal.main_v52) = v2 c
          ∧ r.2.mem ((c.tc : Thread Cert.FoxReferenceIdeal.nD Cert.FoxReferenceIdeal.τ).loc Cert.FoxReferenceIdeal.main_v74) = v3 c
          ∧ r.2.mem ((c.tc : Thread Cert.FoxReferenceIdeal.nD Cert.FoxReferenceIdeal.τ).loc Cert.FoxReferenceIdeal.main_arg0) = m' ((c.tc : Thread Cert.FoxReferenceIdeal.nD Cert.FoxReferenceIdeal.τ).loc Cert.FoxReferenceIdeal.main_arg0)
          ∧ r.2.mem ((c.tc : Thread Cert.FoxReferenceIdeal.nD Cert.FoxReferenceIdeal.τ).loc Cert.FoxReferenceIdeal.main_arg1) = m' ((c.tc : Thread Cert.FoxReferenceIdeal.nD Cert.FoxReferenceIdeal.τ).loc Cert.FoxReferenceIdeal.main_arg1)
          ∧ r.2.mem ((c.tc : Thread Cert.FoxReferenceIdeal.nD Cert.FoxReferenceIdeal.τ).loc Cert.FoxReferenceIdeal.main_arg2) = m' ((c.tc : Thread Cert.FoxReferenceIdeal.nD Cert.FoxReferenceIdeal.τ).loc Cert.FoxReferenceIdeal.main_arg2)
          ∧ r.2.mem ((c.tc : Thread Cert.FoxReferenceIdeal.nD Cert.FoxReferenceIdeal.τ).loc Cert.FoxReferenceIdeal.main_arg3) = m' ((c.tc : Thread Cert.FoxReferenceIdeal.nD Cert.FoxReferenceIdeal.τ).loc Cert.FoxReferenceIdeal.main_arg3)
          ∧ r.2.mem ((c.tc : Thread Cert.FoxReferenceIdeal.nD Cert.FoxReferenceIdeal.τ).loc Cert.FoxReferenceIdeal.main_arg4) = m' ((c.tc : Thread Cert.FoxReferenceIdeal.nD Cert.FoxReferenceIdeal.τ).loc Cert.FoxReferenceIdeal.main_arg4))

def preserves_Proj_ProjIdeal : Prop :=
  IdealRules.named_const.Statement Cert.ProjIdeal.κ "ln2" .f32 0x3F317218#32 ((Real.log 2 : ℝ) : EReal)

def preserves_Swa_SwaIdeal : Prop :=
  True

def preserves_Ffw_FfwIdeal : Prop :=
  IdealRules.named_const.Statement Cert.FfwIdeal.κ "log2e" .f32 0x3FB8AA3B#32 (((Real.log 2)⁻¹ : ℝ) : EReal)

def algebraic_FfwIdeal_FfwReferenceIdeal_pre_finite_ffw [hFfwIdeal : Cert.FfwIdeal.Facts] [hFfwReferenceIdeal : Cert.FfwReferenceIdeal.Facts] [hPre_finite_ffw : Cert.Pre_finite_ffw.Facts] : Prop :=
  ∀ (m : (ℓ : Loc Cert.FfwIdeal.nD Cert.FfwIdeal.τ Cert.FfwIdeal.sig) → Buf (Elt Ideal) ℓ) (g : Dev Cert.FfwIdeal.nD → PrngReg)
    (m' : (ℓ : Loc Cert.FfwReferenceIdeal.nD Cert.FfwReferenceIdeal.τ Cert.FfwReferenceIdeal.sig) → Buf (Elt Ideal) ℓ) (g' : Dev Cert.FfwReferenceIdeal.nD → PrngReg), Pre_FfwIdeal_finite_ffw m →
    (∀ c : Dev Cert.FfwIdeal.nD,
      m' ((c.tc : Thread Cert.FfwReferenceIdeal.nD Cert.FfwReferenceIdeal.τ).loc Cert.FfwReferenceIdeal.main_arg0) = m ((c.tc : Thread Cert.FfwIdeal.nD Cert.FfwIdeal.τ).loc Cert.FfwIdeal.main_arg0)
      ∧ m' ((c.tc : Thread Cert.FfwReferenceIdeal.nD Cert.FfwReferenceIdeal.τ).loc Cert.FfwReferenceIdeal.main_arg1) = m ((c.tc : Thread Cert.FfwIdeal.nD Cert.FfwIdeal.τ).loc Cert.FfwIdeal.main_arg1)
      ∧ m' ((c.tc : Thread Cert.FfwReferenceIdeal.nD Cert.FfwReferenceIdeal.τ).loc Cert.FfwReferenceIdeal.main_arg2) = m ((c.tc : Thread Cert.FfwIdeal.nD Cert.FfwIdeal.τ).loc Cert.FfwIdeal.main_arg2)
      ∧ m' ((c.tc : Thread Cert.FfwReferenceIdeal.nD Cert.FfwReferenceIdeal.τ).loc Cert.FfwReferenceIdeal.main_arg3) = m ((c.tc : Thread Cert.FfwIdeal.nD Cert.FfwIdeal.τ).loc Cert.FfwIdeal.main_arg3)) →
    ∃ (v0 : (c : Dev Cert.FfwIdeal.nD) → Buf (Elt Ideal) ((c.tc : Thread Cert.FfwIdeal.nD Cert.FfwIdeal.τ).loc Cert.FfwIdeal.main_v45_0)) (v1 : (c : Dev Cert.FfwIdeal.nD) → Buf (Elt Ideal) ((c.tc : Thread Cert.FfwIdeal.nD Cert.FfwIdeal.τ).loc Cert.FfwIdeal.main_v52)),
      θ_run (Cert.FfwIdeal.defs (F := Ideal)) (onTc (τ := Cert.FfwIdeal.τ) (Cert.FfwIdeal.main (F := Ideal))) ⟨m, fun _ => 0, g⟩ (fun r => ∀ c : Dev Cert.FfwIdeal.nD,
          r.2.mem ((c.tc : Thread Cert.FfwIdeal.nD Cert.FfwIdeal.τ).loc Cert.FfwIdeal.main_v45_0) = v0 c
          ∧ r.2.mem ((c.tc : Thread Cert.FfwIdeal.nD Cert.FfwIdeal.τ).loc Cert.FfwIdeal.main_v52) = v1 c
          ∧ r.2.mem ((c.tc : Thread Cert.FfwIdeal.nD Cert.FfwIdeal.τ).loc Cert.FfwIdeal.main_arg0) = m ((c.tc : Thread Cert.FfwIdeal.nD Cert.FfwIdeal.τ).loc Cert.FfwIdeal.main_arg0)
          ∧ r.2.mem ((c.tc : Thread Cert.FfwIdeal.nD Cert.FfwIdeal.τ).loc Cert.FfwIdeal.main_arg1) = m ((c.tc : Thread Cert.FfwIdeal.nD Cert.FfwIdeal.τ).loc Cert.FfwIdeal.main_arg1)
          ∧ r.2.mem ((c.tc : Thread Cert.FfwIdeal.nD Cert.FfwIdeal.τ).loc Cert.FfwIdeal.main_arg2) = m ((c.tc : Thread Cert.FfwIdeal.nD Cert.FfwIdeal.τ).loc Cert.FfwIdeal.main_arg2)
          ∧ r.2.mem ((c.tc : Thread Cert.FfwIdeal.nD Cert.FfwIdeal.τ).loc Cert.FfwIdeal.main_arg3) = m ((c.tc : Thread Cert.FfwIdeal.nD Cert.FfwIdeal.τ).loc Cert.FfwIdeal.main_arg3))
      ∧ θ_run (Cert.FfwReferenceIdeal.defs (F := Ideal)) (onTc (τ := Cert.FfwReferenceIdeal.τ) (Cert.FfwReferenceIdeal.main (F := Ideal))) ⟨m', fun _ => 0, g'⟩ (fun r => ∀ c : Dev Cert.FfwReferenceIdeal.nD,
          r.2.mem ((c.tc : Thread Cert.FfwReferenceIdeal.nD Cert.FfwReferenceIdeal.τ).loc Cert.FfwReferenceIdeal.main_v35) = v0 c
          ∧ r.2.mem ((c.tc : Thread Cert.FfwReferenceIdeal.nD Cert.FfwReferenceIdeal.τ).loc Cert.FfwReferenceIdeal.main_v36) = v1 c
          ∧ r.2.mem ((c.tc : Thread Cert.FfwReferenceIdeal.nD Cert.FfwReferenceIdeal.τ).loc Cert.FfwReferenceIdeal.main_arg0) = m' ((c.tc : Thread Cert.FfwReferenceIdeal.nD Cert.FfwReferenceIdeal.τ).loc Cert.FfwReferenceIdeal.main_arg0)
          ∧ r.2.mem ((c.tc : Thread Cert.FfwReferenceIdeal.nD Cert.FfwReferenceIdeal.τ).loc Cert.FfwReferenceIdeal.main_arg1) = m' ((c.tc : Thread Cert.FfwReferenceIdeal.nD Cert.FfwReferenceIdeal.τ).loc Cert.FfwReferenceIdeal.main_arg1)
          ∧ r.2.mem ((c.tc : Thread Cert.FfwReferenceIdeal.nD Cert.FfwReferenceIdeal.τ).loc Cert.FfwReferenceIdeal.main_arg2) = m' ((c.tc : Thread Cert.FfwReferenceIdeal.nD Cert.FfwReferenceIdeal.τ).loc Cert.FfwReferenceIdeal.main_arg2)
          ∧ r.2.mem ((c.tc : Thread Cert.FfwReferenceIdeal.nD Cert.FfwReferenceIdeal.τ).loc Cert.FfwReferenceIdeal.main_arg3) = m' ((c.tc : Thread Cert.FfwReferenceIdeal.nD Cert.FfwReferenceIdeal.τ).loc Cert.FfwReferenceIdeal.main_arg3))

def preserves_Xn_XnIdeal : Prop :=
  True

def algebraic_XnIdeal_XnReferenceIdeal [hXnIdeal : Cert.XnIdeal.Facts] [hXnReferenceIdeal : Cert.XnReferenceIdeal.Facts] : Prop :=
  ∀ (m : (ℓ : Loc Cert.XnIdeal.nD Cert.XnIdeal.τ Cert.XnIdeal.sig) → Buf (Elt Ideal) ℓ) (g : Dev Cert.XnIdeal.nD → PrngReg)
    (m' : (ℓ : Loc Cert.XnReferenceIdeal.nD Cert.XnReferenceIdeal.τ Cert.XnReferenceIdeal.sig) → Buf (Elt Ideal) ℓ) (g' : Dev Cert.XnReferenceIdeal.nD → PrngReg), Pre_XnIdeal m →
    (∀ c : Dev Cert.XnIdeal.nD,
      m' ((c.tc : Thread Cert.XnReferenceIdeal.nD Cert.XnReferenceIdeal.τ).loc Cert.XnReferenceIdeal.main_arg0) = m ((c.tc : Thread Cert.XnIdeal.nD Cert.XnIdeal.τ).loc Cert.XnIdeal.main_arg0)
      ∧ m' ((c.tc : Thread Cert.XnReferenceIdeal.nD Cert.XnReferenceIdeal.τ).loc Cert.XnReferenceIdeal.main_arg1) = m ((c.tc : Thread Cert.XnIdeal.nD Cert.XnIdeal.τ).loc Cert.XnIdeal.main_arg1)) →
    ∃ (v0 : (c : Dev Cert.XnIdeal.nD) → Buf (Elt Ideal) ((c.tc : Thread Cert.XnIdeal.nD Cert.XnIdeal.τ).loc Cert.XnIdeal.main_v2)),
      θ_run (Cert.XnIdeal.defs (F := Ideal)) (onTc (τ := Cert.XnIdeal.τ) (Cert.XnIdeal.main (F := Ideal))) ⟨m, fun _ => 0, g⟩ (fun r => ∀ c : Dev Cert.XnIdeal.nD,
          r.2.mem ((c.tc : Thread Cert.XnIdeal.nD Cert.XnIdeal.τ).loc Cert.XnIdeal.main_v2) = v0 c
          ∧ r.2.mem ((c.tc : Thread Cert.XnIdeal.nD Cert.XnIdeal.τ).loc Cert.XnIdeal.main_arg0) = m ((c.tc : Thread Cert.XnIdeal.nD Cert.XnIdeal.τ).loc Cert.XnIdeal.main_arg0)
          ∧ r.2.mem ((c.tc : Thread Cert.XnIdeal.nD Cert.XnIdeal.τ).loc Cert.XnIdeal.main_arg1) = m ((c.tc : Thread Cert.XnIdeal.nD Cert.XnIdeal.τ).loc Cert.XnIdeal.main_arg1))
      ∧ θ_run (Cert.XnReferenceIdeal.defs (F := Ideal)) (onTc (τ := Cert.XnReferenceIdeal.τ) (Cert.XnReferenceIdeal.main (F := Ideal))) ⟨m', fun _ => 0, g'⟩ (fun r => ∀ c : Dev Cert.XnReferenceIdeal.nD,
          r.2.mem ((c.tc : Thread Cert.XnReferenceIdeal.nD Cert.XnReferenceIdeal.τ).loc Cert.XnReferenceIdeal.main_v14) = v0 c
          ∧ r.2.mem ((c.tc : Thread Cert.XnReferenceIdeal.nD Cert.XnReferenceIdeal.τ).loc Cert.XnReferenceIdeal.main_arg0) = m' ((c.tc : Thread Cert.XnReferenceIdeal.nD Cert.XnReferenceIdeal.τ).loc Cert.XnReferenceIdeal.main_arg0)
          ∧ r.2.mem ((c.tc : Thread Cert.XnReferenceIdeal.nD Cert.XnReferenceIdeal.τ).loc Cert.XnReferenceIdeal.main_arg1) = m' ((c.tc : Thread Cert.XnReferenceIdeal.nD Cert.XnReferenceIdeal.τ).loc Cert.XnReferenceIdeal.main_arg1))

def preserves_Mf_MfIdeal : Prop :=
  True

def algebraic_MfIdeal_MfReferenceIdeal [hMfIdeal : Cert.MfIdeal.Facts] [hMfReferenceIdeal : Cert.MfReferenceIdeal.Facts] : Prop :=
  ∀ (m : (ℓ : Loc Cert.MfIdeal.nD Cert.MfIdeal.τ Cert.MfIdeal.sig) → Buf (Elt Ideal) ℓ) (g : Dev Cert.MfIdeal.nD → PrngReg)
    (m' : (ℓ : Loc Cert.MfReferenceIdeal.nD Cert.MfReferenceIdeal.τ Cert.MfReferenceIdeal.sig) → Buf (Elt Ideal) ℓ) (g' : Dev Cert.MfReferenceIdeal.nD → PrngReg), Pre_MfIdeal m →
    (∀ c : Dev Cert.MfIdeal.nD,
      m' ((c.tc : Thread Cert.MfReferenceIdeal.nD Cert.MfReferenceIdeal.τ).loc Cert.MfReferenceIdeal.main_arg0) = m ((c.tc : Thread Cert.MfIdeal.nD Cert.MfIdeal.τ).loc Cert.MfIdeal.main_arg0)
      ∧ m' ((c.tc : Thread Cert.MfReferenceIdeal.nD Cert.MfReferenceIdeal.τ).loc Cert.MfReferenceIdeal.main_arg1) = m ((c.tc : Thread Cert.MfIdeal.nD Cert.MfIdeal.τ).loc Cert.MfIdeal.main_arg1)
      ∧ m' ((c.tc : Thread Cert.MfReferenceIdeal.nD Cert.MfReferenceIdeal.τ).loc Cert.MfReferenceIdeal.main_arg2) = m ((c.tc : Thread Cert.MfIdeal.nD Cert.MfIdeal.τ).loc Cert.MfIdeal.main_arg2)
      ∧ m' ((c.tc : Thread Cert.MfReferenceIdeal.nD Cert.MfReferenceIdeal.τ).loc Cert.MfReferenceIdeal.main_arg3) = m ((c.tc : Thread Cert.MfIdeal.nD Cert.MfIdeal.τ).loc Cert.MfIdeal.main_arg3)
      ∧ m' ((c.tc : Thread Cert.MfReferenceIdeal.nD Cert.MfReferenceIdeal.τ).loc Cert.MfReferenceIdeal.main_arg4) = m ((c.tc : Thread Cert.MfIdeal.nD Cert.MfIdeal.τ).loc Cert.MfIdeal.main_arg4)
      ∧ m' ((c.tc : Thread Cert.MfReferenceIdeal.nD Cert.MfReferenceIdeal.τ).loc Cert.MfReferenceIdeal.main_arg5) = m ((c.tc : Thread Cert.MfIdeal.nD Cert.MfIdeal.τ).loc Cert.MfIdeal.main_arg5)
      ∧ m' ((c.tc : Thread Cert.MfReferenceIdeal.nD Cert.MfReferenceIdeal.τ).loc Cert.MfReferenceIdeal.main_arg6) = m ((c.tc : Thread Cert.MfIdeal.nD Cert.MfIdeal.τ).loc Cert.MfIdeal.main_arg6)
      ∧ m' ((c.tc : Thread Cert.MfReferenceIdeal.nD Cert.MfReferenceIdeal.τ).loc Cert.MfReferenceIdeal.main_arg7) = m ((c.tc : Thread Cert.MfIdeal.nD Cert.MfIdeal.τ).loc Cert.MfIdeal.main_arg7)) →
    ∃ (v0 : (c : Dev Cert.MfIdeal.nD) → Buf (Elt Ideal) ((c.tc : Thread Cert.MfIdeal.nD Cert.MfIdeal.τ).loc Cert.MfIdeal.main_v12_0)) (v1 : (c : Dev Cert.MfIdeal.nD) → Buf (Elt Ideal) ((c.tc : Thread Cert.MfIdeal.nD Cert.MfIdeal.τ).loc Cert.MfIdeal.main_v12_1)) (v2 : (c : Dev Cert.MfIdeal.nD) → Buf (Elt Ideal) ((c.tc : Thread Cert.MfIdeal.nD Cert.MfIdeal.τ).loc Cert.MfIdeal.main_v12_2)) (v3 : (c : Dev Cert.MfIdeal.nD) → Buf (Elt Ideal) ((c.tc : Thread Cert.MfIdeal.nD Cert.MfIdeal.τ).loc Cert.MfIdeal.main_v12_3)) (v4 : (c : Dev Cert.MfIdeal.nD) → Buf (Elt Ideal) ((c.tc : Thread Cert.MfIdeal.nD Cert.MfIdeal.τ).loc Cert.MfIdeal.main_v12_4)) (v5 : (c : Dev Cert.MfIdeal.nD) → Buf (Elt Ideal) ((c.tc : Thread Cert.MfIdeal.nD Cert.MfIdeal.τ).loc Cert.MfIdeal.main_v12_5)),
      θ_run (Cert.MfIdeal.defs (F := Ideal)) (onTc (τ := Cert.MfIdeal.τ) (Cert.MfIdeal.main (F := Ideal))) ⟨m, fun _ => 0, g⟩ (fun r => ∀ c : Dev Cert.MfIdeal.nD,
          r.2.mem ((c.tc : Thread Cert.MfIdeal.nD Cert.MfIdeal.τ).loc Cert.MfIdeal.main_v12_0) = v0 c
          ∧ r.2.mem ((c.tc : Thread Cert.MfIdeal.nD Cert.MfIdeal.τ).loc Cert.MfIdeal.main_v12_1) = v1 c
          ∧ r.2.mem ((c.tc : Thread Cert.MfIdeal.nD Cert.MfIdeal.τ).loc Cert.MfIdeal.main_v12_2) = v2 c
          ∧ r.2.mem ((c.tc : Thread Cert.MfIdeal.nD Cert.MfIdeal.τ).loc Cert.MfIdeal.main_v12_3) = v3 c
          ∧ r.2.mem ((c.tc : Thread Cert.MfIdeal.nD Cert.MfIdeal.τ).loc Cert.MfIdeal.main_v12_4) = v4 c
          ∧ r.2.mem ((c.tc : Thread Cert.MfIdeal.nD Cert.MfIdeal.τ).loc Cert.MfIdeal.main_v12_5) = v5 c
          ∧ r.2.mem ((c.tc : Thread Cert.MfIdeal.nD Cert.MfIdeal.τ).loc Cert.MfIdeal.main_arg0) = m ((c.tc : Thread Cert.MfIdeal.nD Cert.MfIdeal.τ).loc Cert.MfIdeal.main_arg0)
          ∧ r.2.mem ((c.tc : Thread Cert.MfIdeal.nD Cert.MfIdeal.τ).loc Cert.MfIdeal.main_arg1) = m ((c.tc : Thread Cert.MfIdeal.nD Cert.MfIdeal.τ).loc Cert.MfIdeal.main_arg1)
          ∧ r.2.mem ((c.tc : Thread Cert.MfIdeal.nD Cert.MfIdeal.τ).loc Cert.MfIdeal.main_arg2) = m ((c.tc : Thread Cert.MfIdeal.nD Cert.MfIdeal.τ).loc Cert.MfIdeal.main_arg2)
          ∧ r.2.mem ((c.tc : Thread Cert.MfIdeal.nD Cert.MfIdeal.τ).loc Cert.MfIdeal.main_arg3) = m ((c.tc : Thread Cert.MfIdeal.nD Cert.MfIdeal.τ).loc Cert.MfIdeal.main_arg3)
          ∧ r.2.mem ((c.tc : Thread Cert.MfIdeal.nD Cert.MfIdeal.τ).loc Cert.MfIdeal.main_arg4) = m ((c.tc : Thread Cert.MfIdeal.nD Cert.MfIdeal.τ).loc Cert.MfIdeal.main_arg4)
          ∧ r.2.mem ((c.tc : Thread Cert.MfIdeal.nD Cert.MfIdeal.τ).loc Cert.MfIdeal.main_arg5) = m ((c.tc : Thread Cert.MfIdeal.nD Cert.MfIdeal.τ).loc Cert.MfIdeal.main_arg5)
          ∧ r.2.mem ((c.tc : Thread Cert.MfIdeal.nD Cert.MfIdeal.τ).loc Cert.MfIdeal.main_arg6) = m ((c.tc : Thread Cert.MfIdeal.nD Cert.MfIdeal.τ).loc Cert.MfIdeal.main_arg6)
          ∧ r.2.mem ((c.tc : Thread Cert.MfIdeal.nD Cert.MfIdeal.τ).loc Cert.MfIdeal.main_arg7) = m ((c.tc : Thread Cert.MfIdeal.nD Cert.MfIdeal.τ).loc Cert.MfIdeal.main_arg7))
      ∧ θ_run (Cert.MfReferenceIdeal.defs (F := Ideal)) (onTc (τ := Cert.MfReferenceIdeal.τ) (Cert.MfReferenceIdeal.main (F := Ideal))) ⟨m', fun _ => 0, g'⟩ (fun r => ∀ c : Dev Cert.MfReferenceIdeal.nD,
          r.2.mem ((c.tc : Thread Cert.MfReferenceIdeal.nD Cert.MfReferenceIdeal.τ).loc Cert.MfReferenceIdeal.main_v37) = v0 c
          ∧ r.2.mem ((c.tc : Thread Cert.MfReferenceIdeal.nD Cert.MfReferenceIdeal.τ).loc Cert.MfReferenceIdeal.main_v52) = v1 c
          ∧ r.2.mem ((c.tc : Thread Cert.MfReferenceIdeal.nD Cert.MfReferenceIdeal.τ).loc Cert.MfReferenceIdeal.main_v54) = v2 c
          ∧ r.2.mem ((c.tc : Thread Cert.MfReferenceIdeal.nD Cert.MfReferenceIdeal.τ).loc Cert.MfReferenceIdeal.main_v36) = v3 c
          ∧ r.2.mem ((c.tc : Thread Cert.MfReferenceIdeal.nD Cert.MfReferenceIdeal.τ).loc Cert.MfReferenceIdeal.main_v55) = v4 c
          ∧ r.2.mem ((c.tc : Thread Cert.MfReferenceIdeal.nD Cert.MfReferenceIdeal.τ).loc Cert.MfReferenceIdeal.main_v56) = v5 c
          ∧ r.2.mem ((c.tc : Thread Cert.MfReferenceIdeal.nD Cert.MfReferenceIdeal.τ).loc Cert.MfReferenceIdeal.main_arg0) = m' ((c.tc : Thread Cert.MfReferenceIdeal.nD Cert.MfReferenceIdeal.τ).loc Cert.MfReferenceIdeal.main_arg0)
          ∧ r.2.mem ((c.tc : Thread Cert.MfReferenceIdeal.nD Cert.MfReferenceIdeal.τ).loc Cert.MfReferenceIdeal.main_arg1) = m' ((c.tc : Thread Cert.MfReferenceIdeal.nD Cert.MfReferenceIdeal.τ).loc Cert.MfReferenceIdeal.main_arg1)
          ∧ r.2.mem ((c.tc : Thread Cert.MfReferenceIdeal.nD Cert.MfReferenceIdeal.τ).loc Cert.MfReferenceIdeal.main_arg2) = m' ((c.tc : Thread Cert.MfReferenceIdeal.nD Cert.MfReferenceIdeal.τ).loc Cert.MfReferenceIdeal.main_arg2)
          ∧ r.2.mem ((c.tc : Thread Cert.MfReferenceIdeal.nD Cert.MfReferenceIdeal.τ).loc Cert.MfReferenceIdeal.main_arg3) = m' ((c.tc : Thread Cert.MfReferenceIdeal.nD Cert.MfReferenceIdeal.τ).loc Cert.MfReferenceIdeal.main_arg3)
          ∧ r.2.mem ((c.tc : Thread Cert.MfReferenceIdeal.nD Cert.MfReferenceIdeal.τ).loc Cert.MfReferenceIdeal.main_arg4) = m' ((c.tc : Thread Cert.MfReferenceIdeal.nD Cert.MfReferenceIdeal.τ).loc Cert.MfReferenceIdeal.main_arg4)
          ∧ r.2.mem ((c.tc : Thread Cert.MfReferenceIdeal.nD Cert.MfReferenceIdeal.τ).loc Cert.MfReferenceIdeal.main_arg5) = m' ((c.tc : Thread Cert.MfReferenceIdeal.nD Cert.MfReferenceIdeal.τ).loc Cert.MfReferenceIdeal.main_arg5)
          ∧ r.2.mem ((c.tc : Thread Cert.MfReferenceIdeal.nD Cert.MfReferenceIdeal.τ).loc Cert.MfReferenceIdeal.main_arg6) = m' ((c.tc : Thread Cert.MfReferenceIdeal.nD Cert.MfReferenceIdeal.τ).loc Cert.MfReferenceIdeal.main_arg6)
          ∧ r.2.mem ((c.tc : Thread Cert.MfReferenceIdeal.nD Cert.MfReferenceIdeal.τ).loc Cert.MfReferenceIdeal.main_arg7) = m' ((c.tc : Thread Cert.MfReferenceIdeal.nD Cert.MfReferenceIdeal.τ).loc Cert.MfReferenceIdeal.main_arg7))

def preserves_Np_NpIdeal : Prop :=
  True

def algebraic_NpIdeal_NpReferenceIdeal [hNpIdeal : Cert.NpIdeal.Facts] [hNpReferenceIdeal : Cert.NpReferenceIdeal.Facts] : Prop :=
  ∀ (m : (ℓ : Loc Cert.NpIdeal.nD Cert.NpIdeal.τ Cert.NpIdeal.sig) → Buf (Elt Ideal) ℓ) (g : Dev Cert.NpIdeal.nD → PrngReg)
    (m' : (ℓ : Loc Cert.NpReferenceIdeal.nD Cert.NpReferenceIdeal.τ Cert.NpReferenceIdeal.sig) → Buf (Elt Ideal) ℓ) (g' : Dev Cert.NpReferenceIdeal.nD → PrngReg), Pre_NpIdeal m →
    (∀ c : Dev Cert.NpIdeal.nD,
      m' ((c.tc : Thread Cert.NpReferenceIdeal.nD Cert.NpReferenceIdeal.τ).loc Cert.NpReferenceIdeal.main_arg0) = m ((c.tc : Thread Cert.NpIdeal.nD Cert.NpIdeal.τ).loc Cert.NpIdeal.main_arg0)
      ∧ m' ((c.tc : Thread Cert.NpReferenceIdeal.nD Cert.NpReferenceIdeal.τ).loc Cert.NpReferenceIdeal.main_arg1) = m ((c.tc : Thread Cert.NpIdeal.nD Cert.NpIdeal.τ).loc Cert.NpIdeal.main_arg1)
      ∧ m' ((c.tc : Thread Cert.NpReferenceIdeal.nD Cert.NpReferenceIdeal.τ).loc Cert.NpReferenceIdeal.main_arg2) = m ((c.tc : Thread Cert.NpIdeal.nD Cert.NpIdeal.τ).loc Cert.NpIdeal.main_arg2)
      ∧ m' ((c.tc : Thread Cert.NpReferenceIdeal.nD Cert.NpReferenceIdeal.τ).loc Cert.NpReferenceIdeal.main_arg3) = m ((c.tc : Thread Cert.NpIdeal.nD Cert.NpIdeal.τ).loc Cert.NpIdeal.main_arg3)
      ∧ m' ((c.tc : Thread Cert.NpReferenceIdeal.nD Cert.NpReferenceIdeal.τ).loc Cert.NpReferenceIdeal.main_arg4) = m ((c.tc : Thread Cert.NpIdeal.nD Cert.NpIdeal.τ).loc Cert.NpIdeal.main_arg4)
      ∧ m' ((c.tc : Thread Cert.NpReferenceIdeal.nD Cert.NpReferenceIdeal.τ).loc Cert.NpReferenceIdeal.main_arg5) = m ((c.tc : Thread Cert.NpIdeal.nD Cert.NpIdeal.τ).loc Cert.NpIdeal.main_arg5)
      ∧ m' ((c.tc : Thread Cert.NpReferenceIdeal.nD Cert.NpReferenceIdeal.τ).loc Cert.NpReferenceIdeal.main_arg6) = m ((c.tc : Thread Cert.NpIdeal.nD Cert.NpIdeal.τ).loc Cert.NpIdeal.main_arg6)
      ∧ m' ((c.tc : Thread Cert.NpReferenceIdeal.nD Cert.NpReferenceIdeal.τ).loc Cert.NpReferenceIdeal.main_arg7) = m ((c.tc : Thread Cert.NpIdeal.nD Cert.NpIdeal.τ).loc Cert.NpIdeal.main_arg7)) →
    ∃ (v0 : (c : Dev Cert.NpIdeal.nD) → Buf (Elt Ideal) ((c.tc : Thread Cert.NpIdeal.nD Cert.NpIdeal.τ).loc Cert.NpIdeal.main_v38_0)) (v1 : (c : Dev Cert.NpIdeal.nD) → Buf (Elt Ideal) ((c.tc : Thread Cert.NpIdeal.nD Cert.NpIdeal.τ).loc Cert.NpIdeal.main_v38_1)) (v2 : (c : Dev Cert.NpIdeal.nD) → Buf (Elt Ideal) ((c.tc : Thread Cert.NpIdeal.nD Cert.NpIdeal.τ).loc Cert.NpIdeal.main_v38_2)) (v3 : (c : Dev Cert.NpIdeal.nD) → Buf (Elt Ideal) ((c.tc : Thread Cert.NpIdeal.nD Cert.NpIdeal.τ).loc Cert.NpIdeal.main_v38_3)) (v4 : (c : Dev Cert.NpIdeal.nD) → Buf (Elt Ideal) ((c.tc : Thread Cert.NpIdeal.nD Cert.NpIdeal.τ).loc Cert.NpIdeal.main_v38_4)),
      θ_run (Cert.NpIdeal.defs (F := Ideal)) (onTc (τ := Cert.NpIdeal.τ) (Cert.NpIdeal.main (F := Ideal))) ⟨m, fun _ => 0, g⟩ (fun r => ∀ c : Dev Cert.NpIdeal.nD,
          r.2.mem ((c.tc : Thread Cert.NpIdeal.nD Cert.NpIdeal.τ).loc Cert.NpIdeal.main_v38_0) = v0 c
          ∧ r.2.mem ((c.tc : Thread Cert.NpIdeal.nD Cert.NpIdeal.τ).loc Cert.NpIdeal.main_v38_1) = v1 c
          ∧ r.2.mem ((c.tc : Thread Cert.NpIdeal.nD Cert.NpIdeal.τ).loc Cert.NpIdeal.main_v38_2) = v2 c
          ∧ r.2.mem ((c.tc : Thread Cert.NpIdeal.nD Cert.NpIdeal.τ).loc Cert.NpIdeal.main_v38_3) = v3 c
          ∧ r.2.mem ((c.tc : Thread Cert.NpIdeal.nD Cert.NpIdeal.τ).loc Cert.NpIdeal.main_v38_4) = v4 c
          ∧ r.2.mem ((c.tc : Thread Cert.NpIdeal.nD Cert.NpIdeal.τ).loc Cert.NpIdeal.main_arg0) = m ((c.tc : Thread Cert.NpIdeal.nD Cert.NpIdeal.τ).loc Cert.NpIdeal.main_arg0)
          ∧ r.2.mem ((c.tc : Thread Cert.NpIdeal.nD Cert.NpIdeal.τ).loc Cert.NpIdeal.main_arg1) = m ((c.tc : Thread Cert.NpIdeal.nD Cert.NpIdeal.τ).loc Cert.NpIdeal.main_arg1)
          ∧ r.2.mem ((c.tc : Thread Cert.NpIdeal.nD Cert.NpIdeal.τ).loc Cert.NpIdeal.main_arg2) = m ((c.tc : Thread Cert.NpIdeal.nD Cert.NpIdeal.τ).loc Cert.NpIdeal.main_arg2)
          ∧ r.2.mem ((c.tc : Thread Cert.NpIdeal.nD Cert.NpIdeal.τ).loc Cert.NpIdeal.main_arg3) = m ((c.tc : Thread Cert.NpIdeal.nD Cert.NpIdeal.τ).loc Cert.NpIdeal.main_arg3)
          ∧ r.2.mem ((c.tc : Thread Cert.NpIdeal.nD Cert.NpIdeal.τ).loc Cert.NpIdeal.main_arg4) = m ((c.tc : Thread Cert.NpIdeal.nD Cert.NpIdeal.τ).loc Cert.NpIdeal.main_arg4)
          ∧ r.2.mem ((c.tc : Thread Cert.NpIdeal.nD Cert.NpIdeal.τ).loc Cert.NpIdeal.main_arg5) = m ((c.tc : Thread Cert.NpIdeal.nD Cert.NpIdeal.τ).loc Cert.NpIdeal.main_arg5)
          ∧ r.2.mem ((c.tc : Thread Cert.NpIdeal.nD Cert.NpIdeal.τ).loc Cert.NpIdeal.main_arg6) = m ((c.tc : Thread Cert.NpIdeal.nD Cert.NpIdeal.τ).loc Cert.NpIdeal.main_arg6)
          ∧ r.2.mem ((c.tc : Thread Cert.NpIdeal.nD Cert.NpIdeal.τ).loc Cert.NpIdeal.main_arg7) = m ((c.tc : Thread Cert.NpIdeal.nD Cert.NpIdeal.τ).loc Cert.NpIdeal.main_arg7))
      ∧ θ_run (Cert.NpReferenceIdeal.defs (F := Ideal)) (onTc (τ := Cert.NpReferenceIdeal.τ) (Cert.NpReferenceIdeal.main (F := Ideal))) ⟨m', fun _ => 0, g'⟩ (fun r => ∀ c : Dev Cert.NpReferenceIdeal.nD,
          r.2.mem ((c.tc : Thread Cert.NpReferenceIdeal.nD Cert.NpReferenceIdeal.τ).loc Cert.NpReferenceIdeal.main_v57) = v0 c
          ∧ r.2.mem ((c.tc : Thread Cert.NpReferenceIdeal.nD Cert.NpReferenceIdeal.τ).loc Cert.NpReferenceIdeal.main_v58) = v1 c
          ∧ r.2.mem ((c.tc : Thread Cert.NpReferenceIdeal.nD Cert.NpReferenceIdeal.τ).loc Cert.NpReferenceIdeal.main_v60) = v2 c
          ∧ r.2.mem ((c.tc : Thread Cert.NpReferenceIdeal.nD Cert.NpReferenceIdeal.τ).loc Cert.NpReferenceIdeal.main_v49) = v3 c
          ∧ r.2.mem ((c.tc : Thread Cert.NpReferenceIdeal.nD Cert.NpReferenceIdeal.τ).loc Cert.NpReferenceIdeal.main_v53) = v4 c
          ∧ r.2.mem ((c.tc : Thread Cert.NpReferenceIdeal.nD Cert.NpReferenceIdeal.τ).loc Cert.NpReferenceIdeal.main_arg0) = m' ((c.tc : Thread Cert.NpReferenceIdeal.nD Cert.NpReferenceIdeal.τ).loc Cert.NpReferenceIdeal.main_arg0)
          ∧ r.2.mem ((c.tc : Thread Cert.NpReferenceIdeal.nD Cert.NpReferenceIdeal.τ).loc Cert.NpReferenceIdeal.main_arg1) = m' ((c.tc : Thread Cert.NpReferenceIdeal.nD Cert.NpReferenceIdeal.τ).loc Cert.NpReferenceIdeal.main_arg1)
          ∧ r.2.mem ((c.tc : Thread Cert.NpReferenceIdeal.nD Cert.NpReferenceIdeal.τ).loc Cert.NpReferenceIdeal.main_arg2) = m' ((c.tc : Thread Cert.NpReferenceIdeal.nD Cert.NpReferenceIdeal.τ).loc Cert.NpReferenceIdeal.main_arg2)
          ∧ r.2.mem ((c.tc : Thread Cert.NpReferenceIdeal.nD Cert.NpReferenceIdeal.τ).loc Cert.NpReferenceIdeal.main_arg3) = m' ((c.tc : Thread Cert.NpReferenceIdeal.nD Cert.NpReferenceIdeal.τ).loc Cert.NpReferenceIdeal.main_arg3)
          ∧ r.2.mem ((c.tc : Thread Cert.NpReferenceIdeal.nD Cert.NpReferenceIdeal.τ).loc Cert.NpReferenceIdeal.main_arg4) = m' ((c.tc : Thread Cert.NpReferenceIdeal.nD Cert.NpReferenceIdeal.τ).loc Cert.NpReferenceIdeal.main_arg4)
          ∧ r.2.mem ((c.tc : Thread Cert.NpReferenceIdeal.nD Cert.NpReferenceIdeal.τ).loc Cert.NpReferenceIdeal.main_arg5) = m' ((c.tc : Thread Cert.NpReferenceIdeal.nD Cert.NpReferenceIdeal.τ).loc Cert.NpReferenceIdeal.main_arg5)
          ∧ r.2.mem ((c.tc : Thread Cert.NpReferenceIdeal.nD Cert.NpReferenceIdeal.τ).loc Cert.NpReferenceIdeal.main_arg6) = m' ((c.tc : Thread Cert.NpReferenceIdeal.nD Cert.NpReferenceIdeal.τ).loc Cert.NpReferenceIdeal.main_arg6)
          ∧ r.2.mem ((c.tc : Thread Cert.NpReferenceIdeal.nD Cert.NpReferenceIdeal.τ).loc Cert.NpReferenceIdeal.main_arg7) = m' ((c.tc : Thread Cert.NpReferenceIdeal.nD Cert.NpReferenceIdeal.τ).loc Cert.NpReferenceIdeal.main_arg7))

def Claim : Prop :=
  ∃ (hKernel : Cert.Kernel.Facts) (hKernelIdeal : Cert.KernelIdeal.Facts) (hReferenceIdeal : Cert.ReferenceIdeal.Facts) (hFox : Cert.Fox.Facts) (hFoxIdeal : Cert.FoxIdeal.Facts) (hFoxReferenceIdeal : Cert.FoxReferenceIdeal.Facts) (hProj : Cert.Proj.Facts) (hProjIdeal : Cert.ProjIdeal.Facts) (hProjReferenceIdeal : Cert.ProjReferenceIdeal.Facts) (hSwa : Cert.Swa.Facts) (hSwaIdeal : Cert.SwaIdeal.Facts) (hSwaReferenceIdeal : Cert.SwaReferenceIdeal.Facts) (hFfw : Cert.Ffw.Facts) (hFfwIdeal : Cert.FfwIdeal.Facts) (hFfwReferenceIdeal : Cert.FfwReferenceIdeal.Facts) (hXn : Cert.Xn.Facts) (hXnIdeal : Cert.XnIdeal.Facts) (hXnReferenceIdeal : Cert.XnReferenceIdeal.Facts) (hMf : Cert.Mf.Facts) (hMfIdeal : Cert.MfIdeal.Facts) (hMfReferenceIdeal : Cert.MfReferenceIdeal.Facts) (hNp : Cert.Np.Facts) (hNpIdeal : Cert.NpIdeal.Facts) (hNpReferenceIdeal : Cert.NpReferenceIdeal.Facts) (hPre_finite_mlp : Cert.Pre_finite_mlp.Facts) (hPre_finite_fox : Cert.Pre_finite_fox.Facts) (hPre_finite_ffw : Cert.Pre_finite_ffw.Facts),
    quiescent_Kernel (hKernel := hKernel)
    ∧ quiescent_KernelIdeal (hKernelIdeal := hKernelIdeal)
    ∧ quiescent_KernelIdeal_pre_finite_mlp (hKernelIdeal := hKernelIdeal) (hPre_finite_mlp := hPre_finite_mlp)
    ∧ quiescent_ReferenceIdeal (hReferenceIdeal := hReferenceIdeal)
    ∧ quiescent_ReferenceIdeal_pre_finite_mlp (hReferenceIdeal := hReferenceIdeal) (hPre_finite_mlp := hPre_finite_mlp)
    ∧ quiescent_Fox (hFox := hFox)
    ∧ quiescent_FoxIdeal (hFoxIdeal := hFoxIdeal)
    ∧ quiescent_FoxIdeal_pre_finite_fox (hFoxIdeal := hFoxIdeal) (hPre_finite_fox := hPre_finite_fox)
    ∧ quiescent_FoxReferenceIdeal (hFoxReferenceIdeal := hFoxReferenceIdeal)
    ∧ quiescent_FoxReferenceIdeal_pre_finite_fox (hFoxReferenceIdeal := hFoxReferenceIdeal) (hPre_finite_fox := hPre_finite_fox)
    ∧ quiescent_Proj (hProj := hProj)
    ∧ quiescent_ProjIdeal (hProjIdeal := hProjIdeal)
    ∧ quiescent_ProjReferenceIdeal (hProjReferenceIdeal := hProjReferenceIdeal)
    ∧ quiescent_Swa (hSwa := hSwa)
    ∧ quiescent_SwaIdeal (hSwaIdeal := hSwaIdeal)
    ∧ quiescent_SwaReferenceIdeal (hSwaReferenceIdeal := hSwaReferenceIdeal)
    ∧ quiescent_Ffw (hFfw := hFfw)
    ∧ quiescent_FfwIdeal (hFfwIdeal := hFfwIdeal)
    ∧ quiescent_FfwIdeal_pre_finite_ffw (hFfwIdeal := hFfwIdeal) (hPre_finite_ffw := hPre_finite_ffw)
    ∧ quiescent_FfwReferenceIdeal (hFfwReferenceIdeal := hFfwReferenceIdeal)
    ∧ quiescent_FfwReferenceIdeal_pre_finite_ffw (hFfwReferenceIdeal := hFfwReferenceIdeal) (hPre_finite_ffw := hPre_finite_ffw)
    ∧ quiescent_Xn (hXn := hXn)
    ∧ quiescent_XnIdeal (hXnIdeal := hXnIdeal)
    ∧ quiescent_XnReferenceIdeal (hXnReferenceIdeal := hXnReferenceIdeal)
    ∧ quiescent_Mf (hMf := hMf)
    ∧ quiescent_MfIdeal (hMfIdeal := hMfIdeal)
    ∧ quiescent_MfReferenceIdeal (hMfReferenceIdeal := hMfReferenceIdeal)
    ∧ quiescent_Np (hNp := hNp)
    ∧ quiescent_NpIdeal (hNpIdeal := hNpIdeal)
    ∧ quiescent_NpReferenceIdeal (hNpReferenceIdeal := hNpReferenceIdeal)
    ∧ preserves_Kernel_KernelIdeal
    ∧ algebraic_KernelIdeal_ReferenceIdeal_pre_finite_mlp (hKernelIdeal := hKernelIdeal) (hReferenceIdeal := hReferenceIdeal) (hPre_finite_mlp := hPre_finite_mlp)
    ∧ preserves_Fox_FoxIdeal
    ∧ algebraic_FoxIdeal_FoxReferenceIdeal_pre_finite_fox (hFoxIdeal := hFoxIdeal) (hFoxReferenceIdeal := hFoxReferenceIdeal) (hPre_finite_fox := hPre_finite_fox)
    ∧ preserves_Proj_ProjIdeal
    ∧ preserves_Swa_SwaIdeal
    ∧ preserves_Ffw_FfwIdeal
    ∧ algebraic_FfwIdeal_FfwReferenceIdeal_pre_finite_ffw (hFfwIdeal := hFfwIdeal) (hFfwReferenceIdeal := hFfwReferenceIdeal) (hPre_finite_ffw := hPre_finite_ffw)
    ∧ preserves_Xn_XnIdeal
    ∧ algebraic_XnIdeal_XnReferenceIdeal (hXnIdeal := hXnIdeal) (hXnReferenceIdeal := hXnReferenceIdeal)
    ∧ preserves_Mf_MfIdeal
    ∧ algebraic_MfIdeal_MfReferenceIdeal (hMfIdeal := hMfIdeal) (hMfReferenceIdeal := hMfReferenceIdeal)
    ∧ preserves_Np_NpIdeal
    ∧ algebraic_NpIdeal_NpReferenceIdeal (hNpIdeal := hNpIdeal) (hNpReferenceIdeal := hNpReferenceIdeal)
-- ==== Pre_finite_ffw.lean ====
abbrev S2x4096x8x64 : Shape := ⟨4, ![2, 4096, 8, 64]⟩
abbrev S2x4096x8 : Shape := ⟨3, ![2, 4096, 8]⟩
abbrev S_ : Shape := ⟨0, ![]⟩

class Facts : Prop where
  bcast_S_S2x4096x8x64 : S_.BroadcastsInDim S2x4096x8x64 (![] : Fin 0 → Fin S2x4096x8x64.rank)
  reducesTo_S2x4096x8x64_S_d0_1_2_3 : S2x4096x8x64.ReducesTo [0, 1, 2, 3] S_
  h_S_ : 0 < S_.numel
  bcast_S_S2x4096x8 : S_.BroadcastsInDim S2x4096x8 (![] : Fin 0 → Fin S2x4096x8.rank)
  reducesTo_S2x4096x8_S_d0_1_2 : S2x4096x8.ReducesTo [0, 1, 2] S_

variable [Facts]

def fn_part1 {F : FTy → Type} [FloatOps F] (main_v13 : IVec S_ 1) (main_v16 : IVec S2x4096x8 1) : IVec S_ 1 :=
  let main_c_5 : IVec S_ 1 := constantI S_ 1 1#1
  let main_v17 : IVec S_ 1 := (fun x v => Host.reduce IntOp.andi x v reducesTo_S2x4096x8_S_d0_1_2 h_S_) main_v16 main_c_5
  let main_v18 : IVec S_ 1 := andi main_v13 main_v17
  main_v18

def fn {F : FTy → Type} [FloatOps F] (main_arg0 : FVec F S2x4096x8x64 .f32) (main_arg1 : FVec F S2x4096x8x64 .f32) (main_arg2 : FVec F S2x4096x8x64 .f32) (main_arg3 : FVec F S2x4096x8 .f32) : IVec S_ 1 :=
  let main_v0 : FVec F S2x4096x8x64 .f32 := Host.absf main_arg0
  let main_cst : FVec F S_ .f32 := constant S_ .f32 0x7F800000#32
  let main_v1 : FVec F S2x4096x8x64 .f32 := broadcastInDim S2x4096x8x64 ![] bcast_S_S2x4096x8x64 main_cst
  let main_v2 : IVec S2x4096x8x64 1 := cmpf .olt main_v0 main_v1
  let main_c : IVec S_ 1 := constantI S_ 1 1#1
  let main_v3 : IVec S_ 1 := (fun x v => Host.reduce IntOp.andi x v reducesTo_S2x4096x8x64_S_d0_1_2_3 h_S_) main_v2 main_c
  let main_v4 : FVec F S2x4096x8x64 .f32 := Host.absf main_arg1
  let main_cst_0 : FVec F S_ .f32 := constant S_ .f32 0x7F800000#32
  let main_v5 : FVec F S2x4096x8x64 .f32 := broadcastInDim S2x4096x8x64 ![] bcast_S_S2x4096x8x64 main_cst_0
  let main_v6 : IVec S2x4096x8x64 1 := cmpf .olt main_v4 main_v5
  let main_c_1 : IVec S_ 1 := constantI S_ 1 1#1
  let main_v7 : IVec S_ 1 := (fun x v => Host.reduce IntOp.andi x v reducesTo_S2x4096x8x64_S_d0_1_2_3 h_S_) main_v6 main_c_1
  let main_v8 : IVec S_ 1 := andi main_v3 main_v7
  let main_v9 : FVec F S2x4096x8x64 .f32 := Host.absf main_arg2
  let main_cst_2 : FVec F S_ .f32 := constant S_ .f32 0x7F800000#32
  let main_v10 : FVec F S2x4096x8x64 .f32 := broadcastInDim S2x4096x8x64 ![] bcast_S_S2x4096x8x64 main_cst_2
  let main_v11 : IVec S2x4096x8x64 1 := cmpf .olt main_v9 main_v10
  let main_c_3 : IVec S_ 1 := constantI S_ 1 1#1
  let main_v12 : IVec S_ 1 := (fun x v => Host.reduce IntOp.andi x v reducesTo_S2x4096x8x64_S_d0_1_2_3 h_S_) main_v11 main_c_3
  let main_v13 : IVec S_ 1 := andi main_v8 main_v12
  let main_v14 : FVec F S2x4096x8 .f32 := Host.absf main_arg3
  let main_cst_4 : FVec F S_ .f32 := constant S_ .f32 0x7F800000#32
  let main_v15 : FVec F S2x4096x8 .f32 := broadcastInDim S2x4096x8 ![] bcast_S_S2x4096x8 main_cst_4
  let main_v16 : IVec S2x4096x8 1 := cmpf .olt main_v14 main_v15
  fn_part1 (F := F) main_v13 main_v16
-- ==== Pre_finite_fox.lean ====
abbrev S2x4096x8x64 : Shape := ⟨4, ![2, 4096, 8, 64]⟩
abbrev S2x4096x8 : Shape := ⟨3, ![2, 4096, 8]⟩
abbrev S_ : Shape := ⟨0, ![]⟩

class Facts : Prop where
  bcast_S_S2x4096x8x64 : S_.BroadcastsInDim S2x4096x8x64 (![] : Fin 0 → Fin S2x4096x8x64.rank)
  reducesTo_S2x4096x8x64_S_d0_1_2_3 : S2x4096x8x64.ReducesTo [0, 1, 2, 3] S_
  h_S_ : 0 < S_.numel
  bcast_S_S2x4096x8 : S_.BroadcastsInDim S2x4096x8 (![] : Fin 0 → Fin S2x4096x8.rank)
  reducesTo_S2x4096x8_S_d0_1_2 : S2x4096x8.ReducesTo [0, 1, 2] S_

variable [Facts]

def fn_part1 {F : FTy → Type} [FloatOps F] (main_arg4 : FVec F S2x4096x8x64 .f32) (main_v13 : IVec S_ 1) (main_v16 : IVec S2x4096x8 1) : IVec S_ 1 :=
  let main_c_5 : IVec S_ 1 := constantI S_ 1 1#1
  let main_v17 : IVec S_ 1 := (fun x v => Host.reduce IntOp.andi x v reducesTo_S2x4096x8_S_d0_1_2 h_S_) main_v16 main_c_5
  let main_v18 : IVec S_ 1 := andi main_v13 main_v17
  let main_v19 : FVec F S2x4096x8x64 .f32 := Host.absf main_arg4
  let main_cst_6 : FVec F S_ .f32 := constant S_ .f32 0x7F800000#32
  let main_v20 : FVec F S2x4096x8x64 .f32 := broadcastInDim S2x4096x8x64 ![] bcast_S_S2x4096x8x64 main_cst_6
  let main_v21 : IVec S2x4096x8x64 1 := cmpf .olt main_v19 main_v20
  let main_c_7 : IVec S_ 1 := constantI S_ 1 1#1
  let main_v22 : IVec S_ 1 := (fun x v => Host.reduce IntOp.andi x v reducesTo_S2x4096x8x64_S_d0_1_2_3 h_S_) main_v21 main_c_7
  let main_v23 : IVec S_ 1 := andi main_v18 main_v22
  main_v23

def fn {F : FTy → Type} [FloatOps F] (main_arg0 : FVec F S2x4096x8x64 .f32) (main_arg1 : FVec F S2x4096x8x64 .f32) (main_arg2 : FVec F S2x4096x8x64 .f32) (main_arg3 : FVec F S2x4096x8 .f32) (main_arg4 : FVec F S2x4096x8x64 .f32) : IVec S_ 1 :=
  let main_v0 : FVec F S2x4096x8x64 .f32 := Host.absf main_arg0
  let main_cst : FVec F S_ .f32 := constant S_ .f32 0x7F800000#32
  let main_v1 : FVec F S2x4096x8x64 .f32 := broadcastInDim S2x4096x8x64 ![] bcast_S_S2x4096x8x64 main_cst
  let main_v2 : IVec S2x4096x8x64 1 := cmpf .olt main_v0 main_v1
  let main_c : IVec S_ 1 := constantI S_ 1 1#1
  let main_v3 : IVec S_ 1 := (fun x v => Host.reduce IntOp.andi x v reducesTo_S2x4096x8x64_S_d0_1_2_3 h_S_) main_v2 main_c
  let main_v4 : FVec F S2x4096x8x64 .f32 := Host.absf main_arg1
  let main_cst_0 : FVec F S_ .f32 := constant S_ .f32 0x7F800000#32
  let main_v5 : FVec F S2x4096x8x64 .f32 := broadcastInDim S2x4096x8x64 ![] bcast_S_S2x4096x8x64 main_cst_0
  let main_v6 : IVec S2x4096x8x64 1 := cmpf .olt main_v4 main_v5
  let main_c_1 : IVec S_ 1 := constantI S_ 1 1#1
  let main_v7 : IVec S_ 1 := (fun x v => Host.reduce IntOp.andi x v reducesTo_S2x4096x8x64_S_d0_1_2_3 h_S_) main_v6 main_c_1
  let main_v8 : IVec S_ 1 := andi main_v3 main_v7
  let main_v9 : FVec F S2x4096x8x64 .f32 := Host.absf main_arg2
  let main_cst_2 : FVec F S_ .f32 := constant S_ .f32 0x7F800000#32
  let main_v10 : FVec F S2x4096x8x64 .f32 := broadcastInDim S2x4096x8x64 ![] bcast_S_S2x4096x8x64 main_cst_2
  let main_v11 : IVec S2x4096x8x64 1 := cmpf .olt main_v9 main_v10
  let main_c_3 : IVec S_ 1 := constantI S_ 1 1#1
  let main_v12 : IVec S_ 1 := (fun x v => Host.reduce IntOp.andi x v reducesTo_S2x4096x8x64_S_d0_1_2_3 h_S_) main_v11 main_c_3
  let main_v13 : IVec S_ 1 := andi main_v8 main_v12
  let main_v14 : FVec F S2x4096x8 .f32 := Host.absf main_arg3
  let main_cst_4 : FVec F S_ .f32 := constant S_ .f32 0x7F800000#32
  let main_v15 : FVec F S2x4096x8 .f32 := broadcastInDim S2x4096x8 ![] bcast_S_S2x4096x8 main_cst_4
  let main_v16 : IVec S2x4096x8 1 := cmpf .olt main_v14 main_v15
  fn_part1 (F := F) main_arg4 main_v13 main_v16
-- ==== Pre_finite_mlp.lean ====
abbrev S2x4096x1024 : Shape := ⟨3, ![2, 4096, 1024]⟩
abbrev S2x4096x512 : Shape := ⟨3, ![2, 4096, 512]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩

class Facts : Prop where
  bcast_S_S2x4096x1024 : S_.BroadcastsInDim S2x4096x1024 (![] : Fin 0 → Fin S2x4096x1024.rank)
  reducesTo_S2x4096x1024_S_d0_1_2 : S2x4096x1024.ReducesTo [0, 1, 2] S_
  h_S_ : 0 < S_.numel
  bcast_S_S2x4096x512 : S_.BroadcastsInDim S2x4096x512 (![] : Fin 0 → Fin S2x4096x512.rank)
  reducesTo_S2x4096x512_S_d0_1_2 : S2x4096x512.ReducesTo [0, 1, 2] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S1024x4096 : S_.BroadcastsInDim S1024x4096 (![] : Fin 0 → Fin S1024x4096.rank)
  reducesTo_S1024x4096_S_d0_1 : S1024x4096.ReducesTo [0, 1] S_
  bcast_S_S4096x1024 : S_.BroadcastsInDim S4096x1024 (![] : Fin 0 → Fin S4096x1024.rank)
  reducesTo_S4096x1024_S_d0_1 : S4096x1024.ReducesTo [0, 1] S_

variable [Facts]

def fn_part2 {F : FTy → Type} [FloatOps F] (main_arg7 : FVec F S2x4096x1024 .f32) (main_v33 : IVec S_ 1) : IVec S_ 1 :=
  let main_v34 : FVec F S2x4096x1024 .f32 := Host.absf main_arg7
  let main_cst_12 : FVec F S_ .f32 := constant S_ .f32 0x7F800000#32
  let main_v35 : FVec F S2x4096x1024 .f32 := broadcastInDim S2x4096x1024 ![] bcast_S_S2x4096x1024 main_cst_12
  let main_v36 : IVec S2x4096x1024 1 := cmpf .olt main_v34 main_v35
  let main_c_13 : IVec S_ 1 := constantI S_ 1 1#1
  let main_v37 : IVec S_ 1 := (fun x v => Host.reduce IntOp.andi x v reducesTo_S2x4096x1024_S_d0_1_2 h_S_) main_v36 main_c_13
  let main_v38 : IVec S_ 1 := andi main_v33 main_v37
  main_v38

def fn_part1 {F : FTy → Type} [FloatOps F] (main_arg4 : FVec F S1024 .f32) (main_arg5 : FVec F S1024x4096 .f32) (main_arg6 : FVec F S4096x1024 .f32) (main_arg7 : FVec F S2x4096x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x4096 .f32 := Host.absf main_arg5
  let main_cst_8 : FVec F S_ .f32 := constant S_ .f32 0x7F800000#32
  let main_v25 : FVec F S1024x4096 .f32 := broadcastInDim S1024x4096 ![] bcast_S_S1024x4096 main_cst_8
  let main_v26 : IVec S1024x4096 1 := cmpf .olt main_v24 main_v25
  let main_c_9 : IVec S_ 1 := constantI S_ 1 1#1
  let main_v27 : IVec S_ 1 := (fun x v => Host.reduce IntOp.andi x v reducesTo_S1024x4096_S_d0_1 h_S_) main_v26 main_c_9
  let main_v28 : IVec S_ 1 := andi main_v23 main_v27
  let main_v29 : FVec F S4096x1024 .f32 := Host.absf main_arg6
  let main_cst_10 : FVec F S_ .f32 := constant S_ .f32 0x7F800000#32
  let main_v30 : FVec F S4096x1024 .f32 := broadcastInDim S4096x1024 ![] bcast_S_S4096x1024 main_cst_10
  let main_v31 : IVec S4096x1024 1 := cmpf .olt main_v29 main_v30
  let main_c_11 : IVec S_ 1 := constantI S_ 1 1#1
  let main_v32 : IVec S_ 1 := (fun x v => Host.reduce IntOp.andi x v reducesTo_S4096x1024_S_d0_1 h_S_) main_v31 main_c_11
  let main_v33 : IVec S_ 1 := andi main_v28 main_v32
  fn_part2 (F := F) main_arg7 main_v33

def fn {F : FTy → Type} [FloatOps F] (main_arg0 : FVec F S2x4096x1024 .f32) (main_arg1 : FVec F S2x4096x512 .f32) (main_arg2 : FVec F S2x4096x512 .f32) (main_arg3 : FVec F S1024x1024 .f32) (main_arg4 : FVec F S1024 .f32) (main_arg5 : FVec F S1024x4096 .f32) (main_arg6 : FVec F S4096x1024 .f32) (main_arg7 : FVec F S2x4096x1024 .f32) : IVec S_ 1 :=
  let main_v0 : FVec F S2x4096x1024 .f32 := Host.absf main_arg0
  let main_cst : FVec F S_ .f32 := constant S_ .f32 0x7F800000#32
  let main_v1 : FVec F S2x4096x1024 .f32 := broadcastInDim S2x4096x1024 ![] bcast_S_S2x4096x1024 main_cst
  let main_v2 : IVec S2x4096x1024 1 := cmpf .olt main_v0 main_v1
  let main_c : IVec S_ 1 := constantI S_ 1 1#1
  let main_v3 : IVec S_ 1 := (fun x v => Host.reduce IntOp.andi x v reducesTo_S2x4096x1024_S_d0_1_2 h_S_) main_v2 main_c
  let main_v4 : FVec F S2x4096x512 .f32 := Host.absf main_arg1
  let main_cst_0 : FVec F S_ .f32 := constant S_ .f32 0x7F800000#32
  let main_v5 : FVec F S2x4096x512 .f32 := broadcastInDim S2x4096x512 ![] bcast_S_S2x4096x512 main_cst_0
  let main_v6 : IVec S2x4096x512 1 := cmpf .olt main_v4 main_v5
  let main_c_1 : IVec S_ 1 := constantI S_ 1 1#1
  let main_v7 : IVec S_ 1 := (fun x v => Host.reduce IntOp.andi x v reducesTo_S2x4096x512_S_d0_1_2 h_S_) main_v6 main_c_1
  let main_v8 : IVec S_ 1 := andi main_v3 main_v7
  let main_v9 : FVec F S2x4096x512 .f32 := Host.absf main_arg2
  let main_cst_2 : FVec F S_ .f32 := constant S_ .f32 0x7F800000#32
  let main_v10 : FVec F S2x4096x512 .f32 := broadcastInDim S2x4096x512 ![] bcast_S_S2x4096x512 main_cst_2
  let main_v11 : IVec S2x4096x512 1 := cmpf .olt main_v9 main_v10
  let main_c_3 : IVec S_ 1 := constantI S_ 1 1#1
  let main_v12 : IVec S_ 1 := (fun x v => Host.reduce IntOp.andi x v reducesTo_S2x4096x512_S_d0_1_2 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_v13 main_v16
-- ==== Kernel.lean ====
abbrev S2x4096x1024 : Shape := ⟨3, ![2, 4096, 1024]⟩
abbrev S2x4096x512 : Shape := ⟨3, ![2, 4096, 512]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S2x4096 : Shape := ⟨2, ![2, 4096]⟩
abbrev S2x4096x1 : Shape := ⟨3, ![2, 4096, 1]⟩
abbrev S1x1x1024 : Shape := ⟨3, ![1, 1, 1024]⟩
abbrev S2x4096x4096 : Shape := ⟨3, ![2, 4096, 4096]⟩
abbrev S8192x1024 : Shape := ⟨2, ![8192, 1024]⟩
abbrev S8192x4096 : Shape := ⟨2, ![8192, 4096]⟩
abbrev S8192x512 : Shape := ⟨2, ![8192, 512]⟩
abbrev S1x1024 : Shape := ⟨2, ![1, 1024]⟩
abbrev S8192x128 : Shape := ⟨2, ![8192, 128]⟩
abbrev S512x1024 : Shape := ⟨2, ![512, 1024]⟩
abbrev S512x4096 : Shape := ⟨2, ![512, 4096]⟩
abbrev S512x512 : Shape := ⟨2, ![512, 512]⟩
abbrev S512x128 : Shape := ⟨2, ![512, 128]⟩
abbrev S512 : Shape := ⟨1, ![512]⟩
abbrev S512x1 : Shape := ⟨2, ![512, 1]⟩

abbrev nBuf : Space → Nat
  | .hbm => 52
  | .vmem => 27
  | .smem => 0
  | _ => 0

abbrev bufTy : (tb : Table) → Fin (tcTables nBuf tb) → BufTy
  | .hbm, ⟨0, _⟩ => ⟨S2x4096x1024, .f32⟩
  | .hbm, ⟨1, _⟩ => ⟨S2x4096x512, .f32⟩
  | .hbm, ⟨2, _⟩ => ⟨S2x4096x512, .f32⟩
  | .hbm, ⟨3, _⟩ => ⟨S1024x1024, .f32⟩
  | .hbm, ⟨4, _⟩ => ⟨S1024, .f32⟩
  | .hbm, ⟨5, _⟩ => ⟨S1024x4096, .f32⟩
  | .hbm, ⟨6, _⟩ => ⟨S4096x1024, .f32⟩
  | .hbm, ⟨7, _⟩ => ⟨S2x4096x1024, .f32⟩
  | .hbm, ⟨8, _⟩ => ⟨S2x4096x1024, .f32⟩
  | .hbm, ⟨9, _⟩ => ⟨S2x4096x1024, .f32⟩
  | .hbm, ⟨10, _⟩ => ⟨S2x4096x1024, .f32⟩
  | .hbm, ⟨11, _⟩ => ⟨S2x4096x1024, .f32⟩
  | .hbm, ⟨12, _⟩ => ⟨S_, .f32⟩
  | .hbm, ⟨13, _⟩ => ⟨S2x4096, .f32⟩
  | .hbm, ⟨14, _⟩ => ⟨S2x4096x1, .f32⟩
  | .hbm, ⟨15, _⟩ => ⟨S_, .f32⟩
  | .hbm, ⟨16, _⟩ => ⟨S2x4096x1, .f32⟩
  | .hbm, ⟨17, _⟩ => ⟨S2x4096x1, .f32⟩
  | .hbm, ⟨18, _⟩ => ⟨S_, .f32⟩
  | .hbm, ⟨19, _⟩ => ⟨S2x4096x1, .f32⟩
  | .hbm, ⟨20, _⟩ => ⟨S2x4096x1, .f32⟩
  | .hbm, ⟨21, _⟩ => ⟨S2x4096x1, .f32⟩
  | .hbm, ⟨22, _⟩ => ⟨S2x4096x1024, .f32⟩
  | .hbm, ⟨23, _⟩ => ⟨S2x4096x1024, .f32⟩
  | .hbm, ⟨24, _⟩ => ⟨S1x1x1024, .f32⟩
  | .hbm, ⟨25, _⟩ => ⟨S2x4096x1024, .f32⟩
  | .hbm, ⟨26, _⟩ => ⟨S2x4096x1024, .f32⟩
  | .hbm, ⟨27, _⟩ => ⟨S2x4096x4096, .f32⟩
  | .hbm, ⟨28, _⟩ => ⟨S_, .f32⟩
  | .hbm, ⟨29, _⟩ => ⟨S2x4096x4096, .f32⟩
  | .hbm, ⟨30, _⟩ => ⟨S2x4096x4096, .f32⟩
  | .hbm, ⟨31, _⟩ => ⟨S2x4096x4096, .f32⟩
  | .hbm, ⟨32, _⟩ => ⟨S8192x1024, .f32⟩
  | .hbm, ⟨33, _⟩ => ⟨S8192x4096, .f32⟩
  | .hbm, ⟨34, _⟩ => ⟨S8192x4096, .bf16⟩
  | .hbm, ⟨35, _⟩ => ⟨S8192x1024, .f32⟩
  | .hbm, ⟨36, _⟩ => ⟨S8192x512, .f32⟩
  | .hbm, ⟨37, _⟩ => ⟨S8192x512, .bf16⟩
  | .hbm, ⟨38, _⟩ => ⟨S8192x512, .f32⟩
  | .hbm, ⟨39, _⟩ => ⟨S8192x512, .bf16⟩
  | .hbm, ⟨40, _⟩ => ⟨S4096x1024, .bf16⟩
  | .hbm, ⟨41, _⟩ => ⟨S1024x4096, .bf16⟩
  | .hbm, ⟨42, _⟩ => ⟨S4096x1024, .bf16⟩
  | .hbm, ⟨43, _⟩ => ⟨S1024x1024, .bf16⟩
  | .hbm, ⟨44, _⟩ => ⟨S1x1024, .f32⟩
  | .hbm, ⟨45, _⟩ => ⟨S8192x4096, .bf16⟩
  | .hbm, ⟨46, _⟩ => ⟨S8192x1024, .f32⟩
  | .hbm, ⟨47, _⟩ => ⟨S8192x1024, .bf16⟩
  | .hbm, ⟨48, _⟩ => ⟨S8192x512, .bf16⟩
  | .hbm, ⟨49, _⟩ => ⟨S8192x1024, .bf16⟩
  | .hbm, ⟨50, _⟩ => ⟨S8192x128, .f32⟩
  | .hbm, ⟨51, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x4096, .bf16⟩
  | .local _ .vmem, ⟨3, _⟩ => ⟨S512x4096, .bf16⟩
  | .local _ .vmem, ⟨4, _⟩ => ⟨S512x1024, .f32⟩
  | .local _ .vmem, ⟨5, _⟩ => ⟨S512x1024, .f32⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S4096x1024, .bf16⟩
  | .local _ .vmem, ⟨11, _⟩ => ⟨S4096x1024, .bf16⟩
  | .local _ .vmem, ⟨12, _⟩ => ⟨S1024x1024, .bf16⟩
  | .local _ .vmem, ⟨13, _⟩ => ⟨S1x1024, .f32⟩
  | .local _ .vmem, ⟨14, _⟩ => ⟨S512x4096, .bf16⟩
  | .local _ .vmem, ⟨15, _⟩ => ⟨S512x4096, .bf16⟩
  | .local _ .vmem, ⟨16, _⟩ => ⟨S512x1024, .f32⟩
  | .local _ .vmem, ⟨17, _⟩ => ⟨S512x1024, .f32⟩
  | .local _ .vmem, ⟨18, _⟩ => ⟨S512x1024, .bf16⟩
  | .local _ .vmem, ⟨19, _⟩ => ⟨S512x1024, .bf16⟩
  | .local _ .vmem, ⟨20, _⟩ => ⟨S512x512, .bf16⟩
  | .local _ .vmem, ⟨21, _⟩ => ⟨S512x512, .bf16⟩
  | .local _ .vmem, ⟨22, _⟩ => ⟨S512x1024, .bf16⟩
  | .local _ .vmem, ⟨23, _⟩ => ⟨S512x1024, .bf16⟩
  | .local _ .vmem, ⟨24, _⟩ => ⟨S512x128, .f32⟩
  | .local _ .vmem, ⟨25, _⟩ => ⟨S512x128, .f32⟩
  | .local _ .vmem, ⟨26, _⟩ => ⟨S1x1024, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_call0_cst : Ref sig .tc := ⟨.hbm, 28, rfl⟩
abbrev main_call0_v0 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32_0 : Ref sig .tc := ⟨.hbm, 45, rfl⟩
abbrev main_v32_1 : Ref sig .tc := ⟨.hbm, 46, rfl⟩
abbrev main_v32_2 : Ref sig .tc := ⟨.hbm, 47, rfl⟩
abbrev main_v32_3 : Ref sig .tc := ⟨.hbm, 48, rfl⟩
abbrev main_v32_4 : Ref sig .tc := ⟨.hbm, 49, rfl⟩
abbrev main_v32_5 : Ref sig .tc := ⟨.hbm, 50, rfl⟩
abbrev main_v32_6 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4096x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== ReferenceIdeal.lean ====
abbrev S2x4096x1024 : Shape := ⟨3, ![2, 4096, 1024]⟩
abbrev S2x4096x512 : Shape := ⟨3, ![2, 4096, 512]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S2x4096 : Shape := ⟨2, ![2, 4096]⟩
abbrev S2x4096x1 : Shape := ⟨3, ![2, 4096, 1]⟩
abbrev S1x1x1024 : Shape := ⟨3, ![1, 1, 1024]⟩
abbrev S2x4096x4096 : Shape := ⟨3, ![2, 4096, 4096]⟩
abbrev S8192x8x64 : Shape := ⟨3, ![8192, 8, 64]⟩
abbrev S8192x8 : Shape := ⟨2, ![8192, 8]⟩
abbrev S8192x8x10 : Shape := ⟨3, ![8192, 8, 10]⟩
abbrev S8192x8x1 : Shape := ⟨3, ![8192, 8, 1]⟩
abbrev S8192x8x53 : Shape := ⟨3, ![8192, 8, 53]⟩
abbrev S8192x8x128 : Shape := ⟨3, ![8192, 8, 128]⟩
abbrev S8192x4096 : Shape := ⟨2, ![8192, 4096]⟩
abbrev S8192x1024 : Shape := ⟨2, ![8192, 1024]⟩
abbrev S8192x512 : Shape := ⟨2, ![8192, 512]⟩
abbrev S8192x120 : Shape := ⟨2, ![8192, 120]⟩
abbrev S8192x128 : Shape := ⟨2, ![8192, 128]⟩
abbrev S1x1024 : Shape := ⟨2, ![1, 1024]⟩

abbrev nBuf : Space → Nat
  | .hbm => 150
  | .vmem => 0
  | .smem => 0
  | _ => 0

abbrev hbmTy0_0 (i : Nat) : BufTy := match i % 128 with
  | 0 => ⟨S2x4096x1024, .f32⟩
  | 1 => ⟨S2x4096x512, .f32⟩
  | 2 => ⟨S2x4096x512, .f32⟩
  | 3 => ⟨S1024x1024, .f32⟩
  | 4 => ⟨S1024, .f32⟩
  | 5 => ⟨S1024x4096, .f32⟩
  | 6 => ⟨S4096x1024, .f32⟩
  | 7 => ⟨S2x4096x1024, .f32⟩
  | 8 => ⟨S2x4096x1024, .f32⟩
  | 9 => ⟨S2x4096x1024, .f32⟩
  | 10 => ⟨S2x4096x1024, .f32⟩
  | 11 => ⟨S2x4096x1024, .f32⟩
  | 12 => ⟨S_, .f32⟩
  | 13 => ⟨S2x4096, .f32⟩
  | 14 => ⟨S2x4096x1, .f32⟩
  | 15 => ⟨S_, .f32⟩
  | 16 => ⟨S2x4096x1, .f32⟩
  | 17 => ⟨S2x4096x1, .f32⟩
  | 18 => ⟨S_, .f32⟩
  | 19 => ⟨S2x4096x1, .f32⟩
  | 20 => ⟨S2x4096x1, .f32⟩
  | 21 => ⟨S2x4096x1, .f32⟩
  | 22 => ⟨S2x4096x1, .f32⟩
  | 23 => ⟨S_, .f32⟩
  | 24 => ⟨S2x4096x1, .f32⟩
  | 25 => ⟨S2x4096x1, .f32⟩
  | 26 => ⟨S2x4096x1024, .f32⟩
  | 27 => ⟨S2x4096x1024, .f32⟩
  | 28 => ⟨S1x1x1024, .f32⟩
  | 29 => ⟨S2x4096x1024, .f32⟩
  | 30 => ⟨S2x4096x1024, .f32⟩
  | 31 => ⟨S2x4096x4096, .f32⟩
  | 32 => ⟨S_, .f32⟩
  | 33 => ⟨S2x4096x4096, .f32⟩
  | 34 => ⟨S2x4096x4096, .f32⟩
  | 35 => ⟨S_, .f32⟩
  | 36 => ⟨S2x4096x4096, .f32⟩
  | 37 => ⟨S2x4096x4096, .i1⟩
  | 38 => ⟨S_, .f32⟩
  | 39 => ⟨S2x4096x4096, .f32⟩
  | 40 => ⟨S2x4096x4096, .f32⟩
  | 41 => ⟨S_, .f32⟩
  | 42 => ⟨S2x4096x4096, .f32⟩
  | 43 => ⟨S2x4096x4096, .f32⟩
  | 44 => ⟨S2x4096x1024, .f32⟩
  | 45 => ⟨S2x4096x1024, .f32⟩
  | 46 => ⟨S2x4096x1024, .f32⟩
  | 47 => ⟨S2x4096x1024, .f32⟩
  | 48 => ⟨S2x4096x4096, .f32⟩
  | 49 => ⟨S2x4096x4096, .f32⟩
  | 50 => ⟨S_, .f32⟩
  | 51 => ⟨S2x4096x4096, .f32⟩
  | 52 => ⟨S2x4096x4096, .f32⟩
  | 53 => ⟨S2x4096x1024, .f32⟩
  | 54 => ⟨S2x4096x1024, .f32⟩
  | 55 => ⟨S_, .f32⟩
  | 56 => ⟨S1024, .f32⟩
  | 57 => ⟨S1x1x1024, .f32⟩
  | 58 => ⟨S2x4096x1024, .f32⟩
  | 59 => ⟨S2x4096x1024, .f32⟩
  | 60 => ⟨S_, .f32⟩
  | 61 => ⟨S1024, .f32⟩
  | 62 => ⟨S2x4096x1024, .f32⟩
  | 63 => ⟨S_, .f32⟩
  | 64 => ⟨S2x4096, .f32⟩
  | 65 => ⟨S2x4096x1, .f32⟩
  | 66 => ⟨S2x4096x1024, .f32⟩
  | 67 => ⟨S2x4096x1024, .f32⟩
  | 68 => ⟨S2x4096x1024, .f32⟩
  | 69 => ⟨S2x4096x1, .f32⟩
  | 70 => ⟨S_, .f32⟩
  | 71 => ⟨S2x4096x1, .f32⟩
  | 72 => ⟨S2x4096x1, .f32⟩
  | 73 => ⟨S_, .f32⟩
  | 74 => ⟨S2x4096, .f32⟩
  | 75 => ⟨S2x4096x1024, .f32⟩
  | 76 => ⟨S2x4096x1024, .f32⟩
  | 77 => ⟨S2x4096x1024, .f32⟩
  | 78 => ⟨S2x4096x1024, .f32⟩
  | 79 => ⟨S2x4096x1024, .f32⟩
  | 80 => ⟨S2x4096x1024, .f32⟩
  | 81 => ⟨S2x4096x512, .f32⟩
  | 82 => ⟨S2x4096x512, .f32⟩
  | 83 => ⟨S2x4096x1024, .f32⟩
  | 84 => ⟨S2x4096x1024, .f32⟩
  | 85 => ⟨S2x4096x1024, .f32⟩
  | 86 => ⟨S2x4096x1024, .f32⟩
  | 87 => ⟨S_, .f32⟩
  | 88 => ⟨S2x4096, .f32⟩
  | 89 => ⟨S2x4096x1, .f32⟩
  | 90 => ⟨S_, .f32⟩
  | 91 => ⟨S2x4096x1, .f32⟩
  | 92 => ⟨S2x4096x1, .f32⟩
  | 93 => ⟨S_, .f32⟩
  | 94 => ⟨S2x4096x1, .f32⟩
  | 95 => ⟨S2x4096x1, .f32⟩
  | 96 => ⟨S2x4096x1, .f32⟩
  | 97 => ⟨S2x4096x1024, .f32⟩
  | 98 => ⟨S2x4096x1024, .f32⟩
  | 99 => ⟨S1x1x1024, .f32⟩
  | 100 => ⟨S2x4096x1024, .f32⟩
  | 101 => ⟨S2x4096x1024, .f32⟩
  | 102 => ⟨S2x4096x4096, .f32⟩
  | 103 => ⟨S_, .f32⟩
  | 104 => ⟨S2x4096x4096, .f32⟩
  | 105 => ⟨S2x4096x4096, .f32⟩
  | 106 => ⟨S_, .f32⟩
  | 107 => ⟨S2x4096x4096, .f32⟩
  | 108 => ⟨S2x4096x4096, .i1⟩
  | 109 => ⟨S_, .f32⟩
  | 110 => ⟨S2x4096x4096, .f32⟩
  | 111 => ⟨S2x4096x4096, .f32⟩
  | 112 => ⟨S_, .f32⟩
  | 113 => ⟨S2x4096x4096, .f32⟩
  | 114 => ⟨S2x4096x4096, .f32⟩
  | 115 => ⟨S2x4096x1024, .f32⟩
  | 116 => ⟨S2x4096x4096, .f32⟩
  | 117 => ⟨S2x4096x4096, .f32⟩
  | 118 => ⟨S_, .f32⟩
  | 119 => ⟨S2x4096x4096, .f32⟩
  | 120 => ⟨S2x4096x4096, .f32⟩
  | 121 => ⟨S2x4096x512, .f32⟩
  | 122 => ⟨S8192x8x64, .f32⟩
  | 123 => ⟨S_, .f32⟩
  | 124 => ⟨S8192x8, .f32⟩
  | 125 => ⟨S2x4096x512, .f32⟩
  | 126 => ⟨S8192x8x64, .f32⟩
  | 127 => ⟨S_, .f32⟩
  | _ => ⟨S2x4096x1024, .f32⟩

abbrev hbmTy0_1 (i : Nat) : BufTy := match i % 128 with
  | 0 => ⟨S8192x8, .f32⟩
  | 1 => ⟨S8192x8x64, .f32⟩
  | 2 => ⟨S_, .f32⟩
  | 3 => ⟨S8192x8x10, .f32⟩
  | 4 => ⟨S8192x8x1, .f32⟩
  | 5 => ⟨S8192x8x1, .f32⟩
  | 6 => ⟨S_, .f32⟩
  | 7 => ⟨S8192x8x53, .f32⟩
  | 8 => ⟨S8192x8x128, .f32⟩
  | 9 => ⟨S8192x4096, .f32⟩
  | 10 => ⟨S8192x4096, .bf16⟩
  | 11 => ⟨S8192x1024, .f32⟩
  | 12 => ⟨S8192x1024, .f32⟩
  | 13 => ⟨S8192x1024, .bf16⟩
  | 14 => ⟨S8192x512, .f32⟩
  | 15 => ⟨S8192x512, .bf16⟩
  | 16 => ⟨S8192x1024, .f32⟩
  | 17 => ⟨S8192x1024, .bf16⟩
  | 18 => ⟨S_, .f32⟩
  | 19 => ⟨S8192x120, .f32⟩
  | 20 => ⟨S8192x128, .f32⟩
  | 21 => ⟨S1x1024, .f32⟩
  | _ => ⟨S2x4096x1024, .f32⟩

abbrev hbmTy (i : Nat) : BufTy := match i / 128 with
  | 0 => hbmTy0_0 i
  | 1 => hbmTy0_1 i
  | _ => ⟨S2x4096x1024, .f32⟩

abbrev bufTy : (tb : Table) → Fin (tcTables nBuf tb) → BufTy
  | .hbm, ⟨i, _⟩ => hbmTy i
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_call0_cst : Ref sig .tc := ⟨.hbm, 32, rfl⟩
abbrev main_call0_v0 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_v22 : Ref sig .tc := ⟨.hbm, 37, rfl⟩
abbrev main_cst_4 : Ref sig .tc := ⟨.hbm, 38, rfl⟩
abbrev main_v23 : Ref sig .tc := ⟨.hbm, 39, rfl⟩
abbrev main_v24 : Ref sig .tc := ⟨.hbm, 40, rfl⟩
abbrev main_cst_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_6 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_7 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_cst_9 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_10 : Ref sig .tc := ⟨.hbm, 70, rfl⟩
abbrev main_v49 : Ref sig .tc := ⟨.hbm, 71, rfl⟩
abbrev main_v50 : Ref sig .tc := ⟨.hbm, 72, rfl⟩
abbrev main_cst_11 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_12 : Ref sig .tc := ⟨.hbm, 87, rfl⟩
abbrev main_v64 : Ref sig .tc := ⟨.hbm, 88, rfl⟩
abbrev main_v65 : Ref sig .tc := ⟨.hbm, 89, rfl⟩
abbrev main_cst_13 : Ref sig .tc := ⟨.hbm, 90, rfl⟩
abbrev main_v66 : Ref sig .tc := ⟨.hbm, 91, rfl⟩
abbrev main_v67 : Ref sig .tc := ⟨.hbm, 92, rfl⟩
abbrev main_cst_14 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_call1_cst : Ref sig .tc := ⟨.hbm, 103, rfl⟩
abbrev main_call1_v0 : Ref sig .tc := ⟨.hbm, 104, rfl⟩
abbrev main_v77 : Ref sig .tc := ⟨.hbm, 105, rfl⟩
abbrev main_cst_15 : Ref sig .tc := ⟨.hbm, 106, rfl⟩
abbrev main_v78 : Ref sig .tc := ⟨.hbm, 107, rfl⟩
abbrev main_v79 : Ref sig .tc := ⟨.hbm, 108, rfl⟩
abbrev main_cst_16 : Ref sig .tc := ⟨.hbm, 109, rfl⟩
abbrev main_v80 : Ref sig .tc := ⟨.hbm, 110, rfl⟩
abbrev main_v81 : Ref sig .tc := ⟨.hbm, 111, rfl⟩
abbrev main_cst_17 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_cst_18 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_cst_19 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_cst_20 : Ref sig .tc := ⟨.hbm, 127, rfl⟩
abbrev main_v94 : Ref sig .tc := ⟨.hbm, 128, rfl⟩
abbrev main_v95 : Ref sig .tc := ⟨.hbm, 129, rfl⟩
abbrev main_cst_21 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_cst_22 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_cst_23 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩

abbrev nD : Nat := 1
abbrev τ : Topo := Topo.v7x

variable {F : FTy → Type} [FloatOps F]
-- ==== Fox.lean ====
abbrev S2x4096x8x64 : Shape := ⟨4, ![2, 4096, 8, 64]⟩
abbrev S2x4096x8 : Shape := ⟨3, ![2, 4096, 8]⟩
abbrev S_ : Shape := ⟨0, ![]⟩
abbrev S2x8x4096x4096 : Shape := ⟨4, ![2, 8, 4096, 4096]⟩
abbrev S2x8x4096 : Shape := ⟨3, ![2, 8, 4096]⟩
abbrev S2x8x4096x1 : Shape := ⟨4, ![2, 8, 4096, 1]⟩
abbrev S2x8x1x4096 : Shape := ⟨4, ![2, 8, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x1x4096x4096 : Shape := ⟨4, ![1, 1, 4096, 4096]⟩
abbrev S2x8x64x4096 : Shape := ⟨4, ![2, 8, 64, 4096]⟩
abbrev S2x4096x8x1 : Shape := ⟨4, ![2, 4096, 8, 1]⟩
abbrev S2x4096x8x3 : Shape := ⟨4, ![2, 4096, 8, 3]⟩
abbrev S2x4096x8x54 : Shape := ⟨4, ![2, 4096, 8, 54]⟩
abbrev S2x4096x8x128 : Shape := ⟨4, ![2, 4096, 8, 128]⟩
abbrev S8192x1024 : Shape := ⟨2, ![8192, 1024]⟩
abbrev S2x4096x8x51 : Shape := ⟨4, ![2, 4096, 8, 51]⟩
abbrev S4096x256 : Shape := ⟨2, ![4096, 256]⟩
abbrev S1024x256 : Shape := ⟨2, ![1024, 256]⟩
abbrev S1024x1024 : Shape := ⟨2, ![1024, 1024]⟩
abbrev S1024x128 : Shape := ⟨2, ![1024, 128]⟩

abbrev nBuf : Space → Nat
  | .hbm => 172
  | .vmem => 14
  | .smem => 0
  | _ => 0

abbrev hbmTy0_0 (i : Nat) : BufTy := match i % 128 with
  | 0 => ⟨S2x4096x8x64, .f32⟩
  | 1 => ⟨S2x4096x8x64, .f32⟩
  | 2 => ⟨S2x4096x8x64, .f32⟩
  | 3 => ⟨S2x4096x8, .f32⟩
  | 4 => ⟨S2x4096x8x64, .f32⟩
  | 5 => ⟨S_, .f32⟩
  | 6 => ⟨S_, .f32⟩
  | 7 => ⟨S2x4096x8, .f32⟩
  | 8 => ⟨S2x8x4096x4096, .f32⟩
  | 9 => ⟨S_, .f32⟩
  | 10 => ⟨S2x8x4096x4096, .f32⟩
  | 11 => ⟨S2x8x4096x4096, .f32⟩
  | 12 => ⟨S2x8x4096, .f32⟩
  | 13 => ⟨S2x8x4096x1, .f32⟩
  | 14 => ⟨S2x8x1x4096, .f32⟩
  | 15 => ⟨S2x8x4096x4096, .f32⟩
  | 16 => ⟨S2x8x4096x4096, .f32⟩
  | 17 => ⟨S2x8x4096x4096, .f32⟩
  | 18 => ⟨S4096, .i32⟩
  | 19 => ⟨S1x4096, .i32⟩
  | 20 => ⟨S4096x1, .i32⟩
  | 21 => ⟨S4096x4096, .i32⟩
  | 22 => ⟨S4096x4096, .i32⟩
  | 23 => ⟨S4096x4096, .i1⟩
  | 24 => ⟨S1x1x4096x4096, .i1⟩
  | 25 => ⟨S2x8x4096x4096, .f32⟩
  | 26 => ⟨S_, .f32⟩
  | 27 => ⟨S_, .f32⟩
  | 28 => ⟨S2x8x4096x4096, .i1⟩
  | 29 => ⟨S2x8x4096x4096, .f32⟩
  | 30 => ⟨S2x8x4096x4096, .f32⟩
  | 31 => ⟨S_, .f32⟩
  | 32 => ⟨S2x8x4096, .f32⟩
  | 33 => ⟨S2x8x4096x1, .f32⟩
  | 34 => ⟨S2x8x4096x4096, .f32⟩
  | 35 => ⟨S2x8x4096x4096, .f32⟩
  | 36 => ⟨S2x8x4096x4096, .f32⟩
  | 37 => ⟨S_, .f32⟩
  | 38 => ⟨S2x8x4096, .f32⟩
  | 39 => ⟨S2x8x4096, .f32⟩
  | 40 => ⟨S2x8x4096, .f32⟩
  | 41 => ⟨S2x4096x8, .f32⟩
  | 42 => ⟨S2x8x4096x1, .f32⟩
  | 43 => ⟨S2x8x4096x4096, .f32⟩
  | 44 => ⟨S2x8x4096x4096, .f32⟩
  | 45 => ⟨S2x8x64x4096, .f32⟩
  | 46 => ⟨S2x4096x8x64, .f32⟩
  | 47 => ⟨S2x4096x8x64, .f32⟩
  | 48 => ⟨S_, .f32⟩
  | 49 => ⟨S2x4096x8, .f32⟩
  | 50 => ⟨S_, .f32⟩
  | 51 => ⟨S2x4096x8x1, .f32⟩
  | 52 => ⟨S_, .f32⟩
  | 53 => ⟨S2x4096x8x3, .f32⟩
  | 54 => ⟨S_, .f32⟩
  | 55 => ⟨S_, .f32⟩
  | 56 => ⟨S2x4096x8, .f32⟩
  | 57 => ⟨S2x4096x8, .f32⟩
  | 58 => ⟨S2x4096x8, .bf16⟩
  | 59 => ⟨S2x4096x8, .f32⟩
  | 60 => ⟨S2x4096x8, .f32⟩
  | 61 => ⟨S2x4096x8, .bf16⟩
  | 62 => ⟨S2x4096x8, .f32⟩
  | 63 => ⟨S2x4096x8, .f32⟩
  | 64 => ⟨S2x4096x8, .f32⟩
  | 65 => ⟨S2x4096x8, .bf16⟩
  | 66 => ⟨S2x4096x8, .f32⟩
  | 67 => ⟨S2x4096x8x1, .f32⟩
  | 68 => ⟨S2x4096x8x1, .f32⟩
  | 69 => ⟨S2x4096x8x1, .f32⟩
  | 70 => ⟨S2x4096x8x3, .f32⟩
  | 71 => ⟨S_, .f32⟩
  | 72 => ⟨S_, .f32⟩
  | 73 => ⟨S2x4096x8x64, .f32⟩
  | 74 => ⟨S2x4096x8x64, .f32⟩
  | 75 => ⟨S_, .f32⟩
  | 76 => ⟨S2x4096x8x1, .f32⟩
  | 77 => ⟨S2x4096x8x1, .f32⟩
  | 78 => ⟨S2x4096x8, .f32⟩
  | 79 => ⟨S2x4096x8, .f32⟩
  | 80 => ⟨S2x4096x8, .f32⟩
  | 81 => ⟨S2x4096x8, .bf16⟩
  | 82 => ⟨S2x4096x8, .f32⟩
  | 83 => ⟨S2x4096x8, .f32⟩
  | 84 => ⟨S2x4096x8, .bf16⟩
  | 85 => ⟨S2x4096x8, .f32⟩
  | 86 => ⟨S2x4096x8, .f32⟩
  | 87 => ⟨S2x4096x8, .f32⟩
  | 88 => ⟨S2x4096x8, .bf16⟩
  | 89 => ⟨S2x4096x8, .f32⟩
  | 90 => ⟨S2x4096x8x1, .f32⟩
  | 91 => ⟨S2x4096x8x1, .f32⟩
  | 92 => ⟨S2x4096x8x1, .f32⟩
  | 93 => ⟨S2x4096x8x3, .f32⟩
  | 94 => ⟨S_, .f32⟩
  | 95 => ⟨S2x4096x8x54, .f32⟩
  | 96 => ⟨S2x4096x8x128, .f32⟩
  | 97 => ⟨S8192x1024, .f32⟩
  | 98 => ⟨S8192x1024, .bf16⟩
  | 99 => ⟨S_, .f32⟩
  | 100 => ⟨S2x4096x8x1, .f32⟩
  | 101 => ⟨S2x4096x8x1, .f32⟩
  | 102 => ⟨S2x4096x8x3, .f32⟩
  | 103 => ⟨S_, .f32⟩
  | 104 => ⟨S2x4096x8x54, .f32⟩
  | 105 => ⟨S2x4096x8x128, .f32⟩
  | 106 => ⟨S8192x1024, .f32⟩
  | 107 => ⟨S8192x1024, .bf16⟩
  | 108 => ⟨S_, .f32⟩
  | 109 => ⟨S2x4096x8x3, .f32⟩
  | 110 => ⟨S2x4096x8x3, .f32⟩
  | 111 => ⟨S_, .f32⟩
  | 112 => ⟨S2x4096x8x3, .f32⟩
  | 113 => ⟨S2x4096x8x3, .f32⟩
  | 114 => ⟨S_, .f32⟩
  | 115 => ⟨S2x4096x8x3, .f32⟩
  | 116 => ⟨S2x4096x8x3, .f32⟩
  | 117 => ⟨S_, .f32⟩
  | 118 => ⟨S2x4096x8x51, .f32⟩
  | 119 => ⟨S2x4096x8x128, .f32⟩
  | 120 => ⟨S8192x1024, .f32⟩
  | 121 => ⟨S8192x1024, .bf16⟩
  | 122 => ⟨S_, .f32⟩
  | 123 => ⟨S2x4096x8x1, .f32⟩
  | 124 => ⟨S2x4096x8x1, .f32⟩
  | 125 => ⟨S_, .f32⟩
  | 126 => ⟨S2x4096x8x3, .f32⟩
  | 127 => ⟨S2x4096x8x3, .f32⟩
  | _ => ⟨S2x4096x8x64, .f32⟩

abbrev hbmTy0_1 (i : Nat) : BufTy := match i % 128 with
  | 0 => ⟨S_, .f32⟩
  | 1 => ⟨S2x4096x8x3, .f32⟩
  | 2 => ⟨S2x4096x8x3, .f32⟩
  | 3 => ⟨S_, .f32⟩
  | 4 => ⟨S2x4096x8x3, .f32⟩
  | 5 => ⟨S2x4096x8x3, .f32⟩
  | 6 => ⟨S2x4096x8, .f32⟩
  | 7 => ⟨S2x4096x8, .bf16⟩
  | 8 => ⟨S2x4096x8, .f32⟩
  | 9 => ⟨S2x4096x8, .f32⟩
  | 10 => ⟨S2x4096x8, .bf16⟩
  | 11 => ⟨S2x4096x8, .f32⟩
  | 12 => ⟨S2x4096x8, .f32⟩
  | 13 => ⟨S2x4096x8, .f32⟩
  | 14 => ⟨S2x4096x8, .bf16⟩
  | 15 => ⟨S2x4096x8, .f32⟩
  | 16 => ⟨S2x4096x8x1, .f32⟩
  | 17 => ⟨S2x4096x8x1, .f32⟩
  | 18 => ⟨S2x4096x8x1, .f32⟩
  | 19 => ⟨S2x4096x8x3, .f32⟩
  | 20 => ⟨S_, .f32⟩
  | 21 => ⟨S2x4096x8x51, .f32⟩
  | 22 => ⟨S2x4096x8x128, .f32⟩
  | 23 => ⟨S8192x1024, .f32⟩
  | 24 => ⟨S8192x1024, .bf16⟩
  | 25 => ⟨S8192x1024, .f32⟩
  | 26 => ⟨S8192x1024, .f32⟩
  | 27 => ⟨S8192x1024, .f32⟩
  | 28 => ⟨S2x4096x8x128, .f32⟩
  | 29 => ⟨S2x4096x8x128, .f32⟩
  | 30 => ⟨S2x4096x8x128, .f32⟩
  | 31 => ⟨S2x4096x8x64, .f32⟩
  | 32 => ⟨S_, .f32⟩
  | 33 => ⟨S2x4096x8x64, .f32⟩
  | 34 => ⟨S2x4096x8x64, .f32⟩
  | 35 => ⟨S2x4096x8x64, .f32⟩
  | 36 => ⟨S2x4096x8x64, .f32⟩
  | 37 => ⟨S2x4096x8x64, .f32⟩
  | 38 => ⟨S2x4096x8x64, .f32⟩
  | 39 => ⟨S2x4096x8x1, .f32⟩
  | 40 => ⟨S2x4096x8, .f32⟩
  | 41 => ⟨S2x4096x8x1, .f32⟩
  | 42 => ⟨S2x4096x8, .f32⟩
  | 43 => ⟨S2x4096x8, .f32⟩
  | _ => ⟨S2x4096x8x64, .f32⟩

abbrev hbmTy (i : Nat) : BufTy := match i / 128 with
  | 0 => hbmTy0_0 i
  | 1 => hbmTy0_1 i
  | _ => ⟨S2x4096x8x64, .f32⟩

abbrev bufTy : (tb : Table) → Fin (tcTables nBuf tb) → BufTy
  | .hbm, ⟨i, _⟩ => hbmTy i
  | .local _ .vmem, ⟨0, _⟩ => ⟨S4096x256, .bf16⟩
  | .local _ .vmem, ⟨1, _⟩ => ⟨S4096x256, .bf16⟩
  | .local _ .vmem, ⟨2, _⟩ => ⟨S4096x256, .bf16⟩
  | .local _ .vmem, ⟨3, _⟩ => ⟨S4096x256, .bf16⟩
  | .local _ .vmem, ⟨4, _⟩ => ⟨S1024x256, .bf16⟩
  | .local _ .vmem, ⟨5, _⟩ => ⟨S1024x256, .bf16⟩
  | .local _ .vmem, ⟨6, _⟩ => ⟨S1024x256, .bf16⟩
  | .local _ .vmem, ⟨7, _⟩ => ⟨S1024x256, .bf16⟩
  | .local _ .vmem, ⟨8, _⟩ => ⟨S4096x256, .f32⟩
  | .local _ .vmem, ⟨9, _⟩ => ⟨S4096x256, .f32⟩
  | .local _ .vmem, ⟨10, _⟩ => ⟨S1024x256, .f32⟩
  | .local _ .vmem, ⟨11, _⟩ => ⟨S1024x256, .f32⟩
  | .local _ .vmem, ⟨12, _⟩ => ⟨S1024x256, .f32⟩
  | .local _ .vmem, ⟨13, _⟩ => ⟨S1024x256, .f32⟩
  | _, _ => ⟨S2x4096x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_call0_cst : Ref sig .tc := ⟨.hbm, 5, rfl⟩
abbrev main_call0_call0_v0 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_0 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_v18 : Ref sig .tc := ⟨.hbm, 30, rfl⟩
abbrev main_cst_1 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_2 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_3 : Ref sig .tc := ⟨.hbm, 48, rfl⟩
abbrev main_v34 : Ref sig .tc := ⟨.hbm, 49, rfl⟩
abbrev main_cst_4 : Ref sig .tc := ⟨.hbm, 50, rfl⟩
abbrev main_v35 : Ref sig .tc := ⟨.hbm, 51, rfl⟩
abbrev main_cst_5 : Ref sig .tc := ⟨.hbm, 52, rfl⟩
abbrev main_v36 : Ref sig .tc := ⟨.hbm, 53, rfl⟩
abbrev main_cst_6 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_7 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_8 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_cst_9 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_cst_10 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_cst_11 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_cst_12 : Ref sig .tc := ⟨.hbm, 108, rfl⟩
abbrev main_v85 : Ref sig .tc := ⟨.hbm, 109, rfl⟩
abbrev main_v86 : Ref sig .tc := ⟨.hbm, 110, rfl⟩
abbrev main_cst_13 : Ref sig .tc := ⟨.hbm, 111, rfl⟩
abbrev main_v87 : Ref sig .tc := ⟨.hbm, 112, rfl⟩
abbrev main_v88 : Ref sig .tc := ⟨.hbm, 113, rfl⟩
abbrev main_cst_14 : Ref sig .tc := ⟨.hbm, 114, rfl⟩
abbrev main_v89 : Ref sig .tc := ⟨.hbm, 115, rfl⟩
abbrev main_v90 : Ref sig .tc := ⟨.hbm, 116, rfl⟩
abbrev main_cst_15 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_cst_16 : Ref sig .tc := ⟨.hbm, 122, rfl⟩
abbrev main_v95 : Ref sig .tc := ⟨.hbm, 123, rfl⟩
abbrev main_v96 : Ref sig .tc := ⟨.hbm, 124, rfl⟩
abbrev main_cst_17 : Ref sig .tc := ⟨.hbm, 125, rfl⟩
abbrev main_v97 : Ref sig .tc := ⟨.hbm, 126, rfl⟩
abbrev main_v98 : Ref sig .tc := ⟨.hbm, 127, rfl⟩
abbrev main_cst_18 : Ref sig .tc := ⟨.hbm, 128, rfl⟩
abbrev main_v99 : Ref sig .tc := ⟨.hbm, 129, rfl⟩
abbrev main_v100 : Ref sig .tc := ⟨.hbm, 130, rfl⟩
abbrev main_cst_19 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_cst_20 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121_0 : Ref sig .tc := ⟨.hbm, 153, rfl⟩
abbrev main_v121_1 : Ref sig .tc := ⟨.hbm, 154, rfl⟩
abbrev main_v121_2 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_cst_21 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![2, 4, 4], ![false, false, false]⟩

def k0_mult1 (i : grid0.Coords) : BitVec 32 :=
  let arg2 : BitVec 32 := BitVec.ofNat 32 (i 2).val
  let c1024_i32 : BitVec 32 := 1024#32
  let v14 : BitVec 32 := Scalar.muli arg2 c1024_i32
  v14
def k0_off1 (i : grid0.Coords) : Fin 2 → Nat :=
  let arg2 : BitVec 32 := BitVec.ofNat 32 (i 2).val
  let c1024_i32 : BitVec 32 := 1024#32
  let v14 : BitVec 32 := Scalar.muli arg2 c1024_i32
  let v15 : BitVec 32 := v14
  let v16 : Index := Scalar.indexCast v15
  let c0_7 : Index := 0#32
  ![v16.toNat, 0]
def k0_off2 (i : grid0.Coords) : Fin 2 → Nat :=
  let arg2 : BitVec 32 := BitVec.ofNat 32 (i 2).val
  let c1024_i32 : BitVec 32 := 1024#32
  let v14 : BitVec 32 := Scalar.muli arg2 c1024_i32
  let v15 : BitVec 32 := v14
  let v45 : Index := Scalar.indexCast v15
  let c128_18 : Index := 128#32
  ![v45.toNat, 128]
@[reducible] def k0_t1_loop (i : grid0.Coords) : Scf.Loop 32 :=
  let arg2 : BitVec 32 := BitVec.ofNat 32 (i 2).val
  let c1_i32 : BitVec 32 := 1#32
  let v74 : BitVec 32 := Scalar.addi arg2 c1_i32
  let c4_i32 : BitVec 32 := 4#32
  let v75 : BitVec 32 := Scalar.subi c4_i32 v74
  let c1_i32_29 : BitVec 32 := 1#32
  let v77 : BitVec 32 := Scalar.divsi v75 c1_i32_29
  let v78 : BitVec 32 := Scalar.muli v77 c1_i32_29
  let v79 : BitVec 32 := Scalar.addi v74 v78
  let c1_i32_30 : BitVec 32 := 1#32
  ⟨v74, v79, c1_i32_30⟩
def k0_mult2 (i : grid0.Coords) (k0_t1 : Fin (k0_t1_loop i).trips) : BitVec 32 :=
  let arg2 : BitVec 32 := BitVec.ofNat 32 (i 2).val
  let c1_i32 : BitVec 32 := 1#32
  let v74 : BitVec 32 := Scalar.addi arg2 c1_i32
  let c1_i32_30 : BitVec 32 := 1#32
  let arg10 : BitVec 32 := Scf.iv v74 c1_i32_30 k0_t1
  let c1024_i32_40 : BitVec 32 := 1024#32
  let v86 : BitVec 32 := Scalar.muli arg10 c1024_i32_40
  v86
def k0_off3 (i : grid0.Coords) (k0_t1 : Fin (k0_t1_loop i).trips) : Fin 2 → Nat :=
  let arg2 : BitVec 32 := BitVec.ofNat 32 (i 2).val
  let c1_i32 : BitVec 32 := 1#32
  let v74 : BitVec 32 := Scalar.addi arg2 c1_i32
  let c1_i32_30 : BitVec 32 := 1#32
  let arg10 : BitVec 32 := Scf.iv v74 c1_i32_30 k0_t1
  let c1024_i32_40 : BitVec 32 := 1024#32
  let v86 : BitVec 32 := Scalar.muli arg10 c1024_i32_40
  let v87 : BitVec 32 := v86
  let v88 : Index := Scalar.indexCast v87
  let c0_41 : Index := 0#32
  ![v88.toNat, 0]
def k0_off4 (i : grid0.Coords) (k0_t1 : Fin (k0_t1_loop i).trips) : Fin 2 → Nat :=
  let arg2 : BitVec 32 := BitVec.ofNat 32 (i 2).val
  let c1_i32 : BitVec 32 := 1#32
  let v74 : BitVec 32 := Scalar.addi arg2 c1_i32
  let c1_i32_30 : BitVec 32 := 1#32
  let arg10 : BitVec 32 := Scf.iv v74 c1_i32_30 k0_t1
  let c1024_i32_40 : BitVec 32 := 1024#32
  let v86 : BitVec 32 := Scalar.muli arg10 c1024_i32_40
  let v87 : BitVec 32 := v86
  let v111 : Index := Scalar.indexCast v87
  let c128_50 : Index := 128#32
  ![v111.toNat, 128]
@[reducible] def k0_t2_loop (i : grid0.Coords) : Scf.Loop 32 :=
  let arg2 : BitVec 32 := BitVec.ofNat 32 (i 2).val
  let c1_i32 : BitVec 32 := 1#32
  let v74 : BitVec 32 := Scalar.addi arg2 c1_i32
  let c4_i32 : BitVec 32 := 4#32
  let v75 : BitVec 32 := Scalar.subi c4_i32 v74
  let c1_i32_29 : BitVec 32 := 1#32
  let v77 : BitVec 32 := Scalar.divsi v75 c1_i32_29
  let v78 : BitVec 32 := Scalar.muli v77 c1_i32_29
  let v79 : BitVec 32 := Scalar.addi v74 v78
  let v76 : BitVec 32 := Scalar.addi v74 v75
  let c1_i32_31 : BitVec 32 := 1#32
  ⟨v79, v76, c1_i32_31⟩
def k0_mult3 (i : grid0.Coords) (k0_t2 : Fin (k0_t2_loop i).trips) : BitVec 32 :=
  let arg2 : BitVec 32 := BitVec.ofNat 32 (i 2).val
  let c1_i32 : BitVec 32 := 1#32
  let v74 : BitVec 32 := Scalar.addi arg2 c1_i32
  let c4_i32 : BitVec 32 := 4#32
  let v75 : BitVec 32 := Scalar.subi c4_i32 v74
  let c1_i32_29 : BitVec 32 := 1#32
  let v77 : BitVec 32 := Scalar.divsi v75 c1_i32_29
  let v78 : BitVec 32 := Scalar.muli v77 c1_i32_29
  let v79 : BitVec 32 := Scalar.addi v74 v78
  let c1_i32_31 : BitVec 32 := 1#32
  let arg10 : BitVec 32 := Scf.iv v79 c1_i32_31 k0_t2
  let c1024_i32_40 : BitVec 32 := 1024#32
  let v86 : BitVec 32 := Scalar.muli arg10 c1024_i32_40
  v86
def k0_off5 (i : grid0.Coords) (k0_t2 : Fin (k0_t2_loop i).trips) : Fin 2 → Nat :=
  let arg2 : BitVec 32 := BitVec.ofNat 32 (i 2).val
  let c1_i32 : BitVec 32 := 1#32
  let v74 : BitVec 32 := Scalar.addi arg2 c1_i32
  let c4_i32 : BitVec 32 := 4#32
  let v75 : BitVec 32 := Scalar.subi c4_i32 v74
  let c1_i32_29 : BitVec 32 := 1#32
  let v77 : BitVec 32 := Scalar.divsi v75 c1_i32_29
  let v78 : BitVec 32 := Scalar.muli v77 c1_i32_29
  let v79 : BitVec 32 := Scalar.addi v74 v78
  let c1_i32_31 : BitVec 32 := 1#32
  let arg10 : BitVec 32 := Scf.iv v79 c1_i32_31 k0_t2
  let c1024_i32_40 : BitVec 32 := 1024#32
  let v86 : BitVec 32 := Scalar.muli arg10 c1024_i32_40
  let v87 : BitVec 32 := v86
  let v88 : Index := Scalar.indexCast v87
  let c0_41 : Index := 0#32
  ![v88.toNat, 0]
def k0_off6 (i : grid0.Coords) (k0_t2 : Fin (k0_t2_loop i).trips) : Fin 2 → Nat :=
  let arg2 : BitVec 32 := BitVec.ofNat 32 (i 2).val
  let c1_i32 : BitVec 32 := 1#32
  let v74 : BitVec 32 := Scalar.addi arg2 c1_i32
  let c4_i32 : BitVec 32 := 4#32
  let v75 : BitVec 32 := Scalar.subi c4_i32 v74
  let c1_i32_29 : BitVec 32 := 1#32
  let v77 : BitVec 32 := Scalar.divsi v75 c1_i32_29
  let v78 : BitVec 32 := Scalar.muli v77 c1_i32_29
  let v79 : BitVec 32 := Scalar.addi v74 v78
  let c1_i32_31 : BitVec 32 := 1#32
  let arg10 : BitVec 32 := Scf.iv v79 c1_i32_31 k0_t2
  let c1024_i32_40 : BitVec 32 := 1024#32
  let v86 : BitVec 32 := Scalar.muli arg10 c1024_i32_40
  let v87 : BitVec 32 := v86
  let v111 : Index := Scalar.indexCast v87
  let c128_50 : Index := 128#32
  ![v111.toNat, 128]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S4096x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== FoxReferenceIdeal.lean ====
abbrev S2x4096x8x64 : Shape := ⟨4, ![2, 4096, 8, 64]⟩
abbrev S2x4096x8 : Shape := ⟨3, ![2, 4096, 8]⟩
abbrev S_ : Shape := ⟨0, ![]⟩
abbrev S2x8x4096x4096 : Shape := ⟨4, ![2, 8, 4096, 4096]⟩
abbrev S2x8x4096 : Shape := ⟨3, ![2, 8, 4096]⟩
abbrev S2x8x4096x1 : Shape := ⟨4, ![2, 8, 4096, 1]⟩
abbrev S2x8x1x4096 : Shape := ⟨4, ![2, 8, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x1x4096x4096 : Shape := ⟨4, ![1, 1, 4096, 4096]⟩
abbrev S2x8x64x4096 : Shape := ⟨4, ![2, 8, 64, 4096]⟩
abbrev S2x8x4096x64 : Shape := ⟨4, ![2, 8, 4096, 64]⟩

abbrev nBuf : Space → Nat
  | .hbm => 114
  | .vmem => 0
  | .smem => 0
  | _ => 0

abbrev bufTy : (tb : Table) → Fin (tcTables nBuf tb) → BufTy
  | .hbm, ⟨0, _⟩ => ⟨S2x4096x8x64, .f32⟩
  | .hbm, ⟨1, _⟩ => ⟨S2x4096x8x64, .f32⟩
  | .hbm, ⟨2, _⟩ => ⟨S2x4096x8x64, .f32⟩
  | .hbm, ⟨3, _⟩ => ⟨S2x4096x8, .f32⟩
  | .hbm, ⟨4, _⟩ => ⟨S2x4096x8x64, .f32⟩
  | .hbm, ⟨5, _⟩ => ⟨S_, .f32⟩
  | .hbm, ⟨6, _⟩ => ⟨S_, .f32⟩
  | .hbm, ⟨7, _⟩ => ⟨S2x4096x8, .f32⟩
  | .hbm, ⟨8, _⟩ => ⟨S2x8x4096x4096, .f32⟩
  | .hbm, ⟨9, _⟩ => ⟨S_, .f32⟩
  | .hbm, ⟨10, _⟩ => ⟨S2x8x4096x4096, .f32⟩
  | .hbm, ⟨11, _⟩ => ⟨S2x8x4096x4096, .f32⟩
  | .hbm, ⟨12, _⟩ => ⟨S2x8x4096, .f32⟩
  | .hbm, ⟨13, _⟩ => ⟨S2x8x4096x1, .f32⟩
  | .hbm, ⟨14, _⟩ => ⟨S2x8x1x4096, .f32⟩
  | .hbm, ⟨15, _⟩ => ⟨S2x8x4096x4096, .f32⟩
  | .hbm, ⟨16, _⟩ => ⟨S2x8x4096x4096, .f32⟩
  | .hbm, ⟨17, _⟩ => ⟨S2x8x4096x4096, .f32⟩
  | .hbm, ⟨18, _⟩ => ⟨S4096, .i32⟩
  | .hbm, ⟨19, _⟩ => ⟨S1x4096, .i32⟩
  | .hbm, ⟨20, _⟩ => ⟨S4096x1, .i32⟩
  | .hbm, ⟨21, _⟩ => ⟨S4096x4096, .i32⟩
  | .hbm, ⟨22, _⟩ => ⟨S4096x4096, .i32⟩
  | .hbm, ⟨23, _⟩ => ⟨S4096x4096, .i1⟩
  | .hbm, ⟨24, _⟩ => ⟨S1x1x4096x4096, .i1⟩
  | .hbm, ⟨25, _⟩ => ⟨S2x8x4096x4096, .f32⟩
  | .hbm, ⟨26, _⟩ => ⟨S_, .f32⟩
  | .hbm, ⟨27, _⟩ => ⟨S_, .f32⟩
  | .hbm, ⟨28, _⟩ => ⟨S2x8x4096x4096, .i1⟩
  | .hbm, ⟨29, _⟩ => ⟨S2x8x4096x4096, .f32⟩
  | .hbm, ⟨30, _⟩ => ⟨S2x8x4096x4096, .f32⟩
  | .hbm, ⟨31, _⟩ => ⟨S_, .f32⟩
  | .hbm, ⟨32, _⟩ => ⟨S2x8x4096x4096, .f32⟩
  | .hbm, ⟨33, _⟩ => ⟨S_, .f32⟩
  | .hbm, ⟨34, _⟩ => ⟨S2x8x4096, .f32⟩
  | .hbm, ⟨35, _⟩ => ⟨S2x8x4096x1, .f32⟩
  | .hbm, ⟨36, _⟩ => ⟨S2x8x4096x4096, .f32⟩
  | .hbm, ⟨37, _⟩ => ⟨S2x8x4096x4096, .i1⟩
  | .hbm, ⟨38, _⟩ => ⟨S2x8x4096x4096, .f32⟩
  | .hbm, ⟨39, _⟩ => ⟨S_, .f32⟩
  | .hbm, ⟨40, _⟩ => ⟨S2x8x4096, .f32⟩
  | .hbm, ⟨41, _⟩ => ⟨S_, .f32⟩
  | .hbm, ⟨42, _⟩ => ⟨S2x8x4096, .f32⟩
  | .hbm, ⟨43, _⟩ => ⟨S2x8x4096, .f32⟩
  | .hbm, ⟨44, _⟩ => ⟨S_, .f32⟩
  | .hbm, ⟨45, _⟩ => ⟨S2x8x4096, .f32⟩
  | .hbm, ⟨46, _⟩ => ⟨S2x8x4096, .i1⟩
  | .hbm, ⟨47, _⟩ => ⟨S_, .f32⟩
  | .hbm, ⟨48, _⟩ => ⟨S2x8x4096, .f32⟩
  | .hbm, ⟨49, _⟩ => ⟨S2x8x4096, .i1⟩
  | .hbm, ⟨50, _⟩ => ⟨S_, .f32⟩
  | .hbm, ⟨51, _⟩ => ⟨S2x8x4096, .f32⟩
  | .hbm, ⟨52, _⟩ => ⟨S_, .f32⟩
  | .hbm, ⟨53, _⟩ => ⟨S2x8x4096, .f32⟩
  | .hbm, ⟨54, _⟩ => ⟨S_, .f32⟩
  | .hbm, ⟨55, _⟩ => ⟨S2x8x4096, .f32⟩
  | .hbm, ⟨56, _⟩ => ⟨S2x8x4096, .f32⟩
  | .hbm, ⟨57, _⟩ => ⟨S2x8x4096, .f32⟩
  | .hbm, ⟨58, _⟩ => ⟨S2x8x4096x1, .f32⟩
  | .hbm, ⟨59, _⟩ => ⟨S2x8x4096x4096, .f32⟩
  | .hbm, ⟨60, _⟩ => ⟨S2x8x4096x4096, .f32⟩
  | .hbm, ⟨61, _⟩ => ⟨S2x8x4096x4096, .f32⟩
  | .hbm, ⟨62, _⟩ => ⟨S_, .f32⟩
  | .hbm, ⟨63, _⟩ => ⟨S2x8x4096, .f32⟩
  | .hbm, ⟨64, _⟩ => ⟨S2x8x4096x1, .f32⟩
  | .hbm, ⟨65, _⟩ => ⟨S2x8x4096x4096, .f32⟩
  | .hbm, ⟨66, _⟩ => ⟨S2x8x4096x4096, .f32⟩
  | .hbm, ⟨67, _⟩ => ⟨S2x8x4096x1, .f32⟩
  | .hbm, ⟨68, _⟩ => ⟨S_, .f32⟩
  | .hbm, ⟨69, _⟩ => ⟨S2x8x4096x1, .f32⟩
  | .hbm, ⟨70, _⟩ => ⟨S2x8x4096x1, .f32⟩
  | .hbm, ⟨71, _⟩ => ⟨S2x8x64x4096, .f32⟩
  | .hbm, ⟨72, _⟩ => ⟨S2x4096x8x64, .f32⟩
  | .hbm, ⟨73, _⟩ => ⟨S2x8x64x4096, .f32⟩
  | .hbm, ⟨74, _⟩ => ⟨S2x8x4096x4096, .f32⟩
  | .hbm, ⟨75, _⟩ => ⟨S2x8x64x4096, .f32⟩
  | .hbm, ⟨76, _⟩ => ⟨S2x4096x8x64, .f32⟩
  | .hbm, ⟨77, _⟩ => ⟨S2x8x4096x4096, .f32⟩
  | .hbm, ⟨78, _⟩ => ⟨S2x8x4096x4096, .f32⟩
  | .hbm, ⟨79, _⟩ => ⟨S2x8x4096x4096, .f32⟩
  | .hbm, ⟨80, _⟩ => ⟨S_, .f32⟩
  | .hbm, ⟨81, _⟩ => ⟨S2x8x4096, .f32⟩
  | .hbm, ⟨82, _⟩ => ⟨S2x8x4096x1, .f32⟩
  | .hbm, ⟨83, _⟩ => ⟨S2x8x4096x1, .f32⟩
  | .hbm, ⟨84, _⟩ => ⟨S2x8x4096x4096, .f32⟩
  | .hbm, ⟨85, _⟩ => ⟨S2x8x4096x4096, .f32⟩
  | .hbm, ⟨86, _⟩ => ⟨S_, .f32⟩
  | .hbm, ⟨87, _⟩ => ⟨S2x8x4096, .f32⟩
  | .hbm, ⟨88, _⟩ => ⟨S2x8x4096x4096, .f32⟩
  | .hbm, ⟨89, _⟩ => ⟨S2x8x4096x4096, .f32⟩
  | .hbm, ⟨90, _⟩ => ⟨S2x8x4096x4096, .f32⟩
  | .hbm, ⟨91, _⟩ => ⟨S_, .f32⟩
  | .hbm, ⟨92, _⟩ => ⟨S2x8x4096x4096, .f32⟩
  | .hbm, ⟨93, _⟩ => ⟨S2x8x4096x4096, .f32⟩
  | .hbm, ⟨94, _⟩ => ⟨S_, .f32⟩
  | .hbm, ⟨95, _⟩ => ⟨S2x8x4096, .f32⟩
  | .hbm, ⟨96, _⟩ => ⟨S2x8x4096x1, .f32⟩
  | .hbm, ⟨97, _⟩ => ⟨S2x8x4096x4096, .f32⟩
  | .hbm, ⟨98, _⟩ => ⟨S_, .f32⟩
  | .hbm, ⟨99, _⟩ => ⟨S2x8x4096, .f32⟩
  | .hbm, ⟨100, _⟩ => ⟨S2x8x1x4096, .f32⟩
  | .hbm, ⟨101, _⟩ => ⟨S_, .f32⟩
  | .hbm, ⟨102, _⟩ => ⟨S2x8x4096, .f32⟩
  | .hbm, ⟨103, _⟩ => ⟨S_, .f32⟩
  | .hbm, ⟨104, _⟩ => ⟨S2x8x4096, .f32⟩
  | .hbm, ⟨105, _⟩ => ⟨S2x8x4096, .f32⟩
  | .hbm, ⟨106, _⟩ => ⟨S2x4096x8, .f32⟩
  | .hbm, ⟨107, _⟩ => ⟨S_, .f32⟩
  | .hbm, ⟨108, _⟩ => ⟨S2x8x4096x4096, .f32⟩
  | .hbm, ⟨109, _⟩ => ⟨S2x8x4096x4096, .f32⟩
  | .hbm, ⟨110, _⟩ => ⟨S2x8x4096x64, .f32⟩
  | .hbm, ⟨111, _⟩ => ⟨S2x4096x8x64, .f32⟩
  | .hbm, ⟨112, _⟩ => ⟨S2x8x4096x64, .f32⟩
  | .hbm, ⟨113, _⟩ => ⟨S2x4096x8x64, .f32⟩
  | _, _ => ⟨S2x4096x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_call0_cst : Ref sig .tc := ⟨.hbm, 5, rfl⟩
abbrev main_call0_call0_v0 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_0 : Ref sig .tc := ⟨.hbm, 26, rfl⟩
abbrev main_call1_v0 : Ref sig .tc := ⟨.hbm, 27, rfl⟩
abbrev main_v18_1 : Ref sig .tc := ⟨.hbm, 28, rfl⟩
abbrev main_call1_v2 : Ref sig .tc := ⟨.hbm, 29, rfl⟩
abbrev main_v18_0 : Ref sig .tc := ⟨.hbm, 30, rfl⟩
abbrev main_call1_cst : Ref sig .tc := ⟨.hbm, 31, rfl⟩
abbrev main_v18_2 : Ref sig .tc := ⟨.hbm, 32, rfl⟩
abbrev main_cst_1 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_2 : Ref sig .tc := ⟨.hbm, 39, rfl⟩
abbrev main_v24 : Ref sig .tc := ⟨.hbm, 40, rfl⟩
abbrev main_cst_3 : Ref sig .tc := ⟨.hbm, 41, rfl⟩
abbrev main_v25 : Ref sig .tc := ⟨.hbm, 42, rfl⟩
abbrev main_v26 : Ref sig .tc := ⟨.hbm, 43, rfl⟩
abbrev main_cst_4 : Ref sig .tc := ⟨.hbm, 44, rfl⟩
abbrev main_v27 : Ref sig .tc := ⟨.hbm, 45, rfl⟩
abbrev main_v28 : Ref sig .tc := ⟨.hbm, 46, rfl⟩
abbrev main_cst_5 : Ref sig .tc := ⟨.hbm, 47, rfl⟩
abbrev main_v29 : Ref sig .tc := ⟨.hbm, 48, rfl⟩
abbrev main_v30 : Ref sig .tc := ⟨.hbm, 49, rfl⟩
abbrev main_cst_6 : Ref sig .tc := ⟨.hbm, 50, rfl⟩
abbrev main_v31 : Ref sig .tc := ⟨.hbm, 51, rfl⟩
abbrev main_cst_7 : Ref sig .tc := ⟨.hbm, 52, rfl⟩
abbrev main_v32 : Ref sig .tc := ⟨.hbm, 53, rfl⟩
abbrev main_cst_8 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_9 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_10 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_11 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_12 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_call2_cst : Ref sig .tc := ⟨.hbm, 91, rfl⟩
abbrev main_call2_v0 : Ref sig .tc := ⟨.hbm, 92, rfl⟩
abbrev main_v65 : Ref sig .tc := ⟨.hbm, 93, rfl⟩
abbrev main_cst_13 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_cst_14 : Ref sig .tc := ⟨.hbm, 98, rfl⟩
abbrev main_v69 : Ref sig .tc := ⟨.hbm, 99, rfl⟩
abbrev main_v70 : Ref sig .tc := ⟨.hbm, 100, rfl⟩
abbrev main_cst_15 : Ref sig .tc := ⟨.hbm, 101, rfl⟩
abbrev main_v71 : Ref sig .tc := ⟨.hbm, 102, rfl⟩
abbrev main_cst_16 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_cst_17 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩

abbrev nD : Nat := 1
abbrev τ : Topo := Topo.v7x

variable {F : FTy → Type} [FloatOps F]
-- ==== Proj.lean ====
abbrev S2x4096x1024 : Shape := ⟨3, ![2, 4096, 1024]⟩
abbrev S1024 : Shape := ⟨1, ![1024]⟩
abbrev S1024x2312 : Shape := ⟨2, ![1024, 2312]⟩
abbrev S8 : Shape := ⟨1, ![8]⟩
abbrev S64 : Shape := ⟨1, ![64]⟩
abbrev S2x4096x8x64 : Shape := ⟨4, ![2, 4096, 8, 64]⟩
abbrev S2x4096x2x4x64 : Shape := ⟨5, ![2, 4096, 2, 4, 64]⟩
abbrev S2x4096x8 : Shape := ⟨3, ![2, 4096, 8]⟩
abbrev S_ : Shape := ⟨0, ![]⟩
abbrev S2x4096 : Shape := ⟨2, ![2, 4096]⟩
abbrev S2x4096x1 : Shape := ⟨3, ![2, 4096, 1]⟩
abbrev S1x1x1024 : Shape := ⟨3, ![1, 1, 1024]⟩
abbrev S2x4096x2312 : Shape := ⟨3, ![2, 4096, 2312]⟩
abbrev S8192x2312 : Shape := ⟨2, ![8192, 2312]⟩
abbrev S8192x2304 : Shape := ⟨2, ![8192, 2304]⟩
abbrev S8192x8 : Shape := ⟨2, ![8192, 8]⟩
abbrev S8192x128 : Shape := ⟨2, ![8192, 128]⟩
abbrev S2312x1024 : Shape := ⟨2, ![2312, 1024]⟩
abbrev S8x1024 : Shape := ⟨2, ![8, 1024]⟩
abbrev S128x1024 : Shape := ⟨2, ![128, 1024]⟩
abbrev S1x64 : Shape := ⟨2, ![1, 64]⟩
abbrev S8x64 : Shape := ⟨2, ![8, 64]⟩
abbrev S512 : Shape := ⟨1, ![512]⟩
abbrev S1x512 : Shape := ⟨2, ![1, 512]⟩
abbrev S2x64 : Shape := ⟨2, ![2, 64]⟩
abbrev S128 : Shape := ⟨1, ![128]⟩
abbrev S1x128 : Shape := ⟨2, ![1, 128]⟩
abbrev S8192x512 : Shape := ⟨2, ![8192, 512]⟩
abbrev S2x4096x8x4 : Shape := ⟨4, ![2, 4096, 8, 4]⟩
abbrev S2x4096x8x1 : Shape := ⟨4, ![2, 4096, 8, 1]⟩
abbrev S2x4096x8x59 : Shape := ⟨4, ![2, 4096, 8, 59]⟩
abbrev S2x4096x8x128 : Shape := ⟨4, ![2, 4096, 8, 128]⟩
abbrev S8192x1024 : Shape := ⟨2, ![8192, 1024]⟩
abbrev S2x4096x8x62 : Shape := ⟨4, ![2, 4096, 8, 62]⟩
abbrev S1x1024 : Shape := ⟨2, ![1, 1024]⟩
abbrev S512x2304 : Shape := ⟨2, ![512, 2304]⟩
abbrev S512x512 : Shape := ⟨2, ![512, 512]⟩
abbrev S512x1024 : Shape := ⟨2, ![512, 1024]⟩
abbrev S512x128 : Shape := ⟨2, ![512, 128]⟩
abbrev S2304x1024 : Shape := ⟨2, ![2304, 1024]⟩
abbrev S512x1 : Shape := ⟨2, ![512, 1]⟩
abbrev S256x256 : Shape := ⟨2, ![256, 256]⟩
abbrev S512x256 : Shape := ⟨2, ![512, 256]⟩
abbrev S128x128 : Shape := ⟨2, ![128, 128]⟩

abbrev nBuf : Space → Nat
  | .hbm => 103
  | .vmem => 42
  | .smem => 0
  | _ => 0

abbrev bufTy : (tb : Table) → Fin (tcTables nBuf tb) → BufTy
  | .hbm, ⟨0, _⟩ => ⟨S2x4096x1024, .f32⟩
  | .hbm, ⟨1, _⟩ => ⟨S1024, .f32⟩
  | .hbm, ⟨2, _⟩ => ⟨S1024x2312, .f32⟩
  | .hbm, ⟨3, _⟩ => ⟨S8, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S2x4096x8x64, .f32⟩
  | .hbm, ⟨9, _⟩ => ⟨S2x4096x2x4x64, .f32⟩
  | .hbm, ⟨10, _⟩ => ⟨S2x4096x2x4x64, .f32⟩
  | .hbm, ⟨11, _⟩ => ⟨S2x4096x8x64, .f32⟩
  | .hbm, ⟨12, _⟩ => ⟨S2x4096x8x64, .f32⟩
  | .hbm, ⟨13, _⟩ => ⟨S2x4096x8x64, .f32⟩
  | .hbm, ⟨14, _⟩ => ⟨S2x4096x8, .f32⟩
  | .hbm, ⟨15, _⟩ => ⟨S2x4096x8, .f32⟩
  | .hbm, ⟨16, _⟩ => ⟨S2x4096x1024, .f32⟩
  | .hbm, ⟨17, _⟩ => ⟨S2x4096x1024, .f32⟩
  | .hbm, ⟨18, _⟩ => ⟨S_, .f32⟩
  | .hbm, ⟨19, _⟩ => ⟨S2x4096, .f32⟩
  | .hbm, ⟨20, _⟩ => ⟨S2x4096x1, .f32⟩
  | .hbm, ⟨21, _⟩ => ⟨S_, .f32⟩
  | .hbm, ⟨22, _⟩ => ⟨S2x4096x1, .f32⟩
  | .hbm, ⟨23, _⟩ => ⟨S2x4096x1, .f32⟩
  | .hbm, ⟨24, _⟩ => ⟨S_, .f32⟩
  | .hbm, ⟨25, _⟩ => ⟨S2x4096x1, .f32⟩
  | .hbm, ⟨26, _⟩ => ⟨S2x4096x1, .f32⟩
  | .hbm, ⟨27, _⟩ => ⟨S2x4096x1, .f32⟩
  | .hbm, ⟨28, _⟩ => ⟨S2x4096x1024, .f32⟩
  | .hbm, ⟨29, _⟩ => ⟨S2x4096x1024, .f32⟩
  | .hbm, ⟨30, _⟩ => ⟨S1x1x1024, .f32⟩
  | .hbm, ⟨31, _⟩ => ⟨S2x4096x1024, .f32⟩
  | .hbm, ⟨32, _⟩ => ⟨S2x4096x1024, .f32⟩
  | .hbm, ⟨33, _⟩ => ⟨S2x4096x2312, .f32⟩
  | .hbm, ⟨34, _⟩ => ⟨S8192x2312, .f32⟩
  | .hbm, ⟨35, _⟩ => ⟨S8192x2304, .f32⟩
  | .hbm, ⟨36, _⟩ => ⟨S8192x8, .f32⟩
  | .hbm, ⟨37, _⟩ => ⟨S_, .i32⟩
  | .hbm, ⟨38, _⟩ => ⟨S_, .f32⟩
  | .hbm, ⟨39, _⟩ => ⟨S8192x128, .f32⟩
  | .hbm, ⟨40, _⟩ => ⟨S2312x1024, .f32⟩
  | .hbm, ⟨41, _⟩ => ⟨S2312x1024, .bf16⟩
  | .hbm, ⟨42, _⟩ => ⟨S8x1024, .bf16⟩
  | .hbm, ⟨43, _⟩ => ⟨S_, .i32⟩
  | .hbm, ⟨44, _⟩ => ⟨S_, .bf16⟩
  | .hbm, ⟨45, _⟩ => ⟨S128x1024, .bf16⟩
  | .hbm, ⟨46, _⟩ => ⟨S1x64, .f32⟩
  | .hbm, ⟨47, _⟩ => ⟨S8x64, .f32⟩
  | .hbm, ⟨48, _⟩ => ⟨S512, .f32⟩
  | .hbm, ⟨49, _⟩ => ⟨S1x512, .f32⟩
  | .hbm, ⟨50, _⟩ => ⟨S1x64, .f32⟩
  | .hbm, ⟨51, _⟩ => ⟨S2x64, .f32⟩
  | .hbm, ⟨52, _⟩ => ⟨S128, .f32⟩
  | .hbm, ⟨53, _⟩ => ⟨S1x128, .f32⟩
  | .hbm, ⟨54, _⟩ => ⟨S1x64, .f32⟩
  | .hbm, ⟨55, _⟩ => ⟨S8x64, .f32⟩
  | .hbm, ⟨56, _⟩ => ⟨S512, .f32⟩
  | .hbm, ⟨57, _⟩ => ⟨S1x512, .f32⟩
  | .hbm, ⟨58, _⟩ => ⟨S1x64, .f32⟩
  | .hbm, ⟨59, _⟩ => ⟨S8x64, .f32⟩
  | .hbm, ⟨60, _⟩ => ⟨S512, .f32⟩
  | .hbm, ⟨61, _⟩ => ⟨S1x512, .f32⟩
  | .hbm, ⟨62, _⟩ => ⟨S_, .i32⟩
  | .hbm, ⟨63, _⟩ => ⟨S_, .f32⟩
  | .hbm, ⟨64, _⟩ => ⟨S128, .f32⟩
  | .hbm, ⟨65, _⟩ => ⟨S1x128, .f32⟩
  | .hbm, ⟨66, _⟩ => ⟨S_, .f32⟩
  | .hbm, ⟨67, _⟩ => ⟨S2x4096x8x64, .f32⟩
  | .hbm, ⟨68, _⟩ => ⟨S_, .f32⟩
  | .hbm, ⟨69, _⟩ => ⟨S_, .f32⟩
  | .hbm, ⟨70, _⟩ => ⟨S8192x512, .f32⟩
  | .hbm, ⟨71, _⟩ => ⟨S8192x512, .f32⟩
  | .hbm, ⟨72, _⟩ => ⟨S8192x512, .f32⟩
  | .hbm, ⟨73, _⟩ => ⟨S_, .f32⟩
  | .hbm, ⟨74, _⟩ => ⟨S2x4096x8x64, .f32⟩
  | .hbm, ⟨75, _⟩ => ⟨S2x4096x8x64, .f32⟩
  | .hbm, ⟨76, _⟩ => ⟨S2x4096x8x4, .f32⟩
  | .hbm, ⟨77, _⟩ => ⟨S2x4096x8x1, .f32⟩
  | .hbm, ⟨78, _⟩ => ⟨S2x4096x8x59, .f32⟩
  | .hbm, ⟨79, _⟩ => ⟨S2x4096x8x128, .f32⟩
  | .hbm, ⟨80, _⟩ => ⟨S8192x1024, .f32⟩
  | .hbm, ⟨81, _⟩ => ⟨S2x4096x8x64, .f32⟩
  | .hbm, ⟨82, _⟩ => ⟨S2x4096x8x64, .f32⟩
  | .hbm, ⟨83, _⟩ => ⟨S2x4096x8, .f32⟩
  | .hbm, ⟨84, _⟩ => ⟨S2x4096x8x1, .f32⟩
  | .hbm, ⟨85, _⟩ => ⟨S2x4096x8x1, .f32⟩
  | .hbm, ⟨86, _⟩ => ⟨S2x4096x8x62, .f32⟩
  | .hbm, ⟨87, _⟩ => ⟨S2x4096x8x128, .f32⟩
  | .hbm, ⟨88, _⟩ => ⟨S8192x1024, .f32⟩
  | .hbm, ⟨89, _⟩ => ⟨S2x4096x8x128, .f32⟩
  | .hbm, ⟨90, _⟩ => ⟨S8192x1024, .f32⟩
  | .hbm, ⟨91, _⟩ => ⟨S8192x1024, .f32⟩
  | .hbm, ⟨92, _⟩ => ⟨S8192x1024, .f32⟩
  | .hbm, ⟨93, _⟩ => ⟨S1x1024, .f32⟩
  | .hbm, ⟨94, _⟩ => ⟨S8192x1024, .f32⟩
  | .hbm, ⟨95, _⟩ => ⟨S8192x2304, .bf16⟩
  | .hbm, ⟨96, _⟩ => ⟨S8192x128, .bf16⟩
  | .hbm, ⟨97, _⟩ => ⟨S1x512, .f32⟩
  | .hbm, ⟨98, _⟩ => ⟨S1x128, .f32⟩
  | .hbm, ⟨99, _⟩ => ⟨S1x512, .f32⟩
  | .hbm, ⟨100, _⟩ => ⟨S1x512, .f32⟩
  | .hbm, ⟨101, _⟩ => ⟨S1x1024, .f32⟩
  | .hbm, ⟨102, _⟩ => ⟨S1x128, .f32⟩
  | .local _ .vmem, ⟨0, _⟩ => ⟨S512x2304, .f32⟩
  | .local _ .vmem, ⟨1, _⟩ => ⟨S512x2304, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x128, .f32⟩
  | .local _ .vmem, ⟨15, _⟩ => ⟨S512x128, .f32⟩
  | .local _ .vmem, ⟨16, _⟩ => ⟨S1x128, .f32⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S2304x1024, .bf16⟩
  | .local _ .vmem, ⟨22, _⟩ => ⟨S128x1024, .bf16⟩
  | .local _ .vmem, ⟨23, _⟩ => ⟨S1x1024, .f32⟩
  | .local _ .vmem, ⟨24, _⟩ => ⟨S1x512, .f32⟩
  | .local _ .vmem, ⟨25, _⟩ => ⟨S1x128, .f32⟩
  | .local _ .vmem, ⟨26, _⟩ => ⟨S1x512, .f32⟩
  | .local _ .vmem, ⟨27, _⟩ => ⟨S1x512, .f32⟩
  | .local _ .vmem, ⟨28, _⟩ => ⟨S512x1024, .f32⟩
  | .local _ .vmem, ⟨29, _⟩ => ⟨S512x1024, .f32⟩
  | .local _ .vmem, ⟨30, _⟩ => ⟨S512x2304, .bf16⟩
  | .local _ .vmem, ⟨31, _⟩ => ⟨S512x2304, .bf16⟩
  | .local _ .vmem, ⟨32, _⟩ => ⟨S512x128, .bf16⟩
  | .local _ .vmem, ⟨33, _⟩ => ⟨S512x128, .bf16⟩
  | .local _ .vmem, ⟨34, _⟩ => ⟨S1x512, .f32⟩
  | .local _ .vmem, ⟨35, _⟩ => ⟨S1x128, .f32⟩
  | .local _ .vmem, ⟨36, _⟩ => ⟨S1x512, .f32⟩
  | .local _ .vmem, ⟨37, _⟩ => ⟨S1x512, .f32⟩
  | .local _ .vmem, ⟨38, _⟩ => ⟨S1x1024, .f32⟩
  | .local _ .vmem, ⟨39, _⟩ => ⟨S1x128, .f32⟩
  | .local _ .vmem, ⟨40, _⟩ => ⟨S1x128, .f32⟩
  | .local _ .vmem, ⟨41, _⟩ => ⟨S512x128, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_cst : Ref sig .tc := ⟨.hbm, 18, rfl⟩
abbrev main_v1 : Ref sig .tc := ⟨.hbm, 19, rfl⟩
abbrev main_v2 : Ref sig .tc := ⟨.hbm, 20, rfl⟩
abbrev main_cst_0 : Ref sig .tc := ⟨.hbm, 21, rfl⟩
abbrev main_v3 : Ref sig .tc := ⟨.hbm, 22, rfl⟩
abbrev main_v4 : Ref sig .tc := ⟨.hbm, 23, rfl⟩
abbrev main_cst_1 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_c : Ref sig .tc := ⟨.hbm, 37, rfl⟩
abbrev main_call0_v0 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_c_2 : Ref sig .tc := ⟨.hbm, 43, rfl⟩
abbrev main_call1_v0 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_c_3 : Ref sig .tc := ⟨.hbm, 62, rfl⟩
abbrev main_call2_v0 : Ref sig .tc := ⟨.hbm, 63, rfl⟩
abbrev main_v38 : Ref sig .tc := ⟨.hbm, 64, rfl⟩
abbrev main_v39 : Ref sig .tc := ⟨.hbm, 65, rfl⟩
abbrev main_cst_4 : Ref sig .tc := ⟨.hbm, 66, rfl⟩
abbrev main_v40 : Ref sig .tc := ⟨.hbm, 67, rfl⟩
abbrev main_cst_5 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_6 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65_0 : Ref sig .tc := ⟨.hbm, 94, rfl⟩
abbrev main_v65_1 : Ref sig .tc := ⟨.hbm, 95, rfl⟩
abbrev main_v65_2 : Ref sig .tc := ⟨.hbm, 96, rfl⟩
abbrev main_v65_3 : Ref sig .tc := ⟨.hbm, 97, rfl⟩
abbrev main_v65_4 : Ref sig .tc := ⟨.hbm, 98, rfl⟩
abbrev main_v65_5 : Ref sig .tc := ⟨.hbm, 99, rfl⟩
abbrev main_v65_6 : Ref sig .tc := ⟨.hbm, 100, rfl⟩
abbrev main_v65_7 : Ref sig .tc := ⟨.hbm, 101, rfl⟩
abbrev main_v65_8 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg17_0 : Ref sig .tc := ⟨.vmem, 27, rfl⟩
abbrev cc0_stg18_0 : Ref sig .tc := ⟨.vmem, 28, rfl⟩
abbrev cc0_stg18_1 : Ref sig .tc := ⟨.vmem, 29, rfl⟩
abbrev cc0_stg19_0 : Ref sig .tc := ⟨.vmem, 30, rfl⟩
abbrev cc0_stg19_1 : Ref sig .tc := ⟨.vmem, 31, rfl⟩
abbrev cc0_stg20_0 : Ref sig .tc := ⟨.vmem, 32, rfl⟩
abbrev cc0_stg20_1 : Ref sig .tc := ⟨.vmem, 33, rfl⟩
abbrev cc0_stg21_0 : Ref sig .tc := ⟨.vmem, 34, rfl⟩
abbrev cc0_stg22_0 : Ref sig .tc := ⟨.vmem, 35, rfl⟩
abbrev cc0_stg23_0 : Ref sig .tc := ⟨.vmem, 36, rfl⟩
abbrev cc0_stg24_0 : Ref sig .tc := ⟨.vmem, 37, rfl⟩
abbrev cc0_stg25_0 : Ref sig .tc := ⟨.vmem, 38, rfl⟩
abbrev cc0_stg26_0 : Ref sig .tc := ⟨.vmem, 39, rfl⟩
abbrev cc0_scratch0 : Ref sig .tc := ⟨.vmem, 40, rfl⟩
abbrev cc0_scratch1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem15_0 : DmaSem sig := 25
abbrev cc0_sem16_0 : DmaSem sig := 26
abbrev cc0_sem17_0 : DmaSem sig := 27
abbrev cc0_sem18_0 : DmaSem sig := 28
abbrev cc0_sem18_1 : DmaSem sig := 29
abbrev cc0_sem19_0 : DmaSem sig := 30
abbrev cc0_sem19_1 : DmaSem sig := 31
abbrev cc0_sem20_0 : DmaSem sig := 32
abbrev cc0_sem20_1 : DmaSem sig := 33
abbrev cc0_sem21_0 : DmaSem sig := 34
abbrev cc0_sem22_0 : DmaSem sig := 35
abbrev cc0_sem23_0 : DmaSem sig := 36
abbrev cc0_sem24_0 : DmaSem sig := 37
abbrev cc0_sem25_0 : DmaSem sig := 38
abbrev cc0_sem26_0 : DmaSem sig := 39

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c7_i32 : BitVec 32 := 7#32
  let v1 : BitVec 32 := Scalar.subi c7_i32 arg1
  let v2 : BitVec 32 := Scalar.addi v0 v1
  let c0_i32 : BitVec 32 := 0#32
  let c0_i32_0 : BitVec 32 := 0#32
  ![v2.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c7_i32 : BitVec 32 := 7#32
  let v1 : BitVec 32 := Scalar.subi c7_i32 arg1
  let v2 : BitVec 32 := Scalar.addi v0 v1
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c7_i32 : BitVec 32 := 7#32
  let v1 : BitVec 32 := Scalar.subi c7_i32 arg1
  let v2 : BitVec 32 := Scalar.addi v0 v1
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c7_i32 : BitVec 32 := 7#32
  let v1 : BitVec 32 := Scalar.subi c7_i32 arg1
  let v2 : BitVec 32 := Scalar.addi v0 v1
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c7_i32 : BitVec 32 := 7#32
  let v1 : BitVec 32 := Scalar.subi c7_i32 arg1
  let v2 : BitVec 32 := Scalar.addi v0 v1
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c7_i32 : BitVec 32 := 7#32
  let v1 : BitVec 32 := Scalar.subi c7_i32 arg1
  let v2 : BitVec 32 := Scalar.addi v0 v1
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c7_i32 : BitVec 32 := 7#32
  let v1 : BitVec 32 := Scalar.subi c7_i32 arg1
  let v2 : BitVec 32 := Scalar.addi v0 v1
  let c0_i32 : BitVec 32 := 0#32
  let c0_i32_0 : BitVec 32 := 0#32
  ![v2.toNat, c0_i32.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c7_i32 : BitVec 32 := 7#32
  let v1 : BitVec 32 := Scalar.subi c7_i32 arg1
  let v2 : BitVec 32 := Scalar.addi v0 v1
  let c0_i32 : BitVec 32 := 0#32
  let c0_i32_0 : BitVec 32 := 0#32
  ![v2.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c7_i32 : BitVec 32 := 7#32
  let v1 : BitVec 32 := Scalar.subi c7_i32 arg1
  let v2 : BitVec 32 := Scalar.addi v0 v1
  let c0_i32 : BitVec 32 := 0#32
  let c0_i32_0 : BitVec 32 := 0#32
  ![v2.toNat, c0_i32.toNat]

def cc0_transform_10 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c7_i32 : BitVec 32 := 7#32
  let v1 : BitVec 32 := Scalar.subi c7_i32 arg1
  let v2 : BitVec 32 := Scalar.addi v0 v1
  let c0_i32 : BitVec 32 := 0#32
  let c0_i32_0 : BitVec 32 := 0#32
  ![v2.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c7_i32 : BitVec 32 := 7#32
  let v1 : BitVec 32 := Scalar.subi c7_i32 arg1
  let v2 : BitVec 32 := Scalar.addi v0 v1
  let c0_i32 : BitVec 32 := 0#32
  let c0_i32_0 : BitVec 32 := 0#32
  ![v2.toNat, c0_i32.toNat]

def cc0_transform_19 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c7_i32 : BitVec 32 := 7#32
  let v1 : BitVec 32 := Scalar.subi c7_i32 arg1
  let v2 : BitVec 32 := Scalar.addi v0 v1
  let c0_i32 : BitVec 32 := 0#32
  let c0_i32_0 : BitVec 32 := 0#32
  ![v2.toNat, c0_i32.toNat]

def cc0_transform_20 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c7_i32 : BitVec 32 := 7#32
  let v1 : BitVec 32 := Scalar.subi c7_i32 arg1
  let v2 : BitVec 32 := Scalar.addi v0 v1
  let c0_i32 : BitVec 32 := 0#32
  let c0_i32_0 : BitVec 32 := 0#32
  ![v2.toNat, c0_i32.toNat]

def cc0_transform_21 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2304 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 1 → Memref sig .tc .vmem S2304x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S128x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 2 → Memref sig .tc .vmem S512x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S512x2304 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S512x128 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 1 → Memref sig .tc .vmem S1x512 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false, false]

abbrev stage0_22 : Fin 1 → Memref sig .tc .vmem S1x128 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false, false]

abbrev stage0_23 : Fin 1 → Memref sig .tc .vmem S1x512 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false, false]

abbrev stage0_24 : Fin 1 → Memref sig .tc .vmem S1x512 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false, false]

abbrev stage0_25 : Fin 1 → Memref sig .tc .vmem S1x1024 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false, false]

abbrev stage0_26 : Fin 1 → Memref sig .tc .vmem S1x128 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false, false]
-- ==== ProjIdeal.lean ====
variable {F : FTy → Type} [FloatOps F] [Named F]
def κ : String → Option EReal := fun
  | "ln2" => some ((Real.log 2 : ℝ) : EReal)
  | _ => none
-- ==== ProjReferenceIdeal.lean ====
abbrev S2x4096x1024 : Shape := ⟨3, ![2, 4096, 1024]⟩
abbrev S1024 : Shape := ⟨1, ![1024]⟩
abbrev S1024x2312 : Shape := ⟨2, ![1024, 2312]⟩
abbrev S8 : Shape := ⟨1, ![8]⟩
abbrev S64 : Shape := ⟨1, ![64]⟩
abbrev S2x4096x8x64 : Shape := ⟨4, ![2, 4096, 8, 64]⟩
abbrev S2x4096x2x4x64 : Shape := ⟨5, ![2, 4096, 2, 4, 64]⟩
abbrev S2x4096x8 : Shape := ⟨3, ![2, 4096, 8]⟩
abbrev S_ : Shape := ⟨0, ![]⟩
abbrev S2x4096 : Shape := ⟨2, ![2, 4096]⟩
abbrev S2x4096x1 : Shape := ⟨3, ![2, 4096, 1]⟩
abbrev S1x1x1024 : Shape := ⟨3, ![1, 1, 1024]⟩
abbrev S2x4096x2312 : Shape := ⟨3, ![2, 4096, 2312]⟩
abbrev S8x64 : Shape := ⟨2, ![8, 64]⟩
abbrev S2x64 : Shape := ⟨2, ![2, 64]⟩
abbrev S2x4096x512 : Shape := ⟨3, ![2, 4096, 512]⟩
abbrev S2x4096x128 : Shape := ⟨3, ![2, 4096, 128]⟩
abbrev S2x4096x8x1 : Shape := ⟨4, ![2, 4096, 8, 1]⟩
abbrev S1x1x8x64 : Shape := ⟨4, ![1, 1, 8, 64]⟩
abbrev S2x4096x2x64 : Shape := ⟨4, ![2, 4096, 2, 64]⟩
abbrev S2x4096x2 : Shape := ⟨3, ![2, 4096, 2]⟩
abbrev S2x4096x2x1 : Shape := ⟨4, ![2, 4096, 2, 1]⟩
abbrev S1x1x2x64 : Shape := ⟨4, ![1, 1, 2, 64]⟩
abbrev S1x1x8 : Shape := ⟨3, ![1, 1, 8]⟩
abbrev S2x4096x2x1x64 : Shape := ⟨5, ![2, 4096, 2, 1, 64]⟩
abbrev S8192x2312 : Shape := ⟨2, ![8192, 2312]⟩
abbrev S8192x1024 : Shape := ⟨2, ![8192, 1024]⟩
abbrev S8192x2304 : Shape := ⟨2, ![8192, 2304]⟩
abbrev S8192x8 : Shape := ⟨2, ![8192, 8]⟩
abbrev S8192x128 : Shape := ⟨2, ![8192, 128]⟩
abbrev S1x512 : Shape := ⟨2, ![1, 512]⟩
abbrev S1x128 : Shape := ⟨2, ![1, 128]⟩
abbrev S1x1024 : Shape := ⟨2, ![1, 1024]⟩
abbrev S128 : Shape := ⟨1, ![128]⟩

abbrev nBuf : Space → Nat
  | .hbm => 367
  | .vmem => 0
  | .smem => 0
  | _ => 0

abbrev hbmTy0_0 (i : Nat) : BufTy := match i % 128 with
  | 0 => ⟨S2x4096x1024, .f32⟩
  | 1 => ⟨S1024, .f32⟩
  | 2 => ⟨S1024x2312, .f32⟩
  | 3 => ⟨S8, .f32⟩
  | 4 => ⟨S64, .f32⟩
  | 5 => ⟨S64, .f32⟩
  | 6 => ⟨S64, .f32⟩
  | 7 => ⟨S64, .f32⟩
  | 8 => ⟨S2x4096x8x64, .f32⟩
  | 9 => ⟨S2x4096x2x4x64, .f32⟩
  | 10 => ⟨S2x4096x2x4x64, .f32⟩
  | 11 => ⟨S2x4096x8x64, .f32⟩
  | 12 => ⟨S2x4096x8x64, .f32⟩
  | 13 => ⟨S2x4096x8x64, .f32⟩
  | 14 => ⟨S2x4096x8, .f32⟩
  | 15 => ⟨S2x4096x8, .f32⟩
  | 16 => ⟨S2x4096x1024, .f32⟩
  | 17 => ⟨S2x4096x1024, .f32⟩
  | 18 => ⟨S_, .f32⟩
  | 19 => ⟨S2x4096, .f32⟩
  | 20 => ⟨S2x4096x1, .f32⟩
  | 21 => ⟨S_, .f32⟩
  | 22 => ⟨S2x4096x1, .f32⟩
  | 23 => ⟨S2x4096x1, .f32⟩
  | 24 => ⟨S_, .f32⟩
  | 25 => ⟨S2x4096x1, .f32⟩
  | 26 => ⟨S2x4096x1, .f32⟩
  | 27 => ⟨S2x4096x1, .f32⟩
  | 28 => ⟨S2x4096x1, .f32⟩
  | 29 => ⟨S_, .f32⟩
  | 30 => ⟨S2x4096x1, .f32⟩
  | 31 => ⟨S2x4096x1, .f32⟩
  | 32 => ⟨S2x4096x1024, .f32⟩
  | 33 => ⟨S2x4096x1024, .f32⟩
  | 34 => ⟨S1x1x1024, .f32⟩
  | 35 => ⟨S2x4096x1024, .f32⟩
  | 36 => ⟨S2x4096x1024, .f32⟩
  | 37 => ⟨S2x4096x2312, .f32⟩
  | 38 => ⟨S8x64, .f32⟩
  | 39 => ⟨S2x64, .f32⟩
  | 40 => ⟨S8x64, .f32⟩
  | 41 => ⟨S8x64, .f32⟩
  | 42 => ⟨S2x4096x512, .f32⟩
  | 43 => ⟨S2x4096x128, .f32⟩
  | 44 => ⟨S2x4096x128, .f32⟩
  | 45 => ⟨S2x4096x512, .f32⟩
  | 46 => ⟨S2x4096x512, .f32⟩
  | 47 => ⟨S2x4096x512, .f32⟩
  | 48 => ⟨S2x4096x8, .f32⟩
  | 49 => ⟨S2x4096x8x64, .f32⟩
  | 50 => ⟨S2x4096x8x64, .f32⟩
  | 51 => ⟨S_, .f32⟩
  | 52 => ⟨S2x4096x8, .f32⟩
  | 53 => ⟨S2x4096x8x1, .f32⟩
  | 54 => ⟨S_, .f32⟩
  | 55 => ⟨S2x4096x8x1, .f32⟩
  | 56 => ⟨S2x4096x8x1, .f32⟩
  | 57 => ⟨S_, .f32⟩
  | 58 => ⟨S2x4096x8x1, .f32⟩
  | 59 => ⟨S2x4096x8x1, .f32⟩
  | 60 => ⟨S2x4096x8x1, .f32⟩
  | 61 => ⟨S2x4096x8x1, .f32⟩
  | 62 => ⟨S_, .f32⟩
  | 63 => ⟨S2x4096x8x1, .f32⟩
  | 64 => ⟨S2x4096x8x1, .f32⟩
  | 65 => ⟨S2x4096x8x64, .f32⟩
  | 66 => ⟨S2x4096x8x64, .f32⟩
  | 67 => ⟨S1x1x8x64, .f32⟩
  | 68 => ⟨S2x4096x8x64, .f32⟩
  | 69 => ⟨S2x4096x8x64, .f32⟩
  | 70 => ⟨S2x4096x2x64, .f32⟩
  | 71 => ⟨S2x4096x2x64, .f32⟩
  | 72 => ⟨S_, .f32⟩
  | 73 => ⟨S2x4096x2, .f32⟩
  | 74 => ⟨S2x4096x2x1, .f32⟩
  | 75 => ⟨S_, .f32⟩
  | 76 => ⟨S2x4096x2x1, .f32⟩
  | 77 => ⟨S2x4096x2x1, .f32⟩
  | 78 => ⟨S_, .f32⟩
  | 79 => ⟨S2x4096x2x1, .f32⟩
  | 80 => ⟨S2x4096x2x1, .f32⟩
  | 81 => ⟨S2x4096x2x1, .f32⟩
  | 82 => ⟨S2x4096x2x1, .f32⟩
  | 83 => ⟨S_, .f32⟩
  | 84 => ⟨S2x4096x2x1, .f32⟩
  | 85 => ⟨S2x4096x2x1, .f32⟩
  | 86 => ⟨S2x4096x2x64, .f32⟩
  | 87 => ⟨S2x4096x2x64, .f32⟩
  | 88 => ⟨S1x1x2x64, .f32⟩
  | 89 => ⟨S2x4096x2x64, .f32⟩
  | 90 => ⟨S2x4096x2x64, .f32⟩
  | 91 => ⟨S2x4096x2x64, .f32⟩
  | 92 => ⟨S2x4096x8x64, .f32⟩
  | 93 => ⟨S2x4096x8x64, .f32⟩
  | 94 => ⟨S_, .f32⟩
  | 95 => ⟨S2x4096x8, .f32⟩
  | 96 => ⟨S2x4096x8x1, .f32⟩
  | 97 => ⟨S_, .f32⟩
  | 98 => ⟨S2x4096x8x1, .f32⟩
  | 99 => ⟨S2x4096x8x1, .f32⟩
  | 100 => ⟨S_, .f32⟩
  | 101 => ⟨S2x4096x8x1, .f32⟩
  | 102 => ⟨S2x4096x8x1, .f32⟩
  | 103 => ⟨S2x4096x8x1, .f32⟩
  | 104 => ⟨S2x4096x8x1, .f32⟩
  | 105 => ⟨S_, .f32⟩
  | 106 => ⟨S2x4096x8x1, .f32⟩
  | 107 => ⟨S2x4096x8x1, .f32⟩
  | 108 => ⟨S2x4096x8x64, .f32⟩
  | 109 => ⟨S2x4096x8x64, .f32⟩
  | 110 => ⟨S1x1x8x64, .f32⟩
  | 111 => ⟨S2x4096x8x64, .f32⟩
  | 112 => ⟨S2x4096x8x64, .f32⟩
  | 113 => ⟨S2x4096x8x64, .f32⟩
  | 114 => ⟨S2x4096x8x64, .f32⟩
  | 115 => ⟨S_, .f32⟩
  | 116 => ⟨S2x4096x8, .f32⟩
  | 117 => ⟨S2x4096x8x1, .f32⟩
  | 118 => ⟨S_, .f32⟩
  | 119 => ⟨S2x4096x8x1, .f32⟩
  | 120 => ⟨S2x4096x8x1, .f32⟩
  | 121 => ⟨S_, .f32⟩
  | 122 => ⟨S2x4096x8x1, .f32⟩
  | 123 => ⟨S2x4096x8x1, .f32⟩
  | 124 => ⟨S2x4096x8x1, .f32⟩
  | 125 => ⟨S2x4096x8x1, .f32⟩
  | 126 => ⟨S_, .f32⟩
  | 127 => ⟨S2x4096x8x1, .f32⟩
  | _ => ⟨S2x4096x1024, .f32⟩

abbrev hbmTy0_1 (i : Nat) : BufTy := match i % 128 with
  | 0 => ⟨S2x4096x8x1, .f32⟩
  | 1 => ⟨S2x4096x8x64, .f32⟩
  | 2 => ⟨S2x4096x8x64, .f32⟩
  | 3 => ⟨S1x1x8x64, .f32⟩
  | 4 => ⟨S2x4096x8x64, .f32⟩
  | 5 => ⟨S2x4096x8x64, .f32⟩
  | 6 => ⟨S2x4096x8x64, .f32⟩
  | 7 => ⟨S1x1x8, .f32⟩
  | 8 => ⟨S2x4096x8, .f32⟩
  | 9 => ⟨S2x4096x8, .f32⟩
  | 10 => ⟨S2x4096x8, .f32⟩
  | 11 => ⟨S_, .f32⟩
  | 12 => ⟨S2x4096x8, .f32⟩
  | 13 => ⟨S2x4096x8, .f32⟩
  | 14 => ⟨S2x4096x8, .f32⟩
  | 15 => ⟨S2x4096x8, .f32⟩
  | 16 => ⟨S2x4096x8, .i1⟩
  | 17 => ⟨S2x4096x8, .f32⟩
  | 18 => ⟨S2x4096x8, .f32⟩
  | 19 => ⟨S2x4096x8, .f32⟩
  | 20 => ⟨S2x4096x8, .f32⟩
  | 21 => ⟨S2x4096x8, .f32⟩
  | 22 => ⟨S2x4096x8, .f32⟩
  | 23 => ⟨S2x4096x8, .f32⟩
  | 24 => ⟨S2x4096x8, .f32⟩
  | 25 => ⟨S_, .f32⟩
  | 26 => ⟨S2x4096x8, .f32⟩
  | 27 => ⟨S2x4096x8, .i1⟩
  | 28 => ⟨S_, .f32⟩
  | 29 => ⟨S2x4096x8, .f32⟩
  | 30 => ⟨S2x4096x8, .f32⟩
  | 31 => ⟨S_, .f32⟩
  | 32 => ⟨S2x4096x8, .f32⟩
  | 33 => ⟨S2x4096x8, .i1⟩
  | 34 => ⟨S_, .f32⟩
  | 35 => ⟨S2x4096x8, .f32⟩
  | 36 => ⟨S2x4096x8, .f32⟩
  | 37 => ⟨S2x4096x8, .f32⟩
  | 38 => ⟨S2x4096x8, .f32⟩
  | 39 => ⟨S_, .f32⟩
  | 40 => ⟨S_, .f32⟩
  | 41 => ⟨S_, .i1⟩
  | 42 => ⟨S_, .f32⟩
  | 43 => ⟨S_, .f32⟩
  | 44 => ⟨S_, .f32⟩
  | 45 => ⟨S_, .f32⟩
  | 46 => ⟨S2x4096x8, .f32⟩
  | 47 => ⟨S2x4096x8, .i1⟩
  | 48 => ⟨S_, .f32⟩
  | 49 => ⟨S2x4096x8, .f32⟩
  | 50 => ⟨S2x4096x8, .f32⟩
  | 51 => ⟨S2x4096x8, .f32⟩
  | 52 => ⟨S2x4096x8, .f32⟩
  | 53 => ⟨S2x4096x8, .f32⟩
  | 54 => ⟨S_, .f32⟩
  | 55 => ⟨S2x4096x8, .f32⟩
  | 56 => ⟨S2x4096x8, .f32⟩
  | 57 => ⟨S2x4096x8, .f32⟩
  | 58 => ⟨S_, .f32⟩
  | 59 => ⟨S_, .f32⟩
  | 60 => ⟨S2x4096x8, .f32⟩
  | 61 => ⟨S2x4096x2x1x64, .f32⟩
  | 62 => ⟨S2x4096x2x4x64, .f32⟩
  | 63 => ⟨S2x4096x2x1x64, .f32⟩
  | 64 => ⟨S2x4096x2x4x64, .f32⟩
  | 65 => ⟨S2x4096x8, .f32⟩
  | 66 => ⟨S_, .f32⟩
  | 67 => ⟨S2x4096x2x64, .f32⟩
  | 68 => ⟨S2x4096x2x1x64, .f32⟩
  | 69 => ⟨S_, .f32⟩
  | 70 => ⟨S2x4096x2x64, .f32⟩
  | 71 => ⟨S_, .f32⟩
  | 72 => ⟨S2x4096x2x64, .f32⟩
  | 73 => ⟨S2x4096x2x1x64, .f32⟩
  | 74 => ⟨S_, .f32⟩
  | 75 => ⟨S2x4096x2x64, .f32⟩
  | 76 => ⟨S_, .f32⟩
  | 77 => ⟨S_, .f32⟩
  | 78 => ⟨S2x4096x8, .f32⟩
  | 79 => ⟨S2x4096x8, .f32⟩
  | 80 => ⟨S2x4096x8, .f32⟩
  | 81 => ⟨S2x4096x8, .f32⟩
  | 82 => ⟨S_, .f32⟩
  | 83 => ⟨S8, .f32⟩
  | 84 => ⟨S1x1x8, .f32⟩
  | 85 => ⟨S_, .f32⟩
  | 86 => ⟨S8, .f32⟩
  | 87 => ⟨S2x4096x512, .f32⟩
  | 88 => ⟨S2x4096x8x64, .f32⟩
  | 89 => ⟨S_, .f32⟩
  | 90 => ⟨S8x64, .f32⟩
  | 91 => ⟨S1x1x8x64, .f32⟩
  | 92 => ⟨S2x4096x8x64, .f32⟩
  | 93 => ⟨S2x4096x8x64, .f32⟩
  | 94 => ⟨S_, .f32⟩
  | 95 => ⟨S8x64, .f32⟩
  | 96 => ⟨S2x4096x8x64, .f32⟩
  | 97 => ⟨S_, .f32⟩
  | 98 => ⟨S2x4096x8, .f32⟩
  | 99 => ⟨S2x4096x8x1, .f32⟩
  | 100 => ⟨S2x4096x8x64, .f32⟩
  | 101 => ⟨S2x4096x8x64, .f32⟩
  | 102 => ⟨S2x4096x8x1, .f32⟩
  | 103 => ⟨S_, .f32⟩
  | 104 => ⟨S2x4096x8x1, .f32⟩
  | 105 => ⟨S2x4096x8x1, .f32⟩
  | 106 => ⟨S_, .f32⟩
  | 107 => ⟨S2x4096x8, .f32⟩
  | 108 => ⟨S2x4096x8x64, .f32⟩
  | 109 => ⟨S2x4096x8x64, .f32⟩
  | 110 => ⟨S2x4096x8x64, .f32⟩
  | 111 => ⟨S2x4096x8x64, .f32⟩
  | 112 => ⟨S2x4096x8x64, .f32⟩
  | 113 => ⟨S2x4096x512, .f32⟩
  | 114 => ⟨S2x4096x8x64, .f32⟩
  | 115 => ⟨S_, .f32⟩
  | 116 => ⟨S8x64, .f32⟩
  | 117 => ⟨S1x1x8x64, .f32⟩
  | 118 => ⟨S2x4096x8x64, .f32⟩
  | 119 => ⟨S2x4096x8x64, .f32⟩
  | 120 => ⟨S_, .f32⟩
  | 121 => ⟨S8x64, .f32⟩
  | 122 => ⟨S2x4096x8x64, .f32⟩
  | 123 => ⟨S_, .f32⟩
  | 124 => ⟨S2x4096x8, .f32⟩
  | 125 => ⟨S2x4096x8x1, .f32⟩
  | 126 => ⟨S2x4096x8x64, .f32⟩
  | 127 => ⟨S2x4096x8x64, .f32⟩
  | _ => ⟨S2x4096x1024, .f32⟩

abbrev hbmTy0_2 (i : Nat) : BufTy := match i % 128 with
  | 0 => ⟨S2x4096x8x1, .f32⟩
  | 1 => ⟨S_, .f32⟩
  | 2 => ⟨S2x4096x8x1, .f32⟩
  | 3 => ⟨S2x4096x8x1, .f32⟩
  | 4 => ⟨S_, .f32⟩
  | 5 => ⟨S2x4096x8, .f32⟩
  | 6 => ⟨S2x4096x8x64, .f32⟩
  | 7 => ⟨S2x4096x8x64, .f32⟩
  | 8 => ⟨S2x4096x8x64, .f32⟩
  | 9 => ⟨S2x4096x8x64, .f32⟩
  | 10 => ⟨S2x4096x8x64, .f32⟩
  | 11 => ⟨S2x4096x512, .f32⟩
  | 12 => ⟨S2x4096x128, .f32⟩
  | 13 => ⟨S2x4096x2x64, .f32⟩
  | 14 => ⟨S_, .f32⟩
  | 15 => ⟨S2x64, .f32⟩
  | 16 => ⟨S1x1x2x64, .f32⟩
  | 17 => ⟨S2x4096x2x64, .f32⟩
  | 18 => ⟨S2x4096x2x64, .f32⟩
  | 19 => ⟨S_, .f32⟩
  | 20 => ⟨S2x64, .f32⟩
  | 21 => ⟨S2x4096x2x64, .f32⟩
  | 22 => ⟨S_, .f32⟩
  | 23 => ⟨S2x4096x2, .f32⟩
  | 24 => ⟨S2x4096x2x1, .f32⟩
  | 25 => ⟨S2x4096x2x64, .f32⟩
  | 26 => ⟨S2x4096x2x64, .f32⟩
  | 27 => ⟨S2x4096x2x1, .f32⟩
  | 28 => ⟨S_, .f32⟩
  | 29 => ⟨S2x4096x2x1, .f32⟩
  | 30 => ⟨S2x4096x2x1, .f32⟩
  | 31 => ⟨S_, .f32⟩
  | 32 => ⟨S2x4096x2, .f32⟩
  | 33 => ⟨S2x4096x2x64, .f32⟩
  | 34 => ⟨S2x4096x2x64, .f32⟩
  | 35 => ⟨S2x4096x2x64, .f32⟩
  | 36 => ⟨S2x4096x2x64, .f32⟩
  | 37 => ⟨S2x4096x2x64, .f32⟩
  | 38 => ⟨S2x4096x128, .f32⟩
  | 39 => ⟨S2x4096x8x64, .f32⟩
  | 40 => ⟨S_, .f32⟩
  | 41 => ⟨S8x64, .f32⟩
  | 42 => ⟨S1x1x8x64, .f32⟩
  | 43 => ⟨S2x4096x8x64, .f32⟩
  | 44 => ⟨S2x4096x8x64, .f32⟩
  | 45 => ⟨S_, .f32⟩
  | 46 => ⟨S8x64, .f32⟩
  | 47 => ⟨S2x4096x8x64, .f32⟩
  | 48 => ⟨S_, .f32⟩
  | 49 => ⟨S2x4096x8, .f32⟩
  | 50 => ⟨S2x4096x8x1, .f32⟩
  | 51 => ⟨S2x4096x8x64, .f32⟩
  | 52 => ⟨S2x4096x8x64, .f32⟩
  | 53 => ⟨S2x4096x8x1, .f32⟩
  | 54 => ⟨S_, .f32⟩
  | 55 => ⟨S2x4096x8x1, .f32⟩
  | 56 => ⟨S2x4096x8x1, .f32⟩
  | 57 => ⟨S_, .f32⟩
  | 58 => ⟨S2x4096x8, .f32⟩
  | 59 => ⟨S2x4096x8x64, .f32⟩
  | 60 => ⟨S2x4096x8x64, .f32⟩
  | 61 => ⟨S2x4096x8x64, .f32⟩
  | 62 => ⟨S2x4096x8x64, .f32⟩
  | 63 => ⟨S2x4096x8x64, .f32⟩
  | 64 => ⟨S2x4096x512, .f32⟩
  | 65 => ⟨S2x4096x2312, .f32⟩
  | 66 => ⟨S2x4096x1024, .f32⟩
  | 67 => ⟨S2x4096x1024, .f32⟩
  | 68 => ⟨S_, .f32⟩
  | 69 => ⟨S1024, .f32⟩
  | 70 => ⟨S1x1x1024, .f32⟩
  | 71 => ⟨S2x4096x1024, .f32⟩
  | 72 => ⟨S2x4096x1024, .f32⟩
  | 73 => ⟨S_, .f32⟩
  | 74 => ⟨S1024, .f32⟩
  | 75 => ⟨S2x4096x1024, .f32⟩
  | 76 => ⟨S_, .f32⟩
  | 77 => ⟨S2x4096, .f32⟩
  | 78 => ⟨S2x4096x1, .f32⟩
  | 79 => ⟨S2x4096x1024, .f32⟩
  | 80 => ⟨S2x4096x1024, .f32⟩
  | 81 => ⟨S2x4096x1, .f32⟩
  | 82 => ⟨S_, .f32⟩
  | 83 => ⟨S2x4096x1, .f32⟩
  | 84 => ⟨S2x4096x1, .f32⟩
  | 85 => ⟨S_, .f32⟩
  | 86 => ⟨S2x4096, .f32⟩
  | 87 => ⟨S2x4096x1024, .f32⟩
  | 88 => ⟨S2x4096x1024, .f32⟩
  | 89 => ⟨S2x4096x1024, .f32⟩
  | 90 => ⟨S2x4096x1024, .f32⟩
  | 91 => ⟨S2x4096x1024, .f32⟩
  | 92 => ⟨S8192x2312, .f32⟩
  | 93 => ⟨S2x4096x1024, .f32⟩
  | 94 => ⟨S8192x1024, .f32⟩
  | 95 => ⟨S8192x2304, .f32⟩
  | 96 => ⟨S8192x2304, .bf16⟩
  | 97 => ⟨S8192x8, .f32⟩
  | 98 => ⟨S_, .i32⟩
  | 99 => ⟨S_, .f32⟩
  | 100 => ⟨S8192x128, .f32⟩
  | 101 => ⟨S8192x128, .bf16⟩
  | 102 => ⟨S1x512, .f32⟩
  | 103 => ⟨S1x128, .f32⟩
  | 104 => ⟨S1x512, .f32⟩
  | 105 => ⟨S1x512, .f32⟩
  | 106 => ⟨S1x1024, .f32⟩
  | 107 => ⟨S_, .i32⟩
  | 108 => ⟨S_, .f32⟩
  | 109 => ⟨S128, .f32⟩
  | 110 => ⟨S1x128, .f32⟩
  | _ => ⟨S2x4096x1024, .f32⟩

abbrev hbmTy (i : Nat) : BufTy := match i / 128 with
  | 0 => hbmTy0_0 i
  | 1 => hbmTy0_1 i
  | 2 => hbmTy0_2 i
  | _ => ⟨S2x4096x1024, .f32⟩

abbrev bufTy : (tb : Table) → Fin (tcTables nBuf tb) → BufTy
  | .hbm, ⟨i, _⟩ => hbmTy i
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_cst : Ref sig .tc := ⟨.hbm, 18, rfl⟩
abbrev main_v1 : Ref sig .tc := ⟨.hbm, 19, rfl⟩
abbrev main_v2 : Ref sig .tc := ⟨.hbm, 20, rfl⟩
abbrev main_cst_0 : Ref sig .tc := ⟨.hbm, 21, rfl⟩
abbrev main_v3 : Ref sig .tc := ⟨.hbm, 22, rfl⟩
abbrev main_v4 : Ref sig .tc := ⟨.hbm, 23, rfl⟩
abbrev main_cst_1 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_cst_2 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_3 : Ref sig .tc := ⟨.hbm, 51, rfl⟩
abbrev main_v30 : Ref sig .tc := ⟨.hbm, 52, rfl⟩
abbrev main_v31 : Ref sig .tc := ⟨.hbm, 53, rfl⟩
abbrev main_cst_4 : Ref sig .tc := ⟨.hbm, 54, rfl⟩
abbrev main_v32 : Ref sig .tc := ⟨.hbm, 55, rfl⟩
abbrev main_v33 : Ref sig .tc := ⟨.hbm, 56, rfl⟩
abbrev main_cst_5 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_cst_6 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_7 : Ref sig .tc := ⟨.hbm, 72, rfl⟩
abbrev main_v47 : Ref sig .tc := ⟨.hbm, 73, rfl⟩
abbrev main_v48 : Ref sig .tc := ⟨.hbm, 74, rfl⟩
abbrev main_cst_8 : Ref sig .tc := ⟨.hbm, 75, rfl⟩
abbrev main_v49 : Ref sig .tc := ⟨.hbm, 76, rfl⟩
abbrev main_v50 : Ref sig .tc := ⟨.hbm, 77, rfl⟩
abbrev main_cst_9 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_cst_10 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_cst_11 : Ref sig .tc := ⟨.hbm, 94, rfl⟩
abbrev main_v65 : Ref sig .tc := ⟨.hbm, 95, rfl⟩
abbrev main_v66 : Ref sig .tc := ⟨.hbm, 96, rfl⟩
abbrev main_cst_12 : Ref sig .tc := ⟨.hbm, 97, rfl⟩
abbrev main_v67 : Ref sig .tc := ⟨.hbm, 98, rfl⟩
abbrev main_v68 : Ref sig .tc := ⟨.hbm, 99, rfl⟩
abbrev main_cst_13 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_cst_14 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_15 : Ref sig .tc := ⟨.hbm, 115, rfl⟩
abbrev main_v82 : Ref sig .tc := ⟨.hbm, 116, rfl⟩
abbrev main_v83 : Ref sig .tc := ⟨.hbm, 117, rfl⟩
abbrev main_cst_16 : Ref sig .tc := ⟨.hbm, 118, rfl⟩
abbrev main_v84 : Ref sig .tc := ⟨.hbm, 119, rfl⟩
abbrev main_v85 : Ref sig .tc := ⟨.hbm, 120, rfl⟩
abbrev main_cst_17 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_cst_18 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_call0_v0 : Ref sig .tc := ⟨.hbm, 138, rfl⟩
abbrev main_call0_call0_cst : Ref sig .tc := ⟨.hbm, 139, rfl⟩
abbrev main_call0_call0_v0 : Ref sig .tc := ⟨.hbm, 140, rfl⟩
abbrev main_call0_call0_v1 : Ref sig .tc := ⟨.hbm, 141, rfl⟩
abbrev main_call0_call0_v2 : Ref sig .tc := ⟨.hbm, 142, rfl⟩
abbrev main_call0_call0_v3 : Ref sig .tc := ⟨.hbm, 143, rfl⟩
abbrev main_call0_call0_v4 : Ref sig .tc := ⟨.hbm, 144, rfl⟩
abbrev main_call0_call0_v5 : Ref sig .tc := ⟨.hbm, 145, rfl⟩
abbrev main_call0_call0_v6 : Ref sig .tc := ⟨.hbm, 146, rfl⟩
abbrev main_call0_call0_v7 : Ref sig .tc := ⟨.hbm, 147, rfl⟩
abbrev main_call0_call0_v8 : Ref sig .tc := ⟨.hbm, 148, rfl⟩
abbrev main_call0_call0_v9 : Ref sig .tc := ⟨.hbm, 149, rfl⟩
abbrev main_call0_call0_v10 : Ref sig .tc := ⟨.hbm, 150, rfl⟩
abbrev main_call0_call0_v11 : Ref sig .tc := ⟨.hbm, 151, rfl⟩
abbrev main_call0_v1_0 : Ref sig .tc := ⟨.hbm, 152, rfl⟩
abbrev main_call0_call0_cst_0 : Ref sig .tc := ⟨.hbm, 153, rfl⟩
abbrev main_call0_call0_v13 : Ref sig .tc := ⟨.hbm, 154, rfl⟩
abbrev main_call0_call0_v14 : Ref sig .tc := ⟨.hbm, 155, rfl⟩
abbrev main_call0_call0_cst_1 : Ref sig .tc := ⟨.hbm, 156, rfl⟩
abbrev main_call0_call0_v15 : Ref sig .tc := ⟨.hbm, 157, rfl⟩
abbrev main_call0_call0_v16 : Ref sig .tc := ⟨.hbm, 158, rfl⟩
abbrev main_call0_call0_cst_2 : Ref sig .tc := ⟨.hbm, 159, rfl⟩
abbrev main_call0_call0_v17 : Ref sig .tc := ⟨.hbm, 160, rfl⟩
abbrev main_call0_call0_v18 : Ref sig .tc := ⟨.hbm, 161, rfl⟩
abbrev main_call0_call0_cst_3 : Ref sig .tc := ⟨.hbm, 162, rfl⟩
abbrev main_call0_call0_v19 : Ref sig .tc := ⟨.hbm, 163, rfl⟩
abbrev main_call0_call0_v20 : Ref sig .tc := ⟨.hbm, 164, rfl⟩
abbrev main_call0_call0_v21 : Ref sig .tc := ⟨.hbm, 165, rfl⟩
abbrev main_v101_1 : Ref sig .tc := ⟨.hbm, 166, rfl⟩
abbrev main_call0_call0_cst_4 : Ref sig .tc := ⟨.hbm, 167, rfl⟩
abbrev main_call0_call0_cst_5 : Ref sig .tc := ⟨.hbm, 168, rfl⟩
abbrev main_call0_call0_v23 : Ref sig .tc := ⟨.hbm, 169, rfl⟩
abbrev main_call0_call0_cst_6 : Ref sig .tc := ⟨.hbm, 170, rfl⟩
abbrev main_call0_call0_cst_7 : Ref sig .tc := ⟨.hbm, 171, rfl⟩
abbrev main_call0_call0_v24 : Ref sig .tc := ⟨.hbm, 172, rfl⟩
abbrev main_call0_call0_cst_8 : Ref sig .tc := ⟨.hbm, 173, rfl⟩
abbrev main_call0_call0_v25 : Ref sig .tc := ⟨.hbm, 174, rfl⟩
abbrev main_call0_call0_v26 : Ref sig .tc := ⟨.hbm, 175, rfl⟩
abbrev main_call0_call0_cst_9 : Ref sig .tc := ⟨.hbm, 176, rfl⟩
abbrev main_call0_call0_v27 : Ref sig .tc := ⟨.hbm, 177, rfl⟩
abbrev main_call0_call0_v28 : Ref sig .tc := ⟨.hbm, 178, rfl⟩
abbrev main_call0_call0_v29 : Ref sig .tc := ⟨.hbm, 179, rfl⟩
abbrev main_call0_call0_v30 : Ref sig .tc := ⟨.hbm, 180, rfl⟩
abbrev main_call0_call0_v31 : Ref sig .tc := ⟨.hbm, 181, rfl⟩
abbrev main_call0_call0_cst_10 : Ref sig .tc := ⟨.hbm, 182, rfl⟩
abbrev main_call0_call0_v32 : Ref sig .tc := ⟨.hbm, 183, rfl⟩
abbrev main_v101_2 : Ref sig .tc := ⟨.hbm, 184, rfl⟩
abbrev main_v101_0 : Ref sig .tc := ⟨.hbm, 185, rfl⟩
abbrev main_call1_call0_cst : Ref sig .tc := ⟨.hbm, 186, rfl⟩
abbrev main_call1_call0_v0 : Ref sig .tc := ⟨.hbm, 187, rfl⟩
abbrev main_v102 : Ref sig .tc := ⟨.hbm, 188, rfl⟩
abbrev main_v103 : Ref sig .tc := ⟨.hbm, 189, rfl⟩
abbrev main_v104 : Ref sig .tc := ⟨.hbm, 190, rfl⟩
abbrev main_v105 : Ref sig .tc := ⟨.hbm, 191, rfl⟩
abbrev main_v106 : Ref sig .tc := ⟨.hbm, 192, rfl⟩
abbrev main_v107 : Ref sig .tc := ⟨.hbm, 193, rfl⟩
abbrev main_cst_19 : Ref sig .tc := ⟨.hbm, 194, rfl⟩
abbrev main_v108 : Ref sig .tc := ⟨.hbm, 195, rfl⟩
abbrev main_v109 : Ref sig .tc := ⟨.hbm, 196, rfl⟩
abbrev main_cst_20 : Ref sig .tc := ⟨.hbm, 197, rfl⟩
abbrev main_v110 : Ref sig .tc := ⟨.hbm, 198, rfl⟩
abbrev main_cst_21 : Ref sig .tc := ⟨.hbm, 199, rfl⟩
abbrev main_v111 : Ref sig .tc := ⟨.hbm, 200, rfl⟩
abbrev main_v112 : Ref sig .tc := ⟨.hbm, 201, rfl⟩
abbrev main_cst_22 : Ref sig .tc := ⟨.hbm, 202, rfl⟩
abbrev main_v113 : Ref sig .tc := ⟨.hbm, 203, rfl⟩
abbrev main_call2_call0_cst : Ref sig .tc := ⟨.hbm, 204, rfl⟩
abbrev main_call2_call0_v0 : Ref sig .tc := ⟨.hbm, 205, rfl⟩
abbrev main_v114 : Ref sig .tc := ⟨.hbm, 206, rfl⟩
abbrev main_call3_v0 : Ref sig .tc := ⟨.hbm, 207, rfl⟩
abbrev main_call3_v1 : Ref sig .tc := ⟨.hbm, 208, rfl⟩
abbrev main_v115 : Ref sig .tc := ⟨.hbm, 209, rfl⟩
abbrev main_cst_23 : Ref sig .tc := ⟨.hbm, 210, rfl⟩
abbrev main_v116 : Ref sig .tc := ⟨.hbm, 211, rfl⟩
abbrev main_v117 : Ref sig .tc := ⟨.hbm, 212, rfl⟩
abbrev main_cst_24 : Ref sig .tc := ⟨.hbm, 213, rfl⟩
abbrev main_v118 : Ref sig .tc := ⟨.hbm, 214, rfl⟩
abbrev main_v119 : Ref sig .tc := ⟨.hbm, 215, rfl⟩
abbrev main_v120 : Ref sig .tc := ⟨.hbm, 216, rfl⟩
abbrev main_cst_25 : Ref sig .tc := ⟨.hbm, 217, rfl⟩
abbrev main_v121 : Ref sig .tc := ⟨.hbm, 218, rfl⟩
abbrev main_v122 : Ref sig .tc := ⟨.hbm, 219, rfl⟩
abbrev main_v123 : Ref sig .tc := ⟨.hbm, 220, rfl⟩
abbrev main_v124 : Ref sig .tc := ⟨.hbm, 221, rfl⟩
abbrev main_cst_26 : Ref sig .tc := ⟨.hbm, 222, rfl⟩
abbrev main_v125 : Ref sig .tc := ⟨.hbm, 223, rfl⟩
abbrev main_v126 : Ref sig .tc := ⟨.hbm, 224, rfl⟩
abbrev main_cst_27 : Ref sig .tc := ⟨.hbm, 225, rfl⟩
abbrev main_v127 : Ref sig .tc := ⟨.hbm, 226, rfl⟩
abbrev main_v128 : Ref sig .tc := ⟨.hbm, 227, rfl⟩
abbrev main_v129 : Ref sig .tc := ⟨.hbm, 228, rfl⟩
abbrev main_v130 : Ref sig .tc := ⟨.hbm, 229, rfl⟩
abbrev main_v131 : Ref sig .tc := ⟨.hbm, 230, rfl⟩
abbrev main_cst_28 : Ref sig .tc := ⟨.hbm, 231, rfl⟩
abbrev main_v132 : Ref sig .tc := ⟨.hbm, 232, rfl⟩
abbrev main_v133 : Ref sig .tc := ⟨.hbm, 233, rfl⟩
abbrev main_cst_29 : Ref sig .tc := ⟨.hbm, 234, rfl⟩
abbrev main_v134 : Ref sig .tc := ⟨.hbm, 235, rfl⟩
abbrev main_v135 : Ref sig .tc := ⟨.hbm, 236, rfl⟩
abbrev main_v136 : Ref sig .tc := ⟨.hbm, 237, rfl⟩
abbrev main_v137 : Ref sig .tc := ⟨.hbm, 238, rfl⟩
abbrev main_v138 : Ref sig .tc := ⟨.hbm, 239, rfl⟩
abbrev main_v139 : Ref sig .tc := ⟨.hbm, 240, rfl⟩
abbrev main_v140 : Ref sig .tc := ⟨.hbm, 241, rfl⟩
abbrev main_v141 : Ref sig .tc := ⟨.hbm, 242, rfl⟩
abbrev main_cst_30 : Ref sig .tc := ⟨.hbm, 243, rfl⟩
abbrev main_v142 : Ref sig .tc := ⟨.hbm, 244, rfl⟩
abbrev main_v143 : Ref sig .tc := ⟨.hbm, 245, rfl⟩
abbrev main_v144 : Ref sig .tc := ⟨.hbm, 246, rfl⟩
abbrev main_v145 : Ref sig .tc := ⟨.hbm, 247, rfl⟩
abbrev main_cst_31 : Ref sig .tc := ⟨.hbm, 248, rfl⟩
abbrev main_v146 : Ref sig .tc := ⟨.hbm, 249, rfl⟩
abbrev main_v147 : Ref sig .tc := ⟨.hbm, 250, rfl⟩
abbrev main_cst_32 : Ref sig .tc := ⟨.hbm, 251, rfl⟩
abbrev main_v148 : Ref sig .tc := ⟨.hbm, 252, rfl⟩
abbrev main_v149 : Ref sig .tc := ⟨.hbm, 253, rfl⟩
abbrev main_v150 : Ref sig .tc := ⟨.hbm, 254, rfl⟩
abbrev main_v151 : Ref sig .tc := ⟨.hbm, 255, rfl⟩
abbrev main_v152 : Ref sig .tc := ⟨.hbm, 256, rfl⟩
abbrev main_cst_33 : Ref sig .tc := ⟨.hbm, 257, rfl⟩
abbrev main_v153 : Ref sig .tc := ⟨.hbm, 258, rfl⟩
abbrev main_v154 : Ref sig .tc := ⟨.hbm, 259, rfl⟩
abbrev main_cst_34 : Ref sig .tc := ⟨.hbm, 260, rfl⟩
abbrev main_v155 : Ref sig .tc := ⟨.hbm, 261, rfl⟩
abbrev main_v156 : Ref sig .tc := ⟨.hbm, 262, rfl⟩
abbrev main_v157 : Ref sig .tc := ⟨.hbm, 263, rfl⟩
abbrev main_v158 : Ref sig .tc := ⟨.hbm, 264, rfl⟩
abbrev main_v159 : Ref sig .tc := ⟨.hbm, 265, rfl⟩
abbrev main_v160 : Ref sig .tc := ⟨.hbm, 266, rfl⟩
abbrev main_v161 : Ref sig .tc := ⟨.hbm, 267, rfl⟩
abbrev main_v162 : Ref sig .tc := ⟨.hbm, 268, rfl⟩
abbrev main_v163 : Ref sig .tc := ⟨.hbm, 269, rfl⟩
abbrev main_cst_35 : Ref sig .tc := ⟨.hbm, 270, rfl⟩
abbrev main_v164 : Ref sig .tc := ⟨.hbm, 271, rfl⟩
abbrev main_v165 : Ref sig .tc := ⟨.hbm, 272, rfl⟩
abbrev main_v166 : Ref sig .tc := ⟨.hbm, 273, rfl⟩
abbrev main_v167 : Ref sig .tc := ⟨.hbm, 274, rfl⟩
abbrev main_cst_36 : Ref sig .tc := ⟨.hbm, 275, rfl⟩
abbrev main_v168 : Ref sig .tc := ⟨.hbm, 276, rfl⟩
abbrev main_v169 : Ref sig .tc := ⟨.hbm, 277, rfl⟩
abbrev main_cst_37 : Ref sig .tc := ⟨.hbm, 278, rfl⟩
abbrev main_v170 : Ref sig .tc := ⟨.hbm, 279, rfl⟩
abbrev main_v171 : Ref sig .tc := ⟨.hbm, 280, rfl⟩
abbrev main_v172 : Ref sig .tc := ⟨.hbm, 281, rfl⟩
abbrev main_v173 : Ref sig .tc := ⟨.hbm, 282, rfl⟩
abbrev main_v174 : Ref sig .tc := ⟨.hbm, 283, rfl⟩
abbrev main_cst_38 : Ref sig .tc := ⟨.hbm, 284, rfl⟩
abbrev main_v175 : Ref sig .tc := ⟨.hbm, 285, rfl⟩
abbrev main_v176 : Ref sig .tc := ⟨.hbm, 286, rfl⟩
abbrev main_cst_39 : Ref sig .tc := ⟨.hbm, 287, rfl⟩
abbrev main_v177 : Ref sig .tc := ⟨.hbm, 288, rfl⟩
abbrev main_v178 : Ref sig .tc := ⟨.hbm, 289, rfl⟩
abbrev main_v179 : Ref sig .tc := ⟨.hbm, 290, rfl⟩
abbrev main_v180 : Ref sig .tc := ⟨.hbm, 291, rfl⟩
abbrev main_v181 : Ref sig .tc := ⟨.hbm, 292, rfl⟩
abbrev main_v182 : Ref sig .tc := ⟨.hbm, 293, rfl⟩
abbrev main_v183 : Ref sig .tc := ⟨.hbm, 294, rfl⟩
abbrev main_v184 : Ref sig .tc := ⟨.hbm, 295, rfl⟩
abbrev main_cst_40 : Ref sig .tc := ⟨.hbm, 296, rfl⟩
abbrev main_v185 : Ref sig .tc := ⟨.hbm, 297, rfl⟩
abbrev main_v186 : Ref sig .tc := ⟨.hbm, 298, rfl⟩
abbrev main_v187 : Ref sig .tc := ⟨.hbm, 299, rfl⟩
abbrev main_v188 : Ref sig .tc := ⟨.hbm, 300, rfl⟩
abbrev main_cst_41 : Ref sig .tc := ⟨.hbm, 301, rfl⟩
abbrev main_v189 : Ref sig .tc := ⟨.hbm, 302, rfl⟩
abbrev main_v190 : Ref sig .tc := ⟨.hbm, 303, rfl⟩
abbrev main_cst_42 : Ref sig .tc := ⟨.hbm, 304, rfl⟩
abbrev main_v191 : Ref sig .tc := ⟨.hbm, 305, rfl⟩
abbrev main_v192 : Ref sig .tc := ⟨.hbm, 306, rfl⟩
abbrev main_v193 : Ref sig .tc := ⟨.hbm, 307, rfl⟩
abbrev main_v194 : Ref sig .tc := ⟨.hbm, 308, rfl⟩
abbrev main_v195 : Ref sig .tc := ⟨.hbm, 309, rfl⟩
abbrev main_cst_43 : Ref sig .tc := ⟨.hbm, 310, rfl⟩
abbrev main_v196 : Ref sig .tc := ⟨.hbm, 311, rfl⟩
abbrev main_v197 : Ref sig .tc := ⟨.hbm, 312, rfl⟩
abbrev main_cst_44 : Ref sig .tc := ⟨.hbm, 313, rfl⟩
abbrev main_v198 : Ref sig .tc := ⟨.hbm, 314, rfl⟩
abbrev main_v199 : Ref sig .tc := ⟨.hbm, 315, rfl⟩
abbrev main_v200 : Ref sig .tc := ⟨.hbm, 316, rfl⟩
abbrev main_v201 : Ref sig .tc := ⟨.hbm, 317, rfl⟩
abbrev main_v202 : Ref sig .tc := ⟨.hbm, 318, rfl⟩
abbrev main_v203 : Ref sig .tc := ⟨.hbm, 319, rfl⟩
abbrev main_v204 : Ref sig .tc := ⟨.hbm, 320, rfl⟩
abbrev main_v205 : Ref sig .tc := ⟨.hbm, 321, rfl⟩
abbrev main_v206 : Ref sig .tc := ⟨.hbm, 322, rfl⟩
abbrev main_v207 : Ref sig .tc := ⟨.hbm, 323, rfl⟩
abbrev main_cst_45 : Ref sig .tc := ⟨.hbm, 324, rfl⟩
abbrev main_v208 : Ref sig .tc := ⟨.hbm, 325, rfl⟩
abbrev main_v209 : Ref sig .tc := ⟨.hbm, 326, rfl⟩
abbrev main_v210 : Ref sig .tc := ⟨.hbm, 327, rfl⟩
abbrev main_v211 : Ref sig .tc := ⟨.hbm, 328, rfl⟩
abbrev main_cst_46 : Ref sig .tc := ⟨.hbm, 329, rfl⟩
abbrev main_v212 : Ref sig .tc := ⟨.hbm, 330, rfl⟩
abbrev main_v213 : Ref sig .tc := ⟨.hbm, 331, rfl⟩
abbrev main_cst_47 : Ref sig .tc := ⟨.hbm, 332, rfl⟩
abbrev main_v214 : Ref sig .tc := ⟨.hbm, 333, rfl⟩
abbrev main_v215 : Ref sig .tc := ⟨.hbm, 334, rfl⟩
abbrev main_v216 : Ref sig .tc := ⟨.hbm, 335, rfl⟩
abbrev main_v217 : Ref sig .tc := ⟨.hbm, 336, rfl⟩
abbrev main_v218 : Ref sig .tc := ⟨.hbm, 337, rfl⟩
abbrev main_cst_48 : Ref sig .tc := ⟨.hbm, 338, rfl⟩
abbrev main_v219 : Ref sig .tc := ⟨.hbm, 339, rfl⟩
abbrev main_v220 : Ref sig .tc := ⟨.hbm, 340, rfl⟩
abbrev main_cst_49 : Ref sig .tc := ⟨.hbm, 341, rfl⟩
abbrev main_v221 : Ref sig .tc := ⟨.hbm, 342, rfl⟩
abbrev main_v222 : Ref sig .tc := ⟨.hbm, 343, rfl⟩
abbrev main_v223 : Ref sig .tc := ⟨.hbm, 344, rfl⟩
abbrev main_v224 : Ref sig .tc := ⟨.hbm, 345, rfl⟩
abbrev main_v225 : Ref sig .tc := ⟨.hbm, 346, rfl⟩
abbrev main_v226 : Ref sig .tc := ⟨.hbm, 347, rfl⟩
abbrev main_v227 : Ref sig .tc := ⟨.hbm, 348, rfl⟩
abbrev main_v228 : Ref sig .tc := ⟨.hbm, 349, rfl⟩
abbrev main_v229 : Ref sig .tc := ⟨.hbm, 350, rfl⟩
abbrev main_v230 : Ref sig .tc := ⟨.hbm, 351, rfl⟩
abbrev main_v231 : Ref sig .tc := ⟨.hbm, 352, rfl⟩
abbrev main_v232 : Ref sig .tc := ⟨.hbm, 353, rfl⟩
abbrev main_c : Ref sig .tc := ⟨.hbm, 354, rfl⟩
abbrev main_call4_v0 : Ref sig .tc := ⟨.hbm, 355, rfl⟩
abbrev main_v233 : Ref sig .tc := ⟨.hbm, 356, rfl⟩
abbrev main_v234 : Ref sig .tc := ⟨.hbm, 357, rfl⟩
abbrev main_v235 : Ref sig .tc := ⟨.hbm, 358, rfl⟩
abbrev main_v236 : Ref sig .tc := ⟨.hbm, 359, rfl⟩
abbrev main_v237 : Ref sig .tc := ⟨.hbm, 360, rfl⟩
abbrev main_v238 : Ref sig .tc := ⟨.hbm, 361, rfl⟩
abbrev main_v239 : Ref sig .tc := ⟨.hbm, 362, rfl⟩
abbrev main_c_50 : Ref sig .tc := ⟨.hbm, 363, rfl⟩
abbrev main_call5_v0 : Ref sig .tc := ⟨.hbm, 364, rfl⟩
abbrev main_v240 : Ref sig .tc := ⟨.hbm, 365, rfl⟩
abbrev main_v241 : Ref sig .tc := ⟨.hbm, 366, rfl⟩

abbrev nD : Nat := 1
abbrev τ : Topo := Topo.v7x

variable {F : FTy → Type} [FloatOps F]
-- ==== Swa.lean ====
abbrev S2x4096x8x64 : Shape := ⟨4, ![2, 4096, 8, 64]⟩
abbrev S2x4096x2x64 : Shape := ⟨4, ![2, 4096, 2, 64]⟩
abbrev S8 : Shape := ⟨1, ![8]⟩
abbrev S2x4096x2x4x64 : Shape := ⟨5, ![2, 4096, 2, 4, 64]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S_ : Shape := ⟨0, ![]⟩
abbrev S2x8x4096x4096 : Shape := ⟨4, ![2, 8, 4096, 4096]⟩
abbrev S8x1x1 : Shape := ⟨3, ![8, 1, 1]⟩
abbrev S1x4096x4096 : Shape := ⟨3, ![1, 4096, 4096]⟩
abbrev S8x4096x4096 : Shape := ⟨3, ![8, 4096, 4096]⟩
abbrev S1x8x4096x4096 : Shape := ⟨4, ![1, 8, 4096, 4096]⟩
abbrev S1x8x1x1 : Shape := ⟨4, ![1, 8, 1, 1]⟩
abbrev S2x8x4096 : Shape := ⟨3, ![2, 8, 4096]⟩
abbrev S2x8x4096x1 : Shape := ⟨4, ![2, 8, 4096, 1]⟩
abbrev S2x8x64x4096 : Shape := ⟨4, ![2, 8, 64, 4096]⟩
abbrev S2x4x2x4096 : Shape := ⟨4, ![2, 4, 2, 4096]⟩
abbrev S4x2x4096x2 : Shape := ⟨4, ![4, 2, 4096, 2]⟩
abbrev S4x8192x2 : Shape := ⟨3, ![4, 8192, 2]⟩
abbrev S4x8192x2x64 : Shape := ⟨4, ![4, 8192, 2, 64]⟩
abbrev S4x8192x128 : Shape := ⟨3, ![4, 8192, 128]⟩
abbrev S2x4096x8 : Shape := ⟨3, ![2, 4096, 8]⟩
abbrev S8192x8 : Shape := ⟨2, ![8192, 8]⟩
abbrev S8192x128 : Shape := ⟨2, ![8192, 128]⟩
abbrev S128 : Shape := ⟨1, ![128]⟩
abbrev S1x128 : Shape := ⟨2, ![1, 128]⟩
abbrev S8192x512 : Shape := ⟨2, ![8192, 512]⟩
abbrev S2x4096x2x2x64 : Shape := ⟨5, ![2, 4096, 2, 2, 64]⟩
abbrev S2x4096x4x64 : Shape := ⟨4, ![2, 4096, 4, 64]⟩
abbrev S8192x256 : Shape := ⟨2, ![8192, 256]⟩
abbrev S2x4x8x128 : Shape := ⟨4, ![2, 4, 8, 128]⟩
abbrev S4096x128 : Shape := ⟨2, ![4096, 128]⟩
abbrev S1x4096x128 : Shape := ⟨3, ![1, 4096, 128]⟩
abbrev S1x1x8x128 : Shape := ⟨4, ![1, 1, 8, 128]⟩
abbrev S8x128 : Shape := ⟨2, ![8, 128]⟩
abbrev S1x1x128 : Shape := ⟨3, ![1, 1, 128]⟩
abbrev S32x128x128 : Shape := ⟨3, ![32, 128, 128]⟩
abbrev S128x128 : Shape := ⟨2, ![128, 128]⟩
abbrev S1x128x128 : Shape := ⟨3, ![1, 128, 128]⟩
abbrev S31x128x128 : Shape := ⟨3, ![31, 128, 128]⟩
abbrev S32x256x128 : Shape := ⟨3, ![32, 256, 128]⟩
abbrev S64x256x128 : Shape := ⟨3, ![64, 256, 128]⟩
abbrev S64x128x128 : Shape := ⟨3, ![64, 128, 128]⟩
abbrev S64x1x128 : Shape := ⟨3, ![64, 1, 128]⟩
abbrev S64x1x1 : Shape := ⟨3, ![64, 1, 1]⟩
abbrev S1 : Shape := ⟨1, ![1]⟩
abbrev S1x1 : Shape := ⟨2, ![1, 1]⟩
abbrev S1x1x1 : Shape := ⟨3, ![1, 1, 1]⟩
abbrev S1x256x128 : Shape := ⟨3, ![1, 256, 128]⟩
abbrev S32x1x128 : Shape := ⟨3, ![32, 1, 128]⟩
abbrev S32x1 : Shape := ⟨2, ![32, 1]⟩
abbrev S32x1x1 : Shape := ⟨3, ![32, 1, 1]⟩
abbrev S4x8x128 : Shape := ⟨3, ![4, 8, 128]⟩
abbrev S4x2x1 : Shape := ⟨3, ![4, 2, 1]⟩
abbrev S4x2 : Shape := ⟨2, ![4, 2]⟩

abbrev nBuf : Space → Nat
  | .hbm => 109
  | .vmem => 21
  | .smem => 0
  | _ => 0

abbrev bufTy : (tb : Table) → Fin (tcTables nBuf tb) → BufTy
  | .hbm, ⟨0, _⟩ => ⟨S2x4096x8x64, .f32⟩
  | .hbm, ⟨1, _⟩ => ⟨S2x4096x2x64, .f32⟩
  | .hbm, ⟨2, _⟩ => ⟨S2x4096x2x64, .f32⟩
  | .hbm, ⟨3, _⟩ => ⟨S8, .f32⟩
  | .hbm, ⟨4, _⟩ => ⟨S2x4096x8x64, .f32⟩
  | .hbm, ⟨5, _⟩ => ⟨S2x4096x2x4x64, .f32⟩
  | .hbm, ⟨6, _⟩ => ⟨S2x4096x8x64, .f32⟩
  | .hbm, ⟨7, _⟩ => ⟨S2x4096x2x4x64, .f32⟩
  | .hbm, ⟨8, _⟩ => ⟨S2x4096x8x64, .f32⟩
  | .hbm, ⟨9, _⟩ => ⟨S4096, .i32⟩
  | .hbm, ⟨10, _⟩ => ⟨S4096x1, .i32⟩
  | .hbm, ⟨11, _⟩ => ⟨S4096, .i32⟩
  | .hbm, ⟨12, _⟩ => ⟨S1x4096, .i32⟩
  | .hbm, ⟨13, _⟩ => ⟨S4096x4096, .i32⟩
  | .hbm, ⟨14, _⟩ => ⟨S4096x4096, .i32⟩
  | .hbm, ⟨15, _⟩ => ⟨S4096x4096, .i32⟩
  | .hbm, ⟨16, _⟩ => ⟨S8, .f32⟩
  | .hbm, ⟨17, _⟩ => ⟨S_, .f32⟩
  | .hbm, ⟨18, _⟩ => ⟨S8, .f32⟩
  | .hbm, ⟨19, _⟩ => ⟨S8, .f32⟩
  | .hbm, ⟨20, _⟩ => ⟨S8, .f32⟩
  | .hbm, ⟨21, _⟩ => ⟨S_, .f32⟩
  | .hbm, ⟨22, _⟩ => ⟨S8, .f32⟩
  | .hbm, ⟨23, _⟩ => ⟨S8, .f32⟩
  | .hbm, ⟨24, _⟩ => ⟨S8, .f32⟩
  | .hbm, ⟨25, _⟩ => ⟨S2x8x4096x4096, .f32⟩
  | .hbm, ⟨26, _⟩ => ⟨S_, .f32⟩
  | .hbm, ⟨27, _⟩ => ⟨S2x8x4096x4096, .f32⟩
  | .hbm, ⟨28, _⟩ => ⟨S2x8x4096x4096, .f32⟩
  | .hbm, ⟨29, _⟩ => ⟨S8x1x1, .f32⟩
  | .hbm, ⟨30, _⟩ => ⟨S4096x4096, .f32⟩
  | .hbm, ⟨31, _⟩ => ⟨S1x4096x4096, .f32⟩
  | .hbm, ⟨32, _⟩ => ⟨S8x4096x4096, .f32⟩
  | .hbm, ⟨33, _⟩ => ⟨S8x4096x4096, .f32⟩
  | .hbm, ⟨34, _⟩ => ⟨S8x4096x4096, .f32⟩
  | .hbm, ⟨35, _⟩ => ⟨S1x8x4096x4096, .f32⟩
  | .hbm, ⟨36, _⟩ => ⟨S2x8x4096x4096, .f32⟩
  | .hbm, ⟨37, _⟩ => ⟨S2x8x4096x4096, .f32⟩
  | .hbm, ⟨38, _⟩ => ⟨S_, .i32⟩
  | .hbm, ⟨39, _⟩ => ⟨S4096x4096, .i32⟩
  | .hbm, ⟨40, _⟩ => ⟨S4096x4096, .i1⟩
  | .hbm, ⟨41, _⟩ => ⟨S_, .i32⟩
  | .hbm, ⟨42, _⟩ => ⟨S4096x4096, .i32⟩
  | .hbm, ⟨43, _⟩ => ⟨S4096x4096, .i1⟩
  | .hbm, ⟨44, _⟩ => ⟨S4096x4096, .i1⟩
  | .hbm, ⟨45, _⟩ => ⟨S_, .f32⟩
  | .hbm, ⟨46, _⟩ => ⟨S_, .f32⟩
  | .hbm, ⟨47, _⟩ => ⟨S2x8x4096x4096, .i1⟩
  | .hbm, ⟨48, _⟩ => ⟨S2x8x4096x4096, .f32⟩
  | .hbm, ⟨49, _⟩ => ⟨S2x8x4096x4096, .f32⟩
  | .hbm, ⟨50, _⟩ => ⟨S1x8x1x1, .f32⟩
  | .hbm, ⟨51, _⟩ => ⟨S_, .f32⟩
  | .hbm, ⟨52, _⟩ => ⟨S2x8x4096, .f32⟩
  | .hbm, ⟨53, _⟩ => ⟨S2x8x4096x1, .f32⟩
  | .hbm, ⟨54, _⟩ => ⟨S2x8x4096x1, .f32⟩
  | .hbm, ⟨55, _⟩ => ⟨S2x8x4096x1, .f32⟩
  | .hbm, ⟨56, _⟩ => ⟨S2x8x4096x4096, .f32⟩
  | .hbm, ⟨57, _⟩ => ⟨S2x8x4096x4096, .f32⟩
  | .hbm, ⟨58, _⟩ => ⟨S2x8x4096x4096, .f32⟩
  | .hbm, ⟨59, _⟩ => ⟨S_, .f32⟩
  | .hbm, ⟨60, _⟩ => ⟨S2x8x4096, .f32⟩
  | .hbm, ⟨61, _⟩ => ⟨S2x8x4096x1, .f32⟩
  | .hbm, ⟨62, _⟩ => ⟨S2x8x4096x1, .f32⟩
  | .hbm, ⟨63, _⟩ => ⟨S2x8x4096x1, .f32⟩
  | .hbm, ⟨64, _⟩ => ⟨S2x8x4096x1, .f32⟩
  | .hbm, ⟨65, _⟩ => ⟨S2x8x4096x1, .f32⟩
  | .hbm, ⟨66, _⟩ => ⟨S2x8x4096x4096, .f32⟩
  | .hbm, ⟨67, _⟩ => ⟨S2x8x4096x4096, .f32⟩
  | .hbm, ⟨68, _⟩ => ⟨S2x8x64x4096, .f32⟩
  | .hbm, ⟨69, _⟩ => ⟨S2x4096x8x64, .f32⟩
  | .hbm, ⟨70, _⟩ => ⟨S2x8x4096x1, .f32⟩
  | .hbm, ⟨71, _⟩ => ⟨S2x8x4096x1, .f32⟩
  | .hbm, ⟨72, _⟩ => ⟨S2x4x2x4096, .f32⟩
  | .hbm, ⟨73, _⟩ => ⟨S4x2x4096x2, .f32⟩
  | .hbm, ⟨74, _⟩ => ⟨S4x8192x2, .f32⟩
  | .hbm, ⟨75, _⟩ => ⟨S4x8192x2x64, .f32⟩
  | .hbm, ⟨76, _⟩ => ⟨S4x8192x128, .f32⟩
  | .hbm, ⟨77, _⟩ => ⟨S2x4096x8x64, .f32⟩
  | .hbm, ⟨78, _⟩ => ⟨S_, .f32⟩
  | .hbm, ⟨79, _⟩ => ⟨S2x4096x8, .f32⟩
  | .hbm, ⟨80, _⟩ => ⟨S8192x8, .f32⟩
  | .hbm, ⟨81, _⟩ => ⟨S_, .i32⟩
  | .hbm, ⟨82, _⟩ => ⟨S_, .f32⟩
  | .hbm, ⟨83, _⟩ => ⟨S8192x128, .f32⟩
  | .hbm, ⟨84, _⟩ => ⟨S_, .i32⟩
  | .hbm, ⟨85, _⟩ => ⟨S_, .f32⟩
  | .hbm, ⟨86, _⟩ => ⟨S128, .f32⟩
  | .hbm, ⟨87, _⟩ => ⟨S1x128, .f32⟩
  | .hbm, ⟨88, _⟩ => ⟨S8192x512, .f32⟩
  | .hbm, ⟨89, _⟩ => ⟨S8192x512, .bf16⟩
  | .hbm, ⟨90, _⟩ => ⟨S2x4096x2x2x64, .f32⟩
  | .hbm, ⟨91, _⟩ => ⟨S2x4096x4x64, .f32⟩
  | .hbm, ⟨92, _⟩ => ⟨S8192x256, .f32⟩
  | .hbm, ⟨93, _⟩ => ⟨S8192x256, .bf16⟩
  | .hbm, ⟨94, _⟩ => ⟨S2x4096x2x2x64, .f32⟩
  | .hbm, ⟨95, _⟩ => ⟨S2x4096x4x64, .f32⟩
  | .hbm, ⟨96, _⟩ => ⟨S8192x256, .f32⟩
  | .hbm, ⟨97, _⟩ => ⟨S8192x256, .bf16⟩
  | .hbm, ⟨98, _⟩ => ⟨S8192x512, .f32⟩
  | .hbm, ⟨99, _⟩ => ⟨S8192x512, .bf16⟩
  | .hbm, ⟨100, _⟩ => ⟨S8192x512, .f32⟩
  | .hbm, ⟨101, _⟩ => ⟨S8192x512, .f32⟩
  | .hbm, ⟨102, _⟩ => ⟨S8192x512, .f32⟩
  | .hbm, ⟨103, _⟩ => ⟨S2x4x8x128, .f32⟩
  | .hbm, ⟨104, _⟩ => ⟨S_, .f32⟩
  | .hbm, ⟨105, _⟩ => ⟨S4x8x128, .f32⟩
  | .hbm, ⟨106, _⟩ => ⟨S4x2x1, .f32⟩
  | .hbm, ⟨107, _⟩ => ⟨S4x2, .f32⟩
  | .hbm, ⟨108, _⟩ => ⟨S8, .f32⟩
  | .local _ .vmem, ⟨0, _⟩ => ⟨S4096x128, .bf16⟩
  | .local _ .vmem, ⟨1, _⟩ => ⟨S4096x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S4096x128, .bf16⟩
  | .local _ .vmem, ⟨7, _⟩ => ⟨S4096x128, .bf16⟩
  | .local _ .vmem, ⟨8, _⟩ => ⟨S1x128, .f32⟩
  | .local _ .vmem, ⟨9, _⟩ => ⟨S1x4096x128, .f32⟩
  | .local _ .vmem, ⟨10, _⟩ => ⟨S1x4096x128, .f32⟩
  | .local _ .vmem, ⟨11, _⟩ => ⟨S4096x128, .f32⟩
  | .local _ .vmem, ⟨12, _⟩ => ⟨S4096x128, .f32⟩
  | .local _ .vmem, ⟨13, _⟩ => ⟨S4096x128, .f32⟩
  | .local _ .vmem, ⟨14, _⟩ => ⟨S4096x128, .f32⟩
  | .local _ .vmem, ⟨15, _⟩ => ⟨S4096x128, .f32⟩
  | .local _ .vmem, ⟨16, _⟩ => ⟨S4096x128, .f32⟩
  | .local _ .vmem, ⟨17, _⟩ => ⟨S4096x128, .f32⟩
  | .local _ .vmem, ⟨18, _⟩ => ⟨S4096x128, .f32⟩
  | .local _ .vmem, ⟨19, _⟩ => ⟨S1x1x8x128, .f32⟩
  | .local _ .vmem, ⟨20, _⟩ => ⟨S1x1x8x128, .f32⟩
  | _, _ => ⟨S2x4096x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_c : Ref sig .tc := ⟨.hbm, 38, rfl⟩
abbrev main_v30 : Ref sig .tc := ⟨.hbm, 39, rfl⟩
abbrev main_v31 : Ref sig .tc := ⟨.hbm, 40, rfl⟩
abbrev main_c_2 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_3 : Ref sig .tc := ⟨.hbm, 45, rfl⟩
abbrev main_call0_v0 : Ref sig .tc := ⟨.hbm, 46, rfl⟩
abbrev main_call0_v1 : Ref sig .tc := ⟨.hbm, 47, rfl⟩
abbrev main_call0_v2 : Ref sig .tc := ⟨.hbm, 48, rfl⟩
abbrev main_v35 : Ref sig .tc := ⟨.hbm, 49, rfl⟩
abbrev main_v36 : Ref sig .tc := ⟨.hbm, 50, rfl⟩
abbrev main_cst_4 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_5 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_cst_6 : Ref sig .tc := ⟨.hbm, 78, rfl⟩
abbrev main_v62 : Ref sig .tc := ⟨.hbm, 79, rfl⟩
abbrev main_v63 : Ref sig .tc := ⟨.hbm, 80, rfl⟩
abbrev main_c_7 : Ref sig .tc := ⟨.hbm, 81, rfl⟩
abbrev main_call1_v0 : Ref sig .tc := ⟨.hbm, 82, rfl⟩
abbrev main_v64 : Ref sig .tc := ⟨.hbm, 83, rfl⟩
abbrev main_c_8 : Ref sig .tc := ⟨.hbm, 84, rfl⟩
abbrev main_call2_v0 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79_0 : Ref sig .tc := ⟨.hbm, 100, rfl⟩
abbrev main_v79_1 : Ref sig .tc := ⟨.hbm, 101, rfl⟩
abbrev main_v79_2 : Ref sig .tc := ⟨.hbm, 102, rfl⟩
abbrev main_v79_3 : Ref sig .tc := ⟨.hbm, 103, rfl⟩
abbrev main_cst_9 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨3, ![2, 4, 1], ![false, false, false]⟩

def k0_mult1 (i : grid0.Coords) : BitVec 32 :=
  let arg2 : BitVec 32 := BitVec.ofNat 32 (i 2).val
  let c4096_i32 : BitVec 32 := 4096#32
  let v6 : BitVec 32 := Scalar.muli arg2 c4096_i32
  v6
def k0_off1 (i : grid0.Coords) : Fin 2 → Nat :=
  let arg2 : BitVec 32 := BitVec.ofNat 32 (i 2).val
  let c4096_i32 : BitVec 32 := 4096#32
  let v6 : BitVec 32 := Scalar.muli arg2 c4096_i32
  let v7 : BitVec 32 := v6
  let v8 : Index := Scalar.indexCast v7
  let c0 : Index := 0#32
  ![v8.toNat, 0]
def k0_mult2 (i : grid0.Coords) : BitVec 32 :=
  let arg2 : BitVec 32 := BitVec.ofNat 32 (i 2).val
  let c4096_i32_1 : BitVec 32 := 4096#32
  let v12 : BitVec 32 := Scalar.muli arg2 c4096_i32_1
  let c128_i32 : BitVec 32 := 128#32
  let v13 : BitVec 32 := Scalar.subi v12 c128_i32
  let c0_i32_2 : BitVec 32 := 0#32
  let v14 : BitVec 32 := Scalar.maxsi v13 c0_i32_2
  v14
def k0_off2 (i : grid0.Coords) : Fin 2 → Nat :=
  let arg2 : BitVec 32 := BitVec.ofNat 32 (i 2).val
  let c4096_i32_1 : BitVec 32 := 4096#32
  let v12 : BitVec 32 := Scalar.muli arg2 c4096_i32_1
  let c128_i32 : BitVec 32 := 128#32
  let v13 : BitVec 32 := Scalar.subi v12 c128_i32
  let c0_i32_2 : BitVec 32 := 0#32
  let v14 : BitVec 32 := Scalar.maxsi v13 c0_i32_2
  let v15 : BitVec 32 := v14
  let v16 : Index := Scalar.indexCast v15
  let c0_3 : Index := 0#32
  ![v16.toNat, 0]
def k0_mult3 (i : grid0.Coords) : BitVec 32 :=
  let arg2 : BitVec 32 := BitVec.ofNat 32 (i 2).val
  let c4096_i32_4 : BitVec 32 := 4096#32
  let v23 : BitVec 32 := Scalar.muli arg2 c4096_i32_4
  v23
def k0_mult4 (i : grid0.Coords) : BitVec 32 :=
  let arg2 : BitVec 32 := BitVec.ofNat 32 (i 2).val
  let c4096_i32_6 : BitVec 32 := 4096#32
  let v29 : BitVec 32 := Scalar.muli arg2 c4096_i32_6
  let c128_i32_7 : BitVec 32 := 128#32
  let v30 : BitVec 32 := Scalar.subi v29 c128_i32_7
  let c0_i32_8 : BitVec 32 := 0#32
  let v31 : BitVec 32 := Scalar.maxsi v30 c0_i32_8
  v31
def k0_mult5 (i : grid0.Coords) : BitVec 32 :=
  let arg2 : BitVec 32 := BitVec.ofNat 32 (i 2).val
  let c4096_i32_16 : BitVec 32 := 4096#32
  let v68 : BitVec 32 := Scalar.muli arg2 c4096_i32_16
  v68
def k0_mult6 (i : grid0.Coords) : BitVec 32 :=
  let arg2 : BitVec 32 := BitVec.ofNat 32 (i 2).val
  let c4096_i32_470 : BitVec 32 := 4096#32
  let v1115 : BitVec 32 := Scalar.muli arg2 c4096_i32_470
  let c128_i32_471 : BitVec 32 := 128#32
  let v1116 : BitVec 32 := Scalar.subi v1115 c128_i32_471
  let c0_i32_472 : BitVec 32 := 0#32
  let v1117 : BitVec 32 := Scalar.maxsi v1116 c0_i32_472
  v1117
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.shrui arg1 c1_i32
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.shrui arg1 c1_i32
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  let c0_i32_0 : BitVec 32 := 0#32
  ![arg1.toNat, v1.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_10 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, true]

abbrev stage0_7 : Fin 2 → Memref sig .tc .vmem S4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S4096x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S4096x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S1x1x8x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]
-- ==== SwaReferenceIdeal.lean ====
abbrev S2x4096x8x64 : Shape := ⟨4, ![2, 4096, 8, 64]⟩
abbrev S2x4096x2x64 : Shape := ⟨4, ![2, 4096, 2, 64]⟩
abbrev S8 : Shape := ⟨1, ![8]⟩
abbrev S2x4096x2x4x64 : Shape := ⟨5, ![2, 4096, 2, 4, 64]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S_ : Shape := ⟨0, ![]⟩
abbrev S2x8x4096x4096 : Shape := ⟨4, ![2, 8, 4096, 4096]⟩
abbrev S8x1x1 : Shape := ⟨3, ![8, 1, 1]⟩
abbrev S1x4096x4096 : Shape := ⟨3, ![1, 4096, 4096]⟩
abbrev S8x4096x4096 : Shape := ⟨3, ![8, 4096, 4096]⟩
abbrev S1x8x4096x4096 : Shape := ⟨4, ![1, 8, 4096, 4096]⟩
abbrev S1x8x1x1 : Shape := ⟨4, ![1, 8, 1, 1]⟩
abbrev S2x8x4096 : Shape := ⟨3, ![2, 8, 4096]⟩
abbrev S2x8x4096x1 : Shape := ⟨4, ![2, 8, 4096, 1]⟩
abbrev S2x8x64x4096 : Shape := ⟨4, ![2, 8, 64, 4096]⟩
abbrev S8x1 : Shape := ⟨2, ![8, 1]⟩
abbrev S2x8x4096x64 : Shape := ⟨4, ![2, 8, 4096, 64]⟩
abbrev S8192x512 : Shape := ⟨2, ![8192, 512]⟩

abbrev nBuf : Space → Nat
  | .hbm => 146
  | .vmem => 0
  | .smem => 0
  | _ => 0

abbrev hbmTy0_0 (i : Nat) : BufTy := match i % 128 with
  | 0 => ⟨S2x4096x8x64, .f32⟩
  | 1 => ⟨S2x4096x2x64, .f32⟩
  | 2 => ⟨S2x4096x2x64, .f32⟩
  | 3 => ⟨S8, .f32⟩
  | 4 => ⟨S2x4096x8x64, .f32⟩
  | 5 => ⟨S2x4096x2x4x64, .f32⟩
  | 6 => ⟨S2x4096x8x64, .f32⟩
  | 7 => ⟨S2x4096x2x4x64, .f32⟩
  | 8 => ⟨S2x4096x8x64, .f32⟩
  | 9 => ⟨S4096, .i32⟩
  | 10 => ⟨S4096x1, .i32⟩
  | 11 => ⟨S4096, .i32⟩
  | 12 => ⟨S1x4096, .i32⟩
  | 13 => ⟨S4096x4096, .i32⟩
  | 14 => ⟨S4096x4096, .i32⟩
  | 15 => ⟨S4096x4096, .i32⟩
  | 16 => ⟨S8, .f32⟩
  | 17 => ⟨S_, .f32⟩
  | 18 => ⟨S8, .f32⟩
  | 19 => ⟨S8, .f32⟩
  | 20 => ⟨S8, .f32⟩
  | 21 => ⟨S_, .f32⟩
  | 22 => ⟨S8, .f32⟩
  | 23 => ⟨S8, .f32⟩
  | 24 => ⟨S8, .f32⟩
  | 25 => ⟨S2x8x4096x4096, .f32⟩
  | 26 => ⟨S_, .f32⟩
  | 27 => ⟨S2x8x4096x4096, .f32⟩
  | 28 => ⟨S2x8x4096x4096, .f32⟩
  | 29 => ⟨S8x1x1, .f32⟩
  | 30 => ⟨S4096x4096, .f32⟩
  | 31 => ⟨S1x4096x4096, .f32⟩
  | 32 => ⟨S8x4096x4096, .f32⟩
  | 33 => ⟨S8x4096x4096, .f32⟩
  | 34 => ⟨S8x4096x4096, .f32⟩
  | 35 => ⟨S1x8x4096x4096, .f32⟩
  | 36 => ⟨S2x8x4096x4096, .f32⟩
  | 37 => ⟨S2x8x4096x4096, .f32⟩
  | 38 => ⟨S_, .i32⟩
  | 39 => ⟨S4096x4096, .i32⟩
  | 40 => ⟨S4096x4096, .i1⟩
  | 41 => ⟨S_, .i32⟩
  | 42 => ⟨S4096x4096, .i32⟩
  | 43 => ⟨S4096x4096, .i1⟩
  | 44 => ⟨S4096x4096, .i1⟩
  | 45 => ⟨S_, .f32⟩
  | 46 => ⟨S_, .f32⟩
  | 47 => ⟨S2x8x4096x4096, .i1⟩
  | 48 => ⟨S2x8x4096x4096, .f32⟩
  | 49 => ⟨S2x8x4096x4096, .f32⟩
  | 50 => ⟨S_, .f32⟩
  | 51 => ⟨S2x8x4096x4096, .f32⟩
  | 52 => ⟨S1x8x1x1, .f32⟩
  | 53 => ⟨S_, .f32⟩
  | 54 => ⟨S2x8x4096, .f32⟩
  | 55 => ⟨S2x8x4096x1, .f32⟩
  | 56 => ⟨S2x8x4096x4096, .f32⟩
  | 57 => ⟨S2x8x4096x4096, .i1⟩
  | 58 => ⟨S2x8x4096x4096, .f32⟩
  | 59 => ⟨S_, .f32⟩
  | 60 => ⟨S2x8x4096, .f32⟩
  | 61 => ⟨S2x8x4096x1, .f32⟩
  | 62 => ⟨S2x8x4096x1, .f32⟩
  | 63 => ⟨S2x8x4096x1, .f32⟩
  | 64 => ⟨S2x8x4096x1, .f32⟩
  | 65 => ⟨S2x8x4096x1, .i1⟩
  | 66 => ⟨S2x8x4096x1, .f32⟩
  | 67 => ⟨S2x8x4096x1, .i1⟩
  | 68 => ⟨S_, .f32⟩
  | 69 => ⟨S2x8x4096x1, .f32⟩
  | 70 => ⟨S_, .f32⟩
  | 71 => ⟨S2x8x4096x1, .f32⟩
  | 72 => ⟨S_, .f32⟩
  | 73 => ⟨S2x8x4096x1, .f32⟩
  | 74 => ⟨S2x8x4096x1, .f32⟩
  | 75 => ⟨S2x8x4096x1, .f32⟩
  | 76 => ⟨S2x8x4096x1, .f32⟩
  | 77 => ⟨S2x8x4096x1, .i1⟩
  | 78 => ⟨S2x8x4096x1, .f32⟩
  | 79 => ⟨S2x8x4096x1, .i1⟩
  | 80 => ⟨S_, .f32⟩
  | 81 => ⟨S2x8x4096x1, .f32⟩
  | 82 => ⟨S_, .f32⟩
  | 83 => ⟨S2x8x4096x1, .f32⟩
  | 84 => ⟨S_, .f32⟩
  | 85 => ⟨S2x8x4096x1, .f32⟩
  | 86 => ⟨S2x8x4096x1, .f32⟩
  | 87 => ⟨S2x8x4096x1, .f32⟩
  | 88 => ⟨S2x8x4096x4096, .f32⟩
  | 89 => ⟨S2x8x4096x4096, .f32⟩
  | 90 => ⟨S2x8x4096x4096, .f32⟩
  | 91 => ⟨S_, .f32⟩
  | 92 => ⟨S2x8x4096, .f32⟩
  | 93 => ⟨S2x8x4096x1, .f32⟩
  | 94 => ⟨S2x8x4096x1, .f32⟩
  | 95 => ⟨S2x8x4096x1, .f32⟩
  | 96 => ⟨S2x8x4096x1, .f32⟩
  | 97 => ⟨S2x8x4096x1, .f32⟩
  | 98 => ⟨S2x8x4096x4096, .f32⟩
  | 99 => ⟨S2x8x4096x4096, .f32⟩
  | 100 => ⟨S2x8x4096x1, .f32⟩
  | 101 => ⟨S_, .f32⟩
  | 102 => ⟨S2x8x4096x1, .f32⟩
  | 103 => ⟨S2x8x4096x1, .f32⟩
  | 104 => ⟨S2x8x64x4096, .f32⟩
  | 105 => ⟨S2x4096x8x64, .f32⟩
  | 106 => ⟨S2x8x4096x1, .f32⟩
  | 107 => ⟨S2x8x4096x1, .f32⟩
  | 108 => ⟨S2x8x64x4096, .f32⟩
  | 109 => ⟨S2x8x4096x4096, .f32⟩
  | 110 => ⟨S2x8x64x4096, .f32⟩
  | 111 => ⟨S2x4096x8x64, .f32⟩
  | 112 => ⟨S2x8x4096x4096, .f32⟩
  | 113 => ⟨S2x8x4096x4096, .f32⟩
  | 114 => ⟨S2x8x4096x4096, .f32⟩
  | 115 => ⟨S_, .f32⟩
  | 116 => ⟨S2x8x4096, .f32⟩
  | 117 => ⟨S2x8x4096x1, .f32⟩
  | 118 => ⟨S2x8x4096x1, .f32⟩
  | 119 => ⟨S2x8x4096x4096, .f32⟩
  | 120 => ⟨S2x8x4096x4096, .f32⟩
  | 121 => ⟨S2x8x4096x1, .f32⟩
  | 122 => ⟨S_, .f32⟩
  | 123 => ⟨S8, .f32⟩
  | 124 => ⟨S8x1, .f32⟩
  | 125 => ⟨S1x8x1x1, .f32⟩
  | 126 => ⟨S_, .f32⟩
  | 127 => ⟨S2x8x4096, .f32⟩
  | _ => ⟨S2x4096x8x64, .f32⟩

abbrev hbmTy0_1 (i : Nat) : BufTy := match i % 128 with
  | 0 => ⟨S2x8x4096x4096, .f32⟩
  | 1 => ⟨S2x8x4096x4096, .f32⟩
  | 2 => ⟨S2x8x4096x4096, .f32⟩
  | 3 => ⟨S_, .f32⟩
  | 4 => ⟨S8, .f32⟩
  | 5 => ⟨S_, .f32⟩
  | 6 => ⟨S2x8x4096x4096, .f32⟩
  | 7 => ⟨S2x8x4096x4096, .f32⟩
  | 8 => ⟨S_, .f32⟩
  | 9 => ⟨S2x8x4096x4096, .f32⟩
  | 10 => ⟨S2x8x4096x4096, .f32⟩
  | 11 => ⟨S2x8x4096x64, .f32⟩
  | 12 => ⟨S2x4096x8x64, .f32⟩
  | 13 => ⟨S2x8x4096x64, .f32⟩
  | 14 => ⟨S2x4096x8x64, .f32⟩
  | 15 => ⟨S8192x512, .f32⟩
  | 16 => ⟨S8192x512, .f32⟩
  | 17 => ⟨S8192x512, .f32⟩
  | _ => ⟨S2x4096x8x64, .f32⟩

abbrev hbmTy (i : Nat) : BufTy := match i / 128 with
  | 0 => hbmTy0_0 i
  | 1 => hbmTy0_1 i
  | _ => ⟨S2x4096x8x64, .f32⟩

abbrev bufTy : (tb : Table) → Fin (tcTables nBuf tb) → BufTy
  | .hbm, ⟨i, _⟩ => hbmTy i
  | _, _ => ⟨S2x4096x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_c : Ref sig .tc := ⟨.hbm, 38, rfl⟩
abbrev main_v30 : Ref sig .tc := ⟨.hbm, 39, rfl⟩
abbrev main_v31 : Ref sig .tc := ⟨.hbm, 40, rfl⟩
abbrev main_c_2 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_3 : Ref sig .tc := ⟨.hbm, 45, rfl⟩
abbrev main_call0_v0 : Ref sig .tc := ⟨.hbm, 46, rfl⟩
abbrev main_v35_1 : Ref sig .tc := ⟨.hbm, 47, rfl⟩
abbrev main_call0_v2 : Ref sig .tc := ⟨.hbm, 48, rfl⟩
abbrev main_v35_0 : Ref sig .tc := ⟨.hbm, 49, rfl⟩
abbrev main_call0_cst : Ref sig .tc := ⟨.hbm, 50, rfl⟩
abbrev main_v35_2 : Ref sig .tc := ⟨.hbm, 51, rfl⟩
abbrev main_v36 : Ref sig .tc := ⟨.hbm, 52, rfl⟩
abbrev main_cst_4 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_5 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_6 : Ref sig .tc := ⟨.hbm, 68, rfl⟩
abbrev main_v50 : Ref sig .tc := ⟨.hbm, 69, rfl⟩
abbrev main_cst_7 : Ref sig .tc := ⟨.hbm, 70, rfl⟩
abbrev main_v51 : Ref sig .tc := ⟨.hbm, 71, rfl⟩
abbrev main_cst_8 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_9 : Ref sig .tc := ⟨.hbm, 80, rfl⟩
abbrev main_v59 : Ref sig .tc := ⟨.hbm, 81, rfl⟩
abbrev main_cst_10 : Ref sig .tc := ⟨.hbm, 82, rfl⟩
abbrev main_v60 : Ref sig .tc := ⟨.hbm, 83, rfl⟩
abbrev main_cst_11 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_cst_12 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_cst_13 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_cst_14 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_cst_15 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_cst_16 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_cst_17 : Ref sig .tc := ⟨.hbm, 131, rfl⟩
abbrev main_v102 : Ref sig .tc := ⟨.hbm, 132, rfl⟩
abbrev main_call1_cst : Ref sig .tc := ⟨.hbm, 133, rfl⟩
abbrev main_call1_v0 : Ref sig .tc := ⟨.hbm, 134, rfl⟩
abbrev main_v103 : Ref sig .tc := ⟨.hbm, 135, rfl⟩
abbrev main_cst_18 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩

abbrev nD : Nat := 1
abbrev τ : Topo := Topo.v7x

variable {F : FTy → Type} [FloatOps F]
-- ==== Ffw.lean ====
abbrev S2x4096x8x64 : Shape := ⟨4, ![2, 4096, 8, 64]⟩
abbrev S2x4096x8 : Shape := ⟨3, ![2, 4096, 8]⟩
abbrev S_ : Shape := ⟨0, ![]⟩
abbrev S2x4096x8x1 : Shape := ⟨4, ![2, 4096, 8, 1]⟩
abbrev S2x4096x8x3 : Shape := ⟨4, ![2, 4096, 8, 3]⟩
abbrev S2x4096x8x57 : Shape := ⟨4, ![2, 4096, 8, 57]⟩
abbrev S2x4096x8x128 : Shape := ⟨4, ![2, 4096, 8, 128]⟩
abbrev S8192x1024 : Shape := ⟨2, ![8192, 1024]⟩
abbrev S2x4096x8x54 : Shape := ⟨4, ![2, 4096, 8, 54]⟩
abbrev S2x4096x8x51 : Shape := ⟨4, ![2, 4096, 8, 51]⟩
abbrev S8192x512 : Shape := ⟨2, ![8192, 512]⟩
abbrev S1024x256 : Shape := ⟨2, ![1024, 256]⟩
abbrev S4096x256 : Shape := ⟨2, ![4096, 256]⟩
abbrev S1024x128 : Shape := ⟨2, ![1024, 128]⟩
abbrev S1024x1 : Shape := ⟨2, ![1024, 1]⟩
abbrev S1024x1024 : Shape := ⟨2, ![1024, 1024]⟩
abbrev S1024 : Shape := ⟨1, ![1024]⟩
abbrev S1x128 : Shape := ⟨2, ![1, 128]⟩
abbrev S8192x8x128 : Shape := ⟨3, ![8192, 8, 128]⟩
abbrev S8192x8x3 : Shape := ⟨3, ![8192, 8, 3]⟩
abbrev S8192x8 : Shape := ⟨2, ![8192, 8]⟩

abbrev nBuf : Space → Nat
  | .hbm => 73
  | .vmem => 10
  | .smem => 0
  | _ => 0

abbrev bufTy : (tb : Table) → Fin (tcTables nBuf tb) → BufTy
  | .hbm, ⟨0, _⟩ => ⟨S2x4096x8x64, .f32⟩
  | .hbm, ⟨1, _⟩ => ⟨S2x4096x8x64, .f32⟩
  | .hbm, ⟨2, _⟩ => ⟨S2x4096x8x64, .f32⟩
  | .hbm, ⟨3, _⟩ => ⟨S2x4096x8, .f32⟩
  | .hbm, ⟨4, _⟩ => ⟨S_, .f32⟩
  | .hbm, ⟨5, _⟩ => ⟨S2x4096x8x1, .f32⟩
  | .hbm, ⟨6, _⟩ => ⟨S_, .f32⟩
  | .hbm, ⟨7, _⟩ => ⟨S2x4096x8x3, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S2x4096x8, .f32⟩
  | .hbm, ⟨13, _⟩ => ⟨S2x4096x8, .f32⟩
  | .hbm, ⟨14, _⟩ => ⟨S2x4096x8, .f32⟩
  | .hbm, ⟨15, _⟩ => ⟨S2x4096x8, .bf16⟩
  | .hbm, ⟨16, _⟩ => ⟨S2x4096x8, .f32⟩
  | .hbm, ⟨17, _⟩ => ⟨S2x4096x8, .f32⟩
  | .hbm, ⟨18, _⟩ => ⟨S2x4096x8, .bf16⟩
  | .hbm, ⟨19, _⟩ => ⟨S2x4096x8, .f32⟩
  | .hbm, ⟨20, _⟩ => ⟨S2x4096x8, .f32⟩
  | .hbm, ⟨21, _⟩ => ⟨S2x4096x8, .f32⟩
  | .hbm, ⟨22, _⟩ => ⟨S2x4096x8, .bf16⟩
  | .hbm, ⟨23, _⟩ => ⟨S2x4096x8, .f32⟩
  | .hbm, ⟨24, _⟩ => ⟨S2x4096x8x1, .f32⟩
  | .hbm, ⟨25, _⟩ => ⟨S2x4096x8x1, .f32⟩
  | .hbm, ⟨26, _⟩ => ⟨S2x4096x8x1, .f32⟩
  | .hbm, ⟨27, _⟩ => ⟨S2x4096x8x3, .f32⟩
  | .hbm, ⟨28, _⟩ => ⟨S_, .f32⟩
  | .hbm, ⟨29, _⟩ => ⟨S_, .f32⟩
  | .hbm, ⟨30, _⟩ => ⟨S2x4096x8x64, .f32⟩
  | .hbm, ⟨31, _⟩ => ⟨S2x4096x8x64, .f32⟩
  | .hbm, ⟨32, _⟩ => ⟨S_, .f32⟩
  | .hbm, ⟨33, _⟩ => ⟨S2x4096x8x1, .f32⟩
  | .hbm, ⟨34, _⟩ => ⟨S2x4096x8x1, .f32⟩
  | .hbm, ⟨35, _⟩ => ⟨S_, .f32⟩
  | .hbm, ⟨36, _⟩ => ⟨S2x4096x8x57, .f32⟩
  | .hbm, ⟨37, _⟩ => ⟨S2x4096x8x128, .f32⟩
  | .hbm, ⟨38, _⟩ => ⟨S8192x1024, .f32⟩
  | .hbm, ⟨39, _⟩ => ⟨S8192x1024, .bf16⟩
  | .hbm, ⟨40, _⟩ => ⟨S_, .f32⟩
  | .hbm, ⟨41, _⟩ => ⟨S2x4096x8x1, .f32⟩
  | .hbm, ⟨42, _⟩ => ⟨S2x4096x8x1, .f32⟩
  | .hbm, ⟨43, _⟩ => ⟨S2x4096x8x3, .f32⟩
  | .hbm, ⟨44, _⟩ => ⟨S_, .f32⟩
  | .hbm, ⟨45, _⟩ => ⟨S2x4096x8x54, .f32⟩
  | .hbm, ⟨46, _⟩ => ⟨S2x4096x8x128, .f32⟩
  | .hbm, ⟨47, _⟩ => ⟨S8192x1024, .f32⟩
  | .hbm, ⟨48, _⟩ => ⟨S8192x1024, .bf16⟩
  | .hbm, ⟨49, _⟩ => ⟨S_, .f32⟩
  | .hbm, ⟨50, _⟩ => ⟨S2x4096x8x3, .f32⟩
  | .hbm, ⟨51, _⟩ => ⟨S2x4096x8x3, .f32⟩
  | .hbm, ⟨52, _⟩ => ⟨S_, .f32⟩
  | .hbm, ⟨53, _⟩ => ⟨S2x4096x8x3, .f32⟩
  | .hbm, ⟨54, _⟩ => ⟨S2x4096x8x3, .f32⟩
  | .hbm, ⟨55, _⟩ => ⟨S_, .f32⟩
  | .hbm, ⟨56, _⟩ => ⟨S2x4096x8x3, .f32⟩
  | .hbm, ⟨57, _⟩ => ⟨S2x4096x8x3, .f32⟩
  | .hbm, ⟨58, _⟩ => ⟨S_, .f32⟩
  | .hbm, ⟨59, _⟩ => ⟨S2x4096x8x51, .f32⟩
  | .hbm, ⟨60, _⟩ => ⟨S2x4096x8x128, .f32⟩
  | .hbm, ⟨61, _⟩ => ⟨S8192x1024, .f32⟩
  | .hbm, ⟨62, _⟩ => ⟨S8192x1024, .bf16⟩
  | .hbm, ⟨63, _⟩ => ⟨S8192x512, .bf16⟩
  | .hbm, ⟨64, _⟩ => ⟨S8192x1024, .bf16⟩
  | .hbm, ⟨65, _⟩ => ⟨S_, .f32⟩
  | .hbm, ⟨66, _⟩ => ⟨S8192x8x128, .bf16⟩
  | .hbm, ⟨67, _⟩ => ⟨S8192x8x3, .bf16⟩
  | .hbm, ⟨68, _⟩ => ⟨S8192x8x3, .f32⟩
  | .hbm, ⟨69, _⟩ => ⟨S_, .f32⟩
  | .hbm, ⟨70, _⟩ => ⟨S8192x8, .f32⟩
  | .hbm, ⟨71, _⟩ => ⟨S8192x8, .f32⟩
  | .hbm, ⟨72, _⟩ => ⟨S8192x8, .f32⟩
  | .local _ .vmem, ⟨0, _⟩ => ⟨S1024x256, .bf16⟩
  | .local _ .vmem, ⟨1, _⟩ => ⟨S1024x256, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S1024x128, .bf16⟩
  | .local _ .vmem, ⟨7, _⟩ => ⟨S1024x128, .bf16⟩
  | .local _ .vmem, ⟨8, _⟩ => ⟨S1024x256, .bf16⟩
  | .local _ .vmem, ⟨9, _⟩ => ⟨S1024x256, .bf16⟩
  | _, _ => ⟨S2x4096x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_cst_1 : Ref sig .tc := ⟨.hbm, 8, rfl⟩
abbrev main_v2 : Ref sig .tc := ⟨.hbm, 9, rfl⟩
abbrev main_call0_call0_cst : Ref sig .tc := ⟨.hbm, 10, rfl⟩
abbrev main_call0_call0_v0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_6 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_cst_8 : Ref sig .tc := ⟨.hbm, 52, rfl⟩
abbrev main_v37 : Ref sig .tc := ⟨.hbm, 53, rfl⟩
abbrev main_v38 : Ref sig .tc := ⟨.hbm, 54, rfl⟩
abbrev main_cst_9 : Ref sig .tc := ⟨.hbm, 55, rfl⟩
abbrev main_v39 : Ref sig .tc := ⟨.hbm, 56, rfl⟩
abbrev main_v40 : Ref sig .tc := ⟨.hbm, 57, rfl⟩
abbrev main_cst_10 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45_0 : Ref sig .tc := ⟨.hbm, 63, rfl⟩
abbrev main_v45_1 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_11 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 4, 4], ![false, false, false]⟩

@[reducible] def k0_t1_loop (i : grid0.Coords) : Scf.Loop 32 :=
  let c0_i32 : BitVec 32 := 0#32
  let arg2 : BitVec 32 := BitVec.ofNat 32 (i 2).val
  let v8 : BitVec 32 := Scalar.subi arg2 c0_i32
  let c1_i32 : BitVec 32 := 1#32
  let v10 : BitVec 32 := Scalar.divsi v8 c1_i32
  let v11 : BitVec 32 := Scalar.muli v10 c1_i32
  let v12 : BitVec 32 := Scalar.addi c0_i32 v11
  let c1_i32_5 : BitVec 32 := 1#32
  ⟨c0_i32, v12, c1_i32_5⟩
def k0_mult1 (i : grid0.Coords) (k0_t1 : Fin (k0_t1_loop i).trips) : BitVec 32 :=
  let c0_i32 : BitVec 32 := 0#32
  let c1_i32_5 : BitVec 32 := 1#32
  let arg8 : BitVec 32 := Scf.iv c0_i32 c1_i32_5 k0_t1
  let c1024_i32_35 : BitVec 32 := 1024#32
  let v154 : BitVec 32 := Scalar.muli arg8 c1024_i32_35
  v154
def k0_off1 (i : grid0.Coords) (k0_t1 : Fin (k0_t1_loop i).trips) : Fin 2 → Nat :=
  let c0_i32 : BitVec 32 := 0#32
  let c1_i32_5 : BitVec 32 := 1#32
  let arg8 : BitVec 32 := Scf.iv c0_i32 c1_i32_5 k0_t1
  let c1024_i32_35 : BitVec 32 := 1024#32
  let v154 : BitVec 32 := Scalar.muli arg8 c1024_i32_35
  let v155 : BitVec 32 := v154
  let v156 : Index := Scalar.indexCast v155
  let c0_36 : Index := 0#32
  ![v156.toNat, 0]
def k0_off2 (i : grid0.Coords) (k0_t1 : Fin (k0_t1_loop i).trips) : Fin 2 → Nat :=
  let c0_i32 : BitVec 32 := 0#32
  let c1_i32_5 : BitVec 32 := 1#32
  let arg8 : BitVec 32 := Scf.iv c0_i32 c1_i32_5 k0_t1
  let c1024_i32_35 : BitVec 32 := 1024#32
  let v154 : BitVec 32 := Scalar.muli arg8 c1024_i32_35
  let v155 : BitVec 32 := v154
  let v176 : Index := Scalar.indexCast v155
  let c128_41 : Index := 128#32
  ![v176.toNat, 128]
@[reducible] def k0_t2_loop (i : grid0.Coords) : Scf.Loop 32 :=
  let c0_i32 : BitVec 32 := 0#32
  let arg2 : BitVec 32 := BitVec.ofNat 32 (i 2).val
  let v8 : BitVec 32 := Scalar.subi arg2 c0_i32
  let c1_i32 : BitVec 32 := 1#32
  let v10 : BitVec 32 := Scalar.divsi v8 c1_i32
  let v11 : BitVec 32 := Scalar.muli v10 c1_i32
  let v12 : BitVec 32 := Scalar.addi c0_i32 v11
  let v9 : BitVec 32 := Scalar.addi c0_i32 v8
  let c1_i32_6 : BitVec 32 := 1#32
  ⟨v12, v9, c1_i32_6⟩
def k0_mult2 (i : grid0.Coords) (k0_t2 : Fin (k0_t2_loop i).trips) : BitVec 32 :=
  let c0_i32 : BitVec 32 := 0#32
  let arg2 : BitVec 32 := BitVec.ofNat 32 (i 2).val
  let v8 : BitVec 32 := Scalar.subi arg2 c0_i32
  let c1_i32 : BitVec 32 := 1#32
  let v10 : BitVec 32 := Scalar.divsi v8 c1_i32
  let v11 : BitVec 32 := Scalar.muli v10 c1_i32
  let v12 : BitVec 32 := Scalar.addi c0_i32 v11
  let c1_i32_6 : BitVec 32 := 1#32
  let arg8 : BitVec 32 := Scf.iv v12 c1_i32_6 k0_t2
  let c1024_i32_35 : BitVec 32 := 1024#32
  let v154 : BitVec 32 := Scalar.muli arg8 c1024_i32_35
  v154
def k0_off3 (i : grid0.Coords) (k0_t2 : Fin (k0_t2_loop i).trips) : Fin 2 → Nat :=
  let c0_i32 : BitVec 32 := 0#32
  let arg2 : BitVec 32 := BitVec.ofNat 32 (i 2).val
  let v8 : BitVec 32 := Scalar.subi arg2 c0_i32
  let c1_i32 : BitVec 32 := 1#32
  let v10 : BitVec 32 := Scalar.divsi v8 c1_i32
  let v11 : BitVec 32 := Scalar.muli v10 c1_i32
  let v12 : BitVec 32 := Scalar.addi c0_i32 v11
  let c1_i32_6 : BitVec 32 := 1#32
  let arg8 : BitVec 32 := Scf.iv v12 c1_i32_6 k0_t2
  let c1024_i32_35 : BitVec 32 := 1024#32
  let v154 : BitVec 32 := Scalar.muli arg8 c1024_i32_35
  let v155 : BitVec 32 := v154
  let v156 : Index := Scalar.indexCast v155
  let c0_36 : Index := 0#32
  ![v156.toNat, 0]
def k0_off4 (i : grid0.Coords) (k0_t2 : Fin (k0_t2_loop i).trips) : Fin 2 → Nat :=
  let c0_i32 : BitVec 32 := 0#32
  let arg2 : BitVec 32 := BitVec.ofNat 32 (i 2).val
  let v8 : BitVec 32 := Scalar.subi arg2 c0_i32
  let c1_i32 : BitVec 32 := 1#32
  let v10 : BitVec 32 := Scalar.divsi v8 c1_i32
  let v11 : BitVec 32 := Scalar.muli v10 c1_i32
  let v12 : BitVec 32 := Scalar.addi c0_i32 v11
  let c1_i32_6 : BitVec 32 := 1#32
  let arg8 : BitVec 32 := Scf.iv v12 c1_i32_6 k0_t2
  let c1024_i32_35 : BitVec 32 := 1024#32
  let v154 : BitVec 32 := Scalar.muli arg8 c1024_i32_35
  let v155 : BitVec 32 := v154
  let v176 : Index := Scalar.indexCast v155
  let c128_41 : Index := 128#32
  ![v176.toNat, 128]
def k0_mult3 (i : grid0.Coords) : BitVec 32 :=
  let arg2 : BitVec 32 := BitVec.ofNat 32 (i 2).val
  let c1024_i32 : BitVec 32 := 1024#32
  let v15 : BitVec 32 := Scalar.muli arg2 c1024_i32
  v15
def k0_off5 (i : grid0.Coords) : Fin 2 → Nat :=
  let arg2 : BitVec 32 := BitVec.ofNat 32 (i 2).val
  let c1024_i32 : BitVec 32 := 1024#32
  let v15 : BitVec 32 := Scalar.muli arg2 c1024_i32
  let v16 : BitVec 32 := v15
  let v17 : Index := Scalar.indexCast v16
  let c0_7 : Index := 0#32
  ![v17.toNat, 0]
def k0_off6 (i : grid0.Coords) : Fin 2 → Nat :=
  let arg2 : BitVec 32 := BitVec.ofNat 32 (i 2).val
  let c1024_i32 : BitVec 32 := 1024#32
  let v15 : BitVec 32 := Scalar.muli arg2 c1024_i32
  let v16 : BitVec 32 := v15
  let v42 : Index := Scalar.indexCast v16
  let c128_13 : Index := 128#32
  ![v42.toNat, 128]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== FfwIdeal.lean ====
variable {F : FTy → Type} [FloatOps F] [Named F]
def κ : String → Option EReal := fun
  | "log2e" => some (((Real.log 2)⁻¹ : ℝ) : EReal)
  | _ => none
-- ==== FfwReferenceIdeal.lean ====
abbrev S2x4096x8x64 : Shape := ⟨4, ![2, 4096, 8, 64]⟩
abbrev S2x4096x8 : Shape := ⟨3, ![2, 4096, 8]⟩
abbrev S_ : Shape := ⟨0, ![]⟩
abbrev S2x8x4096x4096 : Shape := ⟨4, ![2, 8, 4096, 4096]⟩
abbrev S2x8x4096 : Shape := ⟨3, ![2, 8, 4096]⟩
abbrev S2x8x4096x1 : Shape := ⟨4, ![2, 8, 4096, 1]⟩
abbrev S2x8x1x4096 : Shape := ⟨4, ![2, 8, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x1x4096x4096 : Shape := ⟨4, ![1, 1, 4096, 4096]⟩
abbrev S2x8x64x4096 : Shape := ⟨4, ![2, 8, 64, 4096]⟩
abbrev S8192x512 : Shape := ⟨2, ![8192, 512]⟩
abbrev S8192x8 : Shape := ⟨2, ![8192, 8]⟩

abbrev nBuf : Space → Nat
  | .hbm => 50
  | .vmem => 0
  | .smem => 0
  | _ => 0

abbrev bufTy : (tb : Table) → Fin (tcTables nBuf tb) → BufTy
  | .hbm, ⟨0, _⟩ => ⟨S2x4096x8x64, .f32⟩
  | .hbm, ⟨1, _⟩ => ⟨S2x4096x8x64, .f32⟩
  | .hbm, ⟨2, _⟩ => ⟨S2x4096x8x64, .f32⟩
  | .hbm, ⟨3, _⟩ => ⟨S2x4096x8, .f32⟩
  | .hbm, ⟨4, _⟩ => ⟨S_, .f32⟩
  | .hbm, ⟨5, _⟩ => ⟨S_, .f32⟩
  | .hbm, ⟨6, _⟩ => ⟨S2x4096x8, .f32⟩
  | .hbm, ⟨7, _⟩ => ⟨S2x8x4096x4096, .f32⟩
  | .hbm, ⟨8, _⟩ => ⟨S_, .f32⟩
  | .hbm, ⟨9, _⟩ => ⟨S2x8x4096x4096, .f32⟩
  | .hbm, ⟨10, _⟩ => ⟨S2x8x4096x4096, .f32⟩
  | .hbm, ⟨11, _⟩ => ⟨S2x8x4096, .f32⟩
  | .hbm, ⟨12, _⟩ => ⟨S2x8x4096x1, .f32⟩
  | .hbm, ⟨13, _⟩ => ⟨S2x8x1x4096, .f32⟩
  | .hbm, ⟨14, _⟩ => ⟨S2x8x4096x4096, .f32⟩
  | .hbm, ⟨15, _⟩ => ⟨S2x8x4096x4096, .f32⟩
  | .hbm, ⟨16, _⟩ => ⟨S2x8x4096x4096, .f32⟩
  | .hbm, ⟨17, _⟩ => ⟨S4096, .i32⟩
  | .hbm, ⟨18, _⟩ => ⟨S1x4096, .i32⟩
  | .hbm, ⟨19, _⟩ => ⟨S4096x1, .i32⟩
  | .hbm, ⟨20, _⟩ => ⟨S4096x4096, .i32⟩
  | .hbm, ⟨21, _⟩ => ⟨S4096x4096, .i32⟩
  | .hbm, ⟨22, _⟩ => ⟨S4096x4096, .i1⟩
  | .hbm, ⟨23, _⟩ => ⟨S1x1x4096x4096, .i1⟩
  | .hbm, ⟨24, _⟩ => ⟨S2x8x4096x4096, .f32⟩
  | .hbm, ⟨25, _⟩ => ⟨S_, .f32⟩
  | .hbm, ⟨26, _⟩ => ⟨S_, .f32⟩
  | .hbm, ⟨27, _⟩ => ⟨S2x8x4096x4096, .i1⟩
  | .hbm, ⟨28, _⟩ => ⟨S2x8x4096x4096, .f32⟩
  | .hbm, ⟨29, _⟩ => ⟨S2x8x4096x4096, .f32⟩
  | .hbm, ⟨30, _⟩ => ⟨S_, .f32⟩
  | .hbm, ⟨31, _⟩ => ⟨S2x8x4096, .f32⟩
  | .hbm, ⟨32, _⟩ => ⟨S2x8x4096x1, .f32⟩
  | .hbm, ⟨33, _⟩ => ⟨S2x8x4096x4096, .f32⟩
  | .hbm, ⟨34, _⟩ => ⟨S2x8x4096x4096, .f32⟩
  | .hbm, ⟨35, _⟩ => ⟨S2x8x4096x4096, .f32⟩
  | .hbm, ⟨36, _⟩ => ⟨S_, .f32⟩
  | .hbm, ⟨37, _⟩ => ⟨S2x8x4096, .f32⟩
  | .hbm, ⟨38, _⟩ => ⟨S2x8x4096x1, .f32⟩
  | .hbm, ⟨39, _⟩ => ⟨S2x8x4096x1, .f32⟩
  | .hbm, ⟨40, _⟩ => ⟨S2x8x4096x1, .f32⟩
  | .hbm, ⟨41, _⟩ => ⟨S2x8x4096, .f32⟩
  | .hbm, ⟨42, _⟩ => ⟨S2x4096x8, .f32⟩
  | .hbm, ⟨43, _⟩ => ⟨S2x8x4096x4096, .f32⟩
  | .hbm, ⟨44, _⟩ => ⟨S2x8x4096x4096, .f32⟩
  | .hbm, ⟨45, _⟩ => ⟨S2x8x64x4096, .f32⟩
  | .hbm, ⟨46, _⟩ => ⟨S2x4096x8x64, .f32⟩
  | .hbm, ⟨47, _⟩ => ⟨S2x4096x8x64, .bf16⟩
  | .hbm, ⟨48, _⟩ => ⟨S8192x512, .bf16⟩
  | .hbm, ⟨49, _⟩ => ⟨S8192x8, .f32⟩
  | _, _ => ⟨S2x4096x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_call0_cst : Ref sig .tc := ⟨.hbm, 4, rfl⟩
abbrev main_call0_call0_v0 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_0 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v18 : Ref sig .tc := ⟨.hbm, 29, rfl⟩
abbrev main_cst_1 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_2 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== Xn.lean ====
abbrev S2x4096x1024 : Shape := ⟨3, ![2, 4096, 1024]⟩
abbrev S1024 : Shape := ⟨1, ![1024]⟩
abbrev S8192x1024 : Shape := ⟨2, ![8192, 1024]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 5
  | .vmem => 5
  | .smem => 0
  | _ => 0

abbrev bufTy : (tb : Table) → Fin (tcTables nBuf tb) → BufTy
  | .hbm, ⟨0, _⟩ => ⟨S2x4096x1024, .f32⟩
  | .hbm, ⟨1, _⟩ => ⟨S1024, .f32⟩
  | .hbm, ⟨2, _⟩ => ⟨S8192x1024, .f32⟩
  | .hbm, ⟨3, _⟩ => ⟨S1x1024, .f32⟩
  | .hbm, ⟨4, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== XnReferenceIdeal.lean ====
abbrev S2x4096x1024 : Shape := ⟨3, ![2, 4096, 1024]⟩
abbrev S1024 : Shape := ⟨1, ![1024]⟩
abbrev S_ : Shape := ⟨0, ![]⟩
abbrev S2x4096 : Shape := ⟨2, ![2, 4096]⟩
abbrev S2x4096x1 : Shape := ⟨3, ![2, 4096, 1]⟩
abbrev S1x1x1024 : Shape := ⟨3, ![1, 1, 1024]⟩
abbrev S8192x1024 : Shape := ⟨2, ![8192, 1024]⟩

abbrev nBuf : Space → Nat
  | .hbm => 20
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S1024, .f32⟩
  | .hbm, ⟨2, _⟩ => ⟨S2x4096x1024, .f32⟩
  | .hbm, ⟨3, _⟩ => ⟨S_, .f32⟩
  | .hbm, ⟨4, _⟩ => ⟨S2x4096, .f32⟩
  | .hbm, ⟨5, _⟩ => ⟨S2x4096x1, .f32⟩
  | .hbm, ⟨6, _⟩ => ⟨S_, .f32⟩
  | .hbm, ⟨7, _⟩ => ⟨S2x4096x1, .f32⟩
  | .hbm, ⟨8, _⟩ => ⟨S2x4096x1, .f32⟩
  | .hbm, ⟨9, _⟩ => ⟨S_, .f32⟩
  | .hbm, ⟨10, _⟩ => ⟨S2x4096x1, .f32⟩
  | .hbm, ⟨11, _⟩ => ⟨S2x4096x1, .f32⟩
  | .hbm, ⟨12, _⟩ => ⟨S2x4096x1, .f32⟩
  | .hbm, ⟨13, _⟩ => ⟨S2x4096x1024, .f32⟩
  | .hbm, ⟨14, _⟩ => ⟨S2x4096x1024, .f32⟩
  | .hbm, ⟨15, _⟩ => ⟨S1x1x1024, .f32⟩
  | .hbm, ⟨16, _⟩ => ⟨S2x4096x1024, .f32⟩
  | .hbm, ⟨17, _⟩ => ⟨S2x4096x1024, .f32⟩
  | .hbm, ⟨18, _⟩ => ⟨S2x4096x1024, .bf16⟩
  | .hbm, ⟨19, _⟩ => ⟨S8192x1024, .bf16⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Mf.lean ====
abbrev S2x4096x1024 : Shape := ⟨3, ![2, 4096, 1024]⟩
abbrev S2x4096x512 : Shape := ⟨3, ![2, 4096, 512]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S8192x1024 : Shape := ⟨2, ![8192, 1024]⟩
abbrev S8192x512 : Shape := ⟨2, ![8192, 512]⟩
abbrev S1x1024 : Shape := ⟨2, ![1, 1024]⟩
abbrev S1024x8x512 : Shape := ⟨3, ![1024, 8, 512]⟩
abbrev S8x1024x512 : Shape := ⟨3, ![8, 1024, 512]⟩
abbrev S8192x4096 : Shape := ⟨2, ![8192, 4096]⟩
abbrev S8x128 : Shape := ⟨2, ![8, 128]⟩
abbrev S512x1024 : Shape := ⟨2, ![512, 1024]⟩
abbrev S512x512 : Shape := ⟨2, ![512, 512]⟩
abbrev S512x4096 : Shape := ⟨2, ![512, 4096]⟩
abbrev S512 : Shape := ⟨1, ![512]⟩
abbrev S512x1 : Shape := ⟨2, ![512, 1]⟩
abbrev S1x1024x512 : Shape := ⟨3, ![1, 1024, 512]⟩
abbrev S1024x512 : Shape := ⟨2, ![1024, 512]⟩
abbrev S1 : Shape := ⟨1, ![1]⟩
abbrev S1x1 : Shape := ⟨2, ![1, 1]⟩

abbrev nBuf : Space → Nat
  | .hbm => 26
  | .vmem => 23
  | .smem => 0
  | _ => 0

abbrev bufTy : (tb : Table) → Fin (tcTables nBuf tb) → BufTy
  | .hbm, ⟨0, _⟩ => ⟨S2x4096x1024, .f32⟩
  | .hbm, ⟨1, _⟩ => ⟨S2x4096x512, .f32⟩
  | .hbm, ⟨2, _⟩ => ⟨S2x4096x512, .f32⟩
  | .hbm, ⟨3, _⟩ => ⟨S1024x1024, .f32⟩
  | .hbm, ⟨4, _⟩ => ⟨S1024, .f32⟩
  | .hbm, ⟨5, _⟩ => ⟨S1024x4096, .f32⟩
  | .hbm, ⟨6, _⟩ => ⟨S4096x1024, .f32⟩
  | .hbm, ⟨7, _⟩ => ⟨S2x4096x1024, .f32⟩
  | .hbm, ⟨8, _⟩ => ⟨S8192x1024, .f32⟩
  | .hbm, ⟨9, _⟩ => ⟨S8192x512, .f32⟩
  | .hbm, ⟨10, _⟩ => ⟨S8192x512, .bf16⟩
  | .hbm, ⟨11, _⟩ => ⟨S8192x512, .f32⟩
  | .hbm, ⟨12, _⟩ => ⟨S8192x512, .bf16⟩
  | .hbm, ⟨13, _⟩ => ⟨S8192x1024, .f32⟩
  | .hbm, ⟨14, _⟩ => ⟨S1024x1024, .bf16⟩
  | .hbm, ⟨15, _⟩ => ⟨S1x1024, .f32⟩
  | .hbm, ⟨16, _⟩ => ⟨S1024x8x512, .f32⟩
  | .hbm, ⟨17, _⟩ => ⟨S8x1024x512, .f32⟩
  | .hbm, ⟨18, _⟩ => ⟨S8x1024x512, .bf16⟩
  | .hbm, ⟨19, _⟩ => ⟨S4096x1024, .bf16⟩
  | .hbm, ⟨20, _⟩ => ⟨S8192x1024, .f32⟩
  | .hbm, ⟨21, _⟩ => ⟨S8192x1024, .bf16⟩
  | .hbm, ⟨22, _⟩ => ⟨S8192x4096, .bf16⟩
  | .hbm, ⟨23, _⟩ => ⟨S8192x1024, .f32⟩
  | .hbm, ⟨24, _⟩ => ⟨S8192x1024, .bf16⟩
  | .hbm, ⟨25, _⟩ => ⟨S8x128, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .f32⟩
  | .local _ .vmem, ⟨7, _⟩ => ⟨S512x1024, .f32⟩
  | .local _ .vmem, ⟨8, _⟩ => ⟨S1024x1024, .bf16⟩
  | .local _ .vmem, ⟨9, _⟩ => ⟨S1x1024, .f32⟩
  | .local _ .vmem, ⟨10, _⟩ => ⟨S8x1024x512, .bf16⟩
  | .local _ .vmem, ⟨11, _⟩ => ⟨S4096x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S512x4096, .bf16⟩
  | .local _ .vmem, ⟨17, _⟩ => ⟨S512x4096, .bf16⟩
  | .local _ .vmem, ⟨18, _⟩ => ⟨S512x1024, .f32⟩
  | .local _ .vmem, ⟨19, _⟩ => ⟨S512x1024, .f32⟩
  | .local _ .vmem, ⟨20, _⟩ => ⟨S512x1024, .bf16⟩
  | .local _ .vmem, ⟨21, _⟩ => ⟨S512x1024, .bf16⟩
  | .local _ .vmem, ⟨22, _⟩ => ⟨S8x128, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12_0 : Ref sig .tc := ⟨.hbm, 20, rfl⟩
abbrev main_v12_1 : Ref sig .tc := ⟨.hbm, 21, rfl⟩
abbrev main_v12_2 : Ref sig .tc := ⟨.hbm, 22, rfl⟩
abbrev main_v12_3 : Ref sig .tc := ⟨.hbm, 23, rfl⟩
abbrev main_v12_4 : Ref sig .tc := ⟨.hbm, 24, rfl⟩
abbrev main_v12_5 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4096x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x4096 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S8x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== MfReferenceIdeal.lean ====
abbrev S2x4096x1024 : Shape := ⟨3, ![2, 4096, 1024]⟩
abbrev S2x4096x512 : Shape := ⟨3, ![2, 4096, 512]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S2x4096 : Shape := ⟨2, ![2, 4096]⟩
abbrev S2x4096x1 : Shape := ⟨3, ![2, 4096, 1]⟩
abbrev S1x1x1024 : Shape := ⟨3, ![1, 1, 1024]⟩
abbrev S2x4096x4096 : Shape := ⟨3, ![2, 4096, 4096]⟩
abbrev S8192x1024 : Shape := ⟨2, ![8192, 1024]⟩
abbrev S8192x4096 : Shape := ⟨2, ![8192, 4096]⟩
abbrev S8x128 : Shape := ⟨2, ![8, 128]⟩

abbrev nBuf : Space → Nat
  | .hbm => 81
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S2x4096x512, .f32⟩
  | .hbm, ⟨2, _⟩ => ⟨S2x4096x512, .f32⟩
  | .hbm, ⟨3, _⟩ => ⟨S1024x1024, .f32⟩
  | .hbm, ⟨4, _⟩ => ⟨S1024, .f32⟩
  | .hbm, ⟨5, _⟩ => ⟨S1024x4096, .f32⟩
  | .hbm, ⟨6, _⟩ => ⟨S4096x1024, .f32⟩
  | .hbm, ⟨7, _⟩ => ⟨S2x4096x1024, .f32⟩
  | .hbm, ⟨8, _⟩ => ⟨S2x4096x1024, .f32⟩
  | .hbm, ⟨9, _⟩ => ⟨S2x4096x1024, .f32⟩
  | .hbm, ⟨10, _⟩ => ⟨S2x4096x1024, .f32⟩
  | .hbm, ⟨11, _⟩ => ⟨S2x4096x1024, .f32⟩
  | .hbm, ⟨12, _⟩ => ⟨S_, .f32⟩
  | .hbm, ⟨13, _⟩ => ⟨S2x4096, .f32⟩
  | .hbm, ⟨14, _⟩ => ⟨S2x4096x1, .f32⟩
  | .hbm, ⟨15, _⟩ => ⟨S_, .f32⟩
  | .hbm, ⟨16, _⟩ => ⟨S2x4096x1, .f32⟩
  | .hbm, ⟨17, _⟩ => ⟨S2x4096x1, .f32⟩
  | .hbm, ⟨18, _⟩ => ⟨S_, .f32⟩
  | .hbm, ⟨19, _⟩ => ⟨S2x4096x1, .f32⟩
  | .hbm, ⟨20, _⟩ => ⟨S2x4096x1, .f32⟩
  | .hbm, ⟨21, _⟩ => ⟨S2x4096x1, .f32⟩
  | .hbm, ⟨22, _⟩ => ⟨S2x4096x1024, .f32⟩
  | .hbm, ⟨23, _⟩ => ⟨S2x4096x1024, .f32⟩
  | .hbm, ⟨24, _⟩ => ⟨S1x1x1024, .f32⟩
  | .hbm, ⟨25, _⟩ => ⟨S2x4096x1024, .f32⟩
  | .hbm, ⟨26, _⟩ => ⟨S2x4096x1024, .f32⟩
  | .hbm, ⟨27, _⟩ => ⟨S2x4096x4096, .f32⟩
  | .hbm, ⟨28, _⟩ => ⟨S_, .f32⟩
  | .hbm, ⟨29, _⟩ => ⟨S2x4096x4096, .f32⟩
  | .hbm, ⟨30, _⟩ => ⟨S2x4096x4096, .f32⟩
  | .hbm, ⟨31, _⟩ => ⟨S2x4096x4096, .f32⟩
  | .hbm, ⟨32, _⟩ => ⟨S2x4096x1024, .f32⟩
  | .hbm, ⟨33, _⟩ => ⟨S2x4096x1024, .f32⟩
  | .hbm, ⟨34, _⟩ => ⟨S2x4096x1024, .f32⟩
  | .hbm, ⟨35, _⟩ => ⟨S2x4096x1024, .f32⟩
  | .hbm, ⟨36, _⟩ => ⟨S_, .f32⟩
  | .hbm, ⟨37, _⟩ => ⟨S2x4096x1024, .f32⟩
  | .hbm, ⟨38, _⟩ => ⟨S2x4096x1024, .f32⟩
  | .hbm, ⟨39, _⟩ => ⟨S_, .f32⟩
  | .hbm, ⟨40, _⟩ => ⟨S2x4096, .f32⟩
  | .hbm, ⟨41, _⟩ => ⟨S_, .f32⟩
  | .hbm, ⟨42, _⟩ => ⟨S2x4096, .f32⟩
  | .hbm, ⟨43, _⟩ => ⟨S2x4096, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S2x4096, .f32⟩
  | .hbm, ⟨52, _⟩ => ⟨S_, .f32⟩
  | .hbm, ⟨53, _⟩ => ⟨S2x4096, .f32⟩
  | .hbm, ⟨54, _⟩ => ⟨S2x4096, .f32⟩
  | .hbm, ⟨55, _⟩ => ⟨S2x4096x1024, .f32⟩
  | .hbm, ⟨56, _⟩ => ⟨S2x4096x1024, .f32⟩
  | .hbm, ⟨57, _⟩ => ⟨S8192x1024, .f32⟩
  | .hbm, ⟨58, _⟩ => ⟨S8192x1024, .f32⟩
  | .hbm, ⟨59, _⟩ => ⟨S2x4096x1024, .f32⟩
  | .hbm, ⟨60, _⟩ => ⟨S_, .f32⟩
  | .hbm, ⟨61, _⟩ => ⟨S2x4096, .f32⟩
  | .hbm, ⟨62, _⟩ => ⟨S2x4096x1, .f32⟩
  | .hbm, ⟨63, _⟩ => ⟨S_, .f32⟩
  | .hbm, ⟨64, _⟩ => ⟨S2x4096x1, .f32⟩
  | .hbm, ⟨65, _⟩ => ⟨S2x4096x1, .f32⟩
  | .hbm, ⟨66, _⟩ => ⟨S_, .f32⟩
  | .hbm, ⟨67, _⟩ => ⟨S2x4096x1, .f32⟩
  | .hbm, ⟨68, _⟩ => ⟨S2x4096x1, .f32⟩
  | .hbm, ⟨69, _⟩ => ⟨S2x4096x1, .f32⟩
  | .hbm, ⟨70, _⟩ => ⟨S2x4096x1024, .f32⟩
  | .hbm, ⟨71, _⟩ => ⟨S2x4096x1024, .f32⟩
  | .hbm, ⟨72, _⟩ => ⟨S1x1x1024, .f32⟩
  | .hbm, ⟨73, _⟩ => ⟨S2x4096x1024, .f32⟩
  | .hbm, ⟨74, _⟩ => ⟨S2x4096x1024, .f32⟩
  | .hbm, ⟨75, _⟩ => ⟨S8192x1024, .f32⟩
  | .hbm, ⟨76, _⟩ => ⟨S8192x1024, .bf16⟩
  | .hbm, ⟨77, _⟩ => ⟨S8192x4096, .f32⟩
  | .hbm, ⟨78, _⟩ => ⟨S8192x4096, .bf16⟩
  | .hbm, ⟨79, _⟩ => ⟨S8192x1024, .bf16⟩
  | .hbm, ⟨80, _⟩ => ⟨S8x128, .f32⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_call0_cst : Ref sig .tc := ⟨.hbm, 28, rfl⟩
abbrev main_call0_v0 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_2 : Ref sig .tc := ⟨.hbm, 36, rfl⟩
abbrev main_v23 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_cst_4 : Ref sig .tc := ⟨.hbm, 41, rfl⟩
abbrev main_v26 : Ref sig .tc := ⟨.hbm, 42, rfl⟩
abbrev main_v27 : Ref sig .tc := ⟨.hbm, 43, rfl⟩
abbrev main_cst_5 : Ref sig .tc := ⟨.hbm, 44, rfl⟩
abbrev main_v28 : Ref sig .tc := ⟨.hbm, 45, rfl⟩
abbrev main_cst_6 : Ref sig .tc := ⟨.hbm, 46, rfl⟩
abbrev main_v29 : Ref sig .tc := ⟨.hbm, 47, rfl⟩
abbrev main_cst_7 : Ref sig .tc := ⟨.hbm, 48, rfl⟩
abbrev main_cst_8 : Ref sig .tc := ⟨.hbm, 49, rfl⟩
abbrev main_v30 : Ref sig .tc := ⟨.hbm, 50, rfl⟩
abbrev main_v31 : Ref sig .tc := ⟨.hbm, 51, rfl⟩
abbrev main_cst_9 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_10 : Ref sig .tc := ⟨.hbm, 60, rfl⟩
abbrev main_v39 : Ref sig .tc := ⟨.hbm, 61, rfl⟩
abbrev main_v40 : Ref sig .tc := ⟨.hbm, 62, rfl⟩
abbrev main_cst_11 : Ref sig .tc := ⟨.hbm, 63, rfl⟩
abbrev main_v41 : Ref sig .tc := ⟨.hbm, 64, rfl⟩
abbrev main_v42 : Ref sig .tc := ⟨.hbm, 65, rfl⟩
abbrev main_cst_12 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩

abbrev nD : Nat := 1
abbrev τ : Topo := Topo.v7x

variable {F : FTy → Type} [FloatOps F]
-- ==== Np.lean ====
abbrev S2x4096x1024 : Shape := ⟨3, ![2, 4096, 1024]⟩
abbrev S1024 : Shape := ⟨1, ![1024]⟩
abbrev S1024x2312 : Shape := ⟨2, ![1024, 2312]⟩
abbrev S8 : Shape := ⟨1, ![8]⟩
abbrev S64 : Shape := ⟨1, ![64]⟩
abbrev S_ : Shape := ⟨0, ![]⟩
abbrev S2x4096 : Shape := ⟨2, ![2, 4096]⟩
abbrev S2x4096x1 : Shape := ⟨3, ![2, 4096, 1]⟩
abbrev S1x1x1024 : Shape := ⟨3, ![1, 1, 1024]⟩
abbrev S8192x1024 : Shape := ⟨2, ![8192, 1024]⟩
abbrev S2312x1024 : Shape := ⟨2, ![2312, 1024]⟩
abbrev S8x1024 : Shape := ⟨2, ![8, 1024]⟩
abbrev S128x1024 : Shape := ⟨2, ![128, 1024]⟩
abbrev S1x64 : Shape := ⟨2, ![1, 64]⟩
abbrev S8x64 : Shape := ⟨2, ![8, 64]⟩
abbrev S512 : Shape := ⟨1, ![512]⟩
abbrev S1x512 : Shape := ⟨2, ![1, 512]⟩
abbrev S2x64 : Shape := ⟨2, ![2, 64]⟩
abbrev S128 : Shape := ⟨1, ![128]⟩
abbrev S1x128 : Shape := ⟨2, ![1, 128]⟩
abbrev S2304x1024 : Shape := ⟨2, ![2304, 1024]⟩
abbrev S8192x2304 : Shape := ⟨2, ![8192, 2304]⟩
abbrev S8192x128 : Shape := ⟨2, ![8192, 128]⟩
abbrev S8192x512 : Shape := ⟨2, ![8192, 512]⟩
abbrev S8192x256 : Shape := ⟨2, ![8192, 256]⟩
abbrev S512x1024 : Shape := ⟨2, ![512, 1024]⟩
abbrev S512x2304 : Shape := ⟨2, ![512, 2304]⟩
abbrev S512x128 : Shape := ⟨2, ![512, 128]⟩
abbrev S512x512 : Shape := ⟨2, ![512, 512]⟩
abbrev S512x256 : Shape := ⟨2, ![512, 256]⟩
abbrev S256x256 : Shape := ⟨2, ![256, 256]⟩
abbrev S128x128 : Shape := ⟨2, ![128, 128]⟩
abbrev S256x128 : Shape := ⟨2, ![256, 128]⟩
abbrev S512x1 : Shape := ⟨2, ![512, 1]⟩

abbrev nBuf : Space → Nat
  | .hbm => 61
  | .vmem => 27
  | .smem => 0
  | _ => 0

abbrev bufTy : (tb : Table) → Fin (tcTables nBuf tb) → BufTy
  | .hbm, ⟨0, _⟩ => ⟨S2x4096x1024, .f32⟩
  | .hbm, ⟨1, _⟩ => ⟨S1024, .f32⟩
  | .hbm, ⟨2, _⟩ => ⟨S1024x2312, .f32⟩
  | .hbm, ⟨3, _⟩ => ⟨S8, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S2x4096x1024, .f32⟩
  | .hbm, ⟨9, _⟩ => ⟨S_, .f32⟩
  | .hbm, ⟨10, _⟩ => ⟨S2x4096, .f32⟩
  | .hbm, ⟨11, _⟩ => ⟨S2x4096x1, .f32⟩
  | .hbm, ⟨12, _⟩ => ⟨S_, .f32⟩
  | .hbm, ⟨13, _⟩ => ⟨S2x4096x1, .f32⟩
  | .hbm, ⟨14, _⟩ => ⟨S2x4096x1, .f32⟩
  | .hbm, ⟨15, _⟩ => ⟨S_, .f32⟩
  | .hbm, ⟨16, _⟩ => ⟨S2x4096x1, .f32⟩
  | .hbm, ⟨17, _⟩ => ⟨S2x4096x1, .f32⟩
  | .hbm, ⟨18, _⟩ => ⟨S2x4096x1, .f32⟩
  | .hbm, ⟨19, _⟩ => ⟨S2x4096x1024, .f32⟩
  | .hbm, ⟨20, _⟩ => ⟨S2x4096x1024, .f32⟩
  | .hbm, ⟨21, _⟩ => ⟨S1x1x1024, .f32⟩
  | .hbm, ⟨22, _⟩ => ⟨S2x4096x1024, .f32⟩
  | .hbm, ⟨23, _⟩ => ⟨S2x4096x1024, .f32⟩
  | .hbm, ⟨24, _⟩ => ⟨S8192x1024, .f32⟩
  | .hbm, ⟨25, _⟩ => ⟨S8192x1024, .bf16⟩
  | .hbm, ⟨26, _⟩ => ⟨S2312x1024, .f32⟩
  | .hbm, ⟨27, _⟩ => ⟨S2312x1024, .bf16⟩
  | .hbm, ⟨28, _⟩ => ⟨S8x1024, .bf16⟩
  | .hbm, ⟨29, _⟩ => ⟨S_, .i32⟩
  | .hbm, ⟨30, _⟩ => ⟨S_, .bf16⟩
  | .hbm, ⟨31, _⟩ => ⟨S128x1024, .bf16⟩
  | .hbm, ⟨32, _⟩ => ⟨S1x64, .f32⟩
  | .hbm, ⟨33, _⟩ => ⟨S8x64, .f32⟩
  | .hbm, ⟨34, _⟩ => ⟨S512, .f32⟩
  | .hbm, ⟨35, _⟩ => ⟨S1x512, .f32⟩
  | .hbm, ⟨36, _⟩ => ⟨S1x64, .f32⟩
  | .hbm, ⟨37, _⟩ => ⟨S2x64, .f32⟩
  | .hbm, ⟨38, _⟩ => ⟨S128, .f32⟩
  | .hbm, ⟨39, _⟩ => ⟨S1x128, .f32⟩
  | .hbm, ⟨40, _⟩ => ⟨S1x64, .f32⟩
  | .hbm, ⟨41, _⟩ => ⟨S8x64, .f32⟩
  | .hbm, ⟨42, _⟩ => ⟨S512, .f32⟩
  | .hbm, ⟨43, _⟩ => ⟨S1x512, .f32⟩
  | .hbm, ⟨44, _⟩ => ⟨S1x64, .f32⟩
  | .hbm, ⟨45, _⟩ => ⟨S8x64, .f32⟩
  | .hbm, ⟨46, _⟩ => ⟨S512, .f32⟩
  | .hbm, ⟨47, _⟩ => ⟨S1x512, .f32⟩
  | .hbm, ⟨48, _⟩ => ⟨S_, .i32⟩
  | .hbm, ⟨49, _⟩ => ⟨S_, .f32⟩
  | .hbm, ⟨50, _⟩ => ⟨S128, .f32⟩
  | .hbm, ⟨51, _⟩ => ⟨S1x128, .f32⟩
  | .hbm, ⟨52, _⟩ => ⟨S2304x1024, .bf16⟩
  | .hbm, ⟨53, _⟩ => ⟨S8192x2304, .f32⟩
  | .hbm, ⟨54, _⟩ => ⟨S8192x128, .f32⟩
  | .hbm, ⟨55, _⟩ => ⟨S8192x512, .bf16⟩
  | .hbm, ⟨56, _⟩ => ⟨S8192x256, .bf16⟩
  | .hbm, ⟨57, _⟩ => ⟨S8192x256, .bf16⟩
  | .hbm, ⟨58, _⟩ => ⟨S8192x1024, .bf16⟩
  | .hbm, ⟨59, _⟩ => ⟨S8192x1024, .bf16⟩
  | .hbm, ⟨60, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S2304x1024, .bf16⟩
  | .local _ .vmem, ⟨3, _⟩ => ⟨S128x1024, .bf16⟩
  | .local _ .vmem, ⟨4, _⟩ => ⟨S1x512, .f32⟩
  | .local _ .vmem, ⟨5, _⟩ => ⟨S1x128, .f32⟩
  | .local _ .vmem, ⟨6, _⟩ => ⟨S1x512, .f32⟩
  | .local _ .vmem, ⟨7, _⟩ => ⟨S1x512, .f32⟩
  | .local _ .vmem, ⟨8, _⟩ => ⟨S1x128, .f32⟩
  | .local _ .vmem, ⟨9, _⟩ => ⟨S512x2304, .f32⟩
  | .local _ .vmem, ⟨10, _⟩ => ⟨S512x2304, .f32⟩
  | .local _ .vmem, ⟨11, _⟩ => ⟨S512x128, .f32⟩
  | .local _ .vmem, ⟨12, _⟩ => ⟨S512x128, .f32⟩
  | .local _ .vmem, ⟨13, _⟩ => ⟨S512x512, .bf16⟩
  | .local _ .vmem, ⟨14, _⟩ => ⟨S512x512, .bf16⟩
  | .local _ .vmem, ⟨15, _⟩ => ⟨S512x256, .bf16⟩
  | .local _ .vmem, ⟨16, _⟩ => ⟨S512x256, .bf16⟩
  | .local _ .vmem, ⟨17, _⟩ => ⟨S512x256, .bf16⟩
  | .local _ .vmem, ⟨18, _⟩ => ⟨S512x256, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | .local _ .vmem, ⟨25, _⟩ => ⟨S1x128, .f32⟩
  | .local _ .vmem, ⟨26, _⟩ => ⟨S512x128, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c : Ref sig .tc := ⟨.hbm, 29, rfl⟩
abbrev main_call0_v0 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_c_2 : Ref sig .tc := ⟨.hbm, 48, rfl⟩
abbrev main_call1_v0 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38_0 : Ref sig .tc := ⟨.hbm, 53, rfl⟩
abbrev main_v38_1 : Ref sig .tc := ⟨.hbm, 54, rfl⟩
abbrev main_v38_2 : Ref sig .tc := ⟨.hbm, 55, rfl⟩
abbrev main_v38_3 : Ref sig .tc := ⟨.hbm, 56, rfl⟩
abbrev main_v38_4 : Ref sig .tc := ⟨.hbm, 57, rfl⟩
abbrev main_v38_5 : Ref sig .tc := ⟨.hbm, 58, rfl⟩
abbrev main_v38_6 : Ref sig .tc := ⟨.hbm, 59, rfl⟩
abbrev main_v38_7 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_scratch0 : Ref sig .tc := ⟨.vmem, 25, rfl⟩
abbrev cc0_scratch1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2304x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x2304 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== NpReferenceIdeal.lean ====
abbrev S2x4096x1024 : Shape := ⟨3, ![2, 4096, 1024]⟩
abbrev S1024 : Shape := ⟨1, ![1024]⟩
abbrev S1024x2312 : Shape := ⟨2, ![1024, 2312]⟩
abbrev S8 : Shape := ⟨1, ![8]⟩
abbrev S64 : Shape := ⟨1, ![64]⟩
abbrev S_ : Shape := ⟨0, ![]⟩
abbrev S2x4096 : Shape := ⟨2, ![2, 4096]⟩
abbrev S2x4096x1 : Shape := ⟨3, ![2, 4096, 1]⟩
abbrev S1x1x1024 : Shape := ⟨3, ![1, 1, 1024]⟩
abbrev S2x4096x2312 : Shape := ⟨3, ![2, 4096, 2312]⟩
abbrev S2x4096x512 : Shape := ⟨3, ![2, 4096, 512]⟩
abbrev S2x4096x8x64 : Shape := ⟨4, ![2, 4096, 8, 64]⟩
abbrev S2x4096x8 : Shape := ⟨3, ![2, 4096, 8]⟩
abbrev S2x4096x8x1 : Shape := ⟨4, ![2, 4096, 8, 1]⟩
abbrev S1x1x1x64 : Shape := ⟨4, ![1, 1, 1, 64]⟩
abbrev S2x4096x128 : Shape := ⟨3, ![2, 4096, 128]⟩
abbrev S2x4096x2x64 : Shape := ⟨4, ![2, 4096, 2, 64]⟩
abbrev S2x4096x2 : Shape := ⟨3, ![2, 4096, 2]⟩
abbrev S2x4096x2x1 : Shape := ⟨4, ![2, 4096, 2, 1]⟩
abbrev S2x4096x2x1x64 : Shape := ⟨5, ![2, 4096, 2, 1, 64]⟩
abbrev S2x4096x2x2x64 : Shape := ⟨5, ![2, 4096, 2, 2, 64]⟩
abbrev S8192x256 : Shape := ⟨2, ![8192, 256]⟩
abbrev S2x4096x2304 : Shape := ⟨3, ![2, 4096, 2304]⟩
abbrev S8192x2304 : Shape := ⟨2, ![8192, 2304]⟩
abbrev S8192x128 : Shape := ⟨2, ![8192, 128]⟩
abbrev S8192x512 : Shape := ⟨2, ![8192, 512]⟩

abbrev nBuf : Space → Nat
  | .hbm => 80
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S1024, .f32⟩
  | .hbm, ⟨2, _⟩ => ⟨S1024x2312, .f32⟩
  | .hbm, ⟨3, _⟩ => ⟨S8, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S2x4096x1024, .f32⟩
  | .hbm, ⟨9, _⟩ => ⟨S_, .f32⟩
  | .hbm, ⟨10, _⟩ => ⟨S2x4096, .f32⟩
  | .hbm, ⟨11, _⟩ => ⟨S2x4096x1, .f32⟩
  | .hbm, ⟨12, _⟩ => ⟨S_, .f32⟩
  | .hbm, ⟨13, _⟩ => ⟨S2x4096x1, .f32⟩
  | .hbm, ⟨14, _⟩ => ⟨S2x4096x1, .f32⟩
  | .hbm, ⟨15, _⟩ => ⟨S_, .f32⟩
  | .hbm, ⟨16, _⟩ => ⟨S2x4096x1, .f32⟩
  | .hbm, ⟨17, _⟩ => ⟨S2x4096x1, .f32⟩
  | .hbm, ⟨18, _⟩ => ⟨S2x4096x1, .f32⟩
  | .hbm, ⟨19, _⟩ => ⟨S2x4096x1024, .f32⟩
  | .hbm, ⟨20, _⟩ => ⟨S2x4096x1024, .f32⟩
  | .hbm, ⟨21, _⟩ => ⟨S1x1x1024, .f32⟩
  | .hbm, ⟨22, _⟩ => ⟨S2x4096x1024, .f32⟩
  | .hbm, ⟨23, _⟩ => ⟨S2x4096x1024, .f32⟩
  | .hbm, ⟨24, _⟩ => ⟨S2x4096x2312, .f32⟩
  | .hbm, ⟨25, _⟩ => ⟨S2x4096x512, .f32⟩
  | .hbm, ⟨26, _⟩ => ⟨S2x4096x8x64, .f32⟩
  | .hbm, ⟨27, _⟩ => ⟨S2x4096x8x64, .f32⟩
  | .hbm, ⟨28, _⟩ => ⟨S_, .f32⟩
  | .hbm, ⟨29, _⟩ => ⟨S2x4096x8, .f32⟩
  | .hbm, ⟨30, _⟩ => ⟨S2x4096x8x1, .f32⟩
  | .hbm, ⟨31, _⟩ => ⟨S_, .f32⟩
  | .hbm, ⟨32, _⟩ => ⟨S2x4096x8x1, .f32⟩
  | .hbm, ⟨33, _⟩ => ⟨S2x4096x8x1, .f32⟩
  | .hbm, ⟨34, _⟩ => ⟨S_, .f32⟩
  | .hbm, ⟨35, _⟩ => ⟨S2x4096x8x1, .f32⟩
  | .hbm, ⟨36, _⟩ => ⟨S2x4096x8x1, .f32⟩
  | .hbm, ⟨37, _⟩ => ⟨S2x4096x8x1, .f32⟩
  | .hbm, ⟨38, _⟩ => ⟨S2x4096x8x64, .f32⟩
  | .hbm, ⟨39, _⟩ => ⟨S2x4096x8x64, .f32⟩
  | .hbm, ⟨40, _⟩ => ⟨S1x1x1x64, .f32⟩
  | .hbm, ⟨41, _⟩ => ⟨S2x4096x8x64, .f32⟩
  | .hbm, ⟨42, _⟩ => ⟨S2x4096x8x64, .f32⟩
  | .hbm, ⟨43, _⟩ => ⟨S2x4096x128, .f32⟩
  | .hbm, ⟨44, _⟩ => ⟨S2x4096x2x64, .f32⟩
  | .hbm, ⟨45, _⟩ => ⟨S2x4096x2x64, .f32⟩
  | .hbm, ⟨46, _⟩ => ⟨S_, .f32⟩
  | .hbm, ⟨47, _⟩ => ⟨S2x4096x2, .f32⟩
  | .hbm, ⟨48, _⟩ => ⟨S2x4096x2x1, .f32⟩
  | .hbm, ⟨49, _⟩ => ⟨S_, .f32⟩
  | .hbm, ⟨50, _⟩ => ⟨S2x4096x2x1, .f32⟩
  | .hbm, ⟨51, _⟩ => ⟨S2x4096x2x1, .f32⟩
  | .hbm, ⟨52, _⟩ => ⟨S_, .f32⟩
  | .hbm, ⟨53, _⟩ => ⟨S2x4096x2x1, .f32⟩
  | .hbm, ⟨54, _⟩ => ⟨S2x4096x2x1, .f32⟩
  | .hbm, ⟨55, _⟩ => ⟨S2x4096x2x1, .f32⟩
  | .hbm, ⟨56, _⟩ => ⟨S2x4096x2x64, .f32⟩
  | .hbm, ⟨57, _⟩ => ⟨S2x4096x2x64, .f32⟩
  | .hbm, ⟨58, _⟩ => ⟨S1x1x1x64, .f32⟩
  | .hbm, ⟨59, _⟩ => ⟨S2x4096x2x64, .f32⟩
  | .hbm, ⟨60, _⟩ => ⟨S2x4096x2x64, .f32⟩
  | .hbm, ⟨61, _⟩ => ⟨S2x4096x128, .f32⟩
  | .hbm, ⟨62, _⟩ => ⟨S2x4096x2x64, .f32⟩
  | .hbm, ⟨63, _⟩ => ⟨S2x4096x2x1x64, .f32⟩
  | .hbm, ⟨64, _⟩ => ⟨S2x4096x2x2x64, .f32⟩
  | .hbm, ⟨65, _⟩ => ⟨S8192x256, .f32⟩
  | .hbm, ⟨66, _⟩ => ⟨S8192x256, .bf16⟩
  | .hbm, ⟨67, _⟩ => ⟨S2x4096x2x1x64, .f32⟩
  | .hbm, ⟨68, _⟩ => ⟨S2x4096x2x2x64, .f32⟩
  | .hbm, ⟨69, _⟩ => ⟨S8192x256, .f32⟩
  | .hbm, ⟨70, _⟩ => ⟨S8192x256, .bf16⟩
  | .hbm, ⟨71, _⟩ => ⟨S2x4096x8, .f32⟩
  | .hbm, ⟨72, _⟩ => ⟨S_, .i32⟩
  | .hbm, ⟨73, _⟩ => ⟨S_, .f32⟩
  | .hbm, ⟨74, _⟩ => ⟨S2x4096x128, .f32⟩
  | .hbm, ⟨75, _⟩ => ⟨S2x4096x2304, .f32⟩
  | .hbm, ⟨76, _⟩ => ⟨S8192x2304, .f32⟩
  | .hbm, ⟨77, _⟩ => ⟨S8192x128, .f32⟩
  | .hbm, ⟨78, _⟩ => ⟨S8192x512, .f32⟩
  | .hbm, ⟨79, _⟩ => ⟨S8192x512, .bf16⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_5 : Ref sig .tc := ⟨.hbm, 46, rfl⟩
abbrev main_v32 : Ref sig .tc := ⟨.hbm, 47, rfl⟩
abbrev main_v33 : Ref sig .tc := ⟨.hbm, 48, rfl⟩
abbrev main_cst_6 : Ref sig .tc := ⟨.hbm, 49, rfl⟩
abbrev main_v34 : Ref sig .tc := ⟨.hbm, 50, rfl⟩
abbrev main_v35 : Ref sig .tc := ⟨.hbm, 51, rfl⟩
abbrev main_cst_7 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_c : Ref sig .tc := ⟨.hbm, 72, rfl⟩
abbrev main_call0_v0 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩

abbrev nD : Nat := 1
abbrev τ : Topo := Topo.v7x

variable {F : FTy → Type} [FloatOps F]
-- ==== Proof.MlpIn.lean ====
/-
  What each block of the MLP's backward call reads: the arguments, or the reference's own forward values (the residual
  stream `val_main_v2`, the pre-activation `val_main_v19`), at the tile's row.
-/
module

public import proofs.«01_k».proof.Proof.Gen.KernelIdeal.Frame
public import proofs.«01_k».proof.Proof.Gen.ReferenceIdeal.Read
public import Idealize.ShloMosaic.Lib.Pipeline.ValueKit
public import Idealize.ShloMosaic.Lib.Pointwise
public import Idealize.ShloMosaic.Lib.Claim

@[expose] public section

set_option maxRecDepth 16384

noncomputable section

namespace Cert.Proof.Mlp

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

theorem idx : ∀ t : Fin cfg0.N, (win0_0.index t = ![t.val, 0] ∧ win0_1.index t = ![t.val, 0] ∧ win0_2.index t = ![t.val, 0] ∧ win0_3.index t = ![t.val, 0]
      ∧ win0_4.index t = ![t.val, 0] ∧ win0_5.index t = ![0, 0] ∧ win0_6.index t = ![0, 0] ∧ win0_7.index t = ![0, 0] ∧ win0_8.index t = ![0, 0])
      ∧ win0_9.index t = ![t.val, 0] ∧ win0_10.index t = ![t.val, 0] ∧ win0_11.index t = ![t.val, 0] ∧ win0_12.index t = ![t.val, 0]
      ∧ win0_13.index t = ![t.val, 0] ∧ win0_14.index t = ![t.val, 0] ∧ win0_15.index t = ![0, 0] :=
  (by decide +kernel : ∀ t : Fin grid0.N, _)

abbrev a0 (c : Dev nD) : FVec Ideal S2x4096x1024 .f32 := m (c.tc.loc main_arg0)
abbrev a1 (c : Dev nD) : FVec Ideal S2x4096x512 .f32 := m (c.tc.loc main_arg1)
abbrev a2 (c : Dev nD) : FVec Ideal S2x4096x512 .f32 := m (c.tc.loc main_arg2)
abbrev a3 (c : Dev nD) : FVec Ideal S1024x1024 .f32 := m (c.tc.loc main_arg3)
abbrev a4 (c : Dev nD) : FVec Ideal S1024 .f32 := m (c.tc.loc main_arg4)
abbrev a5 (c : Dev nD) : FVec Ideal S1024x4096 .f32 := m (c.tc.loc main_arg5)
abbrev a6 (c : Dev nD) : FVec Ideal S4096x1024 .f32 := m (c.tc.loc main_arg6)
abbrev a7 (c : Dev nD) : FVec Ideal S2x4096x1024 .f32 := m (c.tc.loc main_arg7)

/-- The row of the flattened arrays that tile `t`'s row `p` is: its sequence and its place there. -/
theorem lt_N (t : Fin cfg0.N) : t.val < 16 := lt_of_lt_of_eq t.isLt N_0
abbrev row (t : Fin cfg0.N) (p : Fin 512) : Fin 8192 := ⟨t.val * 512 + p.val, by have := lt_N t; omega⟩
abbrev rb (r : Fin 8192) : Fin 2 := ⟨r.val / 4096, by omega⟩
abbrev rs (r : Fin 8192) : Fin 4096 := ⟨r.val % 4096, by omega⟩

theorem v19_at (c : Dev nD) (r : Fin 8192) (d : Fin 1024) : (V m c main_v19 : FVec Ideal S8192x1024 .f32) (ix2 r d)
    = a7 m c (ix3 (rb r) (rs r) d) := by
  unfold V
  simp only [hostOps0, hostOps0_1, hostOps0_2, List.flatten_cons, List.flatten_nil, List.append_nil, List.cons_append, List.nil_append]
  entry_read
  pointwise []
theorem v22_at (c : Dev nD) (r : Fin 8192) (d : Fin 1024) : (V m c main_v22 : FVec Ideal S8192x1024 .f32) (ix2 r d)
    = Cert.ReferenceIdeal.Read.val_main_v2 (F := Ideal) (a0 m c) (a1 m c) (a2 m c) (a3 m c) (ix3 (rb r) (rs r) d) := by
  unfold V
  simp only [hostOps0, hostOps0_1, hostOps0_2, List.flatten_cons, List.flatten_nil, List.append_nil, List.cons_append, List.nil_append]
  entry_read
  show shapeCast S8192x1024 (Cert.ReferenceIdeal.Read.val_main_v2 (F := Ideal) (a0 m c) (a1 m c) (a2 m c) (a3 m c)) shapeCasts_S2x4096x1024_S8192x1024 (ix2 r d) = _
  pointwise []
theorem v21_at (c : Dev nD) (r : Fin 8192) (f : Fin 4096) : (V m c main_v21 : FVec Ideal S8192x4096 .bf16) (ix2 r f)
    = max (Cert.ReferenceIdeal.Read.val_main_v19 (F := Ideal) (a0 m c) (a1 m c) (a2 m c) (a3 m c) (a4 m c) (a5 m c) (ix3 (rb r) (rs r) f)) 0 * max (Cert.ReferenceIdeal.Read.val_main_v19 (F := Ideal) (a0 m c) (a1 m c) (a2 m c) (a3 m c) (a4 m c) (a5 m c) (ix3 (rb r) (rs r) f)) 0 := by
  unfold V
  simp only [hostOps0, hostOps0_1, hostOps0_2, List.flatten_cons, List.flatten_nil, List.append_nil, List.cons_append, List.nil_append]
  entry_read
  show truncf .bf16 (shapeCast S8192x4096 (mulf (F := Ideal) (φ := .f32) (Cert.ReferenceIdeal.Read.val_main_v20 (F := Ideal) (a0 m c) (a1 m c) (a2 m c) (a3 m c) (a4 m c) (a5 m c) : FVec Ideal S2x4096x4096 .f32) (Cert.ReferenceIdeal.Read.val_main_v20 (F := Ideal) (a0 m c) (a1 m c) (a2 m c) (a3 m c) (a4 m c) (a5 m c) : FVec Ideal S2x4096x4096 .f32)) shapeCasts_S2x4096x4096_S8192x4096) bitsLt_bf16_f32 (ix2 r f) = _
  pointwise [Cert.ReferenceIdeal.Read.val_main_v20, Cert.ReferenceIdeal.Read.val_main_call0_v0, Cert.ReferenceIdeal.Read.val_main_call0_cst]
theorem v24_at (c : Dev nD) (r : Fin 8192) (e : Fin 512) : (V m c main_v24 : FVec Ideal S8192x512 .bf16) (ix2 r e)
    = a1 m c (ix3 (rb r) (rs r) e) := by
  unfold V
  simp only [hostOps0, hostOps0_1, hostOps0_2, List.flatten_cons, List.flatten_nil, List.append_nil, List.cons_append, List.nil_append]
  entry_read
  pointwise []
theorem v26_at (c : Dev nD) (r : Fin 8192) (e : Fin 512) : (V m c main_v26 : FVec Ideal S8192x512 .bf16) (ix2 r e)
    = a2 m c (ix3 (rb r) (rs r) e) := by
  unfold V
  simp only [hostOps0, hostOps0_1, hostOps0_2, List.flatten_cons, List.flatten_nil, List.append_nil, List.cons_append, List.nil_append]
  entry_read
  pointwise []
theorem v27_at (c : Dev nD) (f : Fin 4096) (d : Fin 1024) : (V m c main_v27 : FVec Ideal S4096x1024 .bf16) (ix2 f d)
    = a6 m c (ix2 f d) := by
  unfold V
  simp only [hostOps0, hostOps0_1, hostOps0_2, List.flatten_cons, List.flatten_nil, List.append_nil, List.cons_append, List.nil_append]
  entry_read
  pointwise []
theorem v29_at (c : Dev nD) (f : Fin 4096) (d : Fin 1024) : (V m c main_v29 : FVec Ideal S4096x1024 .bf16) (ix2 f d)
    = a5 m c (ix2 d f) := by
  unfold V
  simp only [hostOps0, hostOps0_1, hostOps0_2, List.flatten_cons, List.flatten_nil, List.append_nil, List.cons_append, List.nil_append]
  entry_read
  pointwise []
theorem v30_at (c : Dev nD) (e d : Fin 1024) : (V m c main_v30 : FVec Ideal S1024x1024 .bf16) (ix2 e d)
    = a3 m c (ix2 e d) := by
  unfold V
  simp only [hostOps0, hostOps0_1, hostOps0_2, List.flatten_cons, List.flatten_nil, List.append_nil, List.cons_append, List.nil_append]
  entry_read
  pointwise []
theorem v31_at (c : Dev nD) (d : Fin 1024) : (V m c main_v31 : FVec Ideal S1x1024 .f32) (ix2 0 d)
    = a4 m c (ix1 d) := by
  unfold V
  simp only [hostOps0, hostOps0_1, hostOps0_2, List.flatten_cons, List.flatten_nil, List.append_nil, List.cons_append, List.nil_append]
  entry_read
  pointwise []

theorem in0 (c : Dev nD) (t : Fin cfg0.N) (p : Fin 512) (d : Fin 1024) : iblk m c 0 t (ix2 p d) = a7 m c (ix3 (rb (row t p)) (rs (row t p)) d) := by
  rw [← v19_at]
  blk_ext [iblk, idx t]

theorem in1 (c : Dev nD) (t : Fin cfg0.N) (p : Fin 512) (f : Fin 4096) : iblk m c 1 t (ix2 p f) = max (Cert.ReferenceIdeal.Read.val_main_v19 (F := Ideal) (a0 m c) (a1 m c) (a2 m c) (a3 m c) (a4 m c) (a5 m c) (ix3 (rb (row t p)) (rs (row t p)) f)) 0 * max (Cert.ReferenceIdeal.Read.val_main_v19 (F := Ideal) (a0 m c) (a1 m c) (a2 m c) (a3 m c) (a4 m c) (a5 m c) (ix3 (rb (row t p)) (rs (row t p)) f)) 0 := by
  rw [← v21_at]
  blk_ext [iblk, idx t]

theorem in2 (c : Dev nD) (t : Fin cfg0.N) (p : Fin 512) (d : Fin 1024) : iblk m c 2 t (ix2 p d) = Cert.ReferenceIdeal.Read.val_main_v2 (F := Ideal) (a0 m c) (a1 m c) (a2 m c) (a3 m c) (ix3 (rb (row t p)) (rs (row t p)) d) := by
  rw [← v22_at]
  blk_ext [iblk, idx t]

theorem in3 (c : Dev nD) (t : Fin cfg0.N) (p : Fin 512) (e : Fin 512) : iblk m c 3 t (ix2 p e) = a1 m c (ix3 (rb (row t p)) (rs (row t p)) e) := by
  rw [← v24_at]
  blk_ext [iblk, idx t]

theorem in4 (c : Dev nD) (t : Fin cfg0.N) (p : Fin 512) (e : Fin 512) : iblk m c 4 t (ix2 p e) = a2 m c (ix3 (rb (row t p)) (rs (row t p)) e) := by
  rw [← v26_at]
  blk_ext [iblk, idx t]

theorem in5 (c : Dev nD) (t : Fin cfg0.N) (f : Fin 4096) (d : Fin 1024) : iblk m c 5 t (ix2 f d) = a6 m c (ix2 f d) := by
  rw [← v27_at]
  blk_ext [iblk, idx t]

theorem in6 (c : Dev nD) (t : Fin cfg0.N) (f : Fin 4096) (d : Fin 1024) : iblk m c 6 t (ix2 f d) = a5 m c (ix2 d f) := by
  rw [← v29_at]
  blk_ext [iblk, idx t]

theorem in7 (c : Dev nD) (t : Fin cfg0.N) (e d : Fin 1024) : iblk m c 7 t (ix2 e d) = a3 m c (ix2 e d) := by
  rw [← v30_at]
  blk_ext [iblk, idx t]

theorem in8 (c : Dev nD) (t : Fin cfg0.N) (d : Fin 1024) : iblk m c 8 t (ix2 0 d) = a4 m c (ix1 d) := by
  rw [← v31_at]
  blk_ext [iblk, idx t]

end Cert.Proof.Mlp
-- ==== Proof.MlpPay.lean ====
module

public import proofs.«01_k».proof.Proof.Gen.KernelIdeal.Skeleton
public import Idealize.ShloMosaic.Lib.Pointwise
public import Idealize.ShloMosaic.PureOps.Ideal.Laws

@[expose] public section

set_option maxRecDepth 16384

noncomputable section

namespace Cert.Proof.Mlp

open Idealize.ShloMosaic Idealize.ShloMosaic.TcCoe Idealize.SL.Sem
open Cert.KernelIdeal Cert.KernelIdeal.Gen

theorem pay4_at (v3 : FVec Ideal S512x1024 .f32) (v6 : FVec Ideal S4096x1024 .bf16) (v9 : FVec Ideal S512x4096 .bf16)
    (p : Fin 512) (f : Fin 4096) :
    k0_pay4 (F := Ideal) v3 v6 v9 (ix2 p f) = (∑ d : Fin 1024, v3 (ix2 p d) * v6 (ix2 f d)) * (Ideal.ofBits .f32 1073741824#32 * Ideal.sqrt (v9 (ix2 p f))) := by
  pointwise [k0_pay4, k0_pay3]

theorem pay5_at (v3 : FVec Ideal S512x1024 .f32) (v6 : FVec Ideal S4096x1024 .bf16) (v9 : FVec Ideal S512x4096 .bf16)
    (v18 : FVec Ideal S4096x1024 .bf16) (p : Fin 512) (d : Fin 1024) :
    k0_pay5 (F := Ideal) v3 v6 v9 v18 (ix2 p d) = ∑ f : Fin 4096, k0_pay4 (F := Ideal) v3 v6 v9 (ix2 p f) * v18 (ix2 f d) := by
  pointwise [k0_pay5]

theorem pay7_at (v21 : FVec Ideal S512x1024 .f32) (p : Fin 512) :
    k0_pay7 (F := Ideal) v21 (ix2 p 0)
      = Ideal.rsqrt (Ideal.div (∑ x : Fin 1024, v21 (ix2 p x) * v21 (ix2 p x)) (Ideal.ofBits .f32 1149239296#32) + Ideal.ofBits .f32 897988541#32) := by
  pointwise [k0_pay7, k0_pay6]

theorem pay8_at (v21 : FVec Ideal S512x1024 .f32) (p : Fin 512) (d : Fin 1024) :
    k0_pay8 (F := Ideal) v21 (ix2 p d) = v21 (ix2 p d) * k0_pay7 (F := Ideal) v21 (ix2 p 0) := by
  pointwise [k0_pay8, k0_pay6]

theorem pay10_at (v4 v20 : FVec Ideal S512x1024 .f32) (v30 : FVec Ideal S512x1 .f32) (v32 : FVec Ideal S512x1024 .f32) (v34 : FVec Ideal S1x1024 .f32) (p : Fin 512) (d : Fin 1024) :
    k0_pay10 (F := Ideal) v4 v20 v30 v32 v34 (ix2 p d)
      = v4 (ix2 p d) + v30 (ix2 p 0) * (v20 (ix2 p d) * v34 (ix2 0 d)
          - v32 (ix2 p d) * Ideal.div (∑ x : Fin 1024, v20 (ix2 p x) * v34 (ix2 0 x) * v32 (ix2 p x)) (Ideal.ofBits .f32 1149239296#32)) := by
  pointwise [k0_pay10]

theorem pay11_at (v20 v32 : FVec Ideal S512x1024 .f32) (v48 : FVec Ideal S1x1024 .f32) (d : Fin 1024) :
    k0_pay11 (F := Ideal) v20 v32 v48 (ix2 0 d) = v48 (ix2 0 d) + ∑ x : Fin 512, v20 (ix2 x d) * v32 (ix2 x d) := by
  pointwise [k0_pay11]

theorem pay13_at (v4 v20 : FVec Ideal S512x1024 .f32) (v30 : FVec Ideal S512x1 .f32) (v32 : FVec Ideal S512x1024 .f32) (v34 : FVec Ideal S1x1024 .f32) (v58 : FVec Ideal S1024x1024 .bf16) (p : Fin 512) (e : Fin 1024) :
    k0_pay13 (F := Ideal) v4 v20 v30 v32 v34 v58 (ix2 p e) = ∑ d : Fin 1024, k0_pay10 (F := Ideal) v4 v20 v30 v32 v34 (ix2 p d) * v58 (ix2 e d) := by
  pointwise [k0_pay13, k0_pay12]

theorem pay2_at (d : Fin 1024) : k0_pay2 (F := Ideal) (ix2 0 d) = 0 := by
  pointwise [k0_pay2]

theorem shr6 : ∀ x : Fin 512, IntOp.shrui ArithUnit.vector (BitVec.ofNat 32 x.val) 6#32 = BitVec.ofNat 32 (x.val / 64) := by decide +kernel

/-- The column of the 0/1 matrix that a head's 64 lanes select. -/
theorem sel_at (x : Fin 512) (l : Nat) (hl : l < 128) :
    (FloatOps.sitofp .f32 (BitVec.setWidth 32 (IntOp.cmpi CmpIPredicate.eq (IntOp.shrui ArithUnit.vector (BitVec.ofNat 32 x.val) 6#32) (BitVec.ofNat 32 l))) : Ideal .f32)
      = if x.val / 64 = l then 1 else 0 := by
  rw [shr6]
  have h1 : (FloatOps.sitofp .f32 (1#32) : Ideal .f32) = 1 := by
    show (((1#32 : BitVec 32).toInt : ℝ) : EReal) = 1
    simp
  have h0 : (FloatOps.sitofp .f32 (0#32) : Ideal .f32) = 0 := by
    show (((0#32 : BitVec 32).toInt : ℝ) : EReal) = 0
    simp
  by_cases h : x.val / 64 = l
  · rw [if_pos h, h, ← h1]
    simp [IntOp.cmpi]
  · rw [if_neg h, ← h0]
    have : ¬ (BitVec.ofNat 32 (x.val / 64) = BitVec.ofNat 32 l) := fun e => h (by
      have := congrArg BitVec.toNat e; simp only [BitVec.toNat_ofNat] at this; omega)
    simp [IntOp.cmpi, beq_false_of_ne this]

/-- A sum of lanes against a head's column of ones is the sum of the head's 64 lanes. -/
theorem sum_head {n N : Nat} (hN : N = n * 64) (a : Fin N → EReal) (l : Nat) (hl : l < n) :
    ∑ x : Fin N, a x * (if x.val / 64 = l then 1 else 0) = ∑ k : Fin 64, a ⟨l * 64 + k.val, by omega⟩ := by
  subst hN
  trans ∑ p : Fin n × Fin 64, a (finProdFinEquiv p) * (if (finProdFinEquiv p).val / 64 = l then 1 else 0)
  · exact (finProdFinEquiv.sum_comp (fun x : Fin (n * 64) => a x * (if x.val / 64 = l then 1 else 0))).symm
  rw [Fintype.sum_prod_type, Finset.sum_eq_single ⟨l, hl⟩]
  · refine Finset.sum_congr rfl fun k _ => ?_
    have e : (finProdFinEquiv ((⟨l, hl⟩ : Fin n), k) : Fin (n * 64)) = ⟨l * 64 + k.val, by omega⟩ := Fin.ext (by simp [finProdFinEquiv]; omega)
    rw [e, if_pos (by show (l * 64 + k.val) / 64 = l; omega), mul_one]
  · intro b _ hb
    refine Finset.sum_eq_zero fun k _ => ?_
    have hb' : b.val ≠ l := fun q => hb (Fin.ext q)
    rw [if_neg (by simp [finProdFinEquiv]; omega), mul_zero]
  · intro h; exact absurd (Finset.mem_univ _) h

/-- A sum of 512 lanes against that column is the sum of the head's 64 lanes. -/
theorem sum_sel (a : Fin 512 → EReal) (l : Nat) :
    ∑ x : Fin 512, a x * (if x.val / 64 = l then 1 else 0) = if h : l < 8 then ∑ k : Fin 64, a ⟨l * 64 + k.val, by omega⟩ else 0 := by
  by_cases h : l < 8
  · rw [dif_pos h]
    exact sum_head (n := 8) rfl a l h
  · rw [dif_neg h]
    exact Finset.sum_eq_zero fun x _ => by rw [if_neg (by omega), mul_zero]

theorem pay18_at (v73 : FVec Ideal S512x512 .f32) (v74 : FVec Ideal S512x512 .bf16) (p : Fin 512) (l : Fin 128) :
    k0_pay18 (F := Ideal) (k0_pay16 (F := Ideal)) v73 v74 (ix2 p l)
      = if h : l.val < 8 then ∑ k : Fin 64, v73 (ix2 p ⟨l.val * 64 + k.val, by omega⟩) * v74 (ix2 p ⟨l.val * 64 + k.val, by omega⟩) else 0 := by
  rw [← sum_sel (fun x => v73 (ix2 p x) * v74 (ix2 p x))]
  pointwise [k0_pay18, k0_pay16]
  exact Finset.sum_congr rfl fun x _ => by rw [sel_at x l.val l.isLt]

theorem pay17_at (v4 v20 : FVec Ideal S512x1024 .f32) (v30 : FVec Ideal S512x1 .f32) (v32 : FVec Ideal S512x1024 .f32) (v34 : FVec Ideal S1x1024 .f32) (v58 : FVec Ideal S1024x1024 .bf16) (p : Fin 512) (e : Fin 512) :
    k0_pay17 (F := Ideal) v4 v20 v30 v32 v34 v58 (ix2 p e) = k0_pay13 (F := Ideal) v4 v20 v30 v32 v34 v58 (ix2 p ⟨e.val, by omega⟩) := by
  pointwise [k0_pay17, k0_pay14]

theorem pay15_at (v4 v20 : FVec Ideal S512x1024 .f32) (v30 : FVec Ideal S512x1 .f32) (v32 : FVec Ideal S512x1024 .f32) (v34 : FVec Ideal S1x1024 .f32) (v58 : FVec Ideal S1024x1024 .bf16) (p : Fin 512) (e : Fin 512) :
    k0_pay15 (F := Ideal) v4 v20 v30 v32 v34 v58 (ix2 p e) = k0_pay13 (F := Ideal) v4 v20 v30 v32 v34 v58 (ix2 p ⟨512 + e.val, by omega⟩) := by
  pointwise [k0_pay15]

end Cert.Proof.Mlp
-- ==== Proof.Alg.lean ====
/-
  Arithmetic of the extended reals that are real numbers: closure of the predicate `IsR`, the float constants of the
  programs as real numbers, and the two ways of writing the gradient of an RMS norm.
-/
module

public import Idealize.ShloMosaic.PureOps.Ideal
public import Idealize.ShloMosaic.PureOps.Ideal.Laws
public import Idealize.ShloMosaic.Lib.ReduceAll
public import Idealize.ShloMosaic.Lib.Pointwise

@[expose] public section

noncomputable section

namespace Cert.Proof.Alg

open Idealize.ShloMosaic

/-- The extended real is a real number. -/
def IsR (x : EReal) : Prop := ∃ r : ℝ, x = (r : EReal)

theorem isR_coe (r : ℝ) : IsR r := ⟨r, rfl⟩
theorem isR_zero : IsR 0 := ⟨0, rfl⟩
theorem isR_one : IsR 1 := ⟨1, rfl⟩

theorem IsR.add {x y : EReal} : IsR x → IsR y → IsR (x + y) := by
  rintro ⟨a, rfl⟩ ⟨b, rfl⟩; exact ⟨a + b, (EReal.coe_add a b).symm⟩
theorem IsR.sub {x y : EReal} : IsR x → IsR y → IsR (x - y) := by
  rintro ⟨a, rfl⟩ ⟨b, rfl⟩; exact ⟨a - b, (EReal.coe_sub a b).symm⟩
theorem IsR.mul {x y : EReal} : IsR x → IsR y → IsR (x * y) := by
  rintro ⟨a, rfl⟩ ⟨b, rfl⟩; exact ⟨a * b, (EReal.coe_mul a b).symm⟩
theorem IsR.neg {x : EReal} : IsR x → IsR (-x) := by
  rintro ⟨a, rfl⟩; exact ⟨-a, (EReal.coe_neg a).symm⟩
theorem IsR.max {x y : EReal} : IsR x → IsR y → IsR (x ⊔ y) := by
  intro hx hy; rcases le_total x y with h | h
  · rwa [sup_eq_right.2 h]
  · rwa [sup_eq_left.2 h]

theorem coe_sum {ι : Type*} (s : Finset ι) (f : ι → ℝ) : ((∑ i ∈ s, f i : ℝ) : EReal) = ∑ i ∈ s, (f i : EReal) := by
  induction s using Finset.cons_induction with
  | empty => simp
  | cons a s h ih => rw [Finset.sum_cons, Finset.sum_cons, EReal.coe_add, ih]

theorem IsR.sum {ι : Type*} (s : Finset ι) {f : ι → EReal} (h : ∀ i, IsR (f i)) : IsR (∑ i ∈ s, f i) := by
  choose g hg using h
  exact ⟨∑ i ∈ s, g i, by rw [coe_sum]; exact Finset.sum_congr rfl fun i _ => hg i⟩

theorem IsR.sub_self {x : EReal} : IsR x → x - x = 0 := by
  rintro ⟨a, rfl⟩; rw [← EReal.coe_sub, _root_.sub_self, EReal.coe_zero]

theorem div_ne {y : ℝ} (h : y ≠ 0) (x : ℝ) : Ideal.div (x : EReal) (y : EReal) = ((x / y : ℝ) : EReal) := by
  rw [Ideal.div_coe h, ← EReal.coe_mul, mul_one_div]

/-! ### The constants -/

theorem c_two : Ideal.ofBits .f32 1073741824#32 = ((2 : ℝ) : EReal) := by
  simp [Ideal.ofBits, Ideal.ieee, -EReal.coe_mul]; norm_num
theorem c_half_neg : Ideal.ofBits .f32 3204448256#32 = ((-(1 / 2) : ℝ) : EReal) := by
  simp [Ideal.ofBits, Ideal.ieee, -EReal.coe_mul]; norm_num
theorem c_1024 : Ideal.ofBits .f32 1149239296#32 = ((1024 : ℝ) : EReal) := by
  simp [Ideal.ofBits, Ideal.ieee, -EReal.coe_mul]; norm_num

/-- The norm's small constant. -/
theorem c_eps : ∃ e : ℝ, 0 < e ∧ Ideal.ofBits .f32 897988541#32 = (e : EReal) := by
  refine ⟨_, ?_, by simp [Ideal.ofBits, Ideal.ieee, -EReal.coe_mul]; rfl⟩
  norm_num

theorem c_inf : Ideal.ofBits .f32 2139095040#32 = ⊤ := by
  simp [Ideal.ofBits, Ideal.ieee]

theorem rsqrt_pos {v : ℝ} (h : 0 < v) : Ideal.rsqrt (v : EReal) = (((Real.sqrt v)⁻¹ : ℝ) : EReal) := by
  rw [Ideal.rsqrt_coe, if_neg (not_lt.2 h.le), if_neg h.ne']

/-! ### The finiteness precondition -/

/-- An element whose absolute value compares below infinity is a real number. -/
theorem isR_of_lt {x : EReal} (h : max x (-x) < ⊤) : IsR x := by
  induction x using EReal.rec with
  | bot => simp at h
  | top => simp at h
  | coe r => exact ⟨r, rfl⟩

/-- An array of which every absolute value compares below infinity holds real numbers. -/
theorem real_of_all {s t u : Shape} {axes : List (Fin s.rank)} [Subsingleton t.Idx] {x y : FVec Ideal s .f32} (hy : ∀ i, y i = ⊤)
    {init : u.Idx → BitVec 1} {h : s.ReducesTo axes t} {hu : 0 < u.numel} {j : t.Idx}
    (e : Host.reduce IntOp.andi (cmpf .olt (Host.absf x) y) init h hu j = 1#1) (i : s.Idx) : IsR (x i) := by
  have h1 : Ideal.cmp .olt (max (x i) (-(x i))) (y i) = 1#1 := Host.reduce_andi_all _ _ _ _ j e i
  rw [hy i] at h1
  refine isR_of_lt ?_
  by_contra hn
  simp [Ideal.cmp, hn] at h1

theorem and_split {a b : BitVec 1} (h : IntOp.andi a b = 1#1) : a = 1#1 ∧ b = 1#1 := by
  revert h; revert a b; decide

/-! ### An RMS norm's gradient -/

/-- Over the reals: the gradient through `h ↦ h · rsqrt (mean (h · h) + e)` of the cotangents `w`, as derived (the two
    terms through the square) and as one line with `hat = h · r`. -/
theorem norm_back_real {n : Nat} (h w : Fin n → ℝ) (y c e : ℝ) (hc : 0 < c) (he : 0 < e) (d : Fin n) :
    y + (√((∑ x, h x * h x) / c + e))⁻¹ * (w d - h d * (√((∑ x, h x * h x) / c + e))⁻¹ * ((∑ x, w x * (h x * (√((∑ x, h x * h x) / c + e))⁻¹)) / c))
      = y + w d * (√((∑ x, h x * h x) / c + e))⁻¹
        + h d * ((∑ x, h x * w x) * (-(1 / 2) * ((√((∑ x, h x * h x) / c + e))⁻¹ / ((∑ x, h x * h x) / c + e))) / c)
        + ((∑ x, h x * w x) * (-(1 / 2) * ((√((∑ x, h x * h x) / c + e))⁻¹ / ((∑ x, h x * h x) / c + e))) / c) * h d := by
  have hv : 0 < (∑ x, h x * h x) / c + e :=
    add_pos_of_nonneg_of_pos (div_nonneg (Finset.sum_nonneg fun x _ => mul_self_nonneg _) hc.le) he
  generalize (∑ x, h x * h x) / c + e = v at hv
  have hs : ∑ x, w x * (h x * (√v)⁻¹) = (∑ x, h x * w x) * (√v)⁻¹ := by
    rw [Finset.sum_mul]; exact Finset.sum_congr rfl fun x _ => by ring
  have hr : (√v)⁻¹ / v = (√v)⁻¹ * (√v)⁻¹ * (√v)⁻¹ := by
    have : v⁻¹ = (√v)⁻¹ * (√v)⁻¹ := by rw [← mul_inv, Real.mul_self_sqrt hv.le]
    rw [div_eq_mul_inv, this]; ring
  rw [hs, hr]
  ring

/-- The same of extended reals that are real numbers. -/
theorem norm_back {n : Nat} {h w : Fin n → EReal} {y : EReal} (c e : ℝ) (hc : 0 < c) (he : 0 < e) (hh : ∀ x, IsR (h x)) (hw : ∀ x, IsR (w x))
    (hy : IsR y) (d : Fin n) (R T : EReal) (hR : R = Ideal.rsqrt (Ideal.div (∑ x, h x * h x) c + e))
    (hT : T = Ideal.div ((∑ x, h x * w x) * (((-(1 / 2) : ℝ) : EReal) * Ideal.div R (Ideal.div (∑ x, h x * h x) c + e))) c) :
    y + R * (w d - h d * R * Ideal.div (∑ x, w x * (h x * R)) c) = y + w d * R + h d * T + T * h d := by
  choose h' hh' using hh
  choose w' hw' using hw
  obtain ⟨y, rfl⟩ := hy
  obtain rfl : h = fun x => (h' x : EReal) := funext hh'
  obtain rfl : w = fun x => (w' x : EReal) := funext hw'
  have hv : 0 < (∑ x, h' x * h' x) / c + e :=
    add_pos_of_nonneg_of_pos (div_nonneg (Finset.sum_nonneg fun x _ => mul_self_nonneg _) hc.le) he
  have k := norm_back_real h' w' y c e hc he d
  rw [← EReal.coe_eq_coe_iff] at k
  simp only [← EReal.coe_mul, ← coe_sum, div_ne hc.ne', ← EReal.coe_add, rsqrt_pos hv] at hR
  subst hR
  simp only [← EReal.coe_mul, ← coe_sum, div_ne hc.ne', ← EReal.coe_add, div_ne hv.ne'] at hT
  subst hT
  simp only [← EReal.coe_mul, ← coe_sum, div_ne hc.ne', ← EReal.coe_add, ← EReal.coe_sub]
  exact k

/-- The norm's reciprocal root is a real number. -/
theorem isR_norm {n : Nat} {h : Fin n → EReal} (c e : ℝ) (hc : 0 < c) (he : 0 < e) (hh : ∀ x, IsR (h x)) :
    IsR (Ideal.rsqrt (Ideal.div (∑ x, h x * h x) c + e)) := by
  choose h' hh' using hh
  obtain rfl : h = fun x => (h' x : EReal) := funext hh'
  have hv : 0 < (∑ x, h' x * h' x) / c + e :=
    add_pos_of_nonneg_of_pos (div_nonneg (Finset.sum_nonneg fun x _ => mul_self_nonneg _) hc.le) he
  simp only [← EReal.coe_mul, ← coe_sum, div_ne hc.ne', ← EReal.coe_add, rsqrt_pos hv]
  exact isR_coe _

/-! ### Squared ReLU -/

/-- The root of the squared ReLU is the ReLU. -/
theorem sqrt_relu (u : EReal) : Ideal.sqrt (max u 0 * max u 0) = max u 0 := by
  have h0 : 0 ≤ max u 0 := le_max_right _ _
  generalize max u 0 = v at h0
  induction v using EReal.rec with
  | bot => simp at h0
  | top => simp
  | coe r =>
    have hr : 0 ≤ r := by exact_mod_cast h0
    rw [← EReal.coe_mul, Ideal.sqrt_coe, if_neg (not_lt.2 (mul_nonneg hr hr)), Real.sqrt_mul_self hr]

/-! ### A host sum over the two leading axes -/

theorem drop01_iff {a b c : Nat} (h : (⟨3, ![a, b, c]⟩ : Shape).ReducesTo [0, 1] ⟨1, ![c]⟩) (e : Fin c) (i : (⟨3, ![a, b, c]⟩ : Shape).Idx) :
    h.drop i = ix1 e ↔ ∃ k : Fin a × Fin b, ix3 k.1 k.2 e = i := by
  constructor
  · intro q
    refine ⟨(i 0, i 1), funext fun z => ?_⟩
    fin_cases z
    · rfl
    · rfl
    · exact (congrFun q 0).symm
  · rintro ⟨k, rfl⟩
    funext z
    fin_cases z
    rfl

theorem reduce01 {a b c : Nat} (h : (⟨3, ![a, b, c]⟩ : Shape).ReducesTo [0, 1] ⟨1, ![c]⟩) (x : (⟨3, ![a, b, c]⟩ : Shape).Idx → EReal) (v : EReal)
    (e : Fin c) : Ideal.hostReduceAdd h x v (ix1 e) = v + ∑ i, ∑ j, x (ix3 i j e) := by
  unfold Ideal.hostReduceAdd
  rw [Finset.sum_filter_eq_sum_of_fiber _ (fun k : Fin a × Fin b => ix3 k.1 k.2 e) ?_ ?_ x, Fintype.sum_prod_type]
  · intro k l q
    exact Prod.ext (congrFun q 0) (congrFun q 1)
  · exact fun i => drop01_iff h e i

end Cert.Proof.Alg
-- ==== Proof.MlpRef.lean ====
module

public import proofs.«01_k».proof.Proof.Gen.ReferenceIdeal.Read
public import Idealize.ShloMosaic.Lib.Pointwise
public import Idealize.ShloMosaic.PureOps.Ideal.Laws
public import proofs.«01_k».proof.Proof.Alg

@[expose] public section

set_option maxRecDepth 16384

noncomputable section

namespace Cert.Proof.MlpR

open Idealize.ShloMosaic Idealize.ShloMosaic.TcCoe Idealize.SL.Sem
open Cert.Proof.Alg
open Cert.ReferenceIdeal Cert.ReferenceIdeal.Gen Cert.ReferenceIdeal.Read

variable (x0 : FVec Ideal S2x4096x1024 .f32) (x1 x2 : FVec Ideal S2x4096x512 .f32) (x3 : FVec Ideal S1024x1024 .f32)
  (x4 : FVec Ideal S1024 .f32) (x5 : FVec Ideal S1024x4096 .f32) (x6 : FVec Ideal S4096x1024 .f32) (x7 : FVec Ideal S2x4096x1024 .f32)

theorem h_real (r0 : ∀ i, IsR (x0 i)) (r1 : ∀ i, IsR (x1 i)) (r2 : ∀ i, IsR (x2 i)) (r3 : ∀ i, IsR (x3 i)) (b : Fin 2) (s : Fin 4096) (d : Fin 1024) :
    IsR ((val_main_v2 (F := Ideal) x0 x1 x2 x3 : FVec Ideal S2x4096x1024 .f32) (ix3 b s d)) := by
  pointwise [val_main_v2, val_main_v1, val_main_v0]
  exact (r0 _).add ((IsR.sum _ fun k => (r1 _).mul (r3 _)).add (IsR.sum _ fun k => (r2 _).mul (r3 _)))

/-- The norm's reciprocal root. -/
theorem r_at (b : Fin 2) (s : Fin 4096) :
    (val_main_v10 (F := Ideal) x0 x1 x2 x3 : FVec Ideal S2x4096x1 .f32) (ix3 b s 0)
      = Ideal.rsqrt (Ideal.div (∑ x, val_main_v2 (F := Ideal) x0 x1 x2 x3 (ix3 b s x) * val_main_v2 (F := Ideal) x0 x1 x2 x3 (ix3 b s x)) (Ideal.ofBits .f32 1149239296#32)
          + Ideal.ofBits .f32 897988541#32) := by
  pointwise [val_main_v10, val_main_v9, val_main_v8, val_main_v7, val_main_v6, val_main_v5, val_main_v4, val_main_v3, val_main_cst, val_main_cst_0, val_main_cst_1]

theorem u_at (b : Fin 2) (s : Fin 4096) (f : Fin 4096) :
    (val_main_v19 (F := Ideal) x0 x1 x2 x3 x4 x5 : FVec Ideal S2x4096x4096 .f32) (ix3 b s f)
      = ∑ d : Fin 1024, val_main_v2 (F := Ideal) x0 x1 x2 x3 (ix3 b s d) * val_main_v10 (F := Ideal) x0 x1 x2 x3 (ix3 b s 0) * x4 (ix1 d) * x5 (ix2 d f) := by
  pointwise [val_main_v19, val_main_v18, val_main_v17, val_main_v16, val_main_v15, val_main_v14]

theorem u2 : val_main_v76 (F := Ideal) x0 x1 x2 x3 x4 x5 = val_main_v19 (F := Ideal) x0 x1 x2 x3 x4 x5 := rfl

/-- The squared ReLU's derivative: the select on the sign agrees with twice the ReLU. -/
theorem select_relu (u a : EReal) :
    Scalar.select (Ideal.cmp .ogt u 0) (a * (Ideal.ofBits .f32 1073741824#32 * max u 0)) 0 = a * (Ideal.ofBits .f32 1073741824#32 * max u 0) := by
  by_cases h : 0 < u
  · simp [Scalar.select, Ideal.cmp, h]
  · rw [max_eq_right (not_lt.1 h), mul_zero, mul_zero]; simp [Scalar.select]

theorem du_at (b : Fin 2) (s f : Fin 4096) :
    (val_main_v34 (F := Ideal) x0 x1 x2 x3 x4 x5 x6 x7 : FVec Ideal S2x4096x4096 .f32) (ix3 b s f)
      = (∑ d : Fin 1024, x7 (ix3 b s d) * x6 (ix2 f d))
        * (Ideal.ofBits .f32 1073741824#32 * max (val_main_v19 (F := Ideal) x0 x1 x2 x3 x4 x5 (ix3 b s f)) 0) := by
  rw [← select_relu]
  pointwise [val_main_v34, val_main_v22, val_main_v21, val_main_v32, val_main_v33, val_main_v31, val_main_v30, val_main_v29, val_main_v26, val_main_v25, val_main_v20, val_main_call0_v0, val_main_call0_cst, val_main_cst_3, val_main_cst_4, val_main_cst_5, val_main_cst_6]

theorem du2_at (row : Fin 8192) (f : Fin 4096) :
    (val_main_v102 (F := Ideal) x0 x1 x2 x3 x4 x5 x6 x7 : FVec Ideal S8192x4096 .bf16) (ix2 row f)
      = (∑ d : Fin 1024, x7 (ix3 ⟨row.val / 4096, by omega⟩ ⟨row.val % 4096, by omega⟩ d) * x6 (ix2 f d))
        * (Ideal.ofBits .f32 1073741824#32 * max (val_main_v19 (F := Ideal) x0 x1 x2 x3 x4 x5 (ix3 ⟨row.val / 4096, by omega⟩ ⟨row.val % 4096, by omega⟩ f)) 0) := by
  rw [← select_relu, ← u2]
  pointwise [val_main_v102, val_main_v101, val_main_v88, val_main_v79, val_main_v78, val_main_v86, val_main_v87, val_main_v85, val_main_v83, val_main_v82, val_main_v77, val_main_call1_v0, val_main_call1_cst, val_main_cst_15, val_main_cst_16, val_main_cst_17, val_main_cst_18]

theorem dhn_at (b : Fin 2) (s : Fin 4096) (d : Fin 1024) :
    (val_main_v35 (F := Ideal) x0 x1 x2 x3 x4 x5 x6 x7 : FVec Ideal S2x4096x1024 .f32) (ix3 b s d)
      = ∑ f : Fin 4096, val_main_v34 (F := Ideal) x0 x1 x2 x3 x4 x5 x6 x7 (ix3 b s f) * x5 (ix2 d f) := by
  pointwise [val_main_v35]

section Finite

variable (r0 : ∀ i, IsR (x0 i)) (r1 : ∀ i, IsR (x1 i)) (r2 : ∀ i, IsR (x2 i)) (r3 : ∀ i, IsR (x3 i)) (r4 : ∀ i, IsR (x4 i)) (r5 : ∀ i, IsR (x5 i))
  (r6 : ∀ i, IsR (x6 i)) (r7 : ∀ i, IsR (x7 i))
include r0 r1 r2 r3

theorem r_real (b : Fin 2) (s : Fin 4096) : IsR ((val_main_v10 (F := Ideal) x0 x1 x2 x3 : FVec Ideal S2x4096x1 .f32) (ix3 b s 0)) := by
  obtain ⟨e, he, ee⟩ := c_eps
  rw [r_at, c_1024, ee]
  exact isR_norm 1024 e (by norm_num) he fun d => h_real x0 x1 x2 x3 r0 r1 r2 r3 b s d

include r4 r5 r6 r7

theorem du_real (b : Fin 2) (s f : Fin 4096) : IsR ((val_main_v34 (F := Ideal) x0 x1 x2 x3 x4 x5 x6 x7 : FVec Ideal S2x4096x4096 .f32) (ix3 b s f)) := by
  rw [du_at, u_at, c_two]
  refine (IsR.sum _ fun d => (r7 _).mul (r6 _)).mul ((isR_coe 2).mul (IsR.max (IsR.sum _ fun d => ?_) isR_zero))
  exact (((h_real x0 x1 x2 x3 r0 r1 r2 r3 b s d).mul (r_real x0 x1 x2 x3 r0 r1 r2 r3 b s)).mul (r4 _)).mul (r5 _)

theorem dhn_real (b : Fin 2) (s : Fin 4096) (d : Fin 1024) : IsR ((val_main_v35 (F := Ideal) x0 x1 x2 x3 x4 x5 x6 x7 : FVec Ideal S2x4096x1024 .f32) (ix3 b s d)) := by
  rw [dhn_at]
  exact IsR.sum _ fun f => (du_real x0 x1 x2 x3 x4 x5 x6 x7 r0 r1 r2 r3 r4 r5 r6 r7 b s f).mul (r5 _)

/-- The residual stream's gradient, in one line. -/
theorem dh_at (b : Fin 2) (s : Fin 4096) (d : Fin 1024) :
    (val_main_v56 (F := Ideal) x0 x1 x2 x3 x4 x5 x6 x7 : FVec Ideal S2x4096x1024 .f32) (ix3 b s d)
      = x7 (ix3 b s d) + val_main_v10 (F := Ideal) x0 x1 x2 x3 (ix3 b s 0)
        * (val_main_v35 (F := Ideal) x0 x1 x2 x3 x4 x5 x6 x7 (ix3 b s d) * x4 (ix1 d)
          - val_main_v2 (F := Ideal) x0 x1 x2 x3 (ix3 b s d) * val_main_v10 (F := Ideal) x0 x1 x2 x3 (ix3 b s 0)
            * Ideal.div (∑ x : Fin 1024, val_main_v35 (F := Ideal) x0 x1 x2 x3 x4 x5 x6 x7 (ix3 b s x) * x4 (ix1 x)
                * (val_main_v2 (F := Ideal) x0 x1 x2 x3 (ix3 b s x) * val_main_v10 (F := Ideal) x0 x1 x2 x3 (ix3 b s 0))) (Ideal.ofBits .f32 1149239296#32)) := by
  obtain ⟨e, he, ee⟩ := c_eps
  have k := norm_back (h := fun x => val_main_v2 (F := Ideal) x0 x1 x2 x3 (ix3 b s x)) (w := fun x => val_main_v35 (F := Ideal) x0 x1 x2 x3 x4 x5 x6 x7 (ix3 b s x) * x4 (ix1 x))
    1024 e (by norm_num) he (fun x => h_real x0 x1 x2 x3 r0 r1 r2 r3 b s x) (fun x => (dhn_real x0 x1 x2 x3 x4 x5 x6 x7 r0 r1 r2 r3 r4 r5 r6 r7 b s x).mul (r4 _)) (r7 (ix3 b s d)) d
    (val_main_v10 (F := Ideal) x0 x1 x2 x3 (ix3 b s 0)) _ (by rw [r_at, c_1024, ee]) rfl
  rw [c_1024]
  refine Eq.trans ?_ k.symm
  simp only [← c_1024, ← ee, ← c_half_neg]
  pointwise [val_main_v56, val_main_v55, val_main_v54, val_main_v53, val_main_v52, val_main_v51, val_main_v50, val_main_v49, val_main_v48, val_main_v47, val_main_v46, val_main_v45, val_main_v44, val_main_v43, val_main_v42, val_main_v40, val_main_v39, val_main_v16, val_main_v13, val_main_v12, val_main_v11, val_main_v9, val_main_v8, val_main_v7, val_main_v6, val_main_v5, val_main_v4, val_main_v3, val_main_v29,
    val_main_cst, val_main_cst_0, val_main_cst_1, val_main_cst_2, val_main_cst_9, val_main_cst_10, val_main_cst_11]
  simp only [Fin.sum_univ_one]

theorem dh_real (b : Fin 2) (s : Fin 4096) (d : Fin 1024) :
    IsR ((val_main_v56 (F := Ideal) x0 x1 x2 x3 x4 x5 x6 x7 : FVec Ideal S2x4096x1024 .f32) (ix3 b s d)) := by
  have hr := r_real x0 x1 x2 x3 r0 r1 r2 r3 b s
  have hd := dhn_real x0 x1 x2 x3 x4 x5 x6 x7 r0 r1 r2 r3 r4 r5 r6 r7 b s
  have hh := h_real x0 x1 x2 x3 r0 r1 r2 r3 b s
  rw [dh_at x0 x1 x2 x3 x4 x5 x6 x7 r0 r1 r2 r3 r4 r5 r6 r7, c_1024, Ideal.div_coe (by norm_num)]
  exact (r7 _).add (hr.mul (((hd _).mul (r4 _)).sub (((hh _).mul hr).mul ((IsR.sum _ fun x => ((hd x).mul (r4 _)).mul ((hh x).mul hr)).mul (isR_coe _)))))

end Finite

theorem dm_at (b : Fin 2) (s : Fin 4096) (e : Fin 1024) :
    (val_main_v57 (F := Ideal) x0 x1 x2 x3 x4 x5 x6 x7 : FVec Ideal S2x4096x1024 .f32) (ix3 b s e)
      = ∑ d : Fin 1024, val_main_v56 (F := Ideal) x0 x1 x2 x3 x4 x5 x6 x7 (ix3 b s d) * x3 (ix2 e d) := by
  pointwise [val_main_v57]

theorem dx_at (row : Fin 8192) (d : Fin 1024) :
    (val_main_v103 (F := Ideal) x0 x1 x2 x3 x4 x5 x6 x7 : FVec Ideal S8192x1024 .f32) (ix2 row d)
      = val_main_v56 (F := Ideal) x0 x1 x2 x3 x4 x5 x6 x7 (ix3 ⟨row.val / 4096, by omega⟩ ⟨row.val % 4096, by omega⟩ d) := by
  pointwise [val_main_v103]

theorem dx2_at (row : Fin 8192) (d : Fin 1024) :
    (val_main_v105 (F := Ideal) x0 x1 x2 x3 x4 x5 x6 x7 : FVec Ideal S8192x1024 .bf16) (ix2 row d)
      = val_main_v56 (F := Ideal) x0 x1 x2 x3 x4 x5 x6 x7 (ix3 ⟨row.val / 4096, by omega⟩ ⟨row.val % 4096, by omega⟩ d) := by
  pointwise [val_main_v105, val_main_v104]

theorem dma_at (row : Fin 8192) (e : Fin 512) :
    (val_main_v107 (F := Ideal) x0 x1 x2 x3 x4 x5 x6 x7 : FVec Ideal S8192x512 .bf16) (ix2 row e)
      = val_main_v57 (F := Ideal) x0 x1 x2 x3 x4 x5 x6 x7 (ix3 ⟨row.val / 4096, by omega⟩ ⟨row.val % 4096, by omega⟩ ⟨e.val, by omega⟩) := by
  pointwise [val_main_v107, val_main_v106, val_main_v58]

theorem dla_at (row : Fin 8192) (l : Fin 128) :
    (val_main_v111 (F := Ideal) x0 x1 x2 x3 x4 x5 x6 x7 : FVec Ideal S8192x128 .f32) (ix2 row l)
      = if h : l.val < 8 then
          ∑ x : Fin 64, val_main_v57 (F := Ideal) x0 x1 x2 x3 x4 x5 x6 x7 (ix3 ⟨row.val / 4096, by omega⟩ ⟨row.val % 4096, by omega⟩ ⟨l.val * 64 + x.val, by omega⟩)
            * x1 (ix3 ⟨row.val / 4096, by omega⟩ ⟨row.val % 4096, by omega⟩ ⟨l.val * 64 + x.val, by omega⟩)
        else 0 := by
  pointwise [val_main_v111, val_main_v91, val_main_v90, val_main_v89, val_main_v58, val_main_v110, val_main_cst_19, val_main_cst_23]

theorem dob_at (row : Fin 8192) (n : Fin 8) (l : Fin 128) :
    (val_main_v100 (F := Ideal) x0 x1 x2 x3 x4 x5 x6 x7 : FVec Ideal S8192x8x128 .f32) (ix3 row n l)
      = if h : l.val < 64 then
          val_main_v57 (F := Ideal) x0 x1 x2 x3 x4 x5 x6 x7 (ix3 ⟨row.val / 4096, by omega⟩ ⟨row.val % 4096, by omega⟩ ⟨512 + (n.val * 64 + l.val), by omega⟩)
        else if l.val = 74 then
          -∑ x : Fin 64, val_main_v57 (F := Ideal) x0 x1 x2 x3 x4 x5 x6 x7 (ix3 ⟨row.val / 4096, by omega⟩ ⟨row.val % 4096, by omega⟩ ⟨512 + (n.val * 64 + x.val), by omega⟩)
            * x2 (ix3 ⟨row.val / 4096, by omega⟩ ⟨row.val % 4096, by omega⟩ ⟨n.val * 64 + x.val, by omega⟩)
        else 0 := by
  pointwise [val_main_v100, val_main_v99, val_main_v98, val_main_v97, val_main_v96, val_main_v95, val_main_v94, val_main_v93, val_main_v92, val_main_v59, val_main_cst_20, val_main_cst_21, val_main_cst_22]
  by_cases h : l.val < 64
  · rw [dif_pos h, dif_pos h]
  · rw [dif_neg h, dif_neg h]
    by_cases h2 : l.val = 74
    · rw [dif_neg (by omega), dif_pos (by omega), if_pos h2]
    · rw [if_neg h2]
      split
      · rfl
      · rw [dif_neg (by omega)]

theorem dob2_at (row : Fin 8192) (k : Fin 1024) :
    (val_main_v109 (F := Ideal) x0 x1 x2 x3 x4 x5 x6 x7 : FVec Ideal S8192x1024 .bf16) (ix2 row k)
      = val_main_v100 (F := Ideal) x0 x1 x2 x3 x4 x5 x6 x7 (ix3 row ⟨k.val / 128, by omega⟩ ⟨k.val % 128, by omega⟩) := by
  pointwise [val_main_v109, val_main_v108]

/-- The gain's gradient. -/
theorem gg_at (d : Fin 1024) :
    (val_main_v112 (F := Ideal) x0 x1 x2 x3 x4 x5 x6 x7 : FVec Ideal S1x1024 .f32) (ix2 0 d)
      = ∑ b : Fin 2, ∑ s : Fin 4096, val_main_v2 (F := Ideal) x0 x1 x2 x3 (ix3 b s d) * val_main_v10 (F := Ideal) x0 x1 x2 x3 (ix3 b s 0)
          * val_main_v35 (F := Ideal) x0 x1 x2 x3 x4 x5 x6 x7 (ix3 b s d) := by
  have k : (val_main_v37 (F := Ideal) x0 x1 x2 x3 x4 x5 x6 x7 : FVec Ideal S1024 .f32) (ix1 d)
      = ∑ b : Fin 2, ∑ s : Fin 4096, val_main_v36 (F := Ideal) x0 x1 x2 x3 x4 x5 x6 x7 (ix3 b s d) := by
    refine (reduce01 (a := 2) (b := 4096) (c := 1024) reducesTo_S2x4096x1024_S1024_d0_1 _ _ d).trans ?_
    pointwise [val_main_cst_7]
  have k2 : (val_main_v41 (F := Ideal) x0 x1 x2 x3 x4 x5 x6 x7 : FVec Ideal S1024 .f32) (ix1 d) = val_main_v37 (F := Ideal) x0 x1 x2 x3 x4 x5 x6 x7 (ix1 d) := by
    refine (reduce01 (a := 1) (b := 1) (c := 1024) reducesTo_S1x1x1024_S1024_d0_1 _ _ d).trans ?_
    pointwise [val_main_cst_8, val_main_v38]
    simp only [Fin.sum_univ_one]
  have k3 : (val_main_v112 (F := Ideal) x0 x1 x2 x3 x4 x5 x6 x7 : FVec Ideal S1x1024 .f32) (ix2 0 d) = val_main_v41 (F := Ideal) x0 x1 x2 x3 x4 x5 x6 x7 (ix1 d) := by
    pointwise [val_main_v112]
  rw [k3, k2, k]
  pointwise [val_main_v36, val_main_v15, val_main_v14]

end Cert.Proof.MlpR
-- ==== Proof.MlpBlk.lean ====
module

public import proofs.«01_k».proof.Proof.MlpIn
public import proofs.«01_k».proof.Proof.MlpPay
public import proofs.«01_k».proof.Proof.MlpRef

@[expose] public section

set_option maxRecDepth 16384

noncomputable section

namespace Cert.Proof.Mlp

open Idealize.ShloMosaic Idealize.ShloMosaic.TcCoe Idealize.SL.Sem
open Idealize.ShloMosaic.Pipeline (Dat)
open Cert.Proof.Alg
open Cert.KernelIdeal Cert.KernelIdeal.Gen

variable (m : (ℓ : Loc nD τ sig) → Buf (Elt Ideal) ℓ)

abbrev dhn (c : Dev nD) (t : Fin cfg0.N) : FVec Ideal S512x1024 .f32 := k0_pay5 (F := Ideal) (iblk m c 0 t) (iblk m c 5 t) (iblk m c 1 t) (iblk m c 6 t)
abbrev dhb (c : Dev nD) (t : Fin cfg0.N) : FVec Ideal S512x1024 .f32 :=
  k0_pay10 (F := Ideal) (k0_pay3 (iblk m c 0 t)) (dhn m c t) (k0_pay7 (iblk m c 2 t)) (k0_pay8 (iblk m c 2 t)) (k0_pay9 (iblk m c 8 t))

/-! ### The payloads at a tile, in the reference's terms -/

theorem du_t (c : Dev nD) (t : Fin cfg0.N) (p : Fin 512) (f : Fin 4096) :
    k0_pay4 (F := Ideal) (iblk m c 0 t) (iblk m c 5 t) (iblk m c 1 t) (ix2 p f)
      = Cert.ReferenceIdeal.Read.val_main_v34 (F := Ideal) (a0 m c) (a1 m c) (a2 m c) (a3 m c) (a4 m c) (a5 m c) (a6 m c) (a7 m c) (ix3 (rb (row t p)) (rs (row t p)) f) := by
  rw [pay4_at, in1, sqrt_relu, MlpR.du_at]
  simp only [in0, in5]

theorem dhn_t (c : Dev nD) (t : Fin cfg0.N) (p : Fin 512) (d : Fin 1024) :
    dhn m c t (ix2 p d) = Cert.ReferenceIdeal.Read.val_main_v35 (F := Ideal) (a0 m c) (a1 m c) (a2 m c) (a3 m c) (a4 m c) (a5 m c) (a6 m c) (a7 m c) (ix3 (rb (row t p)) (rs (row t p)) d) := by
  rw [dhn, pay5_at, MlpR.dhn_at]
  simp only [du_t, in6]

theorem r_t (c : Dev nD) (t : Fin cfg0.N) (p : Fin 512) :
    k0_pay7 (F := Ideal) (iblk m c 2 t) (ix2 p 0) = Cert.ReferenceIdeal.Read.val_main_v10 (F := Ideal) (a0 m c) (a1 m c) (a2 m c) (a3 m c) (ix3 (rb (row t p)) (rs (row t p)) 0) := by
  rw [pay7_at, MlpR.r_at]
  simp only [in2]

theorem hat_t (c : Dev nD) (t : Fin cfg0.N) (p : Fin 512) (d : Fin 1024) :
    k0_pay8 (F := Ideal) (iblk m c 2 t) (ix2 p d)
      = Cert.ReferenceIdeal.Read.val_main_v2 (F := Ideal) (a0 m c) (a1 m c) (a2 m c) (a3 m c) (ix3 (rb (row t p)) (rs (row t p)) d) * Cert.ReferenceIdeal.Read.val_main_v10 (F := Ideal) (a0 m c) (a1 m c) (a2 m c) (a3 m c) (ix3 (rb (row t p)) (rs (row t p)) 0) := by
  rw [pay8_at, r_t, in2]

theorem pay3_at (v : FVec Ideal S512x1024 .f32) (p : Fin 512) (d : Fin 1024) : k0_pay3 (F := Ideal) v (ix2 p d) = v (ix2 p d) := by
  pointwise [k0_pay3]

theorem pay9_at (v : FVec Ideal S1x1024 .f32) (d : Fin 1024) : k0_pay9 (F := Ideal) v (ix2 0 d) = v (ix2 0 d) := by
  pointwise [k0_pay9]

/-- Every argument array holds real numbers. -/
structure AllReal (c : Dev nD) : Prop where
  r0 : ∀ i, IsR (a0 m c i)
  r1 : ∀ i, IsR (a1 m c i)
  r2 : ∀ i, IsR (a2 m c i)
  r3 : ∀ i, IsR (a3 m c i)
  r4 : ∀ i, IsR (a4 m c i)
  r5 : ∀ i, IsR (a5 m c i)
  r6 : ∀ i, IsR (a6 m c i)
  r7 : ∀ i, IsR (a7 m c i)

theorem dh_t (c : Dev nD) (hf : AllReal m c) (t : Fin cfg0.N) (p : Fin 512) (d : Fin 1024) :
    dhb m c t (ix2 p d) = Cert.ReferenceIdeal.Read.val_main_v56 (F := Ideal) (a0 m c) (a1 m c) (a2 m c) (a3 m c) (a4 m c) (a5 m c) (a6 m c) (a7 m c) (ix3 (rb (row t p)) (rs (row t p)) d) := by
  rw [dhb, pay10_at, MlpR.dh_at _ _ _ _ _ _ _ _ hf.r0 hf.r1 hf.r2 hf.r3 hf.r4 hf.r5 hf.r6 hf.r7]
  simp only [pay3_at, pay9_at, hat_t, r_t, dhn_t, in0, in8]

theorem dm_t (c : Dev nD) (hf : AllReal m c) (t : Fin cfg0.N) (p : Fin 512) (e : Fin 1024) :
    k0_pay13 (F := Ideal) (k0_pay3 (iblk m c 0 t)) (dhn m c t) (k0_pay7 (iblk m c 2 t)) (k0_pay8 (iblk m c 2 t)) (k0_pay9 (iblk m c 8 t)) (iblk m c 7 t) (ix2 p e)
      = Cert.ReferenceIdeal.Read.val_main_v57 (F := Ideal) (a0 m c) (a1 m c) (a2 m c) (a3 m c) (a4 m c) (a5 m c) (a6 m c) (a7 m c) (ix3 (rb (row t p)) (rs (row t p)) e) := by
  rw [pay13_at, MlpR.dm_at]
  exact Finset.sum_congr rfl fun d _ => by rw [in7]; exact congrArg (· * _) (dh_t m c hf t p d)

/-! ### What each point stores -/

theorem out9 (c : Dev nD) (t : Fin cfg0.N) :
    (outsAt0 m c t.val t.isLt).1 = k0_pay4 (F := Ideal) (iblk m c 0 t) (iblk m c 5 t) (iblk m c 1 t) := by
  by_cases h0 : t.val % 16 = 0
  · rw [outsAt0_A m c t h0]; frame_out
  · rw [outsAt0_B m c t h0]; frame_out

theorem out10 (c : Dev nD) (t : Fin cfg0.N) :
    (outsAt0 m c t.val t.isLt).2.1 = dhb m c t := by
  by_cases h0 : t.val % 16 = 0
  · rw [outsAt0_A m c t h0]; frame_out
  · rw [outsAt0_B m c t h0]; frame_out

theorem out14 (c : Dev nD) (t : Fin cfg0.N) :
    (outsAt0 m c t.val t.isLt).2.2.2.2.2.1 = k0_pay18 (F := Ideal) k0_pay16 (k0_pay17 (k0_pay3 (iblk m c 0 t)) (dhn m c t) (k0_pay7 (iblk m c 2 t)) (k0_pay8 (iblk m c 2 t)) (k0_pay9 (iblk m c 8 t)) (iblk m c 7 t)) (iblk m c 3 t) := by
  by_cases h0 : t.val % 16 = 0
  · rw [outsAt0_A m c t h0]; frame_out
  · rw [outsAt0_B m c t h0]; frame_out

theorem out15_A (c : Dev nD) (t : Fin cfg0.N) (h0 : t.val % 16 = 0) :
    (outsAt0 m c t.val t.isLt).2.2.2.2.2.2 = k0_pay11 (F := Ideal) (dhn m c t) (k0_pay8 (iblk m c 2 t)) (k0_pay2 (F := Ideal)) := by
  rw [outsAt0_A m c t h0]; frame_out

theorem out15_B (c : Dev nD) (t : Fin cfg0.N) (h0 : ¬ t.val % 16 = 0) :
    (outsAt0 m c t.val t.isLt).2.2.2.2.2.2 = k0_pay11 (F := Ideal) (dhn m c t) (k0_pay8 (iblk m c 2 t)) (outsAt0 m c (t.val - 1) (Nat.lt_of_le_of_lt (Nat.sub_le _ _) t.isLt)).2.2.2.2.2.2 := by
  rw [outsAt0_B m c t h0]; frame_out

abbrev dmb (c : Dev nD) (t : Fin cfg0.N) : FVec Ideal S512x512 .bf16 :=
  k0_pay15 (F := Ideal) (k0_pay3 (iblk m c 0 t)) (dhn m c t) (k0_pay7 (iblk m c 2 t)) (k0_pay8 (iblk m c 2 t)) (k0_pay9 (iblk m c 8 t)) (iblk m c 7 t)

/-- The word selects of a head's 128 lanes: the 64 lanes of the gradient, then minus the row sum at lane 74. -/
theorem lanes (l : Fin 128) (N X : EReal) (hN : N - N = 0) :
    Scalar.select (IntOp.cmpi CmpIPredicate.eq (BitVec.ofNat 32 l.val) 74#32) N
      (Scalar.select (IntOp.cmpi CmpIPredicate.eq (BitVec.ofNat 32 l.val) 75#32) (N - N)
        (Scalar.select (IntOp.cmpi CmpIPredicate.eq (BitVec.ofNat 32 l.val) 76#32) (N - N - (N - N))
          (Scalar.select (IntOp.cmpi CmpIPredicate.slt (BitVec.ofNat 32 l.val) 64#32) X 0)))
      = if l.val < 64 then X else if l.val = 74 then N else 0 := by
  have e0 : ∀ l : Fin 128, IntOp.cmpi CmpIPredicate.eq (BitVec.ofNat 32 l.val) 74#32 = if l.val = 74 then 1#1 else 0#1 := by decide +kernel
  have e1 : ∀ l : Fin 128, IntOp.cmpi CmpIPredicate.eq (BitVec.ofNat 32 l.val) 75#32 = if l.val = 75 then 1#1 else 0#1 := by decide +kernel
  have e2 : ∀ l : Fin 128, IntOp.cmpi CmpIPredicate.eq (BitVec.ofNat 32 l.val) 76#32 = if l.val = 76 then 1#1 else 0#1 := by decide +kernel
  have e3 : ∀ l : Fin 128, IntOp.cmpi CmpIPredicate.slt (BitVec.ofNat 32 l.val) 64#32 = if l.val < 64 then 1#1 else 0#1 := by decide +kernel
  rw [e0, e1, e2, e3, hN, sub_zero]
  simp only [Scalar.select]
  split_ifs <;> first | rfl | omega | simp_all

theorem dm_real (c : Dev nD) (hf : AllReal m c) (b : Fin 2) (s : Fin 4096) (e : Fin 1024) : IsR (Cert.ReferenceIdeal.Read.val_main_v57 (F := Ideal) (a0 m c) (a1 m c) (a2 m c) (a3 m c) (a4 m c) (a5 m c) (a6 m c) (a7 m c) (ix3 b s e)) := by
  rw [MlpR.dm_at]
  exact IsR.sum _ fun d => (MlpR.dh_real _ _ _ _ _ _ _ _ hf.r0 hf.r1 hf.r2 hf.r3 hf.r4 hf.r5 hf.r6 hf.r7 b s d).mul (hf.r3 _)

/-- One head's 128 lanes as stored are the reference's. -/
theorem head_at (c : Dev nD) (hf : AllReal m c) (t : Fin cfg0.N) (T : FVec Ideal S512x512 .bf16)
    (eT : ∀ p e, T (ix2 p e) = Cert.ReferenceIdeal.Read.val_main_v57 (F := Ideal) (a0 m c) (a1 m c) (a2 m c) (a3 m c) (a4 m c) (a5 m c) (a6 m c) (a7 m c) (ix3 (rb (row t p)) (rs (row t p)) ⟨512 + e.val, by omega⟩))
    (p : Fin 512) (k : Fin 1024) (n : Nat) (hn : n < 8) (l : Fin 128) (hk : k.val = n * 128 + l.val) (N X : EReal)
    (hN : N = 0 - (∑ q : Fin 512, T (ix2 p q) * iblk m c 4 t (ix2 p q) * (FloatOps.sitofp .f32 (BitVec.setWidth 32 (IntOp.cmpi CmpIPredicate.eq (IntOp.shrui ArithUnit.vector (BitVec.ofNat 32 q.val) 6#32) (BitVec.ofNat 32 n))) : Ideal .f32))) (hX : ∀ h : l.val < 64, X = T (ix2 p ⟨n * 64 + l.val, by omega⟩)) :
    Scalar.select (IntOp.cmpi CmpIPredicate.eq (BitVec.ofNat 32 l.val) 74#32) N
      (Scalar.select (IntOp.cmpi CmpIPredicate.eq (BitVec.ofNat 32 l.val) 75#32) (N - N)
        (Scalar.select (IntOp.cmpi CmpIPredicate.eq (BitVec.ofNat 32 l.val) 76#32) (N - N - (N - N))
          (Scalar.select (IntOp.cmpi CmpIPredicate.slt (BitVec.ofNat 32 l.val) 64#32) X 0)))
      = Cert.ReferenceIdeal.Read.val_main_v109 (F := Ideal) (a0 m c) (a1 m c) (a2 m c) (a3 m c) (a4 m c) (a5 m c) (a6 m c) (a7 m c) (ix2 (row t p) k) := by
  have e1 : (∑ q : Fin 512, T (ix2 p q) * iblk m c 4 t (ix2 p q) * (FloatOps.sitofp .f32 (BitVec.setWidth 32 (IntOp.cmpi CmpIPredicate.eq (IntOp.shrui ArithUnit.vector (BitVec.ofNat 32 q.val) 6#32) (BitVec.ofNat 32 n))) : Ideal .f32)) = ∑ q : Fin 64, T (ix2 p ⟨n * 64 + q.val, by omega⟩) * iblk m c 4 t (ix2 p ⟨n * 64 + q.val, by omega⟩) := by
    have := sum_sel (fun q => T (ix2 p q) * iblk m c 4 t (ix2 p q)) n
    rw [dif_pos hn] at this
    rw [← this]
    exact Finset.sum_congr rfl fun q _ => by rw [sel_at q n (by omega)]
  rw [e1, zero_sub] at hN
  have hR : IsR N := by
    rw [hN]
    exact (IsR.sum _ fun q => by rw [eT, in4]; exact (dm_real m c hf _ _ _).mul (hf.r2 _)).neg
  rw [lanes l N X hR.sub_self, MlpR.dob2_at, MlpR.dob_at]
  have k1 : k.val / 128 = n := by omega
  have k2 : k.val % 128 = l.val := by omega
  simp only [k1, k2]
  by_cases h : l.val < 64
  · rw [if_pos h, dif_pos h, hX h, eT]
  · rw [if_neg h, dif_neg h, hN]
    simp only [eT, in4]

set_option maxHeartbeats 800000 in
theorem out13 (c : Dev nD) (hf : AllReal m c) (t : Fin cfg0.N) (p : Fin 512) (k : Fin 1024) :
    (outsAt0 m c t.val t.isLt).2.2.2.2.1 (ix2 p k) = Cert.ReferenceIdeal.Read.val_main_v109 (F := Ideal) (a0 m c) (a1 m c) (a2 m c) (a3 m c) (a4 m c) (a5 m c) (a6 m c) (a7 m c) (ix2 (row t p) k) := by
  have e : dmb m c t = k0_pay15 (F := Ideal) (k0_pay3 (iblk m c 0 t)) (k0_pay5 (F := Ideal) (iblk m c 0 t) (iblk m c 5 t) (iblk m c 1 t) (iblk m c 6 t)) (k0_pay7 (iblk m c 2 t)) (k0_pay8 (iblk m c 2 t)) (k0_pay9 (iblk m c 8 t)) (iblk m c 7 t) := rfl
  have eT : ∀ p e, dmb m c t (ix2 p e) = _ := fun p e => (pay15_at _ _ _ _ _ _ p e).trans (dm_t m c hf t p _)
  have hX : ∀ (T : FVec Ideal S512x512 .bf16) (p : Fin 512) (a b : Fin 512), a.val = b.val → T (ix2 p a) = T (ix2 p b) := fun T p a b h => by rw [Fin.ext h]
  by_cases h0 : t.val % 16 = 0
  on_goal 1 => rw [outsAt0_A m c t h0]
  on_goal 2 => rw [outsAt0_B m c t h0]
  all_goals
    frame_out
    rw [← e]
    clear e
    generalize dmb m c t = T at eT
    generalize hy : (ix2 p k : S512x1024.Idx) = y
    canon_tiles x h
    all_goals
      have hk : k.val = (y 1).val := by rw [← hy]; rfl
      obtain rfl : p = x 0 := Fin.ext (by rw [← h0, ← hy]; rfl)
      have hl : (x 1).val < 128 := (x 1).isLt
      clear hy
      generalize hQ : Cert.ReferenceIdeal.Read.val_main_v109 (F := Ideal) (a0 m c) (a1 m c) (a2 m c) (a3 m c) (a4 m c) (a5 m c) (a6 m c) (a7 m c) (ix2 (row t (x 0)) k) = Q
      open_payloads
      pointwise
      first
        | (have hk' : k.val = 0 * 128 + (x 1).val := by omega
           clear hk h1
           refine (head_at m c hf t T eT (x 0) k 0 (by omega) (x 1) hk' _ _ rfl ?_).trans hQ
           intro h
           refine hX T _ _ _ ?_
           dsimp only
           all_goals omega)
        | (have hk' : k.val = 1 * 128 + (x 1).val := by omega
           clear hk h1
           refine (head_at m c hf t T eT (x 0) k 1 (by omega) (x 1) hk' _ _ rfl ?_).trans hQ
           intro h
           refine hX T _ _ _ ?_
           dsimp only
           all_goals omega)
        | (have hk' : k.val = 2 * 128 + (x 1).val := by omega
           clear hk h1
           refine (head_at m c hf t T eT (x 0) k 2 (by omega) (x 1) hk' _ _ rfl ?_).trans hQ
           intro h
           refine hX T _ _ _ ?_
           dsimp only
           all_goals omega)
        | (have hk' : k.val = 3 * 128 + (x 1).val := by omega
           clear hk h1
           refine (head_at m c hf t T eT (x 0) k 3 (by omega) (x 1) hk' _ _ rfl ?_).trans hQ
           intro h
           refine hX T _ _ _ ?_
           dsimp only
           all_goals omega)
        | (have hk' : k.val = 4 * 128 + (x 1).val := by omega
           clear hk h1
           refine (head_at m c hf t T eT (x 0) k 4 (by omega) (x 1) hk' _ _ rfl ?_).trans hQ
           intro h
           refine hX T _ _ _ ?_
           dsimp only
           all_goals omega)
        | (have hk' : k.val = 5 * 128 + (x 1).val := by omega
           clear hk h1
           refine (head_at m c hf t T eT (x 0) k 5 (by omega) (x 1) hk' _ _ rfl ?_).trans hQ
           intro h
           refine hX T _ _ _ ?_
           dsimp only
           all_goals omega)
        | (have hk' : k.val = 6 * 128 + (x 1).val := by omega
           clear hk h1
           refine (head_at m c hf t T eT (x 0) k 6 (by omega) (x 1) hk' _ _ rfl ?_).trans hQ
           intro h
           refine hX T _ _ _ ?_
           dsimp only
           all_goals omega)
        | (have hk' : k.val = 7 * 128 + (x 1).val := by omega
           clear hk h1
           refine (head_at m c hf t T eT (x 0) k 7 (by omega) (x 1) hk' _ _ rfl ?_).trans hQ
           intro h
           refine hX T _ _ _ ?_
           dsimp only
           all_goals omega)

end Cert.Proof.Mlp
-- ==== Proof.MlpVal.lean ====
module

public import proofs.«01_k».proof.Proof.MlpBlk
public import proofs.«01_k».proof.Proof.Gen.KernelIdeal.Value

@[expose] public section

set_option maxRecDepth 16384

noncomputable section

namespace Cert.Proof.Mlp

open Idealize.ShloMosaic Idealize.ShloMosaic.TcCoe Idealize.SL.Sem
open Idealize.ShloMosaic.Pipeline (Dat)
open Cert.Proof.Alg
open Cert.KernelIdeal Cert.KernelIdeal.Gen

variable (m : (ℓ : Loc nD τ sig) → Buf (Elt Ideal) ℓ)

theorem out11 (c : Dev nD) (t : Fin cfg0.N) :
    (outsAt0 m c t.val t.isLt).2.2.1 = k0_pay12 (F := Ideal) (k0_pay3 (iblk m c 0 t)) (dhn m c t) (k0_pay7 (iblk m c 2 t)) (k0_pay8 (iblk m c 2 t)) (k0_pay9 (iblk m c 8 t)) := by
  by_cases h0 : t.val % 16 = 0
  · rw [outsAt0_A m c t h0]; frame_out
  · rw [outsAt0_B m c t h0]; frame_out

theorem out12 (c : Dev nD) (t : Fin cfg0.N) :
    (outsAt0 m c t.val t.isLt).2.2.2.1 = k0_pay14 (F := Ideal) (k0_pay3 (iblk m c 0 t)) (dhn m c t) (k0_pay7 (iblk m c 2 t)) (k0_pay8 (iblk m c 2 t)) (k0_pay9 (iblk m c 8 t)) (iblk m c 7 t) := by
  by_cases h0 : t.val % 16 = 0
  · rw [outsAt0_A m c t h0]; frame_out
  · rw [outsAt0_B m c t h0]; frame_out

theorem pay12_at (v4 v20 : FVec Ideal S512x1024 .f32) (v30 : FVec Ideal S512x1 .f32) (v32 : FVec Ideal S512x1024 .f32) (v34 : FVec Ideal S1x1024 .f32) (p : Fin 512) (d : Fin 1024) :
    k0_pay12 (F := Ideal) v4 v20 v30 v32 v34 (ix2 p d) = k0_pay10 (F := Ideal) v4 v20 v30 v32 v34 (ix2 p d) := by
  pointwise [k0_pay12]

theorem pay14_at (v4 v20 : FVec Ideal S512x1024 .f32) (v30 : FVec Ideal S512x1 .f32) (v32 : FVec Ideal S512x1024 .f32) (v34 : FVec Ideal S1x1024 .f32) (v58 : FVec Ideal S1024x1024 .bf16) (p : Fin 512) (e : Fin 512) :
    k0_pay14 (F := Ideal) v4 v20 v30 v32 v34 v58 (ix2 p e) = k0_pay13 (F := Ideal) v4 v20 v30 v32 v34 v58 (ix2 p ⟨e.val, by omega⟩) := by
  pointwise [k0_pay14]

/-! ### The final arrays -/

theorem point9 (c : Dev nD) (t : Fin cfg0.N) (p : Fin 512) (k : Fin 4096) :
    (outsAt0 m c t.val t.isLt).1 (ix2 p k) = Cert.ReferenceIdeal.Read.val_main_v102 (F := Ideal) (a0 m c) (a1 m c) (a2 m c) (a3 m c) (a4 m c) (a5 m c) (a6 m c) (a7 m c) (ix2 (row t p) k) := by
  rw [out9, du_t, MlpR.du2_at, MlpR.du_at]

theorem final9 (c : Dev nD) : (dats m 0 c).arrAt 9 cfg0.N = Cert.ReferenceIdeal.Read.val_main_v102 (F := Ideal) (a0 m c) (a1 m c) (a2 m c) (a3 m c) (a4 m c) (a5 m c) (a6 m c) (a7 m c) := by
  refine (dats m 0 c).arrAt_eq_of_covers 9 _ (by decide +kernel) fun t _ y => ?_
  blk_simp
  rw [after0_9]
  have e : y = ix2 (y 0) (y 1) := by funext a; fin_cases a <;> rfl
  rw [e]
  refine (point9 m c t (y 0) (y 1)).trans ?_
  blk_ext [idx t]

theorem point10 (c : Dev nD) (hf : AllReal m c) (t : Fin cfg0.N) (p : Fin 512) (k : Fin 1024) :
    (outsAt0 m c t.val t.isLt).2.1 (ix2 p k) = Cert.ReferenceIdeal.Read.val_main_v103 (F := Ideal) (a0 m c) (a1 m c) (a2 m c) (a3 m c) (a4 m c) (a5 m c) (a6 m c) (a7 m c) (ix2 (row t p) k) := by
  rw [out10, dh_t m c hf, MlpR.dx_at]

theorem final10 (c : Dev nD) (hf : AllReal m c) : (dats m 0 c).arrAt 10 cfg0.N = Cert.ReferenceIdeal.Read.val_main_v103 (F := Ideal) (a0 m c) (a1 m c) (a2 m c) (a3 m c) (a4 m c) (a5 m c) (a6 m c) (a7 m c) := by
  refine (dats m 0 c).arrAt_eq_of_covers 10 _ (by decide +kernel) fun t _ y => ?_
  blk_simp
  rw [after0_10]
  have e : y = ix2 (y 0) (y 1) := by funext a; fin_cases a <;> rfl
  rw [e]
  refine (point10 m c hf t (y 0) (y 1)).trans ?_
  blk_ext [idx t]

theorem point11 (c : Dev nD) (hf : AllReal m c) (t : Fin cfg0.N) (p : Fin 512) (k : Fin 1024) :
    (outsAt0 m c t.val t.isLt).2.2.1 (ix2 p k) = Cert.ReferenceIdeal.Read.val_main_v105 (F := Ideal) (a0 m c) (a1 m c) (a2 m c) (a3 m c) (a4 m c) (a5 m c) (a6 m c) (a7 m c) (ix2 (row t p) k) := by
  rw [out11, pay12_at, MlpR.dx2_at]
  exact dh_t m c hf t p k

theorem final11 (c : Dev nD) (hf : AllReal m c) : (dats m 0 c).arrAt 11 cfg0.N = Cert.ReferenceIdeal.Read.val_main_v105 (F := Ideal) (a0 m c) (a1 m c) (a2 m c) (a3 m c) (a4 m c) (a5 m c) (a6 m c) (a7 m c) := by
  refine (dats m 0 c).arrAt_eq_of_covers 11 _ (by decide +kernel) fun t _ y => ?_
  blk_simp
  rw [after0_11]
  have e : y = ix2 (y 0) (y 1) := by funext a; fin_cases a <;> rfl
  rw [e]
  refine (point11 m c hf t (y 0) (y 1)).trans ?_
  blk_ext [idx t]

theorem point12 (c : Dev nD) (hf : AllReal m c) (t : Fin cfg0.N) (p : Fin 512) (k : Fin 512) :
    (outsAt0 m c t.val t.isLt).2.2.2.1 (ix2 p k) = Cert.ReferenceIdeal.Read.val_main_v107 (F := Ideal) (a0 m c) (a1 m c) (a2 m c) (a3 m c) (a4 m c) (a5 m c) (a6 m c) (a7 m c) (ix2 (row t p) k) := by
  rw [out12, pay14_at, dm_t m c hf, MlpR.dma_at]

theorem final12 (c : Dev nD) (hf : AllReal m c) : (dats m 0 c).arrAt 12 cfg0.N = Cert.ReferenceIdeal.Read.val_main_v107 (F := Ideal) (a0 m c) (a1 m c) (a2 m c) (a3 m c) (a4 m c) (a5 m c) (a6 m c) (a7 m c) := by
  refine (dats m 0 c).arrAt_eq_of_covers 12 _ (by decide +kernel) fun t _ y => ?_
  blk_simp
  rw [after0_12]
  have e : y = ix2 (y 0) (y 1) := by funext a; fin_cases a <;> rfl
  rw [e]
  refine (point12 m c hf t (y 0) (y 1)).trans ?_
  blk_ext [idx t]

theorem point13 (c : Dev nD) (hf : AllReal m c) (t : Fin cfg0.N) (p : Fin 512) (k : Fin 1024) :
    (outsAt0 m c t.val t.isLt).2.2.2.2.1 (ix2 p k) = Cert.ReferenceIdeal.Read.val_main_v109 (F := Ideal) (a0 m c) (a1 m c) (a2 m c) (a3 m c) (a4 m c) (a5 m c) (a6 m c) (a7 m c) (ix2 (row t p) k) := by
  exact out13 m c hf t p k

theorem final13 (c : Dev nD) (hf : AllReal m c) : (dats m 0 c).arrAt 13 cfg0.N = Cert.ReferenceIdeal.Read.val_main_v109 (F := Ideal) (a0 m c) (a1 m c) (a2 m c) (a3 m c) (a4 m c) (a5 m c) (a6 m c) (a7 m c) := by
  refine (dats m 0 c).arrAt_eq_of_covers 13 _ (by decide +kernel) fun t _ y => ?_
  blk_simp
  rw [after0_13]
  have e : y = ix2 (y 0) (y 1) := by funext a; fin_cases a <;> rfl
  rw [e]
  refine (point13 m c hf t (y 0) (y 1)).trans ?_
  blk_ext [idx t]

theorem point14 (c : Dev nD) (hf : AllReal m c) (t : Fin cfg0.N) (p : Fin 512) (k : Fin 128) :
    (outsAt0 m c t.val t.isLt).2.2.2.2.2.1 (ix2 p k) = Cert.ReferenceIdeal.Read.val_main_v111 (F := Ideal) (a0 m c) (a1 m c) (a2 m c) (a3 m c) (a4 m c) (a5 m c) (a6 m c) (a7 m c) (ix2 (row t p) k) := by
  rw [out14, pay18_at, MlpR.dla_at]
  simp only [pay17_at, dm_t m c hf, in3]

theorem final14 (c : Dev nD) (hf : AllReal m c) : (dats m 0 c).arrAt 14 cfg0.N = Cert.ReferenceIdeal.Read.val_main_v111 (F := Ideal) (a0 m c) (a1 m c) (a2 m c) (a3 m c) (a4 m c) (a5 m c) (a6 m c) (a7 m c) := by
  refine (dats m 0 c).arrAt_eq_of_covers 14 _ (by decide +kernel) fun t _ y => ?_
  blk_simp
  rw [after0_14]
  have e : y = ix2 (y 0) (y 1) := by funext a; fin_cases a <;> rfl
  rw [e]
  refine (point14 m c hf t (y 0) (y 1)).trans ?_
  blk_ext [idx t]

theorem final15 (c : Dev nD) : (dats m 0 c).arrAt 15 cfg0.N = Cert.ReferenceIdeal.Read.val_main_v112 (F := Ideal) (a0 m c) (a1 m c) (a2 m c) (a3 m c) (a4 m c) (a5 m c) (a6 m c) (a7 m c) := by
  have hA : ∀ (t : Fin cfg0.N) (v : FVec Ideal S1x1024 .f32) (y : S1x1024.Idx), k0_pay11 (F := Ideal) (dhn m c t) (k0_pay8 (iblk m c 2 t)) v y
      = v y + ∑ x : Fin 512, dhn m c t (ix2 x (y 1)) * k0_pay8 (F := Ideal) (iblk m c 2 t) (ix2 x (y 1)) := fun t v y => by
    obtain ⟨d, rfl⟩ : ∃ d : Fin 1024, y = (ix2 0 d : S1x1024.Idx) := ⟨y 1, by funext a; fin_cases a <;> [exact Subsingleton.elim (α := Fin 1) _ _; rfl]⟩
    exact pay11_at _ _ _ d
  have hZ : ∀ y : S1x1024.Idx, k0_pay2 (F := Ideal) y = 0 := fun y => by
    obtain ⟨d, rfl⟩ : ∃ d : Fin 1024, y = (ix2 0 d : S1x1024.Idx) := ⟨y 1, by funext a; fin_cases a <;> [exact Subsingleton.elim (α := Fin 1) _ _; rfl]⟩
    exact pay2_at d
  refine (dats m 0 c).arrAt_eq_of_after_last 15 t0_15 (by decide +kernel) _ fun j => ?_
  blk_simp
  rw [after0_15, Pipeline.eq_sum_fin_of_reset_step_apply_last (fun n h => (outsAt0 m c n h).2.2.2.2.2.2) 16 (fun _ => 0) (fun t y => ∑ x : Fin 512, dhn m c t (ix2 x (y 1)) * k0_pay8 (F := Ideal) (iblk m c 2 t) (ix2 x (y 1)))
    (fun t h y => by rw [out15_A m c t h, hA, hZ])
    (fun t h y => by rw [out15_B m c t h, hA])
    (le_of_eq N_0) t0_15 rfl j, zero_add]
  obtain ⟨d, rfl⟩ : ∃ d : Fin 1024, j = (ix2 0 d : S1x1024.Idx) := ⟨j 1, by funext a; fin_cases a <;> [exact Subsingleton.elim (α := Fin 1) _ _; rfl]⟩
  refine Eq.trans ?_ (MlpR.gg_at (a0 m c) (a1 m c) (a2 m c) (a3 m c) (a4 m c) (a5 m c) (a6 m c) (a7 m c) d).symm
  show (∑ p : Fin cfg0.N, ∑ x : Fin 512, dhn m c p (ix2 x d) * k0_pay8 (F := Ideal) (iblk m c 2 p) (ix2 x d)) = _
  refine Fin.sum_points_lanes_congr 8 fun t k ha hl => ?_
  rw [dhn_t, hat_t, mul_comm]
  have eb : rb (row t k) = ⟨t.val / 8, ha⟩ := Fin.ext (by show (t.val * 512 + k.val) / 4096 = t.val / 8; omega)
  have es : rs (row t k) = ⟨t.val % 8 * 512 + k.val, hl⟩ := Fin.ext (by show (t.val * 512 + k.val) % 4096 = t.val % 8 * 512 + k.val; omega)
  rw [eb, es]

end Cert.Proof.Mlp
-- ==== Proof.MlpClaims.lean ====
module

public import proofs.«01_k».proof.Defs
public import proofs.«01_k».proof.Proof.Gen.Kernel.Frame
public import proofs.«01_k».proof.Proof.Gen.ReferenceIdeal.Run
public import proofs.«01_k».proof.Proof.Gen.Pre_finite_mlp
public import proofs.«01_k».proof.Proof.MlpVal

@[expose] public section

set_option maxRecDepth 16384

noncomputable section

namespace Cert.Proof.Mlp

open Idealize.ShloMosaic Idealize.ShloMosaic.TcCoe Idealize.SL.Sem
open Cert.Proof.Alg
open Cert.KernelIdeal Cert.KernelIdeal.Gen

attribute [local instance] Cert.Kernel.Gen.facts Cert.KernelIdeal.Gen.facts Cert.ReferenceIdeal.Gen.facts Cert.Pre_finite_mlp.Gen.facts

/-- The precondition, read at every entry of the eight arguments. -/
theorem allReal (m : (ℓ : Loc nD τ sig) → Buf (Elt Ideal) ℓ) (h : Cert.Pre_KernelIdeal_finite_mlp m) (c : Dev nD) : AllReal m c := by
  have e := h c
  have e := congrFun e default
  have e0 : IntOp.andi _ _ = 1#1 := e
  obtain ⟨e0, h7⟩ := and_split e0
  obtain ⟨e0, h6⟩ := and_split e0
  obtain ⟨e0, h5⟩ := and_split e0
  obtain ⟨e0, h4⟩ := and_split e0
  obtain ⟨e0, h3⟩ := and_split e0
  obtain ⟨e0, h2⟩ := and_split e0
  obtain ⟨h0, h1⟩ := and_split e0
  exact ⟨real_of_all (fun _ => c_inf) h0, real_of_all (fun _ => c_inf) h1, real_of_all (fun _ => c_inf) h2, real_of_all (fun _ => c_inf) h3,
    real_of_all (fun _ => c_inf) h4, real_of_all (fun _ => c_inf) h5, real_of_all (fun _ => c_inf) h6, real_of_all (fun _ => c_inf) h7⟩

theorem frame_p : Cert.quiescent_Kernel := fun m ρ _ => Cert.Kernel.Gen.frame m ρ

theorem frame_pi : Cert.quiescent_KernelIdeal := fun m ρ _ => Cert.KernelIdeal.Gen.frame m ρ

theorem frame_pi_pre : Cert.quiescent_KernelIdeal_pre_finite_mlp := fun m ρ _ => Cert.KernelIdeal.Gen.frame m ρ

/-- The reference's run, with the counters because it declares no semaphore. -/
theorem frame_ri : Cert.quiescent_ReferenceIdeal := fun m ρ _ =>
  (θ_run Cert.ReferenceIdeal.defs _ _).mono (fun r h => ⟨fun c => (h c).2.2.2.2.2.2.2, sem_eq_zero_of_no_sems (by decide) r.2⟩)
    (Cert.ReferenceIdeal.Value.run (F := Ideal) m ρ)

theorem frame_ri_pre : Cert.quiescent_ReferenceIdeal_pre_finite_mlp := fun m ρ _ => frame_ri m ρ trivial

theorem preserves : Cert.preserves_Kernel_KernelIdeal := trivial

theorem algebraic : Cert.algebraic_KernelIdeal_ReferenceIdeal_pre_finite_mlp := by
  intro m g m' g' hp ha
  have hk := Cert.KernelIdeal.Value.run_blocks (F := Ideal) m g
  have hr := Cert.ReferenceIdeal.Value.run (F := Ideal) m' g'
  have fin := allReal m hp
  refine ⟨_, _, _, _, _, _, _, hk, (θ_run Cert.ReferenceIdeal.defs _ _).mono (fun r h c => ?_) hr⟩
  obtain ⟨q0, q1, q2, q3, q4, q5, q6, qs⟩ := h c
  obtain ⟨b0, b1, b2, b3, b4, b5, b6, b7⟩ := ha c
  rw [Cert.ReferenceIdeal.Read.val_main_v102_eq, b0, b1, b2, b3, b4, b5, b6, b7] at q0
  rw [Cert.ReferenceIdeal.Read.val_main_v103_eq, b0, b1, b2, b3, b4, b5, b6, b7] at q1
  rw [Cert.ReferenceIdeal.Read.val_main_v105_eq, b0, b1, b2, b3, b4, b5, b6, b7] at q2
  rw [Cert.ReferenceIdeal.Read.val_main_v107_eq, b0, b1, b2, b3, b4, b5, b6, b7] at q3
  rw [Cert.ReferenceIdeal.Read.val_main_v109_eq, b0, b1, b2, b3, b4, b5, b6, b7] at q4
  rw [Cert.ReferenceIdeal.Read.val_main_v111_eq, b0, b1, b2, b3, b4, b5, b6, b7] at q5
  rw [Cert.ReferenceIdeal.Read.val_main_v112_eq, b0, b1, b2, b3, b4, b5, b6, b7] at q6
  exact ⟨q0.trans (final9 m c).symm, q1.trans (final10 m c (fin c)).symm, q2.trans (final11 m c (fin c)).symm, q3.trans (final12 m c (fin c)).symm,
    q4.trans (final13 m c (fin c)).symm, q5.trans (final14 m c (fin c)).symm, q6.trans (final15 m c).symm, qs⟩

end Cert.Proof.Mlp
-- ==== Proof.FoxFree.lean ====
/-
  The attention's backward call over any float values: its body reads its four inputs and leaves them as they were, and writes
  its three outputs. The frame follows, in both programs: the two have the same text.
-/
module

public import proofs.«01_k».proof.Proof.Gen.FoxIdeal.Frame
public import proofs.«01_k».proof.Proof.Gen.FoxIdeal.Skeleton
public import proofs.«01_k».proof.Proof.Gen.FoxIdeal.Loops
public import proofs.«01_k».proof.Proof.Gen.Fox
public import proofs.«01_k».proof.Proof.Gen.FoxIdeal
public import Idealize.ShloMosaic.Lib.Claim

@[expose] public section

set_option maxRecDepth 16384

noncomputable section

namespace Cert.Proof.FoxFree

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FoxIdeal Cert.FoxIdeal.Gen

variable {F : FTy → Type} [FloatOps F]

local notation "𝕄" => MT nD τ sig Unit (Elt F) ℕ (UR sig nD τ) ℕ

section
variable (c : Dev nD) (i : grid0.Coords)
  (arg3 : Memref sig .tc .vmem S4096x256 .bf16) (harg3 : arg3.IsWhole) (arg4 : Memref sig .tc .vmem S4096x256 .bf16) (harg4 : arg4.IsWhole)
  (arg5 : Memref sig .tc .vmem S1024x256 .bf16) (harg5 : arg5.IsWhole) (arg6 : Memref sig .tc .vmem S1024x256 .bf16) (harg6 : arg6.IsWhole)
  (arg7 : Memref sig .tc .vmem S4096x256 .f32) (harg7 : arg7.IsWhole) (arg8 : Memref sig .tc .vmem S1024x256 .f32) (harg8 : arg8.IsWhole)
  (arg9 : Memref sig .tc .vmem S1024x256 .f32) (harg9 : arg9.IsWhole)
  (x0 x1 : Vec F S4096x256 .bf16) (x2 x3 : Vec F S1024x256 .bf16)

set_option maxHeartbeats 1000000 in
theorem free :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3
              ∗ (∃ d, owns (c : Thread nD τ) arg7 fullShare d) ∗ (∃ d, owns (c : Thread nD τ) arg8 fullShare d) ∗ (∃ d, owns (c : Thread nD τ) arg9 fullShare d)) -∗ K ⟨⟩))
          ⊢ wp frame (wpE (defs₀ (F := F)) Variants.none c none) E (cc0_fox_bwd i arg3 harg3 arg4 harg4 arg5 harg5 arg6 harg6 arg7 harg7 arg8 harg8 arg9 harg9) K := by
    intro E K
    simp only [cc0_fox_bwd_eq_skeleton]; unfold cc0_fox_bwd_skel
    simp only [k0_part3_eq_skeleton, k0_part4_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
    sl_exec
    sl_step
    iapply Hk
    isplitl [H0]
    · iexists _; isplitr; swap; · iexact H0
      ipureintro; exact hf0
    isplitl [H1]
    · iexists _; isplitr; swap; · iexact H1
      ipureintro; exact hf1
    isplitl [H2]
    · iexists _; isplitr; swap; · iexact H2
      ipureintro; exact hf2
    isplitl [H3]
    · iexists _; isplitr; swap; · iexact H3
      ipureintro; exact hf3
    isplitl [H4]
    · iexists _; iexists _; isplitr; swap; · iexact H4
      ipureintro; rfl
    isplitl [H5]
    · iexists _; iexists _; isplitr; swap; · iexact H5
      ipureintro; rfl
    iexists _; iexists _; isplitr; swap; · iexact H6
    ipureintro; rfl

end

variable (m : (ℓ : Loc nD τ sig) → Buf (Elt F) ℓ) (ρ : Dev nD → PrngReg)

/-- The outputs, of which nothing is said. -/
def fgt (w : Fin cfg0.W) : Bool := decide (4 ≤ w.val)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => k0_pay29
    | ⟨5, _⟩ => constant S1024x256 .f32 0x00000000#32
    | ⟨6, _⟩ => constant S1024x256 .f32 0x00000000#32
    | ⟨_ + 7, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by dsimp only [dats]

set_option maxHeartbeats 1600000 in
theorem body (c : Dev nD) : BodyObligation (dats m 0 c) (defs₀ (F := F)) Variants.none () Set.univ fgt := fun t => by
  rw [bigSep_W0, bigSep_W0]
  refine triple_restated (W := wp frame (wpE (defs₀ (F := F)) Variants.none c none) Set.univ (bodyAt0 t)) ?_ rfl .rfl fun _ => .rfl
  dsimp only
  have f0 : fgt 0 = false := rfl
  have f1 : fgt 1 = false := rfl
  have f2 : fgt 2 = false := rfl
  have f3 : fgt 3 = false := rfl
  have f4 : fgt 4 = true := rfl
  have f5 : fgt 5 = true := rfl
  have f6 : fgt 6 = true := rfl
  simp only [f0, f1, f2, f3, f4, f5, f6]
  have a0 : ∀ t, (dats m 0 c).after 0 t = iblk m c 0 t := fun t => by dsimp only [dats]
  have a1 : ∀ t, (dats m 0 c).after 1 t = iblk m c 1 t := fun t => by dsimp only [dats]
  have a2 : ∀ t, (dats m 0 c).after 2 t = iblk m c 2 t := fun t => by dsimp only [dats]
  have a3 : ∀ t, (dats m 0 c).after 3 t = iblk m c 3 t := fun t => by dsimp only [dats]
  have b0 : ∀ d, (dats m 0 c).before 0 t d = iblk m c 0 t := before0_0_of m (dats m 0 c) (A_eq m c 0) a0 t
  have b1 : ∀ d, (dats m 0 c).before 1 t d = iblk m c 1 t := before0_1_of m (dats m 0 c) (A_eq m c 1) a1 t
  have b2 : ∀ d, (dats m 0 c).before 2 t d = iblk m c 2 t := before0_2_of m (dats m 0 c) (A_eq m c 2) a2 t
  have b3 : ∀ d, (dats m 0 c).before 3 t d = iblk m c 3 t := before0_3_of m (dats m 0 c) (A_eq m c 3) a3 t
  simp only [b0, b1, b2, b3, a0, a1, a2, a3]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, H4, H5, H6⟩
  iapply (free c (grid0.coords t) _ _ _ _ _ _ _ _ _ _ _ _ _ _ (iblk m c 0 t) (iblk m c 1 t) (iblk m c 2 t) (iblk m c 3 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- Every buffer but the arguments: the lines after the call write none of those. -/
def T : Finset (Ref sig .tc) := Finset.univ.filter fun b => b ≠ main_arg0 ∧ b ≠ main_arg1 ∧ b ≠ main_arg2 ∧ b ≠ main_arg3 ∧ b ≠ main_arg4

set_option maxHeartbeats 800000 in
theorem tail_writes : ∀ ops ∈ ([hostOps1] : List (List (HloOp τ sig (Elt F)))), ∀ op ∈ ops, ∀ b : Ref sig .tc, Proc.devRef .tc b ∈ op.writes → b ∈ T := by
  intro ops hops op hop b hb
  simp only [List.mem_cons, List.mem_nil_iff, or_false] at hops
  rcases hops with rfl
  simp only [hostOps1, List.mem_cons, List.mem_nil_iff, or_false] at hop
  simp only [T, Finset.mem_filter, Finset.mem_univ, true_and]
  rcases hop with rfl | rfl | rfl | rfl | rfl | rfl | rfl | rfl | rfl | rfl | rfl | rfl | rfl | rfl | rfl | rfl
  all_goals
    simp only [StableHlo.nullary_writes, StableHlo.unary_writes, StableHlo.binary_writes, StableHlo.reshape_writes, Finset.mem_singleton] at hb
    refine ⟨?_, ?_, ?_, ?_, ?_⟩ <;> rintro rfl <;> exact StableHlo.devRef_ne_of_ne (by decide) hb

theorem kept (b : Ref sig .tc) (h0 : b ∈ Pipeline.restRefs sig spec0) (hT : b ∉ T)
    {r : PUnit × MemSt nD τ sig (Elt F)} (h : Pipeline.RDat.FramePostR cfg0 (fun c => (dats m 0 c).toRForget fgt) T (fun c b => V0 m c (Proc.devRef .tc b)) r) (c : Dev nD) :
    r.2.mem ((c.tc : Thread nD τ).loc b) = V m c b := (h c).2 b (Finset.mem_sdiff.2 ⟨h0, hT⟩)

set_option backward.isDefEq.respectTransparency.types false in
/-- Every run ends, with the arguments as they were and no signal left. -/
theorem ends : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  Pipeline.θ_run_frame_around_T_forget cfgs (dats m) (0 : Fin 1) launch0 defs₀ Variants.none fgt T m ρ main
    (hbody := fun c => (body m c).loose) (hshare := fun c => (dats m 0 c).share_full fun _ => rfl)
    (howed := fun _ _ => rfl) (V₀ := V0 m) (opss := [hostOps1]) (hsub := sfx_sub) (hfresh := sfx_fresh) (hkeep := sfx_keeps) (hT := tail_writes)
    (hmain := hmain m Variants.none) (hA := A_eq m) (hΦ := fun _ _ => rfl)
    (Q' := _)
    (hQ' := fun r h => ⟨fun c => ⟨(kept m main_arg0 (Pipeline.mem_restRefs_of main_arg0 (by decide) (by decide)) (by decide) h.1 c).trans (V_main_arg0 m c),
      (kept m main_arg1 (Pipeline.mem_restRefs_of main_arg1 (by decide) (by decide)) (by decide) h.1 c).trans (V_main_arg1 m c),
      (kept m main_arg2 (Pipeline.mem_restRefs_of main_arg2 (by decide) (by decide)) (by decide) h.1 c).trans (V_main_arg2 m c),
      (kept m main_arg3 (Pipeline.mem_restRefs_of main_arg3 (by decide) (by decide)) (by decide) h.1 c).trans (V_main_arg3 m c),
      (kept m main_arg4 (Pipeline.mem_restRefs_of main_arg4 (by decide) (by decide)) (by decide) h.1 c).trans (V_main_arg4 m c)⟩, h.2⟩)

end Cert.Proof.FoxFree
end
-- ==== Proof.FoxIn.lean ====
/-
  The four packed operands of the attention's backward call, lane by lane: the argument's 64 lanes, and the lanes that carry
  the running sum of the gates, the logarithm of the softmax's denominator and the row sum `delta`, in three parts each.
-/
module

public import proofs.«01_k».proof.Proof.Gen.FoxIdeal.Frame
public import proofs.«01_k».proof.Proof.Gen.FoxReferenceIdeal.Read
public import Idealize.ShloMosaic.Lib.Pipeline.ValueKit
public import Idealize.ShloMosaic.Lib.Pointwise
public import Idealize.ShloMosaic.PureOps.Ideal.Laws
public import Idealize.ShloMosaic.Lib.Claim
public import Idealize.ShloMosaic.Lib.StableHlo.RunRead

@[expose] public section

set_option maxRecDepth 16384

noncomputable section

namespace Cert.Proof.Fox

open Idealize.ShloMosaic Idealize.ShloMosaic.TcCoe Idealize.SL.Sem
open Cert.FoxIdeal Cert.FoxIdeal.Gen

abbrev G3 := FVec Ideal S2x4096x8 .f32
abbrev G64 := FVec Ideal S2x4096x8x64 .f32

/-- An array in three parts: its rounding, the rounding of what is left, and the rest. -/
abbrev hi (x : G3) : G3 := extf .f32 (truncf .bf16 x bitsLt_bf16_f32) bitsLt_bf16_f32
abbrev col (x : G3) : FVec Ideal S2x4096x8x1 .f32 := broadcastInDim S2x4096x8x1 ![0, 1, 2] bcast_S2x4096x8_S2x4096x8x1_0_1_2 x
def parts (x : G3) : FVec Ideal S2x4096x8x3 .f32 :=
  concatenate S2x4096x8x3 3 [⟨S2x4096x8x1, col (hi x)⟩, ⟨S2x4096x8x1, col (hi (subf x (hi x)))⟩,
    ⟨S2x4096x8x1, col (hi (subf (subf x (hi x)) (hi (subf x (hi x)))))⟩] concatenates_S2x4096x8x1_S2x4096x8x1_S2x4096x8x1_S2x4096x8x3_d3
abbrev fill1 (w : BitVec 32) : FVec Ideal S2x4096x8x1 .f32 := broadcastInDim S2x4096x8x1 ![] bcast_S_S2x4096x8x1 (constant S_ .f32 w)
abbrev fill3 (w : BitVec 32) : FVec Ideal S2x4096x8x3 .f32 := broadcastInDim S2x4096x8x3 ![] bcast_S_S2x4096x8x3 (constant S_ .f32 w)
abbrev one : BitVec 32 := 0x3F800000#32
abbrev nil1 : FVec Ideal S2x4096x8x1 .f32 := mulf (fill1 0x00000000#32) (fill1 one)
abbrev nil3 : FVec Ideal S2x4096x8x3 .f32 := mulf (fill3 0x00000000#32) (fill3 one)
abbrev flat (x : FVec Ideal S2x4096x8x128 .f32) : FVec Ideal S8192x1024 .bf16 :=
  truncf .bf16 (shapeCast S8192x1024 x shapeCasts_S2x4096x8x128_S8192x1024) bitsLt_bf16_f32

/-- The two layouts of the 128 lanes. -/
def lanesK (x : G64) (y : FVec Ideal S2x4096x8x1 .f32) (p q r : FVec Ideal S2x4096x8x3 .f32) : FVec Ideal S8192x1024 .bf16 :=
  flat (concatenate S2x4096x8x128 3 [⟨S2x4096x8x64, x⟩, ⟨S2x4096x8x1, y⟩, ⟨S2x4096x8x3, p⟩, ⟨S2x4096x8x3, q⟩, ⟨S2x4096x8x3, r⟩,
    ⟨S2x4096x8x54, broadcastInDim S2x4096x8x54 ![] bcast_S_S2x4096x8x54 (constant S_ .f32 0x00000000#32)⟩]
    concatenates_S2x4096x8x64_S2x4096x8x1_S2x4096x8x3_S2x4096x8x3_S2x4096x8x3_S2x4096x8x54_S2x4096x8x128_d3)
def lanesV (x : G64) (y : FVec Ideal S2x4096x8x1 .f32) (p q r u : FVec Ideal S2x4096x8x3 .f32) : FVec Ideal S8192x1024 .bf16 :=
  flat (concatenate S2x4096x8x128 3 [⟨S2x4096x8x64, x⟩, ⟨S2x4096x8x1, y⟩, ⟨S2x4096x8x3, p⟩, ⟨S2x4096x8x3, q⟩, ⟨S2x4096x8x3, r⟩, ⟨S2x4096x8x3, u⟩,
    ⟨S2x4096x8x51, broadcastInDim S2x4096x8x51 ![] bcast_S_S2x4096x8x51 (constant S_ .f32 0x00000000#32)⟩]
    concatenates_S2x4096x8x64_S2x4096x8x1_S2x4096x8x3_S2x4096x8x3_S2x4096x8x3_S2x4096x8x3_S2x4096x8x51_S2x4096x8x128_d3)

theorem lanesK_at (x : G64) (y : FVec Ideal S2x4096x8x1 .f32) (p q r : FVec Ideal S2x4096x8x3 .f32) (b : Fin 2) (t : Fin 4096) (n : Fin 8) (l : Fin 128) :
    lanesK x y p q r (ix2 (⟨4096 * b.val + t.val, by omega⟩ : Fin 8192) (⟨128 * n.val + l.val, by omega⟩ : Fin 1024))
      = if h : l.val < 64 then x (ix4 b t n ⟨l.val, h⟩) else if h1 : l.val - 64 < 1 then y (ix4 b t n 0)
        else if h2 : l.val - 64 - 1 < 3 then p (ix4 b t n ⟨l.val - 64 - 1, h2⟩) else if h3 : l.val - 64 - 1 - 3 < 3 then q (ix4 b t n ⟨l.val - 64 - 1 - 3, h3⟩)
        else if h4 : l.val - 64 - 1 - 3 - 3 < 3 then r (ix4 b t n ⟨l.val - 64 - 1 - 3 - 3, h4⟩) else 0 := by
  have e0 : (4096 * b.val + t.val) / 4096 = b.val := by omega
  have e1 : (4096 * b.val + t.val) % 4096 = t.val := by omega
  have e2 : (128 * n.val + l.val) / 128 = n.val := by omega
  have e3 : (128 * n.val + l.val) % 128 = l.val := by omega
  pointwise [lanesK]
  congr! 3 with h h1
  exact congrArg (fun z => ix4 b t n z) (Subsingleton.elim _ _)

theorem lanesV_at (x : G64) (y : FVec Ideal S2x4096x8x1 .f32) (p q r u : FVec Ideal S2x4096x8x3 .f32) (b : Fin 2) (t : Fin 4096) (n : Fin 8) (l : Fin 128) :
    lanesV x y p q r u (ix2 (⟨4096 * b.val + t.val, by omega⟩ : Fin 8192) (⟨128 * n.val + l.val, by omega⟩ : Fin 1024))
      = if h : l.val < 64 then x (ix4 b t n ⟨l.val, h⟩) else if h1 : l.val - 64 < 1 then y (ix4 b t n 0)
        else if h2 : l.val - 64 - 1 < 3 then p (ix4 b t n ⟨l.val - 64 - 1, h2⟩) else if h3 : l.val - 64 - 1 - 3 < 3 then q (ix4 b t n ⟨l.val - 64 - 1 - 3, h3⟩)
        else if h4 : l.val - 64 - 1 - 3 - 3 < 3 then r (ix4 b t n ⟨l.val - 64 - 1 - 3 - 3, h4⟩)
        else if h5 : l.val - 64 - 1 - 3 - 3 - 3 < 3 then u (ix4 b t n ⟨l.val - 64 - 1 - 3 - 3 - 3, h5⟩) else 0 := by
  have e0 : (4096 * b.val + t.val) / 4096 = b.val := by omega
  have e1 : (4096 * b.val + t.val) % 4096 = t.val := by omega
  have e2 : (128 * n.val + l.val) / 128 = n.val := by omega
  have e3 : (128 * n.val + l.val) % 128 = l.val := by omega
  pointwise [lanesV]
  congr! 3 with h h1
  exact congrArg (fun z => ix4 b t n z) (Subsingleton.elim _ _)

theorem parts_at (x : G3) (b : Fin 2) (t : Fin 4096) (n : Fin 8) (j : Fin 3) :
    parts x (ix4 b t n j) = if j.val < 1 then x (ix3 b t n) else if j.val - 1 < 1 then x (ix3 b t n) - x (ix3 b t n)
      else x (ix3 b t n) - x (ix3 b t n) - (x (ix3 b t n) - x (ix3 b t n)) := by
  pointwise [parts]
  simp only [dite_eq_ite]

variable (m : (ℓ : Loc nD τ sig) → Buf (Elt Ideal) ℓ) (c : Dev nD)

abbrev a0 : G64 := m (c.tc.loc main_arg0)
abbrev a1 : G64 := m (c.tc.loc main_arg1)
abbrev a2 : G64 := m (c.tc.loc main_arg2)
abbrev a3 : G3 := m (c.tc.loc main_arg3)
abbrev a4 : G64 := m (c.tc.loc main_arg4)

/-- The natural logarithm of two, as the host lines compute it. -/
abbrev ln2 : FVec Ideal S_ .f32 := Host.log (constant (F := Ideal) S_ .f32 0x40000000#32)
abbrev over (x : G3) : G3 := Host.divf x (broadcastInDim S2x4096x8 ![] bcast_S_S2x4096x8 ln2)
abbrev gates : G3 := Cert.FoxReferenceIdeal.Read.val_main_v0 (F := Ideal) (a3 m c)

/-- What the buffers hold after the softmax and the first quotient, before the packing. -/
def mid : Valuation τ sig (Elt Ideal) := StableHlo.after (List.flatten [hostOps0, hostOps0_1, hostOps0_2] ++ hostOps0_3.take 27) (fun b => m (c, b))

theorem V0_mid : V0 m c = StableHlo.after (hostOps0_3.drop 27) (mid m c) := by
  unfold mid V0
  rw [← StableHlo.after_append]
  congr 1

theorem pack_q (σ : Valuation τ sig (Elt Ideal)) :
    (StableHlo.after (hostOps0_3.drop 27) σ (Proc.devRef .tc main_v77) : FVec Ideal S8192x1024 .bf16)
    = lanesK (mulf (F := Ideal) (φ := .f32) (σ (Proc.devRef .tc main_arg0)) (broadcastInDim S2x4096x8x64 ![] bcast_S_S2x4096x8x64 (Host.divf (constant (F := Ideal) S_ .f32 0x3E000000#32) (σ (Proc.devRef .tc main_v37)))))
        (mulf (F := Ideal) (φ := .f32) (fill1 0x00000000#32) (σ (Proc.devRef .tc main_v35))) (σ (Proc.devRef .tc main_v36)) (parts (σ (Proc.devRef .tc main_v39)))
        (parts (Host.negf (F := Ideal) (φ := .f32) (Host.divf (F := Ideal) (φ := .f32) (σ (Proc.devRef .tc main_v27)) (broadcastInDim S2x4096x8 ![] bcast_S_S2x4096x8 (σ (Proc.devRef .tc main_v37) : FVec Ideal S_ .f32))))) := by
  after_reads_simp
  rfl

theorem pack_k (σ : Valuation τ sig (Elt Ideal)) :
    (StableHlo.after (hostOps0_3.drop 27) σ (Proc.devRef .tc main_v84) : FVec Ideal S8192x1024 .bf16)
    = lanesK (σ (Proc.devRef .tc main_arg1)) (mulf (F := Ideal) (φ := .f32) (fill1 0x00000000#32) (σ (Proc.devRef .tc main_v35)))
        (Host.negf (F := Ideal) (φ := .f32) (parts (σ (Proc.devRef .tc main_v39)))) (σ (Proc.devRef .tc main_v36)) (σ (Proc.devRef .tc main_v36)) := by
  after_reads_simp
  rfl

theorem pack_v (σ : Valuation τ sig (Elt Ideal)) :
    (StableHlo.after (hostOps0_3.drop 27) σ (Proc.devRef .tc main_v94) : FVec Ideal S8192x1024 .bf16)
    = lanesV (σ (Proc.devRef .tc main_arg2)) (σ (Proc.devRef .tc main_v35)) (mulf (F := Ideal) (φ := .f32) (fill3 0x00000000#32) (σ (Proc.devRef .tc main_v36)))
        (mulf (F := Ideal) (φ := .f32) (fill3 0x00000000#32) (σ (Proc.devRef .tc main_v36))) (mulf (F := Ideal) (φ := .f32) (fill3 0x00000000#32) (σ (Proc.devRef .tc main_v36))) (σ (Proc.devRef .tc main_v36)) := by
  after_reads_simp
  rfl

theorem pack_g (σ : Valuation τ sig (Elt Ideal)) :
    (StableHlo.after (hostOps0_3.drop 27) σ (Proc.devRef .tc main_v120) : FVec Ideal S8192x1024 .bf16)
    = lanesV (σ (Proc.devRef .tc main_arg4)) (mulf (F := Ideal) (φ := .f32) (fill1 0x00000000#32) (σ (Proc.devRef .tc main_v35))) (mulf (F := Ideal) (φ := .f32) (fill3 0x00000000#32) (σ (Proc.devRef .tc main_v36)))
        (mulf (F := Ideal) (φ := .f32) (fill3 0x00000000#32) (σ (Proc.devRef .tc main_v36))) (mulf (F := Ideal) (φ := .f32) (fill3 0x00000000#32) (σ (Proc.devRef .tc main_v36)))
        (parts (Host.negf (F := Ideal) (φ := .f32) (σ (Proc.devRef .tc main_v34)))) := by
  after_reads_simp
  rfl

/-- The softmax's scores and their greatest per query, as the reference has them. -/
abbrev sc : FVec Ideal S2x8x4096x4096 .f32 := Cert.FoxReferenceIdeal.Read.val_main_v18_0 (F := Ideal) (a0 m c) (a1 m c) (a3 m c)
abbrev mx : FVec Ideal S2x8x4096 .f32 := Cert.FoxReferenceIdeal.Read.val_main_v19 (F := Ideal) (a0 m c) (a1 m c) (a3 m c)

/-- The forward call's host lines over given scores and maxima: the exponentials, their sums, the softmax, the logarithm of the
    denominator, and `delta`. -/
def ex (s : FVec Ideal S2x8x4096x4096 .f32) (x : FVec Ideal S2x8x4096 .f32) : FVec Ideal S2x8x4096x4096 .f32 :=
  Host.exp (subf s (broadcastInDim S2x8x4096x4096 ![0, 1, 2, 3] bcast_S2x8x4096x1_S2x8x4096x4096_0_1_2_3 (broadcastInDim S2x8x4096x1 ![0, 1, 2] bcast_S2x8x4096_S2x8x4096x1_0_1_2 x)))
def den (s : FVec Ideal S2x8x4096x4096 .f32) (x : FVec Ideal S2x8x4096 .f32) : FVec Ideal S2x8x4096 .f32 :=
  Host.reduceAdd (ex s x) (constant S_ .f32 0x00000000#32) reducesTo_S2x8x4096x4096_S2x8x4096_d3 h_S_
def lse (s : FVec Ideal S2x8x4096x4096 .f32) (x : FVec Ideal S2x8x4096 .f32) : G3 :=
  transpose S2x4096x8 [0, 2, 1] (addf x (Host.log (den s x))) transposes_S2x8x4096_S2x4096x8_0_2_1
def prob (s : FVec Ideal S2x8x4096x4096 .f32) (x : FVec Ideal S2x8x4096 .f32) : FVec Ideal S2x8x4096x4096 .f32 :=
  Host.divf (ex s x) (broadcastInDim S2x8x4096x4096 ![0, 1, 2, 3] bcast_S2x8x4096x1_S2x8x4096x4096_0_1_2_3 (broadcastInDim S2x8x4096x1 ![0, 1, 2] bcast_S2x8x4096_S2x8x4096x1_0_1_2 (den s x)))
def delta (g v : G64) (s : FVec Ideal S2x8x4096x4096 .f32) (x : FVec Ideal S2x8x4096 .f32) : G3 :=
  Host.reduceAdd (mulf g (transpose S2x4096x8x64 [0, 3, 1, 2] (Host.dotGeneral dot_S2x4096x8x64_S2x8x4096x4096_S2x8x64x4096_1_3_3_2_02_01 none v (prob s x) : FVec Ideal S2x8x64x4096 .f32) transposes_S2x8x64x4096_S2x4096x8x64_0_3_1_2))
    (constant S_ .f32 0x00000000#32) reducesTo_S2x4096x8x64_S2x4096x8_d3 h_S_

theorem mid_arg0 : mid m c (Proc.devRef .tc main_arg0) = a0 m c := by
  unfold mid
  after_reads_simp
theorem mid_arg1 : mid m c (Proc.devRef .tc main_arg1) = a1 m c := by
  unfold mid
  after_reads_simp
theorem mid_arg2 : mid m c (Proc.devRef .tc main_arg2) = a2 m c := by
  unfold mid
  after_reads_simp
theorem mid_arg4 : mid m c (Proc.devRef .tc main_arg4) = a4 m c := by
  unfold mid
  after_reads_simp
theorem mid_37 : (mid m c (Proc.devRef .tc main_v37) : FVec Ideal S_ .f32) = ln2 := by
  unfold mid
  after_reads_simp
theorem mid_35 : (mid m c (Proc.devRef .tc main_v35) : FVec Ideal S2x4096x8x1 .f32) = fill1 one := by
  unfold mid
  after_reads_simp
theorem mid_36 : (mid m c (Proc.devRef .tc main_v36) : FVec Ideal S2x4096x8x3 .f32) = fill3 one := by
  unfold mid
  after_reads_simp
theorem mid_39 : (mid m c (Proc.devRef .tc main_v39) : G3) = over (gates m c) := by
  unfold mid
  after_reads_simp
  rfl
theorem mid_18 : (mid m c (Proc.devRef .tc main_v18) : FVec Ideal S2x8x4096x4096 .f32) = sc m c := by
  unfold mid
  after_reads_simp
  rfl
theorem mid_19 : (mid m c (Proc.devRef .tc main_v19) : FVec Ideal S2x8x4096 .f32) = mx m c := by
  unfold mid
  after_reads_simp
  rfl
theorem mid_27 : (mid m c (Proc.devRef .tc main_v27) : G3) = lse (sc m c) (mx m c) := by
  rw [← mid_18, ← mid_19]
  unfold mid
  after_reads_simp
  rfl
theorem mid_34 : (mid m c (Proc.devRef .tc main_v34) : G3) = delta (a4 m c) (a2 m c) (sc m c) (mx m c) := by
  rw [← mid_18, ← mid_19]
  unfold mid
  after_reads_simp
  rfl

/-- The four operands. -/
theorem v77_eq : (V m c main_v77 : FVec Ideal S8192x1024 .bf16)
    = lanesK (mulf (F := Ideal) (φ := .f32) (a0 m c) (broadcastInDim S2x4096x8x64 ![] bcast_S_S2x4096x8x64 (Host.divf (constant (F := Ideal) S_ .f32 0x3E000000#32) ln2)))
        nil1 (fill3 one) (parts (over (gates m c))) (parts (Host.negf (over (lse (sc m c) (mx m c))))) := by
  show V0 m c (Proc.devRef .tc main_v77) = _
  rw [V0_mid, pack_q, mid_arg0, mid_37, mid_35, mid_36, mid_39, mid_27]
theorem v84_eq : (V m c main_v84 : FVec Ideal S8192x1024 .bf16)
    = lanesK (a1 m c) nil1 (Host.negf (parts (over (gates m c)))) (fill3 one) (fill3 one) := by
  show V0 m c (Proc.devRef .tc main_v84) = _
  rw [V0_mid, pack_k, mid_arg1, mid_35, mid_36, mid_39]
theorem v94_eq : (V m c main_v94 : FVec Ideal S8192x1024 .bf16) = lanesV (a2 m c) (fill1 one) nil3 nil3 nil3 (fill3 one) := by
  show V0 m c (Proc.devRef .tc main_v94) = _
  rw [V0_mid, pack_v, mid_arg2, mid_35, mid_36]
theorem v120_eq : (V m c main_v120 : FVec Ideal S8192x1024 .bf16)
    = lanesV (a4 m c) nil1 nil3 nil3 nil3 (parts (Host.negf (delta (a4 m c) (a2 m c) (sc m c) (mx m c)))) := by
  show V0 m c (Proc.devRef .tc main_v120) = _
  rw [V0_mid, pack_g, mid_arg4, mid_35, mid_36, mid_34]

/-- The host lines' values at an index. -/
theorem ex_at (s : FVec Ideal S2x8x4096x4096 .f32) (x : FVec Ideal S2x8x4096 .f32) (b : Fin 2) (n : Fin 8) (t u : Fin 4096) :
    ex s x (ix4 b n t u) = Ideal.exp (s (ix4 b n t u) - x (ix3 b n t)) := by
  pointwise [ex]
theorem den_at (s : FVec Ideal S2x8x4096x4096 .f32) (x : FVec Ideal S2x8x4096 .f32) (b : Fin 2) (n : Fin 8) (t : Fin 4096) :
    den s x (ix3 b n t) = ∑ u, ex s x (ix4 b n t u) := by
  pointwise [den]
theorem lse_at (s : FVec Ideal S2x8x4096x4096 .f32) (x : FVec Ideal S2x8x4096 .f32) (b : Fin 2) (n : Fin 8) (t : Fin 4096) :
    lse s x (ix3 b t n) = x (ix3 b n t) + Ideal.log (den s x (ix3 b n t)) := by
  pointwise [lse]
theorem prob_at (s : FVec Ideal S2x8x4096x4096 .f32) (x : FVec Ideal S2x8x4096 .f32) (b : Fin 2) (n : Fin 8) (t u : Fin 4096) :
    prob s x (ix4 b n t u) = Ideal.div (ex s x (ix4 b n t u)) (den s x (ix3 b n t)) := by
  pointwise [prob]
theorem delta_at (g v : G64) (s : FVec Ideal S2x8x4096x4096 .f32) (x : FVec Ideal S2x8x4096 .f32) (b : Fin 2) (n : Fin 8) (t : Fin 4096) :
    delta g v s x (ix3 b t n) = ∑ d : Fin 64, g (ix4 b t n d) * ∑ u, v (ix4 b u n d) * prob s x (ix4 b n t u) := by
  pointwise [delta]

end Cert.Proof.Fox
end
-- ==== Proof.FoxPay.lean ====
module

public import proofs.«01_k».proof.Proof.Gen.FoxIdeal.Skeleton
public import Idealize.ShloMosaic.Lib.Pointwise
public import Idealize.ShloMosaic.PureOps.Ideal.Laws

@[expose] public section

set_option maxRecDepth 16384

noncomputable section

namespace Cert.Proof.Fox

open Idealize.ShloMosaic Idealize.ShloMosaic.TcCoe Idealize.SL.Sem
open Cert.FoxIdeal Cert.FoxIdeal.Gen

theorem word_ge (s r : Fin 1024) : IntOp.cmpi .sge (BitVec.ofNat 32 r.val) (BitVec.ofNat 32 s.val) = 1#1 ↔ s.val ≤ r.val := by
  have hs := s.isLt
  have hr := r.isLt
  have e1 : (BitVec.ofNat 32 r.val).toInt = r.val := by
    rw [BitVec.toInt_ofNat', Int.bmod_eq_of_le (by omega) (by omega)]
  have e2 : (BitVec.ofNat 32 s.val).toInt = s.val := by
    rw [BitVec.toInt_ofNat', Int.bmod_eq_of_le (by omega) (by omega)]
  have e : IntOp.cmpi .sge (BitVec.ofNat 32 r.val) (BitVec.ofNat 32 s.val) = BitVec.ofBool (decide (s.val ≤ r.val)) := by
    simp [IntOp.cmpi, BitVec.sle, e1, e2]
  rw [e]
  by_cases h : s.val ≤ r.val <;> simp [h]

theorem eq_zero_of_ne_one {b : BitVec 1} (h : b ≠ 1#1) : b = 0#1 := by
  revert h; revert b; decide

variable (v6 v10 v89 v92 : FVec Ideal S1024x128 .bf16) (a : FVec Ideal S1024x128 .f32) (s r : Fin 1024) (d : Fin 128)

theorem pay5_at : k0_pay5 (F := Ideal) v6 v89 (ix2 s r) = Ideal.exp2 (∑ d : Fin 128, v6 (ix2 s d) * v89 (ix2 r d)) := by
  pointwise [k0_pay5, k0_pay3]
  rfl

theorem pay6_at : k0_pay6 (F := Ideal) v6 v10 v89 v92 (ix2 s r) = k0_pay5 (F := Ideal) v6 v89 (ix2 s r) * ∑ d : Fin 128, v10 (ix2 s d) * v92 (ix2 r d) := by
  pointwise [k0_pay6, k0_pay4]

theorem pay7_at : k0_pay7 (F := Ideal) v6 a v89 v92 (ix2 s d) = a (ix2 s d) + ∑ r : Fin 1024, k0_pay5 (F := Ideal) v6 v89 (ix2 s r) * v92 (ix2 r d) := by
  pointwise [k0_pay7, k0_pay4]

theorem pay8_at : k0_pay8 (F := Ideal) v6 v10 a v89 v92 (ix2 s d) = a (ix2 s d) + ∑ r : Fin 1024, k0_pay6 (F := Ideal) v6 v10 v89 v92 (ix2 s r) * v89 (ix2 r d) := by
  pointwise [k0_pay8, k0_pay3]

theorem pay9_at : k0_pay9 (F := Ideal) v6 v10 v89 v92 a (ix2 r d) = a (ix2 r d) + ∑ s : Fin 1024, k0_pay6 (F := Ideal) v6 v10 v89 v92 (ix2 s r) * v6 (ix2 s d) := by
  pointwise [k0_pay9]

theorem pay37_at : k0_pay37 (F := Ideal) v6 v89 (ix2 s r) = if s.val ≤ r.val then Ideal.exp2 (∑ d : Fin 128, v6 (ix2 s d) * v89 (ix2 r d)) else 0 := by
  pointwise [k0_pay37, k0_pay30, k0_pay35]
  by_cases h : s.val ≤ r.val
  · rw [(word_ge s r).mpr h, if_pos h]; rfl
  · rw [eq_zero_of_ne_one ((word_ge s r).not.mpr h), if_neg h]; rfl

theorem pay38_at : k0_pay38 (F := Ideal) v6 v10 v89 v92 (ix2 s r) = k0_pay37 (F := Ideal) v6 v89 (ix2 s r) * ∑ d : Fin 128, v10 (ix2 s d) * v92 (ix2 r d) := by
  pointwise [k0_pay38, k0_pay32, k0_pay36]

theorem pay39_at : k0_pay39 (F := Ideal) v6 v89 v92 (ix2 s d) = ∑ r : Fin 1024, k0_pay37 (F := Ideal) v6 v89 (ix2 s r) * v92 (ix2 r d) := by
  pointwise [k0_pay39, k0_pay34, k0_pay36]

theorem pay40_at (w : FVec Ideal S1024x1024 .bf16) : k0_pay40 (F := Ideal) a v89 w (constant S1024x128 .f32 0x00000000#32) (ix2 s d) = a (ix2 s d) + ∑ r : Fin 1024, w (ix2 s r) * v89 (ix2 r d) := by
  pointwise [k0_pay40]

theorem pay41_at (w : FVec Ideal S1024x1024 .bf16) : k0_pay41 (F := Ideal) v6 w a (ix2 r d) = a (ix2 r d) + ∑ s : Fin 1024, w (ix2 s r) * v6 (ix2 s d) := by
  pointwise [k0_pay41]

theorem pay34_at : k0_pay34 (F := Ideal) (ix2 s d) = 0 := by
  pointwise [k0_pay34]

theorem pay29_at (t : Fin 4096) (l : Fin 256) : k0_pay29 (F := Ideal) (ix2 t l) = 0 := by
  pointwise [k0_pay29]

theorem pay30_at : k0_pay30 (F := Ideal) v6 (ix2 s d) = v6 (ix2 s d) := by
  pointwise [k0_pay30]

/-- The two heads run the same operations. -/
theorem pay31_eq : k0_pay31 (F := Ideal) v6 = k0_pay30 (F := Ideal) v6 := rfl
theorem pay32_eq : k0_pay32 (F := Ideal) v6 = k0_pay30 (F := Ideal) v6 := rfl
theorem pay33_eq : k0_pay33 (F := Ideal) v6 = k0_pay30 (F := Ideal) v6 := rfl
theorem pay35_eq : k0_pay35 (F := Ideal) v6 = k0_pay30 (F := Ideal) v6 := rfl

/-- The positions of keys and of queries in a block. -/
abbrev ps : IVec S1024x1024 32 := iota .tc S1024x1024 32 [0] iota_S1024x1024_d0_w32
abbrev pt : IVec S1024x1024 32 := iota .tc S1024x1024 32 [1] iota_S1024x1024_d1_w32

theorem pay44_eq : k0_pay44 (F := Ideal) ps pt (k0_pay31 (F := Ideal) v6) v89 = k0_pay37 (F := Ideal) v6 v89 := rfl
theorem pay45_eq : k0_pay45 (F := Ideal) ps pt (k0_pay31 (F := Ideal) v6) (k0_pay33 (F := Ideal) v10) v89 v92 = k0_pay38 (F := Ideal) v6 v10 v89 v92 := by
  unfold k0_pay45
  rw [pay44_eq]
  rfl
theorem pay46_eq : k0_pay46 (F := Ideal) ps pt (k0_pay31 (F := Ideal) v6) (k0_pay34 (F := Ideal)) v89 v92 = k0_pay39 (F := Ideal) v6 v89 v92 := by
  unfold k0_pay46
  rw [pay44_eq]
  rfl
theorem pay47_eq : k0_pay47 (F := Ideal) ps pt (k0_pay31 (F := Ideal) v6) (k0_pay33 (F := Ideal) v10) (k0_pay34 (F := Ideal)) v89 v92
    = k0_pay40 (F := Ideal) (k0_pay34 (F := Ideal)) (k0_pay35 (F := Ideal) v89) (k0_pay38 (F := Ideal) v6 v10 v89 v92) (constant S1024x128 .f32 0x00000000#32) := by
  unfold k0_pay47
  rw [pay45_eq]
  rfl
theorem pay48_eq : k0_pay48 (F := Ideal) ps pt (k0_pay31 (F := Ideal) v6) (k0_pay33 (F := Ideal) v10) v89 v92 a
    = k0_pay41 (F := Ideal) (k0_pay31 (F := Ideal) v6) (k0_pay38 (F := Ideal) v6 v10 v89 v92) a := by
  unfold k0_pay48
  rw [pay45_eq]
  rfl

end Cert.Proof.Fox
end
-- ==== Proof.FoxTrip.lean ====
module

public import Idealize.ShloMosaic.PureOps.Ideal.Laws
public import proofs.«01_k».proof.Proof.Gen.FoxIdeal.Skeleton
public import proofs.«01_k».proof.Proof.Gen.FoxIdeal.Loops
public import Idealize.ShloMosaic.Lib.VecWindow
public import Idealize.ShloMosaic.Lib.WholeRead

@[expose] public section

set_option maxRecDepth 16384

noncomputable section

namespace Cert.Proof.Fox

open Idealize.ShloMosaic Idealize.ShloMosaic.TcCoe Idealize.SL.Sem
open Cert.FoxIdeal Cert.FoxIdeal.Gen

section
variable (𝒱 : Variants) (c : Dev nD) (bd : Option 𝒱.V) (i : grid0.Coords)
  (arg3 : Memref sig .tc .vmem S4096x256 .bf16) (harg3 : arg3.IsWhole) (arg4 : Memref sig .tc .vmem S4096x256 .bf16) (harg4 : arg4.IsWhole)
  (arg5 : Memref sig .tc .vmem S1024x256 .bf16) (harg5 : arg5.IsWhole) (arg6 : Memref sig .tc .vmem S1024x256 .bf16) (harg6 : arg6.IsWhole)
  (arg7 : Memref sig .tc .vmem S4096x256 .f32) (harg7 : arg7.IsWhole) (arg8 : Memref sig .tc .vmem S1024x256 .f32) (harg8 : arg8.IsWhole)
  (arg9 : Memref sig .tc .vmem S1024x256 .f32) (harg9 : arg9.IsWhole)
  (v6 v8 v10 v12 : FVec Ideal S1024x128 .bf16) (v74 : BitVec 32)
  (X3 : BufTy.Contents (Elt Ideal) arg3.view.ty) (X4 : BufTy.Contents (Elt Ideal) arg4.view.ty) (k : Fin (k0_t1_loop i).trips)
  (acc : FVec Ideal S1024x128 .f32 × FVec Ideal S1024x128 .f32 × FVec Ideal S1024x128 .f32 × FVec Ideal S1024x128 .f32)
  (f : BufTy.Contents (Elt Ideal) arg7.view.ty)

/-- The part of a sequence that one trip reads, for the first head of the pair. -/
abbrev rd3 {e : EltTy} (a : Memref sig .tc .vmem S4096x256 e) (X : BufTy.Contents (Elt Ideal) a.view.ty) : Vec Ideal S1024x128 e :=
  View.readAt (Elt Ideal) a.view (Rect.unit (s := S4096x256) (k0_off3 i k) S1024x128.size (k0_off3_inb i k)).toLoadRect X

/-- And for the second head. -/
abbrev rd4 {e : EltTy} (a : Memref sig .tc .vmem S4096x256 e) (X : BufTy.Contents (Elt Ideal) a.view.ty) : Vec Ideal S1024x128 e :=
  View.readAt (Elt Ideal) a.view (Rect.unit (s := S4096x256) (k0_off4 i k) S1024x128.size (k0_off4_inb i k)).toLoadRect X

theorem tripR_eq :
    tripR_k0_t1 𝒱 c bd i arg3 harg3 arg4 harg4 arg5 harg5 arg6 harg6 arg7 harg7 arg8 harg8 arg9 harg9 v6 v8 v10 v12 v74 X3 X4 k acc f
      = (k0_pay8 v6 v10 acc.1 (rd3 i k arg3 X3) (rd3 i k arg4 X4), k0_pay7 v6 acc.2.1 (rd3 i k arg3 X3) (rd3 i k arg4 X4),
         k0_pay8 v8 v12 acc.2.2.1 (rd4 i k arg3 X3) (rd4 i k arg4 X4), k0_pay7 v8 acc.2.2.2 (rd4 i k arg3 X3) (rd4 i k arg4 X4)) := by
  unfold tripR_k0_t1 trip_k0_t1
  rfl

theorem tripL_eq :
    tripL_k0_t1 𝒱 c bd i arg3 harg3 arg4 harg4 arg5 harg5 arg6 harg6 arg7 harg7 arg8 harg8 arg9 harg9 v6 v8 v10 v12 v74 X3 X4 k acc f
      = [⟨Rect.unit (s := S4096x256) (k0_off4 i k) S1024x128.size (k0_off4_inb i k), k0_pay9 v8 v12 (rd4 i k arg3 X3) (rd4 i k arg4 X4) (rd4 i k arg7 f)⟩,
         ⟨Rect.unit (s := S4096x256) (k0_off3 i k) S1024x128.size (k0_off3_inb i k), k0_pay9 v6 v10 (rd3 i k arg3 X3) (rd3 i k arg4 X4) (rd3 i k arg7 f)⟩] := by
  unfold tripL_k0_t1 trip_k0_t1
  rfl

end
end Cert.Proof.Fox
end
-- ==== Proof.FoxTile.lean ====
module

public import proofs.«01_k».proof.Proof.FoxPay
public import proofs.«01_k».proof.Proof.FoxTrip
public import proofs.«01_k».proof.Proof.Gen.FoxIdeal

@[expose] public section

set_option maxRecDepth 16384

noncomputable section

namespace Cert.Proof.Fox

open Idealize.ShloMosaic Idealize.ShloMosaic.TcCoe Idealize.SL.Sem
open Cert.FoxIdeal Cert.FoxIdeal.Gen

/-- The columns of one head of a pair. -/
abbrev lane (h : Fin 2) (d : Fin 128) : Fin 256 := ⟨128 * h.val + d.val, by omega⟩

/-- The position `r` of the block `q` of a sequence. -/
abbrev row (q : ℕ) (r : Fin 1024) : Fin 4096 := Fin.ofNat 4096 (1024 * q + r.val)

theorem row_val {q : ℕ} (hq : q < 4) (r : Fin 1024) : (row q r).val = 1024 * q + r.val := by
  show (1024 * q + r.val) % 4096 = _
  omega

/-- The columns of one head, as a function of position and column. -/
abbrev head {n : ℕ} {e : FTy} (x : FVec Ideal ⟨2, ![n, 256]⟩ e) (h : Fin 2) (t : Fin n) (d : Fin 128) : EReal := x (ix2 t (lane h d))

section
variable (kb : ℕ) (K V : Fin 1024 → Fin 128 → EReal) (Q D : Fin 4096 → Fin 128 → EReal)

/-- The weight of key `s` of block `kb` for the query at `t`: zero for a query before the key. -/
def pr (s : Fin 1024) (t : Fin 4096) : EReal := if 1024 * kb + s.val ≤ t.val then Ideal.exp2 (∑ d : Fin 128, K s d * Q t d) else 0

/-- The weight times the contraction of value and cotangent. -/
def ds (s : Fin 1024) (t : Fin 4096) : EReal := pr kb K Q s t * ∑ d : Fin 128, V s d * D t d

/-- What the queries of block `q` add. -/
def blk (g : Fin 4096 → EReal) (q : ℕ) : EReal := ∑ r : Fin 1024, g (row q r)

theorem pr_before {q : ℕ} (hq : q < kb) (hk : kb < 4) (s r : Fin 1024) : pr kb K Q s (row q r) = 0 := by
  unfold pr
  rw [if_neg]
  rw [row_val (by omega)]
  omega

theorem pr_after {q : ℕ} (hq : kb < q) (h4 : q < 4) (s r : Fin 1024) : pr kb K Q s (row q r) = Ideal.exp2 (∑ d : Fin 128, K s d * Q (row q r) d) := by
  unfold pr
  rw [if_pos]
  rw [row_val h4]
  omega

theorem pr_diag (h4 : kb < 4) (s r : Fin 1024) : pr kb K Q s (row kb r) = if s.val ≤ r.val then Ideal.exp2 (∑ d : Fin 128, K s d * Q (row kb r) d) else 0 := by
  unfold pr
  rw [row_val h4]
  congr 1
  simp

theorem ds_before {q : ℕ} (hq : q < kb) (hk : kb < 4) (s r : Fin 1024) : ds kb K V Q D s (row q r) = 0 := by
  unfold ds
  rw [pr_before kb K Q hq hk, zero_mul]

end

/-- A sum over a sequence is the sum of its four blocks. -/
theorem sum_blk (g : Fin 4096 → EReal) : ∑ q ∈ Finset.range 4, blk g q = ∑ t : Fin 4096, g t := by
  rw [Finset.sum_range]
  unfold blk
  rw [← Fintype.sum_prod_type']
  refine Fintype.sum_equiv (finProdFinEquiv (m := 4) (n := 1024)) _ _ fun x => ?_
  congr 1
  apply Fin.ext
  rw [row_val x.1.isLt]
  simp [finProdFinEquiv]
  omega

/-- The diagonal block and the blocks after it make the whole sum, when the blocks before it add nothing. -/
theorem sum_from {kb : ℕ} (hk : kb < 4) (b : ℕ → EReal) (hb : ∀ q, q < kb → b q = 0) :
    b kb + ∑ j ∈ Finset.range (3 - kb), b (kb + 1 + j) = ∑ q ∈ Finset.range 4, b q := by
  rcases kb with _ | _ | _ | _ | kb
  · simp [Finset.sum_range_succ]; abel
  · have := hb 0 (by omega); simp [Finset.sum_range_succ, this]; abel
  · have := hb 0 (by omega); have := hb 1 (by omega); simp_all [Finset.sum_range_succ]
  · have := hb 0 (by omega); have := hb 1 (by omega); have := hb 2 (by omega); simp_all [Finset.sum_range_succ]
  · omega

section
variable {kb q : ℕ} {K V : Fin 1024 → Fin 128 → EReal} {Q D : Fin 4096 → Fin 128 → EReal}
  {v6 v10 v89 v92 : FVec Ideal S1024x128 .bf16} (a : FVec Ideal S1024x128 .f32)
  (h6 : ∀ s d, v6 (ix2 s d) = K s d) (h10 : ∀ s d, v10 (ix2 s d) = V s d)
  (h89 : ∀ r d, v89 (ix2 r d) = Q (row q r) d) (h92 : ∀ r d, v92 (ix2 r d) = D (row q r) d)
  (s r : Fin 1024) (d : Fin 128)
include h6 h89

theorem p_after (hq : kb < q) (h4 : q < 4) : k0_pay5 (F := Ideal) v6 v89 (ix2 s r) = pr kb K Q s (row q r) := by
  rw [pay5_at, pr_after kb K Q hq h4]
  simp only [h6, h89]

theorem p_diag (hq : kb = q) (h4 : q < 4) : k0_pay37 (F := Ideal) v6 v89 (ix2 s r) = pr kb K Q s (row q r) := by
  subst hq
  rw [pay37_at, pr_diag kb K Q h4]
  simp only [h6, h89]

include h92

theorem dv_after (hq : kb < q) (h4 : q < 4) : k0_pay7 (F := Ideal) v6 a v89 v92 (ix2 s d) = a (ix2 s d) + blk (fun t => pr kb K Q s t * D t d) q := by
  rw [pay7_at]
  simp only [p_after h6 h89 _ _ hq h4, h92]
  rfl

theorem dv_diag (hq : kb = q) (h4 : q < 4) : k0_pay39 (F := Ideal) v6 v89 v92 (ix2 s d) = blk (fun t => pr kb K Q s t * D t d) q := by
  rw [pay39_at]
  simp only [p_diag h6 h89 _ _ hq h4, h92]
  rfl

include h10

theorem d_after (hq : kb < q) (h4 : q < 4) : k0_pay6 (F := Ideal) v6 v10 v89 v92 (ix2 s r) = ds kb K V Q D s (row q r) := by
  rw [pay6_at, p_after h6 h89 _ _ hq h4]
  simp only [h10, h92]
  rfl

theorem d_diag (hq : kb = q) (h4 : q < 4) : k0_pay38 (F := Ideal) v6 v10 v89 v92 (ix2 s r) = ds kb K V Q D s (row q r) := by
  rw [pay38_at, p_diag h6 h89 _ _ hq h4]
  simp only [h10, h92]
  rfl

theorem dk_after (hq : kb < q) (h4 : q < 4) : k0_pay8 (F := Ideal) v6 v10 a v89 v92 (ix2 s d) = a (ix2 s d) + blk (fun t => ds kb K V Q D s t * Q t d) q := by
  rw [pay8_at]
  simp only [d_after h6 h10 h89 h92 _ _ hq h4, h89]
  rfl

theorem dq_after (hq : kb < q) (h4 : q < 4) : k0_pay9 (F := Ideal) v6 v10 v89 v92 a (ix2 r d) = a (ix2 r d) + ∑ s : Fin 1024, ds kb K V Q D s (row q r) * K s d := by
  rw [pay9_at]
  simp only [d_after h6 h10 h89 h92 _ _ hq h4, h6]

end

theorem dk_of {kb q : ℕ} {K V : Fin 1024 → Fin 128 → EReal} {Q D : Fin 4096 → Fin 128 → EReal} (v18 : FVec Ideal S1024x128 .bf16) (w : FVec Ideal S1024x1024 .bf16)
    (hw : ∀ s r, w (ix2 s r) = ds kb K V Q D s (row q r)) (h18 : ∀ r d, v18 (ix2 r d) = Q (row q r) d) (s : Fin 1024) (d : Fin 128) :
    k0_pay40 (F := Ideal) (k0_pay34 (F := Ideal)) v18 w (constant S1024x128 .f32 0x00000000#32) (ix2 s d) = blk (fun t => ds kb K V Q D s t * Q t d) q := by
  rw [pay40_at, pay34_at, zero_add]
  simp only [hw, h18]
  rfl

theorem dq_of {kb q : ℕ} {K V : Fin 1024 → Fin 128 → EReal} {Q D : Fin 4096 → Fin 128 → EReal} (a : FVec Ideal S1024x128 .f32) (v6 : FVec Ideal S1024x128 .bf16) (w : FVec Ideal S1024x1024 .bf16)
    (hw : ∀ s r, w (ix2 s r) = ds kb K V Q D s (row q r)) (h6 : ∀ s d, v6 (ix2 s d) = K s d) (r : Fin 1024) (d : Fin 128) :
    k0_pay41 (F := Ideal) v6 w a (ix2 r d) = a (ix2 r d) + ∑ s : Fin 1024, ds kb K V Q D s (row q r) * K s d := by
  rw [pay41_at]
  simp only [hw, h6]

/-- A stored block of rows of one head, read at a position. -/
theorem put_at {α : Type} (x : S4096x256.Idx → α) (w : S1024x128.Idx → α) {q q0 : ℕ} (hq : q < 4) (hq0 : q0 < 4) (h h0 : Fin 2) (r : Fin 1024) (d : Fin 128) :
    VecWindow.put (s := S4096x256) x ![1024 * q0, 128 * h0.val] S1024x128.size w (ix2 (row q r) (lane h d))
      = if q = q0 ∧ h = h0 then w (ix2 r d) else x (ix2 (row q r) (lane h d)) := by
  have hr := row_val hq r
  unfold VecWindow.put
  by_cases e : q = q0 ∧ h = h0
  · obtain ⟨rfl, rfl⟩ := e
    rw [if_pos ⟨rfl, rfl⟩, dif_pos]
    · congr 1
      funext a
      fin_cases a
      · apply Fin.ext
        show (row q r).val - 1024 * q = r.val
        omega
      · apply Fin.ext
        show (128 * h.val + d.val) - 128 * h.val = d.val
        omega
    · intro a
      fin_cases a
      · show 1024 * q ≤ (row q r).val ∧ (row q r).val < 1024 * q + 1024
        omega
      · show 128 * h.val ≤ 128 * h.val + d.val ∧ 128 * h.val + d.val < 128 * h.val + 128
        omega
  · rw [if_neg e, dif_neg]
    intro hall
    have h1 : 1024 * q0 ≤ (row q r).val ∧ (row q r).val < 1024 * q0 + 1024 := hall 0
    have h2 : 128 * h0.val ≤ 128 * h.val + d.val ∧ 128 * h.val + d.val < 128 * h0.val + 128 := hall 1
    exact e ⟨by omega, Fin.ext (by omega)⟩

/-- A block of rows of one head, read from the whole. -/
theorem window_at {α : Type} (x : S4096x256.Idx → α) {q0 : ℕ} (hq0 : q0 < 4) (h0 : Fin 2) (inb : ∀ a, (![1024 * q0, 128 * h0.val] : Fin 2 → ℕ) a + S1024x128.size a ≤ S4096x256.size a)
    (r : Fin 1024) (d : Fin 128) :
    VecWindow.window (s := S4096x256) x ![1024 * q0, 128 * h0.val] S1024x128.size inb (ix2 r d) = x (ix2 (row q0 r) (lane h0 d)) := by
  have hr := row_val hq0 r
  unfold VecWindow.window
  congr 1
  funext a
  fin_cases a
  · apply Fin.ext
    show 1024 * q0 + 1 * r.val = (row q0 r).val
    omega
  · apply Fin.ext
    show 128 * h0.val + 1 * d.val = 128 * h0.val + d.val
    omega

theorem trips_eq : ∀ i : grid0.Coords, (k0_t1_loop i).trips = 3 - (i 2).val := by decide +kernel

theorem trips2_eq : ∀ i : grid0.Coords, (k0_t2_loop i).trips = 0 := by decide +kernel

section
variable (i : grid0.Coords)

theorem off1_eq : k0_off1 i = ![1024 * (i 2).val, 128 * (0 : Fin 2).val] := k0_off1_eq i
theorem off2_eq : k0_off2 i = ![1024 * (i 2).val, 128 * (1 : Fin 2).val] := k0_off2_eq i
theorem off3_eq (k : Fin (k0_t1_loop i).trips) : k0_off3 i k = ![1024 * ((i 2).val + 1 + k.val), 128 * (0 : Fin 2).val] := by
  rw [k0_off3_eq i k]
  congr 1
  omega
theorem off4_eq (k : Fin (k0_t1_loop i).trips) : k0_off4 i k = ![1024 * ((i 2).val + 1 + k.val), 128 * (1 : Fin 2).val] := by
  rw [k0_off4_eq i k]
  congr 1
  omega

theorem inb_of {q : ℕ} (hq : q < 4) (h : Fin 2) : ∀ a, (![1024 * q, 128 * h.val] : Fin 2 → ℕ) a + S1024x128.size a ≤ S4096x256.size a := by
  intro a
  fin_cases a
  · show 1024 * q + 1024 ≤ 4096
    omega
  · show 128 * h.val + 128 ≤ 256
    omega

theorem blk_lt (k : Fin (k0_t1_loop i).trips) : (i 2).val + 1 + k.val < 4 := by
  have h1 := k.isLt
  have h2 := trips_eq i
  omega

/-- A load of one trip reads the rows of its block. -/
theorem rd3_at {e : EltTy} (k : Fin (k0_t1_loop i).trips) (A : Memref sig .tc .vmem S4096x256 e) (X : BufTy.Contents (Elt Ideal) A.view.ty) (r : Fin 1024) (d : Fin 128) :
    rd3 i k A X (ix2 r d) = A.view.read (Elt Ideal) X (ix2 (row ((i 2).val + 1 + k.val) r) (lane 0 d)) := by
  unfold rd3
  rw [View.readAt_unit A.view X (k0_off3_inb i k) (off3_eq i k) (inb_of (blk_lt i k) 0)]
  exact window_at _ (blk_lt i k) 0 _ r d

theorem rd4_at {e : EltTy} (k : Fin (k0_t1_loop i).trips) (A : Memref sig .tc .vmem S4096x256 e) (X : BufTy.Contents (Elt Ideal) A.view.ty) (r : Fin 1024) (d : Fin 128) :
    rd4 i k A X (ix2 r d) = A.view.read (Elt Ideal) X (ix2 (row ((i 2).val + 1 + k.val) r) (lane 1 d)) := by
  unfold rd4
  rw [View.readAt_unit A.view X (k0_off4_inb i k) (off4_eq i k) (inb_of (blk_lt i k) 1)]
  exact window_at _ (blk_lt i k) 1 _ r d

end

end Cert.Proof.Fox
end
-- ==== Proof.FoxLoop.lean ====
module

public import proofs.«01_k».proof.Proof.FoxTile

@[expose] public section

set_option maxRecDepth 16384

noncomputable section

namespace Cert.Proof.Fox

open Idealize.ShloMosaic Idealize.ShloMosaic.TcCoe Idealize.SL.Sem
open Cert.FoxIdeal Cert.FoxIdeal.Gen

section
variable (𝒱 : Variants) (c : Dev nD) (bd : Option 𝒱.V) (i : grid0.Coords)
  (arg3 : Memref sig .tc .vmem S4096x256 .bf16) (harg3 : arg3.IsWhole) (arg4 : Memref sig .tc .vmem S4096x256 .bf16) (harg4 : arg4.IsWhole)
  (arg5 : Memref sig .tc .vmem S1024x256 .bf16) (harg5 : arg5.IsWhole) (arg6 : Memref sig .tc .vmem S1024x256 .bf16) (harg6 : arg6.IsWhole)
  (arg7 : Memref sig .tc .vmem S4096x256 .f32) (harg7 : arg7.IsWhole) (arg8 : Memref sig .tc .vmem S1024x256 .f32) (harg8 : arg8.IsWhole)
  (arg9 : Memref sig .tc .vmem S1024x256 .f32) (harg9 : arg9.IsWhole)
  (v6 v8 v10 v12 : FVec Ideal S1024x128 .bf16) (v74 : BitVec 32)
  (X3 : BufTy.Contents (Elt Ideal) arg3.view.ty) (X4 : BufTy.Contents (Elt Ideal) arg4.view.ty)
  (G : BufTy.Contents (Elt Ideal) arg7.view.ty)
  (init : FVec Ideal S1024x128 .f32 × FVec Ideal S1024x128 .f32 × FVec Ideal S1024x128 .f32 × FVec Ideal S1024x128 .f32)
  (x0 x1 : FVec Ideal S4096x256 .bf16) (x2 x3 : FVec Ideal S1024x256 .bf16)

/-- What the block `kb` adds to the query gradient. -/
def dqAdd (kb : ℕ) (x0 x1 : FVec Ideal S4096x256 .bf16) (x2 x3 : FVec Ideal S1024x256 .bf16) (h : Fin 2) (t : Fin 4096) (d : Fin 128) : EReal :=
  ∑ s : Fin 1024, ds kb (head x2 h) (head x3 h) (head x0 h) (head x1 h) s t * head x2 h s d

/-- What the queries of block `q` add to the key gradient. -/
def dkAdd (kb : ℕ) (x0 x1 : FVec Ideal S4096x256 .bf16) (x2 x3 : FVec Ideal S1024x256 .bf16) (h : Fin 2) (s : Fin 1024) (d : Fin 128) (q : ℕ) : EReal :=
  blk (fun t => ds kb (head x2 h) (head x3 h) (head x0 h) (head x1 h) s t * head x0 h t d) q

/-- What the queries of block `q` add to the value gradient. -/
def dvAdd (kb : ℕ) (x0 x1 : FVec Ideal S4096x256 .bf16) (x2 : FVec Ideal S1024x256 .bf16) (h : Fin 2) (s : Fin 1024) (d : Fin 128) (q : ℕ) : EReal :=
  blk (fun t => pr kb (head x2 h) (head x0 h) s t * head x1 h t d) q

variable (hX3 : arg3.view.read (Elt Ideal) X3 = x0) (hX4 : arg4.view.read (Elt Ideal) X4 = x1)
  (h6 : ∀ s d, v6 (ix2 s d) = head x2 0 s d) (h8 : ∀ s d, v8 (ix2 s d) = head x2 1 s d)
  (h10 : ∀ s d, v10 (ix2 s d) = head x3 0 s d) (h12 : ∀ s d, v12 (ix2 s d) = head x3 1 s d)

local notation "st" => st_k0_t1 𝒱 c bd i arg3 harg3 arg4 harg4 arg5 harg5 arg6 harg6 arg7 harg7 arg8 harg8 arg9 harg9 v6 v8 v10 v12 v74 X3 X4 G init

/-- The loop's state before trip `n`: the carried sums, and the query gradient. -/
def StAt (n : ℕ) : Prop :=
  (∀ s d, (st n).1.1 (ix2 s d) = init.1 (ix2 s d) + ∑ j ∈ Finset.range n, dkAdd (i 2).val x0 x1 x2 x3 0 s d ((i 2).val + 1 + j))
  ∧ (∀ s d, (st n).1.2.1 (ix2 s d) = init.2.1 (ix2 s d) + ∑ j ∈ Finset.range n, dvAdd (i 2).val x0 x1 x2 0 s d ((i 2).val + 1 + j))
  ∧ (∀ s d, (st n).1.2.2.1 (ix2 s d) = init.2.2.1 (ix2 s d) + ∑ j ∈ Finset.range n, dkAdd (i 2).val x0 x1 x2 x3 1 s d ((i 2).val + 1 + j))
  ∧ (∀ s d, (st n).1.2.2.2 (ix2 s d) = init.2.2.2 (ix2 s d) + ∑ j ∈ Finset.range n, dvAdd (i 2).val x0 x1 x2 1 s d ((i 2).val + 1 + j))
  ∧ ∀ q, q < 4 → ∀ h r d, arg7.view.read (Elt Ideal) (arg7.view.writes (Elt Ideal) G (st n).2) (ix2 (row q r) (lane h d))
      = if (i 2).val < q ∧ q < (i 2).val + 1 + n then arg7.view.read (Elt Ideal) G (ix2 (row q r) (lane h d)) + dqAdd (i 2).val x0 x1 x2 x3 h (row q r) d
        else arg7.view.read (Elt Ideal) G (ix2 (row q r) (lane h d))

include hX3 hX4 h6 h8 h10 h12

theorem st_at (n : ℕ) (hn : n ≤ (k0_t1_loop i).trips) :
    StAt 𝒱 c bd i arg3 harg3 arg4 harg4 arg5 harg5 arg6 harg6 arg7 harg7 arg8 harg8 arg9 harg9 v6 v8 v10 v12 v74 X3 X4 G init x0 x1 x2 x3 n := by
  induction n with
  | zero =>
    refine ⟨fun s d => ?_, fun s d => ?_, fun s d => ?_, fun s d => ?_, fun q hq h r d => ?_⟩
    · simp [st_k0_t1]
    · simp [st_k0_t1]
    · simp [st_k0_t1]
    · simp [st_k0_t1]
    · rw [if_neg (by omega)]
      rfl
  | succ n ih =>
    obtain ⟨i1, i2, i3, i4, i5⟩ := ih (by omega)
    have hk : n < (k0_t1_loop i).trips := by omega
    have h4 := blk_lt i ⟨n, hk⟩
    have hq : (i 2).val < (i 2).val + 1 + n := by omega
    have r3 : ∀ r d, rd3 i ⟨n, hk⟩ arg3 X3 (ix2 r d) = head x0 0 (row ((i 2).val + 1 + n) r) d := fun r d => by rw [rd3_at, hX3]
    have r3' : ∀ r d, rd4 i ⟨n, hk⟩ arg3 X3 (ix2 r d) = head x0 1 (row ((i 2).val + 1 + n) r) d := fun r d => by rw [rd4_at, hX3]
    have r4 : ∀ r d, rd3 i ⟨n, hk⟩ arg4 X4 (ix2 r d) = head x1 0 (row ((i 2).val + 1 + n) r) d := fun r d => by rw [rd3_at, hX4]
    have r4' : ∀ r d, rd4 i ⟨n, hk⟩ arg4 X4 (ix2 r d) = head x1 1 (row ((i 2).val + 1 + n) r) d := fun r d => by rw [rd4_at, hX4]
    have hs := st_k0_t1_succ 𝒱 c bd i arg3 harg3 arg4 harg4 arg5 harg5 arg6 harg6 arg7 harg7 arg8 harg8 arg9 harg9 v6 v8 v10 v12 v74 X3 X4 G init ⟨n, hk⟩
    unfold StAt
    rw [tripR_eq, tripL_eq] at hs
    rw [hs]
    clear hs
    refine ⟨fun s d => ?_, fun s d => ?_, fun s d => ?_, fun s d => ?_, fun q hq' h r d => ?_⟩
    · refine (dk_after _ h6 h10 r3 r4 s d hq h4).trans ?_
      rw [i1, Finset.sum_range_succ, add_assoc]
      rfl
    · refine (dv_after _ h6 r3 r4 s d hq h4).trans ?_
      rw [i2, Finset.sum_range_succ, add_assoc]
      rfl
    · refine (dk_after _ h8 h12 r3' r4' s d hq h4).trans ?_
      rw [i3, Finset.sum_range_succ, add_assoc]
      rfl
    · refine (dv_after _ h8 r3' r4' s d hq h4).trans ?_
      rw [i4, Finset.sum_range_succ, add_assoc]
      rfl
    · have e := i5 q hq' h r d
      simp only [List.cons_append, List.nil_append]
      rw [View.read_writes_cons_put _ _ _ _ _ (off4_eq i _), put_at _ _ hq' h4, View.read_writes_cons_put _ _ _ _ _ (off3_eq i _), put_at _ _ hq' h4]
      by_cases eq : q = (i 2).val + 1 + n
      · subst eq
        rw [if_pos (show (i 2).val < (i 2).val + 1 + n ∧ (i 2).val + 1 + n < (i 2).val + 1 + (n + 1) from ⟨hq, by omega⟩)]
        rw [if_neg (by omega)] at e
        fin_cases h
        · rw [if_neg (by simp), if_pos ⟨rfl, rfl⟩]
          refine (dq_after _ h6 h10 r3 r4 r d hq h4).trans ?_
          rw [rd3_at]
          exact congrArg (· + _) e
        · rw [if_pos ⟨rfl, rfl⟩]
          refine (dq_after _ h8 h12 r3' r4' r d hq h4).trans ?_
          rw [rd4_at]
          exact congrArg (· + _) e
      · rw [if_neg (fun hh => eq hh.1), if_neg (fun hh => eq hh.1), e]
        by_cases hlt : (i 2).val < q ∧ q < (i 2).val + 1 + n
        · rw [if_pos hlt, if_pos ⟨hlt.1, by omega⟩]
        · rw [if_neg hlt, if_neg (by omega)]

end
end Cert.Proof.Fox
end
-- ==== Proof.FoxEnd.lean ====
module

public import proofs.«01_k».proof.Proof.FoxLoop

@[expose] public section

set_option maxRecDepth 16384

noncomputable section

namespace Cert.Proof.Fox

open Idealize.ShloMosaic Idealize.ShloMosaic.TcCoe Idealize.SL.Sem
open Cert.FoxIdeal Cert.FoxIdeal.Gen

/-- The head of a pair that a column belongs to, and its place in that head. -/
abbrev hd (l : Fin 256) : Fin 2 := ⟨l.val / 128, by omega⟩
abbrev ln (l : Fin 256) : Fin 128 := ⟨l.val % 128, by omega⟩

theorem lane_hd (l : Fin 256) : lane (hd l) (ln l) = l := Fin.ext (by show 128 * (l.val / 128) + l.val % 128 = l.val; omega)

theorem hd_lane (h : Fin 2) (d : Fin 128) : hd (lane h d) = h := Fin.ext (by show (128 * h.val + d.val) / 128 = h.val; omega)

theorem ln_lane (h : Fin 2) (d : Fin 128) : ln (lane h d) = d := Fin.ext (by show (128 * h.val + d.val) % 128 = d.val; omega)

theorem row_split (t : Fin 4096) : ∃ q r, q < 4 ∧ t = row q r := by
  have ht := t.isLt
  refine ⟨t.val / 1024, ⟨t.val % 1024, by omega⟩, by omega, Fin.ext ?_⟩
  rw [row_val (by omega)]
  show t.val = 1024 * (t.val / 1024) + t.val % 1024
  omega

/-- Two stores, one for each head, make up a whole tile. -/
theorem tiles_read (a : Memref sig .tc .vmem S1024x256 .f32) (f : BufTy.Contents (Elt Ideal) a.view.ty) (w0 w1 : FVec Ideal S1024x128 .f32) (L : List (View.Piece (Elt Ideal) S1024x256 .f32))
    (g : Fin 2 → Fin 1024 → Fin 128 → EReal) (h0 : ∀ s d, w0 (ix2 s d) = g 0 s d) (h1 : ∀ s d, w1 (ix2 s d) = g 1 s d) :
    a.view.read (Elt Ideal) (a.view.writes (Elt Ideal) f (⟨Rect.unit (s := S1024x256) ![0, 128] S1024x128.size inb_S1024x256_S1024x128_0_128, w1⟩
      :: ⟨Rect.unit (s := S1024x256) ![0, 0] S1024x128.size inb_S1024x256_S1024x128_0_0, w0⟩ :: L)) = fun y => g (hd (y 1)) (y 0) (ln (y 1)) := by
  funext y
  obtain ⟨t, l, rfl⟩ : ∃ t l, y = (ix2 t l : S1024x256.Idx) := ⟨y 0, y 1, by funext a; fin_cases a <;> rfl⟩
  obtain ⟨h, d, rfl⟩ : ∃ h d, l = lane h d := ⟨hd l, ln l, (lane_hd l).symm⟩
  show _ = g (hd (lane h d)) t (ln (lane h d))
  rw [hd_lane, ln_lane]
  rcases (show h = 0 ∨ h = 1 by omega) with rfl | rfl
  · refine (View.read_writes_cons_unit_of_not_mem (off := ![0, 128]) (size := S1024x128.size) a.view f inb_S1024x256_S1024x128_0_128 w1 _ (ix2 t (lane 0 d)) rfl 1
      (Or.inl (by show 128 * 0 + d.val < 128; omega))).trans ?_
    refine (View.read_writes_cons_unit_of_mem (off := ![0, 0]) (size := S1024x128.size) a.view f inb_S1024x256_S1024x128_0_0 w0 L (ix2 t (lane 0 d)) (ix2 t d) rfl (fun x => ?_)).trans (h0 t d)
    fin_cases x
    · exact (Nat.zero_add _).symm
    · rfl
  · refine (View.read_writes_cons_unit_of_mem (off := ![0, 128]) (size := S1024x128.size) a.view f inb_S1024x256_S1024x128_0_128 w1 _ (ix2 t (lane 1 d)) (ix2 t d) rfl (fun x => ?_)).trans (h1 t d)
    fin_cases x
    · exact (Nat.zero_add _).symm
    · rfl

/-- The query gradient after one point of the grid. -/
def stepDq (kb : ℕ) (x0 x1 : FVec Ideal S4096x256 .bf16) (x2 x3 : FVec Ideal S1024x256 .bf16) (x4 : FVec Ideal S4096x256 .f32) : FVec Ideal S4096x256 .f32 :=
  fun y => x4 y + dqAdd kb x0 x1 x2 x3 (hd (y 1)) (y 0) (ln (y 1))

/-- The key gradient of one point. -/
def outDk (kb : ℕ) (x0 x1 : FVec Ideal S4096x256 .bf16) (x2 x3 : FVec Ideal S1024x256 .bf16) : FVec Ideal S1024x256 .f32 :=
  fun y => ∑ q ∈ Finset.range 4, dkAdd kb x0 x1 x2 x3 (hd (y 1)) (y 0) (ln (y 1)) q

/-- The value gradient of one point. -/
def outDv (kb : ℕ) (x0 x1 : FVec Ideal S4096x256 .bf16) (x2 : FVec Ideal S1024x256 .bf16) : FVec Ideal S1024x256 .f32 :=
  fun y => ∑ q ∈ Finset.range 4, dvAdd kb x0 x1 x2 (hd (y 1)) (y 0) (ln (y 1)) q

section
variable (𝒱 : Variants) (c : Dev nD) (bd : Option 𝒱.V) (i : grid0.Coords)
  (arg3 : Memref sig .tc .vmem S4096x256 .bf16) (harg3 : arg3.IsWhole) (arg4 : Memref sig .tc .vmem S4096x256 .bf16) (harg4 : arg4.IsWhole)
  (arg5 : Memref sig .tc .vmem S1024x256 .bf16) (harg5 : arg5.IsWhole) (arg6 : Memref sig .tc .vmem S1024x256 .bf16) (harg6 : arg6.IsWhole)
  (arg7 : Memref sig .tc .vmem S4096x256 .f32) (harg7 : arg7.IsWhole) (arg8 : Memref sig .tc .vmem S1024x256 .f32) (harg8 : arg8.IsWhole)
  (arg9 : Memref sig .tc .vmem S1024x256 .f32) (harg9 : arg9.IsWhole) (v74 : BitVec 32)
  (f0 : BufTy.Contents (Elt Ideal) arg3.view.ty) (f1 : BufTy.Contents (Elt Ideal) arg4.view.ty) (f2 : BufTy.Contents (Elt Ideal) arg5.view.ty)
  (f3 : BufTy.Contents (Elt Ideal) arg6.view.ty) (G : BufTy.Contents (Elt Ideal) arg7.view.ty)
  (x0 x1 : FVec Ideal S4096x256 .bf16) (x2 x3 : FVec Ideal S1024x256 .bf16)
  (e0 : arg3.view.read (Elt Ideal) f0 = x0) (e1 : arg4.view.read (Elt Ideal) f1 = x1) (e2 : arg5.view.read (Elt Ideal) f2 = x2) (e3 : arg6.view.read (Elt Ideal) f3 = x3)

/-- One head's columns of a block of keys or values. -/
abbrev kt0 (a : Memref sig .tc .vmem S1024x256 .bf16) (X : BufTy.Contents (Elt Ideal) a.view.ty) : Vec Ideal S1024x128 .bf16 :=
  View.readAt (Elt Ideal) a.view (Rect.unit (s := S1024x256) ![0, 0] S1024x128.size inb_S1024x256_S1024x128_0_0).toLoadRect X
abbrev kt1 (a : Memref sig .tc .vmem S1024x256 .bf16) (X : BufTy.Contents (Elt Ideal) a.view.ty) : Vec Ideal S1024x128 .bf16 :=
  View.readAt (Elt Ideal) a.view (Rect.unit (s := S1024x256) ![0, 128] S1024x128.size inb_S1024x256_S1024x128_0_128).toLoadRect X

/-- One head's columns of the block on the diagonal. -/
abbrev dg0 {e : EltTy} (a : Memref sig .tc .vmem S4096x256 e) (X : BufTy.Contents (Elt Ideal) a.view.ty) : Vec Ideal S1024x128 e :=
  View.readAt (Elt Ideal) a.view (Rect.unit (s := S4096x256) (k0_off1 i) S1024x128.size (k0_off1_inb i)).toLoadRect X
abbrev dg1 {e : EltTy} (a : Memref sig .tc .vmem S4096x256 e) (X : BufTy.Contents (Elt Ideal) a.view.ty) : Vec Ideal S1024x128 e :=
  View.readAt (Elt Ideal) a.view (Rect.unit (s := S4096x256) (k0_off2 i) S1024x128.size (k0_off2_inb i)).toLoadRect X

theorem kt0_at (a : Memref sig .tc .vmem S1024x256 .bf16) (X : BufTy.Contents (Elt Ideal) a.view.ty) (s : Fin 1024) (d : Fin 128) :
    kt0 a X (ix2 s d) = head (e := .bf16) (a.view.read (Elt Ideal) X) 0 s d := by
  unfold kt0
  rw [View.readAt_unit a.view X _ rfl inb_S1024x256_S1024x128_0_0]
  unfold VecWindow.window head
  congr 1
  funext x
  fin_cases x <;> apply Fin.ext
  · show 0 + 1 * s.val = s.val
    omega
  · show 0 + 1 * d.val = 128 * (0 : Fin 2).val + d.val
    simp

theorem kt1_at (a : Memref sig .tc .vmem S1024x256 .bf16) (X : BufTy.Contents (Elt Ideal) a.view.ty) (s : Fin 1024) (d : Fin 128) :
    kt1 a X (ix2 s d) = head (e := .bf16) (a.view.read (Elt Ideal) X) 1 s d := by
  unfold kt1
  rw [View.readAt_unit a.view X _ rfl inb_S1024x256_S1024x128_0_128]
  unfold VecWindow.window head
  congr 1
  funext x
  fin_cases x <;> apply Fin.ext
  · show 0 + 1 * s.val = s.val
    omega
  · show 128 + 1 * d.val = 128 * (1 : Fin 2).val + d.val
    simp

theorem dg0_at {e : EltTy} (a : Memref sig .tc .vmem S4096x256 e) (X : BufTy.Contents (Elt Ideal) a.view.ty) (r : Fin 1024) (d : Fin 128) :
    dg0 i a X (ix2 r d) = a.view.read (Elt Ideal) X (ix2 (row (i 2).val r) (lane 0 d)) := by
  unfold dg0
  rw [View.readAt_unit a.view X (k0_off1_inb i) (off1_eq i) (inb_of (i 2).isLt 0)]
  exact window_at _ (i 2).isLt 0 _ r d

theorem dg1_at {e : EltTy} (a : Memref sig .tc .vmem S4096x256 e) (X : BufTy.Contents (Elt Ideal) a.view.ty) (r : Fin 1024) (d : Fin 128) :
    dg1 i a X (ix2 r d) = a.view.read (Elt Ideal) X (ix2 (row (i 2).val r) (lane 1 d)) := by
  unfold dg1
  rw [View.readAt_unit a.view X (k0_off2_inb i) (off2_eq i) (inb_of (i 2).isLt 1)]
  exact window_at _ (i 2).isLt 1 _ r d

/-- The score gradients of the diagonal block. -/
abbrev w0 : FVec Ideal S1024x1024 .bf16 := k0_pay38 (F := Ideal) (kt0 arg5 f2) (kt0 arg6 f3) (dg0 i arg3 f0) (dg0 i arg4 f1)
abbrev w1 : FVec Ideal S1024x1024 .bf16 := k0_pay38 (F := Ideal) (kt1 arg5 f2) (kt1 arg6 f3) (dg1 i arg3 f0) (dg1 i arg4 f1)

/-- The sums carried into the loop. -/
abbrev start : FVec Ideal S1024x128 .f32 × FVec Ideal S1024x128 .f32 × FVec Ideal S1024x128 .f32 × FVec Ideal S1024x128 .f32 :=
  (k0_pay40 (F := Ideal) (k0_pay34 (F := Ideal)) (k0_pay35 (F := Ideal) (dg0 i arg3 f0)) (w0 i arg3 arg4 arg5 arg6 f0 f1 f2 f3) (constant S1024x128 .f32 0x00000000#32),
   k0_pay39 (F := Ideal) (kt0 arg5 f2) (dg0 i arg3 f0) (dg0 i arg4 f1),
   k0_pay47 (F := Ideal) ps pt (k0_pay31 (F := Ideal) (kt1 arg5 f2)) (k0_pay33 (F := Ideal) (kt1 arg6 f3)) (k0_pay34 (F := Ideal)) (dg1 i arg3 f0) (dg1 i arg4 f1),
   k0_pay46 (F := Ideal) ps pt (k0_pay31 (F := Ideal) (kt1 arg5 f2)) (k0_pay34 (F := Ideal)) (dg1 i arg3 f0) (dg1 i arg4 f1))

/-- The stores of the diagonal block. -/
abbrev diag : List (View.Piece (Elt Ideal) S4096x256 .f32) :=
  [⟨Rect.unit (s := S4096x256) (k0_off2 i) S1024x128.size (k0_off2_inb i),
      k0_pay48 (F := Ideal) ps pt (k0_pay31 (F := Ideal) (kt1 arg5 f2)) (k0_pay33 (F := Ideal) (kt1 arg6 f3)) (dg1 i arg3 f0) (dg1 i arg4 f1) (dg1 i arg7 G)⟩,
   ⟨Rect.unit (s := S4096x256) (k0_off1 i) S1024x128.size (k0_off1_inb i), k0_pay41 (F := Ideal) (k0_pay30 (F := Ideal) (kt0 arg5 f2)) (w0 i arg3 arg4 arg5 arg6 f0 f1 f2 f3) (dg0 i arg7 G)⟩]

/-- The state after the loop. -/
abbrev fin : (FVec Ideal S1024x128 .f32 × FVec Ideal S1024x128 .f32 × FVec Ideal S1024x128 .f32 × FVec Ideal S1024x128 .f32) × List (View.Piece (Elt Ideal) S4096x256 .f32) :=
  st_k0_t1 𝒱 c bd i arg3 harg3 arg4 harg4 arg5 harg5 arg6 harg6 arg7 harg7 arg8 harg8 arg9 harg9
    (k0_pay30 (F := Ideal) (kt0 arg5 f2)) (k0_pay31 (F := Ideal) (kt1 arg5 f2)) (k0_pay32 (F := Ideal) (kt0 arg6 f3)) (k0_pay33 (F := Ideal) (kt1 arg6 f3)) v74 f0 f1
    (arg7.view.writes (Elt Ideal) G (diag i arg3 arg4 arg5 arg6 arg7 f0 f1 f2 f3 G)) (start i arg3 arg4 arg5 arg6 f0 f1 f2 f3) (k0_t1_loop i).trips

set_option maxHeartbeats 2000000 in
include e0 e1 e2 e3 in
theorem end_at :
    (∀ s d, (fin 𝒱 c bd i arg3 harg3 arg4 harg4 arg5 harg5 arg6 harg6 arg7 harg7 arg8 harg8 arg9 harg9 v74 f0 f1 f2 f3 G).1.1 (ix2 s d) = ∑ q ∈ Finset.range 4, dkAdd (i 2).val x0 x1 x2 x3 0 s d q)
    ∧ (∀ s d, (fin 𝒱 c bd i arg3 harg3 arg4 harg4 arg5 harg5 arg6 harg6 arg7 harg7 arg8 harg8 arg9 harg9 v74 f0 f1 f2 f3 G).1.2.1 (ix2 s d) = ∑ q ∈ Finset.range 4, dvAdd (i 2).val x0 x1 x2 0 s d q)
    ∧ (∀ s d, (fin 𝒱 c bd i arg3 harg3 arg4 harg4 arg5 harg5 arg6 harg6 arg7 harg7 arg8 harg8 arg9 harg9 v74 f0 f1 f2 f3 G).1.2.2.1 (ix2 s d) = ∑ q ∈ Finset.range 4, dkAdd (i 2).val x0 x1 x2 x3 1 s d q)
    ∧ (∀ s d, (fin 𝒱 c bd i arg3 harg3 arg4 harg4 arg5 harg5 arg6 harg6 arg7 harg7 arg8 harg8 arg9 harg9 v74 f0 f1 f2 f3 G).1.2.2.2 (ix2 s d) = ∑ q ∈ Finset.range 4, dvAdd (i 2).val x0 x1 x2 1 s d q)
    ∧ arg7.view.read (Elt Ideal) (arg7.view.writes (Elt Ideal) (arg7.view.writes (Elt Ideal) G (diag i arg3 arg4 arg5 arg6 arg7 f0 f1 f2 f3 G))
        (fin 𝒱 c bd i arg3 harg3 arg4 harg4 arg5 harg5 arg6 harg6 arg7 harg7 arg8 harg8 arg9 harg9 v74 f0 f1 f2 f3 G).2)
      = stepDq (i 2).val x0 x1 x2 x3 (arg7.view.read (Elt Ideal) G) := by
  have hkb : (i 2).val < 4 := (i 2).isLt
  have k0 : ∀ s d, kt0 arg5 f2 (ix2 s d) = head x2 0 s d := fun s d => by rw [kt0_at, e2]
  have k1 : ∀ s d, kt1 arg5 f2 (ix2 s d) = head x2 1 s d := fun s d => by rw [kt1_at, e2]
  have k0' : ∀ s d, kt0 arg6 f3 (ix2 s d) = head x3 0 s d := fun s d => by rw [kt0_at, e3]
  have k1' : ∀ s d, kt1 arg6 f3 (ix2 s d) = head x3 1 s d := fun s d => by rw [kt1_at, e3]
  have q0 : ∀ r d, dg0 i arg3 f0 (ix2 r d) = head x0 0 (row (i 2).val r) d := fun r d => by rw [dg0_at, e0]
  have q1 : ∀ r d, dg1 i arg3 f0 (ix2 r d) = head x0 1 (row (i 2).val r) d := fun r d => by rw [dg1_at, e0]
  have d0 : ∀ r d, dg0 i arg4 f1 (ix2 r d) = head x1 0 (row (i 2).val r) d := fun r d => by rw [dg0_at, e1]
  have d1 : ∀ r d, dg1 i arg4 f1 (ix2 r d) = head x1 1 (row (i 2).val r) d := fun r d => by rw [dg1_at, e1]
  have b0 : ∀ s d, k0_pay30 (F := Ideal) (kt0 arg5 f2) (ix2 s d) = head x2 0 s d := fun s d => (pay30_at _ s d).trans (k0 s d)
  have b1 : ∀ s d, k0_pay31 (F := Ideal) (kt1 arg5 f2) (ix2 s d) = head x2 1 s d := fun s d => by rw [pay31_eq]; exact (pay30_at _ s d).trans (k1 s d)
  have b0' : ∀ s d, k0_pay32 (F := Ideal) (kt0 arg6 f3) (ix2 s d) = head x3 0 s d := fun s d => by rw [pay32_eq]; exact (pay30_at _ s d).trans (k0' s d)
  have b1' : ∀ s d, k0_pay33 (F := Ideal) (kt1 arg6 f3) (ix2 s d) = head x3 1 s d := fun s d => by rw [pay33_eq]; exact (pay30_at _ s d).trans (k1' s d)
  have c0 : ∀ r d, k0_pay35 (F := Ideal) (dg0 i arg3 f0) (ix2 r d) = head x0 0 (row (i 2).val r) d := fun r d => by rw [pay35_eq]; exact (pay30_at _ r d).trans (q0 r d)
  have c1 : ∀ r d, k0_pay35 (F := Ideal) (dg1 i arg3 f0) (ix2 r d) = head x0 1 (row (i 2).val r) d := fun r d => by rw [pay35_eq]; exact (pay30_at _ r d).trans (q1 r d)
  have hw0 := fun s r => d_diag (kb := (i 2).val) k0 k0' q0 d0 s r rfl hkb
  have hw1 := fun s r => d_diag (kb := (i 2).val) k1 k1' q1 d1 s r rfl hkb
  obtain ⟨s1, s2, s3, s4, s5⟩ := st_at 𝒱 c bd i arg3 harg3 arg4 harg4 arg5 harg5 arg6 harg6 arg7 harg7 arg8 harg8 arg9 harg9 _ _ _ _ v74 f0 f1
    (arg7.view.writes (Elt Ideal) G (diag i arg3 arg4 arg5 arg6 arg7 f0 f1 f2 f3 G)) (start i arg3 arg4 arg5 arg6 f0 f1 f2 f3) x0 x1 x2 x3 e0 e1 b0 b1 b0' b1' _ le_rfl
  have ht : (k0_t1_loop i).trips = 3 - (i 2).val := trips_eq i
  have zk : ∀ h s d q, q < (i 2).val → dkAdd (i 2).val x0 x1 x2 x3 h s d q = 0 := fun h s d q hq => by
    unfold dkAdd blk
    simp only [ds_before _ _ _ _ _ hq hkb, zero_mul, Finset.sum_const_zero]
  have zv : ∀ h s d q, q < (i 2).val → dvAdd (i 2).val x0 x1 x2 h s d q = 0 := fun h s d q hq => by
    unfold dvAdd blk
    simp only [pr_before _ _ _ hq hkb, zero_mul, Finset.sum_const_zero]
  refine ⟨fun s d => ?_, fun s d => ?_, fun s d => ?_, fun s d => ?_, ?_⟩
  · refine (s1 s d).trans ?_
    rw [ht, ← sum_from hkb _ (zk 0 s d)]
    exact congrArg (· + _) (dk_of _ _ hw0 c0 s d)
  · refine (s2 s d).trans ?_
    rw [ht, ← sum_from hkb _ (zv 0 s d)]
    exact congrArg (· + _) (dv_diag k0 q0 d0 s d rfl hkb)
  · refine (s3 s d).trans ?_
    rw [ht, ← sum_from hkb _ (zk 1 s d)]
    refine congrArg (· + _) (Eq.trans ?_ (dk_of _ _ hw1 c1 s d))
    exact congrFun (pay47_eq _ _ _ _) _
  · refine (s4 s d).trans ?_
    rw [ht, ← sum_from hkb _ (zv 1 s d)]
    refine congrArg (· + _) (Eq.trans ?_ (dv_diag k1 q1 d1 s d rfl hkb))
    exact congrFun (pay46_eq _ _ _) _
  · funext y
    obtain ⟨t, l, rfl⟩ : ∃ t l, y = (ix2 t l : S4096x256.Idx) := ⟨y 0, y 1, by funext a; fin_cases a <;> rfl⟩
    obtain ⟨q, r, hq, rfl⟩ := row_split t
    obtain ⟨h, d, rfl⟩ : ∃ h d, l = lane h d := ⟨hd l, ln l, (lane_hd l).symm⟩
    have goal : stepDq (i 2).val x0 x1 x2 x3 (arg7.view.read (Elt Ideal) G) (ix2 (row q r) (lane h d))
        = arg7.view.read (Elt Ideal) G (ix2 (row q r) (lane h d)) + dqAdd (i 2).val x0 x1 x2 x3 h (row q r) d := by
      show _ + dqAdd (i 2).val x0 x1 x2 x3 (hd (lane h d)) (row q r) (ln (lane h d)) = _
      rw [hd_lane, ln_lane]
    rw [goal]
    refine (s5 q hq h r d).trans ?_
    rw [View.read_writes_cons_put _ _ _ _ _ (off2_eq i), put_at _ _ hq hkb, View.read_writes_cons_put _ _ _ _ _ (off1_eq i), put_at _ _ hq hkb, View.writes_nil, ht]
    by_cases h1 : (i 2).val < q
    · rw [if_pos ⟨h1, by omega⟩, if_neg (by omega), if_neg (by omega)]
    · rw [if_neg (fun hh => h1 hh.1)]
      by_cases h2 : q = (i 2).val
      · subst h2
        fin_cases h
        · rw [if_neg (by simp), if_pos ⟨rfl, rfl⟩]
          refine (dq_of _ _ _ hw0 b0 r d).trans ?_
          rw [dg0_at]
          rfl
        · rw [if_pos ⟨rfl, rfl⟩]
          rw [pay48_eq]
          refine (dq_of _ _ _ hw1 b1 r d).trans ?_
          rw [dg1_at]
          rfl
      · rw [if_neg (fun hh => h2 hh.1), if_neg (fun hh => h2 hh.1)]
        have hz : dqAdd (i 2).val x0 x1 x2 x3 h (row q r) d = 0 := by
          unfold dqAdd
          simp only [ds_before _ _ _ _ _ (show q < (i 2).val by omega) hkb, zero_mul, Finset.sum_const_zero]
        rw [hz, add_zero]

end
end Cert.Proof.Fox
end
-- ==== Proof.FoxRun.lean ====
module

public import proofs.«01_k».proof.Proof.FoxEnd
public import proofs.«01_k».proof.Proof.Gen.FoxIdeal.Points

@[expose] public section

set_option maxRecDepth 16384

noncomputable section

namespace Cert.Proof.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.FoxIdeal Cert.FoxIdeal.Gen

local notation "𝕄" => MT nD τ sig Unit (Elt Ideal) ℕ (UR sig nD τ) ℕ

variable (c : Dev nD) (i : grid0.Coords)
  (arg3 : Memref sig .tc .vmem S4096x256 .bf16) (harg3 : arg3.IsWhole) (arg4 : Memref sig .tc .vmem S4096x256 .bf16) (harg4 : arg4.IsWhole)
  (arg5 : Memref sig .tc .vmem S1024x256 .bf16) (harg5 : arg5.IsWhole) (arg6 : Memref sig .tc .vmem S1024x256 .bf16) (harg6 : arg6.IsWhole)
  (arg7 : Memref sig .tc .vmem S4096x256 .f32) (harg7 : arg7.IsWhole) (arg8 : Memref sig .tc .vmem S1024x256 .f32) (harg8 : arg8.IsWhole)
  (arg9 : Memref sig .tc .vmem S1024x256 .f32) (harg9 : arg9.IsWhole)
  (x0 x1 : FVec Ideal S4096x256 .bf16) (x2 x3 : FVec Ideal S1024x256 .bf16) (x4 : FVec Ideal S4096x256 .f32)

/-- The query gradient a point starts from: zero at the first block of keys. -/
def seed (kb : ℕ) (x4 : FVec Ideal S4096x256 .f32) : FVec Ideal S4096x256 .f32 := if kb = 0 then fun _ => 0 else x4

set_option maxHeartbeats 1000000 in
theorem run :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare x4 ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3
              ∗ owns (c : Thread nD τ) arg7 fullShare (stepDq (i 2).val x0 x1 x2 x3 (seed (i 2).val x4)) ∗ owns (c : Thread nD τ) arg8 fullShare (outDk (i 2).val x0 x1 x2 x3)
              ∗ owns (c : Thread nD τ) arg9 fullShare (outDv (i 2).val x0 x1 x2)) -∗ K ⟨⟩))
          ⊢ wp frame (wpE (defs₀ (F := Ideal)) Variants.none c none) E (cc0_fox_bwd i arg3 harg3 arg4 harg4 arg5 harg5 arg6 harg6 arg7 harg7 arg8 harg8 arg9 harg9) K := by
    intro E K
    simp only [cc0_fox_bwd_eq_skeleton]; unfold cc0_fox_bwd_skel
    simp only [k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
    sl_exec
    sl_step
    have hv : run.sl.v2 i = 1#1 ↔ (i 2).val = 0 := (by decide +kernel : ∀ j : grid0.Coords, run.sl.v2 j = 1#1 ↔ (j 2).val = 0) i
    have t2 : Scf.trips (k0_t2_loop i).lb (k0_t2_loop i).ub (k0_t2_loop i).st = 0 := trips2_eq i
    have t1 : Scf.trips (k0_t1_loop i).lb (k0_t1_loop i).ub (k0_t1_loop i).st = (k0_t1_loop i).trips := rfl
    have S := end_at Variants.none c none i arg3 harg3 arg4 harg4 arg5 harg5 arg6 harg6 arg7 harg7 arg8 harg8 arg9 harg9 (run.sl.v74 i) f0 f1 f2 f3
      (if hc : run.sl.v2 i = 1#1 then arg7.view.writes (Elt Ideal) f4 [⟨Rect.unit ![0, 0] S4096x256.size inb_S4096x256_S4096x256_0_0, k0_pay29 (F := Ideal)⟩] else f4)
      x0 x1 x2 x3 hf0 hf1 hf2 hf3
    obtain ⟨S1, S2, S3, S4, S5⟩ := S
    iapply Hk
    isplitl [H0]
    · iexists _; isplitr; swap; · iexact H0
      ipureintro; exact hf0
    isplitl [H1]
    · iexists _; isplitr; swap; · iexact H1
      ipureintro; exact hf1
    isplitl [H2]
    · iexists _; isplitr; swap; · iexact H2
      ipureintro; exact hf2
    isplitl [H3]
    · iexists _; isplitr; swap; · iexact H3
      ipureintro; exact hf3
    isplitl [H4]
    · iexists _; isplitr; swap; · iexact H4
      ipureintro
      rw [t2, t1, st_k0_t2.eq_1]
      rw [List.nil_append, View.writes_append]
      delta run.sl.r_9 run.sl.r_8 run.sl.r_7 run.sl.r_6 run.sl.r_5 run.sl.r_4 run.sl.r_3 run.sl.r_2 run.sl.r_1 run.sl.r run.sl.v3 run.sl.v4 run.sl.v39 run.sl.v68 run.sl.cst_14
      refine S5.trans (congrArg (stepDq (i 2).val x0 x1 x2 x3) ?_)
      · unfold seed
        by_cases hk : (i 2).val = 0
        · rw [dif_pos (hv.mpr hk), if_pos hk, View.read_writes_full]
          funext y
          exact pay29_at (y 0) (y 1)
        · rw [dif_neg (hv.not.mpr hk), if_neg hk]
          exact hf4
    isplitl [H5]
    · iexists _; isplitr; swap; · iexact H5
      ipureintro
      rw [t2, t1, st_k0_t2.eq_1]
      exact tiles_read arg8 _ _ _ _ (fun h s d => ∑ q ∈ Finset.range 4, dkAdd (i 2).val x0 x1 x2 x3 h s d q) S1 S3
    iexists _; isplitr; swap; · iexact H6
    ipureintro
    rw [t2, t1, st_k0_t2.eq_1]
    exact tiles_read arg9 _ _ _ _ (fun h s d => ∑ q ∈ Finset.range 4, dvAdd (i 2).val x0 x1 x2 h s d q) S2 S4

end Cert.Proof.Fox
end
-- ==== Proof.FoxFrame.lean ====
module

public import proofs.«01_k».proof.Proof.FoxRun
public import proofs.«01_k».proof.Proof.Gen.FoxIdeal.Frame

@[expose] public section

set_option maxRecDepth 16384

noncomputable section

namespace Cert.Proof.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FoxIdeal Cert.FoxIdeal.Gen

local notation "𝕄" => MT nD τ sig Unit (Elt Ideal) ℕ (UR sig nD τ) ℕ

variable (m : (ℓ : Loc nD τ sig) → Buf (Elt Ideal) ℓ) (ρ : Dev nD → PrngReg)

/-- The inputs of a point: the query rows, their cotangent rows, the keys and the values. -/
abbrev q0 (c : Dev nD) (t : Fin cfg0.N) : FVec Ideal S4096x256 .bf16 := iblk m c 0 t
abbrev g0 (c : Dev nD) (t : Fin cfg0.N) : FVec Ideal S4096x256 .bf16 := iblk m c 1 t
abbrev k0 (c : Dev nD) (t : Fin cfg0.N) : FVec Ideal S1024x256 .bf16 := iblk m c 2 t
abbrev v0 (c : Dev nD) (t : Fin cfg0.N) : FVec Ideal S1024x256 .bf16 := iblk m c 3 t

/-- The block of keys that a point works on. -/
abbrev kbOf (t : Fin cfg0.N) : ℕ := (grid0.coords t 2).val

theorem kbOf_eq : ∀ t : Fin cfg0.N, kbOf t = t.val % 4 :=
  (by decide +kernel : ∀ t : Fin grid0.N, (grid0.coords t 2).val = t.val % 4)

/-- One point's step of the query gradient. -/
abbrev dqStep (c : Dev nD) (t : Fin cfg0.N) (x : FVec Ideal S4096x256 .f32) : FVec Ideal S4096x256 .f32 :=
  stepDq (kbOf t) (q0 m c t) (g0 m c t) (k0 m c t) (v0 m c t) (seed (kbOf t) x)

/-- The query gradient after a point. -/
def dqAt (c : Dev nD) : (n : ℕ) → n < cfg0.N → FVec Ideal S4096x256 .f32
  | 0, h => dqStep m c ⟨0, h⟩ fun _ => 0
  | n + 1, h => dqStep m c ⟨n + 1, h⟩ (dqAt c n (Nat.lt_of_succ_lt h))

theorem dqAt_step (c : Dev nD) (t : Fin cfg0.N) (ht : ¬t.val % 4 = 0) :
    dqAt m c t.val t.isLt = dqStep m c t (dqAt m c (t.val - 1) (Nat.lt_of_le_of_lt (Nat.sub_le _ _) t.isLt)) := by
  obtain ⟨n, hn⟩ := t
  cases n with
  | zero => exact absurd rfl ht
  | succ n => rfl

theorem dqAt_first (c : Dev nD) (t : Fin cfg0.N) (ht : t.val % 4 = 0) (x : FVec Ideal S4096x256 .f32) : dqAt m c t.val t.isLt = dqStep m c t x := by
  have hk := kbOf_eq t
  obtain ⟨n, hn⟩ := t
  have hs : ∀ z z', seed (kbOf ⟨n, hn⟩) z = seed (kbOf ⟨n, hn⟩) z' := fun z z' => by
    unfold seed
    rw [hk, ht, if_pos rfl, if_pos rfl]
  cases n with
  | zero => exact congrArg _ (hs _ _)
  | succ n => exact congrArg _ (hs _ _)

/-- What every window holds after a point, and the pipeline's arrays. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => dqAt m c t.val t.isLt
    | ⟨5, _⟩ => outDk (kbOf t) (q0 m c t) (g0 m c t) (k0 m c t) (v0 m c t)
    | ⟨6, _⟩ => outDv (kbOf t) (q0 m c t) (g0 m c t) (k0 m c t)
    | ⟨_ + 7, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = dqAt m c t.val t.isLt := by dsimp only [dats]
theorem after_5 (c : Dev nD) (t : Fin cfg0.N) : (dats m 0 c).after 5 t = outDk (kbOf t) (q0 m c t) (g0 m c t) (k0 m c t) (v0 m c t) := by dsimp only [dats]
theorem after_6 (c : Dev nD) (t : Fin cfg0.N) : (dats m 0 c).after 6 t = outDv (kbOf t) (q0 m c t) (g0 m c t) (k0 m c t) := by dsimp only [dats]

/-- Between two blocks of keys of one sequence the query gradient stays in place. -/
theorem before_4 (c : Dev nD) (t : Fin cfg0.N) (ht : ¬t.val % 4 = 0) (d) :
    (dats m 0 c).before 4 t d = dqAt m c (t.val - 1) (Nat.lt_of_le_of_lt (Nat.sub_le _ _) t.isLt) := by
  rw [Dat.before_out_kept _ 4 rfl t (by omega) (Bool.eq_false_iff.mpr fun h => by have := (flush0_4 _).mp h; dsimp only at this; omega)
    (fun _ => rfl) (fun _ _ => rfl)]
  dsimp only [dats]

set_option maxHeartbeats 1600000 in
theorem body (c : Dev nD) : BodyObligation (dats m 0 c) (defs₀ (F := Ideal)) Variants.none () Set.univ := fun t => by
  rw [bigSep_W0, bigSep_W0]
  refine triple_restated (W := wp frame (wpE (defs₀ (F := Ideal)) Variants.none c none) Set.univ (bodyAt0 t)) ?_ rfl .rfl fun _ => .rfl
  dsimp only
  have b0 : ∀ d, (dats m 0 c).before 0 t d = iblk m c 0 t := before0_0_of m (dats m 0 c) (A_eq m c 0) (after_0 m c) t
  have b1 : ∀ d, (dats m 0 c).before 1 t d = iblk m c 1 t := before0_1_of m (dats m 0 c) (A_eq m c 1) (after_1 m c) t
  have b2 : ∀ d, (dats m 0 c).before 2 t d = iblk m c 2 t := before0_2_of m (dats m 0 c) (A_eq m c 2) (after_2 m c) t
  have b3 : ∀ d, (dats m 0 c).before 3 t d = iblk m c 3 t := before0_3_of m (dats m 0 c) (A_eq m c 3) (after_3 m c) t
  simp only [b0, b1, b2, b3, after_0, after_1, after_2, after_3, after_4, after_5, after_6]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩⟩
  have e4 : dqAt m c t.val t.isLt = dqStep m c t ((dats m 0 c).before 4 t d4) := by
    by_cases ht : t.val % 4 = 0
    · exact dqAt_first m c t ht _
    · rw [before_4 m c t ht]
      exact dqAt_step m c t ht
  rw [e4]
  iapply (run c (grid0.coords t) _ _ _ _ _ _ _ _ _ _ _ _ _ _ (q0 m c t) (g0 m c t) (k0 m c t) (v0 m c t) ((dats m 0 c).before 4 t d4) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

set_option backward.isDefEq.respectTransparency.types false in
/-- Every run ends with the pipeline's arrays at what the proof data says, the host operations after it done, and no signal left. -/
theorem ends : θ_run defs (onTc (τ := τ) (main (F := Ideal))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := fun c => (body m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

end Cert.Proof.Fox
end
-- ==== Proof.FoxVal.lean ====
/-
  What the attention's backward call leaves in its three result arrays, over the four packed arrays it reads: every
  head of every sequence, with sums over the whole sequence in place of the tiles.
-/
module

public import proofs.«01_k».proof.Proof.FoxFrame
public import Idealize.ShloMosaic.Lib.Pipeline.ValueKit
public import Idealize.ShloMosaic.Lib.Pointwise

@[expose] public section

set_option maxRecDepth 16384

noncomputable section

namespace Cert.Proof.Fox

open Idealize.ShloMosaic Idealize.ShloMosaic.TcCoe Idealize.SL.Sem
open Idealize.ShloMosaic.Pipeline (Dat)
open Cert.FoxIdeal Cert.FoxIdeal.Gen

/-- The row of a packed array that holds position `t` of sequence `b`, and the column that holds lane `l` of head `n`. -/
abbrev prow (b : Fin 2) (t : Fin 4096) : Fin 8192 := ⟨4096 * b.val + t.val, by omega⟩
abbrev pcol (n : Fin 8) (l : Fin 128) : Fin 1024 := ⟨128 * n.val + l.val, by omega⟩
abbrev bOf (r : Fin 8192) : Fin 2 := ⟨r.val / 4096, by omega⟩
abbrev tOf (r : Fin 8192) : Fin 4096 := ⟨r.val % 4096, by omega⟩
abbrev nOf (k : Fin 1024) : Fin 8 := ⟨k.val / 128, by omega⟩
abbrev lOf (k : Fin 1024) : Fin 128 := ⟨k.val % 128, by omega⟩

/-- One head of one sequence in a packed array. -/
abbrev cut (x : FVec Ideal S8192x1024 .bf16) (b : Fin 2) (n : Fin 8) (t : Fin 4096) (l : Fin 128) : EReal := x (ix2 (prow b t) (pcol n l))

section
variable (K V Q D : Fin 4096 → Fin 128 → EReal)

/-- The weight of key `s` for the query at `t`, and that weight times the contraction of value and cotangent. -/
def wt (t s : Fin 4096) : EReal := if s.val ≤ t.val then Ideal.exp2 (∑ d : Fin 128, K s d * Q t d) else 0
def wd (t s : Fin 4096) : EReal := wt K Q t s * ∑ d : Fin 128, V s d * D t d
end

variable (m : (ℓ : Loc nD τ sig) → Buf (Elt Ideal) ℓ)

/-- The packed arrays. -/
abbrev qa (c : Dev nD) : FVec Ideal S8192x1024 .bf16 := V m c main_v77
abbrev ga (c : Dev nD) : FVec Ideal S8192x1024 .bf16 := V m c main_v120
abbrev ka (c : Dev nD) : FVec Ideal S8192x1024 .bf16 := V m c main_v84
abbrev va (c : Dev nD) : FVec Ideal S8192x1024 .bf16 := V m c main_v94

theorem idx : ∀ t : Fin cfg0.N, (win0_0.index t = ![t.val / 16, t.val / 4 % 4] ∧ win0_1.index t = ![t.val / 16, t.val / 4 % 4]
      ∧ win0_2.index t = ![4 * (t.val / 16) + t.val % 4, t.val / 4 % 4] ∧ win0_3.index t = ![4 * (t.val / 16) + t.val % 4, t.val / 4 % 4])
      ∧ win0_4.index t = ![t.val / 16, t.val / 4 % 4] ∧ win0_5.index t = ![4 * (t.val / 16) + t.val % 4, t.val / 4 % 4]
      ∧ win0_6.index t = ![4 * (t.val / 16) + t.val % 4, t.val / 4 % 4] :=
  (by decide +kernel : ∀ t : Fin grid0.N, _)

theorem lt_N (t : Fin cfg0.N) : t.val < 32 := lt_of_lt_of_eq t.isLt N_0

/-- The sequence of a point, and its heads. -/
abbrev sq (t : Fin cfg0.N) : Fin 2 := ⟨t.val / 16, by have := lt_N t; omega⟩
abbrev hh (t : Fin cfg0.N) (h : Fin 2) : Fin 8 := ⟨2 * (t.val / 4 % 4) + h.val, by omega⟩

theorem in_q (c : Dev nD) (t : Fin cfg0.N) (h : Fin 2) (r : Fin 4096) (d : Fin 128) : head (q0 m c t) h r d = cut (qa m c) (sq t) (hh t h) r d := by
  show iblk m c 0 t (ix2 r (lane h d)) = _
  blk_ext [iblk, idx t]

theorem in_g (c : Dev nD) (t : Fin cfg0.N) (h : Fin 2) (r : Fin 4096) (d : Fin 128) : head (g0 m c t) h r d = cut (ga m c) (sq t) (hh t h) r d := by
  show iblk m c 1 t (ix2 r (lane h d)) = _
  blk_ext [iblk, idx t]

theorem in_k (c : Dev nD) (t : Fin cfg0.N) (h : Fin 2) (r : Fin 1024) (d : Fin 128) :
    head (k0 m c t) h r d = cut (ka m c) (sq t) (hh t h) (row (t.val % 4) r) d := by
  have e := row_val (q := t.val % 4) (by omega) r
  show iblk m c 2 t (ix2 r (lane h d)) = _
  blk_ext [iblk, idx t]

theorem in_v (c : Dev nD) (t : Fin cfg0.N) (h : Fin 2) (r : Fin 1024) (d : Fin 128) :
    head (v0 m c t) h r d = cut (va m c) (sq t) (hh t h) (row (t.val % 4) r) d := by
  have e := row_val (q := t.val % 4) (by omega) r
  show iblk m c 3 t (ix2 r (lane h d)) = _
  blk_ext [iblk, idx t]

/-- The weights of one head of one sequence. -/
abbrev wtA (c : Dev nD) (b : Fin 2) (n : Fin 8) : Fin 4096 → Fin 4096 → EReal := wt (cut (ka m c) b n) (cut (qa m c) b n)
abbrev wdA (c : Dev nD) (b : Fin 2) (n : Fin 8) : Fin 4096 → Fin 4096 → EReal := wd (cut (ka m c) b n) (cut (va m c) b n) (cut (qa m c) b n) (cut (ga m c) b n)

theorem pr_wt (c : Dev nD) (t : Fin cfg0.N) (h : Fin 2) (s : Fin 1024) (r : Fin 4096) :
    pr (kbOf t) (head (k0 m c t) h) (head (q0 m c t) h) s r = wtA m c (sq t) (hh t h) r (row (t.val % 4) s) := by
  unfold pr wtA wt
  simp only [in_k, in_q]
  rw [row_val (by omega), kbOf_eq]

theorem ds_wd (c : Dev nD) (t : Fin cfg0.N) (h : Fin 2) (s : Fin 1024) (r : Fin 4096) :
    ds (kbOf t) (head (k0 m c t) h) (head (v0 m c t) h) (head (q0 m c t) h) (head (g0 m c t) h) s r = wdA m c (sq t) (hh t h) r (row (t.val % 4) s) := by
  unfold ds wdA wd
  rw [pr_wt]
  simp only [in_v, in_g]

theorem dqAdd_at (c : Dev nD) (t : Fin cfg0.N) (h : Fin 2) (r : Fin 4096) (d : Fin 128) :
    dqAdd (kbOf t) (q0 m c t) (g0 m c t) (k0 m c t) (v0 m c t) h r d
      = blk (fun s => wdA m c (sq t) (hh t h) r s * cut (ka m c) (sq t) (hh t h) s d) (t.val % 4) := by
  unfold dqAdd blk
  simp only [ds_wd, in_k]

/-- The query gradient after a point is the sum over the blocks of keys so far. -/
theorem dqAt_at (c : Dev nD) (k : ℕ) : ∀ t : Fin cfg0.N, t.val % 4 = k → ∀ (r : Fin 4096) (l : Fin 256),
    dqAt m c t.val t.isLt (ix2 r l)
      = ∑ q ∈ Finset.range (k + 1), blk (fun s => wdA m c (sq t) (hh t (hd l)) r s * cut (ka m c) (sq t) (hh t (hd l)) s (ln l)) q := by
  induction k with
  | zero =>
    intro t ht r l
    rw [dqAt_first m c t ht fun _ => 0]
    show seed (kbOf t) _ (ix2 r l) + dqAdd (kbOf t) (q0 m c t) (g0 m c t) (k0 m c t) (v0 m c t) (hd l) r (ln l) = _
    rw [dqAdd_at, ht, kbOf_eq, ht]
    unfold seed
    rw [if_pos rfl, zero_add, Finset.sum_range_one]
  | succ k ih =>
    intro t ht r l
    have hN := lt_N t
    have hp : t.val - 1 < cfg0.N := Nat.lt_of_le_of_lt (Nat.sub_le _ _) t.isLt
    have i1 := ih ⟨t.val - 1, hp⟩ (by show (t.val - 1) % 4 = k; omega) r l
    have e1 : sq ⟨t.val - 1, hp⟩ = sq t := Fin.ext (by show (t.val - 1) / 16 = t.val / 16; omega)
    have e2 : ∀ h, hh ⟨t.val - 1, hp⟩ h = hh t h := fun h => Fin.ext (by show 2 * ((t.val - 1) / 4 % 4) + h.val = 2 * (t.val / 4 % 4) + h.val; omega)
    rw [e1, e2] at i1
    rw [dqAt_step m c t (by omega)]
    show seed (kbOf t) _ (ix2 r l) + dqAdd (kbOf t) (q0 m c t) (g0 m c t) (k0 m c t) (v0 m c t) (hd l) r (ln l) = _
    rw [dqAdd_at, kbOf_eq]
    unfold seed
    rw [if_neg (by omega), ht, Finset.sum_range_succ _ (k + 1), ← i1]

/-- The three result arrays. -/
def dqF (c : Dev nD) : FVec Ideal S8192x1024 .f32 := fun y =>
  ∑ s, wdA m c (bOf (y 0)) (nOf (y 1)) (tOf (y 0)) s * cut (ka m c) (bOf (y 0)) (nOf (y 1)) s (lOf (y 1))
def dkF (c : Dev nD) : FVec Ideal S8192x1024 .f32 := fun y =>
  ∑ t, wdA m c (bOf (y 0)) (nOf (y 1)) t (tOf (y 0)) * cut (qa m c) (bOf (y 0)) (nOf (y 1)) t (lOf (y 1))
def dvF (c : Dev nD) : FVec Ideal S8192x1024 .f32 := fun y =>
  ∑ t, wtA m c (bOf (y 0)) (nOf (y 1)) t (tOf (y 0)) * cut (ga m c) (bOf (y 0)) (nOf (y 1)) t (lOf (y 1))

section
variable (t : Fin cfg0.N) (l : Fin 256)

abbrev bigcol : Fin 1024 := ⟨256 * (t.val / 4 % 4) + l.val, by omega⟩
theorem nOf_big : nOf (bigcol t l) = hh t (hd l) := Fin.ext (by show (256 * (t.val / 4 % 4) + l.val) / 128 = 2 * (t.val / 4 % 4) + l.val / 128; omega)
theorem lOf_big : lOf (bigcol t l) = ln l := Fin.ext (by show (256 * (t.val / 4 % 4) + l.val) % 128 = l.val % 128; omega)
theorem bOf_prow (b : Fin 2) (r : Fin 4096) : bOf (prow b r) = b := Fin.ext (by show (4096 * b.val + r.val) / 4096 = b.val; omega)
theorem tOf_prow (b : Fin 2) (r : Fin 4096) : tOf (prow b r) = r := Fin.ext (by show (4096 * b.val + r.val) % 4096 = r.val; omega)
end

theorem point4 (c : Dev nD) (t : Fin cfg0.N) (ht : t.val % 4 = 3) (r : Fin 4096) (l : Fin 256) :
    dqAt m c t.val t.isLt (ix2 r l) = dqF m c (ix2 (prow (sq t) r) (bigcol t l)) := by
  rw [dqAt_at m c 3 t ht, sum_blk]
  show _ = ∑ s, wdA m c (bOf (prow (sq t) r)) (nOf (bigcol t l)) (tOf (prow (sq t) r)) s * cut (ka m c) (bOf (prow (sq t) r)) (nOf (bigcol t l)) s (lOf (bigcol t l))
  rw [nOf_big, lOf_big, bOf_prow, tOf_prow]

theorem point5 (c : Dev nD) (t : Fin cfg0.N) (s : Fin 1024) (l : Fin 256) :
    outDk (kbOf t) (q0 m c t) (g0 m c t) (k0 m c t) (v0 m c t) (ix2 s l) = dkF m c (ix2 (prow (sq t) (row (t.val % 4) s)) (bigcol t l)) := by
  show ∑ q ∈ Finset.range 4, dkAdd (kbOf t) (q0 m c t) (g0 m c t) (k0 m c t) (v0 m c t) (hd l) s (ln l) q
    = ∑ u, wdA m c (bOf (prow (sq t) (row (t.val % 4) s))) (nOf (bigcol t l)) u (tOf (prow (sq t) (row (t.val % 4) s)))
      * cut (qa m c) (bOf (prow (sq t) (row (t.val % 4) s))) (nOf (bigcol t l)) u (lOf (bigcol t l))
  rw [nOf_big, lOf_big, bOf_prow, tOf_prow]
  unfold dkAdd
  rw [sum_blk]
  simp only [ds_wd, in_q]

theorem point6 (c : Dev nD) (t : Fin cfg0.N) (s : Fin 1024) (l : Fin 256) :
    outDv (kbOf t) (q0 m c t) (g0 m c t) (k0 m c t) (ix2 s l) = dvF m c (ix2 (prow (sq t) (row (t.val % 4) s)) (bigcol t l)) := by
  show ∑ q ∈ Finset.range 4, dvAdd (kbOf t) (q0 m c t) (g0 m c t) (k0 m c t) (hd l) s (ln l) q
    = ∑ u, wtA m c (bOf (prow (sq t) (row (t.val % 4) s))) (nOf (bigcol t l)) u (tOf (prow (sq t) (row (t.val % 4) s)))
      * cut (ga m c) (bOf (prow (sq t) (row (t.val % 4) s))) (nOf (bigcol t l)) u (lOf (bigcol t l))
  rw [nOf_big, lOf_big, bOf_prow, tOf_prow]
  unfold dvAdd
  rw [sum_blk]
  simp only [pr_wt, in_g]

theorem final4 (c : Dev nD) : (dats m 0 c).arrAt 4 cfg0.N = dqF m c := by
  refine (dats m 0 c).arrAt_eq_of_covers 4 _ (by decide +kernel) fun t hf y => ?_
  blk_simp
  rw [after_4]
  have e : y = ix2 (y 0) (y 1) := by funext a; fin_cases a <;> rfl
  rw [e]
  refine (point4 m c t ((flush0_4 t).mp hf) (y 0) (y 1)).trans ?_
  blk_ext [idx t]

theorem final5 (c : Dev nD) : (dats m 0 c).arrAt 5 cfg0.N = dkF m c := by
  refine (dats m 0 c).arrAt_eq_of_covers 5 _ (by decide +kernel) fun t _ y => ?_
  blk_simp
  rw [after_5]
  have e : y = ix2 (y 0) (y 1) := by funext a; fin_cases a <;> rfl
  rw [e]
  refine (point5 m c t (y 0) (y 1)).trans ?_
  have e := row_val (q := t.val % 4) (by omega) (y 0)
  blk_ext [idx t]

theorem final6 (c : Dev nD) : (dats m 0 c).arrAt 6 cfg0.N = dvF m c := by
  refine (dats m 0 c).arrAt_eq_of_covers 6 _ (by decide +kernel) fun t _ y => ?_
  blk_simp
  rw [after_6]
  have e : y = ix2 (y 0) (y 1) := by funext a; fin_cases a <;> rfl
  rw [e]
  refine (point6 m c t (y 0) (y 1)).trans ?_
  have e := row_val (q := t.val % 4) (by omega) (y 0)
  blk_ext [idx t]

end Cert.Proof.Fox
end
-- ==== Proof.FoxTail.lean ====
module

public import proofs.«01_k».proof.Proof.FoxIn
public import proofs.«01_k».proof.Proof.FoxVal

@[expose] public section

set_option maxRecDepth 16384

noncomputable section

/-! The four results, read off the three arrays the grid leaves. -/

namespace Cert.Proof.Fox

open Idealize.ShloMosaic Idealize.ShloMosaic.TcCoe Idealize.SL.Sem
open Cert.FoxIdeal Cert.FoxIdeal.Gen

abbrev GA := FVec Ideal S8192x1024 .f32

/-- A head's array at one lane. -/
def at2 (x : GA) (b : Fin 2) (t : Fin 4096) (n : Fin 8) (l : Fin 128) : EReal := x (ix2 (prow b t) (pcol n l))

/-- The first 64 lanes of an array. -/
def lanes64 (x : GA) : G64 := extractStridedSlice S2x4096x8x64 ![0, 0, 0, 0] (shapeCast S2x4096x8x128 x shapeCasts_S8192x1024_S2x4096x8x128) slices_S2x4096x8x128_S2x4096x8x64_0_0_0_0

theorem lanes64_at (x : GA) (b : Fin 2) (t : Fin 4096) (n : Fin 8) (d : Fin 64) :
    lanes64 x (ix4 b t n d) = at2 x b t n ⟨d.val, by omega⟩ := by
  pointwise [lanes64]
  exact congrArg₂ (fun i j => x (ix2 i j)) (Fin.ext (by show b.val * 4096 + t.val = 4096 * b.val + t.val; omega))
    (Fin.ext (by show n.val * 128 + d.val = 128 * n.val + d.val; omega))

/-- Lane 68 of one array less lane 65 of another. -/
def gap (x y : GA) : G3 :=
  subf (shapeCast S2x4096x8 (extractStridedSlice S2x4096x8x1 ![0, 0, 0, 68] (shapeCast S2x4096x8x128 x shapeCasts_S8192x1024_S2x4096x8x128) slices_S2x4096x8x128_S2x4096x8x1_0_0_0_68) shapeCasts_S2x4096x8x1_S2x4096x8)
    (shapeCast S2x4096x8 (extractStridedSlice S2x4096x8x1 ![0, 0, 0, 65] (shapeCast S2x4096x8x128 y shapeCasts_S8192x1024_S2x4096x8x128) slices_S2x4096x8x128_S2x4096x8x1_0_0_0_65) shapeCasts_S2x4096x8x1_S2x4096x8)

theorem gap_at (x y : GA) (b : Fin 2) (t : Fin 4096) (n : Fin 8) : gap x y (ix3 b t n) = at2 x b t n 68 - at2 y b t n 65 := by
  pointwise [gap]
  refine congrArg₂ (fun u v : EReal => u - v) ?_ ?_
  · exact congrArg₂ (fun i j => x (ix2 i j)) (Fin.ext (by show b.val * 4096 + t.val = 4096 * b.val + t.val; omega))
      (Fin.ext (by show n.val * 128 + 68 = 128 * n.val + 68; omega))
  · exact congrArg₂ (fun i j => y (ix2 i j)) (Fin.ext (by show b.val * 4096 + t.val = 4096 * b.val + t.val; omega))
      (Fin.ext (by show n.val * 128 + 65 = 128 * n.val + 65; omega))

theorem nOf_pcol (n : Fin 8) (l : Fin 128) : nOf (pcol n l) = n := Fin.ext (by show (128 * n.val + l.val) / 128 = n.val; omega)
theorem lOf_pcol (n : Fin 8) (l : Fin 128) : lOf (pcol n l) = l := Fin.ext (by show (128 * n.val + l.val) % 128 = l.val; omega)

variable (σ : Valuation τ sig (Elt Ideal))

theorem tail_127 : (StableHlo.after hostOps1 σ (Proc.devRef .tc main_v127) : G64)
    = mulf (lanes64 (σ (Proc.devRef .tc main_v121_0))) (broadcastInDim S2x4096x8x64 ![] bcast_S_S2x4096x8x64 (constant (F := Ideal) S_ .f32 0x3E000000#32)) := by
  after_reads_simp
  rfl
theorem tail_130 : (StableHlo.after hostOps1 σ (Proc.devRef .tc main_v130) : G64)
    = mulf (lanes64 (σ (Proc.devRef .tc main_v121_1))) (broadcastInDim S2x4096x8x64 ![] bcast_S_S2x4096x8x64 (σ (Proc.devRef .tc main_v37) : FVec Ideal S_ .f32)) := by
  after_reads_simp
  rfl
theorem tail_131 : (StableHlo.after hostOps1 σ (Proc.devRef .tc main_v131) : G64) = lanes64 (σ (Proc.devRef .tc main_v121_2)) := by
  after_reads_simp
  rfl
theorem tail_136 : (StableHlo.after hostOps1 σ (Proc.devRef .tc main_v136) : G3)
    = gap (σ (Proc.devRef .tc main_v121_0)) (σ (Proc.devRef .tc main_v121_1)) := by
  after_reads_simp
  rfl

variable (m : (ℓ : Loc nD τ sig) → Buf (Elt Ideal) ℓ) (c : Dev nD)

/-- What the buffers hold when the grid is done. -/
abbrev out : Valuation τ sig (Elt Ideal) := Pipeline.withArrays spec0 c (V0 m c) fun w => (dats m 0 c).arrAt w cfg0.N

theorem out_0 : (out m c (Proc.devRef .tc main_v121_0) : GA) = dqF m c := (Pipeline.withArrays_arr spec0 launch0.win.arr_inj c (V0 m c) _ 4).trans (final4 m c)
theorem out_1 : (out m c (Proc.devRef .tc main_v121_1) : GA) = dkF m c := (Pipeline.withArrays_arr spec0 launch0.win.arr_inj c (V0 m c) _ 5).trans (final5 m c)
theorem out_2 : (out m c (Proc.devRef .tc main_v121_2) : GA) = dvF m c := (Pipeline.withArrays_arr spec0 launch0.win.arr_inj c (V0 m c) _ 6).trans (final6 m c)
theorem out_37 : (out m c (Proc.devRef .tc main_v37) : FVec Ideal S_ .f32) = ln2 := by
  refine (Pipeline.withArrays_of_ne _ c (V0 m c) _ main_v37 (by exact (by decide : ∀ w, Pipeline.arrRef spec0 w ≠ main_v37))).trans ?_
  rw [← mid_37 m c, V0_mid]
  exact StableHlo.after_of_forall_not_mem (b := Proc.devRef .tc main_v37) _ _ (List.forall_iff_forall_mem.mp (by
      simp only [hostOps0_3, List.drop_succ_cons, List.drop_zero, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide)))

theorem lane_dq (b : Fin 2) (t : Fin 4096) (n : Fin 8) (l : Fin 128) :
    at2 (dqF m c) b t n l = ∑ s, wdA m c b n t s * cut (ka m c) b n s l := by
  show ∑ s, wdA m c (bOf (prow b t)) (nOf (pcol n l)) (tOf (prow b t)) s * cut (ka m c) (bOf (prow b t)) (nOf (pcol n l)) s (lOf (pcol n l)) = _
  rw [bOf_prow, tOf_prow, nOf_pcol, lOf_pcol]
theorem lane_dk (b : Fin 2) (t : Fin 4096) (n : Fin 8) (l : Fin 128) :
    at2 (dkF m c) b t n l = ∑ u, wdA m c b n u t * cut (qa m c) b n u l := by
  show ∑ s, wdA m c (bOf (prow b t)) (nOf (pcol n l)) s (tOf (prow b t)) * cut (qa m c) (bOf (prow b t)) (nOf (pcol n l)) s (lOf (pcol n l)) = _
  rw [bOf_prow, tOf_prow, nOf_pcol, lOf_pcol]
theorem lane_dv (b : Fin 2) (t : Fin 4096) (n : Fin 8) (l : Fin 128) :
    at2 (dvF m c) b t n l = ∑ u, wtA m c b n u t * cut (ga m c) b n u l := by
  show ∑ s, wtA m c (bOf (prow b t)) (nOf (pcol n l)) s (tOf (prow b t)) * cut (ga m c) (bOf (prow b t)) (nOf (pcol n l)) s (lOf (pcol n l)) = _
  rw [bOf_prow, tOf_prow, nOf_pcol, lOf_pcol]

theorem tail_eq (b : Ref sig .tc) : Pipeline.afterTail₀ cfgs (dats m) 0 (V0 m) [hostOps1] c b = StableHlo.after hostOps1 (out m c) (Proc.devRef .tc b) := by
  unfold Pipeline.afterTail₀
  rw [List.flatten_cons, List.flatten_nil, List.append_nil]

theorem scaled_at (x : GA) (y : FVec Ideal S_ .f32) (b : Fin 2) (t : Fin 4096) (n : Fin 8) (d : Fin 64) :
    mulf (lanes64 x) (broadcastInDim S2x4096x8x64 ![] bcast_S_S2x4096x8x64 y) (ix4 b t n d) = at2 x b t n ⟨d.val, by omega⟩ * y default := by
  rw [← lanes64_at]
  pointwise []
  exact congrArg (fun i => _ * y i) (Subsingleton.elim _ _)

/-- The four results at an index. -/
theorem res_dq (b : Fin 2) (t : Fin 4096) (n : Fin 8) (d : Fin 64) :
    (Pipeline.afterTail₀ cfgs (dats m) 0 (V0 m) [hostOps1] c main_v127 : G64) (ix4 b t n d)
      = (∑ s, wdA m c b n t s * cut (ka m c) b n s ⟨d.val, by omega⟩) * Ideal.ofBits .f32 0x3E000000#32 := by
  rw [tail_eq, tail_127, out_0, scaled_at, lane_dq]
  rfl
theorem res_dk (b : Fin 2) (t : Fin 4096) (n : Fin 8) (d : Fin 64) :
    (Pipeline.afterTail₀ cfgs (dats m) 0 (V0 m) [hostOps1] c main_v130 : G64) (ix4 b t n d)
      = (∑ u, wdA m c b n u t * cut (qa m c) b n u ⟨d.val, by omega⟩) * Ideal.log (Ideal.ofBits .f32 0x40000000#32) := by
  rw [tail_eq, tail_130, out_1, out_37, scaled_at, lane_dk]
  rfl
theorem res_dv (b : Fin 2) (t : Fin 4096) (n : Fin 8) (d : Fin 64) :
    (Pipeline.afterTail₀ cfgs (dats m) 0 (V0 m) [hostOps1] c main_v131 : G64) (ix4 b t n d)
      = ∑ u, wtA m c b n u t * cut (ga m c) b n u ⟨d.val, by omega⟩ := by
  rw [tail_eq, tail_131, out_2, lanes64_at, lane_dv]
theorem res_dc (b : Fin 2) (t : Fin 4096) (n : Fin 8) :
    (Pipeline.afterTail₀ cfgs (dats m) 0 (V0 m) [hostOps1] c main_v136 : G3) (ix3 b t n)
      = (∑ s, wdA m c b n t s * cut (ka m c) b n s 68) - ∑ u, wdA m c b n u t * cut (qa m c) b n u 65 := by
  rw [tail_eq, tail_136, out_0, out_1, gap_at, lane_dq, lane_dk]

end Cert.Proof.Fox
end
-- ==== Proof.FoxLane.lean ====
/-
  The contraction of two rows of 128 lanes in the packed layouts, and the lanes that the results are read off.
-/
module

public import proofs.«01_k».proof.Proof.FoxTail

@[expose] public section

set_option maxRecDepth 16384

noncomputable section

namespace Cert.Proof.Fox

open Idealize.ShloMosaic Idealize.ShloMosaic.TcCoe Idealize.SL.Sem
open Cert.FoxIdeal Cert.FoxIdeal.Gen

/-- The lanes in their groups: 64, one, four times three, and the rest. -/
theorem sum_lanes (f : Fin 128 → EReal) : ∑ i, f i = (∑ d : Fin 64, f ⟨d.val, by omega⟩) + (f 64 + ((∑ j : Fin 3, f ⟨65 + j.val, by omega⟩)
    + ((∑ j : Fin 3, f ⟨68 + j.val, by omega⟩) + ((∑ j : Fin 3, f ⟨71 + j.val, by omega⟩) + ((∑ j : Fin 3, f ⟨74 + j.val, by omega⟩)
      + ∑ j : Fin 51, f ⟨77 + j.val, by omega⟩))))) := by
  refine (Fin.sum_univ_add (a := 64) (b := 64) f).trans (congrArg₂ (· + ·) rfl ?_)
  refine (Fin.sum_univ_add (a := 1) (b := 63) _).trans (congrArg₂ (· + ·) ?_ ?_)
  · rw [Fin.sum_univ_one]; rfl
  refine (Fin.sum_univ_add (a := 3) (b := 60) _).trans (congrArg₂ (· + ·) ?_ ?_)
  · exact Finset.sum_congr rfl fun j _ => congrArg f (Fin.ext (by simp; omega))
  refine (Fin.sum_univ_add (a := 3) (b := 57) _).trans (congrArg₂ (· + ·) ?_ ?_)
  · exact Finset.sum_congr rfl fun j _ => congrArg f (Fin.ext (by simp; omega))
  refine (Fin.sum_univ_add (a := 3) (b := 54) _).trans (congrArg₂ (· + ·) ?_ ?_)
  · exact Finset.sum_congr rfl fun j _ => congrArg f (Fin.ext (by simp; omega))
  refine (Fin.sum_univ_add (a := 3) (b := 51) _).trans (congrArg₂ (· + ·) ?_ ?_)
  · exact Finset.sum_congr rfl fun j _ => congrArg f (Fin.ext (by simp; omega))
  exact Finset.sum_congr rfl fun j _ => congrArg f (Fin.ext (by simp; omega))

section
variable (x x' : G64) (y y' : FVec Ideal S2x4096x8x1 .f32) (p q r p' q' r' : FVec Ideal S2x4096x8x3 .f32) (b : Fin 2) (n : Fin 8) (s t : Fin 4096)

theorem loK (d : Fin 64) : cut (lanesK x y p q r) b n t ⟨d.val, by omega⟩ = x (ix4 b t n d) :=
  (lanesK_at x y p q r b t n ⟨d.val, by omega⟩).trans (dif_pos d.isLt)
theorem yK : cut (lanesK x y p q r) b n t 64 = y (ix4 b t n 0) :=
  (lanesK_at x y p q r b t n 64).trans ((dif_neg (by decide)).trans (dif_pos (by decide)))
theorem pK (j : Fin 3) : cut (lanesK x y p q r) b n t ⟨65 + j.val, by omega⟩ = p (ix4 b t n j) := by
  refine (lanesK_at x y p q r b t n ⟨65 + j.val, by omega⟩).trans ?_
  dsimp only
  rw [dif_neg (show ¬(65 + j.val < 64) by omega), dif_neg (show ¬(65 + j.val - 64 < 1) by omega), dif_pos (show 65 + j.val - 64 - 1 < 3 by omega)]
  exact congrArg (fun z => p (ix4 b t n z)) (Fin.ext (by show 65 + j.val - 64 - 1 = j.val; omega))
theorem qK (j : Fin 3) : cut (lanesK x y p q r) b n t ⟨68 + j.val, by omega⟩ = q (ix4 b t n j) := by
  refine (lanesK_at x y p q r b t n ⟨68 + j.val, by omega⟩).trans ?_
  dsimp only
  rw [dif_neg (show ¬(68 + j.val < 64) by omega), dif_neg (show ¬(68 + j.val - 64 < 1) by omega), dif_neg (show ¬(68 + j.val - 64 - 1 < 3) by omega), dif_pos (show 68 + j.val - 64 - 1 - 3 < 3 by omega)]
  exact congrArg (fun z => q (ix4 b t n z)) (Fin.ext (by show 68 + j.val - 64 - 1 - 3 = j.val; omega))
theorem rK (j : Fin 3) : cut (lanesK x y p q r) b n t ⟨71 + j.val, by omega⟩ = r (ix4 b t n j) := by
  refine (lanesK_at x y p q r b t n ⟨71 + j.val, by omega⟩).trans ?_
  dsimp only
  rw [dif_neg (show ¬(71 + j.val < 64) by omega), dif_neg (show ¬(71 + j.val - 64 < 1) by omega), dif_neg (show ¬(71 + j.val - 64 - 1 < 3) by omega), dif_neg (show ¬(71 + j.val - 64 - 1 - 3 < 3) by omega), dif_pos (show 71 + j.val - 64 - 1 - 3 - 3 < 3 by omega)]
  exact congrArg (fun z => r (ix4 b t n z)) (Fin.ext (by show 71 + j.val - 64 - 1 - 3 - 3 = j.val; omega))
theorem zK (i : Fin 128) (h : 74 ≤ i.val) : cut (lanesK x y p q r) b n t i = 0 := by
  refine (lanesK_at x y p q r b t n i).trans ?_
  rw [dif_neg (show ¬(i.val < 64) by omega), dif_neg (show ¬(i.val - 64 < 1) by omega), dif_neg (show ¬(i.val - 64 - 1 < 3) by omega), dif_neg (show ¬(i.val - 64 - 1 - 3 < 3) by omega), dif_neg (show ¬(i.val - 64 - 1 - 3 - 3 < 3) by omega)]
/-- The contraction of two rows. -/
theorem dotK : ∑ i, cut (lanesK x y p q r) b n s i * cut (lanesK x' y' p' q' r') b n t i
    = (∑ d, x (ix4 b s n d) * x' (ix4 b t n d)) + (y (ix4 b s n 0) * y' (ix4 b t n 0) + ((∑ j, p (ix4 b s n j) * p' (ix4 b t n j))
      + ((∑ j, q (ix4 b s n j) * q' (ix4 b t n j)) + ∑ j, r (ix4 b s n j) * r' (ix4 b t n j)))) := by
  have z : ∀ j : Fin 51, cut (lanesK x y p q r) b n s ⟨77 + j.val, by omega⟩ = 0 := fun j => zK x y p q r b n s _ (by show 74 ≤ 77 + j.val; omega)
  have z1 : ∀ j : Fin 3, cut (lanesK x y p q r) b n s ⟨74 + j.val, by omega⟩ = 0 := fun j => zK x y p q r b n s _ (by show 74 ≤ 74 + j.val; omega)
  rw [sum_lanes]
  simp only [loK, yK, pK, qK, rK, z, z1, zero_mul, Finset.sum_const_zero, add_zero]
end

section
variable (x x' : G64) (y y' : FVec Ideal S2x4096x8x1 .f32) (p q r u p' q' r' u' : FVec Ideal S2x4096x8x3 .f32) (b : Fin 2) (n : Fin 8) (s t : Fin 4096)

theorem loV (d : Fin 64) : cut (lanesV x y p q r u) b n t ⟨d.val, by omega⟩ = x (ix4 b t n d) :=
  (lanesV_at x y p q r u b t n ⟨d.val, by omega⟩).trans (dif_pos d.isLt)
theorem yV : cut (lanesV x y p q r u) b n t 64 = y (ix4 b t n 0) :=
  (lanesV_at x y p q r u b t n 64).trans ((dif_neg (by decide)).trans (dif_pos (by decide)))
theorem pV (j : Fin 3) : cut (lanesV x y p q r u) b n t ⟨65 + j.val, by omega⟩ = p (ix4 b t n j) := by
  refine (lanesV_at x y p q r u b t n ⟨65 + j.val, by omega⟩).trans ?_
  dsimp only
  rw [dif_neg (show ¬(65 + j.val < 64) by omega), dif_neg (show ¬(65 + j.val - 64 < 1) by omega), dif_pos (show 65 + j.val - 64 - 1 < 3 by omega)]
  exact congrArg (fun z => p (ix4 b t n z)) (Fin.ext (by show 65 + j.val - 64 - 1 = j.val; omega))
theorem qV (j : Fin 3) : cut (lanesV x y p q r u) b n t ⟨68 + j.val, by omega⟩ = q (ix4 b t n j) := by
  refine (lanesV_at x y p q r u b t n ⟨68 + j.val, by omega⟩).trans ?_
  dsimp only
  rw [dif_neg (show ¬(68 + j.val < 64) by omega), dif_neg (show ¬(68 + j.val - 64 < 1) by omega), dif_neg (show ¬(68 + j.val - 64 - 1 < 3) by omega), dif_pos (show 68 + j.val - 64 - 1 - 3 < 3 by omega)]
  exact congrArg (fun z => q (ix4 b t n z)) (Fin.ext (by show 68 + j.val - 64 - 1 - 3 = j.val; omega))
theorem rV (j : Fin 3) : cut (lanesV x y p q r u) b n t ⟨71 + j.val, by omega⟩ = r (ix4 b t n j) := by
  refine (lanesV_at x y p q r u b t n ⟨71 + j.val, by omega⟩).trans ?_
  dsimp only
  rw [dif_neg (show ¬(71 + j.val < 64) by omega), dif_neg (show ¬(71 + j.val - 64 < 1) by omega), dif_neg (show ¬(71 + j.val - 64 - 1 < 3) by omega), dif_neg (show ¬(71 + j.val - 64 - 1 - 3 < 3) by omega), dif_pos (show 71 + j.val - 64 - 1 - 3 - 3 < 3 by omega)]
  exact congrArg (fun z => r (ix4 b t n z)) (Fin.ext (by show 71 + j.val - 64 - 1 - 3 - 3 = j.val; omega))
theorem uV (j : Fin 3) : cut (lanesV x y p q r u) b n t ⟨74 + j.val, by omega⟩ = u (ix4 b t n j) := by
  refine (lanesV_at x y p q r u b t n ⟨74 + j.val, by omega⟩).trans ?_
  dsimp only
  rw [dif_neg (show ¬(74 + j.val < 64) by omega), dif_neg (show ¬(74 + j.val - 64 < 1) by omega), dif_neg (show ¬(74 + j.val - 64 - 1 < 3) by omega), dif_neg (show ¬(74 + j.val - 64 - 1 - 3 < 3) by omega), dif_neg (show ¬(74 + j.val - 64 - 1 - 3 - 3 < 3) by omega), dif_pos (show 74 + j.val - 64 - 1 - 3 - 3 - 3 < 3 by omega)]
  exact congrArg (fun z => u (ix4 b t n z)) (Fin.ext (by show 74 + j.val - 64 - 1 - 3 - 3 - 3 = j.val; omega))
theorem zV (i : Fin 128) (h : 77 ≤ i.val) : cut (lanesV x y p q r u) b n t i = 0 := by
  refine (lanesV_at x y p q r u b t n i).trans ?_
  rw [dif_neg (show ¬(i.val < 64) by omega), dif_neg (show ¬(i.val - 64 < 1) by omega), dif_neg (show ¬(i.val - 64 - 1 < 3) by omega), dif_neg (show ¬(i.val - 64 - 1 - 3 < 3) by omega), dif_neg (show ¬(i.val - 64 - 1 - 3 - 3 < 3) by omega), dif_neg (show ¬(i.val - 64 - 1 - 3 - 3 - 3 < 3) by omega)]
/-- The contraction of two rows. -/
theorem dotV : ∑ i, cut (lanesV x y p q r u) b n s i * cut (lanesV x' y' p' q' r' u') b n t i
    = (∑ d, x (ix4 b s n d) * x' (ix4 b t n d)) + (y (ix4 b s n 0) * y' (ix4 b t n 0) + ((∑ j, p (ix4 b s n j) * p' (ix4 b t n j))
      + ((∑ j, q (ix4 b s n j) * q' (ix4 b t n j)) + ((∑ j, r (ix4 b s n j) * r' (ix4 b t n j)) + ∑ j, u (ix4 b s n j) * u' (ix4 b t n j))))) := by
  have z : ∀ j : Fin 51, cut (lanesV x y p q r u) b n s ⟨77 + j.val, by omega⟩ = 0 := fun j => zV x y p q r u b n s _ (by show 77 ≤ 77 + j.val; omega)
  rw [sum_lanes]
  simp only [loV, yV, pV, qV, rV, uV, z, zero_mul, Finset.sum_const_zero, add_zero]
end

end Cert.Proof.Fox
end
-- ==== Proof.FoxRef.lean ====
/-
  The reference's gradient of the attention, one operation after another at an index.
-/
module

public import proofs.«01_k».proof.Proof.Gen.FoxReferenceIdeal.Read
public import Idealize.ShloMosaic.Lib.Pointwise
public import Idealize.ShloMosaic.PureOps.Ideal.Laws
public import proofs.«01_k».proof.Proof.Alg

@[expose] public section

set_option maxRecDepth 16384

noncomputable section

namespace Cert.Proof.FoxR

open Idealize.ShloMosaic Idealize.ShloMosaic.TcCoe Idealize.SL.Sem
open Cert.Proof.Alg
open Cert.FoxReferenceIdeal Cert.FoxReferenceIdeal.Gen Cert.FoxReferenceIdeal.Read

theorem c_ninf : Ideal.ofBits .f32 0xFF800000#32 = ⊥ := by
  simp [Ideal.ofBits, Ideal.ieee]

theorem word_le (s t : Fin 4096) : IntOp.cmpi .sle (BitVec.ofNat 32 s.val) (BitVec.ofNat 32 t.val) = if s.val ≤ t.val then 1#1 else 0#1 := by
  have hs := s.isLt
  have ht := t.isLt
  have e1 : (BitVec.ofNat 32 t.val).toInt = t.val := by
    rw [BitVec.toInt_ofNat', Int.bmod_eq_of_le (by omega) (by omega)]
  have e2 : (BitVec.ofNat 32 s.val).toInt = s.val := by
    rw [BitVec.toInt_ofNat', Int.bmod_eq_of_le (by omega) (by omega)]
  have e : IntOp.cmpi .sle (BitVec.ofNat 32 s.val) (BitVec.ofNat 32 t.val) = BitVec.ofBool (decide (s.val ≤ t.val)) := by
    simp [IntOp.cmpi, BitVec.sle, e1, e2]
  rw [e]
  by_cases h : s.val ≤ t.val <;> simp [h]

theorem mask_at (b : Fin 2) (n : Fin 8) (t s : Fin 4096) :
    (val_main_v18_1 (F := Ideal) : IVec S2x8x4096x4096 1) (ix4 b n t s) = if s.val ≤ t.val then 1#1 else 0#1 := by
  rw [← word_le]
  pointwise [val_main_v18_1, val_main_v16, val_main_v15, val_main_v14, val_main_v13, val_main_v12, val_main_v11, val_main_v10]

variable (x0 x1 x2 : FVec Ideal S2x4096x8x64 .f32) (x3 : FVec Ideal S2x4096x8 .f32) (x4 : FVec Ideal S2x4096x8x64 .f32)
  (b : Fin 2) (n : Fin 8) (t s : Fin 4096)

theorem sc_at : (val_main_v18_0 (F := Ideal) x0 x1 x3 : FVec Ideal S2x8x4096x4096 .f32) (ix4 b n t s)
    = if s.val ≤ t.val then (∑ d : Fin 64, x0 (ix4 b t n d) * x1 (ix4 b s n d)) * Ideal.ofBits .f32 0x3E000000#32
        + (val_main_v0 (F := Ideal) x3 (ix3 b t n) - val_main_v0 (F := Ideal) x3 (ix3 b s n)) else ⊥ := by
  have h := mask_at b n t s
  rw [val_main_v18_0_apply, h]
  pointwise [val_main_v17, val_main_v9, val_main_v8, val_main_v7, val_main_v6, val_main_v5, val_main_v4, val_main_v3, val_main_v2, val_main_v1, val_main_cst, val_main_call1_v2, val_main_call1_v0, val_main_cst_0]
  by_cases hst : s.val ≤ t.val
  · rw [if_pos hst, if_pos hst]; rfl
  · rw [if_neg hst, if_neg hst]; exact c_ninf

theorem mx_at : (val_main_v26 (F := Ideal) x0 x1 x3 : FVec Ideal S2x8x4096 .f32) (ix3 b n t) = val_main_v19 (F := Ideal) x0 x1 x3 (ix3 b n t) := by
  rw [val_main_v26_apply, val_main_v25_apply, val_main_cst_3_apply]
  generalize val_main_v19 (F := Ideal) x0 x1 x3 (ix3 b n t) = v
  show max (Ideal.ofBits .f32 0xFF800000#32) v = v
  rw [c_ninf]
  exact max_eq_right bot_le

theorem e_at : (val_main_v39 (F := Ideal) x0 x1 x3 : FVec Ideal S2x8x4096x4096 .f32) (ix4 b n t s)
    = Ideal.exp (val_main_v18_0 (F := Ideal) x0 x1 x3 (ix4 b n t s) - val_main_v26 (F := Ideal) x0 x1 x3 (ix3 b n t)) := by
  pointwise [val_main_v39, val_main_v38, val_main_v37, val_main_v36]

theorem l_at : (val_main_v40 (F := Ideal) x0 x1 x3 : FVec Ideal S2x8x4096 .f32) (ix3 b n t) = ∑ s, val_main_v39 (F := Ideal) x0 x1 x3 (ix4 b n t s) := by
  pointwise [val_main_v40, val_main_cst_9]

theorem p_at : (val_main_v43 (F := Ideal) x0 x1 x3 : FVec Ideal S2x8x4096x4096 .f32) (ix4 b n t s)
    = Ideal.div (val_main_v39 (F := Ideal) x0 x1 x3 (ix4 b n t s)) (val_main_v40 (F := Ideal) x0 x1 x3 (ix3 b n t)) := by
  pointwise [val_main_v43, val_main_v42, val_main_v41]

theorem dp_at : (val_main_v50 (F := Ideal) x2 x4 : FVec Ideal S2x8x4096x4096 .f32) (ix4 b n t s) = ∑ d : Fin 64, x4 (ix4 b t n d) * x2 (ix4 b s n d) := by
  pointwise [val_main_v50, val_main_v49]

theorem w_at : (val_main_v64 (F := Ideal) x0 x1 x2 x3 x4 : FVec Ideal S2x8x4096x4096 .f32) (ix4 b n t s)
    = (Ideal.div (val_main_v50 (F := Ideal) x2 x4 (ix4 b n t s)) (val_main_v40 (F := Ideal) x0 x1 x3 (ix3 b n t))
        + -(∑ u, val_main_v50 (F := Ideal) x2 x4 (ix4 b n t u)
            * Ideal.div 1 (val_main_v40 (F := Ideal) x0 x1 x3 (ix3 b n t) * val_main_v40 (F := Ideal) x0 x1 x3 (ix3 b n t))
            * val_main_v39 (F := Ideal) x0 x1 x3 (ix4 b n t u))) * val_main_v39 (F := Ideal) x0 x1 x3 (ix4 b n t s) := by
  pointwise [val_main_v64, val_main_v63, val_main_v62, val_main_v61, val_main_v60, val_main_v59, val_main_v58, val_main_v57, val_main_v56, val_main_v55, val_main_v54, val_main_v53, val_main_v46, val_main_v45, val_main_v44, val_main_v41, val_main_cst_10, val_main_cst_11, val_main_cst_12]
  rw [Fin.sum_univ_one]

theorem ws_at : (val_main_v65 (F := Ideal) x0 x1 x2 x3 x4 : FVec Ideal S2x8x4096x4096 .f32) (ix4 b n t s)
    = if s.val ≤ t.val then val_main_v64 (F := Ideal) x0 x1 x2 x3 x4 (ix4 b n t s) else 0 := by
  have h := mask_at b n t s
  rw [val_main_v65_apply, h]
  pointwise [val_main_call2_v0, val_main_call2_cst]
  by_cases hst : s.val ≤ t.val
  · rw [if_pos hst, if_pos hst]; rfl
  · rw [if_neg hst, if_neg hst]; rfl

variable (d : Fin 64)

theorem dv_at : (val_main_v52 (F := Ideal) x0 x1 x3 x4 : FVec Ideal S2x4096x8x64 .f32) (ix4 b s n d)
    = ∑ t, x4 (ix4 b t n d) * val_main_v43 (F := Ideal) x0 x1 x3 (ix4 b n t s) := by
  pointwise [val_main_v52, val_main_v51, val_main_v49]

theorem dk_at : (val_main_v78 (F := Ideal) x0 x1 x2 x3 x4 : FVec Ideal S2x4096x8x64 .f32) (ix4 b s n d)
    = ∑ t, val_main_v65 (F := Ideal) x0 x1 x2 x3 x4 (ix4 b n t s) * Ideal.ofBits .f32 0x3E000000#32 * x0 (ix4 b t n d) := by
  pointwise [val_main_v78, val_main_v77, val_main_v76, val_main_v75, val_main_cst_17]

theorem dq_at : (val_main_v80 (F := Ideal) x0 x1 x2 x3 x4 : FVec Ideal S2x4096x8x64 .f32) (ix4 b t n d)
    = ∑ s, val_main_v65 (F := Ideal) x0 x1 x2 x3 x4 (ix4 b n t s) * Ideal.ofBits .f32 0x3E000000#32 * x1 (ix4 b s n d) := by
  pointwise [val_main_v80, val_main_v79, val_main_v76, val_main_v75, val_main_cst_17]

theorem dc_at : (val_main_v74 (F := Ideal) x0 x1 x2 x3 x4 : FVec Ideal S2x4096x8 .f32) (ix3 b t n)
    = (∑ u, -val_main_v65 (F := Ideal) x0 x1 x2 x3 x4 (ix4 b n u t)) + ∑ s, val_main_v65 (F := Ideal) x0 x1 x2 x3 x4 (ix4 b n t s) := by
  pointwise [val_main_v74, val_main_v73, val_main_v72, val_main_v71, val_main_v70, val_main_v69, val_main_v68, val_main_v67, val_main_v66, val_main_cst_13, val_main_cst_14, val_main_cst_15, val_main_cst_16]
  rw [Fin.sum_univ_one, Fin.sum_univ_one]

end Cert.Proof.FoxR
end
-- ==== Proof.FoxMath.lean ====
/-
  The backward pass of one attention head over the reals: the scores, their softmax, its derivative, and what the two
  ways of writing them come to.
-/
module

public import proofs.«01_k».proof.Proof.Alg

@[expose] public section

noncomputable section

namespace Cert.Proof.Head

open Idealize.ShloMosaic Cert.Proof.Alg

variable {N : ℕ} (q k v g : Fin N → Fin 64 → ℝ) (c M : Fin N → ℝ)

/-- The score, its exponential below the diagonal, the row's sum, the softmax, the derivative by it, and by the score. -/
def sc (t s : Fin N) : ℝ := (∑ d, q t d * k s d) * (1 / 8) + (c t - c s)
def e (t s : Fin N) : ℝ := if s.val ≤ t.val then Real.exp (sc q k c t s - M t) else 0
def l (t : Fin N) : ℝ := ∑ s, e q k c M t s
def p (t s : Fin N) : ℝ := e q k c M t s / l q k c M t
def dp (t s : Fin N) : ℝ := ∑ d, g t d * v s d
def w (t s : Fin N) : ℝ := p q k c M t s * (dp v g t s - ∑ u, p q k c M t u * dp v g t u)

theorem e_nonneg (t s : Fin N) : 0 ≤ e q k c M t s := by
  unfold e; split
  · exact (Real.exp_pos _).le
  · exact le_rfl
theorem l_pos (t : Fin N) : 0 < l q k c M t :=
  Finset.sum_pos' (fun s _ => e_nonneg q k c M t s) ⟨t, Finset.mem_univ t, by unfold e; rw [if_pos le_rfl]; exact Real.exp_pos _⟩

theorem exp_score (t s : Fin N) : Ideal.exp ((if s.val ≤ t.val then ((sc q k c t s : ℝ) : EReal) else ⊥) - (M t : EReal)) = (e q k c M t s : EReal) := by
  unfold e; split
  · rw [← EReal.coe_sub, Ideal.exp_coe]
  · rw [EReal.bot_sub, Ideal.exp_bot, EReal.coe_zero]

theorem log2_pos : 0 < Real.log 2 := Real.log_pos (by norm_num)
theorem c_log2 : Ideal.log (Ideal.ofBits .f32 1073741824#32) = ((Real.log 2 : ℝ) : EReal) := by
  rw [c_two, Ideal.log_coe, if_neg (by norm_num)]
theorem c_eighth : Ideal.ofBits .f32 1040187392#32 = ((1 / 8 : ℝ) : EReal) := by
  simp [Ideal.ofBits, Ideal.ieee, -EReal.coe_mul]; norm_num

/-- Two to the power of a score over the logarithm of two, less the row's `M + log l` over it, is the softmax. -/
theorem exp2_score (t s : Fin N) (h : s.val ≤ t.val) :
    Ideal.exp2 (((∑ d, k s d * (q t d * (1 / 8 / Real.log 2))) + -(c s / Real.log 2) + c t / Real.log 2 + -((M t + Real.log (l q k c M t)) / Real.log 2) : ℝ) : EReal)
      = (p q k c M t s : EReal) := by
  have hl := l_pos q k c M t
  have e1 : (∑ d, k s d * (q t d * (1 / 8 / Real.log 2))) + -(c s / Real.log 2) + c t / Real.log 2 + -((M t + Real.log (l q k c M t)) / Real.log 2)
      = (sc q k c t s - M t - Real.log (l q k c M t)) / Real.log 2 := by
    have e2 : ∑ d, k s d * (q t d * (1 / 8 / Real.log 2)) = (∑ d, q t d * k s d) * (1 / 8 / Real.log 2) := by
      rw [Finset.sum_mul]; exact Finset.sum_congr rfl fun d _ => by ring
    rw [e2]; unfold sc; ring
  rw [e1, Ideal.exp2_coe]
  congr 1
  rw [show ∀ x : ℝ, Real.rpow 2 x = (2 : ℝ) ^ x from fun _ => rfl, Real.rpow_def_of_pos (by norm_num), mul_div_cancel₀ _ log2_pos.ne', Real.exp_sub, Real.exp_log hl]
  unfold p e; rw [if_pos h]

theorem p_above (t s : Fin N) (h : ¬s.val ≤ t.val) : p q k c M t s = 0 := by
  unfold p e; rw [if_neg h, zero_div]

/-- The contraction of the cotangent with the head's output is the softmax-weighted sum of the derivatives. -/
theorem delta_eq (t : Fin N) : ∑ d, g t d * ∑ u, v u d * p q k c M t u = ∑ u, p q k c M t u * dp v g t u := by
  unfold dp
  simp only [Finset.mul_sum]
  rw [Finset.sum_comm]
  exact Finset.sum_congr rfl fun u _ => Finset.sum_congr rfl fun d _ => by ring

/-- The derivative by the score, written with the exponentials and their sum. -/
theorem w_exp (t s : Fin N) :
    (dp v g t s / l q k c M t + -∑ u, dp v g t u * (1 / (l q k c M t * l q k c M t)) * e q k c M t u) * e q k c M t s = w q k v g c M t s := by
  have hl := (l_pos q k c M t).ne'
  unfold w
  have h1 : ∑ u, dp v g t u * (1 / (l q k c M t * l q k c M t)) * e q k c M t u = (∑ u, p q k c M t u * dp v g t u) / l q k c M t := by
    rw [Finset.sum_div]
    refine Finset.sum_congr rfl fun u _ => ?_
    unfold p; field_simp
  rw [h1]
  generalize ∑ u, p q k c M t u * dp v g t u = S
  unfold p; field_simp; ring

theorem w_above (t s : Fin N) (h : ¬s.val ≤ t.val) : w q k v g c M t s = 0 := by
  unfold w; rw [p_above q k c M t s h, zero_mul]

/-- A maximum over reals and `⊥`, one of them a real, is a real. -/
theorem isR_max {ι : Type*} (s : Finset ι) (f : ι → EReal) (h : ∀ i, f i = ⊥ ∨ IsR (f i)) (i : ι) (hm : i ∈ s) (hi : IsR (f i)) :
    IsR (s.fold max ⊥ f) := by
  have h1 : s.fold max ⊥ f = ⊥ ∨ IsR (s.fold max ⊥ f) := by
    classical
    clear hm
    induction s using Finset.induction_on with
    | empty => exact Or.inl Finset.fold_empty
    | insert a s ha ih =>
      rw [Finset.fold_insert ha]
      rcases h a with h0 | h0 <;> rcases ih with h2 | h2
      · left; rw [h0, h2, max_self]
      · right; rw [h0, max_eq_right bot_le]; exact h2
      · right; rw [h2, max_eq_left bot_le]; exact h0
      · right; exact h0.max h2
  rcases h1 with h1 | h1
  · obtain ⟨r, hr⟩ := hi
    have h2 : f i ≤ s.fold max ⊥ f := (Finset.le_fold_max _).2 (Or.inr ⟨i, hm, le_rfl⟩)
    rw [h1, hr] at h2
    exact absurd (le_bot_iff.1 h2) (EReal.coe_ne_bot r)
  · exact h1

theorem isR_foldl {ι : Type*} (L : List ι) (f : ι → EReal) (h : ∀ i, IsR (f i)) (z : EReal) (hz : IsR z) :
    IsR (L.foldl (fun r i => r + f i) z) := by
  induction L generalizing z with
  | nil => exact hz
  | cons a L ih => exact ih _ (hz.add (h a))

end Cert.Proof.Head
end
-- ==== Proof.FoxReal.lean ====
/-
  At finite arguments the running sums of the gates and the rows' maxima are real numbers.
-/
module

public import proofs.«01_k».proof.Proof.FoxRef
public import proofs.«01_k».proof.Proof.FoxMath

@[expose] public section

set_option maxRecDepth 16384

noncomputable section

namespace Cert.Proof.FoxR

open Idealize.ShloMosaic Idealize.ShloMosaic.TcCoe Idealize.SL.Sem
open Cert.Proof.Alg
open Cert.FoxReferenceIdeal Cert.FoxReferenceIdeal.Gen Cert.FoxReferenceIdeal.Read

theorem real_gates (x3 : FVec Ideal S2x4096x8 .f32) (h : ∀ i, IsR (x3 i)) (i : S2x4096x8.Idx) : IsR (val_main_v0 (F := Ideal) x3 i) := by
  have hz : val_main_call0_call0_v0 (F := Ideal) (Shape.Idx.first h_S_) = 0 := by
    pointwise [val_main_call0_call0_v0, val_main_call0_call0_cst]
  unfold val_main_v0 Host.reduceWindowAdd
  rw [Ideal.hostReduceWindowAdd_def, hz]
  unfold Ideal.hostReduceWindowAdd Host.reduceWindow
  refine Head.isR_foldl _ _ (fun n => ?_) _ isR_zero
  split
  · exact h _
  · exact isR_zero

theorem real_sc (x0 x1 : FVec Ideal S2x4096x8x64 .f32) (x3 : FVec Ideal S2x4096x8 .f32) (h0 : ∀ i, IsR (x0 i)) (h1 : ∀ i, IsR (x1 i)) (h3 : ∀ i, IsR (x3 i))
    (b : Fin 2) (n : Fin 8) (t s : Fin 4096) (hs : s.val ≤ t.val) : IsR (val_main_v18_0 (F := Ideal) x0 x1 x3 (ix4 b n t s)) := by
  rw [sc_at, if_pos hs, Head.c_eighth]
  exact ((IsR.sum _ fun d => (h0 _).mul (h1 _)).mul (isR_coe _)).add ((real_gates x3 h3 _).sub (real_gates x3 h3 _))

theorem real_max (x0 x1 : FVec Ideal S2x4096x8x64 .f32) (x3 : FVec Ideal S2x4096x8 .f32) (h0 : ∀ i, IsR (x0 i)) (h1 : ∀ i, IsR (x1 i)) (h3 : ∀ i, IsR (x3 i))
    (b : Fin 2) (n : Fin 8) (t : Fin 4096) : IsR (val_main_v19 (F := Ideal) x0 x1 x3 (ix3 b n t)) := by
  have hc : val_main_cst_1 (F := Ideal) (Shape.Idx.first h_S_) = (⊥ : EReal) := (val_main_cst_1_apply _).trans c_ninf
  unfold val_main_v19
  have hR : S2x8x4096x4096.Reduces [3] S2x8x4096 := by decide
  rw [Host.reduce_eq_fold_single FloatOps.maximumf _ _ reducesTo_S2x8x4096x4096_S2x8x4096_d3 hR h_S_, hc]
  have hl : ∀ s : Fin 4096, val_main_v18_0 (F := Ideal) x0 x1 x3 (hR.lift (ix3 b n t) s) = val_main_v18_0 (F := Ideal) x0 x1 x3 (ix4 b n t s) := fun s =>
    congrArg _ (by funext a; fin_cases a <;> rfl)
  refine Head.isR_max _ _ (fun s => (congrArg (fun x : EReal => x = ⊥ ∨ IsR x) (hl s)).mpr ?_) t (Finset.mem_univ _)
    ((congrArg IsR (hl t)).mpr (real_sc x0 x1 x3 h0 h1 h3 b n t t le_rfl))
  by_cases hs : s.val ≤ t.val
  · exact Or.inr (real_sc x0 x1 x3 h0 h1 h3 b n t s hs)
  · exact Or.inl ((sc_at x0 x1 x3 b n t s).trans (if_neg hs))

end Cert.Proof.FoxR
end
-- ==== Proof.FoxHead.lean ====
/-
  At finite arguments the attention's backward call and the gradient of the attention leave the same four arrays.
-/
module

public import proofs.«01_k».proof.Proof.FoxLane
public import proofs.«01_k».proof.Proof.FoxReal

@[expose] public section

set_option maxRecDepth 16384

noncomputable section

namespace Cert.Proof.Fox

open Idealize.ShloMosaic Idealize.ShloMosaic.TcCoe Idealize.SL.Sem
open Cert.Proof.Alg
open Cert.FoxIdeal Cert.FoxIdeal.Gen

theorem fill1_at (i : S2x4096x8x1.Idx) : fill1 one i = 1 := by pointwise []
theorem fill3_at (i : S2x4096x8x3.Idx) : fill3 one i = 1 := by pointwise []
theorem nil1_at (i : S2x4096x8x1.Idx) : nil1 i = 0 := by pointwise []
theorem nil3_at (i : S2x4096x8x3.Idx) : nil3 i = 0 := by pointwise []
theorem over_at (x : G3) (i : S2x4096x8.Idx) : over x i = Ideal.div (x i) (Real.log 2 : ℝ) := by
  rw [← Head.c_log2]
  pointwise []

theorem parts_three (x : G3) (b : Fin 2) (t : Fin 4096) (n : Fin 8) (h : IsR (x (ix3 b t n))) :
    parts x (ix4 b t n 0) = x (ix3 b t n) ∧ parts x (ix4 b t n 1) = 0 ∧ parts x (ix4 b t n 2) = 0 :=
  ⟨(parts_at x b t n 0).trans (if_pos (by decide)),
    (parts_at x b t n 1).trans ((if_neg (by decide)).trans ((if_pos (by decide)).trans h.sub_self)),
    (parts_at x b t n 2).trans ((if_neg (by decide)).trans ((if_neg (by decide)).trans (by rw [h.sub_self, sub_zero])))⟩

theorem sum_parts (x : G3) (b : Fin 2) (t : Fin 4096) (n : Fin 8) (h : IsR (x (ix3 b t n))) : ∑ j, 1 * parts x (ix4 b t n j) = x (ix3 b t n) := by
  obtain ⟨e0, e1, e2⟩ := parts_three x b t n h
  rw [Fin.sum_univ_three, e0, e1, e2]
  simp only [one_mul, add_zero]
theorem sum_neg_parts (x : G3) (b : Fin 2) (t : Fin 4096) (n : Fin 8) (h : IsR (x (ix3 b t n))) :
    ∑ j, Host.negf (parts x) (ix4 b t n j) * 1 = -x (ix3 b t n) := by
  obtain ⟨e0, e1, e2⟩ := parts_three x b t n h
  have e (j) : Host.negf (parts x) (ix4 b t n j) = -parts x (ix4 b t n j) := rfl
  rw [Fin.sum_univ_three, e, e, e, e0, e1, e2]
  simp only [mul_one, neg_zero, add_zero]

theorem scale (i : S2x4096x8x64.Idx) : broadcastInDim S2x4096x8x64 ![] bcast_S_S2x4096x8x64 (Host.divf (constant (F := Ideal) S_ .f32 0x3E000000#32) ln2) i
    = ((1 / 8 / Real.log 2 : ℝ) : EReal) := by
  rw [← div_ne Head.log2_pos.ne', ← Head.c_log2, ← Head.c_eighth]
  pointwise []

variable (m : (ℓ : Loc nD τ sig) → Buf (Elt Ideal) ℓ) (c : Dev nD) (b : Fin 2) (n : Fin 8)

/-- The gates' running sums, the scores and their greatest per query, over the arguments. -/
abbrev gatesOf (x3 : G3) : G3 := Cert.FoxReferenceIdeal.Read.val_main_v0 (F := Ideal) x3
abbrev scOf (x0 x1 : G64) (x3 : G3) : FVec Ideal S2x8x4096x4096 .f32 := Cert.FoxReferenceIdeal.Read.val_main_v18_0 (F := Ideal) x0 x1 x3
abbrev mxOf (x0 x1 : G64) (x3 : G3) : FVec Ideal S2x8x4096 .f32 := Cert.FoxReferenceIdeal.Read.val_main_v19 (F := Ideal) x0 x1 x3

/-- One head's arguments, its running sums and its rows' maxima as real numbers. -/
structure Rows (x0 x1 x2 : G64) (x3 : G3) (b : Fin 2) (n : Fin 8) (q k v : Fin 4096 → Fin 64 → ℝ) (C M : Fin 4096 → ℝ) : Prop where
  q : ∀ t d, x0 (ix4 b t n d) = (q t d : EReal)
  k : ∀ t d, x1 (ix4 b t n d) = (k t d : EReal)
  v : ∀ t d, x2 (ix4 b t n d) = (v t d : EReal)
  C : ∀ t, gatesOf x3 (ix3 b t n) = (C t : EReal)
  M : ∀ t, mxOf x0 x1 x3 (ix3 b n t) = (M t : EReal)

theorem rows {x0 x1 x2 : G64} {x3 : G3} (h0 : ∀ i, IsR (x0 i)) (h1 : ∀ i, IsR (x1 i)) (h2 : ∀ i, IsR (x2 i)) (h3 : ∀ i, IsR (x3 i)) :
    ∃ q k v C M, Rows x0 x1 x2 x3 b n q k v C M := by
  choose q hq using h0
  choose k hk using h1
  choose v hv using h2
  choose C hC using FoxR.real_gates x3 h3
  choose M hM using FoxR.real_max x0 x1 x3 (fun i => ⟨q i, hq i⟩) (fun i => ⟨k i, hk i⟩) h3 b n
  exact ⟨fun t d => q (ix4 b t n d), fun t d => k (ix4 b t n d), fun t d => v (ix4 b t n d), fun t => C (ix3 b t n), M,
    ⟨fun _ _ => hq _, fun _ _ => hk _, fun _ _ => hv _, fun _ => hC _, hM⟩⟩

namespace Rows
variable {x0 x1 x2 : G64} {x3 : G3} {b n} {q k v : Fin 4096 → Fin 64 → ℝ} {C M : Fin 4096 → ℝ} (H : Rows x0 x1 x2 x3 b n q k v C M) (t s : Fin 4096)
include H

theorem score : scOf x0 x1 x3 (ix4 b n t s) = if s.val ≤ t.val then ((Head.sc q k C t s : ℝ) : EReal) else ⊥ := by
  refine (FoxR.sc_at x0 x1 x3 b n t s).trans (if_congr Iff.rfl ?_ rfl)
  simp only [H.q, H.k, H.C, Head.c_eighth, ← EReal.coe_mul, ← coe_sum, ← EReal.coe_add, ← EReal.coe_sub]
  rfl

theorem exps : ex (scOf x0 x1 x3) (mxOf x0 x1 x3) (ix4 b n t s) = (Head.e q k C M t s : EReal) := by
  rw [ex_at, H.score, H.M, Head.exp_score]
theorem sums : den (scOf x0 x1 x3) (mxOf x0 x1 x3) (ix3 b n t) = (Head.l q k C M t : EReal) := by
  rw [den_at]; simp only [H.exps, ← coe_sum]; rfl
theorem probs : prob (scOf x0 x1 x3) (mxOf x0 x1 x3) (ix4 b n t s) = (Head.p q k C M t s : EReal) := by
  rw [prob_at, H.exps, H.sums, div_ne (Head.l_pos q k C M t).ne']; rfl
theorem logs : lse (scOf x0 x1 x3) (mxOf x0 x1 x3) (ix3 b t n) = ((M t + Real.log (Head.l q k C M t) : ℝ) : EReal) := by
  rw [lse_at, H.sums, H.M, Ideal.log_coe, if_neg (not_le.2 (Head.l_pos q k C M t)), ← EReal.coe_add]
theorem over_gates : over (gatesOf x3) (ix3 b t n) = ((C t / Real.log 2 : ℝ) : EReal) := by rw [over_at, H.C, div_ne Head.log2_pos.ne']
end Rows

/-- The same with the cotangent. -/
structure Reals (q k v g : Fin 4096 → Fin 64 → ℝ) (C M : Fin 4096 → ℝ) : Prop extends Rows (a0 m c) (a1 m c) (a2 m c) (a3 m c) b n q k v C M where
  g : ∀ t d, a4 m c (ix4 b t n d) = (g t d : EReal)

theorem reals (h0 : ∀ i, IsR (a0 m c i)) (h1 : ∀ i, IsR (a1 m c i)) (h2 : ∀ i, IsR (a2 m c i)) (h3 : ∀ i, IsR (a3 m c i)) (h4 : ∀ i, IsR (a4 m c i)) :
    ∃ q k v g C M, Reals m c b n q k v g C M := by
  obtain ⟨q, k, v, C, M, H⟩ := rows b n h0 h1 h2 h3
  choose g hg using h4
  exact ⟨q, k, v, fun t d => g (ix4 b t n d), C, M, ⟨H, fun _ _ => hg _⟩⟩

namespace Reals
variable {m c b n} {q k v g : Fin 4096 → Fin 64 → ℝ} {C M : Fin 4096 → ℝ} (H : Reals m c b n q k v g C M) (t s : Fin 4096)
include H

theorem deltas : delta (a4 m c) (a2 m c) (sc m c) (mx m c) (ix3 b t n) = ((∑ u, Head.p q k C M t u * Head.dp v g t u : ℝ) : EReal) := by
  rw [delta_at]
  simp only [H.probs, H.g, H.v, ← EReal.coe_mul, ← coe_sum]
  rw [Head.delta_eq]

/-- The kernel's two contractions. -/
theorem keys : ∑ i, cut (ka m c) b n s i * cut (qa m c) b n t i
    = (((∑ d, k s d * (q t d * (1 / 8 / Real.log 2))) + -(C s / Real.log 2) + C t / Real.log 2 + -((M t + Real.log (Head.l q k C M t)) / Real.log 2) : ℝ) : EReal) := by
  have hl := Head.log2_pos.ne'
  have eC : ∀ t, over (gates m c) (ix3 b t n) = ((C t / Real.log 2 : ℝ) : EReal) := H.over_gates
  have eL : Host.negf (over (lse (sc m c) (mx m c))) (ix3 b t n) = ((-((M t + Real.log (Head.l q k C M t)) / Real.log 2) : ℝ) : EReal) := by
    show -over (lse (sc m c) (mx m c)) (ix3 b t n) = _
    rw [over_at, H.logs, div_ne hl, ← EReal.coe_neg]
  rw [show ka m c = _ from v84_eq m c, show qa m c = _ from v77_eq m c, dotK]
  simp only [fill3_at, nil1_at]
  rw [sum_neg_parts _ _ _ _ ⟨_, eC s⟩, sum_parts _ _ _ _ ⟨_, eC t⟩, sum_parts _ _ _ _ ⟨_, eL⟩, eC, eC, eL]
  have eq (d) : mulf (F := Ideal) (φ := .f32) (a0 m c) (broadcastInDim S2x4096x8x64 ![] bcast_S_S2x4096x8x64 (Host.divf (constant (F := Ideal) S_ .f32 0x3E000000#32) ln2)) (ix4 b t n d)
      = ((q t d * (1 / 8 / Real.log 2) : ℝ) : EReal) := by
    show a0 m c (ix4 b t n d) * _ = _
    rw [H.q, scale, ← EReal.coe_mul]
  simp only [eq, H.k, mul_zero, zero_add, ← EReal.coe_mul, ← coe_sum, ← EReal.coe_neg, ← EReal.coe_add]
  congr 1
  ring

theorem vals : ∑ i, cut (va m c) b n s i * cut (ga m c) b n t i = ((Head.dp v g t s - ∑ u, Head.p q k C M t u * Head.dp v g t u : ℝ) : EReal) := by
  have eD : Host.negf (delta (a4 m c) (a2 m c) (sc m c) (mx m c)) (ix3 b t n) = ((-(∑ u, Head.p q k C M t u * Head.dp v g t u) : ℝ) : EReal) := by
    show -delta (a4 m c) (a2 m c) (sc m c) (mx m c) (ix3 b t n) = _
    rw [H.deltas, ← EReal.coe_neg]
  rw [show va m c = _ from v94_eq m c, show ga m c = _ from v120_eq m c, dotV]
  simp only [fill3_at, fill1_at, nil1_at, nil3_at]
  rw [sum_parts _ _ _ _ ⟨_, eD⟩, eD]
  simp only [H.v, H.g, mul_zero, zero_mul, Finset.sum_const_zero, zero_add, ← EReal.coe_mul, ← coe_sum, ← EReal.coe_add]
  congr 1
  unfold Head.dp
  rw [sub_eq_add_neg]
  congr 1
  exact Finset.sum_congr rfl fun d _ => mul_comm _ _

theorem weight : wtA m c b n t s = (Head.p q k C M t s : EReal) := by
  show wt _ _ t s = _
  unfold wt
  rw [H.keys]
  by_cases h : s.val ≤ t.val
  · rw [if_pos h, Head.exp2_score _ _ _ _ _ _ h]
  · rw [if_neg h, Head.p_above _ _ _ _ _ _ h, EReal.coe_zero]
theorem back : wdA m c b n t s = (Head.w q k v g C M t s : EReal) := by
  show wd _ _ _ _ t s = _
  unfold wd
  rw [show wt _ _ t s = _ from H.weight t s, H.vals, ← EReal.coe_mul]
  rfl

/-- The reference's. -/
theorem ref_mx : Cert.FoxReferenceIdeal.Read.val_main_v26 (F := Ideal) (a0 m c) (a1 m c) (a3 m c) (ix3 b n t) = (M t : EReal) :=
  (FoxR.mx_at (a0 m c) (a1 m c) (a3 m c) b n t).trans (H.M t)
theorem ref_e : Cert.FoxReferenceIdeal.Read.val_main_v39 (F := Ideal) (a0 m c) (a1 m c) (a3 m c) (ix4 b n t s) = (Head.e q k C M t s : EReal) := by
  refine (FoxR.e_at (a0 m c) (a1 m c) (a3 m c) b n t s).trans ?_
  rw [H.ref_mx, show Cert.FoxReferenceIdeal.Read.val_main_v18_0 (F := Ideal) (a0 m c) (a1 m c) (a3 m c) (ix4 b n t s) = _ from H.score t s, Head.exp_score]
theorem ref_l : Cert.FoxReferenceIdeal.Read.val_main_v40 (F := Ideal) (a0 m c) (a1 m c) (a3 m c) (ix3 b n t) = (Head.l q k C M t : EReal) := by
  refine (FoxR.l_at (a0 m c) (a1 m c) (a3 m c) b n t).trans ?_
  simp only [H.ref_e, ← coe_sum]; rfl
theorem ref_p : Cert.FoxReferenceIdeal.Read.val_main_v43 (F := Ideal) (a0 m c) (a1 m c) (a3 m c) (ix4 b n t s) = (Head.p q k C M t s : EReal) := by
  refine (FoxR.p_at (a0 m c) (a1 m c) (a3 m c) b n t s).trans ?_
  rw [H.ref_e, H.ref_l, div_ne (Head.l_pos q k C M t).ne']; rfl
theorem ref_dp : Cert.FoxReferenceIdeal.Read.val_main_v50 (F := Ideal) (a2 m c) (a4 m c) (ix4 b n t s) = (Head.dp v g t s : EReal) := by
  refine (FoxR.dp_at (a2 m c) (a4 m c) b n t s).trans ?_
  simp only [H.g, H.v, ← EReal.coe_mul, ← coe_sum]; rfl
theorem ref_w : Cert.FoxReferenceIdeal.Read.val_main_v65 (F := Ideal) (a0 m c) (a1 m c) (a2 m c) (a3 m c) (a4 m c) (ix4 b n t s) = (Head.w q k v g C M t s : EReal) := by
  have hl := (Head.l_pos q k C M t).ne'
  refine (FoxR.ws_at (a0 m c) (a1 m c) (a2 m c) (a3 m c) (a4 m c) b n t s).trans ?_
  by_cases h : s.val ≤ t.val
  · rw [if_pos h, FoxR.w_at]
    simp only [H.ref_e, H.ref_l, H.ref_dp]
    rw [div_ne hl, ← EReal.coe_mul (Head.l q k C M t), ← EReal.coe_one, div_ne (mul_ne_zero hl hl)]
    simp only [← EReal.coe_mul, ← coe_sum, ← EReal.coe_neg, ← EReal.coe_add]
    rw [Head.w_exp]
  · rw [if_neg h, Head.w_above _ _ _ _ _ _ _ _ h, EReal.coe_zero]

end Reals

variable (h : ∀ b n, ∃ q k v g C M, Reals m c b n q k v g C M)
include h

theorem same_dq : (Pipeline.afterTail₀ cfgs (dats m) 0 (V0 m) [hostOps1] c main_v127 : G64)
    = Cert.FoxReferenceIdeal.Read.val_main_v80 (F := Ideal) (a0 m c) (a1 m c) (a2 m c) (a3 m c) (a4 m c) := by
  funext j
  obtain ⟨b, t, n, d, rfl⟩ : ∃ b t n d, j = ix4 b t n d := ⟨j 0, j 1, j 2, j 3, by funext a; fin_cases a <;> rfl⟩
  obtain ⟨q, k, v, g, C, M, H⟩ := h b n
  refine (res_dq m c b t n d).trans (Eq.trans ?_ (FoxR.dq_at (a0 m c) (a1 m c) (a2 m c) (a3 m c) (a4 m c) b n t d).symm)
  have ek (s : Fin 4096) : cut (ka m c) b n s ⟨d.val, by omega⟩ = (k s d : EReal) := by
    rw [show ka m c = _ from v84_eq m c, loK, H.k]
  simp only [H.back, ek, H.ref_w, H.k, Head.c_eighth, ← EReal.coe_mul, ← coe_sum]
  congr 1
  rw [Finset.sum_mul]
  exact Finset.sum_congr rfl fun s _ => by ring

theorem same_dk : (Pipeline.afterTail₀ cfgs (dats m) 0 (V0 m) [hostOps1] c main_v130 : G64)
    = Cert.FoxReferenceIdeal.Read.val_main_v78 (F := Ideal) (a0 m c) (a1 m c) (a2 m c) (a3 m c) (a4 m c) := by
  funext j
  obtain ⟨b, t, n, d, rfl⟩ : ∃ b t n d, j = ix4 b t n d := ⟨j 0, j 1, j 2, j 3, by funext a; fin_cases a <;> rfl⟩
  obtain ⟨q, k, v, g, C, M, H⟩ := h b n
  refine (res_dk m c b t n d).trans (Eq.trans ?_ (FoxR.dk_at (a0 m c) (a1 m c) (a2 m c) (a3 m c) (a4 m c) b n t d).symm)
  have eq (u : Fin 4096) : cut (qa m c) b n u ⟨d.val, by omega⟩ = ((q u d * (1 / 8 / Real.log 2) : ℝ) : EReal) := by
    rw [show qa m c = _ from v77_eq m c, loK]
    show a0 m c (ix4 b u n d) * _ = _
    rw [H.q, scale, ← EReal.coe_mul]
  have hl := Head.log2_pos.ne'
  simp only [H.back, eq, H.ref_w, H.q, Head.c_eighth, Head.c_log2, ← EReal.coe_mul, ← coe_sum]
  congr 1
  rw [Finset.sum_mul]
  exact Finset.sum_congr rfl fun s _ => by field_simp

theorem same_dv : (Pipeline.afterTail₀ cfgs (dats m) 0 (V0 m) [hostOps1] c main_v131 : G64)
    = Cert.FoxReferenceIdeal.Read.val_main_v52 (F := Ideal) (a0 m c) (a1 m c) (a3 m c) (a4 m c) := by
  funext j
  obtain ⟨b, t, n, d, rfl⟩ : ∃ b t n d, j = ix4 b t n d := ⟨j 0, j 1, j 2, j 3, by funext a; fin_cases a <;> rfl⟩
  obtain ⟨q, k, v, g, C, M, H⟩ := h b n
  refine (res_dv m c b t n d).trans (Eq.trans ?_ (FoxR.dv_at (a0 m c) (a1 m c) (a3 m c) (a4 m c) b n t d).symm)
  have eg (u : Fin 4096) : cut (ga m c) b n u ⟨d.val, by omega⟩ = (g u d : EReal) := by
    rw [show ga m c = _ from v120_eq m c, loV, H.g]
  simp only [H.weight, eg, H.ref_p, H.g, ← EReal.coe_mul, ← coe_sum]
  congr 1
  exact Finset.sum_congr rfl fun u _ => by ring

theorem same_dc : (Pipeline.afterTail₀ cfgs (dats m) 0 (V0 m) [hostOps1] c main_v136 : G3)
    = Cert.FoxReferenceIdeal.Read.val_main_v74 (F := Ideal) (a0 m c) (a1 m c) (a2 m c) (a3 m c) (a4 m c) := by
  funext j
  obtain ⟨b, t, n, rfl⟩ : ∃ b t n, j = ix3 b t n := ⟨j 0, j 1, j 2, by funext a; fin_cases a <;> rfl⟩
  obtain ⟨q, k, v, g, C, M, H⟩ := h b n
  refine (res_dc m c b t n).trans (Eq.trans ?_ (FoxR.dc_at (a0 m c) (a1 m c) (a2 m c) (a3 m c) (a4 m c) b n t).symm)
  have ek (s : Fin 4096) : cut (ka m c) b n s 68 = 1 := by
    rw [show ka m c = _ from v84_eq m c]
    exact (qK _ _ _ _ _ _ _ _ 0).trans (fill3_at _)
  have eq (s : Fin 4096) : cut (qa m c) b n s 65 = 1 := by
    rw [show qa m c = _ from v77_eq m c]
    exact (pK _ _ _ _ _ _ _ _ 0).trans (fill3_at _)
  simp only [H.back, ek, eq, H.ref_w, mul_one, ← coe_sum, ← EReal.coe_neg, ← EReal.coe_sub, ← EReal.coe_add]
  congr 1
  rw [Finset.sum_neg_distrib]
  ring

end Cert.Proof.Fox
end
-- ==== Proof.FoxClaims.lean ====
/-
  The claims about the attention's backward call.
-/
module

public import proofs.«01_k».proof.Defs
public import proofs.«01_k».proof.Proof.Gen.FoxReferenceIdeal.Run
public import proofs.«01_k».proof.Proof.Gen.Pre_finite_fox
public import proofs.«01_k».proof.Proof.FoxFree
public import proofs.«01_k».proof.Proof.FoxHead

@[expose] public section

set_option maxRecDepth 16384

noncomputable section

namespace Cert.Proof.Fox

open Idealize.ShloMosaic Idealize.ShloMosaic.TcCoe Idealize.SL.Sem
open Cert.Proof.Alg
open Cert.FoxIdeal Cert.FoxIdeal.Gen

attribute [local instance] Cert.Fox.Gen.facts Cert.FoxIdeal.Gen.facts Cert.FoxReferenceIdeal.Gen.facts Cert.Pre_finite_fox.Gen.facts

/-- The precondition, read at every entry of the five arguments. -/
theorem finite (m : (ℓ : Loc nD τ sig) → Buf (Elt Ideal) ℓ) (h : Cert.Pre_FoxIdeal_finite_fox m) (c : Dev nD) (b : Fin 2) (n : Fin 8) :
    ∃ q k v g C M, Reals m c b n q k v g C M := by
  have e := h c
  have e := congrFun e default
  have e0 : IntOp.andi _ _ = 1#1 := e
  obtain ⟨e0, h4⟩ := and_split e0
  obtain ⟨e0, h3⟩ := and_split e0
  obtain ⟨e0, h2⟩ := and_split e0
  obtain ⟨h0, h1⟩ := and_split e0
  exact reals m c b n (real_of_all (fun _ => c_inf) h0) (real_of_all (fun _ => c_inf) h1) (real_of_all (fun _ => c_inf) h2)
    (real_of_all (fun _ => c_inf) h3) (real_of_all (fun _ => c_inf) h4)

/-- The program as printed has the same text. -/
theorem frame_p : Cert.quiescent_Fox := fun m ρ _ => by
  refine Eq.mp ?_ (FoxFree.ends (F := Bits) m ρ)
  sl_kernel_rfl

theorem frame_pi : Cert.quiescent_FoxIdeal := fun m ρ _ => FoxFree.ends (F := Ideal) m ρ

theorem frame_pi_pre : Cert.quiescent_FoxIdeal_pre_finite_fox := fun m ρ _ => FoxFree.ends (F := Ideal) m ρ

theorem frame_ri : Cert.quiescent_FoxReferenceIdeal := fun m ρ _ =>
  (θ_run Cert.FoxReferenceIdeal.defs _ _).mono (fun r h => ⟨fun c => (h c).2.2.2.2, sem_eq_zero_of_no_sems (by decide) r.2⟩)
    (Cert.FoxReferenceIdeal.Value.run (F := Ideal) m ρ)

theorem frame_ri_pre : Cert.quiescent_FoxReferenceIdeal_pre_finite_fox := fun m ρ _ => frame_ri m ρ trivial

theorem preserves : Cert.preserves_Fox_FoxIdeal := trivial

theorem algebraic : Cert.algebraic_FoxIdeal_FoxReferenceIdeal_pre_finite_fox := by
  intro m g m' g' hp ha
  have hr := Cert.FoxReferenceIdeal.Value.run (F := Ideal) m' g'
  have fin := finite m hp
  have at_ (b : Ref sig .tc) (hb : b ∈ Pipeline.restRefs sig spec0) {r : PUnit × MemSt nD τ sig (Elt Ideal)}
      (h : Pipeline.FramePost cfgs (dats m) 0 (Pipeline.afterTail₀ cfgs (dats m) 0 (V0 m) [hostOps1]) r ∧ r.2.sem = fun _ => 0) (c : Dev nD) :
      r.2.mem ((c.tc : Thread nD τ).loc b) = Pipeline.afterTail₀ cfgs (dats m) 0 (V0 m) [hostOps1] c b := (h.1 c).2 b hb
  refine ⟨fun c => Pipeline.afterTail₀ cfgs (dats m) 0 (V0 m) [hostOps1] c main_v127, fun c => Pipeline.afterTail₀ cfgs (dats m) 0 (V0 m) [hostOps1] c main_v130,
    fun c => Pipeline.afterTail₀ cfgs (dats m) 0 (V0 m) [hostOps1] c main_v131, fun c => Pipeline.afterTail₀ cfgs (dats m) 0 (V0 m) [hostOps1] c main_v136,
    (θ_run defs _ _).mono (fun r h c => ?_) (ends m g), (θ_run Cert.FoxReferenceIdeal.defs _ _).mono (fun r h c => ?_) hr⟩
  · exact ⟨at_ main_v127 (Pipeline.mem_restRefs_of main_v127 (by decide) (by decide)) h c, at_ main_v130 (Pipeline.mem_restRefs_of main_v130 (by decide) (by decide)) h c,
      at_ main_v131 (Pipeline.mem_restRefs_of main_v131 (by decide) (by decide)) h c, at_ main_v136 (Pipeline.mem_restRefs_of main_v136 (by decide) (by decide)) h c,
      (at_ main_arg0 (Pipeline.mem_restRefs_of main_arg0 (by decide) (by decide)) h c).trans (W_main_arg0 m (dats m) c),
      (at_ main_arg1 (Pipeline.mem_restRefs_of main_arg1 (by decide) (by decide)) h c).trans (W_main_arg1 m (dats m) c),
      (at_ main_arg2 (Pipeline.mem_restRefs_of main_arg2 (by decide) (by decide)) h c).trans (W_main_arg2 m (dats m) c),
      (at_ main_arg3 (Pipeline.mem_restRefs_of main_arg3 (by decide) (by decide)) h c).trans (W_main_arg3 m (dats m) c),
      (at_ main_arg4 (Pipeline.mem_restRefs_of main_arg4 (by decide) (by decide)) h c).trans (W_main_arg4 m (dats m) c)⟩
  · obtain ⟨q0, q1, q2, q3, qs⟩ := h c
    obtain ⟨b0, b1, b2, b3, b4⟩ := ha c
    rw [Cert.FoxReferenceIdeal.Read.val_main_v80_eq, b0, b1, b2, b3, b4] at q0
    rw [Cert.FoxReferenceIdeal.Read.val_main_v78_eq, b0, b1, b2, b3, b4] at q1
    rw [Cert.FoxReferenceIdeal.Read.val_main_v52_eq, b0, b1, b3, b4] at q2
    rw [Cert.FoxReferenceIdeal.Read.val_main_v74_eq, b0, b1, b2, b3, b4] at q3
    exact ⟨q0.trans (same_dq m c (fin c)).symm, q1.trans (same_dk m c (fin c)).symm, q2.trans (same_dv m c (fin c)).symm, q3.trans (same_dc m c (fin c)).symm, qs⟩

end Cert.Proof.Fox
end
-- ==== Proof.ProjBody.lean ====
/-
  The gradient of the attention's input projection over any float values: its body leaves its inputs as they were and
  writes its outputs and its two scratch arrays.
-/
module

public import proofs.«01_k».proof.Proof.Gen.ProjIdeal.Frame.Runs

@[expose] public section

set_option maxRecDepth 16384

noncomputable section

namespace Cert.Proof.ProjFree

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ProjIdeal Cert.ProjIdeal.Gen

variable {F : FTy → Type} [FloatOps F] [Named F]

local notation "𝕄" => MT nD τ sig Unit (Elt F) ℕ (UR sig nD τ) ℕ

section
variable (c : Dev nD) (i : grid0.Coords)
  (arg2 : Memref sig .tc .vmem S512x2304 .f32) (harg2 : arg2.IsWhole) (arg3 : Memref sig .tc .vmem S512x512 .f32) (harg3 : arg3.IsWhole)
  (arg4 : Memref sig .tc .vmem S512x512 .f32) (harg4 : arg4.IsWhole) (arg5 : Memref sig .tc .vmem S512x512 .f32) (harg5 : arg5.IsWhole)
  (arg6 : Memref sig .tc .vmem S512x1024 .f32) (harg6 : arg6.IsWhole) (arg7 : Memref sig .tc .vmem S512x1024 .f32) (harg7 : arg7.IsWhole)
  (arg8 : Memref sig .tc .vmem S512x1024 .f32) (harg8 : arg8.IsWhole) (arg9 : Memref sig .tc .vmem S512x128 .f32) (harg9 : arg9.IsWhole)
  (arg10 : Memref sig .tc .vmem S1x128 .f32) (harg10 : arg10.IsWhole) (arg11 : Memref sig .tc .vmem S512x1024 .f32) (harg11 : arg11.IsWhole)
  (arg12 : Memref sig .tc .vmem S512x1024 .f32) (harg12 : arg12.IsWhole) (arg13 : Memref sig .tc .vmem S2304x1024 .bf16) (harg13 : arg13.IsWhole)
  (arg14 : Memref sig .tc .vmem S128x1024 .bf16) (harg14 : arg14.IsWhole) (arg15 : Memref sig .tc .vmem S1x1024 .f32) (harg15 : arg15.IsWhole)
  (arg16 : Memref sig .tc .vmem S1x512 .f32) (harg16 : arg16.IsWhole) (arg17 : Memref sig .tc .vmem S1x128 .f32) (harg17 : arg17.IsWhole)
  (arg18 : Memref sig .tc .vmem S1x512 .f32) (harg18 : arg18.IsWhole) (arg19 : Memref sig .tc .vmem S1x512 .f32) (harg19 : arg19.IsWhole)
  (arg20 : Memref sig .tc .vmem S512x1024 .f32) (harg20 : arg20.IsWhole) (arg21 : Memref sig .tc .vmem S512x2304 .bf16) (harg21 : arg21.IsWhole)
  (arg22 : Memref sig .tc .vmem S512x128 .bf16) (harg22 : arg22.IsWhole) (arg23 : Memref sig .tc .vmem S1x512 .f32) (harg23 : arg23.IsWhole)
  (arg24 : Memref sig .tc .vmem S1x128 .f32) (harg24 : arg24.IsWhole) (arg25 : Memref sig .tc .vmem S1x512 .f32) (harg25 : arg25.IsWhole)
  (arg26 : Memref sig .tc .vmem S1x512 .f32) (harg26 : arg26.IsWhole) (arg27 : Memref sig .tc .vmem S1x1024 .f32) (harg27 : arg27.IsWhole)
  (arg28 : Memref sig .tc .vmem S1x128 .f32) (harg28 : arg28.IsWhole) (arg29 : Memref sig .tc .vmem S1x128 .f32) (harg29 : arg29.IsWhole)
  (arg30 : Memref sig .tc .vmem S512x128 .f32) (harg30 : arg30.IsWhole)
  (x0 : Vec F S512x2304 .f32) (x1 : Vec F S512x512 .f32) (x2 : Vec F S512x512 .f32) (x3 : Vec F S512x512 .f32) (x4 : Vec F S512x1024 .f32) (x5 : Vec F S512x1024 .f32)
  (x6 : Vec F S512x1024 .f32) (x7 : Vec F S512x128 .f32) (x8 : Vec F S1x128 .f32) (x9 : Vec F S512x1024 .f32) (x10 : Vec F S512x1024 .f32) (x11 : Vec F S2304x1024 .bf16)
  (x12 : Vec F S128x1024 .bf16) (x13 : Vec F S1x1024 .f32) (x14 : Vec F S1x512 .f32) (x15 : Vec F S1x128 .f32) (x16 : Vec F S1x512 .f32) (x17 : Vec F S1x512 .f32)

/-- A grid step's inputs as they were, and its outputs and scratch arrays at something. -/
abbrev state : sProp 𝕄 :=
  iprop(owns (c : Thread nD τ) arg2 fullShare x0 ∗ owns (c : Thread nD τ) arg3 fullShare x1 ∗ owns (c : Thread nD τ) arg4 fullShare x2 ∗ owns (c : Thread nD τ) arg5 fullShare x3
    ∗ owns (c : Thread nD τ) arg6 fullShare x4 ∗ owns (c : Thread nD τ) arg7 fullShare x5 ∗ owns (c : Thread nD τ) arg8 fullShare x6 ∗ owns (c : Thread nD τ) arg9 fullShare x7
    ∗ owns (c : Thread nD τ) arg10 fullShare x8 ∗ owns (c : Thread nD τ) arg11 fullShare x9 ∗ owns (c : Thread nD τ) arg12 fullShare x10 ∗ owns (c : Thread nD τ) arg13 fullShare x11
    ∗ owns (c : Thread nD τ) arg14 fullShare x12 ∗ owns (c : Thread nD τ) arg15 fullShare x13 ∗ owns (c : Thread nD τ) arg16 fullShare x14 ∗ owns (c : Thread nD τ) arg17 fullShare x15
    ∗ owns (c : Thread nD τ) arg18 fullShare x16 ∗ owns (c : Thread nD τ) arg19 fullShare x17 ∗ (∃ d, owns (c : Thread nD τ) arg20 fullShare d) ∗ (∃ d, owns (c : Thread nD τ) arg21 fullShare d)
    ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d)
    ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d)
    ∗ (∃ d, owns (c : Thread nD τ) arg30 fullShare d))

set_option maxHeartbeats 8000000 in
theorem body (hc : cond0_0 i → cond0_1 i) (E : Set ℕ) (K : PUnit → sProp 𝕄) :
    iprop(state c arg2 arg3 arg4 arg5 arg6 arg7 arg8 arg9 arg10 arg11 arg12 arg13 arg14 arg15 arg16 arg17 arg18 arg19 arg20 arg21 arg22 arg23 arg24 arg25 arg26 arg27 arg28 arg29 arg30 x0 x1 x2 x3 x4 x5 x6 x7 x8 x9 x10 x11 x12 x13 x14 x15 x16 x17 ∗ (state c arg2 arg3 arg4 arg5 arg6 arg7 arg8 arg9 arg10 arg11 arg12 arg13 arg14 arg15 arg16 arg17 arg18 arg19 arg20 arg21 arg22 arg23 arg24 arg25 arg26 arg27 arg28 arg29 arg30 x0 x1 x2 x3 x4 x5 x6 x7 x8 x9 x10 x11 x12 x13 x14 x15 x16 x17 -∗ K ⟨⟩))
      ⊢ wp frame (wpE (defs₀ (F := F)) Variants.none c none) E (cc0_proj_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30) K := by
  unfold state
  simp only [cc0_proj_bwd_eq_skeleton]; unfold cc0_proj_bwd_skel
  simp only [k0_part14_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
  unfold owns
  have cases : (cond0_0 i ∧ cond0_1 i) ∨ (¬cond0_0 i ∧ cond0_1 i) ∨ (¬cond0_0 i ∧ ¬cond0_1 i) := by
    by_cases h0 : cond0_0 i
    · exact Or.inl ⟨h0, hc h0⟩
    · exact Or.inr ((Classical.em _).imp (And.intro h0) (And.intro h0))
  rcases cases with ⟨hc0, hc1⟩ | ⟨hc0, hc1⟩ | ⟨hc0, hc1⟩
  all_goals
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩⟩, Hk⟩
    sl_exec (disch := first | sl_exact hc0 | sl_exact hc1)
    sl_exec (disch := first | sl_exact hc0 | sl_exact hc1)
    sl_step
    iapply Hk
    isplitl [H0]
    · iexists _; isplitr; swap; · iexact H0
      ipureintro; exact hf0
    isplitl [H1]
    · iexists _; isplitr; swap; · iexact H1
      ipureintro; exact hf1
    isplitl [H2]
    · iexists _; isplitr; swap; · iexact H2
      ipureintro; exact hf2
    isplitl [H3]
    · iexists _; isplitr; swap; · iexact H3
      ipureintro; exact hf3
    isplitl [H4]
    · iexists _; isplitr; swap; · iexact H4
      ipureintro; exact hf4
    isplitl [H5]
    · iexists _; isplitr; swap; · iexact H5
      ipureintro; exact hf5
    isplitl [H6]
    · iexists _; isplitr; swap; · iexact H6
      ipureintro; exact hf6
    isplitl [H7]
    · iexists _; isplitr; swap; · iexact H7
      ipureintro; exact hf7
    isplitl [H8]
    · iexists _; isplitr; swap; · iexact H8
      ipureintro; exact hf8
    isplitl [H9]
    · iexists _; isplitr; swap; · iexact H9
      ipureintro; exact hf9
    isplitl [H10]
    · iexists _; isplitr; swap; · iexact H10
      ipureintro; exact hf10
    isplitl [H11]
    · iexists _; isplitr; swap; · iexact H11
      ipureintro; exact hf11
    isplitl [H12]
    · iexists _; isplitr; swap; · iexact H12
      ipureintro; exact hf12
    isplitl [H13]
    · iexists _; isplitr; swap; · iexact H13
      ipureintro; exact hf13
    isplitl [H14]
    · iexists _; isplitr; swap; · iexact H14
      ipureintro; exact hf14
    isplitl [H15]
    · iexists _; isplitr; swap; · iexact H15
      ipureintro; exact hf15
    isplitl [H16]
    · iexists _; isplitr; swap; · iexact H16
      ipureintro; exact hf16
    isplitl [H17]
    · iexists _; isplitr; swap; · iexact H17
      ipureintro; exact hf17
    isplitl [H18]
    · iexists _; iexists _; isplitr; swap; · iexact H18
      ipureintro; rfl
    isplitl [H19]
    · iexists _; iexists _; isplitr; swap; · iexact H19
      ipureintro; rfl
    isplitl [H20]
    · iexists _; iexists _; isplitr; swap; · iexact H20
      ipureintro; rfl
    isplitl [H21]
    · iexists _; iexists _; isplitr; swap; · iexact H21
      ipureintro; rfl
    isplitl [H22]
    · iexists _; iexists _; isplitr; swap; · iexact H22
      ipureintro; rfl
    isplitl [H23]
    · iexists _; iexists _; isplitr; swap; · iexact H23
      ipureintro; rfl
    isplitl [H24]
    · iexists _; iexists _; isplitr; swap; · iexact H24
      ipureintro; rfl
    isplitl [H25]
    · iexists _; iexists _; isplitr; swap; · iexact H25
      ipureintro; rfl
    isplitl [H26]
    · iexists _; iexists _; isplitr; swap; · iexact H26
      ipureintro; rfl
    isplitl [H27]
    · iexists _; iexists _; isplitr; swap; · iexact H27
      ipureintro; rfl
    iexists _; iexists _; isplitr; swap; · iexact H28
    ipureintro; rfl

end

end Cert.Proof.ProjFree
end
-- ==== Proof.ProjFree.lean ====
/-
  The frame of the gradient of the attention's input projection, over any float values.
-/
module

public import proofs.«01_k».proof.Proof.ProjBody
public import proofs.«01_k».proof.Proof.Gen.ProjIdeal.Frame.Runs
public import Idealize.ShloMosaic.Lib.Claim

@[expose] public section

set_option maxRecDepth 16384

noncomputable section

namespace Cert.Proof.ProjFree

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ProjIdeal Cert.ProjIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The outputs, of which nothing is said. -/
def fgt (w : Fin cfg0.W) : Bool := decide (18 ≤ w.val)

/-- What the windows hold after a point: the inputs what they held before it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => X0_11 m c t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => fun _ => Classical.choice inferInstance
    | ⟨19, _⟩ => fun _ => Classical.choice inferInstance
    | ⟨20, _⟩ => fun _ => Classical.choice inferInstance
    | ⟨21, _⟩ => fun _ => Classical.choice inferInstance
    | ⟨22, _⟩ => fun _ => Classical.choice inferInstance
    | ⟨23, _⟩ => fun _ => Classical.choice inferInstance
    | ⟨24, _⟩ => fun _ => Classical.choice inferInstance
    | ⟨25, _⟩ => fun _ => Classical.choice inferInstance
    | ⟨26, _⟩ => fun _ => Classical.choice inferInstance
    | ⟨_ + 27, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by dsimp only [dats]

theorem conds (t : Fin cfg0.N) (h : cond0_0 (grid0.coords t)) : cond0_1 (grid0.coords t) :=
  (hcond0_1 t).mpr (by have := (hcond0_0 t).mp h; omega)

set_option maxHeartbeats 8000000 in
theorem obligation (c : Dev nD) : BodyObligation (dats m 0 c) (defs₀ (F := F)) Variants.none () Set.univ fgt := fun t => by
  rw [bigSep_W0, bigSep_W0]
  refine triple_restated (W := wp frame (wpE (defs₀ (F := F)) Variants.none c none) Set.univ (bodyAt0 t)) ?_ rfl .rfl fun _ => .rfl
  dsimp only
  have f0 : fgt 0 = false := rfl
  have f1 : fgt 1 = false := rfl
  have f2 : fgt 2 = false := rfl
  have f3 : fgt 3 = false := rfl
  have f4 : fgt 4 = false := rfl
  have f5 : fgt 5 = false := rfl
  have f6 : fgt 6 = false := rfl
  have f7 : fgt 7 = false := rfl
  have f8 : fgt 8 = false := rfl
  have f9 : fgt 9 = false := rfl
  have f10 : fgt 10 = false := rfl
  have f11 : fgt 11 = false := rfl
  have f12 : fgt 12 = false := rfl
  have f13 : fgt 13 = false := rfl
  have f14 : fgt 14 = false := rfl
  have f15 : fgt 15 = false := rfl
  have f16 : fgt 16 = false := rfl
  have f17 : fgt 17 = false := rfl
  have f18 : fgt 18 = true := rfl
  have f19 : fgt 19 = true := rfl
  have f20 : fgt 20 = true := rfl
  have f21 : fgt 21 = true := rfl
  have f22 : fgt 22 = true := rfl
  have f23 : fgt 23 = true := rfl
  have f24 : fgt 24 = true := rfl
  have f25 : fgt 25 = true := rfl
  have f26 : fgt 26 = true := rfl
  simp only [f0, f1, f2, f3, f4, f5, f6, f7, f8, f9, f10, f11, f12, f13, f14, f15, f16, f17, f18, f19, f20, f21, f22, f23, f24, f25, f26]
  have a0 : ∀ t, (dats m 0 c).after 0 t = iblk m c 0 t := fun t => by dsimp only [dats]
  have a1 : ∀ t, (dats m 0 c).after 1 t = iblk m c 1 t := fun t => by dsimp only [dats]
  have a2 : ∀ t, (dats m 0 c).after 2 t = iblk m c 2 t := fun t => by dsimp only [dats]
  have a3 : ∀ t, (dats m 0 c).after 3 t = iblk m c 3 t := fun t => by dsimp only [dats]
  have a4 : ∀ t, (dats m 0 c).after 4 t = iblk m c 4 t := fun t => by dsimp only [dats]
  have a5 : ∀ t, (dats m 0 c).after 5 t = iblk m c 5 t := fun t => by dsimp only [dats]
  have a6 : ∀ t, (dats m 0 c).after 6 t = iblk m c 6 t := fun t => by dsimp only [dats]
  have a7 : ∀ t, (dats m 0 c).after 7 t = iblk m c 7 t := fun t => by dsimp only [dats]
  have a8 : ∀ t, (dats m 0 c).after 8 t = iblk m c 8 t := fun t => by dsimp only [dats]
  have a9 : ∀ t, (dats m 0 c).after 9 t = iblk m c 9 t := fun t => by dsimp only [dats]
  have a10 : ∀ t, (dats m 0 c).after 10 t = iblk m c 10 t := fun t => by dsimp only [dats]
  have a11 : ∀ t, (dats m 0 c).after 11 t = X0_11 m c t := fun t => by dsimp only [dats]
  have a12 : ∀ t, (dats m 0 c).after 12 t = iblk m c 12 t := fun t => by dsimp only [dats]
  have a13 : ∀ t, (dats m 0 c).after 13 t = iblk m c 13 t := fun t => by dsimp only [dats]
  have a14 : ∀ t, (dats m 0 c).after 14 t = iblk m c 14 t := fun t => by dsimp only [dats]
  have a15 : ∀ t, (dats m 0 c).after 15 t = iblk m c 15 t := fun t => by dsimp only [dats]
  have a16 : ∀ t, (dats m 0 c).after 16 t = iblk m c 16 t := fun t => by dsimp only [dats]
  have a17 : ∀ t, (dats m 0 c).after 17 t = iblk m c 17 t := fun t => by dsimp only [dats]
  have b0 : ∀ d, (dats m 0 c).before 0 t d = iblk m c 0 t := before0_0_of m (dats m 0 c) (A_eq m c 0) a0 t
  have b1 : ∀ d, (dats m 0 c).before 1 t d = iblk m c 1 t := before0_1_of m (dats m 0 c) (A_eq m c 1) a1 t
  have b2 : ∀ d, (dats m 0 c).before 2 t d = iblk m c 2 t := before0_2_of m (dats m 0 c) (A_eq m c 2) a2 t
  have b3 : ∀ d, (dats m 0 c).before 3 t d = iblk m c 3 t := before0_3_of m (dats m 0 c) (A_eq m c 3) a3 t
  have b4 : ∀ d, (dats m 0 c).before 4 t d = iblk m c 4 t := before0_4_of m (dats m 0 c) (A_eq m c 4) a4 t
  have b5 : ∀ d, (dats m 0 c).before 5 t d = iblk m c 5 t := before0_5_of m (dats m 0 c) (A_eq m c 5) a5 t
  have b6 : ∀ d, (dats m 0 c).before 6 t d = iblk m c 6 t := before0_6_of m (dats m 0 c) (A_eq m c 6) a6 t
  have b7 : ∀ d, (dats m 0 c).before 7 t d = iblk m c 7 t := before0_7_of m (dats m 0 c) (A_eq m c 7) a7 t
  have b8 : ∀ d, (dats m 0 c).before 8 t d = iblk m c 8 t := before0_8_of m (dats m 0 c) (A_eq m c 8) a8 t
  have b9 : ∀ d, (dats m 0 c).before 9 t d = iblk m c 9 t := before0_9_of m (dats m 0 c) (A_eq m c 9) a9 t
  have b10 : ∀ d, (dats m 0 c).before 10 t d = iblk m c 10 t := before0_10_of m (dats m 0 c) (A_eq m c 10) a10 t
  have b11 : ∀ d, (dats m 0 c).before 11 t d = X0_11 m c t := before0_11_of m (dats m 0 c) (A_eq m c 11) a11 t
  have b12 : ∀ d, (dats m 0 c).before 12 t d = iblk m c 12 t := before0_12_of m (dats m 0 c) (A_eq m c 12) a12 t
  have b13 : ∀ d, (dats m 0 c).before 13 t d = iblk m c 13 t := before0_13_of m (dats m 0 c) (A_eq m c 13) a13 t
  have b14 : ∀ d, (dats m 0 c).before 14 t d = iblk m c 14 t := before0_14_of m (dats m 0 c) (A_eq m c 14) a14 t
  have b15 : ∀ d, (dats m 0 c).before 15 t d = iblk m c 15 t := before0_15_of m (dats m 0 c) (A_eq m c 15) a15 t
  have b16 : ∀ d, (dats m 0 c).before 16 t d = iblk m c 16 t := before0_16_of m (dats m 0 c) (A_eq m c 16) a16 t
  have b17 : ∀ d, (dats m 0 c).before 17 t d = iblk m c 17 t := before0_17_of m (dats m 0 c) (A_eq m c 17) a17 t
  simp only [b0, b1, b2, b3, b4, b5, b6, b7, b8, b9, b10, b11, b12, b13, b14, b15, b16, b17, a0, a1, a2, a3, a4, a5, a6, a7, a8, a9, a10, a11, a12, a13, a14, a15, a16, a17]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA0_eq]
  iintro ⟨⟨⟨H27, H28⟩, HΦ⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, H18, H19, H20, H21, H22, H23, H24, H25, H26⟩
  iapply (body c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (X0_11 m c t) (iblk m c 12 t) (iblk m c 13 t) (iblk m c 14 t) (iblk m c 15 t) (iblk m c 16 t) (iblk m c 17 t) (conds t) Set.univ _)
  isplitl [H0 H1 H2 H3 H4 H5 H6 H7 H8 H9 H10 H11 H12 H13 H14 H15 H16 H17 H18 H19 H20 H21 H22 H23 H24 H25 H26 H27 H28]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    iexact H28
  iintro ⟨H0, H1, H2, H3, H4, H5, H6, H7, H8, H9, H10, H11, H12, H13, H14, H15, H16, H17, H18, H19, H20, H21, H22, H23, H24, H25, H26, H27, H28⟩
  isplitl [H27 H28 HΦ]
  · isplitl [H27 H28]
    · isplitl [H27]; · iexact H27
      iexact H28
    iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  iexact H26

theorem kept (b : Ref sig .tc) (h0 : b ∈ Pipeline.restRefs sig spec0)
    {r : PUnit × MemSt nD τ sig (Elt F)} (h : Pipeline.RDat.FramePost cfg0 (fun c => (dats m 0 c).toRForget fgt) (V m) r) (c : Dev nD) :
    r.2.mem ((c.tc : Thread nD τ).loc b) = V m c b := (h c).2 b h0

set_option backward.isDefEq.respectTransparency.types false in
/-- Every run ends, with the arguments as they were and no signal left. -/
theorem ends : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) ∧ r.2.sem = fun _ => 0) :=
  Pipeline.θ_run_frame_forget cfgs (dats m) (0 : Fin 1) launch0 defs₀ Variants.none fgt m ρ main
    (hbody := fun c => (obligation m c).loose) (hshare := fun c => (dats m 0 c).share_full fun _ => rfl)
    (howed := fun _ _ => rfl) (V := V m) (hmain := hmain m Variants.none) (hA := A_eq m) (hΦ := fun _ _ => rfl)
    (Q' := _)
    (hQ' := fun r h => ⟨fun c => ⟨(kept m main_arg0 (Pipeline.mem_restRefs_of main_arg0 (by decide) (by decide)) h.1 c).trans (V_main_arg0 m c),
      (kept m main_arg1 (Pipeline.mem_restRefs_of main_arg1 (by decide) (by decide)) h.1 c).trans (V_main_arg1 m c),
      (kept m main_arg2 (Pipeline.mem_restRefs_of main_arg2 (by decide) (by decide)) h.1 c).trans (V_main_arg2 m c),
      (kept m main_arg3 (Pipeline.mem_restRefs_of main_arg3 (by decide) (by decide)) h.1 c).trans (V_main_arg3 m c),
      (kept m main_arg4 (Pipeline.mem_restRefs_of main_arg4 (by decide) (by decide)) h.1 c).trans (V_main_arg4 m c),
      (kept m main_arg5 (Pipeline.mem_restRefs_of main_arg5 (by decide) (by decide)) h.1 c).trans (V_main_arg5 m c),
      (kept m main_arg6 (Pipeline.mem_restRefs_of main_arg6 (by decide) (by decide)) h.1 c).trans (V_main_arg6 m c),
      (kept m main_arg7 (Pipeline.mem_restRefs_of main_arg7 (by decide) (by decide)) h.1 c).trans (V_main_arg7 m c),
      (kept m main_arg8 (Pipeline.mem_restRefs_of main_arg8 (by decide) (by decide)) h.1 c).trans (V_main_arg8 m c),
      (kept m main_arg9 (Pipeline.mem_restRefs_of main_arg9 (by decide) (by decide)) h.1 c).trans (V_main_arg9 m c),
      (kept m main_arg10 (Pipeline.mem_restRefs_of main_arg10 (by decide) (by decide)) h.1 c).trans (V_main_arg10 m c),
      (kept m main_arg11 (Pipeline.mem_restRefs_of main_arg11 (by decide) (by decide)) h.1 c).trans (V_main_arg11 m c),
      (kept m main_arg12 (Pipeline.mem_restRefs_of main_arg12 (by decide) (by decide)) h.1 c).trans (V_main_arg12 m c),
      (kept m main_arg13 (Pipeline.mem_restRefs_of main_arg13 (by decide) (by decide)) h.1 c).trans (V_main_arg13 m c),
      (kept m main_arg14 (Pipeline.mem_restRefs_of main_arg14 (by decide) (by decide)) h.1 c).trans (V_main_arg14 m c),
      (kept m main_arg15 (Pipeline.mem_restRefs_of main_arg15 (by decide) (by decide)) h.1 c).trans (V_main_arg15 m c),
      (kept m main_arg16 (Pipeline.mem_restRefs_of main_arg16 (by decide) (by decide)) h.1 c).trans (V_main_arg16 m c)⟩, h.2⟩)

end Cert.Proof.ProjFree
end
-- ==== Proof.ProjClaims.lean ====
/-
  The claims about the projections' backward call: its frames, and that naming its rounded ln 2 is sanctioned.
-/
module

public import proofs.«01_k».proof.Defs
public import proofs.«01_k».proof.Proof.Gen.Proj
public import proofs.«01_k».proof.Proof.Gen.ProjIdeal
public import proofs.«01_k».proof.Proof.Gen.ProjReferenceIdeal.Run
public import proofs.«01_k».proof.Proof.ProjFree

@[expose] public section

set_option maxRecDepth 16384

noncomputable section

namespace Cert.Proof.Proj

open Idealize.ShloMosaic Idealize.ShloMosaic.TcCoe Idealize.SL.Sem

attribute [local instance] Cert.Proj.Gen.facts Cert.ProjIdeal.Gen.facts Cert.ProjReferenceIdeal.Gen.facts

/-- A named constant over the words is its word. -/
local instance words : Named Bits := ⟨fun _ _ {φ} b => Scalar.ofBits φ b⟩

/-- The program as printed has the same text. -/
theorem frame_p : Cert.quiescent_Proj := fun m ρ _ => by
  refine Eq.mp ?_ (ProjFree.ends (F := Bits) m ρ)
  sl_kernel_rfl

theorem frame_pi : Cert.quiescent_ProjIdeal := fun m ρ _ => ProjFree.ends (F := Ideal) m ρ

theorem frame_ri : Cert.quiescent_ProjReferenceIdeal := fun m ρ _ =>
  (θ_run Cert.ProjReferenceIdeal.defs _ _).mono (fun r h => ⟨fun c => (h c).2.2.2.2.2.2.2.2.2, sem_eq_zero_of_no_sems (by decide) r.2⟩)
    (Cert.ProjReferenceIdeal.Value.run (F := Ideal) m ρ)

theorem preserves : Cert.preserves_Proj_ProjIdeal := IdealRules.named_const.statement Cert.ProjIdeal.κ "ln2" .f32 0x3F317218#32 ((Real.log 2 : ℝ) : EReal) rfl

end Cert.Proof.Proj
end
-- ==== Proof.SwaBody.lean ====
/-
  The windowed attention's backward call over any float values: its body leaves its seven inputs as they were and writes
  its four outputs.
-/
module

public import proofs.«01_k».proof.Proof.Gen.SwaIdeal.Frame
public import proofs.«01_k».proof.Proof.Gen.SwaIdeal.Skeleton

@[expose] public section

set_option maxRecDepth 16384

noncomputable section

namespace Cert.Proof.SwaFree

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.SwaIdeal Cert.SwaIdeal.Gen

variable {F : FTy → Type} [FloatOps F]

local notation "𝕄" => MT nD τ sig Unit (Elt F) ℕ (UR sig nD τ) ℕ

section
variable (c : Dev nD) (i : grid0.Coords)
  (arg3 : Memref sig .tc .vmem S4096x128 .bf16) (harg3 : arg3.IsWhole) (arg4 : Memref sig .tc .vmem S4096x128 .bf16) (harg4 : arg4.IsWhole)
  (arg5 : Memref sig .tc .vmem S4096x128 .bf16) (harg5 : arg5.IsWhole) (arg6 : Memref sig .tc .vmem S4096x128 .bf16) (harg6 : arg6.IsWhole)
  (arg7 : Memref sig .tc .vmem S1x128 .f32) (harg7 : arg7.IsWhole) (arg8 : Memref sig .tc .vmem S1x4096x128 .f32) (harg8 : arg8.IsWhole)
  (arg9 : Memref sig .tc .vmem S4096x128 .f32) (harg9 : arg9.IsWhole) (arg10 : Memref sig .tc .vmem S4096x128 .f32) (harg10 : arg10.IsWhole)
  (arg11 : Memref sig .tc .vmem S4096x128 .f32) (harg11 : arg11.IsWhole) (arg12 : Memref sig .tc .vmem S4096x128 .f32) (harg12 : arg12.IsWhole)
  (arg13 : Memref sig .tc .vmem S1x1x8x128 .f32) (harg13 : arg13.IsWhole)
  (x0 : Vec F S4096x128 .bf16) (x1 : Vec F S4096x128 .bf16) (x2 : Vec F S4096x128 .bf16) (x3 : Vec F S4096x128 .bf16)
  (x4 : Vec F S1x128 .f32) (x5 : Vec F S1x4096x128 .f32) (x6 : Vec F S4096x128 .f32)

/-- A grid step's inputs as they were, and its outputs at something. -/
abbrev state : sProp 𝕄 :=
  iprop(owns (c : Thread nD τ) arg3 fullShare x0 ∗ owns (c : Thread nD τ) arg4 fullShare x1 ∗ owns (c : Thread nD τ) arg5 fullShare x2 ∗ owns (c : Thread nD τ) arg6 fullShare x3
    ∗ owns (c : Thread nD τ) arg7 fullShare x4 ∗ owns (c : Thread nD τ) arg8 fullShare x5 ∗ owns (c : Thread nD τ) arg9 fullShare x6 ∗ (∃ d, owns (c : Thread nD τ) arg10 fullShare d)
    ∗ (∃ d, owns (c : Thread nD τ) arg11 fullShare d) ∗ (∃ d, owns (c : Thread nD τ) arg12 fullShare d) ∗ (∃ d, owns (c : Thread nD τ) arg13 fullShare d))

/-- The grid's last axis has the one index 0. -/
theorem first : Scalar.cmpi .ne (Scalar.extui (Scalar.cmpi .eq (BitVec.ofNat 32 (i 2).val) 0#32) : BitVec 32) 0#32 = 1#1 := by
  have h : (i 2).val = 0 := Nat.lt_one_iff.mp (i 2).isLt
  rw [h]; decide

theorem off_eq : ∀ i : grid0.Coords, k0_off2 i = ![0, 0] := by decide +kernel

instance (i : grid0.Coords) : ClosedOff (k0_off2 i) := ⟨![0, 0], off_eq i⟩

set_option maxHeartbeats 8000000 in
theorem body (E : Set ℕ) (K : PUnit → sProp 𝕄) :
    iprop(state c arg3 arg4 arg5 arg6 arg7 arg8 arg9 arg10 arg11 arg12 arg13 x0 x1 x2 x3 x4 x5 x6 ∗ (state c arg3 arg4 arg5 arg6 arg7 arg8 arg9 arg10 arg11 arg12 arg13 x0 x1 x2 x3 x4 x5 x6 -∗ K ⟨⟩))
      ⊢ wp frame (wpE (defs₀ (F := F)) Variants.none c none) E (cc0_swa_bwd i arg3 harg3 arg4 harg4 arg5 harg5 arg6 harg6 arg7 harg7 arg8 harg8 arg9 harg9 arg10 harg10 arg11 harg11 arg12 harg12 arg13 harg13) K := by
  have hc := first i
  unfold state
  simp only [cc0_swa_bwd_eq_skeleton]; unfold cc0_swa_bwd_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton]
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩⟩, Hk⟩
  sl_exec (disch := sl_exact hc)
  sl_step
  iapply Hk
  isplitl [H0]
  · iexists _; isplitr; swap; · iexact H0
    ipureintro; exact hf0
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro; exact hf3
  isplitl [H4]
  · iexists _; isplitr; swap; · iexact H4
    ipureintro; exact hf4
  isplitl [H5]
  · iexists _; isplitr; swap; · iexact H5
    ipureintro; exact hf5
  isplitl [H6]
  · iexists _; isplitr; swap; · iexact H6
    ipureintro; exact hf6
  isplitl [H7]
  · iexists _; iexists _; isplitr; swap; · iexact H7
    ipureintro; rfl
  isplitl [H8]
  · iexists _; iexists _; isplitr; swap; · iexact H8
    ipureintro; rfl
  isplitl [H9]
  · iexists _; iexists _; isplitr; swap; · iexact H9
    ipureintro; rfl
  iexists _; iexists _; isplitr; swap; · iexact H10
  ipureintro; rfl

end

end Cert.Proof.SwaFree
end
-- ==== Proof.SwaFree.lean ====
/-
  The frame of the windowed attention's backward call, over any float values.
-/
module

public import proofs.«01_k».proof.Proof.SwaBody
public import Idealize.ShloMosaic.Lib.Claim

@[expose] public section

set_option maxRecDepth 16384

noncomputable section

namespace Cert.Proof.SwaFree

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.SwaIdeal Cert.SwaIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The outputs, of which nothing is said. -/
def fgt (w : Fin cfg0.W) : Bool := decide (7 ≤ w.val)

/-- What the windows hold after a point: the inputs what they held before it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => fun _ => Classical.choice inferInstance
    | ⟨8, _⟩ => fun _ => Classical.choice inferInstance
    | ⟨9, _⟩ => fun _ => Classical.choice inferInstance
    | ⟨10, _⟩ => fun _ => Classical.choice inferInstance
    | ⟨_ + 11, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by dsimp only [dats]

set_option maxHeartbeats 4000000 in
theorem obligation (c : Dev nD) : BodyObligation (dats m 0 c) (defs₀ (F := F)) Variants.none () Set.univ fgt := fun t => by
  rw [bigSep_W0, bigSep_W0]
  refine triple_restated (W := wp frame (wpE (defs₀ (F := F)) Variants.none c none) Set.univ (bodyAt0 t)) ?_ rfl .rfl fun _ => .rfl
  dsimp only
  have f0 : fgt 0 = false := rfl
  have f1 : fgt 1 = false := rfl
  have f2 : fgt 2 = false := rfl
  have f3 : fgt 3 = false := rfl
  have f4 : fgt 4 = false := rfl
  have f5 : fgt 5 = false := rfl
  have f6 : fgt 6 = false := rfl
  have f7 : fgt 7 = true := rfl
  have f8 : fgt 8 = true := rfl
  have f9 : fgt 9 = true := rfl
  have f10 : fgt 10 = true := rfl
  simp only [f0, f1, f2, f3, f4, f5, f6, f7, f8, f9, f10]
  have a0 : ∀ t, (dats m 0 c).after 0 t = iblk m c 0 t := fun t => by dsimp only [dats]
  have a1 : ∀ t, (dats m 0 c).after 1 t = iblk m c 1 t := fun t => by dsimp only [dats]
  have a2 : ∀ t, (dats m 0 c).after 2 t = iblk m c 2 t := fun t => by dsimp only [dats]
  have a3 : ∀ t, (dats m 0 c).after 3 t = iblk m c 3 t := fun t => by dsimp only [dats]
  have a4 : ∀ t, (dats m 0 c).after 4 t = iblk m c 4 t := fun t => by dsimp only [dats]
  have a5 : ∀ t, (dats m 0 c).after 5 t = iblk m c 5 t := fun t => by dsimp only [dats]
  have a6 : ∀ t, (dats m 0 c).after 6 t = iblk m c 6 t := fun t => by dsimp only [dats]
  have b0 : ∀ d, (dats m 0 c).before 0 t d = iblk m c 0 t := before0_0_of m (dats m 0 c) (A_eq m c 0) a0 t
  have b1 : ∀ d, (dats m 0 c).before 1 t d = iblk m c 1 t := before0_1_of m (dats m 0 c) (A_eq m c 1) a1 t
  have b2 : ∀ d, (dats m 0 c).before 2 t d = iblk m c 2 t := before0_2_of m (dats m 0 c) (A_eq m c 2) a2 t
  have b3 : ∀ d, (dats m 0 c).before 3 t d = iblk m c 3 t := before0_3_of m (dats m 0 c) (A_eq m c 3) a3 t
  have b4 : ∀ d, (dats m 0 c).before 4 t d = iblk m c 4 t := before0_4_of m (dats m 0 c) (A_eq m c 4) a4 t
  have b5 : ∀ d, (dats m 0 c).before 5 t d = iblk m c 5 t := before0_5_of m (dats m 0 c) (A_eq m c 5) a5 t
  have b6 : ∀ d, (dats m 0 c).before 6 t d = iblk m c 6 t := before0_6_of m (dats m 0 c) (A_eq m c 6) a6 t
  simp only [b0, b1, b2, b3, b4, b5, b6, a0, a1, a2, a3, a4, a5, a6]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, H7, H8, H9, H10⟩
  iapply (body c (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) Set.univ _)
  isplitl [H0 H1 H2 H3 H4 H5 H6 H7 H8 H9 H10]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- Every buffer but the arguments: the lines after the call write none of those. -/
def T : Finset (Ref sig .tc) := Finset.univ.filter fun b => b ≠ main_arg0 ∧ b ≠ main_arg1 ∧ b ≠ main_arg2 ∧ b ≠ main_arg3 ∧ b ≠ main_arg4

set_option maxHeartbeats 800000 in
theorem tail_writes : ∀ ops ∈ ([hostOps1] : List (List (HloOp τ sig (Elt F)))), ∀ op ∈ ops, ∀ b : Ref sig .tc, Proc.devRef .tc b ∈ op.writes → b ∈ T := by
  intro ops hops op hop b hb
  simp only [List.mem_cons, List.mem_nil_iff, or_false] at hops
  rcases hops with rfl
  simp only [hostOps1, List.mem_cons, List.mem_nil_iff, or_false] at hop
  simp only [T, Finset.mem_filter, Finset.mem_univ, true_and]
  rcases hop with rfl | rfl | rfl | rfl | rfl
  all_goals
    simp only [StableHlo.nullary_writes, StableHlo.unary_writes, StableHlo.binary_writes, StableHlo.reshape_writes, Finset.mem_singleton] at hb
    refine ⟨?_, ?_, ?_, ?_, ?_⟩ <;> rintro rfl <;> exact StableHlo.devRef_ne_of_ne (by decide) hb

theorem kept (b : Ref sig .tc) (h0 : b ∈ Pipeline.restRefs sig spec0) (hT : b ∉ T)
    {r : PUnit × MemSt nD τ sig (Elt F)} (h : Pipeline.RDat.FramePostR cfg0 (fun c => (dats m 0 c).toRForget fgt) T (fun c b => V0 m c (Proc.devRef .tc b)) r) (c : Dev nD) :
    r.2.mem ((c.tc : Thread nD τ).loc b) = V m c b := (h c).2 b (Finset.mem_sdiff.2 ⟨h0, hT⟩)

set_option backward.isDefEq.respectTransparency.types false in
/-- Every run ends, with the arguments as they were and no signal left. -/
theorem ends : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  Pipeline.θ_run_frame_around_T_forget cfgs (dats m) (0 : Fin 1) launch0 defs₀ Variants.none fgt T m ρ main
    (hbody := fun c => (obligation m c).loose) (hshare := fun c => (dats m 0 c).share_full fun _ => rfl)
    (howed := fun _ _ => rfl) (V₀ := V0 m) (opss := [hostOps1]) (hsub := sfx_sub) (hfresh := sfx_fresh) (hkeep := sfx_keeps) (hT := tail_writes)
    (hmain := hmain m Variants.none) (hA := A_eq m) (hΦ := fun _ _ => rfl)
    (Q' := _)
    (hQ' := fun r h => ⟨fun c => ⟨(kept m main_arg0 (Pipeline.mem_restRefs_of main_arg0 (by decide) (by decide)) (by decide) h.1 c).trans (V_main_arg0 m c),
      (kept m main_arg1 (Pipeline.mem_restRefs_of main_arg1 (by decide) (by decide)) (by decide) h.1 c).trans (V_main_arg1 m c),
      (kept m main_arg2 (Pipeline.mem_restRefs_of main_arg2 (by decide) (by decide)) (by decide) h.1 c).trans (V_main_arg2 m c),
      (kept m main_arg3 (Pipeline.mem_restRefs_of main_arg3 (by decide) (by decide)) (by decide) h.1 c).trans (V_main_arg3 m c),
      (kept m main_arg4 (Pipeline.mem_restRefs_of main_arg4 (by decide) (by decide)) (by decide) h.1 c).trans (V_main_arg4 m c)⟩, h.2⟩)

end Cert.Proof.SwaFree
end
-- ==== Proof.SwaClaims.lean ====
/-
  The claims about the windowed attention's backward call: its frames.
-/
module

public import proofs.«01_k».proof.Defs
public import proofs.«01_k».proof.Proof.Gen.Swa
public import proofs.«01_k».proof.Proof.Gen.SwaIdeal
public import proofs.«01_k».proof.Proof.Gen.SwaReferenceIdeal.Run
public import proofs.«01_k».proof.Proof.SwaFree

@[expose] public section

set_option maxRecDepth 16384

noncomputable section

namespace Cert.Proof.Swa

open Idealize.ShloMosaic Idealize.ShloMosaic.TcCoe Idealize.SL.Sem

attribute [local instance] Cert.Swa.Gen.facts Cert.SwaIdeal.Gen.facts Cert.SwaReferenceIdeal.Gen.facts

/-- The program as printed has the same text. -/
theorem frame_p : Cert.quiescent_Swa := fun m ρ _ => by
  refine Eq.mp ?_ (SwaFree.ends (F := Bits) m ρ)
  sl_kernel_rfl

theorem frame_pi : Cert.quiescent_SwaIdeal := fun m ρ _ => SwaFree.ends (F := Ideal) m ρ

theorem frame_ri : Cert.quiescent_SwaReferenceIdeal := fun m ρ _ =>
  (θ_run Cert.SwaReferenceIdeal.defs _ _).mono (fun r h => ⟨fun c => (h c).2.2.2.2, sem_eq_zero_of_no_sems (by decide) r.2⟩)
    (Cert.SwaReferenceIdeal.Value.run (F := Ideal) m ρ)

theorem preserves : Cert.preserves_Swa_SwaIdeal := trivial

end Cert.Proof.Swa
end
-- ==== Proof.FfwPay.lean ====
/-
  The forward call's operations at an index, and what the second head of a pair shares with the first.
-/
module

public import proofs.«01_k».proof.Proof.Gen.FfwIdeal.Skeleton
public import Idealize.ShloMosaic.Lib.Pointwise
public import Idealize.ShloMosaic.PureOps.Ideal.Laws

@[expose] public section

set_option maxRecDepth 16384

noncomputable section

namespace Cert.Proof.Ffw

open Idealize.ShloMosaic Idealize.ShloMosaic.TcCoe Idealize.SL.Sem
open Cert.FfwIdeal Cert.FfwIdeal.Gen

section
variable {F : FTy → Type} [FloatOps F] [Named F]
  (q k v : FVec F S1024x128 .bf16) (m : FVec F S1024x1 .f32) (a : FVec F S1024x128 .f32)

/-- One block of keys: the new maxima, and the new weighted sums. -/
abbrev stepM : FVec F S1024x1 .f32 := k0_pay10 q m k
abbrev stepA : FVec F S1024x128 .f32 := k0_pay11 q m a k v
/-- The block on the diagonal. -/
abbrev lastM : FVec F S1024x1 .f32 := k0_pay22 q m k
abbrev lastA : FVec F S1024x128 .f32 := k0_pay25 (k0_pay23 q m k) (k0_pay24 q m a k) v
/-- What is left of the logarithm after its first two parts, and the queries with the three parts in their lanes. -/
def low : FVec F S1024x1 .f32 :=
  extf .f32 (truncf .bf16 (subf (subf (k0_pay39 m a) (k0_pay40 m a)) (k0_pay41 m a)) bitsLt_bf16_f32) bitsLt_bf16_f32
def outQ : FVec F S1024x128 .bf16 :=
  k0_pay36 (k0_pay31 (k0_pay3 q)) (iota .tc S1024x128 32 [1] iota_S1024x128_d1_w32) (k0_pay40 m a) (k0_pay41 m a) (low m a)

theorem second_m : k0_pay13 q m k = stepM q k m := rfl
theorem second_a : k0_pay14 q m a k v = stepA q k v m a := rfl
theorem second_lastM : k0_pay27 (k0_pay4 q) m k = lastM q k m := rfl
theorem second_lastA : k0_pay28 (k0_pay4 q) m a k v = lastA q k v m a := rfl
theorem first_o : k0_pay30 (k0_pay23 q m k) (k0_pay24 q m a k) v = k0_pay38 (lastA q k v m a) := rfl
theorem first_hi : k0_pay33 (lastM q k m) (k0_pay23 q m k) (k0_pay24 q m a k) v = k0_pay40 (lastM q k m) (lastA q k v m a) := rfl
theorem first_mid : k0_pay34 (lastM q k m) (k0_pay23 q m k) (k0_pay24 q m a k) v = k0_pay41 (lastM q k m) (lastA q k v m a) := rfl
theorem first_lo : k0_pay35 (lastM q k m) (k0_pay23 q m k) (k0_pay24 q m a k) v = low (lastM q k m) (lastA q k v m a) := rfl
theorem second_q : k0_pay1 (k0_pay40 m a) (k0_pay41 m a) k0_pay42 k0_pay43 (k0_pay44 (k0_pay4 q) m a) = outQ q m a := rfl
end

theorem c_bot : Ideal.ofBits .f32 0xFF800000#32 = ⊥ := by
  simp [Ideal.ofBits, Ideal.ieee]

theorem row_ge (t s : Fin 1024) : IntOp.cmpi .sge (BitVec.ofNat 32 t.val) (BitVec.ofNat 32 s.val) = if s.val ≤ t.val then 1#1 else 0#1 := by
  have hs := s.isLt
  have ht := t.isLt
  have e1 : (BitVec.ofNat 32 t.val).toInt = t.val := by
    rw [BitVec.toInt_ofNat', Int.bmod_eq_of_le (by omega) (by omega)]
  have e2 : (BitVec.ofNat 32 s.val).toInt = s.val := by
    rw [BitVec.toInt_ofNat', Int.bmod_eq_of_le (by omega) (by omega)]
  have e : IntOp.cmpi .sge (BitVec.ofNat 32 t.val) (BitVec.ofNat 32 s.val) = BitVec.ofBool (decide (s.val ≤ t.val)) := by
    simp [IntOp.cmpi, BitVec.sle, e1, e2]
  rw [e]
  by_cases h : s.val ≤ t.val <;> simp [h]

variable (q k v : FVec Ideal S1024x128 .bf16) (m : FVec Ideal S1024x1 .f32) (a : FVec Ideal S1024x128 .f32)
  (t s : Fin 1024) (d : Fin 128)

theorem score_at : k0_pay9 (F := Ideal) q k (ix2 t s) = ∑ d : Fin 128, q (ix2 t d) * k (ix2 s d) := by
  pointwise [k0_pay9, k0_pay3]

theorem stepM_at : stepM q k m (ix2 t 0) = max (m (ix2 t 0)) (Finset.univ.fold max ⊥ fun s => k0_pay9 (F := Ideal) q k (ix2 t s)) := by
  unfold stepM
  pointwise [k0_pay10]
  rw [c_bot]

theorem stepA_at : stepA q k v m a (ix2 t d) = Ideal.exp2 (m (ix2 t 0) - stepM q k m (ix2 t 0)) * a (ix2 t d)
    + ∑ s : Fin 1024, Ideal.exp2 (k0_pay9 (F := Ideal) q k (ix2 t s) - stepM q k m (ix2 t 0)) * v (ix2 s d) := by
  pointwise [k0_pay11]
  rfl

theorem masked_at : k0_pay21 (F := Ideal) q k (ix2 t s) = if s.val ≤ t.val then ∑ d : Fin 128, q (ix2 t d) * k (ix2 s d) else ⊥ := by
  have h := row_ge t s
  pointwise [k0_pay21, k0_pay3]
  rw [h]
  by_cases hst : s.val ≤ t.val
  · rw [if_pos hst, if_pos hst]; rfl
  · rw [if_neg hst, if_neg hst]; exact c_bot

theorem lastM_at : lastM q k m (ix2 t 0) = max (m (ix2 t 0)) (Finset.univ.fold max ⊥ fun s => k0_pay21 (F := Ideal) q k (ix2 t s)) := by
  pointwise [k0_pay22]
  rw [c_bot]

theorem lastA_at : lastA q k v m a (ix2 t d) = Ideal.exp2 (m (ix2 t 0) - lastM q k m (ix2 t 0)) * a (ix2 t d)
    + ∑ s : Fin 1024, Ideal.exp2 (k0_pay21 (F := Ideal) q k (ix2 t s) - lastM q k m (ix2 t 0)) * v (ix2 s d) := by
  pointwise [k0_pay25, k0_pay24, k0_pay23]
  rfl

theorem norm_at : k0_pay38 (F := Ideal) a (ix2 t d) = a (ix2 t d) * Ideal.div (Ideal.ofBits .f32 0x3F800000#32) (a (ix2 t 64)) := by
  pointwise [k0_pay38, k0_pay37]

theorem pay39_at : k0_pay39 (F := Ideal) m a (ix2 t 0) = Ideal.ofBits .f32 0x00000000#32 - (m (ix2 t 0) + Ideal.log (a (ix2 t 64)) * (Named.named κ "log2e" 0x3FB8AA3B#32 : Ideal .f32)) := by
  pointwise [k0_pay39, k0_pay37]

theorem outQ_71 : outQ q m a (ix2 t 71) = k0_pay39 (F := Ideal) m a (ix2 t 0) := by
  pointwise [outQ, k0_pay36, k0_pay40]
theorem outQ_72 : outQ q m a (ix2 t 72) = k0_pay39 (F := Ideal) m a (ix2 t 0) - k0_pay39 (F := Ideal) m a (ix2 t 0) := by
  pointwise [outQ, k0_pay36, k0_pay41, k0_pay40]
  rfl
theorem outQ_73 : outQ q m a (ix2 t 73) = k0_pay39 (F := Ideal) m a (ix2 t 0) - k0_pay39 (F := Ideal) m a (ix2 t 0)
    - (k0_pay39 (F := Ideal) m a (ix2 t 0) - k0_pay39 (F := Ideal) m a (ix2 t 0)) := by
  pointwise [outQ, k0_pay36, low, k0_pay41, k0_pay40]
  rfl

theorem outO_at (x y : FVec Ideal S1024x128 .f32) :
    k0_pay2 (F := Ideal) x y (ix2 t d) = if d.val < 64 then x (ix2 t d) else y (ix2 t ⟨d.val - 64, by omega⟩) := by
  have e : IntOp.cmpi .slt (BitVec.ofNat 32 d.val) 64#32 = if d.val < 64 then 1#1 else 0#1 :=
    (by decide +kernel : ∀ d : Fin 128, IntOp.cmpi .slt (BitVec.ofNat 32 d.val) 64#32 = if d.val < 64 then 1#1 else 0#1) d
  pointwise [k0_pay2]
  rw [e]
  by_cases h : d.val < 64
  · rw [if_pos h, if_pos h]; rfl
  · rw [if_neg h, if_neg h]
    exact congrArg (fun z => y (ix2 t z)) (Fin.ext (by show (d.val + 128 - 64) % 128 = d.val - 64; omega))

end Cert.Proof.Ffw
end
-- ==== Proof.FfwStep.lean ====
/-
  The loop of the forward call over any float values: the maxima and the weighted sums it carries, block by block of keys,
  for each head of a pair.
-/
module

public import proofs.«01_k».proof.Proof.FfwPay
public import proofs.«01_k».proof.Proof.FoxEnd
public import proofs.«01_k».proof.Proof.Gen.FfwIdeal.Loops

@[expose] public section

set_option maxRecDepth 16384

noncomputable section

namespace Cert.Proof.Ffw

open Idealize.ShloMosaic Idealize.ShloMosaic.TcCoe Idealize.SL.Sem
open Cert.FfwIdeal Cert.FfwIdeal.Gen
open Cert.Proof.Fox (row lane hd ln window_at inb_of)

variable {F : FTy → Type} [FloatOps F] [Named F]

/-- One head's columns of a block of positions of a sequence, and of a block of queries. -/
def blkOf (x : Vec F S4096x256 .bf16) (q : ℕ) (h : Fin 2) : Vec F S1024x128 .bf16 := fun y => x (ix2 (row q (y 0)) (lane h (y 1)))
def headOf (x : Vec F S1024x256 .bf16) (h : Fin 2) : Vec F S1024x128 .bf16 := fun y => x (ix2 (y 0) (lane h (y 1)))

/-- The maxima and the weighted sums after `n` blocks of keys. -/
def carry (q : FVec F S1024x128 .bf16) (x1 x2 : Vec F S4096x256 .bf16) (h : Fin 2) : ℕ → FVec F S1024x1 .f32 × FVec F S1024x128 .f32
  | 0 => (k0_pay5, k0_pay6)
  | n + 1 => (stepM q (blkOf x1 n h) (carry q x1 x2 h n).1, stepA q (blkOf x1 n h) (blkOf x2 n h) (carry q x1 x2 h n).1 (carry q x1 x2 h n).2)

theorem trips_eq : ∀ i : grid0.Coords, (k0_t1_loop i).trips = (i 2).val := by decide +kernel
theorem trips2_eq : ∀ i : grid0.Coords, (k0_t2_loop i).trips = 0 := by decide +kernel

section
variable (𝒱 : Variants) (c : Dev nD) (bd : Option 𝒱.V) (i : grid0.Coords)
  (arg3 : Memref sig .tc .vmem S1024x256 .bf16) (harg3 : arg3.IsWhole) (arg4 : Memref sig .tc .vmem S4096x256 .bf16) (harg4 : arg4.IsWhole)
  (arg5 : Memref sig .tc .vmem S4096x256 .bf16) (harg5 : arg5.IsWhole) (arg6 : Memref sig .tc .vmem S1024x128 .bf16) (harg6 : arg6.IsWhole)
  (arg7 : Memref sig .tc .vmem S1024x256 .bf16) (harg7 : arg7.IsWhole)
  (v0 v2 : Vec F S1024x128 .bf16) (X4 : BufTy.Contents (Elt F) arg4.view.ty) (X5 : BufTy.Contents (Elt F) arg5.view.ty)

abbrev rd1 (k : Fin (k0_t1_loop i).trips) (a : Memref sig .tc .vmem S4096x256 .bf16) (X : BufTy.Contents (Elt F) a.view.ty) : Vec F S1024x128 .bf16 :=
  View.readAt (Elt F) a.view (Rect.unit (s := S4096x256) (k0_off1 i k) S1024x128.size (k0_off1_inb i k)).toLoadRect X
abbrev rd2 (k : Fin (k0_t1_loop i).trips) (a : Memref sig .tc .vmem S4096x256 .bf16) (X : BufTy.Contents (Elt F) a.view.ty) : Vec F S1024x128 .bf16 :=
  View.readAt (Elt F) a.view (Rect.unit (s := S4096x256) (k0_off2 i k) S1024x128.size (k0_off2_inb i k)).toLoadRect X

theorem blk_lt (k : Fin (k0_t1_loop i).trips) : k.val < 4 := by
  have h1 := k.isLt
  have h2 := trips_eq i
  have h3 : (i 2).val < 4 := (i 2).isLt
  omega

/-- A load at a block's place reads the head's columns of that block. -/
theorem read_blk (a : Memref sig .tc .vmem S4096x256 .bf16) (X : BufTy.Contents (Elt F) a.view.ty) {off : Fin 2 → ℕ} {q : ℕ} (hq : q < 4) (h : Fin 2)
    (inb : ∀ x, off x + S1024x128.size x ≤ S4096x256.size x) (e : off = ![1024 * q, 128 * h.val]) :
    (View.readAt (Elt F) a.view (Rect.unit (s := S4096x256) off S1024x128.size inb).toLoadRect X : Vec F S1024x128 .bf16) = blkOf (a.view.read (Elt F) X) q h := by
  funext y
  obtain ⟨r, d, rfl⟩ : ∃ r d, y = (ix2 r d : S1024x128.Idx) := ⟨y 0, y 1, by funext a; fin_cases a <;> rfl⟩
  rw [View.readAt_unit a.view X inb e (inb_of hq h)]
  exact window_at _ hq h _ r d

theorem rd1_eq (k : Fin (k0_t1_loop i).trips) (a : Memref sig .tc .vmem S4096x256 .bf16) (X : BufTy.Contents (Elt F) a.view.ty) :
    rd1 i k a X = blkOf (a.view.read (Elt F) X) k.val 0 := read_blk a X (blk_lt i k) 0 _ (k0_off1_eq i k)
theorem rd2_eq (k : Fin (k0_t1_loop i).trips) (a : Memref sig .tc .vmem S4096x256 .bf16) (X : BufTy.Contents (Elt F) a.view.ty) :
    rd2 i k a X = blkOf (a.view.read (Elt F) X) k.val 1 := read_blk a X (blk_lt i k) 1 _ (k0_off2_eq i k)

theorem tripR_eq (k : Fin (k0_t1_loop i).trips) (acc : FVec F S1024x1 .f32 × FVec F S1024x128 .f32 × FVec F S1024x1 .f32 × FVec F S1024x128 .f32) :
    tripR_k0_t1 𝒱 c bd i arg3 harg3 arg4 harg4 arg5 harg5 arg6 harg6 arg7 harg7 v0 v2 X4 X5 k acc
      = (stepM v0 (rd1 i k arg4 X4) acc.1, stepA v0 (rd1 i k arg4 X4) (rd1 i k arg5 X5) acc.1 acc.2.1,
         k0_pay13 v2 acc.2.2.1 (rd2 i k arg4 X4), k0_pay14 v2 acc.2.2.1 acc.2.2.2 (rd2 i k arg4 X4) (rd2 i k arg5 X5)) := by
  unfold tripR_k0_t1 trip_k0_t1
  rfl

theorem st_eq (n : ℕ) (hn : n ≤ (k0_t1_loop i).trips) :
    st_k0_t1 𝒱 c bd i arg3 harg3 arg4 harg4 arg5 harg5 arg6 harg6 arg7 harg7 v0 v2 X4 X5 (k0_pay5, k0_pay6, k0_pay7, k0_pay8) n
      = ((carry v0 (arg4.view.read (Elt F) X4) (arg5.view.read (Elt F) X5) 0 n).1, (carry v0 (arg4.view.read (Elt F) X4) (arg5.view.read (Elt F) X5) 0 n).2,
         (carry v2 (arg4.view.read (Elt F) X4) (arg5.view.read (Elt F) X5) 1 n).1, (carry v2 (arg4.view.read (Elt F) X4) (arg5.view.read (Elt F) X5) 1 n).2) := by
  induction n with
  | zero => rfl
  | succ n ih =>
    have hk : n < (k0_t1_loop i).trips := by omega
    rw [st_k0_t1_succ 𝒱 c bd i arg3 harg3 arg4 harg4 arg5 harg5 arg6 harg6 arg7 harg7 v0 v2 X4 X5 _ ⟨n, hk⟩, tripR_eq, rd1_eq, rd1_eq, rd2_eq, rd2_eq, ih (by omega), second_m, second_a]
    rfl
end

section
variable (kb : ℕ) (x0 : Vec F S1024x256 .bf16) (x1 x2 : Vec F S4096x256 .bf16) (h : Fin 2)

/-- One head's maxima and weighted sums after the block on the diagonal. -/
def finM : FVec F S1024x1 .f32 := lastM (headOf x0 h) (blkOf x1 kb h) (carry (headOf x0 h) x1 x2 h kb).1
def finA : FVec F S1024x128 .f32 :=
  lastA (headOf x0 h) (blkOf x1 kb h) (blkOf x2 kb h) (carry (headOf x0 h) x1 x2 h kb).1 (carry (headOf x0 h) x1 x2 h kb).2

/-- What a point writes: the two heads' outputs, and the queries with the logarithms in their lanes. -/
def resO : Vec F S1024x128 .bf16 := k0_pay2 (k0_pay38 (finA kb x0 x1 x2 0)) (k0_pay38 (finA kb x0 x1 x2 1))
def resQ : Vec F S1024x256 .bf16 := fun y => outQ (headOf x0 (hd (y 1))) (finM kb x0 x1 x2 (hd (y 1))) (finA kb x0 x1 x2 (hd (y 1))) (ix2 (y 0) (ln (y 1)))
end

end Cert.Proof.Ffw
end
-- ==== Proof.FfwRun.lean ====
/-
  One point of the forward call over any float values.
-/
module

public import proofs.«01_k».proof.Proof.FfwStep
public import proofs.«01_k».proof.Proof.Gen.FfwIdeal.Points

@[expose] public section

set_option maxRecDepth 16384

noncomputable section

namespace Cert.Proof.Ffw

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.FfwIdeal Cert.FfwIdeal.Gen
open Cert.Proof.Fox (row lane hd ln lane_hd hd_lane ln_lane)

variable {F : FTy → Type} [FloatOps F] [Named F]

local notation "𝕄" => MT nD τ sig Unit (Elt F) ℕ (UR sig nD τ) ℕ

/-- A load of one head's columns of a block of queries. -/
theorem read_head (a : Memref sig .tc .vmem S1024x256 .bf16) (X : BufTy.Contents (Elt F) a.view.ty) {off : Fin 2 → ℕ} (h : Fin 2)
    (inb : ∀ x, off x + S1024x128.size x ≤ S1024x256.size x) (e : off = ![0, 128 * h.val]) :
    (View.readAt (Elt F) a.view (Rect.unit (s := S1024x256) off S1024x128.size inb).toLoadRect X : Vec F S1024x128 .bf16) = headOf (a.view.read (Elt F) X) h := by
  subst e
  funext y
  rw [View.readAt_unit a.view X inb rfl inb]
  unfold VecWindow.window headOf
  refine congrArg _ ?_
  funext x
  fin_cases x
  · apply Fin.ext
    show 0 + 1 * (y 0).val = (y 0).val
    omega
  · apply Fin.ext
    show 128 * h.val + 1 * (y 1).val = 128 * h.val + (y 1).val
    omega

/-- Two stores, one for each head, make up a whole tile. -/
theorem two_tiles (a : Memref sig .tc .vmem S1024x256 .bf16) (f : BufTy.Contents (Elt F) a.view.ty) (w0 w1 : FVec F S1024x128 .bf16) (L : List (View.Piece (Elt F) S1024x256 .bf16))
    (g : Fin 2 → FVec F S1024x128 .bf16) (h0 : w0 = g 0) (h1 : w1 = g 1) :
    a.view.read (Elt F) (a.view.writes (Elt F) f (⟨Rect.unit (s := S1024x256) ![0, 128] S1024x128.size inb_S1024x256_S1024x128_0_128, w1⟩
      :: ⟨Rect.unit (s := S1024x256) ![0, 0] S1024x128.size inb_S1024x256_S1024x128_0_0, w0⟩ :: L)) = fun y => g (hd (y 1)) (ix2 (y 0) (ln (y 1))) := by
  subst h0 h1
  funext y
  obtain ⟨t, l, rfl⟩ : ∃ t l, y = (ix2 t l : S1024x256.Idx) := ⟨y 0, y 1, by funext a; fin_cases a <;> rfl⟩
  obtain ⟨h, d, rfl⟩ : ∃ h d, l = lane h d := ⟨hd l, ln l, (lane_hd l).symm⟩
  show _ = g (hd (lane h d)) (ix2 t (ln (lane h d)))
  rw [hd_lane, ln_lane]
  rcases (show h = 0 ∨ h = 1 by omega) with rfl | rfl
  · refine (View.read_writes_cons_unit_of_not_mem (off := ![0, 128]) (size := S1024x128.size) a.view f inb_S1024x256_S1024x128_0_128 (g 1) _ (ix2 t (lane 0 d)) rfl 1
      (Or.inl (by show 128 * 0 + d.val < 128; omega))).trans ?_
    refine View.read_writes_cons_unit_of_mem (off := ![0, 0]) (size := S1024x128.size) a.view f inb_S1024x256_S1024x128_0_0 (g 0) L (ix2 t (lane 0 d)) (ix2 t d) rfl (fun x => ?_)
    fin_cases x
    · exact (Nat.zero_add _).symm
    · rfl
  · refine View.read_writes_cons_unit_of_mem (off := ![0, 128]) (size := S1024x128.size) a.view f inb_S1024x256_S1024x128_0_128 (g 1) _ (ix2 t (lane 1 d)) (ix2 t d) rfl (fun x => ?_)
    fin_cases x
    · exact (Nat.zero_add _).symm
    · rfl

variable (c : Dev nD) (i : grid0.Coords)
  (arg3 : Memref sig .tc .vmem S1024x256 .bf16) (harg3 : arg3.IsWhole) (arg4 : Memref sig .tc .vmem S4096x256 .bf16) (harg4 : arg4.IsWhole)
  (arg5 : Memref sig .tc .vmem S4096x256 .bf16) (harg5 : arg5.IsWhole) (arg6 : Memref sig .tc .vmem S1024x128 .bf16) (harg6 : arg6.IsWhole)
  (arg7 : Memref sig .tc .vmem S1024x256 .bf16) (harg7 : arg7.IsWhole)
  (x0 : Vec F S1024x256 .bf16) (x1 x2 : Vec F S4096x256 .bf16)

set_option maxHeartbeats 1000000 in
theorem run (E : Set ℕ) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ (∃ d, owns (c : Thread nD τ) arg7 fullShare d)
        ∗ (iprop(owns (c : Thread nD τ) arg3 fullShare x0 ∗ owns (c : Thread nD τ) arg4 fullShare x1 ∗ owns (c : Thread nD τ) arg5 fullShare x2
          ∗ owns (c : Thread nD τ) arg6 fullShare (resO (i 2).val x0 x1 x2) ∗ owns (c : Thread nD τ) arg7 fullShare (resQ (i 2).val x0 x1 x2)) -∗ K ⟨⟩))
      ⊢ wp frame (wpE (defs₀ (F := F)) Variants.none c none) E (cc0_fox_fwd i arg3 harg3 arg4 harg4 arg5 harg5 arg6 harg6 arg7 harg7) K := by
  simp only [cc0_fox_fwd_eq_skeleton]; unfold cc0_fox_fwd_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%d3, %f3, -, H3⟩, ⟨%d4, %f4, -, H4⟩, Hk⟩
  sl_exec
  sl_step
  have t2 : Scf.trips (k0_t2_loop i).lb (k0_t2_loop i).ub (k0_t2_loop i).st = 0 := trips2_eq i
  have t1 : Scf.trips (k0_t1_loop i).lb (k0_t1_loop i).ub (k0_t1_loop i).st = (i 2).val := trips_eq i
  have q0 := read_head arg3 f0 0 inb_S1024x256_S1024x128_0_0 rfl
  have q1 := read_head arg3 f0 1 inb_S1024x256_S1024x128_0_128 rfl
  have k0 := read_blk arg4 f1 (i 2).isLt 0 (k0_off5_inb i) (k0_off5_eq i)
  have k1 := read_blk arg4 f1 (i 2).isLt 1 (k0_off6_inb i) (k0_off6_eq i)
  have v0 := read_blk arg5 f2 (i 2).isLt 0 (k0_off5_inb i) (k0_off5_eq i)
  have v1 := read_blk arg5 f2 (i 2).isLt 1 (k0_off6_inb i) (k0_off6_eq i)
  have S := st_eq Variants.none c none i arg3 harg3 arg4 harg4 arg5 harg5 arg6 harg6 arg7 harg7 (headOf x0 0) (headOf x0 1) f1 f2 (i 2).val (trips_eq i).ge
  rw [hf0] at q0 q1
  rw [hf1] at k0 k1 S
  rw [hf2] at v0 v1 S
  iapply Hk
  isplitl [H0]
  · iexists _; isplitr; swap; · iexact H0
    ipureintro; exact hf0
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro
    delta run.sl.r_15 run.sl.r_14 run.sl.r_13 run.sl.r_12 run.sl.r_11 run.sl.r_10 run.sl.r_9 run.sl.r_8 run.sl.r_7 run.sl.r_6 run.sl.r_5 run.sl.r_4 run.sl.r_3 run.sl.r_2 run.sl.r_1 run.sl.r
    simp only [t2, t1, st_k0_t2, q0, q1, k0, k1, v0, v1, S]
    rw [View.read_writes_full]
    exact congrArg₂ k0_pay2 (first_o _ _ _ _ _) (congrArg k0_pay38 (second_lastA _ _ _ _ _))
  iexists _; isplitr; swap; · iexact H4
  ipureintro
  delta run.sl.r_18 run.sl.r_17 run.sl.r_16 run.sl.r_15 run.sl.r_14 run.sl.r_13 run.sl.r_12 run.sl.r_11 run.sl.r_10 run.sl.r_9 run.sl.r_8 run.sl.r_7 run.sl.r_6 run.sl.r_5 run.sl.r_4 run.sl.r_3 run.sl.r_2 run.sl.r_1 run.sl.r
  simp only [t2, t1, st_k0_t2, q0, q1, k0, k1, v0, v1, S]
  refine two_tiles arg7 f4 _ _ [] (fun h => outQ (headOf x0 h) (finM (i 2).val x0 x1 x2 h) (finA (i 2).val x0 x1 x2 h)) ?_ ?_
  · rw [first_hi, first_mid, first_lo]
    rfl
  · exact second_q _ _ _

end Cert.Proof.Ffw
end
-- ==== Proof.FfwFrame.lean ====
/-
  The grid of the forward call over any float values: what every window holds after a point, and how a run ends.
-/
module

public import proofs.«01_k».proof.Proof.FfwRun
public import proofs.«01_k».proof.Proof.Gen.FfwIdeal.Frame.Runs
public import Idealize.ShloMosaic.Lib.Claim

@[expose] public section

set_option maxRecDepth 16384

noncomputable section

namespace Cert.Proof.Ffw

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FfwIdeal Cert.FfwIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The inputs of a point: a block of queries, and the keys and values of a sequence. -/
abbrev xq (c : Dev nD) (t : Fin cfg0.N) : Vec F S1024x256 .bf16 := iblk m c 0 t
abbrev xk (c : Dev nD) (t : Fin cfg0.N) : Vec F S4096x256 .bf16 := iblk m c 1 t
abbrev xv (c : Dev nD) (t : Fin cfg0.N) : Vec F S4096x256 .bf16 := iblk m c 2 t

/-- The block of queries that a point works on. -/
abbrev qbOf (t : Fin cfg0.N) : ℕ := (grid0.coords t 2).val

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => resO (qbOf t) (xq m c t) (xk m c t) (xv m c t)
    | ⟨4, _⟩ => resQ (qbOf t) (xq m c t) (xk m c t) (xv m c t)
    | ⟨_ + 5, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = resO (qbOf t) (xq m c t) (xk m c t) (xv m c t) := by dsimp only [dats]
theorem after_4 (c : Dev nD) (t : Fin cfg0.N) : (dats m 0 c).after 4 t = resQ (qbOf t) (xq m c t) (xk m c t) (xv m c t) := by dsimp only [dats]

set_option maxHeartbeats 1600000 in
theorem body (c : Dev nD) : BodyObligation (dats m 0 c) (defs₀ (F := F)) Variants.none () Set.univ := fun t => by
  rw [bigSep_W0, bigSep_W0]
  refine triple_restated (W := wp frame (wpE (defs₀ (F := F)) Variants.none c none) Set.univ (bodyAt0 t)) ?_ rfl .rfl fun _ => .rfl
  dsimp only
  have b0 : ∀ d, (dats m 0 c).before 0 t d = iblk m c 0 t := before0_0_of m (dats m 0 c) (A_eq m c 0) (after_0 m c) t
  have b1 : ∀ d, (dats m 0 c).before 1 t d = iblk m c 1 t := before0_1_of m (dats m 0 c) (A_eq m c 1) (after_1 m c) t
  have b2 : ∀ d, (dats m 0 c).before 2 t d = iblk m c 2 t := before0_2_of m (dats m 0 c) (A_eq m c 2) (after_2 m c) t
  simp only [b0, b1, b2, after_0, after_1, after_2, after_3, after_4]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩⟩
  iapply (run c (grid0.coords t) _ _ _ _ _ _ _ _ _ _ (xq m c t) (xk m c t) (xv m c t) Set.univ _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

set_option backward.isDefEq.respectTransparency.types false in
/-- Every run ends with the pipeline's arrays at what the proof data says, the host operations after it done, and no signal left. -/
theorem ends : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := fun c => (body m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- So the arguments are unchanged. -/
theorem keeps : θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  θ_run_and (frame_of m ρ (dats m) (A_eq m) ((θ_run defs _ _).mono (fun _ h => h.1) (ends m ρ))) ((θ_run defs _ _).mono (fun _ h => h.2) (ends m ρ))

end Cert.Proof.Ffw
end
-- ==== Proof.FfwMath.lean ====
/-
  The softmax of a row taken block by block over the reals: what the running maximum and the running weighted sums stand
  for, how a block changes them, and what they come to when the row is done.
-/
module

public import proofs.«01_k».proof.Proof.FoxMath

@[expose] public section

noncomputable section

namespace Cert.Proof.Softmax

open Idealize.ShloMosaic Cert.Proof.Alg

/-- Two to a real power. -/
def two (y : ℝ) : ℝ := Real.exp (y * Real.log 2)

theorem exp2_real (y : ℝ) : Ideal.exp2 (y : EReal) = (two y : EReal) := by
  rw [Ideal.exp2_coe, show ∀ x : ℝ, Real.rpow 2 x = (2 : ℝ) ^ x from fun _ => rfl, Real.rpow_def_of_pos (by norm_num), mul_comm]; rfl
theorem two_pos (y : ℝ) : 0 < two y := Real.exp_pos _
theorem two_sub (x y : ℝ) : two (x - y) = two (-y) * two x := by
  unfold two; rw [← Real.exp_add]; congr 1; ring
theorem two_neg_cancel (y : ℝ) : two (-y) * two y = 1 := by rw [← two_sub, sub_self]; unfold two; rw [zero_mul, Real.exp_zero]
/-- Two to the power of a score over the logarithm of two is the score's exponential. -/
theorem two_div (y : ℝ) : two (y / Real.log 2) = Real.exp y := by unfold two; rw [div_mul_cancel₀ _ Head.log2_pos.ne']

/-- The maximum `M` is real, and the sum `a` is the sum `U` of unscaled weights scaled down by `M`. -/
def Scaled (m a : EReal) (U : ℝ) : Prop := ∃ M : ℝ, m = M ∧ a = ((two (-M) * U : ℝ) : EReal)
/-- The same, or nothing was summed yet. -/
def Good (m a : EReal) (U : ℝ) : Prop := (m = ⊥ ∧ a = 0 ∧ U = 0) ∨ Scaled m a U

theorem good_step {ι : Type*} [Fintype ι] {m a : EReal} {U : ℝ} (h : Good m a U) (x : ι → EReal) (e w : ι → ℝ)
    (hx : ∀ j, (x j = ⊥ ∧ e j = 0) ∨ ∃ y : ℝ, x j = y ∧ e j = two y) (i : ι) (hi : IsR (x i)) :
    Scaled (max m (Finset.univ.fold max ⊥ x))
      (Ideal.exp2 (m - max m (Finset.univ.fold max ⊥ x)) * a + ∑ j, Ideal.exp2 (x j - max m (Finset.univ.fold max ⊥ x)) * (w j : EReal))
      (U + ∑ j, e j * w j) := by
  have hf : IsR (Finset.univ.fold max ⊥ x) := Head.isR_max _ x (fun j => (hx j).imp And.left fun ⟨y, hy, _⟩ => ⟨y, hy⟩) i (Finset.mem_univ i) hi
  have hm : IsR (max m (Finset.univ.fold max ⊥ x)) := by
    rcases h with ⟨h, -⟩ | ⟨M, h, -⟩
    · rw [h, max_eq_right bot_le]; exact hf
    · rw [h]; exact (isR_coe M).max hf
  obtain ⟨M', hM'⟩ := hm
  rw [hM']
  have ha : Ideal.exp2 (m - (M' : EReal)) * a = ((two (-M') * U : ℝ) : EReal) := by
    rcases h with ⟨h1, h2, h3⟩ | ⟨M, h1, h2⟩
    · rw [h1, h2, h3, mul_zero, mul_zero, EReal.coe_zero]
    · rw [h1, h2, ← EReal.coe_sub, exp2_real, ← EReal.coe_mul, two_sub M M']
      congr 1
      calc two (-M') * two M * (two (-M) * U) = two (-M') * (two (-M) * two M) * U := by ring
        _ = two (-M') * U := by rw [two_neg_cancel, mul_one]
  have hs : ∀ j, Ideal.exp2 (x j - (M' : EReal)) * (w j : EReal) = ((two (-M') * (e j * w j) : ℝ) : EReal) := fun j => by
    rcases hx j with ⟨h1, h2⟩ | ⟨y, h1, h2⟩
    · rw [h1, h2, EReal.bot_sub, Ideal.exp2_bot, zero_mul, zero_mul, mul_zero, EReal.coe_zero]
    · rw [h1, h2, ← EReal.coe_sub, exp2_real, ← EReal.coe_mul, two_sub y M', mul_assoc]
  refine ⟨M', rfl, ?_⟩
  rw [ha, Finset.sum_congr rfl fun j _ => hs j, ← coe_sum, ← EReal.coe_add, ← Finset.mul_sum, ← mul_add]

/-- The quotient of two sums scaled by one maximum is the quotient of the sums. -/
theorem scaled_div {m a l : EReal} {U L : ℝ} (ha : Scaled m a U) (hl : Scaled m l L) (hL : 0 < L) :
    a * Ideal.div ((1 : ℝ) : EReal) l = ((U / L : ℝ) : EReal) := by
  obtain ⟨M, hM, ha⟩ := ha
  obtain ⟨M', hM', hl⟩ := hl
  have e : M' = M := EReal.coe_injective (hM'.symm.trans hM)
  have hp := (two_pos (-M)).ne'
  rw [ha, hl, e, div_ne (mul_ne_zero hp hL.ne'), ← EReal.coe_mul]
  congr 1
  field_simp

/-- The maximum plus the logarithm of the scaled sum is the logarithm of the sum, to base two. -/
theorem scaled_log {m l : EReal} {L : ℝ} (hl : Scaled m l L) (hL : 0 < L) :
    (0 : EReal) - (m + Ideal.log l * (((Real.log 2)⁻¹ : ℝ) : EReal)) = ((-(Real.log L / Real.log 2) : ℝ) : EReal) := by
  obtain ⟨M, hM, hl⟩ := hl
  have hp := two_pos (-M)
  have h2 := Head.log2_pos.ne'
  rw [hM, hl, Ideal.log_coe, if_neg (not_le.2 (mul_pos hp hL)), ← EReal.coe_mul, ← EReal.coe_add, ← EReal.coe_zero, ← EReal.coe_sub]
  congr 1
  rw [Real.log_mul hp.ne' hL.ne', two, Real.log_exp]
  field_simp
  ring

section
variable {N : ℕ} (q k v : Fin N → Fin 64 → ℝ) (c M : Fin N → ℝ)

/-- A row's exponentials, not scaled, and their sum. -/
def ex (t s : Fin N) : ℝ := if s.val ≤ t.val then Real.exp (Head.sc q k c t s) else 0
def tot (t : Fin N) : ℝ := ∑ s, ex q k c t s

theorem e_eq (t s : Fin N) : Head.e q k c M t s = Real.exp (-M t) * ex q k c t s := by
  unfold Head.e ex
  split
  · rw [← Real.exp_add, sub_eq_add_neg, add_comm]
  · rw [mul_zero]
theorem l_eq (t : Fin N) : Head.l q k c M t = Real.exp (-M t) * tot q k c t := by
  unfold Head.l tot
  rw [Finset.mul_sum]
  exact Finset.sum_congr rfl fun s _ => e_eq q k c M t s
theorem tot_pos (t : Fin N) : 0 < tot q k c t := by
  have h := Head.l_pos q k c (fun _ => 0) t
  rw [l_eq] at h
  exact (mul_pos_iff_of_pos_left (Real.exp_pos _)).1 h
theorem lse_eq (t : Fin N) : M t + Real.log (Head.l q k c M t) = Real.log (tot q k c t) := by
  rw [l_eq, Real.log_mul (Real.exp_pos _).ne' (tot_pos q k c t).ne', Real.log_exp]; ring
theorem out_eq (t : Fin N) (d : Fin 64) : ∑ s, v s d * Head.p q k c M t s = (∑ s, ex q k c t s * v s d) / tot q k c t := by
  rw [Finset.sum_div]
  refine Finset.sum_congr rfl fun s _ => ?_
  have h1 := (Real.exp_pos (-M t)).ne'
  have h2 := (tot_pos q k c t).ne'
  unfold Head.p
  rw [e_eq, l_eq]
  field_simp
end

end Cert.Proof.Softmax
end
-- ==== Proof.FfwVal.lean ====
/-
  What the forward call leaves in its two result arrays, over the three packed arrays it reads: every head of every
  sequence, with sums over the whole sequence in place of the blocks.
-/
module

public import proofs.«01_k».proof.Proof.FfwFrame
public import proofs.«01_k».proof.Proof.FfwMath
public import proofs.«01_k».proof.Proof.FoxVal
public import Idealize.ShloMosaic.Lib.Pipeline.ValueKit
public import Idealize.ShloMosaic.Lib.Pointwise

@[expose] public section

set_option maxRecDepth 16384

noncomputable section

namespace Cert.Proof.Ffw

open Idealize.ShloMosaic Idealize.ShloMosaic.TcCoe Idealize.SL.Sem
open Idealize.ShloMosaic.Pipeline (Dat)
open Cert.FfwIdeal Cert.FfwIdeal.Gen
open Cert.Proof.Alg Cert.Proof.Softmax
open Cert.Proof.Fox (row row_val lane hd ln lane_hd hd_lane ln_lane prow pcol cut sum_blk blk)

theorem first_m (r : Fin 1024) : k0_pay5 (F := Ideal) (ix2 r 0) = (⊥ : EReal) := by
  rw [← c_bot]; pointwise [k0_pay5]
theorem first_a (r : Fin 1024) (d : Fin 128) : k0_pay6 (F := Ideal) (ix2 r d) = (0 : EReal) := by pointwise [k0_pay6]

/-- A sum over the sequence is the sum over its blocks. -/
theorem sum_rows (g : Fin 4096 → ℝ) : ∑ p ∈ Finset.range 4, ∑ j : Fin 1024, g (row p j) = ∑ s, g s := by
  apply EReal.coe_injective
  rw [coe_sum, coe_sum, ← sum_blk]
  exact Finset.sum_congr rfl fun p _ => coe_sum _ _

/-- The blocks below the diagonal and the lower half of the block on it are the positions up to the query's. -/
theorem sum_upto (f : Fin 4096 → ℝ) (kb : ℕ) (hk : kb < 4) (r : Fin 1024) :
    (∑ p ∈ Finset.range kb, ∑ j : Fin 1024, f (row p j)) + ∑ j : Fin 1024, (if j.val ≤ r.val then f (row kb j) else 0)
      = ∑ s, if s.val ≤ (row kb r).val then f s else 0 := by
  rw [← sum_rows, ← Finset.sum_subset (Finset.range_mono (show kb + 1 ≤ 4 from hk)) (fun p hp hn => ?_), Finset.sum_range_succ]
  · have e := row_val hk r
    refine congrArg₂ (· + ·) (Finset.sum_congr rfl fun p hp => Finset.sum_congr rfl fun j _ => ?_) (Finset.sum_congr rfl fun j _ => ?_)
    · have h := Finset.mem_range.1 hp
      have e' := row_val (show p < 4 by omega) j
      rw [if_pos (by omega)]
    · have e' := row_val hk j
      exact if_congr (by omega) rfl rfl
  · have h := Finset.mem_range.1 hp
    have h' : ¬p < kb + 1 := fun h => hn (Finset.mem_range.2 h)
    have e := row_val hk r
    refine Finset.sum_eq_zero fun j _ => ?_
    have e' := row_val h j
    rw [if_neg (by omega)]

section
variable (x0 : FVec Ideal S1024x256 .bf16) (x1 x2 : FVec Ideal S4096x256 .bf16) (h : Fin 2) (r : Fin 1024) (d : Fin 128) (z w : Fin 4096 → ℝ)
  (hz : ∀ s, ∑ l : Fin 128, x0 (ix2 r (lane h l)) * x1 (ix2 s (lane h l)) = (z s : EReal)) (hw : ∀ s, x2 (ix2 s (lane h d)) = (w s : EReal))
include hz hw

theorem score_blk (n : ℕ) (j : Fin 1024) : k0_pay9 (F := Ideal) (headOf x0 h) (blkOf x1 n h) (ix2 r j) = (z (row n j) : EReal) :=
  (score_at _ _ r j).trans (hz (row n j))

theorem carry_good (n : ℕ) : Good ((carry (F := Ideal) (headOf (F := Ideal) x0 h) x1 x2 h n).1 (ix2 r 0)) ((carry (F := Ideal) (headOf (F := Ideal) x0 h) x1 x2 h n).2 (ix2 r d))
    (∑ p ∈ Finset.range n, ∑ j : Fin 1024, two (z (row p j)) * w (row p j)) := by
  induction n with
  | zero => exact Or.inl ⟨first_m r, first_a r d, rfl⟩
  | succ n ih =>
    have hs := score_blk x0 x1 x2 h r d z w hz hw n
    have g := good_step ih (fun j => k0_pay9 (F := Ideal) (headOf x0 h) (blkOf x1 n h) (ix2 r j)) (fun j => two (z (row n j))) (fun j => w (row n j))
      (fun j => Or.inr ⟨_, hs j, rfl⟩) r ⟨_, hs r⟩
    rw [Finset.sum_range_succ]
    refine Or.inr ?_
    show Scaled (stepM (F := Ideal) _ _ _ _) (stepA (F := Ideal) _ _ _ _ _ _) _
    rw [stepA_at, stepM_at]
    have e : ∀ j, (blkOf (F := Ideal) x2 n h (ix2 j d) : EReal) = (w (row n j) : EReal) := fun j => hw (row n j)
    simp only [e]
    exact g

theorem fin_good (kb : ℕ) (hk : kb < 4) : Scaled (finM (F := Ideal) kb x0 x1 x2 h (ix2 r 0)) (finA (F := Ideal) kb x0 x1 x2 h (ix2 r d))
    (∑ s, (if s.val ≤ (row kb r).val then two (z s) else 0) * w s) := by
  have hs := score_blk x0 x1 x2 h r d z w hz hw kb
  have hm : ∀ j : Fin 1024, k0_pay21 (F := Ideal) (headOf x0 h) (blkOf x1 kb h) (ix2 r j) = if j.val ≤ r.val then (z (row kb j) : EReal) else ⊥ := fun j => by
    rw [masked_at]; exact if_congr Iff.rfl (hz (row kb j)) rfl
  have g := good_step (carry_good x0 x1 x2 h r d z w hz hw kb) (fun j => k0_pay21 (F := Ideal) (headOf x0 h) (blkOf x1 kb h) (ix2 r j))
    (fun j => if j.val ≤ r.val then two (z (row kb j)) else 0) (fun j => w (row kb j))
    (fun j => by
      rcases em (j.val ≤ r.val) with hj | hj
      · exact Or.inr ⟨_, (hm j).trans (if_pos hj), if_pos hj⟩
      · exact Or.inl ⟨(hm j).trans (if_neg hj), if_neg hj⟩) r ⟨_, (hm r).trans (if_pos le_rfl)⟩
  have e : ∀ j, (blkOf (F := Ideal) x2 kb h (ix2 j d) : EReal) = (w (row kb j) : EReal) := fun j => hw (row kb j)
  unfold finM finA
  rw [lastA_at, lastM_at]
  simp only [e]
  have u := sum_upto (fun s => two (z s) * w s) kb hk r
  simp only [ite_mul, zero_mul] at g ⊢
  rw [← u]
  exact g
end

theorem c_one : Ideal.ofBits .f32 0x3F800000#32 = ((1 : ℝ) : EReal) := by
  simp [Ideal.ofBits, Ideal.ieee, -EReal.coe_mul]; norm_num
theorem c_zero : Ideal.ofBits .f32 0x00000000#32 = (0 : EReal) := by
  simp [Ideal.ofBits, Ideal.ieee]

variable (m : (ℓ : Loc nD τ sig) → Buf (Elt Ideal) ℓ) (c : Dev nD)

/-- The packed arrays. -/
abbrev qa : FVec Ideal S8192x1024 .bf16 := V m c main_v27
abbrev ka : FVec Ideal S8192x1024 .bf16 := V m c main_v34
abbrev va : FVec Ideal S8192x1024 .bf16 := V m c main_v44

theorem idx : ∀ t : Fin cfg0.N, (win0_0.index t = ![4 * (t.val / 16) + t.val % 4, t.val / 4 % 4] ∧ win0_1.index t = ![t.val / 16, t.val / 4 % 4]
      ∧ win0_2.index t = ![t.val / 16, t.val / 4 % 4]) ∧ win0_3.index t = ![4 * (t.val / 16) + t.val % 4, t.val / 4 % 4]
      ∧ win0_4.index t = ![4 * (t.val / 16) + t.val % 4, t.val / 4 % 4] ∧ qbOf t = t.val % 4 :=
  (by decide +kernel : ∀ t : Fin grid0.N, _)

theorem lt_N (t : Fin cfg0.N) : t.val < 32 := lt_of_lt_of_eq t.isLt N_0

/-- The sequence of a point, and its heads. -/
abbrev sq (t : Fin cfg0.N) : Fin 2 := ⟨t.val / 16, by have := lt_N t; omega⟩
abbrev hh (t : Fin cfg0.N) (h : Fin 2) : Fin 8 := ⟨2 * (t.val / 4 % 4) + h.val, by omega⟩

theorem in_q (t : Fin cfg0.N) (h : Fin 2) (r : Fin 1024) (l : Fin 128) : xq m c t (ix2 r (lane h l)) = cut (qa m c) (sq t) (hh t h) (row (t.val % 4) r) l := by
  have e := row_val (q := t.val % 4) (by omega) r
  show iblk m c 0 t (ix2 r (lane h l)) = _
  blk_ext [iblk, idx t]
theorem in_k (t : Fin cfg0.N) (h : Fin 2) (s : Fin 4096) (l : Fin 128) : xk m c t (ix2 s (lane h l)) = cut (ka m c) (sq t) (hh t h) s l := by
  show iblk m c 1 t (ix2 s (lane h l)) = _
  blk_ext [iblk, idx t]
theorem in_v (t : Fin cfg0.N) (h : Fin 2) (s : Fin 4096) (l : Fin 128) : xv m c t (ix2 s (lane h l)) = cut (va m c) (sq t) (hh t h) s l := by
  show iblk m c 2 t (ix2 s (lane h l)) = _
  blk_ext [iblk, idx t]

/-- What a point writes at one place, and the point that writes a row and a pair of heads. -/
def oAt (t : Fin cfg0.N) (r : Fin 1024) (l : Fin 128) : EReal := resO (qbOf t) (xq m c t) (xk m c t) (xv m c t) (ix2 r l)
def qlAt (t : Fin cfg0.N) (r : Fin 1024) (l : Fin 256) : EReal := resQ (qbOf t) (xq m c t) (xk m c t) (xv m c t) (ix2 r l)
def ptOf (r : Fin 8192) (g : Fin 4) : Fin cfg0.N := ⟨16 * (r.val / 4096) + 4 * g.val + r.val / 1024 % 4, lt_of_lt_of_eq (by omega) N_0.symm⟩

/-- The two result arrays: the outputs, and the queries with the logarithms in their lanes. -/
def oF : FVec Ideal S8192x512 .bf16 := fun y => oAt m c (ptOf (y 0) ⟨(y 1).val / 128, by have : (y 1).val < 512 := (y 1).isLt; omega⟩) ⟨(y 0).val % 1024, by omega⟩ ⟨(y 1).val % 128, by omega⟩
def qlF : FVec Ideal S8192x1024 .bf16 := fun y => qlAt m c (ptOf (y 0) ⟨(y 1).val / 256, by have : (y 1).val < 1024 := (y 1).isLt; omega⟩) ⟨(y 0).val % 1024, by omega⟩ ⟨(y 1).val % 256, by omega⟩

theorem ptOf_eq (t : Fin cfg0.N) (r : Fin 1024) (g : Fin 4) (h : g.val = t.val / 4 % 4) : ptOf (prow (sq t) (row (t.val % 4) r)) g = t := by
  have e := row_val (q := t.val % 4) (by omega) r
  have := lt_N t
  apply Fin.ext
  show 16 * ((4096 * (t.val / 16) + (row (t.val % 4) r).val) / 4096) + 4 * g.val + (4096 * (t.val / 16) + (row (t.val % 4) r).val) / 1024 % 4 = t.val
  omega
theorem row_mod (t : Fin cfg0.N) (r : Fin 1024) : (prow (sq t) (row (t.val % 4) r)).val % 1024 = r.val := by
  have e := row_val (q := t.val % 4) (by omega) r
  show (4096 * (t.val / 16) + (row (t.val % 4) r).val) % 1024 = r.val
  omega

theorem point3 (t : Fin cfg0.N) (r : Fin 1024) (l : Fin 128) :
    resO (qbOf t) (xq m c t) (xk m c t) (xv m c t) (ix2 r l) = oF m c (ix2 (prow (sq t) (row (t.val % 4) r)) (⟨128 * (t.val / 4 % 4) + l.val, by omega⟩ : Fin 512)) :=
  (congr (congr (congrArg (oAt m c) (ptOf_eq t r _ (by show (128 * (t.val / 4 % 4) + l.val) / 128 = _; omega))) (Fin.ext (row_mod t r)))
    (Fin.ext (by show (128 * (t.val / 4 % 4) + l.val) % 128 = l.val; omega))).symm
theorem point4 (t : Fin cfg0.N) (r : Fin 1024) (l : Fin 256) :
    resQ (qbOf t) (xq m c t) (xk m c t) (xv m c t) (ix2 r l) = qlF m c (ix2 (prow (sq t) (row (t.val % 4) r)) (⟨256 * (t.val / 4 % 4) + l.val, by omega⟩ : Fin 1024)) :=
  (congr (congr (congrArg (qlAt m c) (ptOf_eq t r _ (by show (256 * (t.val / 4 % 4) + l.val) / 256 = _; omega))) (Fin.ext (row_mod t r)))
    (Fin.ext (by show (256 * (t.val / 4 % 4) + l.val) % 256 = l.val; omega))).symm

theorem final3 : (dats m 0 c).arrAt 3 cfg0.N = oF m c := by
  refine (dats m 0 c).arrAt_eq_of_covers 3 _ (by decide +kernel) fun t _ y => ?_
  blk_simp
  rw [after_3]
  have e : y = ix2 (y 0) (y 1) := by funext a; fin_cases a <;> rfl
  rw [e]
  refine (point3 m c t (y 0) (y 1)).trans ?_
  have e := row_val (q := t.val % 4) (by omega) (y 0)
  blk_ext [idx t]
theorem final4 : (dats m 0 c).arrAt 4 cfg0.N = qlF m c := by
  refine (dats m 0 c).arrAt_eq_of_covers 4 _ (by decide +kernel) fun t _ y => ?_
  blk_simp
  rw [after_4]
  have e : y = ix2 (y 0) (y 1) := by funext a; fin_cases a <;> rfl
  rw [e]
  refine (point4 m c t (y 0) (y 1)).trans ?_
  have e := row_val (q := t.val % 4) (by omega) (y 0)
  blk_ext [idx t]

section
variable (t : Fin cfg0.N) (h : Fin 2) (r : Fin 1024) (z : Fin 4096 → ℝ)
  (hz : ∀ s, ∑ l : Fin 128, cut (qa m c) (sq t) (hh t h) (row (t.val % 4) r) l * cut (ka m c) (sq t) (hh t h) s l = (z s : EReal))
include hz

/-- One lane of a point's weighted sums. -/
theorem sums_at (d : Fin 128) (w : Fin 4096 → ℝ) (hw : ∀ s, cut (va m c) (sq t) (hh t h) s d = (w s : EReal)) :
    Scaled (finM (qbOf t) (xq m c t) (xk m c t) (xv m c t) h (ix2 r 0)) (finA (qbOf t) (xq m c t) (xk m c t) (xv m c t) h (ix2 r d))
      (∑ s, (if s.val ≤ (row (t.val % 4) r).val then two (z s) else 0) * w s) := by
  have e := (idx t).2.2.2
  rw [e]
  exact fin_good (xq m c t) (xk m c t) (xv m c t) h r d z w (fun s => by simp only [in_q, in_k]; exact hz s) (fun s => (in_v m c t h s d).trans (hw s)) _ (by omega)

variable (h1 : ∀ s, cut (va m c) (sq t) (hh t h) s 64 = 1)
include h1

theorem sum_at : Scaled (finM (qbOf t) (xq m c t) (xk m c t) (xv m c t) h (ix2 r 0)) (finA (qbOf t) (xq m c t) (xk m c t) (xv m c t) h (ix2 r 64))
      (∑ s, if s.val ≤ (row (t.val % 4) r).val then two (z s) else 0) := by
  have g := sums_at m c t h r z hz 64 (fun _ => 1) h1
  simp only [mul_one] at g
  exact g
omit hz h1 in
theorem sum_pos : 0 < ∑ s, if s.val ≤ (row (t.val % 4) r).val then two (z s) else 0 :=
  Finset.sum_pos' (fun s _ => by split; exacts [(two_pos _).le, le_rfl]) ⟨row (t.val % 4) r, Finset.mem_univ _, by rw [if_pos le_rfl]; exact two_pos _⟩

theorem head_out (d : Fin 128) (w : Fin 4096 → ℝ) (hw : ∀ s, cut (va m c) (sq t) (hh t h) s d = (w s : EReal)) :
    k0_pay38 (F := Ideal) (finA (qbOf t) (xq m c t) (xk m c t) (xv m c t) h) (ix2 r d)
      = (((∑ s, (if s.val ≤ (row (t.val % 4) r).val then two (z s) else 0) * w s) / ∑ s, if s.val ≤ (row (t.val % 4) r).val then two (z s) else 0 : ℝ) : EReal) := by
  rw [norm_at, c_one]
  exact scaled_div (sums_at m c t h r z hz d w hw) (sum_at m c t h r z hz h1) (sum_pos t r z)

theorem head_log : k0_pay39 (F := Ideal) (finM (qbOf t) (xq m c t) (xk m c t) (xv m c t) h) (finA (qbOf t) (xq m c t) (xk m c t) (xv m c t) h) (ix2 r 0)
      = ((-(Real.log (∑ s, if s.val ≤ (row (t.val % 4) r).val then two (z s) else 0) / Real.log 2) : ℝ) : EReal) := by
  rw [pay39_at, c_zero, IdealRules.named_const.ideal_named_scalar _ _ _ _ rfl]
  exact scaled_log (sum_at m c t h r z hz h1) (sum_pos t r z)
end

end Cert.Proof.Ffw
end
-- ==== Proof.FfwIn.lean ====
/-
  The three packed operands of the attention's forward call, lane by lane, and the host lines that read the logarithms of
  the softmax's denominators off its second result.
-/
module

public import proofs.«01_k».proof.Proof.FfwVal
public import proofs.«01_k».proof.Proof.FoxIn

@[expose] public section

set_option maxRecDepth 16384

noncomputable section

namespace Cert.Proof.Ffw

open Idealize.ShloMosaic Idealize.ShloMosaic.TcCoe Idealize.SL.Sem
open Cert.FfwIdeal Cert.FfwIdeal.Gen
open Cert.Proof.Fox (G3 G64 parts fill1 fill3 one nil1 nil3 flat lanesK lanesV lanesK_at ln2 over prow pcol bOf tOf nOf lOf)

/-- The layout of the queries' lanes. -/
def lanesQ (x : G64) (y : FVec Ideal S2x4096x8x1 .f32) (p q : FVec Ideal S2x4096x8x3 .f32) : FVec Ideal S8192x1024 .bf16 :=
  flat (concatenate S2x4096x8x128 3 [⟨S2x4096x8x64, x⟩, ⟨S2x4096x8x1, y⟩, ⟨S2x4096x8x3, p⟩, ⟨S2x4096x8x3, q⟩,
    ⟨S2x4096x8x57, broadcastInDim S2x4096x8x57 ![] bcast_S_S2x4096x8x57 (constant S_ .f32 0x00000000#32)⟩]
    concatenates_S2x4096x8x64_S2x4096x8x1_S2x4096x8x3_S2x4096x8x3_S2x4096x8x57_S2x4096x8x128_d3)

theorem zero3_at (i : S2x4096x8x3.Idx) : fill3 0x00000000#32 i = 0 := by pointwise []

theorem lanesQ_at (x : G64) (y : FVec Ideal S2x4096x8x1 .f32) (p q : FVec Ideal S2x4096x8x3 .f32) (b : Fin 2) (t : Fin 4096) (n : Fin 8) (l : Fin 128) :
    lanesQ x y p q (ix2 (⟨4096 * b.val + t.val, by omega⟩ : Fin 8192) (⟨128 * n.val + l.val, by omega⟩ : Fin 1024))
      = if h : l.val < 64 then x (ix4 b t n ⟨l.val, h⟩) else if h1 : l.val - 64 < 1 then y (ix4 b t n 0)
        else if h2 : l.val - 64 - 1 < 3 then p (ix4 b t n ⟨l.val - 64 - 1, h2⟩)
        else if h3 : l.val - 64 - 1 - 3 < 3 then q (ix4 b t n ⟨l.val - 64 - 1 - 3, h3⟩) else 0 := by
  have e0 : (4096 * b.val + t.val) / 4096 = b.val := by omega
  have e1 : (4096 * b.val + t.val) % 4096 = t.val := by omega
  have e2 : (128 * n.val + l.val) / 128 = n.val := by omega
  have e3 : (128 * n.val + l.val) % 128 = l.val := by omega
  pointwise [lanesQ]
  congr! 3 with h h1
  exact congrArg (fun z => ix4 b t n z) (Subsingleton.elim _ _)

/-- It is the keys' layout with three more zeros written out. -/
theorem lanesQ_eq (x : G64) (y : FVec Ideal S2x4096x8x1 .f32) (p q : FVec Ideal S2x4096x8x3 .f32) : lanesQ x y p q = lanesK x y p q (fill3 0x00000000#32) := by
  funext i
  obtain ⟨b, t, n, l, rfl⟩ : ∃ b t n l, i = ix2 (prow b t) (pcol n l) := ⟨bOf (i 0), tOf (i 0), nOf (i 1), lOf (i 1), by
    funext a
    fin_cases a
    · exact Fin.ext (by show (i 0).val = 4096 * ((i 0).val / 4096) + (i 0).val % 4096; omega)
    · exact Fin.ext (by show (i 1).val = 128 * ((i 1).val / 128) + (i 1).val % 128; omega)⟩
  rw [lanesK_at, lanesQ_at]
  simp only [zero3_at, dite_eq_ite, ite_self]

variable (m : (ℓ : Loc nD τ sig) → Buf (Elt Ideal) ℓ) (c : Dev nD)

abbrev a0 : G64 := m (c.tc.loc main_arg0)
abbrev a1 : G64 := m (c.tc.loc main_arg1)
abbrev a2 : G64 := m (c.tc.loc main_arg2)
abbrev a3 : G3 := m (c.tc.loc main_arg3)
abbrev gates : G3 := Cert.FoxReferenceIdeal.Read.val_main_v0 (F := Ideal) (a3 m c)

theorem v2_eq : (V0 m c (Proc.devRef .tc main_v2) : FVec Ideal S_ .f32) = ln2 := by
  unfold V0
  after_reads_simp
theorem v27_eq : (V m c main_v27 : FVec Ideal S8192x1024 .bf16)
    = lanesQ (mulf (F := Ideal) (φ := .f32) (a0 m c) (broadcastInDim S2x4096x8x64 ![] bcast_S_S2x4096x8x64 (Host.divf (constant (F := Ideal) S_ .f32 0x3E000000#32) ln2)))
        nil1 (fill3 one) (parts (over (gates m c))) := by
  show V0 m c (Proc.devRef .tc main_v27) = _
  unfold V0
  after_reads_simp
  rfl
theorem v34_eq : (V m c main_v34 : FVec Ideal S8192x1024 .bf16)
    = lanesK (a1 m c) nil1 (Host.negf (parts (over (gates m c)))) (fill3 one) (fill3 one) := by
  show V0 m c (Proc.devRef .tc main_v34) = _
  unfold V0
  after_reads_simp
  rfl
theorem v44_eq : (V m c main_v44 : FVec Ideal S8192x1024 .bf16) = lanesV (a2 m c) (fill1 one) nil3 nil3 nil3 (fill3 one) := by
  show V0 m c (Proc.devRef .tc main_v44) = _
  unfold V0
  after_reads_simp
  rfl

/-- The lanes 71 to 73 of every head, summed, times a constant. -/
def logs3 (x : FVec Ideal S8192x1024 .bf16) (y : FVec Ideal S_ .f32) : FVec Ideal S8192x8 .f32 :=
  mulf (broadcastInDim S8192x8 ![] bcast_S_S8192x8 (Host.negf y))
    (Host.reduceAdd (extf .f32 (extractStridedSlice S8192x8x3 ![0, 0, 71] (shapeCast S8192x8x128 x shapeCasts_S8192x1024_S8192x8x128) slices_S8192x8x128_S8192x8x3_0_0_71 : FVec Ideal S8192x8x3 .bf16) bitsLt_bf16_f32)
      (constant (F := Ideal) S_ .f32 0x00000000#32) reducesTo_S8192x8x3_S8192x8_d2 h_S_)

theorem logs3_at (x : FVec Ideal S8192x1024 .bf16) (y : FVec Ideal S_ .f32) (r : Fin 8192) (n : Fin 8) :
    logs3 x y (ix2 r n) = -y default * ∑ j : Fin 3, x (ix2 r (pcol n ⟨71 + j.val, by omega⟩)) := by
  pointwise [logs3]
  exact congrArg₂ (fun u v : EReal => u * v) (congrArg (fun i => -y i) (Subsingleton.elim _ _))
    (Finset.sum_congr rfl fun j _ => congrArg (fun i => x (ix2 r i)) (Fin.ext (by show n.val * 128 + (71 + j.val) = 128 * n.val + (71 + j.val); omega)))

theorem tail_52 (σ : Valuation τ sig (Elt Ideal)) : (StableHlo.after hostOps1 σ (Proc.devRef .tc main_v52) : FVec Ideal S8192x8 .f32)
    = logs3 (σ (Proc.devRef .tc main_v45_1)) (σ (Proc.devRef .tc main_v2)) := by
  after_reads_simp
  rfl

/-- What the buffers hold when the grid is done. -/
abbrev out : Valuation τ sig (Elt Ideal) := Pipeline.withArrays spec0 c (V0 m c) fun w => (dats m 0 c).arrAt w cfg0.N

theorem out_1 : (out m c (Proc.devRef .tc main_v45_1) : FVec Ideal S8192x1024 .bf16) = qlF m c :=
  (Pipeline.withArrays_arr spec0 launch0.win.arr_inj c (V0 m c) _ 4).trans (final4 m c)
theorem out_2 : (out m c (Proc.devRef .tc main_v2) : FVec Ideal S_ .f32) = ln2 :=
  (Pipeline.withArrays_of_ne _ c (V0 m c) _ main_v2 (by exact (by decide : ∀ w, Pipeline.arrRef spec0 w ≠ main_v2))).trans (v2_eq m c)

theorem tail_eq (b : Ref sig .tc) : Pipeline.afterTail₀ cfgs (dats m) 0 (V0 m) [hostOps1] c b = StableHlo.after hostOps1 (out m c) (Proc.devRef .tc b) := by
  unfold Pipeline.afterTail₀
  rw [List.flatten_cons, List.flatten_nil, List.append_nil]

theorem res_log (r : Fin 8192) (n : Fin 8) : (Pipeline.afterTail₀ cfgs (dats m) 0 (V0 m) [hostOps1] c main_v52 : FVec Ideal S8192x8 .f32) (ix2 r n)
    = -Ideal.log (Ideal.ofBits .f32 0x40000000#32) * ∑ j : Fin 3, qlF m c (ix2 r (pcol n ⟨71 + j.val, by omega⟩)) := by
  rw [tail_eq, tail_52, out_1, out_2, logs3_at]
  rfl

end Cert.Proof.Ffw
end
-- ==== Proof.FfwRef.lean ====
/-
  The plain attention at an index: its outputs and the logarithms of its denominators.
-/
module

public import proofs.«01_k».proof.Proof.FoxHead
public import proofs.«01_k».proof.Proof.Gen.FfwReferenceIdeal.Read

@[expose] public section

set_option maxRecDepth 16384

noncomputable section

namespace Cert.Proof.Ffw

open Idealize.ShloMosaic Idealize.ShloMosaic.TcCoe Idealize.SL.Sem
open Cert.Proof.Fox
open Cert.FfwReferenceIdeal Cert.FfwReferenceIdeal.Gen Cert.FfwReferenceIdeal.Read
variable (x0 x1 x2 : G64) (x3 : G3)

/-- The reference's softmax is the one of the gradient's reference. -/
theorem ref_prob : (val_main_v31 (F := Ideal) x0 x1 x3 : FVec Ideal Cert.FoxIdeal.S2x8x4096x4096 .f32) = prob (scOf x0 x1 x3) (mxOf x0 x1 x3) := rfl
theorem ref_den : (val_main_v24 (F := Ideal) x0 x1 x3 : FVec Ideal Cert.FoxIdeal.S2x8x4096 .f32) = den (scOf x0 x1 x3) (mxOf x0 x1 x3) := rfl
theorem ref_max : (val_main_v19 (F := Ideal) x0 x1 x3 : FVec Ideal Cert.FoxIdeal.S2x8x4096 .f32) = mxOf x0 x1 x3 := rfl

theorem ref_out (b : Fin 2) (t : Fin 4096) (n : Fin 8) (d : Fin 64) : val_main_v35 (F := Ideal) x0 x1 x2 x3 (ix2 (⟨4096 * b.val + t.val, by omega⟩ : Fin 8192) (⟨64 * n.val + d.val, by omega⟩ : Fin 512))
    = ∑ s : Fin 4096, x2 (ix4 b s n d) * prob (scOf x0 x1 x3) (mxOf x0 x1 x3) (ix4 b n t s) := by
  rw [← ref_prob]
  have e0 : (4096 * b.val + t.val) / 4096 = b.val := by omega
  have e1 : (4096 * b.val + t.val) % 4096 = t.val := by omega
  have e2 : (64 * n.val + d.val) / 64 = n.val := by omega
  have e3 : (64 * n.val + d.val) % 64 = d.val := by omega
  pointwise [val_main_v35, val_main_v34, val_main_v33, val_main_v32]

/-- The lines that put a maximum and the logarithm of a sum in the result's order. -/
theorem log_flat (x y : FVec Ideal S2x8x4096 .f32) (b : Fin 2) (t : Fin 4096) (n : Fin 8) :
    shapeCast S8192x8 (transpose S2x4096x8 [0, 2, 1]
      (shapeCast S2x8x4096 (addf (broadcastInDim S2x8x4096x1 ![0, 1, 2] bcast_S2x8x4096_S2x8x4096x1_0_1_2 x)
        (Host.log (broadcastInDim S2x8x4096x1 ![0, 1, 2] bcast_S2x8x4096_S2x8x4096x1_0_1_2 y)))
        shapeCasts_S2x8x4096x1_S2x8x4096) transposes_S2x8x4096_S2x4096x8_0_2_1) shapeCasts_S2x4096x8_S8192x8
      (ix2 (⟨4096 * b.val + t.val, by omega⟩ : Fin 8192) n) = x (ix3 b n t) + Ideal.log (y (ix3 b n t)) := by
  have e0 : (4096 * b.val + t.val) / 4096 = b.val := by omega
  have e1 : (4096 * b.val + t.val) % 4096 = t.val := by omega
  pointwise []

theorem ref_log (b : Fin 2) (t : Fin 4096) (n : Fin 8) : val_main_v36 (F := Ideal) x0 x1 x3 (ix2 (⟨4096 * b.val + t.val, by omega⟩ : Fin 8192) n)
    = lse (scOf x0 x1 x3) (mxOf x0 x1 x3) (ix3 b t n) := by
  rw [lse_at, ← ref_den, ← ref_max]
  unfold val_main_v36 val_main_v29 val_main_v28 val_main_v27 val_main_v26 val_main_v25 val_main_v20
  exact log_flat _ _ b t n

end Cert.Proof.Ffw
end
-- ==== Proof.FfwHead.lean ====
/-
  At finite arguments the attention's forward call and the plain attention leave the same two arrays.
-/
module

public import proofs.«01_k».proof.Proof.FfwIn
public import proofs.«01_k».proof.Proof.FfwRef

@[expose] public section

set_option maxRecDepth 16384

noncomputable section

namespace Cert.Proof.Ffw

open Idealize.ShloMosaic Idealize.ShloMosaic.TcCoe Idealize.SL.Sem
open Cert.FfwIdeal Cert.FfwIdeal.Gen
open Cert.Proof.Alg Cert.Proof.Softmax
open Cert.Proof.Fox

/-- The column that holds lane `d` of head `n` of an array with 64 lanes to a head. -/
abbrev ocol (n : Fin 8) (d : Fin 64) : Fin 512 := ⟨64 * n.val + d.val, by omega⟩

section
variable {m : (ℓ : Loc nD τ sig) → Buf (Elt Ideal) ℓ} {c : Dev nD} {b : Fin 2} {n : Fin 8} {q k v : Fin 4096 → Fin 64 → ℝ} {C M : Fin 4096 → ℝ}
  (H : Rows (a0 m c) (a1 m c) (a2 m c) (a3 m c) b n q k v C M) (t s : Fin 4096)
include H

/-- The contraction of a query's lanes with a key's. -/
theorem keys : ∑ i, cut (qa m c) b n t i * cut (ka m c) b n s i = ((Head.sc q k C t s / Real.log 2 : ℝ) : EReal) := by
  have eC := H.over_gates
  have e1 := sum_neg_parts (over (gates m c)) b s n ⟨_, eC s⟩
  have e2 := sum_parts (over (gates m c)) b t n ⟨_, eC t⟩
  have eq (d) : mulf (F := Ideal) (φ := .f32) (a0 m c) (broadcastInDim S2x4096x8x64 ![] bcast_S_S2x4096x8x64 (Host.divf (constant (F := Ideal) S_ .f32 0x3E000000#32) ln2)) (ix4 b t n d)
      = ((q t d * (1 / 8 / Real.log 2) : ℝ) : EReal) := by
    show a0 m c (ix4 b t n d) * _ = _
    rw [H.q, EReal.coe_mul]
    exact congrArg (fun x => _ * x) (scale _)
  rw [show qa m c = _ from v27_eq m c, show ka m c = _ from v34_eq m c, lanesQ_eq, dotK]
  simp only [mul_one, one_mul] at e1 e2
  simp only [fill3_at, nil1_at, zero3_at, mul_one, one_mul, zero_mul, Finset.sum_const_zero, add_zero, zero_add, eq, H.k]
  rw [e1, e2, eC, eC]
  simp only [← EReal.coe_mul, ← coe_sum, ← EReal.coe_neg, ← EReal.coe_add]
  congr 1
  unfold Head.sc
  rw [Finset.sum_mul, add_div, Finset.sum_div]
  refine congrArg₂ (· + ·) (Finset.sum_congr rfl fun d _ => by ring) (by ring)

theorem one_at : cut (va m c) b n s 64 = 1 := by
  rw [show va m c = _ from v44_eq m c, yV, fill1_at]
theorem val_at (d : Fin 64) : cut (va m c) b n s ⟨d.val, by omega⟩ = (v s d : EReal) := by
  rw [show va m c = _ from v44_eq m c, loV, H.v]
end

/-- Every row of every head belongs to one point. -/
theorem point_of (b : Fin 2) (n : Fin 8) (t : Fin 4096) : ∃ (p : Fin cfg0.N) (h : Fin 2) (r : Fin 1024), b = sq p ∧ n = hh p h ∧ t = row (p.val % 4) r := by
  have hN := N_0
  refine ⟨⟨16 * b.val + 4 * (n.val / 2) + t.val / 1024, lt_of_lt_of_eq (by omega) hN.symm⟩, ⟨n.val % 2, by omega⟩, ⟨t.val % 1024, by omega⟩, Fin.ext ?_, Fin.ext ?_, Fin.ext ?_⟩
  · show b.val = (16 * b.val + 4 * (n.val / 2) + t.val / 1024) / 16
    omega
  · show n.val = 2 * ((16 * b.val + 4 * (n.val / 2) + t.val / 1024) / 4 % 4) + n.val % 2
    omega
  · rw [row_val (by omega)]
    show t.val = 1024 * ((16 * b.val + 4 * (n.val / 2) + t.val / 1024) % 4) + t.val % 1024
    omega

section
variable {m : (ℓ : Loc nD τ sig) → Buf (Elt Ideal) ℓ} {c : Dev nD} {b : Fin 2} {n : Fin 8} {q k v : Fin 4096 → Fin 64 → ℝ} {C M : Fin 4096 → ℝ}
  (H : Rows (a0 m c) (a1 m c) (a2 m c) (a3 m c) b n q k v C M) (t : Fin 4096)
include H

theorem out_at (d : Fin 64) : oF m c (ix2 (prow b t) (ocol n d)) = (((∑ s, ex q k C t s * v s d) / tot q k C t : ℝ) : EReal) := by
  obtain ⟨p, h, r, rfl, rfl, rfl⟩ := point_of b n t
  have g := head_out m c p h r _ (keys H (row (p.val % 4) r)) (one_at H) ⟨d.val, by omega⟩ _ (fun s => val_at H s d)
  simp only [two_div] at g
  have e : oF m c (ix2 (prow (sq p) (row (p.val % 4) r)) (ocol (hh p h) d))
      = resO (qbOf p) (xq m c p) (xk m c p) (xv m c p) (ix2 r (⟨64 * h.val + d.val, by omega⟩ : Fin 128)) :=
    (congrArg (fun x => oF m c (ix2 (prow (sq p) (row (p.val % 4) r)) x)) (Fin.ext (by show 64 * (2 * (p.val / 4 % 4) + h.val) + d.val = 128 * (p.val / 4 % 4) + (64 * h.val + d.val); omega))).trans
      (point3 m c p r ⟨64 * h.val + d.val, by omega⟩).symm
  rw [e]
  unfold resO
  rw [outO_at]
  refine Eq.trans ?_ g
  match h with
  | 0 => exact (if_pos (by show 64 * 0 + d.val < 64; omega)).trans (congrArg (fun x => k0_pay38 (F := Ideal) _ (ix2 r x)) (Fin.ext (by show 64 * 0 + d.val = d.val; omega)))
  | 1 => exact (if_neg (by show ¬64 * 1 + d.val < 64; omega)).trans (congrArg (fun x => k0_pay38 (F := Ideal) _ (ix2 r x)) (Fin.ext (by show 64 * 1 + d.val - 64 = d.val; omega)))

theorem log_at : ∑ j : Fin 3, qlF m c (ix2 (prow b t) (pcol n ⟨71 + j.val, by omega⟩)) = ((-(Real.log (tot q k C t) / Real.log 2) : ℝ) : EReal) := by
  obtain ⟨p, h, r, rfl, rfl, rfl⟩ := point_of b n t
  have g := head_log m c p h r _ (keys H (row (p.val % 4) r)) (one_at H)
  simp only [two_div] at g
  have e (l : Fin 128) : qlF m c (ix2 (prow (sq p) (row (p.val % 4) r)) (pcol (hh p h) l))
      = outQ (F := Ideal) (headOf (F := Ideal) (xq m c p) h) (finM (qbOf p) (xq m c p) (xk m c p) (xv m c p) h) (finA (qbOf p) (xq m c p) (xk m c p) (xv m c p) h) (ix2 r l) := by
    refine (congrArg (fun x => qlF m c (ix2 (prow (sq p) (row (p.val % 4) r)) x)) (Fin.ext (by show 128 * (2 * (p.val / 4 % 4) + h.val) + l.val = 256 * (p.val / 4 % 4) + (128 * h.val + l.val); omega))).trans
      ((point4 m c p r (lane h l)).symm.trans ?_)
    show outQ (F := Ideal) (headOf (F := Ideal) (xq m c p) (hd (lane h l))) (finM (qbOf p) (xq m c p) (xk m c p) (xv m c p) (hd (lane h l))) (finA (qbOf p) (xq m c p) (xk m c p) (xv m c p) (hd (lane h l))) (ix2 r (ln (lane h l))) = _
    rw [hd_lane, ln_lane]
  rw [Fin.sum_univ_three, e, e, e]
  refine (congrArg₂ (· + ·) (congrArg₂ (· + ·) (outQ_71 _ _ _ _) (outQ_72 _ _ _ _)) (outQ_73 _ _ _ _)).trans ?_
  rw [g, ← EReal.coe_sub, sub_self, EReal.coe_zero, sub_zero, add_zero, add_zero]
  rfl
end

section
open Cert.FfwReferenceIdeal.Read
variable (m : (ℓ : Loc nD τ sig) → Buf (Elt Ideal) ℓ) (c : Dev nD)
  (fin : ∀ b n, ∃ q k v C M, Rows (a0 m c) (a1 m c) (a2 m c) (a3 m c) b n q k v C M)
include fin

theorem same_out : oF m c = val_main_v35 (F := Ideal) (a0 m c) (a1 m c) (a2 m c) (a3 m c) := by
  funext i
  obtain ⟨b, t, n, d, rfl⟩ : ∃ b t n d, i = ix2 (prow b t) (ocol n d) :=
    ⟨bOf (i 0), tOf (i 0), ⟨(i 1).val / 64, by have : (i 1).val < 512 := (i 1).isLt; omega⟩, ⟨(i 1).val % 64, by omega⟩, by
      funext a
      fin_cases a
      · exact Fin.ext (by show (i 0).val = 4096 * ((i 0).val / 4096) + (i 0).val % 4096; omega)
      · exact Fin.ext (by show (i 1).val = 64 * ((i 1).val / 64) + (i 1).val % 64; omega)⟩
  obtain ⟨q, k, v, C, M, H⟩ := fin b n
  rw [out_at H, ref_out]
  simp only [H.probs, H.v, ← EReal.coe_mul, ← coe_sum]
  rw [Softmax.out_eq]

theorem same_log : Pipeline.afterTail₀ cfgs (dats m) 0 (V0 m) [hostOps1] c main_v52 = val_main_v36 (F := Ideal) (a0 m c) (a1 m c) (a3 m c) := by
  funext i
  obtain ⟨b, t, n, rfl⟩ : ∃ b t n, i = ix2 (prow b t) n :=
    ⟨bOf (i 0), tOf (i 0), i 1, by
      funext a
      fin_cases a
      · exact Fin.ext (by show (i 0).val = 4096 * ((i 0).val / 4096) + (i 0).val % 4096; omega)
      · rfl⟩
  obtain ⟨q, k, v, C, M, H⟩ := fin b n
  have hl := Head.log2_pos.ne'
  refine (res_log m c (prow b t) n).trans ?_
  rw [log_at H, ref_log, H.logs, Softmax.lse_eq, Head.c_log2, ← EReal.coe_neg, ← EReal.coe_mul]
  congr 1
  field_simp
end

end Cert.Proof.Ffw
end
-- ==== Proof.FfwClaims.lean ====
/-
  The claims about the attention's forward call.
-/
module

public import proofs.«01_k».proof.Defs
public import proofs.«01_k».proof.Proof.Gen.FfwReferenceIdeal.Run
public import proofs.«01_k».proof.Proof.Gen.Pre_finite_ffw
public import proofs.«01_k».proof.Proof.Gen.Ffw
public import proofs.«01_k».proof.Proof.FfwHead

@[expose] public section

set_option maxRecDepth 16384

noncomputable section

namespace Cert.Proof.Ffw

open Idealize.ShloMosaic Idealize.ShloMosaic.TcCoe Idealize.SL.Sem
open Cert.Proof.Alg
open Cert.FfwIdeal Cert.FfwIdeal.Gen

attribute [local instance] Cert.Ffw.Gen.facts Cert.FfwIdeal.Gen.facts Cert.FfwReferenceIdeal.Gen.facts Cert.Pre_finite_ffw.Gen.facts

/-- A named constant over the words is its word. -/
local instance words : Named Bits := ⟨fun _ _ {φ} b => Scalar.ofBits φ b⟩

/-- The precondition, read at every entry of the four arguments. -/
theorem finite (m : (ℓ : Loc nD τ sig) → Buf (Elt Ideal) ℓ) (h : Cert.Pre_FfwIdeal_finite_ffw m) (c : Dev nD) (b : Fin 2) (n : Fin 8) :
    ∃ q k v C M, Fox.Rows (a0 m c) (a1 m c) (a2 m c) (a3 m c) b n q k v C M := by
  have e := h c
  have e := congrFun e default
  have e0 : IntOp.andi _ _ = 1#1 := e
  obtain ⟨e0, h3⟩ := and_split e0
  obtain ⟨e0, h2⟩ := and_split e0
  obtain ⟨h0, h1⟩ := and_split e0
  exact Fox.rows b n (real_of_all (fun _ => c_inf) h0) (real_of_all (fun _ => c_inf) h1) (real_of_all (fun _ => c_inf) h2) (real_of_all (fun _ => c_inf) h3)

/-- The program as printed has the same text. -/
theorem frame_p : Cert.quiescent_Ffw := fun m ρ _ => by
  refine Eq.mp ?_ (keeps (F := Bits) m ρ)
  sl_kernel_rfl

theorem frame_pi : Cert.quiescent_FfwIdeal := fun m ρ _ => keeps (F := Ideal) m ρ

theorem frame_pi_pre : Cert.quiescent_FfwIdeal_pre_finite_ffw := fun m ρ _ => keeps (F := Ideal) m ρ

theorem frame_ri : Cert.quiescent_FfwReferenceIdeal := fun m ρ _ =>
  (θ_run Cert.FfwReferenceIdeal.defs _ _).mono (fun r h => ⟨fun c => (h c).2.2, sem_eq_zero_of_no_sems (by decide) r.2⟩)
    (Cert.FfwReferenceIdeal.Value.run (F := Ideal) m ρ)

theorem frame_ri_pre : Cert.quiescent_FfwReferenceIdeal_pre_finite_ffw := fun m ρ _ => frame_ri m ρ trivial

theorem preserves : Cert.preserves_Ffw_FfwIdeal :=
  IdealRules.named_const.statement Cert.FfwIdeal.κ "log2e" .f32 0x3FB8AA3B#32 (((Real.log 2)⁻¹ : ℝ) : EReal) rfl

theorem algebraic : Cert.algebraic_FfwIdeal_FfwReferenceIdeal_pre_finite_ffw := by
  intro m g m' g' hp ha
  have hr := Cert.FfwReferenceIdeal.Value.run (F := Ideal) m' g'
  have fin := finite m hp
  refine ⟨fun c => oF m c, fun c => Pipeline.afterTail₀ cfgs (dats m) 0 (V0 m) [hostOps1] c main_v52,
    (θ_run defs _ _).mono (fun r h c => ?_) (θ_run_and (ends m g) (keeps m g)), (θ_run Cert.FfwReferenceIdeal.defs _ _).mono (fun r h c => ?_) hr⟩
  · exact ⟨((h.1.1 c).1 3).trans (final3 m c), (h.1.1 c).2 main_v52 (Pipeline.mem_restRefs_of main_v52 (by decide) (by decide)), h.2.1 c⟩
  · obtain ⟨q0, q1, qs⟩ := h c
    obtain ⟨b0, b1, b2, b3⟩ := ha c
    rw [Cert.FfwReferenceIdeal.Read.val_main_v35_eq, b0, b1, b2, b3] at q0
    rw [Cert.FfwReferenceIdeal.Read.val_main_v36_eq, b0, b1, b3] at q1
    exact ⟨q0.trans (same_out m c (fin c)).symm, q1.trans (same_log m c (fin c)).symm, qs⟩

end Cert.Proof.Ffw
end
-- ==== Proof.XnClaims.lean ====
/-
  The first norm: what each tile stores is the reference's norm at the tile's rows.
-/
module

public import proofs.«01_k».proof.Defs
public import proofs.«01_k».proof.Proof.Gen.Xn.Frame
public import proofs.«01_k».proof.Proof.Gen.XnIdeal.Value
public import proofs.«01_k».proof.Proof.Gen.XnReferenceIdeal.Run
public import proofs.«01_k».proof.Proof.Gen.XnReferenceIdeal.Read
public import Idealize.ShloMosaic.Lib.Pipeline.ValueKit
public import Idealize.ShloMosaic.Lib.Pointwise
public import Idealize.ShloMosaic.Lib.Claim

@[expose] public section

set_option maxRecDepth 16384

noncomputable section

namespace Cert.Proof.Xn

open Idealize.ShloMosaic Idealize.ShloMosaic.TcCoe Idealize.SL.Sem
open Idealize.ShloMosaic.Pipeline (Dat)
open Cert.XnIdeal Cert.XnIdeal.Gen

attribute [local instance] Cert.Xn.Gen.facts Cert.XnIdeal.Gen.facts Cert.XnReferenceIdeal.Gen.facts

section Value

variable (m : (ℓ : Loc nD τ sig) → Buf (Elt Ideal) ℓ)

theorem idx : ∀ t : Fin cfg0.N, win0_0.index t = ![t.val, 0] ∧ win0_1.index t = ![0, 0] ∧ win0_2.index t = ![t.val, 0] :=
  (by decide +kernel : ∀ t : Fin grid0.N, _)

abbrev x0 (c : Dev nD) : FVec Ideal S2x4096x1024 .f32 := m (c.tc.loc main_arg0)
abbrev x1 (c : Dev nD) : FVec Ideal S1024 .f32 := m (c.tc.loc main_arg1)

theorem lt_N (t : Fin cfg0.N) : t.val < 8 := lt_of_lt_of_eq t.isLt N_0
abbrev row (t : Fin cfg0.N) (p : Fin 1024) : Fin 8192 := ⟨t.val * 1024 + p.val, by have := lt_N t; omega⟩
abbrev rb (r : Fin 8192) : Fin 2 := ⟨r.val / 4096, by omega⟩
abbrev rs (r : Fin 8192) : Fin 4096 := ⟨r.val % 4096, by omega⟩

theorem v0_at (c : Dev nD) (r : Fin 8192) (d : Fin 1024) : (V m c main_v0 : FVec Ideal S8192x1024 .f32) (ix2 r d) = x0 m c (ix3 (rb r) (rs r) d) := by
  unfold V
  simp only [hostOps0]
  entry_read
  pointwise []

theorem v1_at (c : Dev nD) (d : Fin 1024) : (V m c main_v1 : FVec Ideal S1x1024 .f32) (ix2 0 d) = x1 m c (ix1 d) := by
  unfold V
  simp only [hostOps0]
  entry_read
  pointwise []

theorem in0 (c : Dev nD) (t : Fin cfg0.N) (p d : Fin 1024) : iblk m c 0 t (ix2 p d) = x0 m c (ix3 (rb (row t p)) (rs (row t p)) d) := by
  rw [← v0_at]
  blk_ext [iblk, idx t]

theorem in1 (c : Dev nD) (t : Fin cfg0.N) (d : Fin 1024) : iblk m c 1 t (ix2 0 d) = x1 m c (ix1 d) := by
  rw [← v1_at]
  blk_ext [iblk, idx t]

theorem pay_at (v : FVec Ideal S1024x1024 .f32) (w : FVec Ideal S1x1024 .f32) (p d : Fin 1024) :
    k0_pay1 (F := Ideal) v w (ix2 p d) = v (ix2 p d) * Ideal.rsqrt (Ideal.div (∑ x : Fin 1024, v (ix2 p x) * v (ix2 p x)) (Ideal.ofBits .f32 1149239296#32)
        + Ideal.ofBits .f32 897988541#32) * w (ix2 0 d) := by
  pointwise [k0_pay1]

open Cert.XnReferenceIdeal.Read in
theorem ref_at (a : FVec Ideal S2x4096x1024 .f32) (g : FVec Ideal S1024 .f32) (r : Fin 8192) (d : Fin 1024) :
    (val_main_v14 (F := Ideal) a g : FVec Ideal S8192x1024 .bf16) (ix2 r d)
      = a (ix3 (rb r) (rs r) d) * Ideal.rsqrt (Ideal.div (∑ x : Fin 1024, a (ix3 (rb r) (rs r) x) * a (ix3 (rb r) (rs r) x)) (Ideal.ofBits .f32 1149239296#32)
        + Ideal.ofBits .f32 897988541#32) * g (ix1 d) := by
  pointwise [val_main_v14, val_main_v13, val_main_v12, val_main_v11, val_main_v10, val_main_v9, val_main_v8, val_main_v7, val_main_v6, val_main_v5,
    val_main_v4, val_main_v3, val_main_v2, val_main_v1, val_main_v0, val_main_cst, val_main_cst_0, val_main_cst_1]

theorem out_eq (c : Dev nD) (t : Fin cfg0.N) : out0_2 (iblk m c 0 t) (iblk m c 1 t) = k0_pay1 (F := Ideal) (iblk m c 0 t) (iblk m c 1 t) := by
  frame_out

theorem point (c : Dev nD) (t : Fin cfg0.N) (p d : Fin 1024) :
    out0_2 (iblk m c 0 t) (iblk m c 1 t) (ix2 p d) = Cert.XnReferenceIdeal.Read.val_main_v14 (F := Ideal) (x0 m c) (x1 m c) (ix2 (row t p) d) := by
  rw [out_eq, pay_at, ref_at]
  simp only [in0, in1]

theorem final (c : Dev nD) : (dats m 0 c).arrAt 2 cfg0.N = Cert.XnReferenceIdeal.Read.val_main_v14 (F := Ideal) (x0 m c) (x1 m c) := by
  refine (dats m 0 c).arrAt_eq_of_covers 2 _ (by decide +kernel) fun t _ y => ?_
  blk_simp
  rw [after0_2]
  have e : y = ix2 (y 0) (y 1) := by funext a; fin_cases a <;> rfl
  rw [e]
  refine (point m c t (y 0) (y 1)).trans ?_
  blk_ext [idx t]

end Value

theorem frame_p : Cert.quiescent_Xn := fun m ρ _ => Cert.Xn.Gen.frame m ρ

theorem frame_pi : Cert.quiescent_XnIdeal := fun m ρ _ => Cert.XnIdeal.Gen.frame m ρ

/-- The reference's run, with the counters because it declares no semaphore. -/
theorem frame_ri : Cert.quiescent_XnReferenceIdeal := fun m ρ _ =>
  (θ_run Cert.XnReferenceIdeal.defs _ _).mono (fun r h => ⟨fun c => (h c).2, sem_eq_zero_of_no_sems (by decide) r.2⟩)
    (Cert.XnReferenceIdeal.Value.run (F := Ideal) m ρ)

theorem preserves : Cert.preserves_Xn_XnIdeal := trivial

theorem algebraic : Cert.algebraic_XnIdeal_XnReferenceIdeal := by
  intro m g m' g' _ ha
  have hk := Cert.XnIdeal.Value.run_blocks (F := Ideal) m g
  have hr := Cert.XnReferenceIdeal.Value.run (F := Ideal) m' g'
  refine ⟨_, hk, (θ_run Cert.XnReferenceIdeal.defs _ _).mono (fun r h c => ?_) hr⟩
  obtain ⟨q0, qs⟩ := h c
  obtain ⟨b0, b1⟩ := ha c
  rw [Cert.XnReferenceIdeal.Read.val_main_v14_eq, b0, b1] at q0
  exact ⟨q0.trans (final m c).symm, qs⟩

end Cert.Proof.Xn
-- ==== Proof.MfRef.lean ====
/-
  The reference of the MLP's forward call, read at an index: the residual stream, its norm, the squared ReLU, the gradient
  at the output and the loss.
-/
module

public import proofs.«01_k».proof.Proof.Gen.MfReferenceIdeal.Read
public import Idealize.ShloMosaic.Lib.Pointwise
public import Idealize.ShloMosaic.PureOps.Ideal.Laws
public import proofs.«01_k».proof.Proof.Alg

@[expose] public section

set_option maxRecDepth 16384

noncomputable section

namespace Cert.Proof.MfR

open Idealize.ShloMosaic Idealize.ShloMosaic.TcCoe Idealize.SL.Sem
open Cert.Proof.Alg
open Cert.MfReferenceIdeal Cert.MfReferenceIdeal.Gen Cert.MfReferenceIdeal.Read

variable (x0 : FVec Ideal S2x4096x1024 .f32) (x1 x2 : FVec Ideal S2x4096x512 .f32) (x3 : FVec Ideal S1024x1024 .f32)
  (x4 : FVec Ideal S1024 .f32) (x5 : FVec Ideal S1024x4096 .f32) (x6 : FVec Ideal S4096x1024 .f32) (x7 : FVec Ideal S2x4096x1024 .f32)

/-- A row of the flattened arrays: its sequence and its place there. -/
abbrev rb (r : Fin 8192) : Fin 2 := ⟨r.val / 4096, by omega⟩
abbrev rs (r : Fin 8192) : Fin 4096 := ⟨r.val % 4096, by omega⟩

/-- The residual stream, the norm's row and the squared ReLU of the reference. -/
abbrev res : FVec Ideal S2x4096x1024 .f32 := val_main_v2 (F := Ideal) x0 x1 x2 x3
abbrev nrm : FVec Ideal S2x4096x1024 .f32 := val_main_v15 (F := Ideal) x0 x1 x2 x3 x4
abbrev sqr : FVec Ideal S2x4096x4096 .f32 := val_main_v18 (F := Ideal) x0 x1 x2 x3 x4 x5
abbrev err : FVec Ideal S2x4096x1024 .f32 := val_main_v21 (F := Ideal) x0 x1 x2 x3 x4 x5 x6 x7

theorem res_at (b : Fin 2) (s : Fin 4096) (d : Fin 1024) :
    res x0 x1 x2 x3 (ix3 b s d) = x0 (ix3 b s d) + ((∑ e : Fin 512, x1 (ix3 b s e) * x3 (ix2 ⟨e.val, by omega⟩ d))
      + ∑ e : Fin 512, x2 (ix3 b s e) * x3 (ix2 ⟨512 + e.val, by omega⟩ d)) := by
  pointwise [val_main_v2, val_main_v1, val_main_v0]

theorem nrm_at (b : Fin 2) (s : Fin 4096) (d : Fin 1024) :
    nrm x0 x1 x2 x3 x4 (ix3 b s d) = res x0 x1 x2 x3 (ix3 b s d)
      * Ideal.rsqrt (Ideal.div (∑ x, res x0 x1 x2 x3 (ix3 b s x) * res x0 x1 x2 x3 (ix3 b s x)) (Ideal.ofBits .f32 1149239296#32)
          + Ideal.ofBits .f32 897988541#32) * x4 (ix1 d) := by
  pointwise [nrm, val_main_v15, val_main_v14, val_main_v13, val_main_v12, val_main_v11, val_main_v10, val_main_v9, val_main_v8, val_main_v7, val_main_v6,
    val_main_v5, val_main_v4, val_main_v3, val_main_cst, val_main_cst_0, val_main_cst_1]

theorem sqr_at (b : Fin 2) (s f : Fin 4096) :
    sqr x0 x1 x2 x3 x4 x5 (ix3 b s f) = max (∑ d : Fin 1024, nrm x0 x1 x2 x3 x4 (ix3 b s d) * x5 (ix2 d f)) 0
      * max (∑ d : Fin 1024, nrm x0 x1 x2 x3 x4 (ix3 b s d) * x5 (ix2 d f)) 0 := by
  pointwise [sqr, val_main_v18, val_main_v17, val_main_v16, val_main_call0_v0, val_main_call0_cst]

theorem err_at (b : Fin 2) (s : Fin 4096) (d : Fin 1024) :
    err x0 x1 x2 x3 x4 x5 x6 x7 (ix3 b s d) = res x0 x1 x2 x3 (ix3 b s d) + (∑ f : Fin 4096, sqr x0 x1 x2 x3 x4 x5 (ix3 b s f) * x6 (ix2 f d))
      - x7 (ix3 b s d) := by
  pointwise [err, val_main_v21, val_main_v20, val_main_v19]

/-! ### The results -/

theorem r0_at (r : Fin 8192) (d : Fin 1024) :
    (val_main_v37 (F := Ideal) x0 x1 x2 x3 : FVec Ideal S8192x1024 .f32) (ix2 r d) = res x0 x1 x2 x3 (ix3 (rb r) (rs r) d) := by
  pointwise [val_main_v37]

theorem nrm2 : val_main_v50 (F := Ideal) x0 x1 x2 x3 x4 = nrm x0 x1 x2 x3 x4 := rfl

theorem r1_at (r : Fin 8192) (d : Fin 1024) :
    (val_main_v52 (F := Ideal) x0 x1 x2 x3 x4 : FVec Ideal S8192x1024 .bf16) (ix2 r d) = nrm x0 x1 x2 x3 x4 (ix3 (rb r) (rs r) d) := by
  rw [← nrm2]
  pointwise [val_main_v52, val_main_v51]

theorem r2_at (r : Fin 8192) (f : Fin 4096) :
    (val_main_v54 (F := Ideal) x0 x1 x2 x3 x4 x5 : FVec Ideal S8192x4096 .bf16) (ix2 r f) = sqr x0 x1 x2 x3 x4 x5 (ix3 (rb r) (rs r) f) := by
  pointwise [val_main_v54, val_main_v53]

theorem c_half : Ideal.ofBits .f32 1056964608#32 = ((1 / 2 : ℝ) : EReal) := by
  simp [Ideal.ofBits, Ideal.ieee, -EReal.coe_mul]; norm_num

theorem c_one : Ideal.ofBits .f32 1065353216#32 = ((1 : ℝ) : EReal) := by
  simp [Ideal.ofBits, Ideal.ieee, -EReal.coe_mul]; norm_num

theorem c_inv : Ideal.ofBits .f32 981467136#32 = ((1 / 1024 : ℝ) : EReal) := by
  simp [Ideal.ofBits, Ideal.ieee, -EReal.coe_mul]; norm_num

theorem div_1024 (x : EReal) : Ideal.div x (Ideal.ofBits .f32 1149239296#32) = x * Ideal.ofBits .f32 981467136#32 := by
  rw [c_1024, c_inv, Ideal.div_coe (by norm_num)]

theorem r3_at (r : Fin 8192) (d : Fin 1024) :
    (val_main_v36 (F := Ideal) x0 x1 x2 x3 x4 x5 x6 x7 : FVec Ideal S8192x1024 .f32) (ix2 r d)
      = err x0 x1 x2 x3 x4 x5 x6 x7 (ix3 (rb r) (rs r) d) * Ideal.ofBits .f32 981467136#32 := by
  have e : (val_main_v36 (F := Ideal) x0 x1 x2 x3 x4 x5 x6 x7 : FVec Ideal S8192x1024 .f32) (ix2 r d)
      = Ideal.div (Ideal.ofBits .f32 1056964608#32 * Ideal.ofBits .f32 1065353216#32) (Ideal.ofBits .f32 1149239296#32)
        * (Ideal.ofBits .f32 1073741824#32 * err x0 x1 x2 x3 x4 x5 x6 x7 (ix3 (rb r) (rs r) d)) := by
    pointwise [val_main_v36, val_main_v35, val_main_v34, val_main_v33, val_main_v32, val_main_v31, val_main_v30, val_main_v24, val_main_v23,
      val_main_cst_2, val_main_cst_7, val_main_cst_8, val_main_cst_9]
  rw [e, ← mul_assoc, mul_comm _ (Ideal.ofBits .f32 981467136#32), c_half, c_one, c_two, c_inv, c_1024, ← EReal.coe_mul, div_ne (by norm_num), ← EReal.coe_mul]
  norm_num

theorem r4_at (r : Fin 8192) (d : Fin 1024) :
    (val_main_v55 (F := Ideal) x0 x1 x2 x3 x4 x5 x6 x7 : FVec Ideal S8192x1024 .bf16) (ix2 r d)
      = err x0 x1 x2 x3 x4 x5 x6 x7 (ix3 (rb r) (rs r) d) * Ideal.ofBits .f32 981467136#32 := by
  rw [← r3_at]
  pointwise [val_main_v55]

theorem r5_at (i : Fin 8) (j : Fin 128) :
    (val_main_v56 (F := Ideal) x0 x1 x2 x3 x4 x5 x6 x7 : FVec Ideal S8x128 .f32) (ix2 i j)
      = Ideal.ofBits .f32 1056964608#32 * ∑ b : Fin 2, ∑ s : Fin 4096,
          (∑ d : Fin 1024, err x0 x1 x2 x3 x4 x5 x6 x7 (ix3 b s d) * err x0 x1 x2 x3 x4 x5 x6 x7 (ix3 b s d)) * Ideal.ofBits .f32 981467136#32 := by
  simp only [← div_1024]
  pointwise [val_main_v56, val_main_v29, val_main_v28, val_main_v27, val_main_v26, val_main_v25, val_main_v22, val_main_cst_3, val_main_cst_4, val_main_cst_5, val_main_cst_6]

end Cert.Proof.MfR
-- ==== Proof.MfIn.lean ====
/-
  What each block of the MLP's forward call reads: the arguments at the tile's row, and the weights.
-/
module

public import proofs.«01_k».proof.Proof.Gen.MfIdeal.Frame
public import proofs.«01_k».proof.Proof.MfRef
public import Idealize.ShloMosaic.Lib.Pipeline.ValueKit
public import Idealize.ShloMosaic.Lib.Pointwise
public import Idealize.ShloMosaic.Lib.Claim

@[expose] public section

set_option maxRecDepth 16384

noncomputable section

namespace Cert.Proof.Mf

open Idealize.ShloMosaic Idealize.ShloMosaic.TcCoe Idealize.SL.Sem
open Idealize.ShloMosaic.Pipeline (Dat)
open Cert.Proof.MfR (rb rs)
open Cert.MfIdeal Cert.MfIdeal.Gen

variable (m : (ℓ : Loc nD τ sig) → Buf (Elt Ideal) ℓ)

theorem idx : ∀ t : Fin cfg0.N, (win0_0.index t = ![t.val, 0] ∧ win0_1.index t = ![t.val, 0] ∧ win0_2.index t = ![t.val, 0] ∧ win0_3.index t = ![t.val, 0] ∧ win0_4.index t = ![0, 0] ∧ win0_5.index t = ![0, 0] ∧ win0_6.index t = ![0, 0, 0] ∧ win0_7.index t = ![0, 0])
      ∧ win0_8.index t = ![t.val, 0] ∧ win0_9.index t = ![t.val, 0] ∧ win0_10.index t = ![t.val, 0] ∧ win0_11.index t = ![t.val, 0] ∧ win0_12.index t = ![t.val, 0] ∧ win0_13.index t = ![0, 0] :=
  (by decide +kernel : ∀ t : Fin grid0.N, _)

abbrev x0 (c : Dev nD) : FVec Ideal S2x4096x1024 .f32 := m (c.tc.loc main_arg0)
abbrev x1 (c : Dev nD) : FVec Ideal S2x4096x512 .f32 := m (c.tc.loc main_arg1)
abbrev x2 (c : Dev nD) : FVec Ideal S2x4096x512 .f32 := m (c.tc.loc main_arg2)
abbrev x3 (c : Dev nD) : FVec Ideal S1024x1024 .f32 := m (c.tc.loc main_arg3)
abbrev x4 (c : Dev nD) : FVec Ideal S1024 .f32 := m (c.tc.loc main_arg4)
abbrev x5 (c : Dev nD) : FVec Ideal S1024x4096 .f32 := m (c.tc.loc main_arg5)
abbrev x6 (c : Dev nD) : FVec Ideal S4096x1024 .f32 := m (c.tc.loc main_arg6)
abbrev x7 (c : Dev nD) : FVec Ideal S2x4096x1024 .f32 := m (c.tc.loc main_arg7)

theorem lt_N (t : Fin cfg0.N) : t.val < 16 := lt_of_lt_of_eq t.isLt N_0
abbrev row (t : Fin cfg0.N) (p : Fin 512) : Fin 8192 := ⟨t.val * 512 + p.val, by have := lt_N t; omega⟩

theorem v0_at (c : Dev nD) (r : Fin 8192) (d : Fin 1024) : (V m c main_v0 : FVec Ideal S8192x1024 .f32) (ix2 r d) = x0 m c (ix3 (rb r) (rs r) d) := by
  unfold V
  simp only [hostOps0]
  entry_read
  pointwise []

theorem v2_at (c : Dev nD) (r : Fin 8192) (e : Fin 512) : (V m c main_v2 : FVec Ideal S8192x512 .bf16) (ix2 r e) = x1 m c (ix3 (rb r) (rs r) e) := by
  unfold V
  simp only [hostOps0]
  entry_read
  pointwise []

theorem v4_at (c : Dev nD) (r : Fin 8192) (e : Fin 512) : (V m c main_v4 : FVec Ideal S8192x512 .bf16) (ix2 r e) = x2 m c (ix3 (rb r) (rs r) e) := by
  unfold V
  simp only [hostOps0]
  entry_read
  pointwise []

theorem v5_at (c : Dev nD) (r : Fin 8192) (d : Fin 1024) : (V m c main_v5 : FVec Ideal S8192x1024 .f32) (ix2 r d) = x7 m c (ix3 (rb r) (rs r) d) := by
  unfold V
  simp only [hostOps0]
  entry_read
  pointwise []

theorem v6_at (c : Dev nD) (e d : Fin 1024) : (V m c main_v6 : FVec Ideal S1024x1024 .bf16) (ix2 e d) = x3 m c (ix2 e d) := by
  unfold V
  simp only [hostOps0]
  entry_read
  pointwise []

theorem v7_at (c : Dev nD) (d : Fin 1024) : (V m c main_v7 : FVec Ideal S1x1024 .f32) (ix2 0 d) = x4 m c (ix1 d) := by
  unfold V
  simp only [hostOps0]
  entry_read
  pointwise []

theorem v10_at (c : Dev nD) (n : Fin 8) (d : Fin 1024) (f : Fin 512) : (V m c main_v10 : FVec Ideal S8x1024x512 .bf16) (ix3 n d f) = x5 m c (ix2 d ⟨n.val * 512 + f.val, by omega⟩) := by
  unfold V
  simp only [hostOps0]
  entry_read
  pointwise []

theorem v11_at (c : Dev nD) (f : Fin 4096) (d : Fin 1024) : (V m c main_v11 : FVec Ideal S4096x1024 .bf16) (ix2 f d) = x6 m c (ix2 f d) := by
  unfold V
  simp only [hostOps0]
  entry_read
  pointwise []

theorem in0 (c : Dev nD) (t : Fin cfg0.N) (p : Fin 512) (d : Fin 1024) : iblk m c 0 t (ix2 p d) = x0 m c (ix3 (rb (row t p)) (rs (row t p)) d) := by
  rw [← v0_at]
  blk_ext [iblk, idx t]

theorem in1 (c : Dev nD) (t : Fin cfg0.N) (p e : Fin 512) : iblk m c 1 t (ix2 p e) = x1 m c (ix3 (rb (row t p)) (rs (row t p)) e) := by
  rw [← v2_at]
  blk_ext [iblk, idx t]

theorem in2 (c : Dev nD) (t : Fin cfg0.N) (p e : Fin 512) : iblk m c 2 t (ix2 p e) = x2 m c (ix3 (rb (row t p)) (rs (row t p)) e) := by
  rw [← v4_at]
  blk_ext [iblk, idx t]

theorem in3 (c : Dev nD) (t : Fin cfg0.N) (p : Fin 512) (d : Fin 1024) : iblk m c 3 t (ix2 p d) = x7 m c (ix3 (rb (row t p)) (rs (row t p)) d) := by
  rw [← v5_at]
  blk_ext [iblk, idx t]

theorem in4 (c : Dev nD) (t : Fin cfg0.N) (e d : Fin 1024) : iblk m c 4 t (ix2 e d) = x3 m c (ix2 e d) := by
  rw [← v6_at]
  blk_ext [iblk, idx t]

theorem in5 (c : Dev nD) (t : Fin cfg0.N) (d : Fin 1024) : iblk m c 5 t (ix2 0 d) = x4 m c (ix1 d) := by
  rw [← v7_at]
  blk_ext [iblk, idx t]

theorem in6 (c : Dev nD) (t : Fin cfg0.N) (n : Fin 8) (d : Fin 1024) (f : Fin 512) : iblk m c 6 t (ix3 n d f) = x5 m c (ix2 d ⟨n.val * 512 + f.val, by omega⟩) := by
  rw [← v10_at]
  blk_ext [iblk, idx t]

theorem in7 (c : Dev nD) (t : Fin cfg0.N) (f : Fin 4096) (d : Fin 1024) : iblk m c 7 t (ix2 f d) = x6 m c (ix2 f d) := by
  rw [← v11_at]
  blk_ext [iblk, idx t]

end Cert.Proof.Mf
-- ==== Proof.MfBlk.lean ====
/-
  What a tile of the MLP's forward call stores, in the reference's terms.
-/
module

public import proofs.«01_k».proof.Proof.MfIn
public import proofs.«01_k».proof.Proof.Gen.MfIdeal.Value

@[expose] public section

set_option maxRecDepth 16384

noncomputable section

namespace Cert.Proof.Mf

open Idealize.ShloMosaic Idealize.ShloMosaic.TcCoe Idealize.SL.Sem
open Idealize.ShloMosaic.Pipeline (Dat)
open Cert.Proof.MfR (rb rs)
open Cert.MfIdeal Cert.MfIdeal.Gen

variable (m : (ℓ : Loc nD τ sig) → Buf (Elt Ideal) ℓ)

abbrev wTop (c : Dev nD) (t : Fin cfg0.N) : FVec Ideal S512x1024 .bf16 := View.ld (iblk m c 4 t) (Rect.unit ![0, 0] ![512, 1024] inb_S1024x1024_S512x1024_0_0)
abbrev wBot (c : Dev nD) (t : Fin cfg0.N) : FVec Ideal S512x1024 .bf16 := View.ld (iblk m c 4 t) (Rect.unit ![512, 0] ![512, 1024] inb_S1024x1024_S512x1024_512_0)
abbrev hB (c : Dev nD) (t : Fin cfg0.N) : FVec Ideal S512x1024 .f32 := k0_pay2 (F := Ideal) (iblk m c 0 t) (iblk m c 1 t) (wTop m c t) (iblk m c 2 t) (wBot m c t)
abbrev nB (c : Dev nD) (t : Fin cfg0.N) : FVec Ideal S512x1024 .bf16 := k0_pay3 (F := Ideal) (iblk m c 0 t) (iblk m c 1 t) (wTop m c t) (iblk m c 2 t) (wBot m c t) (iblk m c 5 t)

/-- The eight column blocks of the squared ReLU, as a tile stores them: the last one first. -/
abbrev pcs (c : Dev nD) (t : Fin cfg0.N) : List (View.Piece (Elt Ideal) S512x4096 .bf16) :=
  [⟨Rect.unit ![0, 3584] ![512, 512] inb_S512x4096_S512x512_0_3584, k0_pay13 (F := Ideal) (k0_pay12 (nB m c t) (View.ld (iblk m c 6 t) (Rect.unit ![7, 0, 0] ![1, 1024, 512] inb_S8x1024x512_S1x1024x512_7_0_0)))⟩,
    ⟨Rect.unit ![0, 3072] ![512, 512] inb_S512x4096_S512x512_0_3072, k0_pay11 (F := Ideal) (nB m c t) (View.ld (iblk m c 6 t) (Rect.unit ![6, 0, 0] ![1, 1024, 512] inb_S8x1024x512_S1x1024x512_6_0_0))⟩,
    ⟨Rect.unit ![0, 2560] ![512, 512] inb_S512x4096_S512x512_0_2560, k0_pay10 (F := Ideal) (nB m c t) (View.ld (iblk m c 6 t) (Rect.unit ![5, 0, 0] ![1, 1024, 512] inb_S8x1024x512_S1x1024x512_5_0_0))⟩,
    ⟨Rect.unit ![0, 2048] ![512, 512] inb_S512x4096_S512x512_0_2048, k0_pay9 (F := Ideal) (nB m c t) (View.ld (iblk m c 6 t) (Rect.unit ![4, 0, 0] ![1, 1024, 512] inb_S8x1024x512_S1x1024x512_4_0_0))⟩,
    ⟨Rect.unit ![0, 1536] ![512, 512] inb_S512x4096_S512x512_0_1536, k0_pay8 (F := Ideal) (k0_pay7 (nB m c t) (View.ld (iblk m c 6 t) (Rect.unit ![3, 0, 0] ![1, 1024, 512] inb_S8x1024x512_S1x1024x512_3_0_0)))⟩,
    ⟨Rect.unit ![0, 1024] ![512, 512] inb_S512x4096_S512x512_0_1024, k0_pay6 (F := Ideal) (nB m c t) (View.ld (iblk m c 6 t) (Rect.unit ![2, 0, 0] ![1, 1024, 512] inb_S8x1024x512_S1x1024x512_2_0_0))⟩,
    ⟨Rect.unit ![0, 512] ![512, 512] inb_S512x4096_S512x512_0_512, k0_pay5 (F := Ideal) (nB m c t) (View.ld (iblk m c 6 t) (Rect.unit ![1, 0, 0] ![1, 1024, 512] inb_S8x1024x512_S1x1024x512_1_0_0))⟩,
    ⟨Rect.unit ![0, 0] ![512, 512] inb_S512x4096_S512x512_0_0, k0_pay4 (F := Ideal) (nB m c t) (View.ld (iblk m c 6 t) (Rect.unit ![0, 0, 0] ![1, 1024, 512] inb_S8x1024x512_S1x1024x512_0_0_0))⟩]

abbrev hid (c : Dev nD) (t : Fin cfg0.N) : FVec Ideal S512x4096 .bf16 := View.canon (pcs m c t)

theorem reads_hid (c : Dev nD) (t : Fin cfg0.N) :
    (ms0_10 t).view.readCov (pcs m c t) (Rect.unit ![0, 0] ![512, 4096] inb_S512x4096_S512x4096_0_0).toLoadRect = hid m c t := by
  rw [View.readCov_eq_canon']
  funext j
  refine congrArg (View.canon (pcs m c t)) ?_
  funext a
  fin_cases a <;> exact Fin.ext (by simp [LoadRect.idx])

/-! ### What each point stores -/

theorem out8 (c : Dev nD) (t : Fin cfg0.N) : (outsAt0 m c t.val t.isLt).1 = hB m c t := by
  by_cases h0 : t.val % 16 = 0
  · rw [outsAt0_A m c t h0]; frame_out; rfl
  · rw [outsAt0_B m c t h0]; frame_out; rfl

theorem out9 (c : Dev nD) (t : Fin cfg0.N) : (outsAt0 m c t.val t.isLt).2.1 = nB m c t := by
  by_cases h0 : t.val % 16 = 0
  · rw [outsAt0_A m c t h0]; frame_out; rfl
  · rw [outsAt0_B m c t h0]; frame_out; rfl

theorem out10 (c : Dev nD) (t : Fin cfg0.N) : (outsAt0 m c t.val t.isLt).2.2.1 = hid m c t := by
  by_cases h0 : t.val % 16 = 0
  · rw [outsAt0_A m c t h0]; frame_out; rfl
  · rw [outsAt0_B m c t h0]; frame_out; rfl

theorem out11 (c : Dev nD) (t : Fin cfg0.N) :
    (outsAt0 m c t.val t.isLt).2.2.2.1 = k0_pay15 (F := Ideal) (hB m c t) (hid m c t) (iblk m c 7 t) (iblk m c 3 t) := by
  by_cases h0 : t.val % 16 = 0
  · rw [outsAt0_A m c t h0]; frame_out; exact congrArg (fun v => k0_pay15 (F := Ideal) _ v _ _) (reads_hid m c t)
  · rw [outsAt0_B m c t h0]; frame_out; exact congrArg (fun v => k0_pay15 (F := Ideal) _ v _ _) (reads_hid m c t)

theorem out12 (c : Dev nD) (t : Fin cfg0.N) :
    (outsAt0 m c t.val t.isLt).2.2.2.2.1 = k0_pay16 (F := Ideal) (hB m c t) (hid m c t) (iblk m c 7 t) (iblk m c 3 t) := by
  by_cases h0 : t.val % 16 = 0
  · rw [outsAt0_A m c t h0]; frame_out; exact congrArg (fun v => k0_pay16 (F := Ideal) _ v _ _) (reads_hid m c t)
  · rw [outsAt0_B m c t h0]; frame_out; exact congrArg (fun v => k0_pay16 (F := Ideal) _ v _ _) (reads_hid m c t)

theorem out13_A (c : Dev nD) (t : Fin cfg0.N) (h0 : t.val % 16 = 0) :
    (outsAt0 m c t.val t.isLt).2.2.2.2.2 = k0_pay17 (F := Ideal) (hB m c t) (hid m c t) (iblk m c 7 t) (iblk m c 3 t) (k0_pay1 (F := Ideal)) := by
  rw [outsAt0_A m c t h0]; frame_out; exact congrArg (fun v => k0_pay17 (F := Ideal) _ v _ _ _) (reads_hid m c t)

theorem out13_B (c : Dev nD) (t : Fin cfg0.N) (h0 : ¬ t.val % 16 = 0) :
    (outsAt0 m c t.val t.isLt).2.2.2.2.2 = k0_pay17 (F := Ideal) (hB m c t) (hid m c t) (iblk m c 7 t) (iblk m c 3 t)
      (outsAt0 m c (t.val - 1) (Nat.lt_of_le_of_lt (Nat.sub_le _ _) t.isLt)).2.2.2.2.2 := by
  rw [outsAt0_B m c t h0]; frame_out; exact congrArg (fun v => k0_pay17 (F := Ideal) _ v _ _ _) (reads_hid m c t)

/-! ### The payloads at an index -/

theorem pay2_at (u : FVec Ideal S512x1024 .f32) (a : FVec Ideal S512x512 .bf16) (wa : FVec Ideal S512x1024 .bf16) (b : FVec Ideal S512x512 .bf16) (wb : FVec Ideal S512x1024 .bf16) (p : Fin 512) (d : Fin 1024) :
    k0_pay2 (F := Ideal) u a wa b wb (ix2 p d) = u (ix2 p d) + (∑ e : Fin 512, a (ix2 p e) * wa (ix2 e d)) + ∑ e : Fin 512, b (ix2 p e) * wb (ix2 e d) := by
  pointwise [k0_pay2]

theorem pay3_at (u : FVec Ideal S512x1024 .f32) (a : FVec Ideal S512x512 .bf16) (wa : FVec Ideal S512x1024 .bf16) (b : FVec Ideal S512x512 .bf16) (wb : FVec Ideal S512x1024 .bf16) (g : FVec Ideal S1x1024 .f32) (p : Fin 512) (d : Fin 1024) :
    k0_pay3 (F := Ideal) u a wa b wb g (ix2 p d) = k0_pay2 (F := Ideal) u a wa b wb (ix2 p d)
      * Ideal.rsqrt (Ideal.div (∑ x : Fin 1024, k0_pay2 (F := Ideal) u a wa b wb (ix2 p x) * k0_pay2 (F := Ideal) u a wa b wb (ix2 p x)) (Ideal.ofBits .f32 1149239296#32)
          + Ideal.ofBits .f32 897988541#32) * g (ix2 0 d) := by
  pointwise [k0_pay3]

theorem pay14_at (h : FVec Ideal S512x1024 .f32) (s : FVec Ideal S512x4096 .bf16) (w : FVec Ideal S4096x1024 .bf16) (y : FVec Ideal S512x1024 .f32) (p : Fin 512) (d : Fin 1024) :
    k0_pay14 (F := Ideal) h s w y (ix2 p d) = h (ix2 p d) + (∑ f : Fin 4096, s (ix2 p f) * w (ix2 f d)) - y (ix2 p d) := by
  pointwise [k0_pay14]

theorem pay15_at (h : FVec Ideal S512x1024 .f32) (s : FVec Ideal S512x4096 .bf16) (w : FVec Ideal S4096x1024 .bf16) (y : FVec Ideal S512x1024 .f32) (p : Fin 512) (d : Fin 1024) :
    k0_pay15 (F := Ideal) h s w y (ix2 p d) = k0_pay14 (F := Ideal) h s w y (ix2 p d) * Ideal.ofBits .f32 981467136#32 := by
  pointwise [k0_pay15]

theorem pay16_at (h : FVec Ideal S512x1024 .f32) (s : FVec Ideal S512x4096 .bf16) (w : FVec Ideal S4096x1024 .bf16) (y : FVec Ideal S512x1024 .f32) (p : Fin 512) (d : Fin 1024) :
    k0_pay16 (F := Ideal) h s w y (ix2 p d) = k0_pay15 (F := Ideal) h s w y (ix2 p d) := by
  pointwise [k0_pay16]

theorem pay17_at (h : FVec Ideal S512x1024 .f32) (s : FVec Ideal S512x4096 .bf16) (w : FVec Ideal S4096x1024 .bf16) (y : FVec Ideal S512x1024 .f32) (v : FVec Ideal S8x128 .f32) (i : Fin 8) (j : Fin 128) :
    k0_pay17 (F := Ideal) h s w y v (ix2 i j) = v (ix2 i j) + Ideal.ofBits .f32 1056964608#32 * ∑ p : Fin 512,
      (∑ d : Fin 1024, k0_pay14 (F := Ideal) h s w y (ix2 p d) * k0_pay14 (F := Ideal) h s w y (ix2 p d)) * Ideal.ofBits .f32 981467136#32 := by
  pointwise [k0_pay17]

theorem pay1_at (i : Fin 8) (j : Fin 128) : k0_pay1 (F := Ideal) (ix2 i j) = 0 := by
  pointwise [k0_pay1]

/-! ### In the reference's terms -/

theorem wTop_at (c : Dev nD) (t : Fin cfg0.N) (e : Fin 512) (d : Fin 1024) : wTop m c t (ix2 e d) = x3 m c (ix2 ⟨e.val, by omega⟩ d) := by
  rw [← in4 m c t]
  pointwise [wTop]

theorem wBot_at (c : Dev nD) (t : Fin cfg0.N) (e : Fin 512) (d : Fin 1024) : wBot m c t (ix2 e d) = x3 m c (ix2 ⟨512 + e.val, by omega⟩ d) := by
  rw [← in4 m c t]
  pointwise [wBot]

theorem h_t (c : Dev nD) (t : Fin cfg0.N) (p : Fin 512) (d : Fin 1024) :
    hB m c t (ix2 p d) = MfR.res (x0 m c) (x1 m c) (x2 m c) (x3 m c) (ix3 (rb (row t p)) (rs (row t p)) d) := by
  rw [hB, pay2_at, MfR.res_at, add_assoc]
  simp only [in0, in1, in2, wTop_at, wBot_at]

theorem n_t (c : Dev nD) (t : Fin cfg0.N) (p : Fin 512) (d : Fin 1024) :
    nB m c t (ix2 p d) = MfR.nrm (x0 m c) (x1 m c) (x2 m c) (x3 m c) (x4 m c) (ix3 (rb (row t p)) (rs (row t p)) d) := by
  rw [nB, pay3_at, MfR.nrm_at]
  simp only [h_t, in5]

theorem sq_t (c : Dev nD) (t : Fin cfg0.N) (p : Fin 512) (n : Fin 8) (f : Fin 512) (k : Fin 4096) (hk : k.val = n.val * 512 + f.val) :
    max (∑ d : Fin 1024, nB m c t (ix2 p d) * iblk m c 6 t (ix3 n d f)) 0 * max (∑ d : Fin 1024, nB m c t (ix2 p d) * iblk m c 6 t (ix3 n d f)) 0
      = MfR.sqr (x0 m c) (x1 m c) (x2 m c) (x3 m c) (x4 m c) (x5 m c) (ix3 (rb (row t p)) (rs (row t p)) k) := by
  rw [MfR.sqr_at]
  rw [show k = ⟨n.val * 512 + f.val, by omega⟩ from Fin.ext hk]
  simp only [n_t, in6]

theorem hid_t (c : Dev nD) (t : Fin cfg0.N) (p : Fin 512) (k : Fin 4096) :
    hid m c t (ix2 p k) = MfR.sqr (x0 m c) (x1 m c) (x2 m c) (x3 m c) (x4 m c) (x5 m c) (ix3 (rb (row t p)) (rs (row t p)) k) := by
  have hS : ∀ n f hk, _ := fun n f hk => sq_t m c t p n f k hk
  rw [hid, pcs]
  generalize MfR.sqr (x0 m c) (x1 m c) (x2 m c) (x3 m c) (x4 m c) (x5 m c) (ix3 (rb (row t p)) (rs (row t p)) k) = Q at hS ⊢
  generalize nB m c t = T at hS ⊢
  generalize hy : (ix2 p k : S512x4096.Idx) = y
  canon_tiles x h
  all_goals
    have hk : k.val = (y 1).val := by rw [← hy]; rfl
    obtain rfl : p = x 0 := Fin.ext (by rw [← h0, ← hy]; rfl)
    have hl : (x 1).val < 512 := (x 1).isLt
    clear hy
    open_payloads
    pointwise
    refine hS _ (x 1) ?_
    simp
    omega

theorem err_t (c : Dev nD) (t : Fin cfg0.N) (p : Fin 512) (d : Fin 1024) :
    k0_pay14 (F := Ideal) (hB m c t) (hid m c t) (iblk m c 7 t) (iblk m c 3 t) (ix2 p d)
      = MfR.err (x0 m c) (x1 m c) (x2 m c) (x3 m c) (x4 m c) (x5 m c) (x6 m c) (x7 m c) (ix3 (rb (row t p)) (rs (row t p)) d) := by
  rw [pay14_at, MfR.err_at]
  simp only [h_t, hid_t, in7, in3]

end Cert.Proof.Mf
-- ==== Proof.MfVal.lean ====
/-
  The whole arrays of the MLP's forward call: the tiles placed at their rows, and the loss summed over them.
-/
module

public import proofs.«01_k».proof.Proof.MfBlk

@[expose] public section

set_option maxRecDepth 16384

noncomputable section

namespace Cert.Proof.Mf

open Idealize.ShloMosaic Idealize.ShloMosaic.TcCoe Idealize.SL.Sem
open Idealize.ShloMosaic.Pipeline (Dat)
open Cert.Proof.MfR (rb rs)
open Cert.MfIdeal Cert.MfIdeal.Gen

variable (m : (ℓ : Loc nD τ sig) → Buf (Elt Ideal) ℓ)

theorem point8 (c : Dev nD) (t : Fin cfg0.N) (p : Fin 512) (k : Fin 1024) :
    (outsAt0 m c t.val t.isLt).1 (ix2 p k) = Cert.MfReferenceIdeal.Read.val_main_v37 (F := Ideal) (x0 m c) (x1 m c) (x2 m c) (x3 m c) (ix2 (row t p) k) := by
  rw [out8, h_t, MfR.r0_at]

theorem final8 (c : Dev nD) : (dats m 0 c).arrAt 8 cfg0.N = Cert.MfReferenceIdeal.Read.val_main_v37 (F := Ideal) (x0 m c) (x1 m c) (x2 m c) (x3 m c) := by
  refine (dats m 0 c).arrAt_eq_of_covers 8 _ (by decide +kernel) fun t _ y => ?_
  blk_simp
  rw [after0_8]
  have e : y = ix2 (y 0) (y 1) := by funext a; fin_cases a <;> rfl
  rw [e]
  refine (point8 m c t (y 0) (y 1)).trans ?_
  blk_ext [idx t]

theorem point9 (c : Dev nD) (t : Fin cfg0.N) (p : Fin 512) (k : Fin 1024) :
    (outsAt0 m c t.val t.isLt).2.1 (ix2 p k) = Cert.MfReferenceIdeal.Read.val_main_v52 (F := Ideal) (x0 m c) (x1 m c) (x2 m c) (x3 m c) (x4 m c) (ix2 (row t p) k) := by
  rw [out9, n_t, MfR.r1_at]

theorem final9 (c : Dev nD) : (dats m 0 c).arrAt 9 cfg0.N = Cert.MfReferenceIdeal.Read.val_main_v52 (F := Ideal) (x0 m c) (x1 m c) (x2 m c) (x3 m c) (x4 m c) := by
  refine (dats m 0 c).arrAt_eq_of_covers 9 _ (by decide +kernel) fun t _ y => ?_
  blk_simp
  rw [after0_9]
  have e : y = ix2 (y 0) (y 1) := by funext a; fin_cases a <;> rfl
  rw [e]
  refine (point9 m c t (y 0) (y 1)).trans ?_
  blk_ext [idx t]

theorem point10 (c : Dev nD) (t : Fin cfg0.N) (p : Fin 512) (k : Fin 4096) :
    (outsAt0 m c t.val t.isLt).2.2.1 (ix2 p k) = Cert.MfReferenceIdeal.Read.val_main_v54 (F := Ideal) (x0 m c) (x1 m c) (x2 m c) (x3 m c) (x4 m c) (x5 m c) (ix2 (row t p) k) := by
  rw [out10, hid_t, MfR.r2_at]

theorem final10 (c : Dev nD) : (dats m 0 c).arrAt 10 cfg0.N = Cert.MfReferenceIdeal.Read.val_main_v54 (F := Ideal) (x0 m c) (x1 m c) (x2 m c) (x3 m c) (x4 m c) (x5 m c) := by
  refine (dats m 0 c).arrAt_eq_of_covers 10 _ (by decide +kernel) fun t _ y => ?_
  blk_simp
  rw [after0_10]
  have e : y = ix2 (y 0) (y 1) := by funext a; fin_cases a <;> rfl
  rw [e]
  refine (point10 m c t (y 0) (y 1)).trans ?_
  blk_ext [idx t]

theorem point11 (c : Dev nD) (t : Fin cfg0.N) (p : Fin 512) (k : Fin 1024) :
    (outsAt0 m c t.val t.isLt).2.2.2.1 (ix2 p k) = Cert.MfReferenceIdeal.Read.val_main_v36 (F := Ideal) (x0 m c) (x1 m c) (x2 m c) (x3 m c) (x4 m c) (x5 m c) (x6 m c) (x7 m c) (ix2 (row t p) k) := by
  rw [out11, pay15_at, err_t, MfR.r3_at]

theorem final11 (c : Dev nD) : (dats m 0 c).arrAt 11 cfg0.N = Cert.MfReferenceIdeal.Read.val_main_v36 (F := Ideal) (x0 m c) (x1 m c) (x2 m c) (x3 m c) (x4 m c) (x5 m c) (x6 m c) (x7 m c) := by
  refine (dats m 0 c).arrAt_eq_of_covers 11 _ (by decide +kernel) fun t _ y => ?_
  blk_simp
  rw [after0_11]
  have e : y = ix2 (y 0) (y 1) := by funext a; fin_cases a <;> rfl
  rw [e]
  refine (point11 m c t (y 0) (y 1)).trans ?_
  blk_ext [idx t]

theorem point12 (c : Dev nD) (t : Fin cfg0.N) (p : Fin 512) (k : Fin 1024) :
    (outsAt0 m c t.val t.isLt).2.2.2.2.1 (ix2 p k) = Cert.MfReferenceIdeal.Read.val_main_v55 (F := Ideal) (x0 m c) (x1 m c) (x2 m c) (x3 m c) (x4 m c) (x5 m c) (x6 m c) (x7 m c) (ix2 (row t p) k) := by
  rw [out12, pay16_at, pay15_at, err_t, MfR.r4_at]

theorem final12 (c : Dev nD) : (dats m 0 c).arrAt 12 cfg0.N = Cert.MfReferenceIdeal.Read.val_main_v55 (F := Ideal) (x0 m c) (x1 m c) (x2 m c) (x3 m c) (x4 m c) (x5 m c) (x6 m c) (x7 m c) := by
  refine (dats m 0 c).arrAt_eq_of_covers 12 _ (by decide +kernel) fun t _ y => ?_
  blk_simp
  rw [after0_12]
  have e : y = ix2 (y 0) (y 1) := by funext a; fin_cases a <;> rfl
  rw [e]
  refine (point12 m c t (y 0) (y 1)).trans ?_
  blk_ext [idx t]

/-! ### The loss -/

/-- A factor goes over a sum of terms that aren't negative. -/
theorem mul_sum_of_nonneg {ι : Type} (s : Finset ι) (f : ι → EReal) (h : ∀ i, 0 ≤ f i) (a : EReal) : a * ∑ i ∈ s, f i = ∑ i ∈ s, a * f i := by
  classical
  induction s using Finset.induction_on with
  | empty => simp
  | insert i s hi ih => rw [Finset.sum_insert hi, Finset.sum_insert hi, EReal.left_distrib_of_nonneg (h i) (Finset.sum_nonneg fun j _ => h j), ih]

theorem sq_nonneg (x : EReal) : 0 ≤ x * x := by
  induction x using EReal.rec with
  | bot => simp
  | top => simp
  | coe r => rw [← EReal.coe_mul]; exact_mod_cast mul_self_nonneg r

/-- One row's part of the loss, before the half. -/
abbrev part (c : Dev nD) (b : Fin 2) (s : Fin 4096) : EReal :=
  (∑ d : Fin 1024, MfR.err (x0 m c) (x1 m c) (x2 m c) (x3 m c) (x4 m c) (x5 m c) (x6 m c) (x7 m c) (ix3 b s d) * MfR.err (x0 m c) (x1 m c) (x2 m c) (x3 m c) (x4 m c) (x5 m c) (x6 m c) (x7 m c) (ix3 b s d)) * Ideal.ofBits .f32 981467136#32

theorem part_nonneg (c : Dev nD) (b : Fin 2) (s : Fin 4096) : 0 ≤ part m c b s := by
  refine mul_nonneg (Finset.sum_nonneg fun d _ => sq_nonneg _) ?_
  rw [MfR.c_inv]
  exact_mod_cast (by norm_num : (0 : ℝ) ≤ 1 / 1024)

theorem step_at (c : Dev nD) (t : Fin cfg0.N) (v : FVec Ideal S8x128 .f32) (y : S8x128.Idx) :
    k0_pay17 (F := Ideal) (hB m c t) (hid m c t) (iblk m c 7 t) (iblk m c 3 t) v y
      = v y + Ideal.ofBits .f32 1056964608#32 * ∑ p : Fin 512, part m c (rb (row t p)) (rs (row t p)) := by
  obtain ⟨i, j, rfl⟩ : ∃ (i : Fin 8) (j : Fin 128), y = (ix2 i j : S8x128.Idx) := ⟨y 0, y 1, by funext a; fin_cases a <;> rfl⟩
  rw [pay17_at]
  simp only [err_t]

theorem final13 (c : Dev nD) : (dats m 0 c).arrAt 13 cfg0.N = Cert.MfReferenceIdeal.Read.val_main_v56 (F := Ideal) (x0 m c) (x1 m c) (x2 m c) (x3 m c) (x4 m c) (x5 m c) (x6 m c) (x7 m c) := by
  have hZ : ∀ y : S8x128.Idx, k0_pay1 (F := Ideal) y = 0 := fun y => by
    obtain ⟨i, j, rfl⟩ : ∃ (i : Fin 8) (j : Fin 128), y = (ix2 i j : S8x128.Idx) := ⟨y 0, y 1, by funext a; fin_cases a <;> rfl⟩
    exact pay1_at i j
  refine (dats m 0 c).arrAt_eq_of_after_last 13 t0_15 (by decide +kernel) _ fun y => ?_
  blk_simp
  rw [after0_13, Pipeline.eq_sum_fin_of_reset_step_apply_last (fun n h => (outsAt0 m c n h).2.2.2.2.2) 16 (fun _ => 0)
    (fun t _ => Ideal.ofBits .f32 1056964608#32 * ∑ p : Fin 512, part m c (rb (row t p)) (rs (row t p)))
    (fun t h y => by rw [out13_A m c t h, step_at, hZ])
    (fun t h y => by rw [out13_B m c t h, step_at])
    (le_of_eq N_0) t0_15 rfl y, zero_add]
  obtain ⟨i, j, rfl⟩ : ∃ (i : Fin 8) (j : Fin 128), y = (ix2 i j : S8x128.Idx) := ⟨y 0, y 1, by funext a; fin_cases a <;> rfl⟩
  refine Eq.trans ?_ (MfR.r5_at (x0 m c) (x1 m c) (x2 m c) (x3 m c) (x4 m c) (x5 m c) (x6 m c) (x7 m c) i j).symm
  rw [← mul_sum_of_nonneg _ _ (fun t => Finset.sum_nonneg fun p _ => part_nonneg m c _ _)]
  refine congrArg (Ideal.ofBits .f32 1056964608#32 * ·) ?_
  refine Fin.sum_points_lanes_congr 8 fun t k ha hl => ?_
  have eb : rb (row t k) = ⟨t.val / 8, ha⟩ := Fin.ext (by show (t.val * 512 + k.val) / 4096 = t.val / 8; omega)
  have es : rs (row t k) = ⟨t.val % 8 * 512 + k.val, hl⟩ := Fin.ext (by show (t.val * 512 + k.val) % 4096 = t.val % 8 * 512 + k.val; omega)
  rw [eb, es]

end Cert.Proof.Mf
-- ==== Proof.MfClaims.lean ====
module

public import proofs.«01_k».proof.Defs
public import proofs.«01_k».proof.Proof.Gen.Mf.Frame
public import proofs.«01_k».proof.Proof.Gen.MfReferenceIdeal.Run
public import proofs.«01_k».proof.Proof.MfVal

@[expose] public section

set_option maxRecDepth 16384

noncomputable section

namespace Cert.Proof.Mf

open Idealize.ShloMosaic Idealize.ShloMosaic.TcCoe Idealize.SL.Sem
open Cert.MfIdeal Cert.MfIdeal.Gen

attribute [local instance] Cert.Mf.Gen.facts Cert.MfIdeal.Gen.facts Cert.MfReferenceIdeal.Gen.facts

theorem frame_p : Cert.quiescent_Mf := fun m ρ _ => Cert.Mf.Gen.frame m ρ

theorem frame_pi : Cert.quiescent_MfIdeal := fun m ρ _ => Cert.MfIdeal.Gen.frame m ρ

/-- The reference's run, with the counters because it declares no semaphore. -/
theorem frame_ri : Cert.quiescent_MfReferenceIdeal := fun m ρ _ =>
  (θ_run Cert.MfReferenceIdeal.defs _ _).mono (fun r h => ⟨fun c => (h c).2.2.2.2.2.2, sem_eq_zero_of_no_sems (by decide) r.2⟩)
    (Cert.MfReferenceIdeal.Value.run (F := Ideal) m ρ)

theorem preserves : Cert.preserves_Mf_MfIdeal := trivial

theorem algebraic : Cert.algebraic_MfIdeal_MfReferenceIdeal := by
  intro m g m' g' _ ha
  have hk := Cert.MfIdeal.Value.run_blocks (F := Ideal) m g
  have hr := Cert.MfReferenceIdeal.Value.run (F := Ideal) m' g'
  refine ⟨_, _, _, _, _, _, hk, (θ_run Cert.MfReferenceIdeal.defs _ _).mono (fun r h c => ?_) hr⟩
  obtain ⟨q0, q1, q2, q3, q4, q5, qs⟩ := h c
  obtain ⟨b0, b1, b2, b3, b4, b5, b6, b7⟩ := ha c
  rw [Cert.MfReferenceIdeal.Read.val_main_v37_eq, b0, b1, b2, b3] at q0
  rw [Cert.MfReferenceIdeal.Read.val_main_v52_eq, b0, b1, b2, b3, b4] at q1
  rw [Cert.MfReferenceIdeal.Read.val_main_v54_eq, b0, b1, b2, b3, b4, b5] at q2
  rw [Cert.MfReferenceIdeal.Read.val_main_v36_eq, b0, b1, b2, b3, b4, b5, b6, b7] at q3
  rw [Cert.MfReferenceIdeal.Read.val_main_v55_eq, b0, b1, b2, b3, b4, b5, b6, b7] at q4
  rw [Cert.MfReferenceIdeal.Read.val_main_v56_eq, b0, b1, b2, b3, b4, b5, b6, b7] at q5
  exact ⟨q0.trans (final8 m c).symm, q1.trans (final9 m c).symm, q2.trans (final10 m c).symm, q3.trans (final11 m c).symm,
    q4.trans (final12 m c).symm, q5.trans (final13 m c).symm, qs⟩

end Cert.Proof.Mf
-- ==== Proof.NpRef.lean ====
/-
  The reference of the projections' forward call, read at an index: the projections, the forget lanes and the normed heads.
-/
module

public import proofs.«01_k».proof.Proof.Gen.NpReferenceIdeal.Read
public import Idealize.ShloMosaic.Lib.Pointwise
public import Idealize.ShloMosaic.PureOps.Ideal.Laws

@[expose] public section

set_option maxRecDepth 16384

noncomputable section

namespace Cert.Proof.NpR

open Idealize.ShloMosaic Idealize.ShloMosaic.TcCoe Idealize.SL.Sem
open Cert.NpReferenceIdeal Cert.NpReferenceIdeal.Gen Cert.NpReferenceIdeal.Read

variable (x0 : FVec Ideal S2x4096x1024 .f32) (x1 : FVec Ideal S1024 .f32) (x2 : FVec Ideal S1024x2312 .f32) (x4 x5 : FVec Ideal S64 .f32)

/-- A row of the flattened arrays: its sequence and its place there. -/
abbrev rb (r : Fin 8192) : Fin 2 := ⟨r.val / 4096, by omega⟩
abbrev rs (r : Fin 8192) : Fin 4096 := ⟨r.val % 4096, by omega⟩

/-- The projections of the reference. -/
abbrev prj : FVec Ideal S2x4096x2312 .f32 := val_main_v13 (F := Ideal) x0 x1 x2

theorem prj_at (b : Fin 2) (s : Fin 4096) (e : Fin 2312) :
    prj x0 x1 x2 (ix3 b s e) = ∑ d : Fin 1024, (x0 (ix3 b s d)
      * Ideal.rsqrt (Ideal.div (∑ x, x0 (ix3 b s x) * x0 (ix3 b s x)) (Ideal.ofBits .f32 1149239296#32) + Ideal.ofBits .f32 897988541#32)
      * x1 (ix1 d)) * x2 (ix2 d e) := by
  pointwise [prj, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1]

/-- A head's lane over the root mean square of the head's 64 lanes, which begin at `o`. -/
abbrev hnorm (o : Nat) (ho : o + 64 ≤ 2312) (b : Fin 2) (s : Fin 4096) (d : Fin 64) : EReal :=
  prj x0 x1 x2 (ix3 b s ⟨o + d.val, by omega⟩)
    * Ideal.rsqrt (Ideal.div (∑ j : Fin 64, prj x0 x1 x2 (ix3 b s ⟨o + j.val, by omega⟩) * prj x0 x1 x2 (ix3 b s ⟨o + j.val, by omega⟩)) (Ideal.ofBits .f32 1115684864#32)
        + Ideal.ofBits .f32 897988541#32)

theorem qh_at (b : Fin 2) (s : Fin 4096) (h : Fin 8) (d : Fin 64) :
    val_main_v28 (F := Ideal) x0 x1 x2 x4 (ix4 b s h d) = hnorm x0 x1 x2 (h.val * 64) (by omega) b s d * x4 (ix1 d) := by
  pointwise [val_main_v28, val_main_v27, val_main_v26, val_main_v25, val_main_v24, val_main_v23, val_main_v22, val_main_v21, val_main_v20, val_main_v19,
    val_main_v18, val_main_v17, val_main_v16, val_main_v15, val_main_v14, val_main_cst_2, val_main_cst_3, val_main_cst_4]

theorem kh_at (b : Fin 2) (s : Fin 4096) (h : Fin 2) (d : Fin 64) :
    val_main_v43 (F := Ideal) x0 x1 x2 x5 (ix4 b s h d) = hnorm x0 x1 x2 (512 + h.val * 64) (by omega) b s d * x5 (ix1 d) := by
  pointwise [val_main_v43, val_main_v42, val_main_v41, val_main_v40, val_main_v39, val_main_v38, val_main_v37, val_main_v36, val_main_v35, val_main_v34,
    val_main_v33, val_main_v32, val_main_v31, val_main_v30, val_main_v29, val_main_cst_5, val_main_cst_6, val_main_cst_7]
  simp only [hnorm, prj, Nat.add_assoc]

/-! ### The results -/

theorem r0_at (r : Fin 8192) (e : Fin 2304) :
    (val_main_v57 (F := Ideal) x0 x1 x2 : FVec Ideal S8192x2304 .f32) (ix2 r e) = prj x0 x1 x2 (ix3 (rb r) (rs r) ⟨e.val, by omega⟩) := by
  pointwise [val_main_v57, val_main_v56]

/-- The number that fills the lanes beyond the heads. -/
theorem fill_zero : (FloatOps.sitofp .f32 (0#32 : BitVec 32) : Ideal .f32) = 0 := by
  show (((0#32 : BitVec 32).toInt : ℝ) : EReal) = 0
  simp

theorem pad_zero : (val_main_call0_v0 (F := Ideal) : FVec Ideal S_ .f32) (Shape.Idx.first h_S_) = 0 := by
  refine Eq.trans ?_ fill_zero
  pointwise [val_main_call0_v0, val_main_c]

theorem r1_at (r : Fin 8192) (l : Fin 128) :
    (val_main_v58 (F := Ideal) x0 x1 x2 : FVec Ideal S8192x128 .f32) (ix2 r l)
      = if h : l.val < 8 then prj x0 x1 x2 (ix3 (rb r) (rs r) ⟨2304 + l.val, by omega⟩) else 0 := by
  pointwise [val_main_v58, val_main_v55, val_main_v54]
  have hr : r.val / 4096 < 2 := by omega
  have hs : r.val % 4096 < 4096 := by omega
  have h0 : val_main_call0_v0 (F := Ideal) (Shape.Idx.first h_S_) = 0 := pad_zero
  simp only [hr, hs, true_and, h0]

theorem r2_at (r : Fin 8192) (k : Fin 512) :
    (val_main_v60 (F := Ideal) x0 x1 x2 x4 : FVec Ideal S8192x512 .bf16) (ix2 r k)
      = hnorm x0 x1 x2 (k.val / 64 * 64) (by omega) (rb r) (rs r) ⟨k.val % 64, by omega⟩ * x4 (ix1 ⟨k.val % 64, by omega⟩) := by
  refine Eq.trans ?_ (qh_at x0 x1 x2 x4 (rb r) (rs r) ⟨k.val / 64, by omega⟩ ⟨k.val % 64, by omega⟩)
  pointwise [val_main_v60, val_main_v59]

theorem r3_at (r : Fin 8192) (k : Fin 256) :
    (val_main_v49 (F := Ideal) x0 x1 x2 x5 : FVec Ideal S8192x256 .bf16) (ix2 r k)
      = hnorm x0 x1 x2 (512 + k.val / 128 * 64) (by omega) (rb r) (rs r) ⟨k.val % 64, by omega⟩ * x5 (ix1 ⟨k.val % 64, by omega⟩) := by
  refine Eq.trans ?_ (kh_at x0 x1 x2 x5 (rb r) (rs r) ⟨k.val / 128, by omega⟩ ⟨k.val % 64, by omega⟩)
  pointwise [val_main_v49, val_main_v48, val_main_v47, val_main_v46]

theorem r4_at (r : Fin 8192) (k : Fin 256) :
    (val_main_v53 (F := Ideal) x0 x1 x2 : FVec Ideal S8192x256 .bf16) (ix2 r k) = prj x0 x1 x2 (ix3 (rb r) (rs r) ⟨640 + (k.val / 128 * 64 + k.val % 64), by omega⟩) := by
  pointwise [val_main_v53, val_main_v52, val_main_v51, val_main_v50, val_main_v45, val_main_v44]

end Cert.Proof.NpR
-- ==== Proof.NpIn.lean ====
/-
  What the projections' forward call reads: its input arrays at region entry, and the blocks of them that a grid point takes.
-/
module

public import proofs.«01_k».proof.Proof.NpRef
public import proofs.«01_k».proof.Proof.Gen.NpIdeal.Frame
public import Idealize.ShloMosaic.Lib.Pipeline.ValueKit
public import Idealize.ShloMosaic.Lib.Pointwise

@[expose] public section

set_option maxRecDepth 16384

noncomputable section

namespace Cert.Proof.Np

open Idealize.ShloMosaic Idealize.ShloMosaic.TcCoe Idealize.SL.Sem
open Idealize.ShloMosaic.Pipeline (Dat)
open Cert.Proof.NpR (rb rs)
open Cert.NpIdeal Cert.NpIdeal.Gen

variable (m : (ℓ : Loc nD τ sig) → Buf (Elt Ideal) ℓ)

theorem idx : ∀ t : Fin cfg0.N, (win0_0.index t = ![t.val, 0] ∧ win0_1.index t = ![0, 0] ∧ win0_2.index t = ![0, 0] ∧ win0_3.index t = ![0, 0] ∧ win0_4.index t = ![0, 0])
      ∧ win0_8.index t = ![t.val, 0] ∧ win0_9.index t = ![t.val, 0] ∧ win0_10.index t = ![t.val, 0] ∧ win0_11.index t = ![t.val, 0] ∧ win0_12.index t = ![t.val, 0] :=
  (by decide +kernel : ∀ t : Fin grid0.N, _)

abbrev x0 (c : Dev nD) : FVec Ideal S2x4096x1024 .f32 := m (c.tc.loc main_arg0)
abbrev x1 (c : Dev nD) : FVec Ideal S1024 .f32 := m (c.tc.loc main_arg1)
abbrev x2 (c : Dev nD) : FVec Ideal S1024x2312 .f32 := m (c.tc.loc main_arg2)
abbrev x4 (c : Dev nD) : FVec Ideal S64 .f32 := m (c.tc.loc main_arg4)
abbrev x5 (c : Dev nD) : FVec Ideal S64 .f32 := m (c.tc.loc main_arg5)

theorem lt_N (t : Fin cfg0.N) : t.val < 16 := lt_of_lt_of_eq t.isLt N_0
abbrev row (t : Fin cfg0.N) (p : Fin 512) : Fin 8192 := ⟨t.val * 512 + p.val, by have := lt_N t; omega⟩

/-- The norm's row as the host leaves it for the call. -/
abbrev nrm (c : Dev nD) (r : Fin 8192) (d : Fin 1024) : EReal :=
  x0 m c (ix3 (rb r) (rs r) d)
    * Ideal.rsqrt (Ideal.div (∑ x, x0 m c (ix3 (rb r) (rs r) x) * x0 m c (ix3 (rb r) (rs r) x)) (Ideal.ofBits .f32 1149239296#32) + Ideal.ofBits .f32 897988541#32)
    * x1 m c (ix1 d)

theorem v14_at (c : Dev nD) (r : Fin 8192) (d : Fin 1024) : (V m c main_v14 : FVec Ideal S8192x1024 .bf16) (ix2 r d) = nrm m c r d := by
  unfold V
  simp only [hostOps0, hostOps0_1, hostOps0_2, hostOps0_3, hostOps0_4, List.flatten_cons, List.flatten_nil, List.append_nil, List.cons_append, List.nil_append]
  entry_read
  pointwise []

theorem v37_at (c : Dev nD) (e : Fin 2304) (d : Fin 1024) : (V m c main_v37 : FVec Ideal S2304x1024 .bf16) (ix2 e d) = x2 m c (ix2 d ⟨e.val, by omega⟩) := by
  unfold V
  simp only [hostOps0, hostOps0_1, hostOps0_2, hostOps0_3, hostOps0_4, List.flatten_cons, List.flatten_nil, List.append_nil, List.cons_append, List.nil_append]
  entry_read
  pointwise []

theorem v18_eq (c : Dev nD) : (V m c main_v18 : FVec Ideal S128x1024 .bf16)
    = pad S128x1024 ![0, 0] ![120, 0] ![0, 0] (extractStridedSlice S8x1024 ![2304, 0]
        (truncf (F := Ideal) .bf16 (transpose S2312x1024 [1, 0] (x2 m c) transposes_S1024x2312_S2312x1024_1_0) bitsLt_bf16_f32)
        slices_S2312x1024_S8x1024_2304_0) (sitofp (F := Ideal) .bf16 (constantI S_ 32 0#32)) pads_S8x1024_S128x1024_01200_000 h_S_ := by
  unfold V
  simp only [hostOps0, hostOps0_1, hostOps0_2, hostOps0_3, hostOps0_4, List.flatten_cons, List.flatten_nil, List.append_nil, List.cons_append, List.nil_append]
  entry_read
  rfl

theorem v18_at (c : Dev nD) (l : Fin 128) (d : Fin 1024) :
    (V m c main_v18 : FVec Ideal S128x1024 .bf16) (ix2 l d) = if h : l.val < 8 then x2 m c (ix2 d ⟨2304 + l.val, by omega⟩) else 0 := by
  have h0 : (FloatOps.sitofp .bf16 (0#32 : BitVec 32) : Ideal .bf16) = 0 := NpR.fill_zero
  rw [v18_eq]
  pointwise []
  rw [h0]

theorem v22_at (c : Dev nD) (k : Fin 512) : (V m c main_v22 : FVec Ideal S1x512 .f32) (ix2 0 k) = x4 m c (ix1 ⟨k.val % 64, by omega⟩) := by
  unfold V
  simp only [hostOps0, hostOps0_1, hostOps0_2, hostOps0_3, hostOps0_4, List.flatten_cons, List.flatten_nil, List.append_nil, List.cons_append, List.nil_append]
  entry_read
  pointwise []

theorem v26_at (c : Dev nD) (k : Fin 128) : (V m c main_v26 : FVec Ideal S1x128 .f32) (ix2 0 k) = x5 m c (ix1 ⟨k.val % 64, by omega⟩) := by
  unfold V
  simp only [hostOps0, hostOps0_1, hostOps0_2, hostOps0_3, hostOps0_4, List.flatten_cons, List.flatten_nil, List.append_nil, List.cons_append, List.nil_append]
  entry_read
  pointwise []

theorem in0 (c : Dev nD) (t : Fin cfg0.N) (p : Fin 512) (d : Fin 1024) : iblk m c 0 t (ix2 p d) = nrm m c (row t p) d := by
  rw [← v14_at]
  blk_ext [iblk, idx t]

theorem in1 (c : Dev nD) (t : Fin cfg0.N) (e : Fin 2304) (d : Fin 1024) : iblk m c 1 t (ix2 e d) = x2 m c (ix2 d ⟨e.val, by omega⟩) := by
  rw [← v37_at]
  blk_ext [iblk, idx t]

theorem in2 (c : Dev nD) (t : Fin cfg0.N) (l : Fin 128) (d : Fin 1024) :
    iblk m c 2 t (ix2 l d) = if h : l.val < 8 then x2 m c (ix2 d ⟨2304 + l.val, by omega⟩) else 0 := by
  rw [← v18_at]
  blk_ext [iblk, idx t]

theorem in3 (c : Dev nD) (t : Fin cfg0.N) (k : Fin 512) : iblk m c 3 t (ix2 0 k) = x4 m c (ix1 ⟨k.val % 64, by omega⟩) := by
  rw [← v22_at]
  blk_ext [iblk, idx t]

theorem in4 (c : Dev nD) (t : Fin cfg0.N) (k : Fin 128) : iblk m c 4 t (ix2 0 k) = x5 m c (ix1 ⟨k.val % 64, by omega⟩) := by
  rw [← v26_at]
  blk_ext [iblk, idx t]

end Cert.Proof.Np
-- ==== Proof.NpPay.lean ====
/-
  The payloads of the projections' forward call at an index.
-/
module

public import proofs.«01_k».proof.Proof.MlpPay
public import proofs.«01_k».proof.Proof.Gen.NpIdeal.Skeleton

@[expose] public section

set_option maxRecDepth 16384

noncomputable section

namespace Cert.Proof.Np

open Idealize.ShloMosaic Idealize.ShloMosaic.TcCoe Idealize.SL.Sem
open Cert.NpIdeal Cert.NpIdeal.Gen

/-- Two lanes are of one head. -/
theorem ones_at (x y : Nat) (hx : x < 512) (hy : y < 512) :
    (FloatOps.sitofp .f32 (BitVec.setWidth 32 (IntOp.cmpi CmpIPredicate.eq (IntOp.shrui ArithUnit.vector (BitVec.ofNat 32 x) 6#32)
      (IntOp.shrui ArithUnit.vector (BitVec.ofNat 32 y) 6#32))) : Ideal .f32) = if x / 64 = y / 64 then 1 else 0 := by
  rw [Mlp.shr6 ⟨y, hy⟩]
  exact Mlp.sel_at ⟨x, hx⟩ (y / 64) (by omega)

theorem pay4_at (v4 : FVec Ideal S512x1024 .bf16) (v6 : FVec Ideal S2304x1024 .bf16) (p : Fin 512) (e : Fin 2304) :
    k0_pay4 (F := Ideal) v4 v6 (ix2 p e) = ∑ d : Fin 1024, v4 (ix2 p d) * v6 (ix2 e d) := by
  pointwise [k0_pay4, k0_pay3]

theorem pay5_at (v4 : FVec Ideal S512x1024 .bf16) (v10 : FVec Ideal S128x1024 .bf16) (p : Fin 512) (l : Fin 128) :
    k0_pay5 (F := Ideal) v4 v10 (ix2 p l) = ∑ d : Fin 1024, v4 (ix2 p d) * v10 (ix2 l d) := by
  pointwise [k0_pay5, k0_pay3]

theorem pay6_at (v4 : FVec Ideal S512x1024 .bf16) (v6 : FVec Ideal S2304x1024 .bf16) (p : Fin 512) (k : Fin 512) :
    k0_pay6 (F := Ideal) v4 v6 (ix2 p k) = k0_pay4 (F := Ideal) v4 v6 (ix2 p ⟨k.val, by omega⟩) := by
  pointwise [k0_pay6]

theorem pay7_at (v15 : FVec Ideal S1x512 .f32) (k : Fin 512) : k0_pay7 (F := Ideal) v15 (ix2 0 k) = v15 (ix2 0 k) := by
  pointwise [k0_pay7]

theorem pay8_at (v4 : FVec Ideal S512x1024 .bf16) (v6 : FVec Ideal S2304x1024 .bf16) (p k : Fin 512) :
    k0_pay8 (F := Ideal) v4 v6 (ix2 p k)
      = ∑ j : Fin 64, k0_pay6 (F := Ideal) v4 v6 (ix2 p ⟨k.val / 64 * 64 + j.val, by omega⟩) * k0_pay6 (F := Ideal) v4 v6 (ix2 p ⟨k.val / 64 * 64 + j.val, by omega⟩) := by
  have hk := k.isLt
  pointwise [k0_pay8]
  by_cases h : k.val < 256
  · rw [dif_pos h]
    refine (Finset.sum_congr rfl fun x _ => congrArg _ (ones_at x.val k.val (by omega) (by omega))).trans ?_
    exact Mlp.sum_head (n := 4) rfl (fun x : Fin 256 => k0_pay6 (F := Ideal) v4 v6 (ix2 p ⟨x.val, by omega⟩) * k0_pay6 (F := Ideal) v4 v6 (ix2 p ⟨x.val, by omega⟩)) (k.val / 64) (by omega)
  · rw [dif_neg h]
    refine (Finset.sum_congr rfl fun x _ => congrArg _ (ones_at x.val (k.val - 256) (by omega) (by omega))).trans ?_
    refine (Mlp.sum_head (n := 4) rfl (fun x : Fin 256 => k0_pay6 (F := Ideal) v4 v6 (ix2 p ⟨256 + x.val, by omega⟩) * k0_pay6 (F := Ideal) v4 v6 (ix2 p ⟨256 + x.val, by omega⟩)) ((k.val - 256) / 64) (by omega)).trans ?_
    refine Finset.sum_congr rfl fun j _ => ?_
    have e : 256 + ((k.val - 256) / 64 * 64 + j.val) = k.val / 64 * 64 + j.val := by omega
    simp only [e]

theorem pay9_at (v14 : FVec Ideal S512x512 .f32) (v16 : FVec Ideal S1x512 .f32) (v33 : FVec Ideal S512x512 .f32) (z : Ideal .f32) (p k : Fin 512) :
    k0_pay9 (F := Ideal) v14 v16 v33 z (ix2 p k)
      = v14 (ix2 p k) * Ideal.rsqrt (v33 (ix2 p k) * z + Ideal.ofBits .f32 897988541#32) * v16 (ix2 0 k) := by
  pointwise [k0_pay9]

theorem pay11_at (v8 : FVec Ideal S512x2304 .f32) (p : Fin 512) (l : Fin 128) :
    k0_pay11 (F := Ideal) v8 (ix2 p l) = v8 (ix2 p ⟨640 + l.val, by omega⟩) := by
  pointwise [k0_pay11]

theorem lt64 : ∀ j : Fin 128, IntOp.cmpi CmpIPredicate.slt (BitVec.ofNat 32 j.val) 64#32 = if j.val < 64 then 1#1 else 0#1 := by decide +kernel

/-- Two heads of 64 lanes side by side, each laid down twice. -/
theorem spread (f : Fin 128 → EReal) (k : Fin 256) :
    (if h : k.val < 128 then Scalar.select (IntOp.cmpi CmpIPredicate.slt (BitVec.ofNat 32 k.val) 64#32) (f ⟨k.val, h⟩) (f ⟨(k.val + 128 - 64) % 128, by omega⟩)
      else Scalar.select (IntOp.cmpi CmpIPredicate.slt (BitVec.ofNat 32 (k.val - 128)) 64#32) (f ⟨(k.val - 128 + 128 - 64) % 128, by omega⟩) (f ⟨k.val - 128, by omega⟩))
      = f ⟨k.val / 128 * 64 + k.val % 64, by omega⟩ := by
  have hk := k.isLt
  by_cases h : k.val < 128
  · rw [dif_pos h, lt64 ⟨k.val, h⟩]
    by_cases q : k.val < 64
    · rw [if_pos q]
      exact congrArg f (Fin.ext (by show k.val = k.val / 128 * 64 + k.val % 64; omega))
    · rw [if_neg q]
      exact congrArg f (Fin.ext (by show (k.val + 128 - 64) % 128 = k.val / 128 * 64 + k.val % 64; omega))
  · rw [dif_neg h, lt64 ⟨k.val - 128, by omega⟩]
    by_cases q : k.val - 128 < 64
    · rw [if_pos q]
      exact congrArg f (Fin.ext (by show (k.val - 128 + 128 - 64) % 128 = k.val / 128 * 64 + k.val % 64; omega))
    · rw [if_neg q]
      exact congrArg f (Fin.ext (by show k.val - 128 = k.val / 128 * 64 + k.val % 64; omega))

theorem pay12_at (v77 : FVec Ideal S512x128 .f32) (p : Fin 512) (k : Fin 256) :
    k0_pay12 (F := Ideal) v77 (ix2 p k) = v77 (ix2 p ⟨k.val / 128 * 64 + k.val % 64, by omega⟩) := by
  pointwise [k0_pay12]
  exact spread (fun j => v77 (ix2 p j)) k

/-- A key's lane over the root mean square of its head, times the gain. -/
abbrev kn (v8 : FVec Ideal S512x2304 .f32) (v45 : FVec Ideal S1x128 .f32) (p : Fin 512) (j : Fin 128) : EReal :=
  v8 (ix2 p ⟨512 + j.val, by omega⟩)
    * Ideal.rsqrt ((∑ i : Fin 64, v8 (ix2 p ⟨512 + (j.val / 64 * 64 + i.val), by omega⟩) * v8 (ix2 p ⟨512 + (j.val / 64 * 64 + i.val), by omega⟩)) * Ideal.ofBits .f32 1015021568#32
        + Ideal.ofBits .f32 897988541#32) * v45 (ix2 0 j)

theorem pay10_at (v8 : FVec Ideal S512x2304 .f32) (v45 : FVec Ideal S1x128 .f32) (p : Fin 512) (k : Fin 256) :
    k0_pay10 (F := Ideal) v8 v45 (ix2 p k) = kn v8 v45 p ⟨k.val / 128 * 64 + k.val % 64, by omega⟩ := by
  have e : ∀ j : Fin 128, v8 (ix2 p ⟨512 + j.val, by omega⟩)
      * Ideal.rsqrt ((∑ x : Fin 128, v8 (ix2 p ⟨512 + x.val, by omega⟩) * v8 (ix2 p ⟨512 + x.val, by omega⟩)
          * (FloatOps.sitofp .f32 (BitVec.setWidth 32 (IntOp.cmpi CmpIPredicate.eq (IntOp.shrui ArithUnit.vector (BitVec.ofNat 32 x.val) 6#32)
              (IntOp.shrui ArithUnit.vector (BitVec.ofNat 32 j.val) 6#32))) : Ideal .f32)) * Ideal.ofBits .f32 1015021568#32
          + Ideal.ofBits .f32 897988541#32) * v45 (ix2 0 j) = kn v8 v45 p j := fun j => by
    rw [(Finset.sum_congr rfl fun x _ => congrArg _ (ones_at x.val j.val (by omega) (by omega))).trans
      (Mlp.sum_head (n := 2) rfl (fun x : Fin 128 => v8 (ix2 p ⟨512 + x.val, by omega⟩) * v8 (ix2 p ⟨512 + x.val, by omega⟩)) (j.val / 64) (by omega))]
  refine Eq.trans ?_ (spread (kn v8 v45 p) k)
  simp only [← e]
  pointwise [k0_pay10]

end Cert.Proof.Np
-- ==== Proof.NpVal.lean ====
/-
  The arrays that the projections' forward call leaves: what each tile stores, in the reference's terms, and the tiles placed at their rows.
-/
module

public import proofs.«01_k».proof.Proof.NpIn
public import proofs.«01_k».proof.Proof.NpPay
public import proofs.«01_k».proof.Proof.Gen.NpIdeal.Value

@[expose] public section

set_option maxRecDepth 16384

noncomputable section

namespace Cert.Proof.Np

open Idealize.ShloMosaic Idealize.ShloMosaic.TcCoe Idealize.SL.Sem
open Idealize.ShloMosaic.Pipeline (Dat)
open Cert.Proof.NpR (rb rs)
open Cert.NpIdeal Cert.NpIdeal.Gen

variable (m : (ℓ : Loc nD τ sig) → Buf (Elt Ideal) ℓ)

abbrev pB (c : Dev nD) (t : Fin cfg0.N) : FVec Ideal S512x2304 .f32 := k0_pay4 (F := Ideal) (iblk m c 0 t) (iblk m c 1 t)

/-! ### What each point stores -/

theorem out8 (c : Dev nD) (t : Fin cfg0.N) : (outsAt0 m c t.val t.isLt).1 = pB m c t := by
  by_cases h0 : t.val % 8 = 0
  · rw [outsAt0_A m c t h0]; frame_out
  · rw [outsAt0_B m c t h0]; frame_out

theorem out9 (c : Dev nD) (t : Fin cfg0.N) : (outsAt0 m c t.val t.isLt).2.1 = k0_pay5 (F := Ideal) (iblk m c 0 t) (iblk m c 2 t) := by
  by_cases h0 : t.val % 8 = 0
  · rw [outsAt0_A m c t h0]; frame_out
  · rw [outsAt0_B m c t h0]; frame_out

theorem out10 (c : Dev nD) (t : Fin cfg0.N) : (outsAt0 m c t.val t.isLt).2.2.1 = k0_pay9 (F := Ideal) (k0_pay6 (iblk m c 0 t) (iblk m c 1 t)) (k0_pay7 (iblk m c 3 t)) (k0_pay8 (iblk m c 0 t) (iblk m c 1 t)) (Scalar.ofBits .f32 0x3C800000#32) := by
  by_cases h0 : t.val % 8 = 0
  · rw [outsAt0_A m c t h0]; frame_out
  · rw [outsAt0_B m c t h0]; frame_out

theorem out11 (c : Dev nD) (t : Fin cfg0.N) : (outsAt0 m c t.val t.isLt).2.2.2.1 = k0_pay10 (F := Ideal) (pB m c t) (iblk m c 4 t) := by
  by_cases h0 : t.val % 8 = 0
  · rw [outsAt0_A m c t h0]; frame_out
  · rw [outsAt0_B m c t h0]; frame_out

theorem out12 (c : Dev nD) (t : Fin cfg0.N) : (outsAt0 m c t.val t.isLt).2.2.2.2.1 = k0_pay12 (F := Ideal) (k0_pay11 (pB m c t)) := by
  by_cases h0 : t.val % 8 = 0
  · rw [outsAt0_A m c t h0]; frame_out
  · rw [outsAt0_B m c t h0]; frame_out

/-! ### Their values -/

abbrev prj (c : Dev nD) (t : Fin cfg0.N) (p : Fin 512) (e : Fin 2312) : EReal := NpR.prj (x0 m c) (x1 m c) (x2 m c) (ix3 (rb (row t p)) (rs (row t p)) e)

theorem prj_t (c : Dev nD) (t : Fin cfg0.N) (p : Fin 512) (e : Fin 2304) : pB m c t (ix2 p e) = prj m c t p ⟨e.val, by omega⟩ := by
  refine (pay4_at (iblk m c 0 t) (iblk m c 1 t) p e).trans ?_
  simp only [in0, in1]
  exact (NpR.prj_at (x0 m c) (x1 m c) (x2 m c) (rb (row t p)) (rs (row t p)) ⟨e.val, by omega⟩).symm

theorem lane_t (c : Dev nD) (t : Fin cfg0.N) (p : Fin 512) (l : Fin 128) :
    k0_pay5 (F := Ideal) (iblk m c 0 t) (iblk m c 2 t) (ix2 p l) = if h : l.val < 8 then prj m c t p ⟨2304 + l.val, by omega⟩ else 0 := by
  rw [pay5_at]
  simp only [in0, in2]
  by_cases h : l.val < 8
  · simp only [dif_pos h]
    exact (NpR.prj_at (x0 m c) (x1 m c) (x2 m c) (rb (row t p)) (rs (row t p)) ⟨2304 + l.val, by omega⟩).symm
  · simp only [dif_neg h, mul_zero, Finset.sum_const_zero]

theorem div_64 (x : EReal) : Ideal.div x (Ideal.ofBits .f32 1115684864#32) = x * Ideal.ofBits .f32 1015021568#32 := by
  have c64 : Ideal.ofBits .f32 1115684864#32 = ((64 : ℝ) : EReal) := by
    simp [Ideal.ofBits, Ideal.ieee, -EReal.coe_mul]; norm_num
  have cinv : Ideal.ofBits .f32 1015021568#32 = ((1 / 64 : ℝ) : EReal) := by
    simp [Ideal.ofBits, Ideal.ieee, -EReal.coe_mul]; norm_num
  rw [c64, cinv, Ideal.div_coe (by norm_num)]

theorem q_t (c : Dev nD) (t : Fin cfg0.N) (p k : Fin 512) :
    k0_pay9 (F := Ideal) (k0_pay6 (iblk m c 0 t) (iblk m c 1 t)) (k0_pay7 (iblk m c 3 t)) (k0_pay8 (iblk m c 0 t) (iblk m c 1 t)) (Scalar.ofBits .f32 0x3C800000#32) (ix2 p k)
      = NpR.hnorm (x0 m c) (x1 m c) (x2 m c) (k.val / 64 * 64) (by omega) (rb (row t p)) (rs (row t p)) ⟨k.val % 64, by omega⟩ * x4 m c (ix1 ⟨k.val % 64, by omega⟩) := by
  have e : k.val / 64 * 64 + k.val % 64 = k.val := by omega
  rw [pay9_at, pay7_at, pay8_at, in3]
  simp only [pay6_at, prj_t, NpR.hnorm, div_64, e]
  rfl

theorem k_t (c : Dev nD) (t : Fin cfg0.N) (p : Fin 512) (k : Fin 256) :
    k0_pay10 (F := Ideal) (pB m c t) (iblk m c 4 t) (ix2 p k)
      = NpR.hnorm (x0 m c) (x1 m c) (x2 m c) (512 + k.val / 128 * 64) (by omega) (rb (row t p)) (rs (row t p)) ⟨k.val % 64, by omega⟩ * x5 m c (ix1 ⟨k.val % 64, by omega⟩) := by
  have e1 : (k.val / 128 * 64 + k.val % 64) % 64 = k.val % 64 := by omega
  have e2 : (k.val / 128 * 64 + k.val % 64) / 64 * 64 = k.val / 128 * 64 := by omega
  rw [pay10_at]
  simp only [kn, in4, prj_t, NpR.hnorm, div_64, e1, e2, Nat.add_assoc]

theorem v_t (c : Dev nD) (t : Fin cfg0.N) (p : Fin 512) (k : Fin 256) :
    k0_pay12 (F := Ideal) (k0_pay11 (pB m c t)) (ix2 p k) = prj m c t p ⟨640 + (k.val / 128 * 64 + k.val % 64), by omega⟩ := by
  rw [pay12_at, pay11_at, prj_t]

/-! ### The arrays -/

theorem point8 (c : Dev nD) (t : Fin cfg0.N) (p : Fin 512) (k : Fin 2304) : (outsAt0 m c t.val t.isLt).1 (ix2 p k) = Cert.NpReferenceIdeal.Read.val_main_v57 (F := Ideal) (x0 m c) (x1 m c) (x2 m c) (ix2 (row t p) k) := by
  rw [out8, prj_t, NpR.r0_at]

theorem final8 (c : Dev nD) : (dats m 0 c).arrAt 8 cfg0.N = Cert.NpReferenceIdeal.Read.val_main_v57 (F := Ideal) (x0 m c) (x1 m c) (x2 m c) := by
  refine (dats m 0 c).arrAt_eq_of_covers 8 _ (by decide +kernel) fun t _ y => ?_
  blk_simp
  rw [after0_8]
  have e : y = ix2 (y 0) (y 1) := by funext a; fin_cases a <;> rfl
  rw [e]
  refine (point8 m c t (y 0) (y 1)).trans ?_
  blk_ext [idx t]

theorem point9 (c : Dev nD) (t : Fin cfg0.N) (p : Fin 512) (k : Fin 128) : (outsAt0 m c t.val t.isLt).2.1 (ix2 p k) = Cert.NpReferenceIdeal.Read.val_main_v58 (F := Ideal) (x0 m c) (x1 m c) (x2 m c) (ix2 (row t p) k) := by
  rw [out9, lane_t, NpR.r1_at]

theorem final9 (c : Dev nD) : (dats m 0 c).arrAt 9 cfg0.N = Cert.NpReferenceIdeal.Read.val_main_v58 (F := Ideal) (x0 m c) (x1 m c) (x2 m c) := by
  refine (dats m 0 c).arrAt_eq_of_covers 9 _ (by decide +kernel) fun t _ y => ?_
  blk_simp
  rw [after0_9]
  have e : y = ix2 (y 0) (y 1) := by funext a; fin_cases a <;> rfl
  rw [e]
  refine (point9 m c t (y 0) (y 1)).trans ?_
  blk_ext [idx t]

theorem point10 (c : Dev nD) (t : Fin cfg0.N) (p : Fin 512) (k : Fin 512) : (outsAt0 m c t.val t.isLt).2.2.1 (ix2 p k) = Cert.NpReferenceIdeal.Read.val_main_v60 (F := Ideal) (x0 m c) (x1 m c) (x2 m c) (x4 m c) (ix2 (row t p) k) := by
  rw [out10, q_t, NpR.r2_at]

theorem final10 (c : Dev nD) : (dats m 0 c).arrAt 10 cfg0.N = Cert.NpReferenceIdeal.Read.val_main_v60 (F := Ideal) (x0 m c) (x1 m c) (x2 m c) (x4 m c) := by
  refine (dats m 0 c).arrAt_eq_of_covers 10 _ (by decide +kernel) fun t _ y => ?_
  blk_simp
  rw [after0_10]
  have e : y = ix2 (y 0) (y 1) := by funext a; fin_cases a <;> rfl
  rw [e]
  refine (point10 m c t (y 0) (y 1)).trans ?_
  blk_ext [idx t]

theorem point11 (c : Dev nD) (t : Fin cfg0.N) (p : Fin 512) (k : Fin 256) : (outsAt0 m c t.val t.isLt).2.2.2.1 (ix2 p k) = Cert.NpReferenceIdeal.Read.val_main_v49 (F := Ideal) (x0 m c) (x1 m c) (x2 m c) (x5 m c) (ix2 (row t p) k) := by
  rw [out11, k_t, NpR.r3_at]

theorem final11 (c : Dev nD) : (dats m 0 c).arrAt 11 cfg0.N = Cert.NpReferenceIdeal.Read.val_main_v49 (F := Ideal) (x0 m c) (x1 m c) (x2 m c) (x5 m c) := by
  refine (dats m 0 c).arrAt_eq_of_covers 11 _ (by decide +kernel) fun t _ y => ?_
  blk_simp
  rw [after0_11]
  have e : y = ix2 (y 0) (y 1) := by funext a; fin_cases a <;> rfl
  rw [e]
  refine (point11 m c t (y 0) (y 1)).trans ?_
  blk_ext [idx t]

theorem point12 (c : Dev nD) (t : Fin cfg0.N) (p : Fin 512) (k : Fin 256) : (outsAt0 m c t.val t.isLt).2.2.2.2.1 (ix2 p k) = Cert.NpReferenceIdeal.Read.val_main_v53 (F := Ideal) (x0 m c) (x1 m c) (x2 m c) (ix2 (row t p) k) := by
  rw [out12, v_t, NpR.r4_at]

theorem final12 (c : Dev nD) : (dats m 0 c).arrAt 12 cfg0.N = Cert.NpReferenceIdeal.Read.val_main_v53 (F := Ideal) (x0 m c) (x1 m c) (x2 m c) := by
  refine (dats m 0 c).arrAt_eq_of_covers 12 _ (by decide +kernel) fun t _ y => ?_
  blk_simp
  rw [after0_12]
  have e : y = ix2 (y 0) (y 1) := by funext a; fin_cases a <;> rfl
  rw [e]
  refine (point12 m c t (y 0) (y 1)).trans ?_
  blk_ext [idx t]

end Cert.Proof.Np
-- ==== Proof.NpClaims.lean ====
module

public import proofs.«01_k».proof.Defs
public import proofs.«01_k».proof.Proof.Gen.Np.Frame
public import proofs.«01_k».proof.Proof.Gen.NpReferenceIdeal.Run
public import proofs.«01_k».proof.Proof.NpVal

@[expose] public section

set_option maxRecDepth 16384

noncomputable section

namespace Cert.Proof.Np

open Idealize.ShloMosaic Idealize.ShloMosaic.TcCoe Idealize.SL.Sem
open Cert.NpIdeal Cert.NpIdeal.Gen

attribute [local instance] Cert.Np.Gen.facts Cert.NpIdeal.Gen.facts Cert.NpReferenceIdeal.Gen.facts

theorem frame_p : Cert.quiescent_Np := fun m ρ _ => Cert.Np.Gen.frame m ρ

theorem frame_pi : Cert.quiescent_NpIdeal := fun m ρ _ => Cert.NpIdeal.Gen.frame m ρ

/-- The reference's run, with the counters because it declares no semaphore. -/
theorem frame_ri : Cert.quiescent_NpReferenceIdeal := fun m ρ _ =>
  (θ_run Cert.NpReferenceIdeal.defs _ _).mono (fun r h => ⟨fun c => (h c).2.2.2.2.2, sem_eq_zero_of_no_sems (by decide) r.2⟩)
    (Cert.NpReferenceIdeal.Value.run (F := Ideal) m ρ)

theorem preserves : Cert.preserves_Np_NpIdeal := trivial

set_option maxHeartbeats 2000000 in
theorem algebraic : Cert.algebraic_NpIdeal_NpReferenceIdeal := by
  intro m g m' g' _ ha
  have hk := Cert.NpIdeal.Value.run_blocks (F := Ideal) m g
  have hr := Cert.NpReferenceIdeal.Value.run (F := Ideal) m' g'
  refine ⟨fun c => (dats m 0 c).arrAt 8 cfg0.N, fun c => (dats m 0 c).arrAt 9 cfg0.N, fun c => (dats m 0 c).arrAt 10 cfg0.N,
    fun c => (dats m 0 c).arrAt 11 cfg0.N, fun c => (dats m 0 c).arrAt 12 cfg0.N,
    (θ_run Cert.NpIdeal.defs _ _).mono (fun r h c => ?_) hk, (θ_run Cert.NpReferenceIdeal.defs _ _).mono (fun r h c => ?_) hr⟩
  · obtain ⟨k0, k1, k2, k3, k4, _, _, _, ks⟩ := h c
    exact ⟨k0, k1, k2, k3, k4, ks⟩
  obtain ⟨q0, q1, q2, q3, q4, qs⟩ := h c
  obtain ⟨b0, b1, b2, b3, b4, b5, b6, b7⟩ := ha c
  rw [Cert.NpReferenceIdeal.Read.val_main_v57_eq, b0, b1, b2] at q0
  rw [Cert.NpReferenceIdeal.Read.val_main_v58_eq, b0, b1, b2] at q1
  rw [Cert.NpReferenceIdeal.Read.val_main_v60_eq, b0, b1, b2, b4] at q2
  rw [Cert.NpReferenceIdeal.Read.val_main_v49_eq, b0, b1, b2, b5] at q3
  rw [Cert.NpReferenceIdeal.Read.val_main_v53_eq, b0, b1, b2] at q4
  exact ⟨q0.trans (final8 m c).symm, q1.trans (final9 m c).symm, q2.trans (final10 m c).symm, q3.trans (final11 m c).symm,
    q4.trans (final12 m c).symm, qs⟩

end Cert.Proof.Np
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.KernelIdeal.Value
public import proofs.«01_k».proof.Proof.Gen.Pre_finite_mlp
public import proofs.«01_k».proof.Proof.Gen.Fox
public import proofs.«01_k».proof.Proof.Gen.Fox.Skeleton
public import proofs.«01_k».proof.Proof.Gen.Fox.Loops
public import proofs.«01_k».proof.Proof.Gen.Fox.Launch
public import proofs.«01_k».proof.Proof.Gen.Fox.Points
public import proofs.«01_k».proof.Proof.Gen.Fox.Frame
public import proofs.«01_k».proof.Proof.Gen.FoxIdeal
public import proofs.«01_k».proof.Proof.Gen.FoxIdeal.Skeleton
public import proofs.«01_k».proof.Proof.Gen.FoxIdeal.Loops
public import proofs.«01_k».proof.Proof.Gen.FoxIdeal.Launch
public import proofs.«01_k».proof.Proof.Gen.FoxIdeal.Points
public import proofs.«01_k».proof.Proof.Gen.FoxIdeal.Frame
public import proofs.«01_k».proof.Proof.Gen.FoxReferenceIdeal
public import proofs.«01_k».proof.Proof.Gen.FoxReferenceIdeal.Run
public import proofs.«01_k».proof.Proof.Gen.FoxReferenceIdeal.Read
public import proofs.«01_k».proof.Proof.Gen.Pre_finite_fox
public import proofs.«01_k».proof.Proof.Gen.Ffw
public import proofs.«01_k».proof.Proof.Gen.FfwIdeal
public import proofs.«01_k».proof.Proof.Gen.FfwReferenceIdeal
public import proofs.«01_k».proof.Proof.Gen.FfwReferenceIdeal.Run
public import proofs.«01_k».proof.Proof.Gen.FfwReferenceIdeal.Read
public import proofs.«01_k».proof.Proof.Gen.Pre_finite_ffw
public import proofs.«01_k».proof.Proof.MlpClaims
public import proofs.«01_k».proof.Proof.FoxClaims
public import proofs.«01_k».proof.Proof.ProjClaims
public import proofs.«01_k».proof.Proof.SwaClaims
public import proofs.«01_k».proof.Proof.FfwClaims
public import proofs.«01_k».proof.Proof.XnClaims
public import proofs.«01_k».proof.Proof.MfClaims
public import proofs.«01_k».proof.Proof.NpClaims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Fox.Gen.facts, Cert.FoxIdeal.Gen.facts, Cert.FoxReferenceIdeal.Gen.facts,
  Cert.Proj.Gen.facts, Cert.ProjIdeal.Gen.facts, Cert.ProjReferenceIdeal.Gen.facts, Cert.Swa.Gen.facts, Cert.SwaIdeal.Gen.facts, Cert.SwaReferenceIdeal.Gen.facts,
  Cert.Ffw.Gen.facts, Cert.FfwIdeal.Gen.facts, Cert.FfwReferenceIdeal.Gen.facts,
  Cert.Xn.Gen.facts, Cert.XnIdeal.Gen.facts, Cert.XnReferenceIdeal.Gen.facts, Cert.Mf.Gen.facts, Cert.MfIdeal.Gen.facts, Cert.MfReferenceIdeal.Gen.facts,
  Cert.Np.Gen.facts, Cert.NpIdeal.Gen.facts, Cert.NpReferenceIdeal.Gen.facts,
  Cert.Pre_finite_mlp.Gen.facts, Cert.Pre_finite_fox.Gen.facts, Cert.Pre_finite_ffw.Gen.facts,
  Mlp.frame_p, Mlp.frame_pi, Mlp.frame_pi_pre, Mlp.frame_ri, Mlp.frame_ri_pre,
  Fox.frame_p, Fox.frame_pi, Fox.frame_pi_pre, Fox.frame_ri, Fox.frame_ri_pre,
  Proj.frame_p, Proj.frame_pi, Proj.frame_ri, Swa.frame_p, Swa.frame_pi, Swa.frame_ri,
  Ffw.frame_p, Ffw.frame_pi, Ffw.frame_pi_pre, Ffw.frame_ri, Ffw.frame_ri_pre,
  Xn.frame_p, Xn.frame_pi, Xn.frame_ri, Mf.frame_p, Mf.frame_pi, Mf.frame_ri,
  Np.frame_p, Np.frame_pi, Np.frame_ri,
  Mlp.preserves, Mlp.algebraic, Fox.preserves, Fox.algebraic, Proj.preserves, Swa.preserves, Ffw.preserves, Ffw.algebraic,
  Xn.preserves, Xn.algebraic, Mf.preserves, Mf.algebraic, Np.preserves, Np.algebraic⟩

end Cert.Proof

end
